-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)) (v3 : (c : Dev Cert.KernelIdeal.nD) → Buf (Elt Ideal) ((c.tc : Thread Cert.KernelIdeal.nD Cert.KernelIdeal.τ).loc Cert.KernelIdeal.main_v11_3)) (v4 : (c : Dev Cert.KernelIdeal.nD) → Buf (Elt Ideal) ((c.tc : Thread Cert.KernelIdeal.nD Cert.KernelIdeal.τ).loc Cert.KernelIdeal.main_v11_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_v11_3) = v3 c
          ∧ r.2.mem ((c.tc : Thread Cert.KernelIdeal.nD Cert.KernelIdeal.τ).loc Cert.KernelIdeal.main_v11_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_v110) = v1 c
          ∧ r.2.mem ((c.tc : Thread Cert.ReferenceIdeal.nD Cert.ReferenceIdeal.τ).loc Cert.ReferenceIdeal.main_v113) = v2 c
          ∧ r.2.mem ((c.tc : Thread Cert.ReferenceIdeal.nD Cert.ReferenceIdeal.τ).loc Cert.ReferenceIdeal.main_v119) = v3 c
          ∧ r.2.mem ((c.tc : Thread Cert.ReferenceIdeal.nD Cert.ReferenceIdeal.τ).loc Cert.ReferenceIdeal.main_v122) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v70) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v119) = v0 c
          ∧ r.2.mem ((c.tc : Thread Cert.Reference3Ideal.nD Cert.Reference3Ideal.τ).loc Cert.Reference3Ideal.main_v122) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)) →
    ∃ (v0 : (c : Dev Cert.Kernel4Ideal.nD) → Buf (Elt Ideal) ((c.tc : Thread Cert.Kernel4Ideal.nD Cert.Kernel4Ideal.τ).loc Cert.Kernel4Ideal.main_v11_0)) (v1 : (c : Dev Cert.Kernel4Ideal.nD) → Buf (Elt Ideal) ((c.tc : Thread Cert.Kernel4Ideal.nD Cert.Kernel4Ideal.τ).loc Cert.Kernel4Ideal.main_v11_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11_0) = v0 c
          ∧ r.2.mem ((c.tc : Thread Cert.Kernel4Ideal.nD Cert.Kernel4Ideal.τ).loc Cert.Kernel4Ideal.main_v11_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v134) = v0 c
          ∧ r.2.mem ((c.tc : Thread Cert.Reference4Ideal.nD Cert.Reference4Ideal.τ).loc Cert.Reference4Ideal.main_v137) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v13_0)) (v1 : (c : Dev Cert.Kernel5Ideal.nD) → Buf (Elt Ideal) ((c.tc : Thread Cert.Kernel5Ideal.nD Cert.Kernel5Ideal.τ).loc Cert.Kernel5Ideal.main_v13_1)) (v2 : (c : Dev Cert.Kernel5Ideal.nD) → Buf (Elt Ideal) ((c.tc : Thread Cert.Kernel5Ideal.nD Cert.Kernel5Ideal.τ).loc Cert.Kernel5Ideal.main_v13_2)) (v3 : (c : Dev Cert.Kernel5Ideal.nD) → Buf (Elt Ideal) ((c.tc : Thread Cert.Kernel5Ideal.nD Cert.Kernel5Ideal.τ).loc Cert.Kernel5Ideal.main_v13_3)) (v4 : (c : Dev Cert.Kernel5Ideal.nD) → Buf (Elt Ideal) ((c.tc : Thread Cert.Kernel5Ideal.nD Cert.Kernel5Ideal.τ).loc Cert.Kernel5Ideal.main_v13_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13_0) = v0 c
          ∧ r.2.mem ((c.tc : Thread Cert.Kernel5Ideal.nD Cert.Kernel5Ideal.τ).loc Cert.Kernel5Ideal.main_v13_1) = v1 c
          ∧ r.2.mem ((c.tc : Thread Cert.Kernel5Ideal.nD Cert.Kernel5Ideal.τ).loc Cert.Kernel5Ideal.main_v13_2) = v2 c
          ∧ r.2.mem ((c.tc : Thread Cert.Kernel5Ideal.nD Cert.Kernel5Ideal.τ).loc Cert.Kernel5Ideal.main_v13_3) = v3 c
          ∧ r.2.mem ((c.tc : Thread Cert.Kernel5Ideal.nD Cert.Kernel5Ideal.τ).loc Cert.Kernel5Ideal.main_v13_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v92) = v0 c
          ∧ r.2.mem ((c.tc : Thread Cert.Reference5Ideal.nD Cert.Reference5Ideal.τ).loc Cert.Reference5Ideal.main_v93) = v1 c
          ∧ r.2.mem ((c.tc : Thread Cert.Reference5Ideal.nD Cert.Reference5Ideal.τ).loc Cert.Reference5Ideal.main_v96) = v2 c
          ∧ r.2.mem ((c.tc : Thread Cert.Reference5Ideal.nD Cert.Reference5Ideal.τ).loc Cert.Reference5Ideal.main_v99) = v3 c
          ∧ r.2.mem ((c.tc : Thread Cert.Reference5Ideal.nD Cert.Reference5Ideal.τ).loc Cert.Reference5Ideal.main_v103) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v93) = v0 c
          ∧ r.2.mem ((c.tc : Thread Cert.Reference6Ideal.nD Cert.Reference6Ideal.τ).loc Cert.Reference6Ideal.main_v95) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v139) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v23) = v0 c
          ∧ r.2.mem ((c.tc : Thread Cert.Reference8Ideal.nD Cert.Reference8Ideal.τ).loc Cert.Reference8Ideal.main_v4) = v1 c
          ∧ r.2.mem ((c.tc : Thread Cert.Reference8Ideal.nD Cert.Reference8Ideal.τ).loc Cert.Reference8Ideal.main_v10) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_v4) = v1 c
          ∧ r.2.mem ((c.tc : Thread Cert.Reference9Ideal.nD Cert.Reference9Ideal.τ).loc Cert.Reference9Ideal.main_v10) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v23) = v0 c
          ∧ r.2.mem ((c.tc : Thread Cert.Reference10Ideal.nD Cert.Reference10Ideal.τ).loc Cert.Reference10Ideal.main_v4) = v1 c
          ∧ r.2.mem ((c.tc : Thread Cert.Reference10Ideal.nD Cert.Reference10Ideal.τ).loc Cert.Reference10Ideal.main_v10) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v12_0)) (v1 : (c : Dev Cert.Kernel11Ideal.nD) → Buf (Elt Ideal) ((c.tc : Thread Cert.Kernel11Ideal.nD Cert.Kernel11Ideal.τ).loc Cert.Kernel11Ideal.main_v12_1)) (v2 : (c : Dev Cert.Kernel11Ideal.nD) → Buf (Elt Ideal) ((c.tc : Thread Cert.Kernel11Ideal.nD Cert.Kernel11Ideal.τ).loc Cert.Kernel11Ideal.main_v12_2)) (v3 : (c : Dev Cert.Kernel11Ideal.nD) → Buf (Elt Ideal) ((c.tc : Thread Cert.Kernel11Ideal.nD Cert.Kernel11Ideal.τ).loc Cert.Kernel11Ideal.main_v12_3)) (v4 : (c : Dev Cert.Kernel11Ideal.nD) → Buf (Elt Ideal) ((c.tc : Thread Cert.Kernel11Ideal.nD Cert.Kernel11Ideal.τ).loc Cert.Kernel11Ideal.main_v12_4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v12_0) = v0 c
          ∧ r.2.mem ((c.tc : Thread Cert.Kernel11Ideal.nD Cert.Kernel11Ideal.τ).loc Cert.Kernel11Ideal.main_v12_1) = v1 c
          ∧ r.2.mem ((c.tc : Thread Cert.Kernel11Ideal.nD Cert.Kernel11Ideal.τ).loc Cert.Kernel11Ideal.main_v12_2) = v2 c
          ∧ r.2.mem ((c.tc : Thread Cert.Kernel11Ideal.nD Cert.Kernel11Ideal.τ).loc Cert.Kernel11Ideal.main_v12_3) = v3 c
          ∧ r.2.mem ((c.tc : Thread Cert.Kernel11Ideal.nD Cert.Kernel11Ideal.τ).loc Cert.Kernel11Ideal.main_v12_4) = v4 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v33) = v0 c
          ∧ r.2.mem ((c.tc : Thread Cert.Reference11Ideal.nD Cert.Reference11Ideal.τ).loc Cert.Reference11Ideal.main_v34) = v1 c
          ∧ r.2.mem ((c.tc : Thread Cert.Reference11Ideal.nD Cert.Reference11Ideal.τ).loc Cert.Reference11Ideal.main_v37) = v2 c
          ∧ r.2.mem ((c.tc : Thread Cert.Reference11Ideal.nD Cert.Reference11Ideal.τ).loc Cert.Reference11Ideal.main_v40) = v3 c
          ∧ r.2.mem ((c.tc : Thread Cert.Reference11Ideal.nD Cert.Reference11Ideal.τ).loc Cert.Reference11Ideal.main_v41) = v4 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_v24) = v1 c
          ∧ r.2.mem ((c.tc : Thread Cert.Reference18Ideal.nD Cert.Reference18Ideal.τ).loc Cert.Reference18Ideal.main_v5) = v2 c
          ∧ r.2.mem ((c.tc : Thread Cert.Reference18Ideal.nD Cert.Reference18Ideal.τ).loc Cert.Reference18Ideal.main_v11) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v0) = v0 c
          ∧ r.2.mem ((c.tc : Thread Cert.Reference19Ideal.nD Cert.Reference19Ideal.τ).loc Cert.Reference19Ideal.main_v24) = v1 c
          ∧ r.2.mem ((c.tc : Thread Cert.Reference19Ideal.nD Cert.Reference19Ideal.τ).loc Cert.Reference19Ideal.main_v5) = v2 c
          ∧ r.2.mem ((c.tc : Thread Cert.Reference19Ideal.nD Cert.Reference19Ideal.τ).loc Cert.Reference19Ideal.main_v11) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_v24) = v1 c
          ∧ r.2.mem ((c.tc : Thread Cert.Reference20Ideal.nD Cert.Reference20Ideal.τ).loc Cert.Reference20Ideal.main_v5) = v2 c
          ∧ r.2.mem ((c.tc : Thread Cert.Reference20Ideal.nD Cert.Reference20Ideal.τ).loc Cert.Reference20Ideal.main_v11) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== Kernel.lean ====
abbrev S4096x1024 : Shape := ⟨2, ![4096, 1024]⟩
abbrev S4096x512 : Shape := ⟨2, ![4096, 512]⟩
abbrev S4x512x1024 : Shape := ⟨3, ![4, 512, 1024]⟩
abbrev S1024x4096 : Shape := ⟨2, ![1024, 4096]⟩
abbrev S4096 : Shape := ⟨1, ![4096]⟩
abbrev S1024x1024 : Shape := ⟨2, ![1024, 1024]⟩
abbrev S1024 : Shape := ⟨1, ![1024]⟩
abbrev S1x512x1024 : Shape := ⟨3, ![1, 512, 1024]⟩
abbrev S512x1024 : Shape := ⟨2, ![512, 1024]⟩
abbrev S4096x4096 : Shape := ⟨2, ![4096, 4096]⟩
abbrev S1x4096 : Shape := ⟨2, ![1, 4096]⟩
abbrev S_ : Shape := ⟨0, ![]⟩
abbrev S4096x4x1024 : Shape := ⟨3, ![4096, 4, 1024]⟩
abbrev S4096x1x1024 : Shape := ⟨3, ![4096, 1, 1024]⟩
abbrev S4x4096x1024 : Shape := ⟨3, ![4, 4096, 1024]⟩
abbrev S1x4096x1024 : Shape := ⟨3, ![1, 4096, 1024]⟩
abbrev S4x512x8x128 : Shape := ⟨4, ![4, 512, 8, 128]⟩
abbrev S8x4x512x128 : Shape := ⟨4, ![8, 4, 512, 128]⟩
abbrev S8x128x1024 : Shape := ⟨3, ![8, 128, 1024]⟩
abbrev S3072 : Shape := ⟨1, ![3072]⟩
abbrev S12800 : Shape := ⟨1, ![12800]⟩
abbrev S16896 : Shape := ⟨1, ![16896]⟩
abbrev S1x16896 : Shape := ⟨2, ![1, 16896]⟩
abbrev S8x128 : Shape := ⟨2, ![8, 128]⟩
abbrev S4x4096x512 : Shape := ⟨3, ![4, 4096, 512]⟩
abbrev S8x1024 : Shape := ⟨2, ![8, 1024]⟩
abbrev S256x1024 : Shape := ⟨2, ![256, 1024]⟩
abbrev S4x256x1024 : Shape := ⟨3, ![4, 256, 1024]⟩
abbrev S1x1024 : Shape := ⟨2, ![1, 1024]⟩
abbrev S4x256x512 : Shape := ⟨3, ![4, 256, 512]⟩
abbrev S1x1x512x128 : Shape := ⟨4, ![1, 1, 512, 128]⟩
abbrev S512x128 : Shape := ⟨2, ![512, 128]⟩
abbrev S1x512x128 : Shape := ⟨3, ![1, 512, 128]⟩
abbrev S256 : Shape := ⟨1, ![256]⟩
abbrev S256x1 : Shape := ⟨2, ![256, 1]⟩
abbrev S1x256x1024 : Shape := ⟨3, ![1, 256, 1024]⟩
abbrev S256x512 : Shape := ⟨2, ![256, 512]⟩
abbrev S1x256x512 : Shape := ⟨3, ![1, 256, 512]⟩

abbrev nBuf : Space → Nat
  | .hbm => 88
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x1024, .f32⟩
  | .hbm, ⟨6, _⟩ => ⟨S4x512x1024, .f32⟩
  | .hbm, ⟨7, _⟩ => ⟨S1024x4096, .f32⟩
  | .hbm, ⟨8, _⟩ => ⟨S4096, .f32⟩
  | .hbm, ⟨9, _⟩ => ⟨S1024x1024, .f32⟩
  | .hbm, ⟨10, _⟩ => ⟨S1024, .f32⟩
  | .hbm, ⟨11, _⟩ => ⟨S1x512x1024, .f32⟩
  | .hbm, ⟨12, _⟩ => ⟨S512x1024, .f32⟩
  | .hbm, ⟨13, _⟩ => ⟨S4096x1024, .f32⟩
  | .hbm, ⟨14, _⟩ => ⟨S1x512x1024, .f32⟩
  | .hbm, ⟨15, _⟩ => ⟨S512x1024, .f32⟩
  | .hbm, ⟨16, _⟩ => ⟨S4096x1024, .f32⟩
  | .hbm, ⟨17, _⟩ => ⟨S1x512x1024, .f32⟩
  | .hbm, ⟨18, _⟩ => ⟨S512x1024, .f32⟩
  | .hbm, ⟨19, _⟩ => ⟨S4096x1024, .f32⟩
  | .hbm, ⟨20, _⟩ => ⟨S1x512x1024, .f32⟩
  | .hbm, ⟨21, _⟩ => ⟨S512x1024, .f32⟩
  | .hbm, ⟨22, _⟩ => ⟨S4096x1024, .f32⟩
  | .hbm, ⟨23, _⟩ => ⟨S4096x4096, .f32⟩
  | .hbm, ⟨24, _⟩ => ⟨S1x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S4096x4x1024, .f32⟩
  | .hbm, ⟨36, _⟩ => ⟨S4096x1x1024, .f32⟩
  | .hbm, ⟨37, _⟩ => ⟨S4096x1024, .f32⟩
  | .hbm, ⟨38, _⟩ => ⟨S4096x1024, .f32⟩
  | .hbm, ⟨39, _⟩ => ⟨S4096x1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x4096, .f32⟩
  | .hbm, ⟨53, _⟩ => ⟨S4096x4096, .f32⟩
  | .hbm, ⟨54, _⟩ => ⟨S_, .f32⟩
  | .hbm, ⟨55, _⟩ => ⟨S4096x4096, .f32⟩
  | .hbm, ⟨56, _⟩ => ⟨S4096x4096, .f32⟩
  | .hbm, ⟨57, _⟩ => ⟨S_, .f32⟩
  | .hbm, ⟨58, _⟩ => ⟨S4096x4096, .f32⟩
  | .hbm, ⟨59, _⟩ => ⟨S4096x4096, .f32⟩
  | .hbm, ⟨60, _⟩ => ⟨S4096x4x1024, .f32⟩
  | .hbm, ⟨61, _⟩ => ⟨S4x4096x1024, .f32⟩
  | .hbm, ⟨62, _⟩ => ⟨S4096x1024, .bf16⟩
  | .hbm, ⟨63, _⟩ => ⟨S4x4096x1024, .bf16⟩
  | .hbm, ⟨64, _⟩ => ⟨S1x4096x1024, .f32⟩
  | .hbm, ⟨65, _⟩ => ⟨S1x4096x1024, .f32⟩
  | .hbm, ⟨66, _⟩ => ⟨S1x4096x1024, .f32⟩
  | .hbm, ⟨67, _⟩ => ⟨S1x4096x1024, .f32⟩
  | .hbm, ⟨68, _⟩ => ⟨S4x4096x1024, .f32⟩
  | .hbm, ⟨69, _⟩ => ⟨S4x4096x1024, .bf16⟩
  | .hbm, ⟨70, _⟩ => ⟨S4x512x1024, .bf16⟩
  | .hbm, ⟨71, _⟩ => ⟨S4x512x8x128, .bf16⟩
  | .hbm, ⟨72, _⟩ => ⟨S8x4x512x128, .bf16⟩
  | .hbm, ⟨73, _⟩ => ⟨S1024x1024, .bf16⟩
  | .hbm, ⟨74, _⟩ => ⟨S8x128x1024, .bf16⟩
  | .hbm, ⟨75, _⟩ => ⟨S_, .f32⟩
  | .hbm, ⟨76, _⟩ => ⟨S3072, .f32⟩
  | .hbm, ⟨77, _⟩ => ⟨S_, .f32⟩
  | .hbm, ⟨78, _⟩ => ⟨S12800, .f32⟩
  | .hbm, ⟨79, _⟩ => ⟨S16896, .f32⟩
  | .hbm, ⟨80, _⟩ => ⟨S1x16896, .f32⟩
  | .hbm, ⟨81, _⟩ => ⟨S_, .f32⟩
  | .hbm, ⟨82, _⟩ => ⟨S8x128, .f32⟩
  | .hbm, ⟨83, _⟩ => ⟨S4096x1024, .bf16⟩
  | .hbm, ⟨84, _⟩ => ⟨S4x4096x512, .bf16⟩
  | .hbm, ⟨85, _⟩ => ⟨S4x4096x1024, .bf16⟩
  | .hbm, ⟨86, _⟩ => ⟨S4x4096x1024, .bf16⟩
  | .hbm, ⟨87, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S4x256x1024, .bf16⟩
  | .local _ .vmem, ⟨5, _⟩ => ⟨S4x256x1024, .bf16⟩
  | .local _ .vmem, ⟨6, _⟩ => ⟨S4x256x1024, .bf16⟩
  | .local _ .vmem, ⟨7, _⟩ => ⟨S4x256x1024, .bf16⟩
  | .local _ .vmem, ⟨8, _⟩ => ⟨S8x4x512x128, .bf16⟩
  | .local _ .vmem, ⟨9, _⟩ => ⟨S8x128x1024, .bf16⟩
  | .local _ .vmem, ⟨10, _⟩ => ⟨S1x1024, .f32⟩
  | .local _ .vmem, ⟨11, _⟩ => ⟨S256x1024, .bf16⟩
  | .local _ .vmem, ⟨12, _⟩ => ⟨S256x1024, .bf16⟩
  | .local _ .vmem, ⟨13, _⟩ => ⟨S4x256x512, .bf16⟩
  | .local _ .vmem, ⟨14, _⟩ => ⟨S4x256x512, .bf16⟩
  | .local _ .vmem, ⟨15, _⟩ => ⟨S4x256x1024, .bf16⟩
  | .local _ .vmem, ⟨16, _⟩ => ⟨S4x256x1024, .bf16⟩
  | .local _ .vmem, ⟨17, _⟩ => ⟨S4x256x1024, .bf16⟩
  | .local _ .vmem, ⟨18, _⟩ => ⟨S4x256x1024, .bf16⟩
  | .local _ .vmem, ⟨19, _⟩ => ⟨S8x1024, .f32⟩
  | .local _ .vmem, ⟨20, _⟩ => ⟨S4x512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_call0_v17 : Ref sig .tc := ⟨.hbm, 28, rfl⟩
abbrev main_call0_cst : Ref sig .tc := ⟨.hbm, 29, rfl⟩
abbrev main_call0_v18 : Ref sig .tc := ⟨.hbm, 30, rfl⟩
abbrev main_call0_v19 : Ref sig .tc := ⟨.hbm, 31, rfl⟩
abbrev main_call0_cst_0 : Ref sig .tc := ⟨.hbm, 32, rfl⟩
abbrev main_call0_v20 : Ref sig .tc := ⟨.hbm, 33, rfl⟩
abbrev main_call0_v21 : Ref sig .tc := ⟨.hbm, 34, rfl⟩
abbrev main_call0_v22 : Ref sig .tc := ⟨.hbm, 35, rfl⟩
abbrev main_call0_v23 : Ref sig .tc := ⟨.hbm, 36, rfl⟩
abbrev main_call0_v24 : Ref sig .tc := ⟨.hbm, 37, rfl⟩
abbrev main_call0_v25 : Ref sig .tc := ⟨.hbm, 38, rfl⟩
abbrev main_call0_v26 : Ref sig .tc := ⟨.hbm, 39, rfl⟩
abbrev main_call0_v27 : Ref sig .tc := ⟨.hbm, 40, rfl⟩
abbrev main_call0_v28 : Ref sig .tc := ⟨.hbm, 41, rfl⟩
abbrev main_call0_v29 : Ref sig .tc := ⟨.hbm, 42, rfl⟩
abbrev main_call0_v30 : Ref sig .tc := ⟨.hbm, 43, rfl⟩
abbrev main_call0_v31 : Ref sig .tc := ⟨.hbm, 44, rfl⟩
abbrev main_call0_v32 : Ref sig .tc := ⟨.hbm, 45, rfl⟩
abbrev main_call0_v33 : Ref sig .tc := ⟨.hbm, 46, rfl⟩
abbrev main_call0_v34 : Ref sig .tc := ⟨.hbm, 47, rfl⟩
abbrev main_call0_v35 : Ref sig .tc := ⟨.hbm, 48, rfl⟩
abbrev main_call0_v36 : Ref sig .tc := ⟨.hbm, 49, rfl⟩
abbrev main_call0_v37 : Ref sig .tc := ⟨.hbm, 50, rfl⟩
abbrev main_call0_v38 : Ref sig .tc := ⟨.hbm, 51, rfl⟩
abbrev main_call0_v39 : Ref sig .tc := ⟨.hbm, 52, rfl⟩
abbrev main_call0_v40 : Ref sig .tc := ⟨.hbm, 53, rfl⟩
abbrev main_call0_cst_1 : Ref sig .tc := ⟨.hbm, 54, rfl⟩
abbrev main_call0_v41 : Ref sig .tc := ⟨.hbm, 55, rfl⟩
abbrev main_call0_v42 : Ref sig .tc := ⟨.hbm, 56, rfl⟩
abbrev main_call0_cst_2 : Ref sig .tc := ⟨.hbm, 57, rfl⟩
abbrev main_call0_v43 : Ref sig .tc := ⟨.hbm, 58, rfl⟩
abbrev main_call0_v44 : Ref sig .tc := ⟨.hbm, 59, rfl⟩
abbrev main_call0_v45 : Ref sig .tc := ⟨.hbm, 60, rfl⟩
abbrev main_call0_v46 : Ref sig .tc := ⟨.hbm, 61, rfl⟩
abbrev main_v0_0 : Ref sig .tc := ⟨.hbm, 62, rfl⟩
abbrev main_v0_1 : Ref sig .tc := ⟨.hbm, 63, rfl⟩
abbrev main_call0_v49 : Ref sig .tc := ⟨.hbm, 64, rfl⟩
abbrev main_call0_v50 : Ref sig .tc := ⟨.hbm, 65, rfl⟩
abbrev main_call0_v51 : Ref sig .tc := ⟨.hbm, 66, rfl⟩
abbrev main_call0_v52 : Ref sig .tc := ⟨.hbm, 67, rfl⟩
abbrev main_call0_v53 : Ref sig .tc := ⟨.hbm, 68, rfl⟩
abbrev main_v0_2 : Ref sig .tc := ⟨.hbm, 69, rfl⟩
abbrev main_v1 : Ref sig .tc := ⟨.hbm, 70, rfl⟩
abbrev main_v2 : Ref sig .tc := ⟨.hbm, 71, rfl⟩
abbrev main_v3 : Ref sig .tc := ⟨.hbm, 72, rfl⟩
abbrev main_v4 : Ref sig .tc := ⟨.hbm, 73, rfl⟩
abbrev main_v5 : Ref sig .tc := ⟨.hbm, 74, rfl⟩
abbrev main_cst : Ref sig .tc := ⟨.hbm, 75, rfl⟩
abbrev main_v6 : Ref sig .tc := ⟨.hbm, 76, rfl⟩
abbrev main_cst_0 : Ref sig .tc := ⟨.hbm, 77, rfl⟩
abbrev main_v7 : Ref sig .tc := ⟨.hbm, 78, rfl⟩
abbrev main_v8 : Ref sig .tc := ⟨.hbm, 79, rfl⟩
abbrev main_v9 : Ref sig .tc := ⟨.hbm, 80, rfl⟩
abbrev main_cst_1 : Ref sig .tc := ⟨.hbm, 81, rfl⟩
abbrev main_v10 : Ref sig .tc := ⟨.hbm, 82, rfl⟩
abbrev main_v11_0 : Ref sig .tc := ⟨.hbm, 83, rfl⟩
abbrev main_v11_1 : Ref sig .tc := ⟨.hbm, 84, rfl⟩
abbrev main_v11_2 : Ref sig .tc := ⟨.hbm, 85, rfl⟩
abbrev main_v11_3 : Ref sig .tc := ⟨.hbm, 86, rfl⟩
abbrev main_v11_4 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x4x512x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S4096x1024 : Shape := ⟨2, ![4096, 1024]⟩
abbrev S4096x512 : Shape := ⟨2, ![4096, 512]⟩
abbrev S4x512x1024 : Shape := ⟨3, ![4, 512, 1024]⟩
abbrev S1024x4096 : Shape := ⟨2, ![1024, 4096]⟩
abbrev S4096 : Shape := ⟨1, ![4096]⟩
abbrev S1024x1024 : Shape := ⟨2, ![1024, 1024]⟩
abbrev S1024 : Shape := ⟨1, ![1024]⟩
abbrev S1x512x1024 : Shape := ⟨3, ![1, 512, 1024]⟩
abbrev S512x1024 : Shape := ⟨2, ![512, 1024]⟩
abbrev S4096x4096 : Shape := ⟨2, ![4096, 4096]⟩
abbrev S1x4096 : Shape := ⟨2, ![1, 4096]⟩
abbrev S_ : Shape := ⟨0, ![]⟩
abbrev S4096x4x1024 : Shape := ⟨3, ![4096, 4, 1024]⟩
abbrev S4096x1x1024 : Shape := ⟨3, ![4096, 1, 1024]⟩
abbrev S4096x1 : Shape := ⟨2, ![4096, 1]⟩
abbrev S1x1024 : Shape := ⟨2, ![1, 1024]⟩
abbrev S1x4096x512 : Shape := ⟨3, ![1, 4096, 512]⟩
abbrev S4x4096x512 : Shape := ⟨3, ![4, 4096, 512]⟩
abbrev S4x4096x1024 : Shape := ⟨3, ![4, 4096, 1024]⟩
abbrev S1x4096x1024 : Shape := ⟨3, ![1, 4096, 1024]⟩
abbrev S7x1024 : Shape := ⟨2, ![7, 1024]⟩
abbrev S8x1024 : Shape := ⟨2, ![8, 1024]⟩

abbrev nBuf : Space → Nat
  | .hbm => 151
  | .vmem => 0
  | .smem => 0
  | _ => 0

abbrev hbmTy0_0 (i : Nat) : BufTy := match i % 128 with
  | 0 => ⟨S4096x1024, .f32⟩
  | 1 => ⟨S4096x512, .f32⟩
  | 2 => ⟨S4096x512, .f32⟩
  | 3 => ⟨S4096x512, .f32⟩
  | 4 => ⟨S4096x512, .f32⟩
  | 5 => ⟨S4096x1024, .f32⟩
  | 6 => ⟨S4x512x1024, .f32⟩
  | 7 => ⟨S1024x4096, .f32⟩
  | 8 => ⟨S4096, .f32⟩
  | 9 => ⟨S1024x1024, .f32⟩
  | 10 => ⟨S1024, .f32⟩
  | 11 => ⟨S1x512x1024, .f32⟩
  | 12 => ⟨S512x1024, .f32⟩
  | 13 => ⟨S4096x1024, .f32⟩
  | 14 => ⟨S1x512x1024, .f32⟩
  | 15 => ⟨S512x1024, .f32⟩
  | 16 => ⟨S4096x1024, .f32⟩
  | 17 => ⟨S1x512x1024, .f32⟩
  | 18 => ⟨S512x1024, .f32⟩
  | 19 => ⟨S4096x1024, .f32⟩
  | 20 => ⟨S1x512x1024, .f32⟩
  | 21 => ⟨S512x1024, .f32⟩
  | 22 => ⟨S4096x1024, .f32⟩
  | 23 => ⟨S4096x4096, .f32⟩
  | 24 => ⟨S1x4096, .f32⟩
  | 25 => ⟨S4096x4096, .f32⟩
  | 26 => ⟨S4096x4096, .f32⟩
  | 27 => ⟨S4096x4096, .f32⟩
  | 28 => ⟨S4096x4096, .f32⟩
  | 29 => ⟨S_, .f32⟩
  | 30 => ⟨S4096x4096, .f32⟩
  | 31 => ⟨S4096x4096, .f32⟩
  | 32 => ⟨S_, .f32⟩
  | 33 => ⟨S4096x4096, .f32⟩
  | 34 => ⟨S4096x4096, .f32⟩
  | 35 => ⟨S_, .f32⟩
  | 36 => ⟨S4096x4096, .f32⟩
  | 37 => ⟨S4096x4096, .f32⟩
  | 38 => ⟨S4096x4096, .f32⟩
  | 39 => ⟨S4096x4x1024, .f32⟩
  | 40 => ⟨S4096x1x1024, .f32⟩
  | 41 => ⟨S4096x1024, .f32⟩
  | 42 => ⟨S4096x1024, .f32⟩
  | 43 => ⟨S4096x1x1024, .f32⟩
  | 44 => ⟨S4096x1024, .f32⟩
  | 45 => ⟨S4096x1024, .f32⟩
  | 46 => ⟨S4096x1024, .f32⟩
  | 47 => ⟨S4096x1x1024, .f32⟩
  | 48 => ⟨S4096x1024, .f32⟩
  | 49 => ⟨S4096x1024, .f32⟩
  | 50 => ⟨S4096x1024, .f32⟩
  | 51 => ⟨S4096x1x1024, .f32⟩
  | 52 => ⟨S4096x1024, .f32⟩
  | 53 => ⟨S4096x1024, .f32⟩
  | 54 => ⟨S4096x1024, .f32⟩
  | 55 => ⟨S4096x1024, .f32⟩
  | 56 => ⟨S4096x1024, .f32⟩
  | 57 => ⟨S_, .f32⟩
  | 58 => ⟨S4096, .f32⟩
  | 59 => ⟨S4096x1, .f32⟩
  | 60 => ⟨S_, .f32⟩
  | 61 => ⟨S4096x1, .f32⟩
  | 62 => ⟨S4096x1, .f32⟩
  | 63 => ⟨S_, .f32⟩
  | 64 => ⟨S4096x1, .f32⟩
  | 65 => ⟨S4096x1, .f32⟩
  | 66 => ⟨S4096x1, .f32⟩
  | 67 => ⟨S4096x1, .f32⟩
  | 68 => ⟨S_, .f32⟩
  | 69 => ⟨S4096x1, .f32⟩
  | 70 => ⟨S4096x1, .f32⟩
  | 71 => ⟨S4096x1024, .f32⟩
  | 72 => ⟨S4096x1024, .f32⟩
  | 73 => ⟨S1x1024, .f32⟩
  | 74 => ⟨S4096x1024, .f32⟩
  | 75 => ⟨S4096x1024, .f32⟩
  | 76 => ⟨S4096x1024, .f32⟩
  | 77 => ⟨S_, .f32⟩
  | 78 => ⟨S1024, .f32⟩
  | 79 => ⟨S1x1024, .f32⟩
  | 80 => ⟨S4096x1024, .f32⟩
  | 81 => ⟨S4096x1024, .f32⟩
  | 82 => ⟨S_, .f32⟩
  | 83 => ⟨S1024, .f32⟩
  | 84 => ⟨S4096x1024, .f32⟩
  | 85 => ⟨S_, .f32⟩
  | 86 => ⟨S4096, .f32⟩
  | 87 => ⟨S4096x1, .f32⟩
  | 88 => ⟨S4096x1024, .f32⟩
  | 89 => ⟨S4096x1024, .f32⟩
  | 90 => ⟨S4096x1, .f32⟩
  | 91 => ⟨S_, .f32⟩
  | 92 => ⟨S4096x1, .f32⟩
  | 93 => ⟨S4096x1, .f32⟩
  | 94 => ⟨S_, .f32⟩
  | 95 => ⟨S4096, .f32⟩
  | 96 => ⟨S4096x1024, .f32⟩
  | 97 => ⟨S4096x1024, .f32⟩
  | 98 => ⟨S4096x1024, .f32⟩
  | 99 => ⟨S4096x1024, .f32⟩
  | 100 => ⟨S4096x1024, .f32⟩
  | 101 => ⟨S4096x1024, .f32⟩
  | 102 => ⟨S4096x1024, .f32⟩
  | 103 => ⟨S4096x1024, .f32⟩
  | 104 => ⟨S4096x1x1024, .f32⟩
  | 105 => ⟨S_, .f32⟩
  | 106 => ⟨S4096x4x1024, .f32⟩
  | 107 => ⟨S4096x1024, .f32⟩
  | 108 => ⟨S4096x1024, .f32⟩
  | 109 => ⟨S4096x1x1024, .f32⟩
  | 110 => ⟨S_, .f32⟩
  | 111 => ⟨S4096x4x1024, .f32⟩
  | 112 => ⟨S4096x4x1024, .f32⟩
  | 113 => ⟨S4096x1024, .f32⟩
  | 114 => ⟨S4096x1024, .f32⟩
  | 115 => ⟨S4096x1x1024, .f32⟩
  | 116 => ⟨S_, .f32⟩
  | 117 => ⟨S4096x4x1024, .f32⟩
  | 118 => ⟨S4096x4x1024, .f32⟩
  | 119 => ⟨S4096x1024, .f32⟩
  | 120 => ⟨S4096x1024, .f32⟩
  | 121 => ⟨S4096x1x1024, .f32⟩
  | 122 => ⟨S_, .f32⟩
  | 123 => ⟨S4096x4x1024, .f32⟩
  | 124 => ⟨S4096x4x1024, .f32⟩
  | 125 => ⟨S4096x4096, .f32⟩
  | 126 => ⟨S4096x4096, .f32⟩
  | 127 => ⟨S4096x512, .f32⟩
  | _ => ⟨S4096x1024, .f32⟩

abbrev hbmTy0_1 (i : Nat) : BufTy := match i % 128 with
  | 0 => ⟨S4096x512, .f32⟩
  | 1 => ⟨S4096x512, .f32⟩
  | 2 => ⟨S4096x512, .f32⟩
  | 3 => ⟨S4096x1024, .bf16⟩
  | 4 => ⟨S1x4096x512, .f32⟩
  | 5 => ⟨S1x4096x512, .f32⟩
  | 6 => ⟨S1x4096x512, .f32⟩
  | 7 => ⟨S1x4096x512, .f32⟩
  | 8 => ⟨S4x4096x512, .f32⟩
  | 9 => ⟨S4x4096x512, .bf16⟩
  | 10 => ⟨S4096x4x1024, .f32⟩
  | 11 => ⟨S4x4096x1024, .f32⟩
  | 12 => ⟨S4x4096x1024, .bf16⟩
  | 13 => ⟨S1x4096x1024, .f32⟩
  | 14 => ⟨S1x4096x1024, .f32⟩
  | 15 => ⟨S1x4096x1024, .f32⟩
  | 16 => ⟨S1x4096x1024, .f32⟩
  | 17 => ⟨S4x4096x1024, .f32⟩
  | 18 => ⟨S4x4096x1024, .bf16⟩
  | 19 => ⟨S1x1024, .f32⟩
  | 20 => ⟨S_, .f32⟩
  | 21 => ⟨S7x1024, .f32⟩
  | 22 => ⟨S8x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19 : Ref sig .tc := ⟨.hbm, 31, rfl⟩
abbrev main_cst_0 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_2 : Ref sig .tc := ⟨.hbm, 57, rfl⟩
abbrev main_v43 : Ref sig .tc := ⟨.hbm, 58, rfl⟩
abbrev main_v44 : Ref sig .tc := ⟨.hbm, 59, rfl⟩
abbrev main_cst_3 : Ref sig .tc := ⟨.hbm, 60, rfl⟩
abbrev main_v45 : Ref sig .tc := ⟨.hbm, 61, rfl⟩
abbrev main_v46 : Ref sig .tc := ⟨.hbm, 62, rfl⟩
abbrev main_cst_4 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_5 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_6 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_7 : Ref sig .tc := ⟨.hbm, 82, rfl⟩
abbrev main_v63 : Ref sig .tc := ⟨.hbm, 83, rfl⟩
abbrev main_v64 : Ref sig .tc := ⟨.hbm, 84, rfl⟩
abbrev main_cst_8 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_9 : Ref sig .tc := ⟨.hbm, 91, rfl⟩
abbrev main_v70 : Ref sig .tc := ⟨.hbm, 92, rfl⟩
abbrev main_v71 : Ref sig .tc := ⟨.hbm, 93, rfl⟩
abbrev main_cst_10 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_11 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_12 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_cst_13 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_cst_14 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_cst_15 : Ref sig .tc := ⟨.hbm, 148, rfl⟩
abbrev main_v121 : Ref sig .tc := ⟨.hbm, 149, rfl⟩
abbrev main_v122 : Ref sig .tc := ⟨.hbm, 150, rfl⟩

abbrev nD : Nat := 1
abbrev τ : Topo := Topo.v7x

variable {F : FTy → Type} [FloatOps F]
-- ==== Kernel2.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩
abbrev S4096x4x704 : Shape := ⟨3, ![4096, 4, 704]⟩
abbrev S4x4096x704 : Shape := ⟨3, ![4, 4096, 704]⟩
abbrev S8x128 : Shape := ⟨2, ![8, 128]⟩
abbrev S8x1056x1024 : Shape := ⟨3, ![8, 1056, 1024]⟩
abbrev S1024x1024 : Shape := ⟨2, ![1024, 1024]⟩
abbrev S1x1024x704 : Shape := ⟨3, ![1, 1024, 704]⟩
abbrev S2x1056x1024 : Shape := ⟨3, ![2, 1056, 1024]⟩
abbrev S2112x1024 : Shape := ⟨2, ![2112, 1024]⟩
abbrev S1024x704 : Shape := ⟨2, ![1024, 704]⟩
abbrev S704x1024 : Shape := ⟨2, ![704, 1024]⟩
abbrev S352x1024 : Shape := ⟨2, ![352, 1024]⟩
abbrev S1x352x1024 : Shape := ⟨3, ![1, 352, 1024]⟩

abbrev nBuf : Space → Nat
  | .hbm => 112
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S1024, .f32⟩
  | .hbm, ⟨71, _⟩ => ⟨S4096x1024, .f32⟩
  | .hbm, ⟨72, _⟩ => ⟨S_, .f32⟩
  | .hbm, ⟨73, _⟩ => ⟨S4096, .f32⟩
  | .hbm, ⟨74, _⟩ => ⟨S4096x1, .f32⟩
  | .hbm, ⟨75, _⟩ => ⟨S4096x1024, .f32⟩
  | .hbm, ⟨76, _⟩ => ⟨S4096x1024, .f32⟩
  | .hbm, ⟨77, _⟩ => ⟨S4096x1, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S_, .f32⟩
  | .hbm, ⟨82, _⟩ => ⟨S4096, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x2816, .f32⟩
  | .hbm, ⟨89, _⟩ => ⟨S4096x2816, .f32⟩
  | .hbm, ⟨90, _⟩ => ⟨S4096x2816, .f32⟩
  | .hbm, ⟨91, _⟩ => ⟨S4096x2816, .f32⟩
  | .hbm, ⟨92, _⟩ => ⟨S4096x2816, .f32⟩
  | .hbm, ⟨93, _⟩ => ⟨S4096x2816, .f32⟩
  | .hbm, ⟨94, _⟩ => ⟨S4096x2816, .f32⟩
  | .hbm, ⟨95, _⟩ => ⟨S4096x1024, .bf16⟩
  | .hbm, ⟨96, _⟩ => ⟨S4096x1024, .bf16⟩
  | .hbm, ⟨97, _⟩ => ⟨S4096x4x704, .f32⟩
  | .hbm, ⟨98, _⟩ => ⟨S4x4096x704, .f32⟩
  | .hbm, ⟨99, _⟩ => ⟨S4x4096x704, .bf16⟩
  | .hbm, ⟨100, _⟩ => ⟨S4096x4x704, .f32⟩
  | .hbm, ⟨101, _⟩ => ⟨S4x4096x704, .f32⟩
  | .hbm, ⟨102, _⟩ => ⟨S4x4096x704, .bf16⟩
  | .hbm, ⟨103, _⟩ => ⟨S4096x4x704, .f32⟩
  | .hbm, ⟨104, _⟩ => ⟨S4x4096x704, .f32⟩
  | .hbm, ⟨105, _⟩ => ⟨S4x4096x704, .bf16⟩
  | .hbm, ⟨106, _⟩ => ⟨S4096x4x704, .f32⟩
  | .hbm, ⟨107, _⟩ => ⟨S4x4096x704, .f32⟩
  | .hbm, ⟨108, _⟩ => ⟨S4x4096x704, .bf16⟩
  | .hbm, ⟨109, _⟩ => ⟨S_, .f32⟩
  | .hbm, ⟨110, _⟩ => ⟨S8x128, .f32⟩
  | .hbm, ⟨111, _⟩ => ⟨S8x1056x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | .local _ .vmem, ⟨12, _⟩ => ⟨S2x1056x1024, .bf16⟩
  | .local _ .vmem, ⟨13, _⟩ => ⟨S2x1056x1024, .bf16⟩
  | .local _ .vmem, ⟨14, _⟩ => ⟨S2112x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_call0_cst_0 : Ref sig .tc := ⟨.hbm, 11, rfl⟩
abbrev main_call0_v3 : Ref sig .tc := ⟨.hbm, 12, rfl⟩
abbrev main_call0_v4 : Ref sig .tc := ⟨.hbm, 13, rfl⟩
abbrev main_call0_cst_1 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_cst : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_cst_0 : Ref sig .tc := ⟨.hbm, 30, rfl⟩
abbrev main_call0_call0_v4 : Ref sig .tc := ⟨.hbm, 31, rfl⟩
abbrev main_call0_v15_2 : Ref sig .tc := ⟨.hbm, 32, rfl⟩
abbrev main_call0_call0_cst_1 : Ref sig .tc := ⟨.hbm, 33, rfl⟩
abbrev main_call0_call0_v6 : Ref sig .tc := ⟨.hbm, 34, rfl⟩
abbrev main_call0_call0_v7 : Ref sig .tc := ⟨.hbm, 35, rfl⟩
abbrev main_call0_v15_1 : Ref sig .tc := ⟨.hbm, 36, rfl⟩
abbrev main_call0_v15_0 : Ref sig .tc := ⟨.hbm, 37, rfl⟩
abbrev main_call0_v16 : Ref sig .tc := ⟨.hbm, 38, rfl⟩
abbrev main_call0_v17 : Ref sig .tc := ⟨.hbm, 39, rfl⟩
abbrev main_call0_v18 : Ref sig .tc := ⟨.hbm, 40, rfl⟩
abbrev main_call0_cst_2 : Ref sig .tc := ⟨.hbm, 41, rfl⟩
abbrev main_call0_v19 : Ref sig .tc := ⟨.hbm, 42, rfl⟩
abbrev main_call0_v20 : Ref sig .tc := ⟨.hbm, 43, rfl⟩
abbrev main_call0_cst_3 : Ref sig .tc := ⟨.hbm, 44, rfl⟩
abbrev main_call0_v21 : Ref sig .tc := ⟨.hbm, 45, rfl⟩
abbrev main_call0_v22 : Ref sig .tc := ⟨.hbm, 46, rfl⟩
abbrev main_call0_cst_4 : Ref sig .tc := ⟨.hbm, 47, rfl⟩
abbrev main_call0_v23 : Ref sig .tc := ⟨.hbm, 48, rfl⟩
abbrev main_call0_v24 : Ref sig .tc := ⟨.hbm, 49, rfl⟩
abbrev main_call0_v25 : Ref sig .tc := ⟨.hbm, 50, rfl⟩
abbrev main_call0_v26 : Ref sig .tc := ⟨.hbm, 51, rfl⟩
abbrev main_call0_cst_5 : Ref sig .tc := ⟨.hbm, 52, rfl⟩
abbrev main_call0_v27 : Ref sig .tc := ⟨.hbm, 53, rfl⟩
abbrev main_call0_v28 : Ref sig .tc := ⟨.hbm, 54, rfl⟩
abbrev main_call0_v29 : Ref sig .tc := ⟨.hbm, 55, rfl⟩
abbrev main_call0_v30 : Ref sig .tc := ⟨.hbm, 56, rfl⟩
abbrev main_call0_v31 : Ref sig .tc := ⟨.hbm, 57, rfl⟩
abbrev main_call0_v32 : Ref sig .tc := ⟨.hbm, 58, rfl⟩
abbrev main_call0_v33 : Ref sig .tc := ⟨.hbm, 59, rfl⟩
abbrev main_call0_cst_6 : Ref sig .tc := ⟨.hbm, 60, rfl⟩
abbrev main_call0_v34 : Ref sig .tc := ⟨.hbm, 61, rfl⟩
abbrev main_call0_v35 : Ref sig .tc := ⟨.hbm, 62, rfl⟩
abbrev main_call0_v36 : Ref sig .tc := ⟨.hbm, 63, rfl⟩
abbrev main_call0_cst_7 : Ref sig .tc := ⟨.hbm, 64, rfl⟩
abbrev main_call0_v37 : Ref sig .tc := ⟨.hbm, 65, rfl⟩
abbrev main_call0_v38 : Ref sig .tc := ⟨.hbm, 66, rfl⟩
abbrev main_call0_v39 : Ref sig .tc := ⟨.hbm, 67, rfl⟩
abbrev main_call0_v40 : Ref sig .tc := ⟨.hbm, 68, rfl⟩
abbrev main_call0_cst_8 : Ref sig .tc := ⟨.hbm, 69, rfl⟩
abbrev main_call0_v41 : Ref sig .tc := ⟨.hbm, 70, rfl⟩
abbrev main_call0_v42 : Ref sig .tc := ⟨.hbm, 71, rfl⟩
abbrev main_call0_cst_9 : Ref sig .tc := ⟨.hbm, 72, rfl⟩
abbrev main_call0_v43 : Ref sig .tc := ⟨.hbm, 73, rfl⟩
abbrev main_call0_v44 : Ref sig .tc := ⟨.hbm, 74, rfl⟩
abbrev main_call0_v45 : Ref sig .tc := ⟨.hbm, 75, rfl⟩
abbrev main_call0_v46 : Ref sig .tc := ⟨.hbm, 76, rfl⟩
abbrev main_call0_v47 : Ref sig .tc := ⟨.hbm, 77, rfl⟩
abbrev main_call0_cst_10 : Ref sig .tc := ⟨.hbm, 78, rfl⟩
abbrev main_call0_v48 : Ref sig .tc := ⟨.hbm, 79, rfl⟩
abbrev main_call0_v49 : Ref sig .tc := ⟨.hbm, 80, rfl⟩
abbrev main_call0_cst_11 : Ref sig .tc := ⟨.hbm, 81, rfl⟩
abbrev main_call0_v50 : Ref sig .tc := ⟨.hbm, 82, rfl⟩
abbrev main_call0_v51 : Ref sig .tc := ⟨.hbm, 83, rfl⟩
abbrev main_call0_v52 : Ref sig .tc := ⟨.hbm, 84, rfl⟩
abbrev main_call0_v53 : Ref sig .tc := ⟨.hbm, 85, rfl⟩
abbrev main_call0_v54 : Ref sig .tc := ⟨.hbm, 86, rfl⟩
abbrev main_call0_v55 : Ref sig .tc := ⟨.hbm, 87, rfl⟩
abbrev main_call0_v56 : Ref sig .tc := ⟨.hbm, 88, rfl⟩
abbrev main_call0_v57 : Ref sig .tc := ⟨.hbm, 89, rfl⟩
abbrev main_call0_v58 : Ref sig .tc := ⟨.hbm, 90, rfl⟩
abbrev main_call0_call1_v0 : Ref sig .tc := ⟨.hbm, 91, rfl⟩
abbrev main_call0_call1_v1 : Ref sig .tc := ⟨.hbm, 92, rfl⟩
abbrev main_call0_call1_v2 : Ref sig .tc := ⟨.hbm, 93, rfl⟩
abbrev main_call0_v59 : Ref sig .tc := ⟨.hbm, 94, rfl⟩
abbrev main_v0_0 : Ref sig .tc := ⟨.hbm, 95, rfl⟩
abbrev main_v0_1 : Ref sig .tc := ⟨.hbm, 96, rfl⟩
abbrev main_call0_v62 : Ref sig .tc := ⟨.hbm, 97, rfl⟩
abbrev main_call0_v63 : Ref sig .tc := ⟨.hbm, 98, rfl⟩
abbrev main_v0_2 : Ref sig .tc := ⟨.hbm, 99, rfl⟩
abbrev main_call0_v65 : Ref sig .tc := ⟨.hbm, 100, rfl⟩
abbrev main_call0_v66 : Ref sig .tc := ⟨.hbm, 101, rfl⟩
abbrev main_v0_3 : Ref sig .tc := ⟨.hbm, 102, rfl⟩
abbrev main_call0_v68 : Ref sig .tc := ⟨.hbm, 103, rfl⟩
abbrev main_call0_v69 : Ref sig .tc := ⟨.hbm, 104, rfl⟩
abbrev main_v0_4 : Ref sig .tc := ⟨.hbm, 105, rfl⟩
abbrev main_call0_v71 : Ref sig .tc := ⟨.hbm, 106, rfl⟩
abbrev main_call0_v72 : Ref sig .tc := ⟨.hbm, 107, rfl⟩
abbrev main_v0_5 : Ref sig .tc := ⟨.hbm, 108, rfl⟩
abbrev main_cst : Ref sig .tc := ⟨.hbm, 109, rfl⟩
abbrev main_v1 : Ref sig .tc := ⟨.hbm, 110, rfl⟩
abbrev main_v2 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v39 : BitVec 1 := Scalar.cmpi .eq arg1 c3_i32
  let v40 : BitVec 32 := Scalar.extui v39
  let c0_i32_28 : BitVec 32 := 0#32
  let v41 : BitVec 1 := Scalar.cmpi .ne v40 c0_i32_28
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1056x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩
abbrev S8x352x1024 : Shape := ⟨3, ![8, 352, 1024]⟩
abbrev S8x1056x1024 : Shape := ⟨3, ![8, 1056, 1024]⟩

abbrev nBuf : Space → Nat
  | .hbm => 105
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S4096, .f32⟩
  | .hbm, ⟨71, _⟩ => ⟨S4096x1, .f32⟩
  | .hbm, ⟨72, _⟩ => ⟨S4096x1024, .f32⟩
  | .hbm, ⟨73, _⟩ => ⟨S4096x1024, .f32⟩
  | .hbm, ⟨74, _⟩ => ⟨S4096x1, .f32⟩
  | .hbm, ⟨75, _⟩ => ⟨S_, .f32⟩
  | .hbm, ⟨76, _⟩ => ⟨S4096x1, .f32⟩
  | .hbm, ⟨77, _⟩ => ⟨S4096x1, .f32⟩
  | .hbm, ⟨78, _⟩ => ⟨S_, .f32⟩
  | .hbm, ⟨79, _⟩ => ⟨S4096, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S1024x2816, .f32⟩
  | .hbm, ⟨86, _⟩ => ⟨S2816x1024, .f32⟩
  | .hbm, ⟨87, _⟩ => ⟨S4096x2816, .f32⟩
  | .hbm, ⟨88, _⟩ => ⟨S4096x2816, .f32⟩
  | .hbm, ⟨89, _⟩ => ⟨S4096x2816, .f32⟩
  | .hbm, ⟨90, _⟩ => ⟨S2816x1024, .f32⟩
  | .hbm, ⟨91, _⟩ => ⟨S1024x2816, .f32⟩
  | .hbm, ⟨92, _⟩ => ⟨S4096x2816, .f32⟩
  | .hbm, ⟨93, _⟩ => ⟨S4096x2816, .f32⟩
  | .hbm, ⟨94, _⟩ => ⟨S4096x2816, .f32⟩
  | .hbm, ⟨95, _⟩ => ⟨S4096x2816, .f32⟩
  | .hbm, ⟨96, _⟩ => ⟨S2816x1024, .f32⟩
  | .hbm, ⟨97, _⟩ => ⟨S1024x2816, .f32⟩
  | .hbm, ⟨98, _⟩ => ⟨S2816x1024, .f32⟩
  | .hbm, ⟨99, _⟩ => ⟨S2816x1024, .f32⟩
  | .hbm, ⟨100, _⟩ => ⟨S8x352x1024, .f32⟩
  | .hbm, ⟨101, _⟩ => ⟨S8x352x1024, .f32⟩
  | .hbm, ⟨102, _⟩ => ⟨S8x352x1024, .f32⟩
  | .hbm, ⟨103, _⟩ => ⟨S8x1056x1024, .f32⟩
  | .hbm, ⟨104, _⟩ => ⟨S8x1056x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v14_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v14_1 : Ref sig .tc := ⟨.hbm, 35, rfl⟩
abbrev main_v14_0 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_2 : Ref sig .tc := ⟨.hbm, 41, rfl⟩
abbrev main_v19 : Ref sig .tc := ⟨.hbm, 42, rfl⟩
abbrev main_v20 : Ref sig .tc := ⟨.hbm, 43, rfl⟩
abbrev main_cst_3 : Ref sig .tc := ⟨.hbm, 44, rfl⟩
abbrev main_v21 : Ref sig .tc := ⟨.hbm, 45, rfl⟩
abbrev main_v22 : Ref sig .tc := ⟨.hbm, 46, rfl⟩
abbrev main_cst_4 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_5 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_6 : Ref sig .tc := ⟨.hbm, 60, rfl⟩
abbrev main_v34 : Ref sig .tc := ⟨.hbm, 61, rfl⟩
abbrev main_v35 : Ref sig .tc := ⟨.hbm, 62, rfl⟩
abbrev main_cst_7 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_9 : Ref sig .tc := ⟨.hbm, 75, rfl⟩
abbrev main_v46 : Ref sig .tc := ⟨.hbm, 76, rfl⟩
abbrev main_v47 : Ref sig .tc := ⟨.hbm, 77, rfl⟩
abbrev main_cst_10 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩

abbrev nD : Nat := 1
abbrev τ : Topo := Topo.v7x

variable {F : FTy → Type} [FloatOps F]
-- ==== Kernel3.lean ====
abbrev S4096x1024 : Shape := ⟨2, ![4096, 1024]⟩
abbrev S4096x4096 : Shape := ⟨2, ![4096, 4096]⟩
abbrev S1024 : Shape := ⟨1, ![1024]⟩
abbrev S4096x512 : Shape := ⟨2, ![4096, 512]⟩
abbrev S1024x4096 : Shape := ⟨2, ![1024, 4096]⟩
abbrev S4x512x1024 : Shape := ⟨3, ![4, 512, 1024]⟩
abbrev S4096 : Shape := ⟨1, ![4096]⟩
abbrev S1024x1024 : Shape := ⟨2, ![1024, 1024]⟩
abbrev S_ : Shape := ⟨0, ![]⟩
abbrev S4096x1 : Shape := ⟨2, ![4096, 1]⟩
abbrev S1x1024 : Shape := ⟨2, ![1, 1024]⟩
abbrev S1x512x1024 : Shape := ⟨3, ![1, 512, 1024]⟩
abbrev S512x1024 : Shape := ⟨2, ![512, 1024]⟩
abbrev S1x4096 : Shape := ⟨2, ![1, 4096]⟩
abbrev S4096x4x1024 : Shape := ⟨3, ![4096, 4, 1024]⟩
abbrev S4096x1x1024 : Shape := ⟨3, ![4096, 1, 1024]⟩
abbrev S4096x8x512 : Shape := ⟨3, ![4096, 8, 512]⟩
abbrev S8x4096x512 : Shape := ⟨3, ![8, 4096, 512]⟩
abbrev S4x4096x1024 : Shape := ⟨3, ![4, 4096, 1024]⟩
abbrev S8x1024x1024 : Shape := ⟨3, ![8, 1024, 1024]⟩
abbrev S8x8x512 : Shape := ⟨3, ![8, 8, 512]⟩
abbrev S1x2048x512 : Shape := ⟨3, ![1, 2048, 512]⟩
abbrev S2048x1024 : Shape := ⟨2, ![2048, 1024]⟩
abbrev S1x1024x1024 : Shape := ⟨3, ![1, 1024, 1024]⟩
abbrev S1x8x512 : Shape := ⟨3, ![1, 8, 512]⟩
abbrev S8x512 : Shape := ⟨2, ![8, 512]⟩
abbrev S2048x512 : Shape := ⟨2, ![2048, 512]⟩
abbrev S1x1x512 : Shape := ⟨3, ![1, 1, 512]⟩
abbrev S1x512 : Shape := ⟨2, ![1, 512]⟩
abbrev S512 : Shape := ⟨1, ![512]⟩

abbrev nBuf : Space → Nat
  | .hbm => 151
  | .vmem => 11
  | .smem => 0
  | _ => 0

abbrev hbmTy0_0 (i : Nat) : BufTy := match i % 128 with
  | 0 => ⟨S4096x1024, .f32⟩
  | 1 => ⟨S4096x4096, .f32⟩
  | 2 => ⟨S4096x1024, .f32⟩
  | 3 => ⟨S1024, .f32⟩
  | 4 => ⟨S4096x512, .f32⟩
  | 5 => ⟨S4096x512, .f32⟩
  | 6 => ⟨S4096x512, .f32⟩
  | 7 => ⟨S4096x512, .f32⟩
  | 8 => ⟨S1024x4096, .f32⟩
  | 9 => ⟨S4x512x1024, .f32⟩
  | 10 => ⟨S1024x4096, .f32⟩
  | 11 => ⟨S4096, .f32⟩
  | 12 => ⟨S1024x1024, .f32⟩
  | 13 => ⟨S1024, .f32⟩
  | 14 => ⟨S4096x1024, .f32⟩
  | 15 => ⟨S_, .f32⟩
  | 16 => ⟨S4096, .f32⟩
  | 17 => ⟨S4096x1, .f32⟩
  | 18 => ⟨S_, .f32⟩
  | 19 => ⟨S4096x1, .f32⟩
  | 20 => ⟨S4096x1, .f32⟩
  | 21 => ⟨S_, .f32⟩
  | 22 => ⟨S4096x1, .f32⟩
  | 23 => ⟨S4096x1, .f32⟩
  | 24 => ⟨S4096x1, .f32⟩
  | 25 => ⟨S4096x1024, .f32⟩
  | 26 => ⟨S4096x1024, .f32⟩
  | 27 => ⟨S1x1024, .f32⟩
  | 28 => ⟨S4096x1024, .f32⟩
  | 29 => ⟨S4096x1024, .f32⟩
  | 30 => ⟨S1x512x1024, .f32⟩
  | 31 => ⟨S512x1024, .f32⟩
  | 32 => ⟨S4096x1024, .f32⟩
  | 33 => ⟨S1x512x1024, .f32⟩
  | 34 => ⟨S512x1024, .f32⟩
  | 35 => ⟨S4096x1024, .f32⟩
  | 36 => ⟨S1x512x1024, .f32⟩
  | 37 => ⟨S512x1024, .f32⟩
  | 38 => ⟨S4096x1024, .f32⟩
  | 39 => ⟨S1x512x1024, .f32⟩
  | 40 => ⟨S512x1024, .f32⟩
  | 41 => ⟨S4096x1024, .f32⟩
  | 42 => ⟨S4096x4096, .f32⟩
  | 43 => ⟨S1x4096, .f32⟩
  | 44 => ⟨S4096x4096, .f32⟩
  | 45 => ⟨S4096x4096, .f32⟩
  | 46 => ⟨S4096x4096, .f32⟩
  | 47 => ⟨S4096x4096, .f32⟩
  | 48 => ⟨S_, .f32⟩
  | 49 => ⟨S4096x4096, .f32⟩
  | 50 => ⟨S4096x4096, .f32⟩
  | 51 => ⟨S_, .f32⟩
  | 52 => ⟨S4096x4096, .f32⟩
  | 53 => ⟨S4096x4096, .f32⟩
  | 54 => ⟨S_, .f32⟩
  | 55 => ⟨S4096x4096, .f32⟩
  | 56 => ⟨S4096x4096, .f32⟩
  | 57 => ⟨S4096x4096, .f32⟩
  | 58 => ⟨S4096x4x1024, .f32⟩
  | 59 => ⟨S4096x1x1024, .f32⟩
  | 60 => ⟨S4096x1024, .f32⟩
  | 61 => ⟨S4096x1024, .f32⟩
  | 62 => ⟨S4096x1x1024, .f32⟩
  | 63 => ⟨S4096x1024, .f32⟩
  | 64 => ⟨S4096x1024, .f32⟩
  | 65 => ⟨S4096x1024, .f32⟩
  | 66 => ⟨S4096x1x1024, .f32⟩
  | 67 => ⟨S4096x1024, .f32⟩
  | 68 => ⟨S4096x1024, .f32⟩
  | 69 => ⟨S4096x1024, .f32⟩
  | 70 => ⟨S4096x1x1024, .f32⟩
  | 71 => ⟨S4096x1024, .f32⟩
  | 72 => ⟨S4096x1024, .f32⟩
  | 73 => ⟨S4096x1024, .f32⟩
  | 74 => ⟨S4096x1024, .f32⟩
  | 75 => ⟨S4096x1024, .f32⟩
  | 76 => ⟨S_, .f32⟩
  | 77 => ⟨S4096, .f32⟩
  | 78 => ⟨S4096x1, .f32⟩
  | 79 => ⟨S_, .f32⟩
  | 80 => ⟨S4096x1, .f32⟩
  | 81 => ⟨S4096x1, .f32⟩
  | 82 => ⟨S_, .f32⟩
  | 83 => ⟨S4096x1, .f32⟩
  | 84 => ⟨S4096x1, .f32⟩
  | 85 => ⟨S4096x1, .f32⟩
  | 86 => ⟨S4096x1, .f32⟩
  | 87 => ⟨S_, .f32⟩
  | 88 => ⟨S4096x1, .f32⟩
  | 89 => ⟨S4096x1, .f32⟩
  | 90 => ⟨S4096x1024, .f32⟩
  | 91 => ⟨S4096x1024, .f32⟩
  | 92 => ⟨S1x1024, .f32⟩
  | 93 => ⟨S4096x1024, .f32⟩
  | 94 => ⟨S4096x1024, .f32⟩
  | 95 => ⟨S4096x1024, .f32⟩
  | 96 => ⟨S_, .f32⟩
  | 97 => ⟨S1024, .f32⟩
  | 98 => ⟨S1x1024, .f32⟩
  | 99 => ⟨S4096x1024, .f32⟩
  | 100 => ⟨S4096x1024, .f32⟩
  | 101 => ⟨S_, .f32⟩
  | 102 => ⟨S1024, .f32⟩
  | 103 => ⟨S4096x1024, .f32⟩
  | 104 => ⟨S_, .f32⟩
  | 105 => ⟨S4096, .f32⟩
  | 106 => ⟨S4096x1, .f32⟩
  | 107 => ⟨S4096x1024, .f32⟩
  | 108 => ⟨S4096x1024, .f32⟩
  | 109 => ⟨S4096x1, .f32⟩
  | 110 => ⟨S_, .f32⟩
  | 111 => ⟨S4096x1, .f32⟩
  | 112 => ⟨S4096x1, .f32⟩
  | 113 => ⟨S_, .f32⟩
  | 114 => ⟨S4096, .f32⟩
  | 115 => ⟨S4096x1024, .f32⟩
  | 116 => ⟨S4096x1024, .f32⟩
  | 117 => ⟨S4096x1024, .f32⟩
  | 118 => ⟨S4096x1024, .f32⟩
  | 119 => ⟨S4096x1024, .f32⟩
  | 120 => ⟨S4096x1024, .f32⟩
  | 121 => ⟨S4096x1024, .f32⟩
  | 122 => ⟨S4096x1x1024, .f32⟩
  | 123 => ⟨S_, .f32⟩
  | 124 => ⟨S4096x4x1024, .f32⟩
  | 125 => ⟨S4096x1024, .f32⟩
  | 126 => ⟨S4096x1x1024, .f32⟩
  | 127 => ⟨S_, .f32⟩
  | _ => ⟨S4096x1024, .f32⟩

abbrev hbmTy0_1 (i : Nat) : BufTy := match i % 128 with
  | 0 => ⟨S4096x4x1024, .f32⟩
  | 1 => ⟨S4096x4x1024, .f32⟩
  | 2 => ⟨S4096x1024, .f32⟩
  | 3 => ⟨S4096x1x1024, .f32⟩
  | 4 => ⟨S_, .f32⟩
  | 5 => ⟨S4096x4x1024, .f32⟩
  | 6 => ⟨S4096x4x1024, .f32⟩
  | 7 => ⟨S4096x1024, .f32⟩
  | 8 => ⟨S4096x1x1024, .f32⟩
  | 9 => ⟨S_, .f32⟩
  | 10 => ⟨S4096x4x1024, .f32⟩
  | 11 => ⟨S4096x4x1024, .f32⟩
  | 12 => ⟨S4096x4096, .f32⟩
  | 13 => ⟨S4096x4096, .f32⟩
  | 14 => ⟨S4096x1024, .bf16⟩
  | 15 => ⟨S4096x8x512, .f32⟩
  | 16 => ⟨S8x4096x512, .f32⟩
  | 17 => ⟨S8x4096x512, .bf16⟩
  | 18 => ⟨S4096x4x1024, .f32⟩
  | 19 => ⟨S4x4096x1024, .f32⟩
  | 20 => ⟨S4x4096x1024, .bf16⟩
  | 21 => ⟨S8x1024x1024, .bf16⟩
  | 22 => ⟨S8x8x512, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S2048x1024, .bf16⟩
  | .local _ .vmem, ⟨5, _⟩ => ⟨S2048x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x8x512, .f32⟩
  | .local _ .vmem, ⟨9, _⟩ => ⟨S1x8x512, .f32⟩
  | .local _ .vmem, ⟨10, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_cst : Ref sig .tc := ⟨.hbm, 15, rfl⟩
abbrev main_call0_v1 : Ref sig .tc := ⟨.hbm, 16, rfl⟩
abbrev main_call0_v2 : Ref sig .tc := ⟨.hbm, 17, rfl⟩
abbrev main_call0_cst_0 : Ref sig .tc := ⟨.hbm, 18, rfl⟩
abbrev main_call0_v3 : Ref sig .tc := ⟨.hbm, 19, rfl⟩
abbrev main_call0_v4 : Ref sig .tc := ⟨.hbm, 20, rfl⟩
abbrev main_call0_cst_1 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_v15 : Ref sig .tc := ⟨.hbm, 32, rfl⟩
abbrev main_call0_v16 : Ref sig .tc := ⟨.hbm, 33, rfl⟩
abbrev main_call0_v17 : Ref sig .tc := ⟨.hbm, 34, rfl⟩
abbrev main_call0_v18 : Ref sig .tc := ⟨.hbm, 35, rfl⟩
abbrev main_call0_v19 : Ref sig .tc := ⟨.hbm, 36, rfl⟩
abbrev main_call0_v20 : Ref sig .tc := ⟨.hbm, 37, rfl⟩
abbrev main_call0_v21 : Ref sig .tc := ⟨.hbm, 38, rfl⟩
abbrev main_call0_v22 : Ref sig .tc := ⟨.hbm, 39, rfl⟩
abbrev main_call0_v23 : Ref sig .tc := ⟨.hbm, 40, rfl⟩
abbrev main_call0_v24 : Ref sig .tc := ⟨.hbm, 41, rfl⟩
abbrev main_call0_v25 : Ref sig .tc := ⟨.hbm, 42, rfl⟩
abbrev main_call0_v26 : Ref sig .tc := ⟨.hbm, 43, rfl⟩
abbrev main_call0_v27 : Ref sig .tc := ⟨.hbm, 44, rfl⟩
abbrev main_call0_v28 : Ref sig .tc := ⟨.hbm, 45, rfl⟩
abbrev main_call0_v29 : Ref sig .tc := ⟨.hbm, 46, rfl⟩
abbrev main_call0_v30 : Ref sig .tc := ⟨.hbm, 47, rfl⟩
abbrev main_call0_cst_2 : Ref sig .tc := ⟨.hbm, 48, rfl⟩
abbrev main_call0_v31 : Ref sig .tc := ⟨.hbm, 49, rfl⟩
abbrev main_call0_v32 : Ref sig .tc := ⟨.hbm, 50, rfl⟩
abbrev main_call0_cst_3 : Ref sig .tc := ⟨.hbm, 51, rfl⟩
abbrev main_call0_v33 : Ref sig .tc := ⟨.hbm, 52, rfl⟩
abbrev main_call0_v34 : Ref sig .tc := ⟨.hbm, 53, rfl⟩
abbrev main_call0_cst_4 : Ref sig .tc := ⟨.hbm, 54, rfl⟩
abbrev main_call0_v35 : Ref sig .tc := ⟨.hbm, 55, rfl⟩
abbrev main_call0_v36 : Ref sig .tc := ⟨.hbm, 56, rfl⟩
abbrev main_call0_v37 : Ref sig .tc := ⟨.hbm, 57, rfl⟩
abbrev main_call0_v38 : Ref sig .tc := ⟨.hbm, 58, rfl⟩
abbrev main_call0_v39 : Ref sig .tc := ⟨.hbm, 59, rfl⟩
abbrev main_call0_v40 : Ref sig .tc := ⟨.hbm, 60, rfl⟩
abbrev main_call0_v41 : Ref sig .tc := ⟨.hbm, 61, rfl⟩
abbrev main_call0_v42 : Ref sig .tc := ⟨.hbm, 62, rfl⟩
abbrev main_call0_v43 : Ref sig .tc := ⟨.hbm, 63, rfl⟩
abbrev main_call0_v44 : Ref sig .tc := ⟨.hbm, 64, rfl⟩
abbrev main_call0_v45 : Ref sig .tc := ⟨.hbm, 65, rfl⟩
abbrev main_call0_v46 : Ref sig .tc := ⟨.hbm, 66, rfl⟩
abbrev main_call0_v47 : Ref sig .tc := ⟨.hbm, 67, rfl⟩
abbrev main_call0_v48 : Ref sig .tc := ⟨.hbm, 68, rfl⟩
abbrev main_call0_v49 : Ref sig .tc := ⟨.hbm, 69, rfl⟩
abbrev main_call0_v50 : Ref sig .tc := ⟨.hbm, 70, rfl⟩
abbrev main_call0_v51 : Ref sig .tc := ⟨.hbm, 71, rfl⟩
abbrev main_call0_v52 : Ref sig .tc := ⟨.hbm, 72, rfl⟩
abbrev main_call0_v53 : Ref sig .tc := ⟨.hbm, 73, rfl⟩
abbrev main_call0_v54 : Ref sig .tc := ⟨.hbm, 74, rfl⟩
abbrev main_call0_v55 : Ref sig .tc := ⟨.hbm, 75, rfl⟩
abbrev main_call0_cst_5 : Ref sig .tc := ⟨.hbm, 76, rfl⟩
abbrev main_call0_v56 : Ref sig .tc := ⟨.hbm, 77, rfl⟩
abbrev main_call0_v57 : Ref sig .tc := ⟨.hbm, 78, rfl⟩
abbrev main_call0_cst_6 : Ref sig .tc := ⟨.hbm, 79, rfl⟩
abbrev main_call0_v58 : Ref sig .tc := ⟨.hbm, 80, rfl⟩
abbrev main_call0_v59 : Ref sig .tc := ⟨.hbm, 81, rfl⟩
abbrev main_call0_cst_7 : Ref sig .tc := ⟨.hbm, 82, rfl⟩
abbrev main_call0_v60 : Ref sig .tc := ⟨.hbm, 83, rfl⟩
abbrev main_call0_v61 : Ref sig .tc := ⟨.hbm, 84, rfl⟩
abbrev main_call0_v62 : Ref sig .tc := ⟨.hbm, 85, rfl⟩
abbrev main_call0_v63 : Ref sig .tc := ⟨.hbm, 86, rfl⟩
abbrev main_call0_cst_8 : Ref sig .tc := ⟨.hbm, 87, rfl⟩
abbrev main_call0_v64 : Ref sig .tc := ⟨.hbm, 88, rfl⟩
abbrev main_call0_v65 : Ref sig .tc := ⟨.hbm, 89, rfl⟩
abbrev main_call0_v66 : Ref sig .tc := ⟨.hbm, 90, rfl⟩
abbrev main_call0_v67 : Ref sig .tc := ⟨.hbm, 91, rfl⟩
abbrev main_call0_v68 : Ref sig .tc := ⟨.hbm, 92, rfl⟩
abbrev main_call0_v69 : Ref sig .tc := ⟨.hbm, 93, rfl⟩
abbrev main_call0_v70 : Ref sig .tc := ⟨.hbm, 94, rfl⟩
abbrev main_call0_v71 : Ref sig .tc := ⟨.hbm, 95, rfl⟩
abbrev main_call0_cst_9 : Ref sig .tc := ⟨.hbm, 96, rfl⟩
abbrev main_call0_v72 : Ref sig .tc := ⟨.hbm, 97, rfl⟩
abbrev main_call0_v73 : Ref sig .tc := ⟨.hbm, 98, rfl⟩
abbrev main_call0_v74 : Ref sig .tc := ⟨.hbm, 99, rfl⟩
abbrev main_call0_v75 : Ref sig .tc := ⟨.hbm, 100, rfl⟩
abbrev main_call0_cst_10 : Ref sig .tc := ⟨.hbm, 101, rfl⟩
abbrev main_call0_v76 : Ref sig .tc := ⟨.hbm, 102, rfl⟩
abbrev main_call0_v77 : Ref sig .tc := ⟨.hbm, 103, rfl⟩
abbrev main_call0_cst_11 : Ref sig .tc := ⟨.hbm, 104, rfl⟩
abbrev main_call0_v78 : Ref sig .tc := ⟨.hbm, 105, rfl⟩
abbrev main_call0_v79 : Ref sig .tc := ⟨.hbm, 106, rfl⟩
abbrev main_call0_v80 : Ref sig .tc := ⟨.hbm, 107, rfl⟩
abbrev main_call0_v81 : Ref sig .tc := ⟨.hbm, 108, rfl⟩
abbrev main_call0_v82 : Ref sig .tc := ⟨.hbm, 109, rfl⟩
abbrev main_call0_cst_12 : Ref sig .tc := ⟨.hbm, 110, rfl⟩
abbrev main_call0_v83 : Ref sig .tc := ⟨.hbm, 111, rfl⟩
abbrev main_call0_v84 : Ref sig .tc := ⟨.hbm, 112, rfl⟩
abbrev main_call0_cst_13 : Ref sig .tc := ⟨.hbm, 113, rfl⟩
abbrev main_call0_v85 : Ref sig .tc := ⟨.hbm, 114, rfl⟩
abbrev main_call0_v86 : Ref sig .tc := ⟨.hbm, 115, rfl⟩
abbrev main_call0_v87 : Ref sig .tc := ⟨.hbm, 116, rfl⟩
abbrev main_call0_v88 : Ref sig .tc := ⟨.hbm, 117, rfl⟩
abbrev main_call0_v89 : Ref sig .tc := ⟨.hbm, 118, rfl⟩
abbrev main_call0_v90 : Ref sig .tc := ⟨.hbm, 119, rfl⟩
abbrev main_call0_v91 : Ref sig .tc := ⟨.hbm, 120, rfl⟩
abbrev main_call0_v92 : Ref sig .tc := ⟨.hbm, 121, rfl⟩
abbrev main_call0_v93 : Ref sig .tc := ⟨.hbm, 122, rfl⟩
abbrev main_call0_cst_14 : Ref sig .tc := ⟨.hbm, 123, rfl⟩
abbrev main_call0_v94 : Ref sig .tc := ⟨.hbm, 124, rfl⟩
abbrev main_call0_v95 : Ref sig .tc := ⟨.hbm, 125, rfl⟩
abbrev main_call0_v96 : Ref sig .tc := ⟨.hbm, 126, rfl⟩
abbrev main_call0_cst_15 : Ref sig .tc := ⟨.hbm, 127, rfl⟩
abbrev main_call0_v97 : Ref sig .tc := ⟨.hbm, 128, rfl⟩
abbrev main_call0_v98 : Ref sig .tc := ⟨.hbm, 129, rfl⟩
abbrev main_call0_v99 : Ref sig .tc := ⟨.hbm, 130, rfl⟩
abbrev main_call0_v100 : Ref sig .tc := ⟨.hbm, 131, rfl⟩
abbrev main_call0_cst_16 : Ref sig .tc := ⟨.hbm, 132, rfl⟩
abbrev main_call0_v101 : Ref sig .tc := ⟨.hbm, 133, rfl⟩
abbrev main_call0_v102 : Ref sig .tc := ⟨.hbm, 134, rfl⟩
abbrev main_call0_v103 : Ref sig .tc := ⟨.hbm, 135, rfl⟩
abbrev main_call0_v104 : Ref sig .tc := ⟨.hbm, 136, rfl⟩
abbrev main_call0_cst_17 : Ref sig .tc := ⟨.hbm, 137, rfl⟩
abbrev main_call0_v105 : Ref sig .tc := ⟨.hbm, 138, rfl⟩
abbrev main_call0_v106 : Ref sig .tc := ⟨.hbm, 139, rfl⟩
abbrev main_call0_v107 : Ref sig .tc := ⟨.hbm, 140, rfl⟩
abbrev main_call0_v108 : Ref sig .tc := ⟨.hbm, 141, rfl⟩
abbrev main_v0_0 : Ref sig .tc := ⟨.hbm, 142, rfl⟩
abbrev main_call0_v110 : Ref sig .tc := ⟨.hbm, 143, rfl⟩
abbrev main_call0_v111 : Ref sig .tc := ⟨.hbm, 144, rfl⟩
abbrev main_v0_1 : Ref sig .tc := ⟨.hbm, 145, rfl⟩
abbrev main_call0_v113 : Ref sig .tc := ⟨.hbm, 146, rfl⟩
abbrev main_call0_v114 : Ref sig .tc := ⟨.hbm, 147, rfl⟩
abbrev main_v0_2 : Ref sig .tc := ⟨.hbm, 148, rfl⟩
abbrev main_v1_0 : Ref sig .tc := ⟨.hbm, 149, rfl⟩
abbrev main_v1_1 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v30 : BitVec 1 := Scalar.cmpi .eq arg1 c1_i32
  let v31 : BitVec 32 := Scalar.extui v30
  let c0_i32_23 : BitVec 32 := 0#32
  let v32 : BitVec 1 := Scalar.cmpi .ne v31 c0_i32_23
  v32

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S4096x1024 : Shape := ⟨2, ![4096, 1024]⟩
abbrev S4096x4096 : Shape := ⟨2, ![4096, 4096]⟩
abbrev S1024 : Shape := ⟨1, ![1024]⟩
abbrev S4096x512 : Shape := ⟨2, ![4096, 512]⟩
abbrev S1024x4096 : Shape := ⟨2, ![1024, 4096]⟩
abbrev S4x512x1024 : Shape := ⟨3, ![4, 512, 1024]⟩
abbrev S4096 : Shape := ⟨1, ![4096]⟩
abbrev S1024x1024 : Shape := ⟨2, ![1024, 1024]⟩
abbrev S1x512x1024 : Shape := ⟨3, ![1, 512, 1024]⟩
abbrev S512x1024 : Shape := ⟨2, ![512, 1024]⟩
abbrev S_ : Shape := ⟨0, ![]⟩
abbrev S4096x1 : Shape := ⟨2, ![4096, 1]⟩
abbrev S1x1024 : Shape := ⟨2, ![1, 1024]⟩
abbrev S1x4096 : Shape := ⟨2, ![1, 4096]⟩
abbrev S4096x4x1024 : Shape := ⟨3, ![4096, 4, 1024]⟩
abbrev S4096x1x1024 : Shape := ⟨3, ![4096, 1, 1024]⟩
abbrev S8x512x1024 : Shape := ⟨3, ![8, 512, 1024]⟩
abbrev S8x1024x1024 : Shape := ⟨3, ![8, 1024, 1024]⟩
abbrev S8x1x512 : Shape := ⟨3, ![8, 1, 512]⟩
abbrev S8x7x512 : Shape := ⟨3, ![8, 7, 512]⟩
abbrev S8x8x512 : Shape := ⟨3, ![8, 8, 512]⟩

abbrev nBuf : Space → Nat
  | .hbm => 157
  | .vmem => 0
  | .smem => 0
  | _ => 0

abbrev hbmTy0_0 (i : Nat) : BufTy := match i % 128 with
  | 0 => ⟨S4096x1024, .f32⟩
  | 1 => ⟨S4096x4096, .f32⟩
  | 2 => ⟨S4096x1024, .f32⟩
  | 3 => ⟨S1024, .f32⟩
  | 4 => ⟨S4096x512, .f32⟩
  | 5 => ⟨S4096x512, .f32⟩
  | 6 => ⟨S4096x512, .f32⟩
  | 7 => ⟨S4096x512, .f32⟩
  | 8 => ⟨S1024x4096, .f32⟩
  | 9 => ⟨S4x512x1024, .f32⟩
  | 10 => ⟨S1024x4096, .f32⟩
  | 11 => ⟨S4096, .f32⟩
  | 12 => ⟨S1024x1024, .f32⟩
  | 13 => ⟨S1024, .f32⟩
  | 14 => ⟨S1x512x1024, .f32⟩
  | 15 => ⟨S512x1024, .f32⟩
  | 16 => ⟨S4096x1024, .f32⟩
  | 17 => ⟨S1x512x1024, .f32⟩
  | 18 => ⟨S512x1024, .f32⟩
  | 19 => ⟨S4096x1024, .f32⟩
  | 20 => ⟨S1x512x1024, .f32⟩
  | 21 => ⟨S512x1024, .f32⟩
  | 22 => ⟨S4096x1024, .f32⟩
  | 23 => ⟨S1x512x1024, .f32⟩
  | 24 => ⟨S512x1024, .f32⟩
  | 25 => ⟨S4096x1024, .f32⟩
  | 26 => ⟨S4096x1024, .f32⟩
  | 27 => ⟨S_, .f32⟩
  | 28 => ⟨S4096, .f32⟩
  | 29 => ⟨S4096x1, .f32⟩
  | 30 => ⟨S_, .f32⟩
  | 31 => ⟨S4096x1, .f32⟩
  | 32 => ⟨S4096x1, .f32⟩
  | 33 => ⟨S_, .f32⟩
  | 34 => ⟨S4096x1, .f32⟩
  | 35 => ⟨S4096x1, .f32⟩
  | 36 => ⟨S4096x1, .f32⟩
  | 37 => ⟨S4096x1024, .f32⟩
  | 38 => ⟨S4096x1024, .f32⟩
  | 39 => ⟨S1x1024, .f32⟩
  | 40 => ⟨S4096x1024, .f32⟩
  | 41 => ⟨S4096x1024, .f32⟩
  | 42 => ⟨S4096x4096, .f32⟩
  | 43 => ⟨S4096x4096, .f32⟩
  | 44 => ⟨S1x4096, .f32⟩
  | 45 => ⟨S4096x4096, .f32⟩
  | 46 => ⟨S4096x4096, .f32⟩
  | 47 => ⟨S4096x4096, .f32⟩
  | 48 => ⟨S4096x4096, .f32⟩
  | 49 => ⟨S_, .f32⟩
  | 50 => ⟨S4096x4096, .f32⟩
  | 51 => ⟨S4096x4096, .f32⟩
  | 52 => ⟨S_, .f32⟩
  | 53 => ⟨S4096x4096, .f32⟩
  | 54 => ⟨S4096x4096, .f32⟩
  | 55 => ⟨S_, .f32⟩
  | 56 => ⟨S4096x4096, .f32⟩
  | 57 => ⟨S4096x4096, .f32⟩
  | 58 => ⟨S4096x4096, .f32⟩
  | 59 => ⟨S4096x4x1024, .f32⟩
  | 60 => ⟨S4096x1x1024, .f32⟩
  | 61 => ⟨S4096x1024, .f32⟩
  | 62 => ⟨S4096x1024, .f32⟩
  | 63 => ⟨S4096x1x1024, .f32⟩
  | 64 => ⟨S4096x1024, .f32⟩
  | 65 => ⟨S4096x1024, .f32⟩
  | 66 => ⟨S4096x1024, .f32⟩
  | 67 => ⟨S4096x1x1024, .f32⟩
  | 68 => ⟨S4096x1024, .f32⟩
  | 69 => ⟨S4096x1024, .f32⟩
  | 70 => ⟨S4096x1024, .f32⟩
  | 71 => ⟨S4096x1x1024, .f32⟩
  | 72 => ⟨S4096x1024, .f32⟩
  | 73 => ⟨S4096x1024, .f32⟩
  | 74 => ⟨S4096x1024, .f32⟩
  | 75 => ⟨S4096x1024, .f32⟩
  | 76 => ⟨S4096x1024, .f32⟩
  | 77 => ⟨S_, .f32⟩
  | 78 => ⟨S4096, .f32⟩
  | 79 => ⟨S4096x1, .f32⟩
  | 80 => ⟨S_, .f32⟩
  | 81 => ⟨S4096x1, .f32⟩
  | 82 => ⟨S4096x1, .f32⟩
  | 83 => ⟨S_, .f32⟩
  | 84 => ⟨S4096x1, .f32⟩
  | 85 => ⟨S4096x1, .f32⟩
  | 86 => ⟨S4096x1, .f32⟩
  | 87 => ⟨S4096x1, .f32⟩
  | 88 => ⟨S_, .f32⟩
  | 89 => ⟨S4096x1, .f32⟩
  | 90 => ⟨S4096x1, .f32⟩
  | 91 => ⟨S4096x1024, .f32⟩
  | 92 => ⟨S4096x1024, .f32⟩
  | 93 => ⟨S1x1024, .f32⟩
  | 94 => ⟨S4096x1024, .f32⟩
  | 95 => ⟨S4096x1024, .f32⟩
  | 96 => ⟨S4096x1024, .f32⟩
  | 97 => ⟨S4096x1024, .f32⟩
  | 98 => ⟨S4096x1024, .f32⟩
  | 99 => ⟨S4096x1024, .f32⟩
  | 100 => ⟨S_, .f32⟩
  | 101 => ⟨S4096, .f32⟩
  | 102 => ⟨S4096x1, .f32⟩
  | 103 => ⟨S4096x1024, .f32⟩
  | 104 => ⟨S4096x1024, .f32⟩
  | 105 => ⟨S4096x1, .f32⟩
  | 106 => ⟨S_, .f32⟩
  | 107 => ⟨S4096x1, .f32⟩
  | 108 => ⟨S4096x1, .f32⟩
  | 109 => ⟨S_, .f32⟩
  | 110 => ⟨S4096, .f32⟩
  | 111 => ⟨S4096x1024, .f32⟩
  | 112 => ⟨S4096x1024, .f32⟩
  | 113 => ⟨S4096x1024, .f32⟩
  | 114 => ⟨S4096x1024, .f32⟩
  | 115 => ⟨S4096x1024, .f32⟩
  | 116 => ⟨S4096x1024, .f32⟩
  | 117 => ⟨S4096x1024, .f32⟩
  | 118 => ⟨S4096x1x1024, .f32⟩
  | 119 => ⟨S_, .f32⟩
  | 120 => ⟨S4096x4x1024, .f32⟩
  | 121 => ⟨S4096x1024, .f32⟩
  | 122 => ⟨S4096x1x1024, .f32⟩
  | 123 => ⟨S_, .f32⟩
  | 124 => ⟨S4096x4x1024, .f32⟩
  | 125 => ⟨S4096x4x1024, .f32⟩
  | 126 => ⟨S4096x1024, .f32⟩
  | 127 => ⟨S4096x1x1024, .f32⟩
  | _ => ⟨S4096x1024, .f32⟩

abbrev hbmTy0_1 (i : Nat) : BufTy := match i % 128 with
  | 0 => ⟨S_, .f32⟩
  | 1 => ⟨S4096x4x1024, .f32⟩
  | 2 => ⟨S4096x4x1024, .f32⟩
  | 3 => ⟨S4096x1024, .f32⟩
  | 4 => ⟨S4096x1x1024, .f32⟩
  | 5 => ⟨S_, .f32⟩
  | 6 => ⟨S4096x4x1024, .f32⟩
  | 7 => ⟨S4096x4x1024, .f32⟩
  | 8 => ⟨S4096x4096, .f32⟩
  | 9 => ⟨S4096x4096, .f32⟩
  | 10 => ⟨S_, .f32⟩
  | 11 => ⟨S4096, .f32⟩
  | 12 => ⟨S1x4096, .f32⟩
  | 13 => ⟨S_, .f32⟩
  | 14 => ⟨S4096, .f32⟩
  | 15 => ⟨S4096x1024, .f32⟩
  | 16 => ⟨S1024x4096, .f32⟩
  | 17 => ⟨S4096x1024, .f32⟩
  | 18 => ⟨S1024x4096, .f32⟩
  | 19 => ⟨S4096x1024, .f32⟩
  | 20 => ⟨S8x512x1024, .f32⟩
  | 21 => ⟨S4096x1024, .f32⟩
  | 22 => ⟨S8x512x1024, .f32⟩
  | 23 => ⟨S8x1024x1024, .f32⟩
  | 24 => ⟨S8x1024x1024, .bf16⟩
  | 25 => ⟨S8x1x512, .f32⟩
  | 26 => ⟨S_, .f32⟩
  | 27 => ⟨S8x7x512, .f32⟩
  | 28 => ⟨S8x8x512, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_2 : Ref sig .tc := ⟨.hbm, 49, rfl⟩
abbrev main_v32 : Ref sig .tc := ⟨.hbm, 50, rfl⟩
abbrev main_v33 : Ref sig .tc := ⟨.hbm, 51, rfl⟩
abbrev main_cst_3 : Ref sig .tc := ⟨.hbm, 52, rfl⟩
abbrev main_v34 : Ref sig .tc := ⟨.hbm, 53, rfl⟩
abbrev main_v35 : Ref sig .tc := ⟨.hbm, 54, rfl⟩
abbrev main_cst_4 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_5 : Ref sig .tc := ⟨.hbm, 77, rfl⟩
abbrev main_v57 : Ref sig .tc := ⟨.hbm, 78, rfl⟩
abbrev main_v58 : Ref sig .tc := ⟨.hbm, 79, rfl⟩
abbrev main_cst_6 : Ref sig .tc := ⟨.hbm, 80, rfl⟩
abbrev main_v59 : Ref sig .tc := ⟨.hbm, 81, rfl⟩
abbrev main_v60 : Ref sig .tc := ⟨.hbm, 82, rfl⟩
abbrev main_cst_7 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_8 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_9 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_10 : Ref sig .tc := ⟨.hbm, 106, rfl⟩
abbrev main_v81 : Ref sig .tc := ⟨.hbm, 107, rfl⟩
abbrev main_v82 : Ref sig .tc := ⟨.hbm, 108, rfl⟩
abbrev main_cst_11 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_cst_12 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_13 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_cst_14 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_cst_15 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_cst_16 : Ref sig .tc := ⟨.hbm, 138, rfl⟩
abbrev main_v107 : Ref sig .tc := ⟨.hbm, 139, rfl⟩
abbrev main_v108 : Ref sig .tc := ⟨.hbm, 140, rfl⟩
abbrev main_cst_17 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_cst_18 : Ref sig .tc := ⟨.hbm, 154, rfl⟩
abbrev main_v121 : Ref sig .tc := ⟨.hbm, 155, rfl⟩
abbrev main_v122 : Ref sig .tc := ⟨.hbm, 156, rfl⟩

abbrev nD : Nat := 1
abbrev τ : Topo := Topo.v7x

variable {F : FTy → Type} [FloatOps F]
-- ==== Kernel4.lean ====
abbrev S4096x1024 : Shape := ⟨2, ![4096, 1024]⟩
abbrev S4096x4096 : Shape := ⟨2, ![4096, 4096]⟩
abbrev S1024 : Shape := ⟨1, ![1024]⟩
abbrev S4096x512 : Shape := ⟨2, ![4096, 512]⟩
abbrev S1024x4096 : Shape := ⟨2, ![1024, 4096]⟩
abbrev S4x512x1024 : Shape := ⟨3, ![4, 512, 1024]⟩
abbrev S4096 : Shape := ⟨1, ![4096]⟩
abbrev S1024x1024 : Shape := ⟨2, ![1024, 1024]⟩
abbrev S_ : Shape := ⟨0, ![]⟩
abbrev S4096x1 : Shape := ⟨2, ![4096, 1]⟩
abbrev S1x1024 : Shape := ⟨2, ![1, 1024]⟩
abbrev S1x512x1024 : Shape := ⟨3, ![1, 512, 1024]⟩
abbrev S512x1024 : Shape := ⟨2, ![512, 1024]⟩
abbrev S1x4096 : Shape := ⟨2, ![1, 4096]⟩
abbrev S4096x4x1024 : Shape := ⟨3, ![4096, 4, 1024]⟩
abbrev S4096x1x1024 : Shape := ⟨3, ![4096, 1, 1024]⟩
abbrev S4096x8x512 : Shape := ⟨3, ![4096, 8, 512]⟩
abbrev S8x4096x512 : Shape := ⟨3, ![8, 4096, 512]⟩
abbrev S4x4096x1024 : Shape := ⟨3, ![4, 4096, 1024]⟩
abbrev S8x512x1024 : Shape := ⟨3, ![8, 512, 1024]⟩
abbrev S8x1024x1024 : Shape := ⟨3, ![8, 1024, 1024]⟩
abbrev S2048 : Shape := ⟨1, ![2048]⟩
abbrev S13824 : Shape := ⟨1, ![13824]⟩
abbrev S16896 : Shape := ⟨1, ![16896]⟩
abbrev S1x16896 : Shape := ⟨2, ![1, 16896]⟩
abbrev S8x1024 : Shape := ⟨2, ![8, 1024]⟩
abbrev S1x1024x512 : Shape := ⟨3, ![1, 1024, 512]⟩
abbrev S1x1024x1024 : Shape := ⟨3, ![1, 1024, 1024]⟩
abbrev S1024x512 : Shape := ⟨2, ![1024, 512]⟩
abbrev S1024x1 : Shape := ⟨2, ![1024, 1]⟩

abbrev nBuf : Space → Nat
  | .hbm => 163
  | .vmem => 15
  | .smem => 0
  | _ => 0

abbrev hbmTy0_0 (i : Nat) : BufTy := match i % 128 with
  | 0 => ⟨S4096x1024, .f32⟩
  | 1 => ⟨S4096x4096, .f32⟩
  | 2 => ⟨S4096x1024, .f32⟩
  | 3 => ⟨S1024, .f32⟩
  | 4 => ⟨S4096x512, .f32⟩
  | 5 => ⟨S4096x512, .f32⟩
  | 6 => ⟨S4096x512, .f32⟩
  | 7 => ⟨S4096x512, .f32⟩
  | 8 => ⟨S1024x4096, .f32⟩
  | 9 => ⟨S4x512x1024, .f32⟩
  | 10 => ⟨S1024x4096, .f32⟩
  | 11 => ⟨S4096, .f32⟩
  | 12 => ⟨S1024x1024, .f32⟩
  | 13 => ⟨S1024, .f32⟩
  | 14 => ⟨S4096x1024, .f32⟩
  | 15 => ⟨S_, .f32⟩
  | 16 => ⟨S4096, .f32⟩
  | 17 => ⟨S4096x1, .f32⟩
  | 18 => ⟨S_, .f32⟩
  | 19 => ⟨S4096x1, .f32⟩
  | 20 => ⟨S4096x1, .f32⟩
  | 21 => ⟨S_, .f32⟩
  | 22 => ⟨S4096x1, .f32⟩
  | 23 => ⟨S4096x1, .f32⟩
  | 24 => ⟨S4096x1, .f32⟩
  | 25 => ⟨S4096x1024, .f32⟩
  | 26 => ⟨S4096x1024, .f32⟩
  | 27 => ⟨S1x1024, .f32⟩
  | 28 => ⟨S4096x1024, .f32⟩
  | 29 => ⟨S4096x1024, .f32⟩
  | 30 => ⟨S1x512x1024, .f32⟩
  | 31 => ⟨S512x1024, .f32⟩
  | 32 => ⟨S4096x1024, .f32⟩
  | 33 => ⟨S1x512x1024, .f32⟩
  | 34 => ⟨S512x1024, .f32⟩
  | 35 => ⟨S4096x1024, .f32⟩
  | 36 => ⟨S1x512x1024, .f32⟩
  | 37 => ⟨S512x1024, .f32⟩
  | 38 => ⟨S4096x1024, .f32⟩
  | 39 => ⟨S1x512x1024, .f32⟩
  | 40 => ⟨S512x1024, .f32⟩
  | 41 => ⟨S4096x1024, .f32⟩
  | 42 => ⟨S4096x4096, .f32⟩
  | 43 => ⟨S1x4096, .f32⟩
  | 44 => ⟨S4096x4096, .f32⟩
  | 45 => ⟨S4096x4096, .f32⟩
  | 46 => ⟨S4096x4096, .f32⟩
  | 47 => ⟨S4096x4096, .f32⟩
  | 48 => ⟨S_, .f32⟩
  | 49 => ⟨S4096x4096, .f32⟩
  | 50 => ⟨S4096x4096, .f32⟩
  | 51 => ⟨S_, .f32⟩
  | 52 => ⟨S4096x4096, .f32⟩
  | 53 => ⟨S4096x4096, .f32⟩
  | 54 => ⟨S_, .f32⟩
  | 55 => ⟨S4096x4096, .f32⟩
  | 56 => ⟨S4096x4096, .f32⟩
  | 57 => ⟨S4096x4096, .f32⟩
  | 58 => ⟨S4096x4x1024, .f32⟩
  | 59 => ⟨S4096x1x1024, .f32⟩
  | 60 => ⟨S4096x1024, .f32⟩
  | 61 => ⟨S4096x1024, .f32⟩
  | 62 => ⟨S4096x1x1024, .f32⟩
  | 63 => ⟨S4096x1024, .f32⟩
  | 64 => ⟨S4096x1024, .f32⟩
  | 65 => ⟨S4096x1024, .f32⟩
  | 66 => ⟨S4096x1x1024, .f32⟩
  | 67 => ⟨S4096x1024, .f32⟩
  | 68 => ⟨S4096x1024, .f32⟩
  | 69 => ⟨S4096x1024, .f32⟩
  | 70 => ⟨S4096x1x1024, .f32⟩
  | 71 => ⟨S4096x1024, .f32⟩
  | 72 => ⟨S4096x1024, .f32⟩
  | 73 => ⟨S4096x1024, .f32⟩
  | 74 => ⟨S4096x1024, .f32⟩
  | 75 => ⟨S4096x1024, .f32⟩
  | 76 => ⟨S_, .f32⟩
  | 77 => ⟨S4096, .f32⟩
  | 78 => ⟨S4096x1, .f32⟩
  | 79 => ⟨S_, .f32⟩
  | 80 => ⟨S4096x1, .f32⟩
  | 81 => ⟨S4096x1, .f32⟩
  | 82 => ⟨S_, .f32⟩
  | 83 => ⟨S4096x1, .f32⟩
  | 84 => ⟨S4096x1, .f32⟩
  | 85 => ⟨S4096x1, .f32⟩
  | 86 => ⟨S4096x1, .f32⟩
  | 87 => ⟨S_, .f32⟩
  | 88 => ⟨S4096x1, .f32⟩
  | 89 => ⟨S4096x1, .f32⟩
  | 90 => ⟨S4096x1024, .f32⟩
  | 91 => ⟨S4096x1024, .f32⟩
  | 92 => ⟨S1x1024, .f32⟩
  | 93 => ⟨S4096x1024, .f32⟩
  | 94 => ⟨S4096x1024, .f32⟩
  | 95 => ⟨S4096x1024, .f32⟩
  | 96 => ⟨S_, .f32⟩
  | 97 => ⟨S1024, .f32⟩
  | 98 => ⟨S1x1024, .f32⟩
  | 99 => ⟨S4096x1024, .f32⟩
  | 100 => ⟨S4096x1024, .f32⟩
  | 101 => ⟨S_, .f32⟩
  | 102 => ⟨S1024, .f32⟩
  | 103 => ⟨S4096x1024, .f32⟩
  | 104 => ⟨S_, .f32⟩
  | 105 => ⟨S4096, .f32⟩
  | 106 => ⟨S4096x1, .f32⟩
  | 107 => ⟨S4096x1024, .f32⟩
  | 108 => ⟨S4096x1024, .f32⟩
  | 109 => ⟨S4096x1, .f32⟩
  | 110 => ⟨S_, .f32⟩
  | 111 => ⟨S4096x1, .f32⟩
  | 112 => ⟨S4096x1, .f32⟩
  | 113 => ⟨S_, .f32⟩
  | 114 => ⟨S4096, .f32⟩
  | 115 => ⟨S4096x1024, .f32⟩
  | 116 => ⟨S4096x1024, .f32⟩
  | 117 => ⟨S4096x1024, .f32⟩
  | 118 => ⟨S4096x1024, .f32⟩
  | 119 => ⟨S4096x1024, .f32⟩
  | 120 => ⟨S4096x1024, .f32⟩
  | 121 => ⟨S4096x1024, .f32⟩
  | 122 => ⟨S4096x1x1024, .f32⟩
  | 123 => ⟨S_, .f32⟩
  | 124 => ⟨S4096x4x1024, .f32⟩
  | 125 => ⟨S4096x1024, .f32⟩
  | 126 => ⟨S4096x1x1024, .f32⟩
  | 127 => ⟨S_, .f32⟩
  | _ => ⟨S4096x1024, .f32⟩

abbrev hbmTy0_1 (i : Nat) : BufTy := match i % 128 with
  | 0 => ⟨S4096x4x1024, .f32⟩
  | 1 => ⟨S4096x4x1024, .f32⟩
  | 2 => ⟨S4096x1024, .f32⟩
  | 3 => ⟨S4096x1x1024, .f32⟩
  | 4 => ⟨S_, .f32⟩
  | 5 => ⟨S4096x4x1024, .f32⟩
  | 6 => ⟨S4096x4x1024, .f32⟩
  | 7 => ⟨S4096x1024, .f32⟩
  | 8 => ⟨S4096x1x1024, .f32⟩
  | 9 => ⟨S_, .f32⟩
  | 10 => ⟨S4096x4x1024, .f32⟩
  | 11 => ⟨S4096x4x1024, .f32⟩
  | 12 => ⟨S4096x4096, .f32⟩
  | 13 => ⟨S4096x4096, .f32⟩
  | 14 => ⟨S4096x1024, .bf16⟩
  | 15 => ⟨S4096x8x512, .f32⟩
  | 16 => ⟨S8x4096x512, .f32⟩
  | 17 => ⟨S8x4096x512, .bf16⟩
  | 18 => ⟨S4096x4x1024, .f32⟩
  | 19 => ⟨S4x4096x1024, .f32⟩
  | 20 => ⟨S4x4096x1024, .bf16⟩
  | 21 => ⟨S4096x1024, .f32⟩
  | 22 => ⟨S8x512x1024, .f32⟩
  | 23 => ⟨S4096x1024, .f32⟩
  | 24 => ⟨S8x512x1024, .f32⟩
  | 25 => ⟨S8x1024x1024, .f32⟩
  | 26 => ⟨S8x1024x1024, .bf16⟩
  | 27 => ⟨S_, .f32⟩
  | 28 => ⟨S2048, .f32⟩
  | 29 => ⟨S_, .f32⟩
  | 30 => ⟨S13824, .f32⟩
  | 31 => ⟨S16896, .f32⟩
  | 32 => ⟨S1x16896, .f32⟩
  | 33 => ⟨S4096x1024, .f32⟩
  | 34 => ⟨S8x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1x1024x1024, .bf16⟩
  | .local _ .vmem, ⟨10, _⟩ => ⟨S1x1024x1024, .bf16⟩
  | .local _ .vmem, ⟨11, _⟩ => ⟨S1024x1024, .f32⟩
  | .local _ .vmem, ⟨12, _⟩ => ⟨S1024x1024, .f32⟩
  | .local _ .vmem, ⟨13, _⟩ => ⟨S8x1024, .f32⟩
  | .local _ .vmem, ⟨14, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_cst : Ref sig .tc := ⟨.hbm, 15, rfl⟩
abbrev main_call0_v1 : Ref sig .tc := ⟨.hbm, 16, rfl⟩
abbrev main_call0_v2 : Ref sig .tc := ⟨.hbm, 17, rfl⟩
abbrev main_call0_cst_0 : Ref sig .tc := ⟨.hbm, 18, rfl⟩
abbrev main_call0_v3 : Ref sig .tc := ⟨.hbm, 19, rfl⟩
abbrev main_call0_v4 : Ref sig .tc := ⟨.hbm, 20, rfl⟩
abbrev main_call0_cst_1 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_v15 : Ref sig .tc := ⟨.hbm, 32, rfl⟩
abbrev main_call0_v16 : Ref sig .tc := ⟨.hbm, 33, rfl⟩
abbrev main_call0_v17 : Ref sig .tc := ⟨.hbm, 34, rfl⟩
abbrev main_call0_v18 : Ref sig .tc := ⟨.hbm, 35, rfl⟩
abbrev main_call0_v19 : Ref sig .tc := ⟨.hbm, 36, rfl⟩
abbrev main_call0_v20 : Ref sig .tc := ⟨.hbm, 37, rfl⟩
abbrev main_call0_v21 : Ref sig .tc := ⟨.hbm, 38, rfl⟩
abbrev main_call0_v22 : Ref sig .tc := ⟨.hbm, 39, rfl⟩
abbrev main_call0_v23 : Ref sig .tc := ⟨.hbm, 40, rfl⟩
abbrev main_call0_v24 : Ref sig .tc := ⟨.hbm, 41, rfl⟩
abbrev main_call0_v25 : Ref sig .tc := ⟨.hbm, 42, rfl⟩
abbrev main_call0_v26 : Ref sig .tc := ⟨.hbm, 43, rfl⟩
abbrev main_call0_v27 : Ref sig .tc := ⟨.hbm, 44, rfl⟩
abbrev main_call0_v28 : Ref sig .tc := ⟨.hbm, 45, rfl⟩
abbrev main_call0_v29 : Ref sig .tc := ⟨.hbm, 46, rfl⟩
abbrev main_call0_v30 : Ref sig .tc := ⟨.hbm, 47, rfl⟩
abbrev main_call0_cst_2 : Ref sig .tc := ⟨.hbm, 48, rfl⟩
abbrev main_call0_v31 : Ref sig .tc := ⟨.hbm, 49, rfl⟩
abbrev main_call0_v32 : Ref sig .tc := ⟨.hbm, 50, rfl⟩
abbrev main_call0_cst_3 : Ref sig .tc := ⟨.hbm, 51, rfl⟩
abbrev main_call0_v33 : Ref sig .tc := ⟨.hbm, 52, rfl⟩
abbrev main_call0_v34 : Ref sig .tc := ⟨.hbm, 53, rfl⟩
abbrev main_call0_cst_4 : Ref sig .tc := ⟨.hbm, 54, rfl⟩
abbrev main_call0_v35 : Ref sig .tc := ⟨.hbm, 55, rfl⟩
abbrev main_call0_v36 : Ref sig .tc := ⟨.hbm, 56, rfl⟩
abbrev main_call0_v37 : Ref sig .tc := ⟨.hbm, 57, rfl⟩
abbrev main_call0_v38 : Ref sig .tc := ⟨.hbm, 58, rfl⟩
abbrev main_call0_v39 : Ref sig .tc := ⟨.hbm, 59, rfl⟩
abbrev main_call0_v40 : Ref sig .tc := ⟨.hbm, 60, rfl⟩
abbrev main_call0_v41 : Ref sig .tc := ⟨.hbm, 61, rfl⟩
abbrev main_call0_v42 : Ref sig .tc := ⟨.hbm, 62, rfl⟩
abbrev main_call0_v43 : Ref sig .tc := ⟨.hbm, 63, rfl⟩
abbrev main_call0_v44 : Ref sig .tc := ⟨.hbm, 64, rfl⟩
abbrev main_call0_v45 : Ref sig .tc := ⟨.hbm, 65, rfl⟩
abbrev main_call0_v46 : Ref sig .tc := ⟨.hbm, 66, rfl⟩
abbrev main_call0_v47 : Ref sig .tc := ⟨.hbm, 67, rfl⟩
abbrev main_call0_v48 : Ref sig .tc := ⟨.hbm, 68, rfl⟩
abbrev main_call0_v49 : Ref sig .tc := ⟨.hbm, 69, rfl⟩
abbrev main_call0_v50 : Ref sig .tc := ⟨.hbm, 70, rfl⟩
abbrev main_call0_v51 : Ref sig .tc := ⟨.hbm, 71, rfl⟩
abbrev main_call0_v52 : Ref sig .tc := ⟨.hbm, 72, rfl⟩
abbrev main_call0_v53 : Ref sig .tc := ⟨.hbm, 73, rfl⟩
abbrev main_call0_v54 : Ref sig .tc := ⟨.hbm, 74, rfl⟩
abbrev main_call0_v55 : Ref sig .tc := ⟨.hbm, 75, rfl⟩
abbrev main_call0_cst_5 : Ref sig .tc := ⟨.hbm, 76, rfl⟩
abbrev main_call0_v56 : Ref sig .tc := ⟨.hbm, 77, rfl⟩
abbrev main_call0_v57 : Ref sig .tc := ⟨.hbm, 78, rfl⟩
abbrev main_call0_cst_6 : Ref sig .tc := ⟨.hbm, 79, rfl⟩
abbrev main_call0_v58 : Ref sig .tc := ⟨.hbm, 80, rfl⟩
abbrev main_call0_v59 : Ref sig .tc := ⟨.hbm, 81, rfl⟩
abbrev main_call0_cst_7 : Ref sig .tc := ⟨.hbm, 82, rfl⟩
abbrev main_call0_v60 : Ref sig .tc := ⟨.hbm, 83, rfl⟩
abbrev main_call0_v61 : Ref sig .tc := ⟨.hbm, 84, rfl⟩
abbrev main_call0_v62 : Ref sig .tc := ⟨.hbm, 85, rfl⟩
abbrev main_call0_v63 : Ref sig .tc := ⟨.hbm, 86, rfl⟩
abbrev main_call0_cst_8 : Ref sig .tc := ⟨.hbm, 87, rfl⟩
abbrev main_call0_v64 : Ref sig .tc := ⟨.hbm, 88, rfl⟩
abbrev main_call0_v65 : Ref sig .tc := ⟨.hbm, 89, rfl⟩
abbrev main_call0_v66 : Ref sig .tc := ⟨.hbm, 90, rfl⟩
abbrev main_call0_v67 : Ref sig .tc := ⟨.hbm, 91, rfl⟩
abbrev main_call0_v68 : Ref sig .tc := ⟨.hbm, 92, rfl⟩
abbrev main_call0_v69 : Ref sig .tc := ⟨.hbm, 93, rfl⟩
abbrev main_call0_v70 : Ref sig .tc := ⟨.hbm, 94, rfl⟩
abbrev main_call0_v71 : Ref sig .tc := ⟨.hbm, 95, rfl⟩
abbrev main_call0_cst_9 : Ref sig .tc := ⟨.hbm, 96, rfl⟩
abbrev main_call0_v72 : Ref sig .tc := ⟨.hbm, 97, rfl⟩
abbrev main_call0_v73 : Ref sig .tc := ⟨.hbm, 98, rfl⟩
abbrev main_call0_v74 : Ref sig .tc := ⟨.hbm, 99, rfl⟩
abbrev main_call0_v75 : Ref sig .tc := ⟨.hbm, 100, rfl⟩
abbrev main_call0_cst_10 : Ref sig .tc := ⟨.hbm, 101, rfl⟩
abbrev main_call0_v76 : Ref sig .tc := ⟨.hbm, 102, rfl⟩
abbrev main_call0_v77 : Ref sig .tc := ⟨.hbm, 103, rfl⟩
abbrev main_call0_cst_11 : Ref sig .tc := ⟨.hbm, 104, rfl⟩
abbrev main_call0_v78 : Ref sig .tc := ⟨.hbm, 105, rfl⟩
abbrev main_call0_v79 : Ref sig .tc := ⟨.hbm, 106, rfl⟩
abbrev main_call0_v80 : Ref sig .tc := ⟨.hbm, 107, rfl⟩
abbrev main_call0_v81 : Ref sig .tc := ⟨.hbm, 108, rfl⟩
abbrev main_call0_v82 : Ref sig .tc := ⟨.hbm, 109, rfl⟩
abbrev main_call0_cst_12 : Ref sig .tc := ⟨.hbm, 110, rfl⟩
abbrev main_call0_v83 : Ref sig .tc := ⟨.hbm, 111, rfl⟩
abbrev main_call0_v84 : Ref sig .tc := ⟨.hbm, 112, rfl⟩
abbrev main_call0_cst_13 : Ref sig .tc := ⟨.hbm, 113, rfl⟩
abbrev main_call0_v85 : Ref sig .tc := ⟨.hbm, 114, rfl⟩
abbrev main_call0_v86 : Ref sig .tc := ⟨.hbm, 115, rfl⟩
abbrev main_call0_v87 : Ref sig .tc := ⟨.hbm, 116, rfl⟩
abbrev main_call0_v88 : Ref sig .tc := ⟨.hbm, 117, rfl⟩
abbrev main_call0_v89 : Ref sig .tc := ⟨.hbm, 118, rfl⟩
abbrev main_call0_v90 : Ref sig .tc := ⟨.hbm, 119, rfl⟩
abbrev main_call0_v91 : Ref sig .tc := ⟨.hbm, 120, rfl⟩
abbrev main_call0_v92 : Ref sig .tc := ⟨.hbm, 121, rfl⟩
abbrev main_call0_v93 : Ref sig .tc := ⟨.hbm, 122, rfl⟩
abbrev main_call0_cst_14 : Ref sig .tc := ⟨.hbm, 123, rfl⟩
abbrev main_call0_v94 : Ref sig .tc := ⟨.hbm, 124, rfl⟩
abbrev main_call0_v95 : Ref sig .tc := ⟨.hbm, 125, rfl⟩
abbrev main_call0_v96 : Ref sig .tc := ⟨.hbm, 126, rfl⟩
abbrev main_call0_cst_15 : Ref sig .tc := ⟨.hbm, 127, rfl⟩
abbrev main_call0_v97 : Ref sig .tc := ⟨.hbm, 128, rfl⟩
abbrev main_call0_v98 : Ref sig .tc := ⟨.hbm, 129, rfl⟩
abbrev main_call0_v99 : Ref sig .tc := ⟨.hbm, 130, rfl⟩
abbrev main_call0_v100 : Ref sig .tc := ⟨.hbm, 131, rfl⟩
abbrev main_call0_cst_16 : Ref sig .tc := ⟨.hbm, 132, rfl⟩
abbrev main_call0_v101 : Ref sig .tc := ⟨.hbm, 133, rfl⟩
abbrev main_call0_v102 : Ref sig .tc := ⟨.hbm, 134, rfl⟩
abbrev main_call0_v103 : Ref sig .tc := ⟨.hbm, 135, rfl⟩
abbrev main_call0_v104 : Ref sig .tc := ⟨.hbm, 136, rfl⟩
abbrev main_call0_cst_17 : Ref sig .tc := ⟨.hbm, 137, rfl⟩
abbrev main_call0_v105 : Ref sig .tc := ⟨.hbm, 138, rfl⟩
abbrev main_call0_v106 : Ref sig .tc := ⟨.hbm, 139, rfl⟩
abbrev main_call0_v107 : Ref sig .tc := ⟨.hbm, 140, rfl⟩
abbrev main_call0_v108 : Ref sig .tc := ⟨.hbm, 141, rfl⟩
abbrev main_v0_0 : Ref sig .tc := ⟨.hbm, 142, rfl⟩
abbrev main_call0_v110 : Ref sig .tc := ⟨.hbm, 143, rfl⟩
abbrev main_call0_v111 : Ref sig .tc := ⟨.hbm, 144, rfl⟩
abbrev main_v0_1 : Ref sig .tc := ⟨.hbm, 145, rfl⟩
abbrev main_call0_v113 : Ref sig .tc := ⟨.hbm, 146, rfl⟩
abbrev main_call0_v114 : Ref sig .tc := ⟨.hbm, 147, rfl⟩
abbrev main_v0_2 : Ref sig .tc := ⟨.hbm, 148, rfl⟩
abbrev main_v1 : Ref sig .tc := ⟨.hbm, 149, rfl⟩
abbrev main_v2 : Ref sig .tc := ⟨.hbm, 150, rfl⟩
abbrev main_v3 : Ref sig .tc := ⟨.hbm, 151, rfl⟩
abbrev main_v4 : Ref sig .tc := ⟨.hbm, 152, rfl⟩
abbrev main_v5 : Ref sig .tc := ⟨.hbm, 153, rfl⟩
abbrev main_v6 : Ref sig .tc := ⟨.hbm, 154, rfl⟩
abbrev main_cst : Ref sig .tc := ⟨.hbm, 155, rfl⟩
abbrev main_v7 : Ref sig .tc := ⟨.hbm, 156, rfl⟩
abbrev main_cst_0 : Ref sig .tc := ⟨.hbm, 157, rfl⟩
abbrev main_v8 : Ref sig .tc := ⟨.hbm, 158, rfl⟩
abbrev main_v9 : Ref sig .tc := ⟨.hbm, 159, rfl⟩
abbrev main_v10 : Ref sig .tc := ⟨.hbm, 160, rfl⟩
abbrev main_v11_0 : Ref sig .tc := ⟨.hbm, 161, rfl⟩
abbrev main_v11_1 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![4, 8], ![false, false]⟩

def k0_cond3 (i : grid0.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_16 : BitVec 32 := 0#32
  let v23 : BitVec 1 := Scalar.cmpi .ne v22 c0_i32_16
  v23

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, c2_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference4Ideal.lean ====
abbrev S4096x1024 : Shape := ⟨2, ![4096, 1024]⟩
abbrev S4096x4096 : Shape := ⟨2, ![4096, 4096]⟩
abbrev S1024 : Shape := ⟨1, ![1024]⟩
abbrev S4096x512 : Shape := ⟨2, ![4096, 512]⟩
abbrev S1024x4096 : Shape := ⟨2, ![1024, 4096]⟩
abbrev S4x512x1024 : Shape := ⟨3, ![4, 512, 1024]⟩
abbrev S4096 : Shape := ⟨1, ![4096]⟩
abbrev S1024x1024 : Shape := ⟨2, ![1024, 1024]⟩
abbrev S1x512x1024 : Shape := ⟨3, ![1, 512, 1024]⟩
abbrev S512x1024 : Shape := ⟨2, ![512, 1024]⟩
abbrev S_ : Shape := ⟨0, ![]⟩
abbrev S4096x1 : Shape := ⟨2, ![4096, 1]⟩
abbrev S1x1024 : Shape := ⟨2, ![1, 1024]⟩
abbrev S1x4096 : Shape := ⟨2, ![1, 4096]⟩
abbrev S4096x4x1024 : Shape := ⟨3, ![4096, 4, 1024]⟩
abbrev S4096x1x1024 : Shape := ⟨3, ![4096, 1, 1024]⟩
abbrev S7x1024 : Shape := ⟨2, ![7, 1024]⟩
abbrev S8x1024 : Shape := ⟨2, ![8, 1024]⟩

abbrev nBuf : Space → Nat
  | .hbm => 176
  | .vmem => 0
  | .smem => 0
  | _ => 0

abbrev hbmTy0_0 (i : Nat) : BufTy := match i % 128 with
  | 0 => ⟨S4096x1024, .f32⟩
  | 1 => ⟨S4096x4096, .f32⟩
  | 2 => ⟨S4096x1024, .f32⟩
  | 3 => ⟨S1024, .f32⟩
  | 4 => ⟨S4096x512, .f32⟩
  | 5 => ⟨S4096x512, .f32⟩
  | 6 => ⟨S4096x512, .f32⟩
  | 7 => ⟨S4096x512, .f32⟩
  | 8 => ⟨S1024x4096, .f32⟩
  | 9 => ⟨S4x512x1024, .f32⟩
  | 10 => ⟨S1024x4096, .f32⟩
  | 11 => ⟨S4096, .f32⟩
  | 12 => ⟨S1024x1024, .f32⟩
  | 13 => ⟨S1024, .f32⟩
  | 14 => ⟨S1x512x1024, .f32⟩
  | 15 => ⟨S512x1024, .f32⟩
  | 16 => ⟨S4096x1024, .f32⟩
  | 17 => ⟨S1x512x1024, .f32⟩
  | 18 => ⟨S512x1024, .f32⟩
  | 19 => ⟨S4096x1024, .f32⟩
  | 20 => ⟨S1x512x1024, .f32⟩
  | 21 => ⟨S512x1024, .f32⟩
  | 22 => ⟨S4096x1024, .f32⟩
  | 23 => ⟨S1x512x1024, .f32⟩
  | 24 => ⟨S512x1024, .f32⟩
  | 25 => ⟨S4096x1024, .f32⟩
  | 26 => ⟨S4096x1024, .f32⟩
  | 27 => ⟨S_, .f32⟩
  | 28 => ⟨S4096, .f32⟩
  | 29 => ⟨S4096x1, .f32⟩
  | 30 => ⟨S_, .f32⟩
  | 31 => ⟨S4096x1, .f32⟩
  | 32 => ⟨S4096x1, .f32⟩
  | 33 => ⟨S_, .f32⟩
  | 34 => ⟨S4096x1, .f32⟩
  | 35 => ⟨S4096x1, .f32⟩
  | 36 => ⟨S4096x1, .f32⟩
  | 37 => ⟨S4096x1, .f32⟩
  | 38 => ⟨S_, .f32⟩
  | 39 => ⟨S4096x1, .f32⟩
  | 40 => ⟨S4096x1, .f32⟩
  | 41 => ⟨S4096x1024, .f32⟩
  | 42 => ⟨S4096x1024, .f32⟩
  | 43 => ⟨S1x1024, .f32⟩
  | 44 => ⟨S4096x1024, .f32⟩
  | 45 => ⟨S4096x1024, .f32⟩
  | 46 => ⟨S4096x4096, .f32⟩
  | 47 => ⟨S4096x4096, .f32⟩
  | 48 => ⟨S1x4096, .f32⟩
  | 49 => ⟨S4096x4096, .f32⟩
  | 50 => ⟨S4096x4096, .f32⟩
  | 51 => ⟨S4096x4096, .f32⟩
  | 52 => ⟨S4096x4096, .f32⟩
  | 53 => ⟨S_, .f32⟩
  | 54 => ⟨S4096x4096, .f32⟩
  | 55 => ⟨S4096x4096, .f32⟩
  | 56 => ⟨S_, .f32⟩
  | 57 => ⟨S4096x4096, .f32⟩
  | 58 => ⟨S4096x4096, .f32⟩
  | 59 => ⟨S_, .f32⟩
  | 60 => ⟨S4096x4096, .f32⟩
  | 61 => ⟨S4096x4096, .f32⟩
  | 62 => ⟨S4096x4096, .f32⟩
  | 63 => ⟨S4096x4x1024, .f32⟩
  | 64 => ⟨S4096x1x1024, .f32⟩
  | 65 => ⟨S4096x1024, .f32⟩
  | 66 => ⟨S4096x1024, .f32⟩
  | 67 => ⟨S4096x1x1024, .f32⟩
  | 68 => ⟨S4096x1024, .f32⟩
  | 69 => ⟨S4096x1024, .f32⟩
  | 70 => ⟨S4096x1024, .f32⟩
  | 71 => ⟨S4096x1x1024, .f32⟩
  | 72 => ⟨S4096x1024, .f32⟩
  | 73 => ⟨S4096x1024, .f32⟩
  | 74 => ⟨S4096x1024, .f32⟩
  | 75 => ⟨S4096x1x1024, .f32⟩
  | 76 => ⟨S4096x1024, .f32⟩
  | 77 => ⟨S4096x1024, .f32⟩
  | 78 => ⟨S4096x1024, .f32⟩
  | 79 => ⟨S4096x1024, .f32⟩
  | 80 => ⟨S4096x1024, .f32⟩
  | 81 => ⟨S_, .f32⟩
  | 82 => ⟨S4096, .f32⟩
  | 83 => ⟨S4096x1, .f32⟩
  | 84 => ⟨S_, .f32⟩
  | 85 => ⟨S4096x1, .f32⟩
  | 86 => ⟨S4096x1, .f32⟩
  | 87 => ⟨S_, .f32⟩
  | 88 => ⟨S4096x1, .f32⟩
  | 89 => ⟨S4096x1, .f32⟩
  | 90 => ⟨S4096x1, .f32⟩
  | 91 => ⟨S4096x1, .f32⟩
  | 92 => ⟨S_, .f32⟩
  | 93 => ⟨S4096x1, .f32⟩
  | 94 => ⟨S4096x1, .f32⟩
  | 95 => ⟨S4096x1024, .f32⟩
  | 96 => ⟨S4096x1024, .f32⟩
  | 97 => ⟨S1x1024, .f32⟩
  | 98 => ⟨S4096x1024, .f32⟩
  | 99 => ⟨S4096x1024, .f32⟩
  | 100 => ⟨S4096x1024, .f32⟩
  | 101 => ⟨S4096x1024, .f32⟩
  | 102 => ⟨S4096x1024, .f32⟩
  | 103 => ⟨S4096x1024, .f32⟩
  | 104 => ⟨S4096x1024, .f32⟩
  | 105 => ⟨S_, .f32⟩
  | 106 => ⟨S4096, .f32⟩
  | 107 => ⟨S4096x1, .f32⟩
  | 108 => ⟨S4096x1024, .f32⟩
  | 109 => ⟨S4096x1024, .f32⟩
  | 110 => ⟨S4096x1, .f32⟩
  | 111 => ⟨S_, .f32⟩
  | 112 => ⟨S4096x1, .f32⟩
  | 113 => ⟨S4096x1, .f32⟩
  | 114 => ⟨S_, .f32⟩
  | 115 => ⟨S4096, .f32⟩
  | 116 => ⟨S4096x1024, .f32⟩
  | 117 => ⟨S4096x1024, .f32⟩
  | 118 => ⟨S4096x1024, .f32⟩
  | 119 => ⟨S4096x1024, .f32⟩
  | 120 => ⟨S4096x1024, .f32⟩
  | 121 => ⟨S4096x1024, .f32⟩
  | 122 => ⟨S4096x1024, .f32⟩
  | 123 => ⟨S4096x1x1024, .f32⟩
  | 124 => ⟨S_, .f32⟩
  | 125 => ⟨S4096x4x1024, .f32⟩
  | 126 => ⟨S4096x1024, .f32⟩
  | 127 => ⟨S4096x1x1024, .f32⟩
  | _ => ⟨S4096x1024, .f32⟩

abbrev hbmTy0_1 (i : Nat) : BufTy := match i % 128 with
  | 0 => ⟨S_, .f32⟩
  | 1 => ⟨S4096x4x1024, .f32⟩
  | 2 => ⟨S4096x4x1024, .f32⟩
  | 3 => ⟨S4096x1024, .f32⟩
  | 4 => ⟨S4096x1x1024, .f32⟩
  | 5 => ⟨S_, .f32⟩
  | 6 => ⟨S4096x4x1024, .f32⟩
  | 7 => ⟨S4096x4x1024, .f32⟩
  | 8 => ⟨S4096x1024, .f32⟩
  | 9 => ⟨S4096x1x1024, .f32⟩
  | 10 => ⟨S_, .f32⟩
  | 11 => ⟨S4096x4x1024, .f32⟩
  | 12 => ⟨S4096x4x1024, .f32⟩
  | 13 => ⟨S4096x4096, .f32⟩
  | 14 => ⟨S4096x4096, .f32⟩
  | 15 => ⟨S4096x1024, .f32⟩
  | 16 => ⟨S4096x1024, .f32⟩
  | 17 => ⟨S4096x1024, .f32⟩
  | 18 => ⟨S4096x1024, .f32⟩
  | 19 => ⟨S_, .f32⟩
  | 20 => ⟨S1024, .f32⟩
  | 21 => ⟨S1x1024, .f32⟩
  | 22 => ⟨S4096x1024, .f32⟩
  | 23 => ⟨S4096x1024, .f32⟩
  | 24 => ⟨S_, .f32⟩
  | 25 => ⟨S1024, .f32⟩
  | 26 => ⟨S4096x1024, .f32⟩
  | 27 => ⟨S_, .f32⟩
  | 28 => ⟨S4096, .f32⟩
  | 29 => ⟨S4096x1, .f32⟩
  | 30 => ⟨S4096x1024, .f32⟩
  | 31 => ⟨S4096x1024, .f32⟩
  | 32 => ⟨S4096x1024, .f32⟩
  | 33 => ⟨S4096x1, .f32⟩
  | 34 => ⟨S_, .f32⟩
  | 35 => ⟨S4096x1, .f32⟩
  | 36 => ⟨S4096x1, .f32⟩
  | 37 => ⟨S_, .f32⟩
  | 38 => ⟨S4096, .f32⟩
  | 39 => ⟨S4096x1024, .f32⟩
  | 40 => ⟨S4096x1024, .f32⟩
  | 41 => ⟨S4096x1024, .f32⟩
  | 42 => ⟨S4096x1024, .f32⟩
  | 43 => ⟨S4096x1024, .f32⟩
  | 44 => ⟨S1x1024, .f32⟩
  | 45 => ⟨S_, .f32⟩
  | 46 => ⟨S7x1024, .f32⟩
  | 47 => ⟨S8x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_3 : Ref sig .tc := ⟨.hbm, 53, rfl⟩
abbrev main_v35 : Ref sig .tc := ⟨.hbm, 54, rfl⟩
abbrev main_v36 : Ref sig .tc := ⟨.hbm, 55, rfl⟩
abbrev main_cst_4 : Ref sig .tc := ⟨.hbm, 56, rfl⟩
abbrev main_v37 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_6 : Ref sig .tc := ⟨.hbm, 81, rfl⟩
abbrev main_v60 : Ref sig .tc := ⟨.hbm, 82, rfl⟩
abbrev main_v61 : Ref sig .tc := ⟨.hbm, 83, rfl⟩
abbrev main_cst_7 : Ref sig .tc := ⟨.hbm, 84, rfl⟩
abbrev main_v62 : Ref sig .tc := ⟨.hbm, 85, rfl⟩
abbrev main_v63 : Ref sig .tc := ⟨.hbm, 86, rfl⟩
abbrev main_cst_8 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_9 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_10 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_11 : Ref sig .tc := ⟨.hbm, 111, rfl⟩
abbrev main_v85 : Ref sig .tc := ⟨.hbm, 112, rfl⟩
abbrev main_v86 : Ref sig .tc := ⟨.hbm, 113, rfl⟩
abbrev main_cst_12 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_cst_13 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_cst_14 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_cst_15 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_cst_16 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_cst_17 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_cst_18 : Ref sig .tc := ⟨.hbm, 152, rfl⟩
abbrev main_v119 : Ref sig .tc := ⟨.hbm, 153, rfl⟩
abbrev main_v120 : Ref sig .tc := ⟨.hbm, 154, rfl⟩
abbrev main_cst_19 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_cst_20 : Ref sig .tc := ⟨.hbm, 162, rfl⟩
abbrev main_v127 : Ref sig .tc := ⟨.hbm, 163, rfl⟩
abbrev main_v128 : Ref sig .tc := ⟨.hbm, 164, rfl⟩
abbrev main_cst_21 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_cst_22 : Ref sig .tc := ⟨.hbm, 173, rfl⟩
abbrev main_v136 : Ref sig .tc := ⟨.hbm, 174, rfl⟩
abbrev main_v137 : Ref sig .tc := ⟨.hbm, 175, rfl⟩

abbrev nD : Nat := 1
abbrev τ : Topo := Topo.v7x

variable {F : FTy → Type} [FloatOps F]
-- ==== Kernel5.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩
abbrev S4096x4x704 : Shape := ⟨3, ![4096, 4, 704]⟩
abbrev S4x4096x704 : Shape := ⟨3, ![4, 4096, 704]⟩
abbrev S8x352x1024 : Shape := ⟨3, ![8, 352, 1024]⟩
abbrev S8x1056x1024 : Shape := ⟨3, ![8, 1056, 1024]⟩
abbrev S0 : Shape := ⟨1, ![0]⟩
abbrev S14848 : Shape := ⟨1, ![14848]⟩
abbrev S16896 : Shape := ⟨1, ![16896]⟩
abbrev S1x16896 : Shape := ⟨2, ![1, 16896]⟩
abbrev S8x128 : Shape := ⟨2, ![8, 128]⟩
abbrev S8x1024 : Shape := ⟨2, ![8, 1024]⟩
abbrev S512x1024 : Shape := ⟨2, ![512, 1024]⟩
abbrev S1x512x704 : Shape := ⟨3, ![1, 512, 704]⟩
abbrev S2x352x1024 : Shape := ⟨3, ![2, 352, 1024]⟩
abbrev S512 : Shape := ⟨1, ![512]⟩
abbrev S512x1 : Shape := ⟨2, ![512, 1]⟩
abbrev S512x704 : Shape := ⟨2, ![512, 704]⟩
abbrev S704x1024 : Shape := ⟨2, ![704, 1024]⟩

abbrev nBuf : Space → Nat
  | .hbm => 63
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x1024, .f32⟩
  | .hbm, ⟨36, _⟩ => ⟨S4096x1024, .bf16⟩
  | .hbm, ⟨37, _⟩ => ⟨S4096x4x704, .f32⟩
  | .hbm, ⟨38, _⟩ => ⟨S4x4096x704, .f32⟩
  | .hbm, ⟨39, _⟩ => ⟨S4x4096x704, .bf16⟩
  | .hbm, ⟨40, _⟩ => ⟨S4096x4x704, .f32⟩
  | .hbm, ⟨41, _⟩ => ⟨S4x4096x704, .f32⟩
  | .hbm, ⟨42, _⟩ => ⟨S4x4096x704, .bf16⟩
  | .hbm, ⟨43, _⟩ => ⟨S2816x1024, .f32⟩
  | .hbm, ⟨44, _⟩ => ⟨S2816x1024, .f32⟩
  | .hbm, ⟨45, _⟩ => ⟨S8x352x1024, .f32⟩
  | .hbm, ⟨46, _⟩ => ⟨S8x352x1024, .f32⟩
  | .hbm, ⟨47, _⟩ => ⟨S8x352x1024, .f32⟩
  | .hbm, ⟨48, _⟩ => ⟨S8x1056x1024, .f32⟩
  | .hbm, ⟨49, _⟩ => ⟨S8x1056x1024, .bf16⟩
  | .hbm, ⟨50, _⟩ => ⟨S_, .f32⟩
  | .hbm, ⟨51, _⟩ => ⟨S0, .f32⟩
  | .hbm, ⟨52, _⟩ => ⟨S_, .f32⟩
  | .hbm, ⟨53, _⟩ => ⟨S14848, .f32⟩
  | .hbm, ⟨54, _⟩ => ⟨S16896, .f32⟩
  | .hbm, ⟨55, _⟩ => ⟨S1x16896, .f32⟩
  | .hbm, ⟨56, _⟩ => ⟨S_, .f32⟩
  | .hbm, ⟨57, _⟩ => ⟨S8x128, .f32⟩
  | .hbm, ⟨58, _⟩ => ⟨S4096x1024, .f32⟩
  | .hbm, ⟨59, _⟩ => ⟨S4096x1024, .bf16⟩
  | .hbm, ⟨60, _⟩ => ⟨S4x4096x704, .bf16⟩
  | .hbm, ⟨61, _⟩ => ⟨S4x4096x704, .bf16⟩
  | .hbm, ⟨62, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S1x512x704, .bf16⟩
  | .local _ .vmem, ⟨7, _⟩ => ⟨S1x512x704, .bf16⟩
  | .local _ .vmem, ⟨8, _⟩ => ⟨S1x512x704, .bf16⟩
  | .local _ .vmem, ⟨9, _⟩ => ⟨S1x512x704, .bf16⟩
  | .local _ .vmem, ⟨10, _⟩ => ⟨S1x1024, .f32⟩
  | .local _ .vmem, ⟨11, _⟩ => ⟨S1x1024, .f32⟩
  | .local _ .vmem, ⟨12, _⟩ => ⟨S2x352x1024, .bf16⟩
  | .local _ .vmem, ⟨13, _⟩ => ⟨S2x352x1024, .bf16⟩
  | .local _ .vmem, ⟨14, _⟩ => ⟨S2x352x1024, .bf16⟩
  | .local _ .vmem, ⟨15, _⟩ => ⟨S2x352x1024, .bf16⟩
  | .local _ .vmem, ⟨16, _⟩ => ⟨S2x352x1024, .bf16⟩
  | .local _ .vmem, ⟨17, _⟩ => ⟨S2x352x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S1x512x704, .bf16⟩
  | .local _ .vmem, ⟨23, _⟩ => ⟨S1x512x704, .bf16⟩
  | .local _ .vmem, ⟨24, _⟩ => ⟨S1x512x704, .bf16⟩
  | .local _ .vmem, ⟨25, _⟩ => ⟨S1x512x704, .bf16⟩
  | .local _ .vmem, ⟨26, _⟩ => ⟨S8x1024, .f32⟩
  | .local _ .vmem, ⟨27, _⟩ => ⟨S512x1024, .bf16⟩
  | .local _ .vmem, ⟨28, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_call0_cst_0 : Ref sig .tc := ⟨.hbm, 11, rfl⟩
abbrev main_call0_v3 : Ref sig .tc := ⟨.hbm, 12, rfl⟩
abbrev main_call0_v4 : Ref sig .tc := ⟨.hbm, 13, rfl⟩
abbrev main_call0_cst_1 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_cst : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_cst_0 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_v15 : Ref sig .tc := ⟨.hbm, 33, rfl⟩
abbrev main_call0_v16 : Ref sig .tc := ⟨.hbm, 34, rfl⟩
abbrev main_call0_v17 : Ref sig .tc := ⟨.hbm, 35, rfl⟩
abbrev main_v0_0 : Ref sig .tc := ⟨.hbm, 36, rfl⟩
abbrev main_call0_v19 : Ref sig .tc := ⟨.hbm, 37, rfl⟩
abbrev main_call0_v20 : Ref sig .tc := ⟨.hbm, 38, rfl⟩
abbrev main_v0_1 : Ref sig .tc := ⟨.hbm, 39, rfl⟩
abbrev main_call0_v22 : Ref sig .tc := ⟨.hbm, 40, rfl⟩
abbrev main_call0_v23 : Ref sig .tc := ⟨.hbm, 41, rfl⟩
abbrev main_v0_2 : Ref sig .tc := ⟨.hbm, 42, rfl⟩
abbrev main_v1 : Ref sig .tc := ⟨.hbm, 43, rfl⟩
abbrev main_v2 : Ref sig .tc := ⟨.hbm, 44, rfl⟩
abbrev main_v3 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_cst : Ref sig .tc := ⟨.hbm, 50, rfl⟩
abbrev main_v8 : Ref sig .tc := ⟨.hbm, 51, rfl⟩
abbrev main_cst_0 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_cst_1 : Ref sig .tc := ⟨.hbm, 56, rfl⟩
abbrev main_v12 : Ref sig .tc := ⟨.hbm, 57, rfl⟩
abbrev main_v13_0 : Ref sig .tc := ⟨.hbm, 58, rfl⟩
abbrev main_v13_1 : Ref sig .tc := ⟨.hbm, 59, rfl⟩
abbrev main_v13_2 : Ref sig .tc := ⟨.hbm, 60, rfl⟩
abbrev main_v13_3 : Ref sig .tc := ⟨.hbm, 61, rfl⟩
abbrev main_v13_4 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_scratch0 : Ref sig .tc := ⟨.vmem, 27, rfl⟩
abbrev cc0_scratch1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v52 : BitVec 1 := Scalar.cmpi .eq arg1 c3_i32
  let v53 : BitVec 32 := Scalar.extui v52
  let c0_i32_37 : BitVec 32 := 0#32
  let v54 : BitVec 1 := Scalar.cmpi .ne v53 c0_i32_37
  v54

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg1.toNat, c1_i32.toNat, c0_i32.toNat]

def cc0_transform_9 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![arg1.toNat, c2_i32.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2x352x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2x352x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S2x352x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512x704 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x704 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== Reference5Ideal.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩
abbrev S4096x4x704 : Shape := ⟨3, ![4096, 4, 704]⟩
abbrev S4x4096x704 : Shape := ⟨3, ![4, 4096, 704]⟩
abbrev S6x1024 : Shape := ⟨2, ![6, 1024]⟩
abbrev S8x1024 : Shape := ⟨2, ![8, 1024]⟩

abbrev nBuf : Space → Nat
  | .hbm => 148
  | .vmem => 0
  | .smem => 0
  | _ => 0

abbrev hbmTy0_0 (i : Nat) : BufTy := match i % 128 with
  | 0 => ⟨S4096x1024, .f32⟩
  | 1 => ⟨S4096x1024, .f32⟩
  | 2 => ⟨S1024, .f32⟩
  | 3 => ⟨S1024, .f32⟩
  | 4 => ⟨S1024x2816, .f32⟩
  | 5 => ⟨S1024x2816, .f32⟩
  | 6 => ⟨S2816x1024, .f32⟩
  | 7 => ⟨S4096x1024, .f32⟩
  | 8 => ⟨S_, .f32⟩
  | 9 => ⟨S4096, .f32⟩
  | 10 => ⟨S4096x1, .f32⟩
  | 11 => ⟨S_, .f32⟩
  | 12 => ⟨S4096x1, .f32⟩
  | 13 => ⟨S4096x1, .f32⟩
  | 14 => ⟨S_, .f32⟩
  | 15 => ⟨S4096x1, .f32⟩
  | 16 => ⟨S4096x1, .f32⟩
  | 17 => ⟨S4096x1, .f32⟩
  | 18 => ⟨S4096x1, .f32⟩
  | 19 => ⟨S_, .f32⟩
  | 20 => ⟨S4096x1, .f32⟩
  | 21 => ⟨S4096x1, .f32⟩
  | 22 => ⟨S4096x1024, .f32⟩
  | 23 => ⟨S4096x1024, .f32⟩
  | 24 => ⟨S1x1024, .f32⟩
  | 25 => ⟨S4096x1024, .f32⟩
  | 26 => ⟨S4096x1024, .f32⟩
  | 27 => ⟨S4096x2816, .f32⟩
  | 28 => ⟨S4096x2816, .f32⟩
  | 29 => ⟨S4096x2816, .f32⟩
  | 30 => ⟨S4096x2816, .f32⟩
  | 31 => ⟨S_, .f32⟩
  | 32 => ⟨S4096x2816, .f32⟩
  | 33 => ⟨S4096x2816, .f32⟩
  | 34 => ⟨S_, .f32⟩
  | 35 => ⟨S4096x2816, .f32⟩
  | 36 => ⟨S4096x2816, .f32⟩
  | 37 => ⟨S_, .f32⟩
  | 38 => ⟨S4096x2816, .f32⟩
  | 39 => ⟨S4096x2816, .f32⟩
  | 40 => ⟨S4096x2816, .f32⟩
  | 41 => ⟨S4096x2816, .f32⟩
  | 42 => ⟨S4096x2816, .f32⟩
  | 43 => ⟨S4096x1024, .f32⟩
  | 44 => ⟨S4096x1024, .f32⟩
  | 45 => ⟨S_, .f32⟩
  | 46 => ⟨S4096, .f32⟩
  | 47 => ⟨S4096x1, .f32⟩
  | 48 => ⟨S_, .f32⟩
  | 49 => ⟨S4096x1, .f32⟩
  | 50 => ⟨S4096x1, .f32⟩
  | 51 => ⟨S_, .f32⟩
  | 52 => ⟨S4096x1, .f32⟩
  | 53 => ⟨S4096x1, .f32⟩
  | 54 => ⟨S4096x1, .f32⟩
  | 55 => ⟨S4096x1, .f32⟩
  | 56 => ⟨S_, .f32⟩
  | 57 => ⟨S4096x1, .f32⟩
  | 58 => ⟨S4096x1, .f32⟩
  | 59 => ⟨S4096x1024, .f32⟩
  | 60 => ⟨S4096x1024, .f32⟩
  | 61 => ⟨S1x1024, .f32⟩
  | 62 => ⟨S4096x1024, .f32⟩
  | 63 => ⟨S4096x1024, .f32⟩
  | 64 => ⟨S_, .f32⟩
  | 65 => ⟨S4096x1024, .f32⟩
  | 66 => ⟨S4096x1024, .f32⟩
  | 67 => ⟨S4096x1024, .f32⟩
  | 68 => ⟨S4096x1024, .f32⟩
  | 69 => ⟨S_, .f32⟩
  | 70 => ⟨S4096x1024, .f32⟩
  | 71 => ⟨S4096x1024, .f32⟩
  | 72 => ⟨S4096x1024, .f32⟩
  | 73 => ⟨S_, .f32⟩
  | 74 => ⟨S1024, .f32⟩
  | 75 => ⟨S1x1024, .f32⟩
  | 76 => ⟨S4096x1024, .f32⟩
  | 77 => ⟨S4096x1024, .f32⟩
  | 78 => ⟨S_, .f32⟩
  | 79 => ⟨S1024, .f32⟩
  | 80 => ⟨S4096x1024, .f32⟩
  | 81 => ⟨S_, .f32⟩
  | 82 => ⟨S4096, .f32⟩
  | 83 => ⟨S4096x1, .f32⟩
  | 84 => ⟨S4096x1024, .f32⟩
  | 85 => ⟨S4096x1024, .f32⟩
  | 86 => ⟨S4096x1, .f32⟩
  | 87 => ⟨S_, .f32⟩
  | 88 => ⟨S4096x1, .f32⟩
  | 89 => ⟨S4096x1, .f32⟩
  | 90 => ⟨S_, .f32⟩
  | 91 => ⟨S4096, .f32⟩
  | 92 => ⟨S4096x1024, .f32⟩
  | 93 => ⟨S4096x1024, .f32⟩
  | 94 => ⟨S4096x1024, .f32⟩
  | 95 => ⟨S4096x1024, .f32⟩
  | 96 => ⟨S4096x1024, .f32⟩
  | 97 => ⟨S4096x2816, .f32⟩
  | 98 => ⟨S4096x2816, .f32⟩
  | 99 => ⟨S4096x2816, .f32⟩
  | 100 => ⟨S_, .f32⟩
  | 101 => ⟨S4096x2816, .f32⟩
  | 102 => ⟨S4096x2816, .f32⟩
  | 103 => ⟨S4096x2816, .f32⟩
  | 104 => ⟨S4096x2816, .f32⟩
  | 105 => ⟨S4096x2816, .f32⟩
  | 106 => ⟨S4096x2816, .f32⟩
  | 107 => ⟨S4096x1024, .f32⟩
  | 108 => ⟨S4096x1024, .f32⟩
  | 109 => ⟨S4096x1024, .f32⟩
  | 110 => ⟨S4096x1024, .f32⟩
  | 111 => ⟨S_, .f32⟩
  | 112 => ⟨S1024, .f32⟩
  | 113 => ⟨S1x1024, .f32⟩
  | 114 => ⟨S4096x1024, .f32⟩
  | 115 => ⟨S4096x1024, .f32⟩
  | 116 => ⟨S_, .f32⟩
  | 117 => ⟨S1024, .f32⟩
  | 118 => ⟨S4096x1024, .f32⟩
  | 119 => ⟨S_, .f32⟩
  | 120 => ⟨S4096, .f32⟩
  | 121 => ⟨S4096x1, .f32⟩
  | 122 => ⟨S4096x1024, .f32⟩
  | 123 => ⟨S4096x1024, .f32⟩
  | 124 => ⟨S4096x1, .f32⟩
  | 125 => ⟨S_, .f32⟩
  | 126 => ⟨S4096x1, .f32⟩
  | 127 => ⟨S4096x1, .f32⟩
  | _ => ⟨S4096x1024, .f32⟩

abbrev hbmTy0_1 (i : Nat) : BufTy := match i % 128 with
  | 0 => ⟨S_, .f32⟩
  | 1 => ⟨S4096, .f32⟩
  | 2 => ⟨S4096x1024, .f32⟩
  | 3 => ⟨S4096x1024, .f32⟩
  | 4 => ⟨S4096x1024, .f32⟩
  | 5 => ⟨S4096x1024, .f32⟩
  | 6 => ⟨S4096x1024, .f32⟩
  | 7 => ⟨S4096x1024, .f32⟩
  | 8 => ⟨S4096x1024, .bf16⟩
  | 9 => ⟨S4096x4x704, .f32⟩
  | 10 => ⟨S4x4096x704, .f32⟩
  | 11 => ⟨S4x4096x704, .bf16⟩
  | 12 => ⟨S4096x4x704, .f32⟩
  | 13 => ⟨S4x4096x704, .f32⟩
  | 14 => ⟨S4x4096x704, .bf16⟩
  | 15 => ⟨S1x1024, .f32⟩
  | 16 => ⟨S1x1024, .f32⟩
  | 17 => ⟨S_, .f32⟩
  | 18 => ⟨S6x1024, .f32⟩
  | 19 => ⟨S8x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v18_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v18_1 : Ref sig .tc := ⟨.hbm, 40, rfl⟩
abbrev main_v18_0 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_3 : Ref sig .tc := ⟨.hbm, 45, rfl⟩
abbrev main_v22 : Ref sig .tc := ⟨.hbm, 46, rfl⟩
abbrev main_v23 : Ref sig .tc := ⟨.hbm, 47, rfl⟩
abbrev main_cst_4 : Ref sig .tc := ⟨.hbm, 48, rfl⟩
abbrev main_v24 : Ref sig .tc := ⟨.hbm, 49, rfl⟩
abbrev main_v25 : Ref sig .tc := ⟨.hbm, 50, rfl⟩
abbrev main_cst_5 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_6 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_7 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_9 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_10 : Ref sig .tc := ⟨.hbm, 78, rfl⟩
abbrev main_v48 : Ref sig .tc := ⟨.hbm, 79, rfl⟩
abbrev main_v49 : Ref sig .tc := ⟨.hbm, 80, rfl⟩
abbrev main_cst_11 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_12 : Ref sig .tc := ⟨.hbm, 87, rfl⟩
abbrev main_v55 : Ref sig .tc := ⟨.hbm, 88, rfl⟩
abbrev main_v56 : Ref sig .tc := ⟨.hbm, 89, rfl⟩
abbrev main_cst_13 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_14 : Ref sig .tc := ⟨.hbm, 100, rfl⟩
abbrev main_v66 : Ref sig .tc := ⟨.hbm, 101, rfl⟩
abbrev main_call1_v0 : Ref sig .tc := ⟨.hbm, 102, rfl⟩
abbrev main_call1_v1 : Ref sig .tc := ⟨.hbm, 103, rfl⟩
abbrev main_call1_v2 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_15 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_cst_16 : Ref sig .tc := ⟨.hbm, 116, rfl⟩
abbrev main_v77 : Ref sig .tc := ⟨.hbm, 117, rfl⟩
abbrev main_v78 : Ref sig .tc := ⟨.hbm, 118, rfl⟩
abbrev main_cst_17 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_cst_18 : Ref sig .tc := ⟨.hbm, 125, rfl⟩
abbrev main_v84 : Ref sig .tc := ⟨.hbm, 126, rfl⟩
abbrev main_v85 : Ref sig .tc := ⟨.hbm, 127, rfl⟩
abbrev main_cst_19 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_cst_20 : Ref sig .tc := ⟨.hbm, 145, rfl⟩
abbrev main_v102 : Ref sig .tc := ⟨.hbm, 146, rfl⟩
abbrev main_v103 : Ref sig .tc := ⟨.hbm, 147, rfl⟩

abbrev nD : Nat := 1
abbrev τ : Topo := Topo.v7x

variable {F : FTy → Type} [FloatOps F]
-- ==== Kernel6.lean ====
abbrev S4096x1024 : Shape := ⟨2, ![4096, 1024]⟩
abbrev S4096x512 : Shape := ⟨2, ![4096, 512]⟩
abbrev S4x512x1024 : Shape := ⟨3, ![4, 512, 1024]⟩
abbrev S1024x4096 : Shape := ⟨2, ![1024, 4096]⟩
abbrev S4096 : Shape := ⟨1, ![4096]⟩
abbrev S1024x1024 : Shape := ⟨2, ![1024, 1024]⟩
abbrev S1024 : Shape := ⟨1, ![1024]⟩
abbrev S1x512x1024 : Shape := ⟨3, ![1, 512, 1024]⟩
abbrev S512x1024 : Shape := ⟨2, ![512, 1024]⟩
abbrev S4096x4096 : Shape := ⟨2, ![4096, 4096]⟩
abbrev S1x4096 : Shape := ⟨2, ![1, 4096]⟩
abbrev S_ : Shape := ⟨0, ![]⟩
abbrev S4096x4x1024 : Shape := ⟨3, ![4096, 4, 1024]⟩
abbrev S4096x1x1024 : Shape := ⟨3, ![4096, 1, 1024]⟩
abbrev S4096x1 : Shape := ⟨2, ![4096, 1]⟩
abbrev S1x1024 : Shape := ⟨2, ![1, 1024]⟩
abbrev S1x4096x1024 : Shape := ⟨3, ![1, 4096, 1024]⟩
abbrev S4x4096x1024 : Shape := ⟨3, ![4, 4096, 1024]⟩
abbrev S8x4x512x128 : Shape := ⟨4, ![8, 4, 512, 128]⟩
abbrev S8x128x1024 : Shape := ⟨3, ![8, 128, 1024]⟩
abbrev S512x512 : Shape := ⟨2, ![512, 512]⟩
abbrev S1x512x128 : Shape := ⟨3, ![1, 512, 128]⟩
abbrev S512x128 : Shape := ⟨2, ![512, 128]⟩
abbrev S1x1x512x128 : Shape := ⟨4, ![1, 1, 512, 128]⟩
abbrev S128x1024 : Shape := ⟨2, ![128, 1024]⟩
abbrev S1x128x1024 : Shape := ⟨3, ![1, 128, 1024]⟩

abbrev nBuf : Space → Nat
  | .hbm => 116
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x1024, .f32⟩
  | .hbm, ⟨6, _⟩ => ⟨S4x512x1024, .f32⟩
  | .hbm, ⟨7, _⟩ => ⟨S1024x4096, .f32⟩
  | .hbm, ⟨8, _⟩ => ⟨S4096, .f32⟩
  | .hbm, ⟨9, _⟩ => ⟨S1024x1024, .f32⟩
  | .hbm, ⟨10, _⟩ => ⟨S1024, .f32⟩
  | .hbm, ⟨11, _⟩ => ⟨S1x512x1024, .f32⟩
  | .hbm, ⟨12, _⟩ => ⟨S512x1024, .f32⟩
  | .hbm, ⟨13, _⟩ => ⟨S4096x1024, .f32⟩
  | .hbm, ⟨14, _⟩ => ⟨S1x512x1024, .f32⟩
  | .hbm, ⟨15, _⟩ => ⟨S512x1024, .f32⟩
  | .hbm, ⟨16, _⟩ => ⟨S4096x1024, .f32⟩
  | .hbm, ⟨17, _⟩ => ⟨S1x512x1024, .f32⟩
  | .hbm, ⟨18, _⟩ => ⟨S512x1024, .f32⟩
  | .hbm, ⟨19, _⟩ => ⟨S4096x1024, .f32⟩
  | .hbm, ⟨20, _⟩ => ⟨S1x512x1024, .f32⟩
  | .hbm, ⟨21, _⟩ => ⟨S512x1024, .f32⟩
  | .hbm, ⟨22, _⟩ => ⟨S4096x1024, .f32⟩
  | .hbm, ⟨23, _⟩ => ⟨S4096x4096, .f32⟩
  | .hbm, ⟨24, _⟩ => ⟨S1x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S4096x4x1024, .f32⟩
  | .hbm, ⟨36, _⟩ => ⟨S4096x1x1024, .f32⟩
  | .hbm, ⟨37, _⟩ => ⟨S4096x1024, .f32⟩
  | .hbm, ⟨38, _⟩ => ⟨S4096x1024, .f32⟩
  | .hbm, ⟨39, _⟩ => ⟨S4096x1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S4096x1024, .f32⟩
  | .hbm, ⟨68, _⟩ => ⟨S4096x1024, .f32⟩
  | .hbm, ⟨69, _⟩ => ⟨S1x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S1024, .f32⟩
  | .hbm, ⟨80, _⟩ => ⟨S4096x1024, .f32⟩
  | .hbm, ⟨81, _⟩ => ⟨S_, .f32⟩
  | .hbm, ⟨82, _⟩ => ⟨S4096, .f32⟩
  | .hbm, ⟨83, _⟩ => ⟨S4096x1, .f32⟩
  | .hbm, ⟨84, _⟩ => ⟨S4096x1024, .f32⟩
  | .hbm, ⟨85, _⟩ => ⟨S4096x1024, .f32⟩
  | .hbm, ⟨86, _⟩ => ⟨S4096x1, .f32⟩
  | .hbm, ⟨87, _⟩ => ⟨S_, .f32⟩
  | .hbm, ⟨88, _⟩ => ⟨S4096x1, .f32⟩
  | .hbm, ⟨89, _⟩ => ⟨S4096x1, .f32⟩
  | .hbm, ⟨90, _⟩ => ⟨S_, .f32⟩
  | .hbm, ⟨91, _⟩ => ⟨S4096, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x512, .bf16⟩
  | .hbm, ⟨103, _⟩ => ⟨S4096x512, .bf16⟩
  | .hbm, ⟨104, _⟩ => ⟨S4096x512, .bf16⟩
  | .hbm, ⟨105, _⟩ => ⟨S4096x512, .bf16⟩
  | .hbm, ⟨106, _⟩ => ⟨S1x4096x1024, .f32⟩
  | .hbm, ⟨107, _⟩ => ⟨S1x4096x1024, .f32⟩
  | .hbm, ⟨108, _⟩ => ⟨S1x4096x1024, .f32⟩
  | .hbm, ⟨109, _⟩ => ⟨S1x4096x1024, .f32⟩
  | .hbm, ⟨110, _⟩ => ⟨S4x4096x1024, .f32⟩
  | .hbm, ⟨111, _⟩ => ⟨S4x4096x1024, .bf16⟩
  | .hbm, ⟨112, _⟩ => ⟨S4096x1024, .bf16⟩
  | .hbm, ⟨113, _⟩ => ⟨S4096x1024, .bf16⟩
  | .hbm, ⟨114, _⟩ => ⟨S8x4x512x128, .bf16⟩
  | .hbm, ⟨115, _⟩ => ⟨S8x128x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S4x512x1024, .bf16⟩
  | .local _ .vmem, ⟨9, _⟩ => ⟨S4x512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S8x4x512x128, .bf16⟩
  | .local _ .vmem, ⟨15, _⟩ => ⟨S8x128x1024, .bf16⟩
  | .local _ .vmem, ⟨16, _⟩ => ⟨S4x512x1024, .f32⟩
  | .local _ .vmem, ⟨17, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_call0_v17 : Ref sig .tc := ⟨.hbm, 28, rfl⟩
abbrev main_call0_cst : Ref sig .tc := ⟨.hbm, 29, rfl⟩
abbrev main_call0_v18 : Ref sig .tc := ⟨.hbm, 30, rfl⟩
abbrev main_call0_v19 : Ref sig .tc := ⟨.hbm, 31, rfl⟩
abbrev main_call0_cst_0 : Ref sig .tc := ⟨.hbm, 32, rfl⟩
abbrev main_call0_v20 : Ref sig .tc := ⟨.hbm, 33, rfl⟩
abbrev main_call0_v21 : Ref sig .tc := ⟨.hbm, 34, rfl⟩
abbrev main_call0_v22 : Ref sig .tc := ⟨.hbm, 35, rfl⟩
abbrev main_call0_v23 : Ref sig .tc := ⟨.hbm, 36, rfl⟩
abbrev main_call0_v24 : Ref sig .tc := ⟨.hbm, 37, rfl⟩
abbrev main_call0_v25 : Ref sig .tc := ⟨.hbm, 38, rfl⟩
abbrev main_call0_v26 : Ref sig .tc := ⟨.hbm, 39, rfl⟩
abbrev main_call0_v27 : Ref sig .tc := ⟨.hbm, 40, rfl⟩
abbrev main_call0_v28 : Ref sig .tc := ⟨.hbm, 41, rfl⟩
abbrev main_call0_v29 : Ref sig .tc := ⟨.hbm, 42, rfl⟩
abbrev main_call0_v30 : Ref sig .tc := ⟨.hbm, 43, rfl⟩
abbrev main_call0_v31 : Ref sig .tc := ⟨.hbm, 44, rfl⟩
abbrev main_call0_v32 : Ref sig .tc := ⟨.hbm, 45, rfl⟩
abbrev main_call0_v33 : Ref sig .tc := ⟨.hbm, 46, rfl⟩
abbrev main_call0_v34 : Ref sig .tc := ⟨.hbm, 47, rfl⟩
abbrev main_call0_v35 : Ref sig .tc := ⟨.hbm, 48, rfl⟩
abbrev main_call0_v36 : Ref sig .tc := ⟨.hbm, 49, rfl⟩
abbrev main_call0_v37 : Ref sig .tc := ⟨.hbm, 50, rfl⟩
abbrev main_call0_v38 : Ref sig .tc := ⟨.hbm, 51, rfl⟩
abbrev main_call0_v39 : Ref sig .tc := ⟨.hbm, 52, rfl⟩
abbrev main_call0_cst_1 : Ref sig .tc := ⟨.hbm, 53, rfl⟩
abbrev main_call0_v40 : Ref sig .tc := ⟨.hbm, 54, rfl⟩
abbrev main_call0_v41 : Ref sig .tc := ⟨.hbm, 55, rfl⟩
abbrev main_call0_cst_2 : Ref sig .tc := ⟨.hbm, 56, rfl⟩
abbrev main_call0_v42 : Ref sig .tc := ⟨.hbm, 57, rfl⟩
abbrev main_call0_v43 : Ref sig .tc := ⟨.hbm, 58, rfl⟩
abbrev main_call0_cst_3 : Ref sig .tc := ⟨.hbm, 59, rfl⟩
abbrev main_call0_v44 : Ref sig .tc := ⟨.hbm, 60, rfl⟩
abbrev main_call0_v45 : Ref sig .tc := ⟨.hbm, 61, rfl⟩
abbrev main_call0_v46 : Ref sig .tc := ⟨.hbm, 62, rfl⟩
abbrev main_call0_v47 : Ref sig .tc := ⟨.hbm, 63, rfl⟩
abbrev main_call0_cst_4 : Ref sig .tc := ⟨.hbm, 64, rfl⟩
abbrev main_call0_v48 : Ref sig .tc := ⟨.hbm, 65, rfl⟩
abbrev main_call0_v49 : Ref sig .tc := ⟨.hbm, 66, rfl⟩
abbrev main_call0_v50 : Ref sig .tc := ⟨.hbm, 67, rfl⟩
abbrev main_call0_v51 : Ref sig .tc := ⟨.hbm, 68, rfl⟩
abbrev main_call0_v52 : Ref sig .tc := ⟨.hbm, 69, rfl⟩
abbrev main_call0_v53 : Ref sig .tc := ⟨.hbm, 70, rfl⟩
abbrev main_call0_v54 : Ref sig .tc := ⟨.hbm, 71, rfl⟩
abbrev main_call0_v55 : Ref sig .tc := ⟨.hbm, 72, rfl⟩
abbrev main_call0_cst_5 : Ref sig .tc := ⟨.hbm, 73, rfl⟩
abbrev main_call0_v56 : Ref sig .tc := ⟨.hbm, 74, rfl⟩
abbrev main_call0_v57 : Ref sig .tc := ⟨.hbm, 75, rfl⟩
abbrev main_call0_v58 : Ref sig .tc := ⟨.hbm, 76, rfl⟩
abbrev main_call0_v59 : Ref sig .tc := ⟨.hbm, 77, rfl⟩
abbrev main_call0_cst_6 : Ref sig .tc := ⟨.hbm, 78, rfl⟩
abbrev main_call0_v60 : Ref sig .tc := ⟨.hbm, 79, rfl⟩
abbrev main_call0_v61 : Ref sig .tc := ⟨.hbm, 80, rfl⟩
abbrev main_call0_cst_7 : Ref sig .tc := ⟨.hbm, 81, rfl⟩
abbrev main_call0_v62 : Ref sig .tc := ⟨.hbm, 82, rfl⟩
abbrev main_call0_v63 : Ref sig .tc := ⟨.hbm, 83, rfl⟩
abbrev main_call0_v64 : Ref sig .tc := ⟨.hbm, 84, rfl⟩
abbrev main_call0_v65 : Ref sig .tc := ⟨.hbm, 85, rfl⟩
abbrev main_call0_v66 : Ref sig .tc := ⟨.hbm, 86, rfl⟩
abbrev main_call0_cst_8 : Ref sig .tc := ⟨.hbm, 87, rfl⟩
abbrev main_call0_v67 : Ref sig .tc := ⟨.hbm, 88, rfl⟩
abbrev main_call0_v68 : Ref sig .tc := ⟨.hbm, 89, rfl⟩
abbrev main_call0_cst_9 : Ref sig .tc := ⟨.hbm, 90, rfl⟩
abbrev main_call0_v69 : Ref sig .tc := ⟨.hbm, 91, rfl⟩
abbrev main_call0_v70 : Ref sig .tc := ⟨.hbm, 92, rfl⟩
abbrev main_call0_v71 : Ref sig .tc := ⟨.hbm, 93, rfl⟩
abbrev main_call0_v72 : Ref sig .tc := ⟨.hbm, 94, rfl⟩
abbrev main_call0_v73 : Ref sig .tc := ⟨.hbm, 95, rfl⟩
abbrev main_call0_v74 : Ref sig .tc := ⟨.hbm, 96, rfl⟩
abbrev main_call0_v75 : Ref sig .tc := ⟨.hbm, 97, rfl⟩
abbrev main_call0_v76 : Ref sig .tc := ⟨.hbm, 98, rfl⟩
abbrev main_call0_v77 : Ref sig .tc := ⟨.hbm, 99, rfl⟩
abbrev main_call0_v78 : Ref sig .tc := ⟨.hbm, 100, rfl⟩
abbrev main_call0_v79 : Ref sig .tc := ⟨.hbm, 101, rfl⟩
abbrev main_v0_0 : Ref sig .tc := ⟨.hbm, 102, rfl⟩
abbrev main_v0_1 : Ref sig .tc := ⟨.hbm, 103, rfl⟩
abbrev main_v0_2 : Ref sig .tc := ⟨.hbm, 104, rfl⟩
abbrev main_v0_3 : Ref sig .tc := ⟨.hbm, 105, rfl⟩
abbrev main_call0_v84 : Ref sig .tc := ⟨.hbm, 106, rfl⟩
abbrev main_call0_v85 : Ref sig .tc := ⟨.hbm, 107, rfl⟩
abbrev main_call0_v86 : Ref sig .tc := ⟨.hbm, 108, rfl⟩
abbrev main_call0_v87 : Ref sig .tc := ⟨.hbm, 109, rfl⟩
abbrev main_call0_v88 : Ref sig .tc := ⟨.hbm, 110, rfl⟩
abbrev main_v0_4 : Ref sig .tc := ⟨.hbm, 111, rfl⟩
abbrev main_v0_5 : Ref sig .tc := ⟨.hbm, 112, rfl⟩
abbrev main_v0_6 : Ref sig .tc := ⟨.hbm, 113, rfl⟩
abbrev main_v1_0 : Ref sig .tc := ⟨.hbm, 114, rfl⟩
abbrev main_v1_1 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v57 : BitVec 1 := Scalar.cmpi .eq arg0 c7_i32
  let v58 : BitVec 32 := Scalar.extui v57
  let c0_i32_53 : BitVec 32 := 0#32
  let v59 : BitVec 1 := Scalar.cmpi .ne v58 c0_i32_53
  v59

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x4x512x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference6Ideal.lean ====
abbrev S4096x1024 : Shape := ⟨2, ![4096, 1024]⟩
abbrev S4096x512 : Shape := ⟨2, ![4096, 512]⟩
abbrev S4x512x1024 : Shape := ⟨3, ![4, 512, 1024]⟩
abbrev S1024x4096 : Shape := ⟨2, ![1024, 4096]⟩
abbrev S4096 : Shape := ⟨1, ![4096]⟩
abbrev S1024x1024 : Shape := ⟨2, ![1024, 1024]⟩
abbrev S1024 : Shape := ⟨1, ![1024]⟩
abbrev S1x512x1024 : Shape := ⟨3, ![1, 512, 1024]⟩
abbrev S512x1024 : Shape := ⟨2, ![512, 1024]⟩
abbrev S4096x4096 : Shape := ⟨2, ![4096, 4096]⟩
abbrev S1x4096 : Shape := ⟨2, ![1, 4096]⟩
abbrev S_ : Shape := ⟨0, ![]⟩
abbrev S4096x4x1024 : Shape := ⟨3, ![4096, 4, 1024]⟩
abbrev S4096x1x1024 : Shape := ⟨3, ![4096, 1, 1024]⟩
abbrev S4096x1 : Shape := ⟨2, ![4096, 1]⟩
abbrev S1x1024 : Shape := ⟨2, ![1, 1024]⟩
abbrev S1024x512 : Shape := ⟨2, ![1024, 512]⟩
abbrev S4x512x8x128 : Shape := ⟨4, ![4, 512, 8, 128]⟩
abbrev S8x4x512x128 : Shape := ⟨4, ![8, 4, 512, 128]⟩
abbrev S8x128x1024 : Shape := ⟨3, ![8, 128, 1024]⟩

abbrev nBuf : Space → Nat
  | .hbm => 116
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x1024, .f32⟩
  | .hbm, ⟨6, _⟩ => ⟨S4x512x1024, .f32⟩
  | .hbm, ⟨7, _⟩ => ⟨S1024x4096, .f32⟩
  | .hbm, ⟨8, _⟩ => ⟨S4096, .f32⟩
  | .hbm, ⟨9, _⟩ => ⟨S1024x1024, .f32⟩
  | .hbm, ⟨10, _⟩ => ⟨S1024, .f32⟩
  | .hbm, ⟨11, _⟩ => ⟨S1x512x1024, .f32⟩
  | .hbm, ⟨12, _⟩ => ⟨S512x1024, .f32⟩
  | .hbm, ⟨13, _⟩ => ⟨S1x512x1024, .f32⟩
  | .hbm, ⟨14, _⟩ => ⟨S512x1024, .f32⟩
  | .hbm, ⟨15, _⟩ => ⟨S1x512x1024, .f32⟩
  | .hbm, ⟨16, _⟩ => ⟨S512x1024, .f32⟩
  | .hbm, ⟨17, _⟩ => ⟨S1x512x1024, .f32⟩
  | .hbm, ⟨18, _⟩ => ⟨S512x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x4096, .f32⟩
  | .hbm, ⟨24, _⟩ => ⟨S1x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S4096x4x1024, .f32⟩
  | .hbm, ⟨36, _⟩ => ⟨S4096x1x1024, .f32⟩
  | .hbm, ⟨37, _⟩ => ⟨S4096x1024, .f32⟩
  | .hbm, ⟨38, _⟩ => ⟨S4096x1024, .f32⟩
  | .hbm, ⟨39, _⟩ => ⟨S4096x1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S4096x1024, .f32⟩
  | .hbm, ⟨68, _⟩ => ⟨S4096x1024, .f32⟩
  | .hbm, ⟨69, _⟩ => ⟨S1x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S4096, .f32⟩
  | .hbm, ⟨77, _⟩ => ⟨S4096x1, .f32⟩
  | .hbm, ⟨78, _⟩ => ⟨S4096x1024, .f32⟩
  | .hbm, ⟨79, _⟩ => ⟨S4096x1024, .f32⟩
  | .hbm, ⟨80, _⟩ => ⟨S4096x1, .f32⟩
  | .hbm, ⟨81, _⟩ => ⟨S_, .f32⟩
  | .hbm, ⟨82, _⟩ => ⟨S4096x1, .f32⟩
  | .hbm, ⟨83, _⟩ => ⟨S4096x1, .f32⟩
  | .hbm, ⟨84, _⟩ => ⟨S_, .f32⟩
  | .hbm, ⟨85, _⟩ => ⟨S4096, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S1024x1024, .f32⟩
  | .hbm, ⟨92, _⟩ => ⟨S1024x1024, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S1024x512, .f32⟩
  | .hbm, ⟨99, _⟩ => ⟨S512x1024, .f32⟩
  | .hbm, ⟨100, _⟩ => ⟨S1024x512, .f32⟩
  | .hbm, ⟨101, _⟩ => ⟨S512x1024, .f32⟩
  | .hbm, ⟨102, _⟩ => ⟨S1024x512, .f32⟩
  | .hbm, ⟨103, _⟩ => ⟨S512x1024, .f32⟩
  | .hbm, ⟨104, _⟩ => ⟨S1024x512, .f32⟩
  | .hbm, ⟨105, _⟩ => ⟨S512x1024, .f32⟩
  | .hbm, ⟨106, _⟩ => ⟨S1x512x1024, .f32⟩
  | .hbm, ⟨107, _⟩ => ⟨S1x512x1024, .f32⟩
  | .hbm, ⟨108, _⟩ => ⟨S1x512x1024, .f32⟩
  | .hbm, ⟨109, _⟩ => ⟨S1x512x1024, .f32⟩
  | .hbm, ⟨110, _⟩ => ⟨S4x512x1024, .f32⟩
  | .hbm, ⟨111, _⟩ => ⟨S4x512x8x128, .f32⟩
  | .hbm, ⟨112, _⟩ => ⟨S8x4x512x128, .f32⟩
  | .hbm, ⟨113, _⟩ => ⟨S8x4x512x128, .bf16⟩
  | .hbm, ⟨114, _⟩ => ⟨S8x128x1024, .f32⟩
  | .hbm, ⟨115, _⟩ => ⟨S8x128x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19 : Ref sig .tc := ⟨.hbm, 31, rfl⟩
abbrev main_cst_0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_1 : Ref sig .tc := ⟨.hbm, 53, rfl⟩
abbrev main_v40 : Ref sig .tc := ⟨.hbm, 54, rfl⟩
abbrev main_v41 : Ref sig .tc := ⟨.hbm, 55, rfl⟩
abbrev main_cst_2 : Ref sig .tc := ⟨.hbm, 56, rfl⟩
abbrev main_v42 : Ref sig .tc := ⟨.hbm, 57, rfl⟩
abbrev main_v43 : Ref sig .tc := ⟨.hbm, 58, rfl⟩
abbrev main_cst_3 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_4 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_5 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_6 : Ref sig .tc := ⟨.hbm, 81, rfl⟩
abbrev main_v63 : Ref sig .tc := ⟨.hbm, 82, rfl⟩
abbrev main_v64 : Ref sig .tc := ⟨.hbm, 83, rfl⟩
abbrev main_cst_7 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩

abbrev nD : Nat := 1
abbrev τ : Topo := Topo.v7x

variable {F : FTy → Type} [FloatOps F]
-- ==== Kernel7.lean ====
abbrev S4096x1024 : Shape := ⟨2, ![4096, 1024]⟩
abbrev S256x1024 : Shape := ⟨2, ![256, 1024]⟩
abbrev S1024 : Shape := ⟨1, ![1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S256 : Shape := ⟨1, ![256]⟩
abbrev S256x1 : Shape := ⟨2, ![256, 1]⟩
abbrev S4096x4x256 : Shape := ⟨3, ![4096, 4, 256]⟩
abbrev S256x4x256 : Shape := ⟨3, ![256, 4, 256]⟩
abbrev S4x4096x256 : Shape := ⟨3, ![4, 4096, 256]⟩
abbrev S4x4096 : Shape := ⟨2, ![4, 4096]⟩
abbrev S4x4096x1 : Shape := ⟨3, ![4, 4096, 1]⟩
abbrev S4x256x4096 : Shape := ⟨3, ![4, 256, 4096]⟩
abbrev S4x256x256 : Shape := ⟨3, ![4, 256, 256]⟩
abbrev S8x512x1024 : Shape := ⟨3, ![8, 512, 1024]⟩
abbrev S128x1024 : Shape := ⟨2, ![128, 1024]⟩
abbrev S1x128x1024 : Shape := ⟨3, ![1, 128, 1024]⟩

abbrev nBuf : Space → Nat
  | .hbm => 175
  | .vmem => 14
  | .smem => 0
  | _ => 0

abbrev hbmTy0_0 (i : Nat) : BufTy := match i % 128 with
  | 0 => ⟨S4096x1024, .f32⟩
  | 1 => ⟨S4096x1024, .f32⟩
  | 2 => ⟨S256x1024, .f32⟩
  | 3 => ⟨S1024, .f32⟩
  | 4 => ⟨S1024, .f32⟩
  | 5 => ⟨S1024, .f32⟩
  | 6 => ⟨S1024x1024, .f32⟩
  | 7 => ⟨S1024x1024, .f32⟩
  | 8 => ⟨S1024x1024, .f32⟩
  | 9 => ⟨S1024x1024, .f32⟩
  | 10 => ⟨S4096x1024, .f32⟩
  | 11 => ⟨S_, .f32⟩
  | 12 => ⟨S4096, .f32⟩
  | 13 => ⟨S4096x1, .f32⟩
  | 14 => ⟨S_, .f32⟩
  | 15 => ⟨S4096x1, .f32⟩
  | 16 => ⟨S4096x1, .f32⟩
  | 17 => ⟨S_, .f32⟩
  | 18 => ⟨S4096x1, .f32⟩
  | 19 => ⟨S4096x1, .f32⟩
  | 20 => ⟨S4096x1, .f32⟩
  | 21 => ⟨S4096x1024, .f32⟩
  | 22 => ⟨S4096x1024, .f32⟩
  | 23 => ⟨S1x1024, .f32⟩
  | 24 => ⟨S4096x1024, .f32⟩
  | 25 => ⟨S4096x1024, .f32⟩
  | 26 => ⟨S256x1024, .f32⟩
  | 27 => ⟨S_, .f32⟩
  | 28 => ⟨S256, .f32⟩
  | 29 => ⟨S256x1, .f32⟩
  | 30 => ⟨S_, .f32⟩
  | 31 => ⟨S256x1, .f32⟩
  | 32 => ⟨S256x1, .f32⟩
  | 33 => ⟨S_, .f32⟩
  | 34 => ⟨S256x1, .f32⟩
  | 35 => ⟨S256x1, .f32⟩
  | 36 => ⟨S256x1, .f32⟩
  | 37 => ⟨S256x1024, .f32⟩
  | 38 => ⟨S256x1024, .f32⟩
  | 39 => ⟨S1x1024, .f32⟩
  | 40 => ⟨S256x1024, .f32⟩
  | 41 => ⟨S256x1024, .f32⟩
  | 42 => ⟨S4096x1024, .f32⟩
  | 43 => ⟨S256x1024, .f32⟩
  | 44 => ⟨S256x1024, .f32⟩
  | 45 => ⟨S4096x4x256, .f32⟩
  | 46 => ⟨S256x4x256, .f32⟩
  | 47 => ⟨S256x4x256, .f32⟩
  | 48 => ⟨S4x4096x256, .f32⟩
  | 49 => ⟨S_, .f32⟩
  | 50 => ⟨S4x4096x256, .f32⟩
  | 51 => ⟨S4x4096x256, .f32⟩
  | 52 => ⟨S_, .f32⟩
  | 53 => ⟨S4x4096, .f32⟩
  | 54 => ⟨S4x4096x1, .f32⟩
  | 55 => ⟨S4x4096x256, .f32⟩
  | 56 => ⟨S4x4096x256, .i1⟩
  | 57 => ⟨S4x4096x256, .f32⟩
  | 58 => ⟨S_, .f32⟩
  | 59 => ⟨S4x4096, .f32⟩
  | 60 => ⟨S_, .f32⟩
  | 61 => ⟨S4x4096, .f32⟩
  | 62 => ⟨S4x4096, .f32⟩
  | 63 => ⟨S_, .f32⟩
  | 64 => ⟨S4x4096, .f32⟩
  | 65 => ⟨S4x4096, .i1⟩
  | 66 => ⟨S_, .f32⟩
  | 67 => ⟨S4x4096, .f32⟩
  | 68 => ⟨S4x4096, .i1⟩
  | 69 => ⟨S_, .f32⟩
  | 70 => ⟨S4x4096, .f32⟩
  | 71 => ⟨S_, .f32⟩
  | 72 => ⟨S4x4096, .f32⟩
  | 73 => ⟨S_, .f32⟩
  | 74 => ⟨S4x4096, .f32⟩
  | 75 => ⟨S4x4096, .f32⟩
  | 76 => ⟨S4x4096, .f32⟩
  | 77 => ⟨S4x4096x1, .f32⟩
  | 78 => ⟨S4x4096x256, .f32⟩
  | 79 => ⟨S4x4096x256, .f32⟩
  | 80 => ⟨S4x4096x256, .f32⟩
  | 81 => ⟨S_, .f32⟩
  | 82 => ⟨S4x4096, .f32⟩
  | 83 => ⟨S4x4096x1, .f32⟩
  | 84 => ⟨S4x4096x256, .f32⟩
  | 85 => ⟨S4x4096x256, .f32⟩
  | 86 => ⟨S4x4096x1, .f32⟩
  | 87 => ⟨S_, .f32⟩
  | 88 => ⟨S4x4096x1, .f32⟩
  | 89 => ⟨S4x4096x1, .f32⟩
  | 90 => ⟨S4x256x4096, .f32⟩
  | 91 => ⟨S4096x4x256, .f32⟩
  | 92 => ⟨S4096x1024, .f32⟩
  | 93 => ⟨S4096x1024, .f32⟩
  | 94 => ⟨S4096x1024, .f32⟩
  | 95 => ⟨S_, .f32⟩
  | 96 => ⟨S4096, .f32⟩
  | 97 => ⟨S4096x1, .f32⟩
  | 98 => ⟨S_, .f32⟩
  | 99 => ⟨S4096x1, .f32⟩
  | 100 => ⟨S4096x1, .f32⟩
  | 101 => ⟨S_, .f32⟩
  | 102 => ⟨S4096x1, .f32⟩
  | 103 => ⟨S4096x1, .f32⟩
  | 104 => ⟨S4096x1, .f32⟩
  | 105 => ⟨S4096x1, .f32⟩
  | 106 => ⟨S_, .f32⟩
  | 107 => ⟨S4096x1, .f32⟩
  | 108 => ⟨S4096x1, .f32⟩
  | 109 => ⟨S4096x1024, .f32⟩
  | 110 => ⟨S4096x1024, .f32⟩
  | 111 => ⟨S1x1024, .f32⟩
  | 112 => ⟨S4096x1024, .f32⟩
  | 113 => ⟨S4096x1024, .f32⟩
  | 114 => ⟨S4096x1024, .f32⟩
  | 115 => ⟨S_, .f32⟩
  | 116 => ⟨S1024, .f32⟩
  | 117 => ⟨S1x1024, .f32⟩
  | 118 => ⟨S4096x1024, .f32⟩
  | 119 => ⟨S4096x1024, .f32⟩
  | 120 => ⟨S_, .f32⟩
  | 121 => ⟨S1024, .f32⟩
  | 122 => ⟨S4096x1024, .f32⟩
  | 123 => ⟨S_, .f32⟩
  | 124 => ⟨S4096, .f32⟩
  | 125 => ⟨S4096x1, .f32⟩
  | 126 => ⟨S4096x1024, .f32⟩
  | 127 => ⟨S4096x1024, .f32⟩
  | _ => ⟨S4096x1024, .f32⟩

abbrev hbmTy0_1 (i : Nat) : BufTy := match i % 128 with
  | 0 => ⟨S4096x1, .f32⟩
  | 1 => ⟨S_, .f32⟩
  | 2 => ⟨S4096x1, .f32⟩
  | 3 => ⟨S4096x1, .f32⟩
  | 4 => ⟨S_, .f32⟩
  | 5 => ⟨S4096, .f32⟩
  | 6 => ⟨S4096x1024, .f32⟩
  | 7 => ⟨S4096x1024, .f32⟩
  | 8 => ⟨S4096x1024, .f32⟩
  | 9 => ⟨S4096x1024, .f32⟩
  | 10 => ⟨S4096x1024, .f32⟩
  | 11 => ⟨S4096x1024, .f32⟩
  | 12 => ⟨S4096x4x256, .f32⟩
  | 13 => ⟨S4x256x4096, .f32⟩
  | 14 => ⟨S4x4096x256, .f32⟩
  | 15 => ⟨S4x256x256, .f32⟩
  | 16 => ⟨S256x4x256, .f32⟩
  | 17 => ⟨S4x4096x256, .f32⟩
  | 18 => ⟨S4x4096x256, .f32⟩
  | 19 => ⟨S4x4096x256, .f32⟩
  | 20 => ⟨S_, .f32⟩
  | 21 => ⟨S4x4096, .f32⟩
  | 22 => ⟨S4x4096x1, .f32⟩
  | 23 => ⟨S4x4096x1, .f32⟩
  | 24 => ⟨S4x4096x256, .f32⟩
  | 25 => ⟨S4x4096x256, .f32⟩
  | 26 => ⟨S_, .f32⟩
  | 27 => ⟨S4x4096, .f32⟩
  | 28 => ⟨S4x4096x256, .f32⟩
  | 29 => ⟨S4x4096x256, .f32⟩
  | 30 => ⟨S4x4096x256, .f32⟩
  | 31 => ⟨S_, .f32⟩
  | 32 => ⟨S4x4096x256, .f32⟩
  | 33 => ⟨S4x4096x256, .f32⟩
  | 34 => ⟨S4x256x256, .f32⟩
  | 35 => ⟨S256x4x256, .f32⟩
  | 36 => ⟨S4x4096x256, .f32⟩
  | 37 => ⟨S4096x4x256, .f32⟩
  | 38 => ⟨S256x1024, .f32⟩
  | 39 => ⟨S256x1024, .f32⟩
  | 40 => ⟨S4096x1024, .f32⟩
  | 41 => ⟨S4096x1024, .bf16⟩
  | 42 => ⟨S4096x1024, .bf16⟩
  | 43 => ⟨S4096x1024, .bf16⟩
  | 44 => ⟨S4096x1024, .bf16⟩
  | 45 => ⟨S256x1024, .bf16⟩
  | 46 => ⟨S8x512x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S256x1024, .bf16⟩
  | .local _ .vmem, ⟨9, _⟩ => ⟨S256x1024, .f32⟩
  | .local _ .vmem, ⟨10, _⟩ => ⟨S256x1024, .f32⟩
  | .local _ .vmem, ⟨11, _⟩ => ⟨S8x512x1024, .bf16⟩
  | .local _ .vmem, ⟨12, _⟩ => ⟨S1024x1024, .f32⟩
  | .local _ .vmem, ⟨13, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_call0_v2 : Ref sig .tc := ⟨.hbm, 13, rfl⟩
abbrev main_call0_cst_0 : Ref sig .tc := ⟨.hbm, 14, rfl⟩
abbrev main_call0_v3 : Ref sig .tc := ⟨.hbm, 15, rfl⟩
abbrev main_call0_v4 : Ref sig .tc := ⟨.hbm, 16, rfl⟩
abbrev main_call0_cst_1 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_cst_2 : Ref sig .tc := ⟨.hbm, 27, rfl⟩
abbrev main_call0_v14 : Ref sig .tc := ⟨.hbm, 28, rfl⟩
abbrev main_call0_v15 : Ref sig .tc := ⟨.hbm, 29, rfl⟩
abbrev main_call0_cst_3 : Ref sig .tc := ⟨.hbm, 30, rfl⟩
abbrev main_call0_v16 : Ref sig .tc := ⟨.hbm, 31, rfl⟩
abbrev main_call0_v17 : Ref sig .tc := ⟨.hbm, 32, rfl⟩
abbrev main_call0_cst_4 : Ref sig .tc := ⟨.hbm, 33, rfl⟩
abbrev main_call0_v18 : Ref sig .tc := ⟨.hbm, 34, rfl⟩
abbrev main_call0_v19 : Ref sig .tc := ⟨.hbm, 35, rfl⟩
abbrev main_call0_v20 : Ref sig .tc := ⟨.hbm, 36, rfl⟩
abbrev main_call0_v21 : Ref sig .tc := ⟨.hbm, 37, rfl⟩
abbrev main_call0_v22 : Ref sig .tc := ⟨.hbm, 38, rfl⟩
abbrev main_call0_v23 : Ref sig .tc := ⟨.hbm, 39, rfl⟩
abbrev main_call0_v24 : Ref sig .tc := ⟨.hbm, 40, rfl⟩
abbrev main_call0_v25 : Ref sig .tc := ⟨.hbm, 41, rfl⟩
abbrev main_call0_v26 : Ref sig .tc := ⟨.hbm, 42, rfl⟩
abbrev main_call0_v27 : Ref sig .tc := ⟨.hbm, 43, rfl⟩
abbrev main_call0_v28 : Ref sig .tc := ⟨.hbm, 44, rfl⟩
abbrev main_call0_v29 : Ref sig .tc := ⟨.hbm, 45, rfl⟩
abbrev main_call0_v30 : Ref sig .tc := ⟨.hbm, 46, rfl⟩
abbrev main_call0_v31 : Ref sig .tc := ⟨.hbm, 47, rfl⟩
abbrev main_call0_v32 : Ref sig .tc := ⟨.hbm, 48, rfl⟩
abbrev main_call0_cst_5 : Ref sig .tc := ⟨.hbm, 49, rfl⟩
abbrev main_call0_v33 : Ref sig .tc := ⟨.hbm, 50, rfl⟩
abbrev main_call0_v34 : Ref sig .tc := ⟨.hbm, 51, rfl⟩
abbrev main_call0_cst_6 : Ref sig .tc := ⟨.hbm, 52, rfl⟩
abbrev main_call0_v35 : Ref sig .tc := ⟨.hbm, 53, rfl⟩
abbrev main_call0_v36 : Ref sig .tc := ⟨.hbm, 54, rfl⟩
abbrev main_call0_v37 : Ref sig .tc := ⟨.hbm, 55, rfl⟩
abbrev main_call0_v38 : Ref sig .tc := ⟨.hbm, 56, rfl⟩
abbrev main_call0_v39 : Ref sig .tc := ⟨.hbm, 57, rfl⟩
abbrev main_call0_cst_7 : Ref sig .tc := ⟨.hbm, 58, rfl⟩
abbrev main_call0_v40 : Ref sig .tc := ⟨.hbm, 59, rfl⟩
abbrev main_call0_cst_8 : Ref sig .tc := ⟨.hbm, 60, rfl⟩
abbrev main_call0_v41 : Ref sig .tc := ⟨.hbm, 61, rfl⟩
abbrev main_call0_v42 : Ref sig .tc := ⟨.hbm, 62, rfl⟩
abbrev main_call0_cst_9 : Ref sig .tc := ⟨.hbm, 63, rfl⟩
abbrev main_call0_v43 : Ref sig .tc := ⟨.hbm, 64, rfl⟩
abbrev main_call0_v44 : Ref sig .tc := ⟨.hbm, 65, rfl⟩
abbrev main_call0_cst_10 : Ref sig .tc := ⟨.hbm, 66, rfl⟩
abbrev main_call0_v45 : Ref sig .tc := ⟨.hbm, 67, rfl⟩
abbrev main_call0_v46 : Ref sig .tc := ⟨.hbm, 68, rfl⟩
abbrev main_call0_cst_11 : Ref sig .tc := ⟨.hbm, 69, rfl⟩
abbrev main_call0_v47 : Ref sig .tc := ⟨.hbm, 70, rfl⟩
abbrev main_call0_cst_12 : Ref sig .tc := ⟨.hbm, 71, rfl⟩
abbrev main_call0_v48 : Ref sig .tc := ⟨.hbm, 72, rfl⟩
abbrev main_call0_cst_13 : Ref sig .tc := ⟨.hbm, 73, rfl⟩
abbrev main_call0_v49 : Ref sig .tc := ⟨.hbm, 74, rfl⟩
abbrev main_call0_v50 : Ref sig .tc := ⟨.hbm, 75, rfl⟩
abbrev main_call0_v51 : Ref sig .tc := ⟨.hbm, 76, rfl⟩
abbrev main_call0_v52 : Ref sig .tc := ⟨.hbm, 77, rfl⟩
abbrev main_call0_v53 : Ref sig .tc := ⟨.hbm, 78, rfl⟩
abbrev main_call0_v54 : Ref sig .tc := ⟨.hbm, 79, rfl⟩
abbrev main_call0_v55 : Ref sig .tc := ⟨.hbm, 80, rfl⟩
abbrev main_call0_cst_14 : Ref sig .tc := ⟨.hbm, 81, rfl⟩
abbrev main_call0_v56 : Ref sig .tc := ⟨.hbm, 82, rfl⟩
abbrev main_call0_v57 : Ref sig .tc := ⟨.hbm, 83, rfl⟩
abbrev main_call0_v58 : Ref sig .tc := ⟨.hbm, 84, rfl⟩
abbrev main_call0_v59 : Ref sig .tc := ⟨.hbm, 85, rfl⟩
abbrev main_call0_v60 : Ref sig .tc := ⟨.hbm, 86, rfl⟩
abbrev main_call0_cst_15 : Ref sig .tc := ⟨.hbm, 87, rfl⟩
abbrev main_call0_v61 : Ref sig .tc := ⟨.hbm, 88, rfl⟩
abbrev main_call0_v62 : Ref sig .tc := ⟨.hbm, 89, rfl⟩
abbrev main_call0_v63 : Ref sig .tc := ⟨.hbm, 90, rfl⟩
abbrev main_call0_v64 : Ref sig .tc := ⟨.hbm, 91, rfl⟩
abbrev main_call0_v65 : Ref sig .tc := ⟨.hbm, 92, rfl⟩
abbrev main_call0_v66 : Ref sig .tc := ⟨.hbm, 93, rfl⟩
abbrev main_call0_v67 : Ref sig .tc := ⟨.hbm, 94, rfl⟩
abbrev main_call0_cst_16 : Ref sig .tc := ⟨.hbm, 95, rfl⟩
abbrev main_call0_v68 : Ref sig .tc := ⟨.hbm, 96, rfl⟩
abbrev main_call0_v69 : Ref sig .tc := ⟨.hbm, 97, rfl⟩
abbrev main_call0_cst_17 : Ref sig .tc := ⟨.hbm, 98, rfl⟩
abbrev main_call0_v70 : Ref sig .tc := ⟨.hbm, 99, rfl⟩
abbrev main_call0_v71 : Ref sig .tc := ⟨.hbm, 100, rfl⟩
abbrev main_call0_cst_18 : Ref sig .tc := ⟨.hbm, 101, rfl⟩
abbrev main_call0_v72 : Ref sig .tc := ⟨.hbm, 102, rfl⟩
abbrev main_call0_v73 : Ref sig .tc := ⟨.hbm, 103, rfl⟩
abbrev main_call0_v74 : Ref sig .tc := ⟨.hbm, 104, rfl⟩
abbrev main_call0_v75 : Ref sig .tc := ⟨.hbm, 105, rfl⟩
abbrev main_call0_cst_19 : Ref sig .tc := ⟨.hbm, 106, rfl⟩
abbrev main_call0_v76 : Ref sig .tc := ⟨.hbm, 107, rfl⟩
abbrev main_call0_v77 : Ref sig .tc := ⟨.hbm, 108, rfl⟩
abbrev main_call0_v78 : Ref sig .tc := ⟨.hbm, 109, rfl⟩
abbrev main_call0_v79 : Ref sig .tc := ⟨.hbm, 110, rfl⟩
abbrev main_call0_v80 : Ref sig .tc := ⟨.hbm, 111, rfl⟩
abbrev main_call0_v81 : Ref sig .tc := ⟨.hbm, 112, rfl⟩
abbrev main_call0_v82 : Ref sig .tc := ⟨.hbm, 113, rfl⟩
abbrev main_call0_v83 : Ref sig .tc := ⟨.hbm, 114, rfl⟩
abbrev main_call0_cst_20 : Ref sig .tc := ⟨.hbm, 115, rfl⟩
abbrev main_call0_v84 : Ref sig .tc := ⟨.hbm, 116, rfl⟩
abbrev main_call0_v85 : Ref sig .tc := ⟨.hbm, 117, rfl⟩
abbrev main_call0_v86 : Ref sig .tc := ⟨.hbm, 118, rfl⟩
abbrev main_call0_v87 : Ref sig .tc := ⟨.hbm, 119, rfl⟩
abbrev main_call0_cst_21 : Ref sig .tc := ⟨.hbm, 120, rfl⟩
abbrev main_call0_v88 : Ref sig .tc := ⟨.hbm, 121, rfl⟩
abbrev main_call0_v89 : Ref sig .tc := ⟨.hbm, 122, rfl⟩
abbrev main_call0_cst_22 : Ref sig .tc := ⟨.hbm, 123, rfl⟩
abbrev main_call0_v90 : Ref sig .tc := ⟨.hbm, 124, rfl⟩
abbrev main_call0_v91 : Ref sig .tc := ⟨.hbm, 125, rfl⟩
abbrev main_call0_v92 : Ref sig .tc := ⟨.hbm, 126, rfl⟩
abbrev main_call0_v93 : Ref sig .tc := ⟨.hbm, 127, rfl⟩
abbrev main_call0_v94 : Ref sig .tc := ⟨.hbm, 128, rfl⟩
abbrev main_call0_cst_23 : Ref sig .tc := ⟨.hbm, 129, rfl⟩
abbrev main_call0_v95 : Ref sig .tc := ⟨.hbm, 130, rfl⟩
abbrev main_call0_v96 : Ref sig .tc := ⟨.hbm, 131, rfl⟩
abbrev main_call0_cst_24 : Ref sig .tc := ⟨.hbm, 132, rfl⟩
abbrev main_call0_v97 : Ref sig .tc := ⟨.hbm, 133, rfl⟩
abbrev main_call0_v98 : Ref sig .tc := ⟨.hbm, 134, rfl⟩
abbrev main_call0_v99 : Ref sig .tc := ⟨.hbm, 135, rfl⟩
abbrev main_call0_v100 : Ref sig .tc := ⟨.hbm, 136, rfl⟩
abbrev main_call0_v101 : Ref sig .tc := ⟨.hbm, 137, rfl⟩
abbrev main_call0_v102 : Ref sig .tc := ⟨.hbm, 138, rfl⟩
abbrev main_call0_v103 : Ref sig .tc := ⟨.hbm, 139, rfl⟩
abbrev main_call0_v104 : Ref sig .tc := ⟨.hbm, 140, rfl⟩
abbrev main_call0_v105 : Ref sig .tc := ⟨.hbm, 141, rfl⟩
abbrev main_call0_v106 : Ref sig .tc := ⟨.hbm, 142, rfl⟩
abbrev main_call0_v107 : Ref sig .tc := ⟨.hbm, 143, rfl⟩
abbrev main_call0_v108 : Ref sig .tc := ⟨.hbm, 144, rfl⟩
abbrev main_call0_v109 : Ref sig .tc := ⟨.hbm, 145, rfl⟩
abbrev main_call0_v110 : Ref sig .tc := ⟨.hbm, 146, rfl⟩
abbrev main_call0_v111 : Ref sig .tc := ⟨.hbm, 147, rfl⟩
abbrev main_call0_cst_25 : Ref sig .tc := ⟨.hbm, 148, rfl⟩
abbrev main_call0_v112 : Ref sig .tc := ⟨.hbm, 149, rfl⟩
abbrev main_call0_v113 : Ref sig .tc := ⟨.hbm, 150, rfl⟩
abbrev main_call0_v114 : Ref sig .tc := ⟨.hbm, 151, rfl⟩
abbrev main_call0_v115 : Ref sig .tc := ⟨.hbm, 152, rfl⟩
abbrev main_call0_v116 : Ref sig .tc := ⟨.hbm, 153, rfl⟩
abbrev main_call0_cst_26 : Ref sig .tc := ⟨.hbm, 154, rfl⟩
abbrev main_call0_v117 : Ref sig .tc := ⟨.hbm, 155, rfl⟩
abbrev main_call0_v118 : Ref sig .tc := ⟨.hbm, 156, rfl⟩
abbrev main_call0_v119 : Ref sig .tc := ⟨.hbm, 157, rfl⟩
abbrev main_call0_v120 : Ref sig .tc := ⟨.hbm, 158, rfl⟩
abbrev main_call0_cst_27 : Ref sig .tc := ⟨.hbm, 159, rfl⟩
abbrev main_call0_v121 : Ref sig .tc := ⟨.hbm, 160, rfl⟩
abbrev main_call0_v122 : Ref sig .tc := ⟨.hbm, 161, rfl⟩
abbrev main_call0_v123 : Ref sig .tc := ⟨.hbm, 162, rfl⟩
abbrev main_call0_v124 : Ref sig .tc := ⟨.hbm, 163, rfl⟩
abbrev main_call0_v125 : Ref sig .tc := ⟨.hbm, 164, rfl⟩
abbrev main_call0_v126 : Ref sig .tc := ⟨.hbm, 165, rfl⟩
abbrev main_v0_6 : Ref sig .tc := ⟨.hbm, 166, rfl⟩
abbrev main_v0_5 : Ref sig .tc := ⟨.hbm, 167, rfl⟩
abbrev main_call0_v129 : Ref sig .tc := ⟨.hbm, 168, rfl⟩
abbrev main_v0_0 : Ref sig .tc := ⟨.hbm, 169, rfl⟩
abbrev main_v0_1 : Ref sig .tc := ⟨.hbm, 170, rfl⟩
abbrev main_v0_2 : Ref sig .tc := ⟨.hbm, 171, rfl⟩
abbrev main_v0_3 : Ref sig .tc := ⟨.hbm, 172, rfl⟩
abbrev main_v0_4 : Ref sig .tc := ⟨.hbm, 173, rfl⟩
abbrev main_v1 : Ref sig .tc := ⟨.hbm, 174, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v23 : BitVec 1 := Scalar.cmpi .eq arg0 c3_i32
  let v24 : BitVec 32 := Scalar.extui v23
  let c0_i32_17 : BitVec 32 := 0#32
  let v25 : BitVec 1 := Scalar.cmpi .ne v24 c0_i32_17
  v25

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference7Ideal.lean ====
abbrev S4096x1024 : Shape := ⟨2, ![4096, 1024]⟩
abbrev S256x1024 : Shape := ⟨2, ![256, 1024]⟩
abbrev S1024 : Shape := ⟨1, ![1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S256 : Shape := ⟨1, ![256]⟩
abbrev S256x1 : Shape := ⟨2, ![256, 1]⟩
abbrev S4096x4x256 : Shape := ⟨3, ![4096, 4, 256]⟩
abbrev S256x4x256 : Shape := ⟨3, ![256, 4, 256]⟩
abbrev S4x4096x256 : Shape := ⟨3, ![4, 4096, 256]⟩
abbrev S4x4096 : Shape := ⟨2, ![4, 4096]⟩
abbrev S4x4096x1 : Shape := ⟨3, ![4, 4096, 1]⟩
abbrev S4x256x4096 : Shape := ⟨3, ![4, 256, 4096]⟩
abbrev S4x256x256 : Shape := ⟨3, ![4, 256, 256]⟩
abbrev S8x128x1024 : Shape := ⟨3, ![8, 128, 1024]⟩
abbrev S8x512x1024 : Shape := ⟨3, ![8, 512, 1024]⟩

abbrev nBuf : Space → Nat
  | .hbm => 177
  | .vmem => 0
  | .smem => 0
  | _ => 0

abbrev hbmTy0_0 (i : Nat) : BufTy := match i % 128 with
  | 0 => ⟨S4096x1024, .f32⟩
  | 1 => ⟨S4096x1024, .f32⟩
  | 2 => ⟨S256x1024, .f32⟩
  | 3 => ⟨S1024, .f32⟩
  | 4 => ⟨S1024, .f32⟩
  | 5 => ⟨S1024, .f32⟩
  | 6 => ⟨S1024x1024, .f32⟩
  | 7 => ⟨S1024x1024, .f32⟩
  | 8 => ⟨S1024x1024, .f32⟩
  | 9 => ⟨S1024x1024, .f32⟩
  | 10 => ⟨S4096x1024, .f32⟩
  | 11 => ⟨S_, .f32⟩
  | 12 => ⟨S4096, .f32⟩
  | 13 => ⟨S4096x1, .f32⟩
  | 14 => ⟨S_, .f32⟩
  | 15 => ⟨S4096x1, .f32⟩
  | 16 => ⟨S4096x1, .f32⟩
  | 17 => ⟨S_, .f32⟩
  | 18 => ⟨S4096x1, .f32⟩
  | 19 => ⟨S4096x1, .f32⟩
  | 20 => ⟨S4096x1, .f32⟩
  | 21 => ⟨S4096x1024, .f32⟩
  | 22 => ⟨S4096x1024, .f32⟩
  | 23 => ⟨S1x1024, .f32⟩
  | 24 => ⟨S4096x1024, .f32⟩
  | 25 => ⟨S4096x1024, .f32⟩
  | 26 => ⟨S256x1024, .f32⟩
  | 27 => ⟨S_, .f32⟩
  | 28 => ⟨S256, .f32⟩
  | 29 => ⟨S256x1, .f32⟩
  | 30 => ⟨S_, .f32⟩
  | 31 => ⟨S256x1, .f32⟩
  | 32 => ⟨S256x1, .f32⟩
  | 33 => ⟨S_, .f32⟩
  | 34 => ⟨S256x1, .f32⟩
  | 35 => ⟨S256x1, .f32⟩
  | 36 => ⟨S256x1, .f32⟩
  | 37 => ⟨S256x1024, .f32⟩
  | 38 => ⟨S256x1024, .f32⟩
  | 39 => ⟨S1x1024, .f32⟩
  | 40 => ⟨S256x1024, .f32⟩
  | 41 => ⟨S256x1024, .f32⟩
  | 42 => ⟨S4096x1024, .f32⟩
  | 43 => ⟨S256x1024, .f32⟩
  | 44 => ⟨S256x1024, .f32⟩
  | 45 => ⟨S4096x4x256, .f32⟩
  | 46 => ⟨S256x4x256, .f32⟩
  | 47 => ⟨S256x4x256, .f32⟩
  | 48 => ⟨S4x4096x256, .f32⟩
  | 49 => ⟨S_, .f32⟩
  | 50 => ⟨S4x4096x256, .f32⟩
  | 51 => ⟨S4x4096x256, .f32⟩
  | 52 => ⟨S_, .f32⟩
  | 53 => ⟨S4x4096, .f32⟩
  | 54 => ⟨S4x4096x1, .f32⟩
  | 55 => ⟨S4x4096x256, .f32⟩
  | 56 => ⟨S4x4096x256, .i1⟩
  | 57 => ⟨S4x4096x256, .f32⟩
  | 58 => ⟨S_, .f32⟩
  | 59 => ⟨S4x4096, .f32⟩
  | 60 => ⟨S_, .f32⟩
  | 61 => ⟨S4x4096, .f32⟩
  | 62 => ⟨S4x4096, .f32⟩
  | 63 => ⟨S_, .f32⟩
  | 64 => ⟨S4x4096, .f32⟩
  | 65 => ⟨S4x4096, .i1⟩
  | 66 => ⟨S_, .f32⟩
  | 67 => ⟨S4x4096, .f32⟩
  | 68 => ⟨S4x4096, .i1⟩
  | 69 => ⟨S_, .f32⟩
  | 70 => ⟨S4x4096, .f32⟩
  | 71 => ⟨S_, .f32⟩
  | 72 => ⟨S4x4096, .f32⟩
  | 73 => ⟨S_, .f32⟩
  | 74 => ⟨S4x4096, .f32⟩
  | 75 => ⟨S4x4096, .f32⟩
  | 76 => ⟨S4x4096, .f32⟩
  | 77 => ⟨S4x4096x1, .f32⟩
  | 78 => ⟨S4x4096x256, .f32⟩
  | 79 => ⟨S4x4096x256, .f32⟩
  | 80 => ⟨S4x4096x256, .f32⟩
  | 81 => ⟨S_, .f32⟩
  | 82 => ⟨S4x4096, .f32⟩
  | 83 => ⟨S4x4096x1, .f32⟩
  | 84 => ⟨S4x4096x256, .f32⟩
  | 85 => ⟨S4x4096x256, .f32⟩
  | 86 => ⟨S4x4096x1, .f32⟩
  | 87 => ⟨S_, .f32⟩
  | 88 => ⟨S4x4096x1, .f32⟩
  | 89 => ⟨S4x4096x1, .f32⟩
  | 90 => ⟨S4x256x4096, .f32⟩
  | 91 => ⟨S4096x4x256, .f32⟩
  | 92 => ⟨S4096x1024, .f32⟩
  | 93 => ⟨S4096x1024, .f32⟩
  | 94 => ⟨S4096x1024, .f32⟩
  | 95 => ⟨S_, .f32⟩
  | 96 => ⟨S4096, .f32⟩
  | 97 => ⟨S4096x1, .f32⟩
  | 98 => ⟨S_, .f32⟩
  | 99 => ⟨S4096x1, .f32⟩
  | 100 => ⟨S4096x1, .f32⟩
  | 101 => ⟨S_, .f32⟩
  | 102 => ⟨S4096x1, .f32⟩
  | 103 => ⟨S4096x1, .f32⟩
  | 104 => ⟨S4096x1, .f32⟩
  | 105 => ⟨S4096x1, .f32⟩
  | 106 => ⟨S_, .f32⟩
  | 107 => ⟨S4096x1, .f32⟩
  | 108 => ⟨S4096x1, .f32⟩
  | 109 => ⟨S4096x1024, .f32⟩
  | 110 => ⟨S4096x1024, .f32⟩
  | 111 => ⟨S1x1024, .f32⟩
  | 112 => ⟨S4096x1024, .f32⟩
  | 113 => ⟨S4096x1024, .f32⟩
  | 114 => ⟨S4096x1024, .f32⟩
  | 115 => ⟨S4096x1024, .f32⟩
  | 116 => ⟨S4096x1024, .f32⟩
  | 117 => ⟨S_, .f32⟩
  | 118 => ⟨S4096, .f32⟩
  | 119 => ⟨S4096x1, .f32⟩
  | 120 => ⟨S4096x1024, .f32⟩
  | 121 => ⟨S4096x1024, .f32⟩
  | 122 => ⟨S4096x1, .f32⟩
  | 123 => ⟨S_, .f32⟩
  | 124 => ⟨S4096x1, .f32⟩
  | 125 => ⟨S4096x1, .f32⟩
  | 126 => ⟨S_, .f32⟩
  | 127 => ⟨S4096, .f32⟩
  | _ => ⟨S4096x1024, .f32⟩

abbrev hbmTy0_1 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S4096x1024, .f32⟩
  | 5 => ⟨S1024x1024, .f32⟩
  | 6 => ⟨S1024x1024, .f32⟩
  | 7 => ⟨S4096x1024, .f32⟩
  | 8 => ⟨S4096x4x256, .f32⟩
  | 9 => ⟨S4x256x4096, .f32⟩
  | 10 => ⟨S4x4096x256, .f32⟩
  | 11 => ⟨S4x256x256, .f32⟩
  | 12 => ⟨S256x4x256, .f32⟩
  | 13 => ⟨S4x4096x256, .f32⟩
  | 14 => ⟨S4x4096x256, .f32⟩
  | 15 => ⟨S4x4096x256, .f32⟩
  | 16 => ⟨S_, .f32⟩
  | 17 => ⟨S4x4096, .f32⟩
  | 18 => ⟨S4x4096x1, .f32⟩
  | 19 => ⟨S4x4096x1, .f32⟩
  | 20 => ⟨S4x4096x256, .f32⟩
  | 21 => ⟨S4x4096x256, .f32⟩
  | 22 => ⟨S_, .f32⟩
  | 23 => ⟨S4x4096, .f32⟩
  | 24 => ⟨S4x4096x256, .f32⟩
  | 25 => ⟨S4x4096x256, .f32⟩
  | 26 => ⟨S4x4096x256, .f32⟩
  | 27 => ⟨S_, .f32⟩
  | 28 => ⟨S4x4096x256, .f32⟩
  | 29 => ⟨S4x4096x256, .f32⟩
  | 30 => ⟨S4x256x256, .f32⟩
  | 31 => ⟨S256x4x256, .f32⟩
  | 32 => ⟨S4x4096x256, .f32⟩
  | 33 => ⟨S4096x4x256, .f32⟩
  | 34 => ⟨S256x1024, .f32⟩
  | 35 => ⟨S256x1024, .f32⟩
  | 36 => ⟨S4096x1024, .f32⟩
  | 37 => ⟨S1024x1024, .f32⟩
  | 38 => ⟨S1024x1024, .f32⟩
  | 39 => ⟨S1024x1024, .f32⟩
  | 40 => ⟨S1024x1024, .f32⟩
  | 41 => ⟨S1024x1024, .f32⟩
  | 42 => ⟨S1024x1024, .f32⟩
  | 43 => ⟨S8x128x1024, .f32⟩
  | 44 => ⟨S8x128x1024, .f32⟩
  | 45 => ⟨S8x128x1024, .f32⟩
  | 46 => ⟨S8x128x1024, .f32⟩
  | 47 => ⟨S8x512x1024, .f32⟩
  | 48 => ⟨S8x512x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_v46 : Ref sig .tc := ⟨.hbm, 68, rfl⟩
abbrev main_cst_11 : Ref sig .tc := ⟨.hbm, 69, rfl⟩
abbrev main_v47 : Ref sig .tc := ⟨.hbm, 70, rfl⟩
abbrev main_cst_12 : Ref sig .tc := ⟨.hbm, 71, rfl⟩
abbrev main_v48 : Ref sig .tc := ⟨.hbm, 72, rfl⟩
abbrev main_cst_13 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_14 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_15 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_16 : Ref sig .tc := ⟨.hbm, 95, rfl⟩
abbrev main_v68 : Ref sig .tc := ⟨.hbm, 96, rfl⟩
abbrev main_v69 : Ref sig .tc := ⟨.hbm, 97, rfl⟩
abbrev main_cst_17 : Ref sig .tc := ⟨.hbm, 98, rfl⟩
abbrev main_v70 : Ref sig .tc := ⟨.hbm, 99, rfl⟩
abbrev main_v71 : Ref sig .tc := ⟨.hbm, 100, rfl⟩
abbrev main_cst_18 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_19 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_20 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_21 : Ref sig .tc := ⟨.hbm, 123, rfl⟩
abbrev main_v91 : Ref sig .tc := ⟨.hbm, 124, rfl⟩
abbrev main_v92 : Ref sig .tc := ⟨.hbm, 125, rfl⟩
abbrev main_cst_22 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_cst_23 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_cst_24 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_cst_25 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩

abbrev nD : Nat := 1
abbrev τ : Topo := Topo.v7x

variable {F : FTy → Type} [FloatOps F]
-- ==== Kernel8.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel8Ideal.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference8Ideal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel9.lean ====
abbrev S4x512 : Shape := ⟨2, ![4, 512]⟩

abbrev nBuf : Space → Nat
  | .hbm => 7
  | .vmem => 7
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S4x512, .f32⟩
  | .hbm, ⟨5, _⟩ => ⟨S4x512, .f32⟩
  | .hbm, ⟨6, _⟩ => ⟨S4x512, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel9Ideal.lean ====
abbrev S4x512 : Shape := ⟨2, ![4, 512]⟩

abbrev nBuf : Space → Nat
  | .hbm => 7
  | .vmem => 7
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S4x512, .f32⟩
  | .hbm, ⟨5, _⟩ => ⟨S4x512, .f32⟩
  | .hbm, ⟨6, _⟩ => ⟨S4x512, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference9Ideal.lean ====
abbrev S4x512 : Shape := ⟨2, ![4, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S_, .f32⟩
  | .hbm, ⟨5, _⟩ => ⟨S4x512, .f32⟩
  | .hbm, ⟨6, _⟩ => ⟨S4x512, .f32⟩
  | .hbm, ⟨7, _⟩ => ⟨S_, .f32⟩
  | .hbm, ⟨8, _⟩ => ⟨S4x512, .f32⟩
  | .hbm, ⟨9, _⟩ => ⟨S4x512, .f32⟩
  | .hbm, ⟨10, _⟩ => ⟨S4x512, .f32⟩
  | .hbm, ⟨11, _⟩ => ⟨S_, .f32⟩
  | .hbm, ⟨12, _⟩ => ⟨S4x512, .f32⟩
  | .hbm, ⟨13, _⟩ => ⟨S4x512, .f32⟩
  | .hbm, ⟨14, _⟩ => ⟨S4x512, .f32⟩
  | .hbm, ⟨15, _⟩ => ⟨S_, .f32⟩
  | .hbm, ⟨16, _⟩ => ⟨S4x512, .f32⟩
  | .hbm, ⟨17, _⟩ => ⟨S4x512, .f32⟩
  | .hbm, ⟨18, _⟩ => ⟨S4x512, .f32⟩
  | .hbm, ⟨19, _⟩ => ⟨S_, .f32⟩
  | .hbm, ⟨20, _⟩ => ⟨S4x512, .f32⟩
  | .hbm, ⟨21, _⟩ => ⟨S4x512, .f32⟩
  | .hbm, ⟨22, _⟩ => ⟨S_, .f32⟩
  | .hbm, ⟨23, _⟩ => ⟨S4x512, .f32⟩
  | .hbm, ⟨24, _⟩ => ⟨S4x512, .f32⟩
  | .hbm, ⟨25, _⟩ => ⟨S4x512, .f32⟩
  | .hbm, ⟨26, _⟩ => ⟨S_, .f32⟩
  | .hbm, ⟨27, _⟩ => ⟨S4x512, .f32⟩
  | .hbm, ⟨28, _⟩ => ⟨S4x512, .f32⟩
  | .hbm, ⟨29, _⟩ => ⟨S4x512, .f32⟩
  | .hbm, ⟨30, _⟩ => ⟨S_, .f32⟩
  | .hbm, ⟨31, _⟩ => ⟨S4x512, .f32⟩
  | .hbm, ⟨32, _⟩ => ⟨S4x512, .f32⟩
  | .hbm, ⟨33, _⟩ => ⟨S4x512, .f32⟩
  | .hbm, ⟨34, _⟩ => ⟨S_, .f32⟩
  | .hbm, ⟨35, _⟩ => ⟨S4x512, .f32⟩
  | .hbm, ⟨36, _⟩ => ⟨S4x512, .f32⟩
  | _, _ => ⟨S4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel10.lean ====
abbrev S4096x512 : Shape := ⟨2, ![4096, 512]⟩
abbrev S512x512 : Shape := ⟨2, ![512, 512]⟩

abbrev nBuf : Space → Nat
  | .hbm => 7
  | .vmem => 14
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel10Ideal.lean ====
abbrev S4096x512 : Shape := ⟨2, ![4096, 512]⟩
abbrev S512x512 : Shape := ⟨2, ![512, 512]⟩

abbrev nBuf : Space → Nat
  | .hbm => 7
  | .vmem => 14
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference10Ideal.lean ====
abbrev S4096x512 : Shape := ⟨2, ![4096, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S_, .f32⟩
  | .hbm, ⟨5, _⟩ => ⟨S4096x512, .f32⟩
  | .hbm, ⟨6, _⟩ => ⟨S4096x512, .f32⟩
  | .hbm, ⟨7, _⟩ => ⟨S_, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S_, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S_, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S_, .f32⟩
  | .hbm, ⟨20, _⟩ => ⟨S4096x512, .f32⟩
  | .hbm, ⟨21, _⟩ => ⟨S4096x512, .f32⟩
  | .hbm, ⟨22, _⟩ => ⟨S_, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S_, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S_, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S_, .f32⟩
  | .hbm, ⟨35, _⟩ => ⟨S4096x512, .f32⟩
  | .hbm, ⟨36, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel11.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S8x352x1024 : Shape := ⟨3, ![8, 352, 1024]⟩
abbrev S8x1056x1024 : Shape := ⟨3, ![8, 1056, 1024]⟩
abbrev S_ : Shape := ⟨0, ![]⟩
abbrev S0 : Shape := ⟨1, ![0]⟩
abbrev S14848 : Shape := ⟨1, ![14848]⟩
abbrev S16896 : Shape := ⟨1, ![16896]⟩
abbrev S1x16896 : Shape := ⟨2, ![1, 16896]⟩
abbrev S8x128 : Shape := ⟨2, ![8, 128]⟩
abbrev S4x4096x704 : Shape := ⟨3, ![4, 4096, 704]⟩
abbrev S512x1024 : Shape := ⟨2, ![512, 1024]⟩
abbrev S1x1024 : Shape := ⟨2, ![1, 1024]⟩
abbrev S2x352x1024 : Shape := ⟨3, ![2, 352, 1024]⟩
abbrev S1x512x704 : Shape := ⟨3, ![1, 512, 704]⟩
abbrev S512 : Shape := ⟨1, ![512]⟩
abbrev S512x1 : Shape := ⟨2, ![512, 1]⟩
abbrev S704x1024 : Shape := ⟨2, ![704, 1024]⟩
abbrev S512x704 : Shape := ⟨2, ![512, 704]⟩

abbrev nBuf : Space → Nat
  | .hbm => 26
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S8x352x1024, .f32⟩
  | .hbm, ⟨9, _⟩ => ⟨S8x352x1024, .f32⟩
  | .hbm, ⟨10, _⟩ => ⟨S8x352x1024, .f32⟩
  | .hbm, ⟨11, _⟩ => ⟨S8x1056x1024, .f32⟩
  | .hbm, ⟨12, _⟩ => ⟨S8x1056x1024, .bf16⟩
  | .hbm, ⟨13, _⟩ => ⟨S_, .f32⟩
  | .hbm, ⟨14, _⟩ => ⟨S0, .f32⟩
  | .hbm, ⟨15, _⟩ => ⟨S_, .f32⟩
  | .hbm, ⟨16, _⟩ => ⟨S14848, .f32⟩
  | .hbm, ⟨17, _⟩ => ⟨S16896, .f32⟩
  | .hbm, ⟨18, _⟩ => ⟨S1x16896, .f32⟩
  | .hbm, ⟨19, _⟩ => ⟨S_, .f32⟩
  | .hbm, ⟨20, _⟩ => ⟨S8x128, .f32⟩
  | .hbm, ⟨21, _⟩ => ⟨S4096x1024, .f32⟩
  | .hbm, ⟨22, _⟩ => ⟨S4096x1024, .bf16⟩
  | .hbm, ⟨23, _⟩ => ⟨S4x4096x704, .bf16⟩
  | .hbm, ⟨24, _⟩ => ⟨S4x4096x704, .bf16⟩
  | .hbm, ⟨25, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S2x352x1024, .bf16⟩
  | .local _ .vmem, ⟨5, _⟩ => ⟨S2x352x1024, .bf16⟩
  | .local _ .vmem, ⟨6, _⟩ => ⟨S2x352x1024, .bf16⟩
  | .local _ .vmem, ⟨7, _⟩ => ⟨S2x352x1024, .bf16⟩
  | .local _ .vmem, ⟨8, _⟩ => ⟨S2x352x1024, .bf16⟩
  | .local _ .vmem, ⟨9, _⟩ => ⟨S2x352x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x512x704, .bf16⟩
  | .local _ .vmem, ⟨15, _⟩ => ⟨S1x512x704, .bf16⟩
  | .local _ .vmem, ⟨16, _⟩ => ⟨S1x512x704, .bf16⟩
  | .local _ .vmem, ⟨17, _⟩ => ⟨S1x512x704, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v12_3 : Ref sig .tc := ⟨.hbm, 24, rfl⟩
abbrev main_v12_4 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v34 : BitVec 1 := Scalar.cmpi .eq arg1 c3_i32
  let v35 : BitVec 32 := Scalar.extui v34
  let c0_i32_25 : BitVec 32 := 0#32
  let v36 : BitVec 1 := Scalar.cmpi .ne v35 c0_i32_25
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg1.toNat, c1_i32.toNat, c0_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![arg1.toNat, c2_i32.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2x352x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x352x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2x352x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference11Ideal.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩
abbrev S4096x4x704 : Shape := ⟨3, ![4096, 4, 704]⟩
abbrev S4x4096x704 : Shape := ⟨3, ![4, 4096, 704]⟩

abbrev nBuf : Space → Nat
  | .hbm => 63
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .bf16⟩
  | .hbm, ⟨56, _⟩ => ⟨S4096x4x704, .f32⟩
  | .hbm, ⟨57, _⟩ => ⟨S4x4096x704, .f32⟩
  | .hbm, ⟨58, _⟩ => ⟨S4x4096x704, .bf16⟩
  | .hbm, ⟨59, _⟩ => ⟨S4096x4x704, .f32⟩
  | .hbm, ⟨60, _⟩ => ⟨S4x4096x704, .f32⟩
  | .hbm, ⟨61, _⟩ => ⟨S4x4096x704, .bf16⟩
  | .hbm, ⟨62, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]
-- ==== Kernel12.lean ====
abbrev S4x4096 : Shape := ⟨2, ![4, 4096]⟩

abbrev nBuf : Space → Nat
  | .hbm => 7
  | .vmem => 7
  | .smem => 0
  | _ => 0

abbrev bufTy : (tb : Table) → Fin (tcTables nBuf tb) → BufTy
  | .hbm, ⟨0, _⟩ => ⟨S4x4096, .f32⟩
  | .hbm, ⟨1, _⟩ => ⟨S4x4096, .f32⟩
  | .hbm, ⟨2, _⟩ => ⟨S4x4096, .f32⟩
  | .hbm, ⟨3, _⟩ => ⟨S4x4096, .f32⟩
  | .hbm, ⟨4, _⟩ => ⟨S4x4096, .f32⟩
  | .hbm, ⟨5, _⟩ => ⟨S4x4096, .f32⟩
  | .hbm, ⟨6, _⟩ => ⟨S4x4096, .f32⟩
  | .local _ .vmem, ⟨0, _⟩ => ⟨S4x4096, .f32⟩
  | .local _ .vmem, ⟨1, _⟩ => ⟨S4x4096, .f32⟩
  | .local _ .vmem, ⟨2, _⟩ => ⟨S4x4096, .f32⟩
  | .local _ .vmem, ⟨3, _⟩ => ⟨S4x4096, .f32⟩
  | .local _ .vmem, ⟨4, _⟩ => ⟨S4x4096, .f32⟩
  | .local _ .vmem, ⟨5, _⟩ => ⟨S4x4096, .f32⟩
  | .local _ .vmem, ⟨6, _⟩ => ⟨S4x4096, .f32⟩
  | _, _ => ⟨S4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel12Ideal.lean ====
abbrev S4x4096 : Shape := ⟨2, ![4, 4096]⟩

abbrev nBuf : Space → Nat
  | .hbm => 7
  | .vmem => 7
  | .smem => 0
  | _ => 0

abbrev bufTy : (tb : Table) → Fin (tcTables nBuf tb) → BufTy
  | .hbm, ⟨0, _⟩ => ⟨S4x4096, .f32⟩
  | .hbm, ⟨1, _⟩ => ⟨S4x4096, .f32⟩
  | .hbm, ⟨2, _⟩ => ⟨S4x4096, .f32⟩
  | .hbm, ⟨3, _⟩ => ⟨S4x4096, .f32⟩
  | .hbm, ⟨4, _⟩ => ⟨S4x4096, .f32⟩
  | .hbm, ⟨5, _⟩ => ⟨S4x4096, .f32⟩
  | .hbm, ⟨6, _⟩ => ⟨S4x4096, .f32⟩
  | .local _ .vmem, ⟨0, _⟩ => ⟨S4x4096, .f32⟩
  | .local _ .vmem, ⟨1, _⟩ => ⟨S4x4096, .f32⟩
  | .local _ .vmem, ⟨2, _⟩ => ⟨S4x4096, .f32⟩
  | .local _ .vmem, ⟨3, _⟩ => ⟨S4x4096, .f32⟩
  | .local _ .vmem, ⟨4, _⟩ => ⟨S4x4096, .f32⟩
  | .local _ .vmem, ⟨5, _⟩ => ⟨S4x4096, .f32⟩
  | .local _ .vmem, ⟨6, _⟩ => ⟨S4x4096, .f32⟩
  | _, _ => ⟨S4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference12Ideal.lean ====
abbrev S4x4096 : Shape := ⟨2, ![4, 4096]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x4096, .f32⟩
  | .hbm, ⟨1, _⟩ => ⟨S4x4096, .f32⟩
  | .hbm, ⟨2, _⟩ => ⟨S4x4096, .f32⟩
  | .hbm, ⟨3, _⟩ => ⟨S4x4096, .f32⟩
  | .hbm, ⟨4, _⟩ => ⟨S_, .f32⟩
  | .hbm, ⟨5, _⟩ => ⟨S4x4096, .f32⟩
  | .hbm, ⟨6, _⟩ => ⟨S4x4096, .f32⟩
  | .hbm, ⟨7, _⟩ => ⟨S_, .f32⟩
  | .hbm, ⟨8, _⟩ => ⟨S4x4096, .f32⟩
  | .hbm, ⟨9, _⟩ => ⟨S4x4096, .f32⟩
  | .hbm, ⟨10, _⟩ => ⟨S4x4096, .f32⟩
  | .hbm, ⟨11, _⟩ => ⟨S_, .f32⟩
  | .hbm, ⟨12, _⟩ => ⟨S4x4096, .f32⟩
  | .hbm, ⟨13, _⟩ => ⟨S4x4096, .f32⟩
  | .hbm, ⟨14, _⟩ => ⟨S4x4096, .f32⟩
  | .hbm, ⟨15, _⟩ => ⟨S_, .f32⟩
  | .hbm, ⟨16, _⟩ => ⟨S4x4096, .f32⟩
  | .hbm, ⟨17, _⟩ => ⟨S4x4096, .f32⟩
  | .hbm, ⟨18, _⟩ => ⟨S4x4096, .f32⟩
  | .hbm, ⟨19, _⟩ => ⟨S_, .f32⟩
  | .hbm, ⟨20, _⟩ => ⟨S4x4096, .f32⟩
  | .hbm, ⟨21, _⟩ => ⟨S4x4096, .f32⟩
  | .hbm, ⟨22, _⟩ => ⟨S_, .f32⟩
  | .hbm, ⟨23, _⟩ => ⟨S4x4096, .f32⟩
  | .hbm, ⟨24, _⟩ => ⟨S4x4096, .f32⟩
  | .hbm, ⟨25, _⟩ => ⟨S4x4096, .f32⟩
  | .hbm, ⟨26, _⟩ => ⟨S_, .f32⟩
  | .hbm, ⟨27, _⟩ => ⟨S4x4096, .f32⟩
  | .hbm, ⟨28, _⟩ => ⟨S4x4096, .f32⟩
  | .hbm, ⟨29, _⟩ => ⟨S4x4096, .f32⟩
  | .hbm, ⟨30, _⟩ => ⟨S_, .f32⟩
  | .hbm, ⟨31, _⟩ => ⟨S4x4096, .f32⟩
  | .hbm, ⟨32, _⟩ => ⟨S4x4096, .f32⟩
  | .hbm, ⟨33, _⟩ => ⟨S4x4096, .f32⟩
  | .hbm, ⟨34, _⟩ => ⟨S_, .f32⟩
  | .hbm, ⟨35, _⟩ => ⟨S4x4096, .f32⟩
  | .hbm, ⟨36, _⟩ => ⟨S4x4096, .f32⟩
  | _, _ => ⟨S4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S2048x128 : Shape := ⟨2, ![2048, 128]⟩

abbrev nBuf : Space → Nat
  | .hbm => 7
  | .vmem => 7
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S2048x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel13Ideal.lean ====
abbrev S2048x128 : Shape := ⟨2, ![2048, 128]⟩

abbrev nBuf : Space → Nat
  | .hbm => 7
  | .vmem => 7
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S2048x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference13Ideal.lean ====
abbrev S2048x128 : Shape := ⟨2, ![2048, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S_, .f32⟩
  | .hbm, ⟨5, _⟩ => ⟨S2048x128, .f32⟩
  | .hbm, ⟨6, _⟩ => ⟨S2048x128, .f32⟩
  | .hbm, ⟨7, _⟩ => ⟨S_, .f32⟩
  | .hbm, ⟨8, _⟩ => ⟨S2048x128, .f32⟩
  | .hbm, ⟨9, _⟩ => ⟨S2048x128, .f32⟩
  | .hbm, ⟨10, _⟩ => ⟨S2048x128, .f32⟩
  | .hbm, ⟨11, _⟩ => ⟨S_, .f32⟩
  | .hbm, ⟨12, _⟩ => ⟨S2048x128, .f32⟩
  | .hbm, ⟨13, _⟩ => ⟨S2048x128, .f32⟩
  | .hbm, ⟨14, _⟩ => ⟨S2048x128, .f32⟩
  | .hbm, ⟨15, _⟩ => ⟨S_, .f32⟩
  | .hbm, ⟨16, _⟩ => ⟨S2048x128, .f32⟩
  | .hbm, ⟨17, _⟩ => ⟨S2048x128, .f32⟩
  | .hbm, ⟨18, _⟩ => ⟨S2048x128, .f32⟩
  | .hbm, ⟨19, _⟩ => ⟨S_, .f32⟩
  | .hbm, ⟨20, _⟩ => ⟨S2048x128, .f32⟩
  | .hbm, ⟨21, _⟩ => ⟨S2048x128, .f32⟩
  | .hbm, ⟨22, _⟩ => ⟨S_, .f32⟩
  | .hbm, ⟨23, _⟩ => ⟨S2048x128, .f32⟩
  | .hbm, ⟨24, _⟩ => ⟨S2048x128, .f32⟩
  | .hbm, ⟨25, _⟩ => ⟨S2048x128, .f32⟩
  | .hbm, ⟨26, _⟩ => ⟨S_, .f32⟩
  | .hbm, ⟨27, _⟩ => ⟨S2048x128, .f32⟩
  | .hbm, ⟨28, _⟩ => ⟨S2048x128, .f32⟩
  | .hbm, ⟨29, _⟩ => ⟨S2048x128, .f32⟩
  | .hbm, ⟨30, _⟩ => ⟨S_, .f32⟩
  | .hbm, ⟨31, _⟩ => ⟨S2048x128, .f32⟩
  | .hbm, ⟨32, _⟩ => ⟨S2048x128, .f32⟩
  | .hbm, ⟨33, _⟩ => ⟨S2048x128, .f32⟩
  | .hbm, ⟨34, _⟩ => ⟨S_, .f32⟩
  | .hbm, ⟨35, _⟩ => ⟨S2048x128, .f32⟩
  | .hbm, ⟨36, _⟩ => ⟨S2048x128, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S8192x128 : Shape := ⟨2, ![8192, 128]⟩
abbrev S2048x128 : Shape := ⟨2, ![2048, 128]⟩

abbrev nBuf : Space → Nat
  | .hbm => 7
  | .vmem => 14
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S8192x128, .f32⟩
  | .hbm, ⟨4, _⟩ => ⟨S8192x128, .f32⟩
  | .hbm, ⟨5, _⟩ => ⟨S8192x128, .f32⟩
  | .hbm, ⟨6, _⟩ => ⟨S8192x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel14Ideal.lean ====
abbrev S8192x128 : Shape := ⟨2, ![8192, 128]⟩
abbrev S2048x128 : Shape := ⟨2, ![2048, 128]⟩

abbrev nBuf : Space → Nat
  | .hbm => 7
  | .vmem => 14
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S8192x128, .f32⟩
  | .hbm, ⟨4, _⟩ => ⟨S8192x128, .f32⟩
  | .hbm, ⟨5, _⟩ => ⟨S8192x128, .f32⟩
  | .hbm, ⟨6, _⟩ => ⟨S8192x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference14Ideal.lean ====
abbrev S8192x128 : Shape := ⟨2, ![8192, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S8192x128, .f32⟩
  | .hbm, ⟨4, _⟩ => ⟨S_, .f32⟩
  | .hbm, ⟨5, _⟩ => ⟨S8192x128, .f32⟩
  | .hbm, ⟨6, _⟩ => ⟨S8192x128, .f32⟩
  | .hbm, ⟨7, _⟩ => ⟨S_, .f32⟩
  | .hbm, ⟨8, _⟩ => ⟨S8192x128, .f32⟩
  | .hbm, ⟨9, _⟩ => ⟨S8192x128, .f32⟩
  | .hbm, ⟨10, _⟩ => ⟨S8192x128, .f32⟩
  | .hbm, ⟨11, _⟩ => ⟨S_, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S_, .f32⟩
  | .hbm, ⟨16, _⟩ => ⟨S8192x128, .f32⟩
  | .hbm, ⟨17, _⟩ => ⟨S8192x128, .f32⟩
  | .hbm, ⟨18, _⟩ => ⟨S8192x128, .f32⟩
  | .hbm, ⟨19, _⟩ => ⟨S_, .f32⟩
  | .hbm, ⟨20, _⟩ => ⟨S8192x128, .f32⟩
  | .hbm, ⟨21, _⟩ => ⟨S8192x128, .f32⟩
  | .hbm, ⟨22, _⟩ => ⟨S_, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S_, .f32⟩
  | .hbm, ⟨27, _⟩ => ⟨S8192x128, .f32⟩
  | .hbm, ⟨28, _⟩ => ⟨S8192x128, .f32⟩
  | .hbm, ⟨29, _⟩ => ⟨S8192x128, .f32⟩
  | .hbm, ⟨30, _⟩ => ⟨S_, .f32⟩
  | .hbm, ⟨31, _⟩ => ⟨S8192x128, .f32⟩
  | .hbm, ⟨32, _⟩ => ⟨S8192x128, .f32⟩
  | .hbm, ⟨33, _⟩ => ⟨S8192x128, .f32⟩
  | .hbm, ⟨34, _⟩ => ⟨S_, .f32⟩
  | .hbm, ⟨35, _⟩ => ⟨S8192x128, .f32⟩
  | .hbm, ⟨36, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S16x128 : Shape := ⟨2, ![16, 128]⟩

abbrev nBuf : Space → Nat
  | .hbm => 7
  | .vmem => 7
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S16x128, .f32⟩
  | .hbm, ⟨5, _⟩ => ⟨S16x128, .f32⟩
  | .hbm, ⟨6, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel15Ideal.lean ====
abbrev S16x128 : Shape := ⟨2, ![16, 128]⟩

abbrev nBuf : Space → Nat
  | .hbm => 7
  | .vmem => 7
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S16x128, .f32⟩
  | .hbm, ⟨5, _⟩ => ⟨S16x128, .f32⟩
  | .hbm, ⟨6, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference15Ideal.lean ====
abbrev S16x128 : Shape := ⟨2, ![16, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S_, .f32⟩
  | .hbm, ⟨5, _⟩ => ⟨S16x128, .f32⟩
  | .hbm, ⟨6, _⟩ => ⟨S16x128, .f32⟩
  | .hbm, ⟨7, _⟩ => ⟨S_, .f32⟩
  | .hbm, ⟨8, _⟩ => ⟨S16x128, .f32⟩
  | .hbm, ⟨9, _⟩ => ⟨S16x128, .f32⟩
  | .hbm, ⟨10, _⟩ => ⟨S16x128, .f32⟩
  | .hbm, ⟨11, _⟩ => ⟨S_, .f32⟩
  | .hbm, ⟨12, _⟩ => ⟨S16x128, .f32⟩
  | .hbm, ⟨13, _⟩ => ⟨S16x128, .f32⟩
  | .hbm, ⟨14, _⟩ => ⟨S16x128, .f32⟩
  | .hbm, ⟨15, _⟩ => ⟨S_, .f32⟩
  | .hbm, ⟨16, _⟩ => ⟨S16x128, .f32⟩
  | .hbm, ⟨17, _⟩ => ⟨S16x128, .f32⟩
  | .hbm, ⟨18, _⟩ => ⟨S16x128, .f32⟩
  | .hbm, ⟨19, _⟩ => ⟨S_, .f32⟩
  | .hbm, ⟨20, _⟩ => ⟨S16x128, .f32⟩
  | .hbm, ⟨21, _⟩ => ⟨S16x128, .f32⟩
  | .hbm, ⟨22, _⟩ => ⟨S_, .f32⟩
  | .hbm, ⟨23, _⟩ => ⟨S16x128, .f32⟩
  | .hbm, ⟨24, _⟩ => ⟨S16x128, .f32⟩
  | .hbm, ⟨25, _⟩ => ⟨S16x128, .f32⟩
  | .hbm, ⟨26, _⟩ => ⟨S_, .f32⟩
  | .hbm, ⟨27, _⟩ => ⟨S16x128, .f32⟩
  | .hbm, ⟨28, _⟩ => ⟨S16x128, .f32⟩
  | .hbm, ⟨29, _⟩ => ⟨S16x128, .f32⟩
  | .hbm, ⟨30, _⟩ => ⟨S_, .f32⟩
  | .hbm, ⟨31, _⟩ => ⟨S16x128, .f32⟩
  | .hbm, ⟨32, _⟩ => ⟨S16x128, .f32⟩
  | .hbm, ⟨33, _⟩ => ⟨S16x128, .f32⟩
  | .hbm, ⟨34, _⟩ => ⟨S_, .f32⟩
  | .hbm, ⟨35, _⟩ => ⟨S16x128, .f32⟩
  | .hbm, ⟨36, _⟩ => ⟨S16x128, .f32⟩
  | _, _ => ⟨S16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S12x64 : Shape := ⟨2, ![12, 64]⟩

abbrev nBuf : Space → Nat
  | .hbm => 7
  | .vmem => 7
  | .smem => 0
  | _ => 0

abbrev bufTy : (tb : Table) → Fin (tcTables nBuf tb) → BufTy
  | .hbm, ⟨0, _⟩ => ⟨S12x64, .f32⟩
  | .hbm, ⟨1, _⟩ => ⟨S12x64, .f32⟩
  | .hbm, ⟨2, _⟩ => ⟨S12x64, .f32⟩
  | .hbm, ⟨3, _⟩ => ⟨S12x64, .f32⟩
  | .hbm, ⟨4, _⟩ => ⟨S12x64, .f32⟩
  | .hbm, ⟨5, _⟩ => ⟨S12x64, .f32⟩
  | .hbm, ⟨6, _⟩ => ⟨S12x64, .f32⟩
  | .local _ .vmem, ⟨0, _⟩ => ⟨S12x64, .f32⟩
  | .local _ .vmem, ⟨1, _⟩ => ⟨S12x64, .f32⟩
  | .local _ .vmem, ⟨2, _⟩ => ⟨S12x64, .f32⟩
  | .local _ .vmem, ⟨3, _⟩ => ⟨S12x64, .f32⟩
  | .local _ .vmem, ⟨4, _⟩ => ⟨S12x64, .f32⟩
  | .local _ .vmem, ⟨5, _⟩ => ⟨S12x64, .f32⟩
  | .local _ .vmem, ⟨6, _⟩ => ⟨S12x64, .f32⟩
  | _, _ => ⟨S12x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel16Ideal.lean ====
abbrev S12x64 : Shape := ⟨2, ![12, 64]⟩

abbrev nBuf : Space → Nat
  | .hbm => 7
  | .vmem => 7
  | .smem => 0
  | _ => 0

abbrev bufTy : (tb : Table) → Fin (tcTables nBuf tb) → BufTy
  | .hbm, ⟨0, _⟩ => ⟨S12x64, .f32⟩
  | .hbm, ⟨1, _⟩ => ⟨S12x64, .f32⟩
  | .hbm, ⟨2, _⟩ => ⟨S12x64, .f32⟩
  | .hbm, ⟨3, _⟩ => ⟨S12x64, .f32⟩
  | .hbm, ⟨4, _⟩ => ⟨S12x64, .f32⟩
  | .hbm, ⟨5, _⟩ => ⟨S12x64, .f32⟩
  | .hbm, ⟨6, _⟩ => ⟨S12x64, .f32⟩
  | .local _ .vmem, ⟨0, _⟩ => ⟨S12x64, .f32⟩
  | .local _ .vmem, ⟨1, _⟩ => ⟨S12x64, .f32⟩
  | .local _ .vmem, ⟨2, _⟩ => ⟨S12x64, .f32⟩
  | .local _ .vmem, ⟨3, _⟩ => ⟨S12x64, .f32⟩
  | .local _ .vmem, ⟨4, _⟩ => ⟨S12x64, .f32⟩
  | .local _ .vmem, ⟨5, _⟩ => ⟨S12x64, .f32⟩
  | .local _ .vmem, ⟨6, _⟩ => ⟨S12x64, .f32⟩
  | _, _ => ⟨S12x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference16Ideal.lean ====
abbrev S12x64 : Shape := ⟨2, ![12, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S12x64, .f32⟩
  | .hbm, ⟨1, _⟩ => ⟨S12x64, .f32⟩
  | .hbm, ⟨2, _⟩ => ⟨S12x64, .f32⟩
  | .hbm, ⟨3, _⟩ => ⟨S12x64, .f32⟩
  | .hbm, ⟨4, _⟩ => ⟨S_, .f32⟩
  | .hbm, ⟨5, _⟩ => ⟨S12x64, .f32⟩
  | .hbm, ⟨6, _⟩ => ⟨S12x64, .f32⟩
  | .hbm, ⟨7, _⟩ => ⟨S_, .f32⟩
  | .hbm, ⟨8, _⟩ => ⟨S12x64, .f32⟩
  | .hbm, ⟨9, _⟩ => ⟨S12x64, .f32⟩
  | .hbm, ⟨10, _⟩ => ⟨S12x64, .f32⟩
  | .hbm, ⟨11, _⟩ => ⟨S_, .f32⟩
  | .hbm, ⟨12, _⟩ => ⟨S12x64, .f32⟩
  | .hbm, ⟨13, _⟩ => ⟨S12x64, .f32⟩
  | .hbm, ⟨14, _⟩ => ⟨S12x64, .f32⟩
  | .hbm, ⟨15, _⟩ => ⟨S_, .f32⟩
  | .hbm, ⟨16, _⟩ => ⟨S12x64, .f32⟩
  | .hbm, ⟨17, _⟩ => ⟨S12x64, .f32⟩
  | .hbm, ⟨18, _⟩ => ⟨S12x64, .f32⟩
  | .hbm, ⟨19, _⟩ => ⟨S_, .f32⟩
  | .hbm, ⟨20, _⟩ => ⟨S12x64, .f32⟩
  | .hbm, ⟨21, _⟩ => ⟨S12x64, .f32⟩
  | .hbm, ⟨22, _⟩ => ⟨S_, .f32⟩
  | .hbm, ⟨23, _⟩ => ⟨S12x64, .f32⟩
  | .hbm, ⟨24, _⟩ => ⟨S12x64, .f32⟩
  | .hbm, ⟨25, _⟩ => ⟨S12x64, .f32⟩
  | .hbm, ⟨26, _⟩ => ⟨S_, .f32⟩
  | .hbm, ⟨27, _⟩ => ⟨S12x64, .f32⟩
  | .hbm, ⟨28, _⟩ => ⟨S12x64, .f32⟩
  | .hbm, ⟨29, _⟩ => ⟨S12x64, .f32⟩
  | .hbm, ⟨30, _⟩ => ⟨S_, .f32⟩
  | .hbm, ⟨31, _⟩ => ⟨S12x64, .f32⟩
  | .hbm, ⟨32, _⟩ => ⟨S12x64, .f32⟩
  | .hbm, ⟨33, _⟩ => ⟨S12x64, .f32⟩
  | .hbm, ⟨34, _⟩ => ⟨S_, .f32⟩
  | .hbm, ⟨35, _⟩ => ⟨S12x64, .f32⟩
  | .hbm, ⟨36, _⟩ => ⟨S12x64, .f32⟩
  | _, _ => ⟨S12x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S124x64 : Shape := ⟨2, ![124, 64]⟩

abbrev nBuf : Space → Nat
  | .hbm => 7
  | .vmem => 7
  | .smem => 0
  | _ => 0

abbrev bufTy : (tb : Table) → Fin (tcTables nBuf tb) → BufTy
  | .hbm, ⟨0, _⟩ => ⟨S124x64, .f32⟩
  | .hbm, ⟨1, _⟩ => ⟨S124x64, .f32⟩
  | .hbm, ⟨2, _⟩ => ⟨S124x64, .f32⟩
  | .hbm, ⟨3, _⟩ => ⟨S124x64, .f32⟩
  | .hbm, ⟨4, _⟩ => ⟨S124x64, .f32⟩
  | .hbm, ⟨5, _⟩ => ⟨S124x64, .f32⟩
  | .hbm, ⟨6, _⟩ => ⟨S124x64, .f32⟩
  | .local _ .vmem, ⟨0, _⟩ => ⟨S124x64, .f32⟩
  | .local _ .vmem, ⟨1, _⟩ => ⟨S124x64, .f32⟩
  | .local _ .vmem, ⟨2, _⟩ => ⟨S124x64, .f32⟩
  | .local _ .vmem, ⟨3, _⟩ => ⟨S124x64, .f32⟩
  | .local _ .vmem, ⟨4, _⟩ => ⟨S124x64, .f32⟩
  | .local _ .vmem, ⟨5, _⟩ => ⟨S124x64, .f32⟩
  | .local _ .vmem, ⟨6, _⟩ => ⟨S124x64, .f32⟩
  | _, _ => ⟨S124x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S124x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S124x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S124x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S124x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S124x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S124x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S124x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference17Ideal.lean ====
abbrev S124x64 : Shape := ⟨2, ![124, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S124x64, .f32⟩
  | .hbm, ⟨1, _⟩ => ⟨S124x64, .f32⟩
  | .hbm, ⟨2, _⟩ => ⟨S124x64, .f32⟩
  | .hbm, ⟨3, _⟩ => ⟨S124x64, .f32⟩
  | .hbm, ⟨4, _⟩ => ⟨S_, .f32⟩
  | .hbm, ⟨5, _⟩ => ⟨S124x64, .f32⟩
  | .hbm, ⟨6, _⟩ => ⟨S124x64, .f32⟩
  | .hbm, ⟨7, _⟩ => ⟨S_, .f32⟩
  | .hbm, ⟨8, _⟩ => ⟨S124x64, .f32⟩
  | .hbm, ⟨9, _⟩ => ⟨S124x64, .f32⟩
  | .hbm, ⟨10, _⟩ => ⟨S124x64, .f32⟩
  | .hbm, ⟨11, _⟩ => ⟨S_, .f32⟩
  | .hbm, ⟨12, _⟩ => ⟨S124x64, .f32⟩
  | .hbm, ⟨13, _⟩ => ⟨S124x64, .f32⟩
  | .hbm, ⟨14, _⟩ => ⟨S124x64, .f32⟩
  | .hbm, ⟨15, _⟩ => ⟨S_, .f32⟩
  | .hbm, ⟨16, _⟩ => ⟨S124x64, .f32⟩
  | .hbm, ⟨17, _⟩ => ⟨S124x64, .f32⟩
  | .hbm, ⟨18, _⟩ => ⟨S124x64, .f32⟩
  | .hbm, ⟨19, _⟩ => ⟨S_, .f32⟩
  | .hbm, ⟨20, _⟩ => ⟨S124x64, .f32⟩
  | .hbm, ⟨21, _⟩ => ⟨S124x64, .f32⟩
  | .hbm, ⟨22, _⟩ => ⟨S_, .f32⟩
  | .hbm, ⟨23, _⟩ => ⟨S124x64, .f32⟩
  | .hbm, ⟨24, _⟩ => ⟨S124x64, .f32⟩
  | .hbm, ⟨25, _⟩ => ⟨S124x64, .f32⟩
  | .hbm, ⟨26, _⟩ => ⟨S_, .f32⟩
  | .hbm, ⟨27, _⟩ => ⟨S124x64, .f32⟩
  | .hbm, ⟨28, _⟩ => ⟨S124x64, .f32⟩
  | .hbm, ⟨29, _⟩ => ⟨S124x64, .f32⟩
  | .hbm, ⟨30, _⟩ => ⟨S_, .f32⟩
  | .hbm, ⟨31, _⟩ => ⟨S124x64, .f32⟩
  | .hbm, ⟨32, _⟩ => ⟨S124x64, .f32⟩
  | .hbm, ⟨33, _⟩ => ⟨S124x64, .f32⟩
  | .hbm, ⟨34, _⟩ => ⟨S_, .f32⟩
  | .hbm, ⟨35, _⟩ => ⟨S124x64, .f32⟩
  | .hbm, ⟨36, _⟩ => ⟨S124x64, .f32⟩
  | _, _ => ⟨S124x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S4x352x1024 : Shape := ⟨3, ![4, 352, 1024]⟩
abbrev S4x1056x1024 : Shape := ⟨3, ![4, 1056, 1024]⟩
abbrev S1x352x1024 : Shape := ⟨3, ![1, 352, 1024]⟩
abbrev S352x1024 : Shape := ⟨2, ![352, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x352x1024, .f32⟩
  | .hbm, ⟨1, _⟩ => ⟨S4x1056x1024, .f32⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference18Ideal.lean ====
abbrev S4x352x1024 : Shape := ⟨3, ![4, 352, 1024]⟩
abbrev S4x1056x1024 : Shape := ⟨3, ![4, 1056, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S4x352x1024, .f32⟩
  | .hbm, ⟨1, _⟩ => ⟨S4x1056x1024, .f32⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S_, .f32⟩
  | .hbm, ⟨6, _⟩ => ⟨S4x352x1024, .f32⟩
  | .hbm, ⟨7, _⟩ => ⟨S4x352x1024, .f32⟩
  | .hbm, ⟨8, _⟩ => ⟨S_, .f32⟩
  | .hbm, ⟨9, _⟩ => ⟨S4x352x1024, .f32⟩
  | .hbm, ⟨10, _⟩ => ⟨S4x352x1024, .f32⟩
  | .hbm, ⟨11, _⟩ => ⟨S4x352x1024, .f32⟩
  | .hbm, ⟨12, _⟩ => ⟨S_, .f32⟩
  | .hbm, ⟨13, _⟩ => ⟨S4x352x1024, .f32⟩
  | .hbm, ⟨14, _⟩ => ⟨S4x352x1024, .f32⟩
  | .hbm, ⟨15, _⟩ => ⟨S4x352x1024, .f32⟩
  | .hbm, ⟨16, _⟩ => ⟨S_, .f32⟩
  | .hbm, ⟨17, _⟩ => ⟨S4x352x1024, .f32⟩
  | .hbm, ⟨18, _⟩ => ⟨S4x352x1024, .f32⟩
  | .hbm, ⟨19, _⟩ => ⟨S4x352x1024, .f32⟩
  | .hbm, ⟨20, _⟩ => ⟨S_, .f32⟩
  | .hbm, ⟨21, _⟩ => ⟨S4x352x1024, .f32⟩
  | .hbm, ⟨22, _⟩ => ⟨S4x352x1024, .f32⟩
  | .hbm, ⟨23, _⟩ => ⟨S_, .f32⟩
  | .hbm, ⟨24, _⟩ => ⟨S4x352x1024, .f32⟩
  | .hbm, ⟨25, _⟩ => ⟨S4x352x1024, .f32⟩
  | .hbm, ⟨26, _⟩ => ⟨S4x352x1024, .f32⟩
  | .hbm, ⟨27, _⟩ => ⟨S_, .f32⟩
  | .hbm, ⟨28, _⟩ => ⟨S4x352x1024, .f32⟩
  | .hbm, ⟨29, _⟩ => ⟨S4x352x1024, .f32⟩
  | .hbm, ⟨30, _⟩ => ⟨S4x352x1024, .f32⟩
  | .hbm, ⟨31, _⟩ => ⟨S_, .f32⟩
  | .hbm, ⟨32, _⟩ => ⟨S4x352x1024, .f32⟩
  | .hbm, ⟨33, _⟩ => ⟨S4x352x1024, .f32⟩
  | .hbm, ⟨34, _⟩ => ⟨S4x352x1024, .f32⟩
  | .hbm, ⟨35, _⟩ => ⟨S_, .f32⟩
  | .hbm, ⟨36, _⟩ => ⟨S4x352x1024, .f32⟩
  | .hbm, ⟨37, _⟩ => ⟨S4x352x1024, .f32⟩
  | _, _ => ⟨S4x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel19.lean ====
abbrev S4x352x1024 : Shape := ⟨3, ![4, 352, 1024]⟩
abbrev S4x1056x1024 : Shape := ⟨3, ![4, 1056, 1024]⟩
abbrev S1x352x1024 : Shape := ⟨3, ![1, 352, 1024]⟩
abbrev S352x1024 : Shape := ⟨2, ![352, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x352x1024, .f32⟩
  | .hbm, ⟨1, _⟩ => ⟨S4x1056x1024, .f32⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![arg0.toNat, c1_i32.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference19Ideal.lean ====
abbrev S4x352x1024 : Shape := ⟨3, ![4, 352, 1024]⟩
abbrev S4x1056x1024 : Shape := ⟨3, ![4, 1056, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S4x352x1024, .f32⟩
  | .hbm, ⟨1, _⟩ => ⟨S4x1056x1024, .f32⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S_, .f32⟩
  | .hbm, ⟨6, _⟩ => ⟨S4x352x1024, .f32⟩
  | .hbm, ⟨7, _⟩ => ⟨S4x352x1024, .f32⟩
  | .hbm, ⟨8, _⟩ => ⟨S_, .f32⟩
  | .hbm, ⟨9, _⟩ => ⟨S4x352x1024, .f32⟩
  | .hbm, ⟨10, _⟩ => ⟨S4x352x1024, .f32⟩
  | .hbm, ⟨11, _⟩ => ⟨S4x352x1024, .f32⟩
  | .hbm, ⟨12, _⟩ => ⟨S_, .f32⟩
  | .hbm, ⟨13, _⟩ => ⟨S4x352x1024, .f32⟩
  | .hbm, ⟨14, _⟩ => ⟨S4x352x1024, .f32⟩
  | .hbm, ⟨15, _⟩ => ⟨S4x352x1024, .f32⟩
  | .hbm, ⟨16, _⟩ => ⟨S_, .f32⟩
  | .hbm, ⟨17, _⟩ => ⟨S4x352x1024, .f32⟩
  | .hbm, ⟨18, _⟩ => ⟨S4x352x1024, .f32⟩
  | .hbm, ⟨19, _⟩ => ⟨S4x352x1024, .f32⟩
  | .hbm, ⟨20, _⟩ => ⟨S_, .f32⟩
  | .hbm, ⟨21, _⟩ => ⟨S4x352x1024, .f32⟩
  | .hbm, ⟨22, _⟩ => ⟨S4x352x1024, .f32⟩
  | .hbm, ⟨23, _⟩ => ⟨S_, .f32⟩
  | .hbm, ⟨24, _⟩ => ⟨S4x352x1024, .f32⟩
  | .hbm, ⟨25, _⟩ => ⟨S4x352x1024, .f32⟩
  | .hbm, ⟨26, _⟩ => ⟨S4x352x1024, .f32⟩
  | .hbm, ⟨27, _⟩ => ⟨S_, .f32⟩
  | .hbm, ⟨28, _⟩ => ⟨S4x352x1024, .f32⟩
  | .hbm, ⟨29, _⟩ => ⟨S4x352x1024, .f32⟩
  | .hbm, ⟨30, _⟩ => ⟨S4x352x1024, .f32⟩
  | .hbm, ⟨31, _⟩ => ⟨S_, .f32⟩
  | .hbm, ⟨32, _⟩ => ⟨S4x352x1024, .f32⟩
  | .hbm, ⟨33, _⟩ => ⟨S4x352x1024, .f32⟩
  | .hbm, ⟨34, _⟩ => ⟨S4x352x1024, .f32⟩
  | .hbm, ⟨35, _⟩ => ⟨S_, .f32⟩
  | .hbm, ⟨36, _⟩ => ⟨S4x352x1024, .f32⟩
  | .hbm, ⟨37, _⟩ => ⟨S4x352x1024, .f32⟩
  | _, _ => ⟨S4x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel20.lean ====
abbrev S4x352x1024 : Shape := ⟨3, ![4, 352, 1024]⟩
abbrev S4x1056x1024 : Shape := ⟨3, ![4, 1056, 1024]⟩
abbrev S1x352x1024 : Shape := ⟨3, ![1, 352, 1024]⟩
abbrev S352x1024 : Shape := ⟨2, ![352, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x352x1024, .f32⟩
  | .hbm, ⟨1, _⟩ => ⟨S4x1056x1024, .f32⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![arg0.toNat, c2_i32.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S4x352x1024 : Shape := ⟨3, ![4, 352, 1024]⟩
abbrev S4x1056x1024 : Shape := ⟨3, ![4, 1056, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S4x352x1024, .f32⟩
  | .hbm, ⟨1, _⟩ => ⟨S4x1056x1024, .f32⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S_, .f32⟩
  | .hbm, ⟨6, _⟩ => ⟨S4x352x1024, .f32⟩
  | .hbm, ⟨7, _⟩ => ⟨S4x352x1024, .f32⟩
  | .hbm, ⟨8, _⟩ => ⟨S_, .f32⟩
  | .hbm, ⟨9, _⟩ => ⟨S4x352x1024, .f32⟩
  | .hbm, ⟨10, _⟩ => ⟨S4x352x1024, .f32⟩
  | .hbm, ⟨11, _⟩ => ⟨S4x352x1024, .f32⟩
  | .hbm, ⟨12, _⟩ => ⟨S_, .f32⟩
  | .hbm, ⟨13, _⟩ => ⟨S4x352x1024, .f32⟩
  | .hbm, ⟨14, _⟩ => ⟨S4x352x1024, .f32⟩
  | .hbm, ⟨15, _⟩ => ⟨S4x352x1024, .f32⟩
  | .hbm, ⟨16, _⟩ => ⟨S_, .f32⟩
  | .hbm, ⟨17, _⟩ => ⟨S4x352x1024, .f32⟩
  | .hbm, ⟨18, _⟩ => ⟨S4x352x1024, .f32⟩
  | .hbm, ⟨19, _⟩ => ⟨S4x352x1024, .f32⟩
  | .hbm, ⟨20, _⟩ => ⟨S_, .f32⟩
  | .hbm, ⟨21, _⟩ => ⟨S4x352x1024, .f32⟩
  | .hbm, ⟨22, _⟩ => ⟨S4x352x1024, .f32⟩
  | .hbm, ⟨23, _⟩ => ⟨S_, .f32⟩
  | .hbm, ⟨24, _⟩ => ⟨S4x352x1024, .f32⟩
  | .hbm, ⟨25, _⟩ => ⟨S4x352x1024, .f32⟩
  | .hbm, ⟨26, _⟩ => ⟨S4x352x1024, .f32⟩
  | .hbm, ⟨27, _⟩ => ⟨S_, .f32⟩
  | .hbm, ⟨28, _⟩ => ⟨S4x352x1024, .f32⟩
  | .hbm, ⟨29, _⟩ => ⟨S4x352x1024, .f32⟩
  | .hbm, ⟨30, _⟩ => ⟨S4x352x1024, .f32⟩
  | .hbm, ⟨31, _⟩ => ⟨S_, .f32⟩
  | .hbm, ⟨32, _⟩ => ⟨S4x352x1024, .f32⟩
  | .hbm, ⟨33, _⟩ => ⟨S4x352x1024, .f32⟩
  | .hbm, ⟨34, _⟩ => ⟨S4x352x1024, .f32⟩
  | .hbm, ⟨35, _⟩ => ⟨S_, .f32⟩
  | .hbm, ⟨36, _⟩ => ⟨S4x352x1024, .f32⟩
  | .hbm, ⟨37, _⟩ => ⟨S4x352x1024, .f32⟩
  | _, _ => ⟨S4x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Proof.RmsBwd.lean ====
/-
  The gradient of a normalisation by the root of the mean square, over the extended reals.

  With `q` the mean of the squares of a row plus a positive constant and `r = q ^ (-1/2)`, the one-line form
  `r * (dn - n * mean (dn * n))`, where `n = x * r`, equals the form that the chain rule gives term by term:
  `dn * r`, and twice `x` times `sum (x * dn) * (-1/2 * r / q) / D`. No entry needs to be finite: where the row has an
  infinite entry the mean is infinite, `r` is zero and both forms are zero; otherwise `r` and the row are real, and a real
  factor of one sign distributes over any sum of extended reals.
-/
module

public import Idealize.ShloMosaic.PureOps.Ideal

@[expose] public section

noncomputable section

namespace Cert.RmsBwd

open Idealize.ShloMosaic

/-- A nonnegative real factor distributes over a finite sum of extended reals. -/
theorem sum_mul_coe {ι : Type} (s : Finset ι) (f : ι → EReal) (R : ℝ) (hR : 0 ≤ R) :
    ∑ j ∈ s, f j * (R : EReal) = (∑ j ∈ s, f j) * (R : EReal) := by
  classical
  induction s using Finset.induction_on with
  | empty => simp
  | insert a s ha ih =>
    rw [Finset.sum_insert ha, Finset.sum_insert ha, ih, mul_comm _ (R : EReal), mul_comm _ (R : EReal), mul_comm _ (R : EReal),
      EReal.left_distrib_of_nonneg_of_ne_top (by exact_mod_cast hR) (EReal.coe_ne_top R)]

/-- A square is nonnegative. -/
theorem mul_self_nonneg' (a : EReal) : 0 ≤ a * a := by
  induction a with
  | bot => simp
  | top => simp
  | coe r => exact_mod_cast mul_self_nonneg r

/-- Where a finite sum of squares is not infinite, every entry is real. -/
theorem real_of_sum_ne_top {ι : Type} [Fintype ι] (x : ι → EReal) (h : ∑ j, x j * x j ≠ ⊤) (i : ι) : ∃ r : ℝ, x i = r := by
  have hle : x i * x i ≤ ∑ j, x j * x j :=
    Finset.single_le_sum (f := fun j => x j * x j) (fun j _ => mul_self_nonneg' (x j)) (Finset.mem_univ i)
  generalize x i = a at hle ⊢
  induction a with
  | bot => exact absurd (top_le_iff.mp (by simpa using hle)) h
  | top => exact absurd (top_le_iff.mp (by simpa using hle)) h
  | coe r => exact ⟨r, rfl⟩

/-- A finite sum of reals, read as an extended real. -/
theorem coe_sum {ι : Type} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- The mean of the squares plus `e`. -/
def q {ι : Type} [Fintype ι] (D e : ℝ) (x : ι → EReal) : EReal := Ideal.div (∑ j, x j * x j) (D : EReal) + (e : EReal)

/-- The form of the gradient in one line. -/
def short {ι : Type} [Fintype ι] (D e : ℝ) (x dn : ι → EReal) (i : ι) : EReal :=
  Ideal.rsqrt (q D e x) * (dn i - (x i * Ideal.rsqrt (q D e x))
    * Ideal.div (∑ j, dn j * (x j * Ideal.rsqrt (q D e x))) (D : EReal))

/-- The scalar of the chain rule's form: `sum (x * dn) * (h * (r / q)) / D`. -/
def coef {ι : Type} [Fintype ι] (D e h : ℝ) (x dn : ι → EReal) : EReal :=
  Ideal.div ((∑ j, x j * dn j) * ((h : EReal) * Ideal.div (Ideal.rsqrt (q D e x)) (q D e x))) (D : EReal)

theorem short_eq {ι : Type} [Fintype ι] (D e h : ℝ) (hD : 0 < D) (he : 0 < e) (hh : h = -(1 / 2)) (x dn : ι → EReal) (i : ι) :
    short D e x dn i = dn i * Ideal.rsqrt (q D e x) + x i * coef D e h x dn + coef D e h x dn * x i := by
  by_cases hS : ∑ j, x j * x j = ⊤
  · have hq : q D e x = ⊤ := by
      unfold q
      rw [hS, Ideal.div_coe hD.ne', EReal.top_mul_coe_of_pos (by positivity)]
      exact EReal.top_add_coe e
    have h0 : Ideal.div 0 ⊤ = 0 := by simp [Ideal.div]
    have hc : coef D e h x dn = 0 := by
      unfold coef
      rw [hq, Ideal.rsqrt_top, h0, mul_zero, mul_zero, Ideal.div_coe hD.ne', zero_mul]
    unfold short
    rw [hc, hq, Ideal.rsqrt_top]
    simp
  · choose X hX using real_of_sum_ne_top x hS
    obtain rfl : x = fun j => (X j : EReal) := funext hX
    set Q : ℝ := (∑ j, X j * X j) * (1 / D) + e with hQ
    have hQpos : 0 < Q := by
      have : 0 ≤ ∑ j, X j * X j := Finset.sum_nonneg fun j _ => mul_self_nonneg _
      have hD' : 0 ≤ 1 / D := by positivity
      have := mul_nonneg this hD'
      rw [hQ]; linarith
    have hq : q D e (fun j => (X j : EReal)) = (Q : EReal) := by
      unfold q
      rw [Ideal.div_coe hD.ne', hQ, EReal.coe_add, EReal.coe_mul, coe_sum]
      simp only [EReal.coe_mul]
    set R : ℝ := (Real.sqrt Q)⁻¹ with hR
    have hR0 : 0 ≤ R := by positivity
    have hRR : R * R = 1 / Q := by
      rw [hR, ← mul_inv, Real.mul_self_sqrt hQpos.le, one_div]
    have hr : Ideal.rsqrt (Q : EReal) = (R : EReal) := by
      rw [Ideal.rsqrt_coe, if_neg (not_lt.mpr hQpos.le), if_neg hQpos.ne']
    unfold short coef
    rw [hq, hr]
    set T : EReal := ∑ j, (X j : EReal) * dn j with hT
    have hsum : ∑ j, dn j * ((X j : EReal) * (R : EReal)) = T * (R : EReal) := by
      rw [hT, ← sum_mul_coe _ _ R hR0]
      exact Finset.sum_congr rfl fun j _ => by rw [← mul_assoc, mul_comm (dn j)]
    rw [hsum, Ideal.div_coe hD.ne', Ideal.div_coe hD.ne', Ideal.div_coe hQpos.ne', sub_eq_add_neg,
      EReal.left_distrib_of_nonneg_of_ne_top (by exact_mod_cast hR0) (EReal.coe_ne_top R), mul_comm (R : EReal) (dn i), add_assoc]
    congr 1
    have e1 : (X i : EReal) * (T * ((h : EReal) * ((R : EReal) * ((1 / Q : ℝ) : EReal))) * ((1 / D : ℝ) : EReal))
        = T * ((X i * (h * (R * (1 / Q))) * (1 / D) : ℝ) : EReal) := by
      push_cast
      ac_rfl
    have e2 : T * ((h : EReal) * ((R : EReal) * ((1 / Q : ℝ) : EReal))) * ((1 / D : ℝ) : EReal) * (X i : EReal)
        = T * ((X i * (h * (R * (1 / Q))) * (1 / D) : ℝ) : EReal) := by
      push_cast
      ac_rfl
    have e3 : (R : EReal) * -((X i : EReal) * (R : EReal) * (T * (R : EReal) * ((1 / D : ℝ) : EReal)))
        = T * ((-(R * X i * R * R * (1 / D)) : ℝ) : EReal) := by
      rw [mul_neg, EReal.coe_neg, mul_neg]
      congr 1
      push_cast
      ac_rfl
    have e4 (y : EReal) : y + y = (2 : ℝ) * y := by
      have : ((2 : ℝ) : EReal) = 1 + 1 := by rw [show (2 : ℝ) = 1 + 1 by norm_num, EReal.coe_add, EReal.coe_one]
      rw [this, EReal.right_distrib_of_nonneg zero_le_one zero_le_one, one_mul]
    rw [e1, e2, e3, e4, mul_left_comm, ← EReal.coe_mul]
    congr 2
    rw [hh]
    have : R * X i * R * R = X i * R * (R * R) := by ring
    rw [this, hRR]
    ring

end Cert.RmsBwd

end
-- ==== Proof.MergePay.lean ====
/-
  What the merge gradient's kernel computes on one tile of 256 rows, read at an index over the extended reals.
-/
module

public import proofs.«01_k».proof.Proof.Gen.KernelIdeal.Skeleton
public import proofs.«01_k».proof.Proof.RmsBwd
public import Idealize.ShloMosaic.Lib.Pointwise
public import Idealize.ShloMosaic.Lib.IdealHost

@[expose] public section

set_option maxRecDepth 16384

noncomputable section

namespace Cert.KernelIdeal.Merge

open Idealize.ShloMosaic Idealize.ShloMosaic.TcCoe
open Cert.KernelIdeal Cert.KernelIdeal.Gen

/-- The real that the width's word is. -/
theorem width_word : Ideal.ofBits .f32 0x44800000#32 = ((1024 : ℝ) : EReal) := by
  simp only [Ideal.ofBits, Ideal.ieee]
  simp
  rw [← EReal.coe_mul]
  norm_num

/-- The real added to the mean of the squares. -/
def eps : ℝ := 8796093 * (2 ^ 43)⁻¹

theorem eps_word : Ideal.ofBits .f32 0x358637BD#32 = ((eps : ℝ) : EReal) := by
  unfold eps
  simp [Ideal.ofBits, Ideal.ieee]

theorem eps_pos : 0 < eps := by
  unfold eps
  positivity

/-- The gradient of the merged sum at a tile's row: the gradient through the norm, times the output weights. -/
theorem pay43_apply (x1 : Vec Ideal S256x1024 .bf16) (x6 : Vec Ideal S1x1024 .f32) (x0 : Vec Ideal S256x1024 .f32) (r : Fin 256) (c : Fin 1024) :
    k0_pay43 (F := Ideal) x1 x6 x0 (ix2 r c)
      = RmsBwd.short 1024 eps (fun j : Fin 1024 => x1 (ix2 r j)) (fun j => x0 (ix2 r j) * x6 (ix2 0 j)) c := by
  unfold RmsBwd.short RmsBwd.q
  rw [← width_word, ← eps_word]
  pointwise [k0_pay43, k0_pay41, k0_pay40, k0_pay39]

theorem pay42_apply (x1 : Vec Ideal S256x1024 .bf16) (g : Vec Ideal S1x1024 .f32) (x0 : Vec Ideal S256x1024 .f32) (c : Fin 1024) :
    k0_pay42 (F := Ideal) x1 x0 g (ix2 0 c)
      = g (ix2 0 c) + ∑ r, x0 (ix2 r c) * (x1 (ix2 r c) * Ideal.rsqrt (RmsBwd.q 1024 eps fun j : Fin 1024 => x1 (ix2 r j))) := by
  unfold RmsBwd.q
  rw [← width_word, ← eps_word]
  pointwise [k0_pay42, k0_pay41, k0_pay40, k0_pay39]

theorem pay44_apply (d : Vec Ideal S256x1024 .bf16) (w : Vec Ideal S8x128x1024 .bf16) (r : Fin 256) (c : Fin 1024) :
    k0_pay44 (F := Ideal) d w (ix2 r c)
      = ∑ j, d (ix2 r j) * w (ix3 ⟨c.val / 128, by omega⟩ ⟨c.val % 128, by omega⟩ j) := by
  pointwise [k0_pay44]

section Branch

variable (d : Vec Ideal S256x1024 .bf16) (w : Vec Ideal S8x128x1024 .bf16) (dm : FVec Ideal S256x1024 .f32)
  (g y : Vec Ideal S1x256x1024 .bf16) (b : Vec Ideal S1x512x1024 .bf16) (r : Fin 256) (c : Fin 1024) (e : Fin 512)

/-! The four branches: the gradient of the branch, of its gate, and of the state before the branch's product. -/

theorem pay47_apply : k0_pay47 (F := Ideal) d w g (ix3 0 r c) = k0_pay44 d w (ix2 r c) * g (ix3 0 r c) := by
  pointwise [k0_pay47, k0_pay46, k0_pay45]
theorem pay53_apply : k0_pay53 (F := Ideal) dm g (ix3 0 r c) = dm (ix2 r c) * g (ix3 0 r c) := by
  pointwise [k0_pay53, k0_pay52, k0_pay51]
theorem pay58_apply : k0_pay58 (F := Ideal) (k0_pay57 dm g) (ix3 0 r c) = dm (ix2 r c) * g (ix3 0 r c) := by
  pointwise [k0_pay58, k0_pay57, k0_pay56]
theorem pay63_apply : k0_pay63 (F := Ideal) dm g (ix3 0 r c) = dm (ix2 r c) * g (ix3 0 r c) := by
  pointwise [k0_pay63, k0_pay62, k0_pay61]

theorem pay48_apply : k0_pay48 (F := Ideal) d w g y (ix3 0 r c)
    = k0_pay44 d w (ix2 r c) * y (ix3 0 r c) * g (ix3 0 r c) * (1 - g (ix3 0 r c)) := by
  pointwise [k0_pay48, k0_pay45]
theorem pay54_apply : k0_pay54 (F := Ideal) dm g y (ix3 0 r c)
    = dm (ix2 r c) * y (ix3 0 r c) * g (ix3 0 r c) * (1 - g (ix3 0 r c)) := by
  pointwise [k0_pay54, k0_pay51]
theorem pay59_apply : k0_pay59 (F := Ideal) dm (k0_pay56 g) y (ix3 0 r c)
    = dm (ix2 r c) * y (ix3 0 r c) * g (ix3 0 r c) * (1 - g (ix3 0 r c)) := by
  pointwise [k0_pay59, k0_pay56]
theorem pay1_apply : k0_pay1 (F := Ideal) dm (k0_pay61 g) y (ix3 0 r c)
    = dm (ix2 r c) * y (ix3 0 r c) * g (ix3 0 r c) * (1 - g (ix3 0 r c)) := by
  pointwise [k0_pay1, k0_pay61]

theorem pay50_apply : k0_pay50 (F := Ideal) (k0_pay49 d w g b) (ix3 0 r e)
    = ∑ j, k0_pay44 d w (ix2 r j) * g (ix3 0 r j) * b (ix3 0 e j) := by
  pointwise [k0_pay50, k0_pay49, k0_pay46, k0_pay45]
theorem pay55_apply : k0_pay55 (F := Ideal) dm g b (ix3 0 r e) = ∑ j, dm (ix2 r j) * g (ix3 0 r j) * b (ix3 0 e j) := by
  pointwise [k0_pay55, k0_pay52, k0_pay51]
theorem pay60_apply : k0_pay60 (F := Ideal) (k0_pay57 dm g) b (ix3 0 r e) = ∑ j, dm (ix2 r j) * g (ix3 0 r j) * b (ix3 0 e j) := by
  pointwise [k0_pay60, k0_pay57, k0_pay56]
theorem pay2_apply : k0_pay2 (F := Ideal) (k0_pay62 dm g) b (ix3 0 r e) = ∑ j, dm (ix2 r j) * g (ix3 0 r j) * b (ix3 0 e j) := by
  pointwise [k0_pay2, k0_pay62, k0_pay61]

end Branch

end Cert.KernelIdeal.Merge

end
-- ==== Proof.MergeBlock.lean ====
/-
  What the merge gradient's kernel leaves in each output's block at one grid point, over the extended reals: the
  stored pieces of a stacked output agree with one function of the block's index.
-/
module

public import proofs.«01_k».proof.Proof.Gen.KernelIdeal.Frame
public import proofs.«01_k».proof.Proof.MergePay
public import Idealize.ShloMosaic.Lib.Pipeline.Value

@[expose] public section

set_option maxRecDepth 16384

noncomputable section

namespace Cert.KernelIdeal.Merge

open Idealize.ShloMosaic Idealize.ShloMosaic.TcCoe Idealize.SL.Sem Idealize.ShloMosaic.Tactic
open Cert.KernelIdeal Cert.KernelIdeal.Gen

variable (c : Dev nD) (i : grid0.Coords) (a1 : Memref sig .tc .vmem S256x1024 .f32) (h1 : a1.IsWhole)
  (a2 : Memref sig .tc .vmem S256x1024 .bf16) (h2 : a2.IsWhole)
  (a3 : Memref sig .tc .vmem S4x256x1024 .bf16) (h3 : a3.IsWhole)
  (a4 : Memref sig .tc .vmem S4x256x1024 .bf16) (h4 : a4.IsWhole)
  (a5 : Memref sig .tc .vmem S8x4x512x128 .bf16) (h5 : a5.IsWhole)
  (a6 : Memref sig .tc .vmem S8x128x1024 .bf16) (h6 : a6.IsWhole)
  (a7 : Memref sig .tc .vmem S1x1024 .f32) (h7 : a7.IsWhole)
  (a9 : Memref sig .tc .vmem S256x1024 .bf16) (h9 : a9.IsWhole)
  (a10 : Memref sig .tc .vmem S4x256x512 .bf16) (h10 : a10.IsWhole)
  (a11 : Memref sig .tc .vmem S4x256x1024 .bf16) (h11 : a11.IsWhole)
  (a12 : Memref sig .tc .vmem S4x256x1024 .bf16) (h12 : a12.IsWhole)
  (a13 : Memref sig .tc .vmem S8x1024 .f32) (h13 : a13.IsWhole)
  (a14 : Memref sig .tc .vmem S4x512x1024 .bf16) (h14 : a14.IsWhole)
variable (x0 : Vec Ideal S256x1024 .f32) (x1 : Vec Ideal S256x1024 .bf16) (x2 x3 : Vec Ideal S4x256x1024 .bf16) (x4 : Vec Ideal S8x4x512x128 .bf16)
  (x5 : Vec Ideal S8x128x1024 .bf16) (x6 : Vec Ideal S1x1024 .f32) (xo11 : Vec Ideal S8x1024 .f32) (xs0 : Vec Ideal S4x512x1024 .bf16)

theorem hz2 : (![0, 0] : Fin 2 → Nat) = fun _ => 0 := funext fun a => by fin_cases a <;> rfl
theorem hz3 : (![0, 0, 0] : Fin 3 → Nat) = fun _ => 0 := funext fun a => by fin_cases a <;> rfl

/-- An index of a stack of one matrix. -/
theorem stackIdx {d1 d2 : Nat} (x : (⟨3, ![1, d1, d2]⟩ : Shape).Idx) : ∃ (r : Fin d1) (c : Fin d2), x = ix3 0 r c :=
  ⟨x 1, x 2, by rw [eq_ix3 x]; congr 1; exact Subsingleton.elim (α := Fin 1) _ _⟩

/-- Matrix `k` of a stack of four, at a row and a column. -/
theorem emb_stack {d1 d2 o : Nat} (k : Fin 4) (ho : k.val = o)
    (inb : ∀ a, (![o, 0, 0] : Fin 3 → Nat) a + (![1, d1, d2] : Fin 3 → Nat) a ≤ (⟨3, ![4, d1, d2]⟩ : Shape).size a)
    (r : Fin d1) (c : Fin d2) :
    (Rect.unit (s := ⟨3, ![4, d1, d2]⟩) ![o, 0, 0] ![1, d1, d2] inb).emb (ix3 0 r c) = ix3 k r c := by
  funext a
  apply Fin.ext
  rw [Rect.emb_apply]
  fin_cases a
  · show o + 1 * 0 = k.val
    omega
  · show 0 + 1 * r.val = r.val
    omega
  · show 0 + 1 * c.val = c.val
    omega

/-- A load of matrix `k` of a stack of four, at a row and a column. -/
theorem ld_stack {Val : EltTy → Type} {d1 d2 o : Nat} {e : EltTy} (k : Fin 4) (ho : k.val = o) (X : (⟨3, ![4, d1, d2]⟩ : Shape).Idx → Val e)
    (inb : ∀ a, (![o, 0, 0] : Fin 3 → Nat) a + (![1, d1, d2] : Fin 3 → Nat) a ≤ (⟨3, ![4, d1, d2]⟩ : Shape).size a) (r : Fin d1) (c : Fin d2) :
    View.ld X (Rect.unit (s := ⟨3, ![4, d1, d2]⟩) ![o, 0, 0] ![1, d1, d2] inb) (ix3 0 r c) = X (ix3 k r c) :=
  congrArg X (emb_stack k ho inb r c)

/-- The gradient of the product's left operand on the tile: through the norm. -/
abbrev dmoT : Vec Ideal S256x1024 .bf16 := k0_pay43 (F := Ideal) x1 x6 x0
/-- The gradient of the merged branches on the tile. -/
abbrev dmgT : FVec Ideal S256x1024 .f32 := k0_pay44 (F := Ideal) (dmoT x0 x1 x6) x5
/-- The gradient of branch `y 0`. -/
abbrev dykT (y : S4x256x1024.Idx) : EReal := dmgT x0 x1 x5 x6 (ix2 (y 1) (y 2)) * x2 y
/-- The gradient of gate `y 0` before the logistic. -/
abbrev dgpT (y : S4x256x1024.Idx) : EReal := dmgT x0 x1 x5 x6 (ix2 (y 1) (y 2)) * x3 y * x2 y * (1 - x2 y)
/-- The gradient of branch `y 0`'s state. -/
abbrev dmT (y : S4x256x512.Idx) : EReal :=
  ∑ j, dmgT x0 x1 x5 x6 (ix2 (y 1) j) * x2 (ix3 (y 0) (y 1) j) * xs0 (ix3 (y 0) (y 2) j)

theorem out10_B (hc : ¬cond0_0 i) (y : S4x256x1024.Idx) :
    out0_B_10 (F := Ideal) c i a1 h1 a2 h2 a3 h3 a4 h4 a5 h5 a6 h6 a7 h7 a9 h9 a10 h10 a11 h11 a12 h12 a13 h13 a14 h14 hc x0 x1 x2 x3 x4 x5 x6 xo11 xs0 y = dykT x0 x1 x2 x5 x6 y := by
  unfold out0_B_10
  rw [View.read_writes_eq_canon _ _ _ (cover0_B_10 (F := Ideal) c i a1 h1 a2 h2 a3 h3 a4 h4 a5 h5 a6 h6 a7 h7 a9 h9 a10 h10 a11 h11 a12 h12 a13 h13 a14 h14 hc x0 x1 x2 x3 x4 x5 x6 xo11 xs0)]
  refine View.canon_apply_of_pieces (fun y => dykT x0 x1 x2 x5 x6 y) _ ?_ y (cover0_B_10 (F := Ideal) c i a1 h1 a2 h2 a3 h3 a4 h4 a5 h5 a6 h6 a7 h7 a9 h9 a10 h10 a11 h11 a12 h12 a13 h13 a14 h14 hc x0 x1 x2 x3 x4 x5 x6 xo11 xs0 y)
  unfold kernelRun0_B
  dsimp only
  sl_unfold_words
  simp only [List.forall_mem_cons, View.readAt_eq_ld, Memref.IsWhole.read_unread, View.ld_unit_zero (S := S256x1024) hz2,
    View.ld_unit_zero (S := S1x1024) hz2, View.ld_unit_zero (S := S8x128x1024) hz3]
  refine ⟨fun x => ?_, fun x => ?_, fun x => ?_, fun x => ?_, fun x hx => absurd hx List.not_mem_nil⟩ <;>
  · obtain ⟨r, e, rfl⟩ := stackIdx x
    first
    | rw [pay47_apply] | rw [pay53_apply] | rw [pay58_apply] | rw [pay63_apply]
    first
      | rw [emb_stack (o := 3) 3 rfl, ld_stack (o := 3) 3 rfl]; rfl
      | rw [emb_stack (o := 2) 2 rfl, ld_stack (o := 2) 2 rfl]; rfl
      | rw [emb_stack (o := 1) 1 rfl, ld_stack (o := 1) 1 rfl]; rfl
      | rw [emb_stack (o := 0) 0 rfl, ld_stack (o := 0) 0 rfl]; rfl

theorem out9_B (hc : ¬cond0_0 i) (y : S4x256x1024.Idx) :
    out0_B_9 (F := Ideal) c i a1 h1 a2 h2 a3 h3 a4 h4 a5 h5 a6 h6 a7 h7 a9 h9 a10 h10 a11 h11 a12 h12 a13 h13 a14 h14 hc x0 x1 x2 x3 x4 x5 x6 xo11 xs0 y = dgpT x0 x1 x2 x3 x5 x6 y := by
  unfold out0_B_9
  rw [View.read_writes_eq_canon _ _ _ (cover0_B_9 (F := Ideal) c i a1 h1 a2 h2 a3 h3 a4 h4 a5 h5 a6 h6 a7 h7 a9 h9 a10 h10 a11 h11 a12 h12 a13 h13 a14 h14 hc x0 x1 x2 x3 x4 x5 x6 xo11 xs0)]
  refine View.canon_apply_of_pieces (fun y => dgpT x0 x1 x2 x3 x5 x6 y) _ ?_ y (cover0_B_9 (F := Ideal) c i a1 h1 a2 h2 a3 h3 a4 h4 a5 h5 a6 h6 a7 h7 a9 h9 a10 h10 a11 h11 a12 h12 a13 h13 a14 h14 hc x0 x1 x2 x3 x4 x5 x6 xo11 xs0 y)
  unfold kernelRun0_B
  dsimp only
  sl_unfold_words
  simp only [List.forall_mem_cons, View.readAt_eq_ld, Memref.IsWhole.read_unread, View.ld_unit_zero (S := S256x1024) hz2,
    View.ld_unit_zero (S := S1x1024) hz2, View.ld_unit_zero (S := S8x128x1024) hz3]
  refine ⟨fun x => ?_, fun x => ?_, fun x => ?_, fun x => ?_, fun x hx => absurd hx List.not_mem_nil⟩ <;>
  · obtain ⟨r, e, rfl⟩ := stackIdx x
    first
    | rw [pay48_apply] | rw [pay54_apply] | rw [pay59_apply] | rw [pay1_apply]
    first
      | rw [emb_stack (o := 3) 3 rfl, ld_stack (o := 3) 3 rfl, ld_stack (o := 3) 3 rfl]; rfl
      | rw [emb_stack (o := 2) 2 rfl, ld_stack (o := 2) 2 rfl, ld_stack (o := 2) 2 rfl]; rfl
      | rw [emb_stack (o := 1) 1 rfl, ld_stack (o := 1) 1 rfl, ld_stack (o := 1) 1 rfl]; rfl
      | rw [emb_stack (o := 0) 0 rfl, ld_stack (o := 0) 0 rfl, ld_stack (o := 0) 0 rfl]; rfl

theorem out8_B (hc : ¬cond0_0 i) (y : S4x256x512.Idx) :
    out0_B_8 (F := Ideal) c i a1 h1 a2 h2 a3 h3 a4 h4 a5 h5 a6 h6 a7 h7 a9 h9 a10 h10 a11 h11 a12 h12 a13 h13 a14 h14 hc x0 x1 x2 x3 x4 x5 x6 xo11 xs0 y = dmT x0 x1 x2 x5 x6 xs0 y := by
  unfold out0_B_8
  rw [View.read_writes_eq_canon _ _ _ (cover0_B_8 (F := Ideal) c i a1 h1 a2 h2 a3 h3 a4 h4 a5 h5 a6 h6 a7 h7 a9 h9 a10 h10 a11 h11 a12 h12 a13 h13 a14 h14 hc x0 x1 x2 x3 x4 x5 x6 xo11 xs0)]
  refine View.canon_apply_of_pieces (fun y => dmT x0 x1 x2 x5 x6 xs0 y) _ ?_ y (cover0_B_8 (F := Ideal) c i a1 h1 a2 h2 a3 h3 a4 h4 a5 h5 a6 h6 a7 h7 a9 h9 a10 h10 a11 h11 a12 h12 a13 h13 a14 h14 hc x0 x1 x2 x3 x4 x5 x6 xo11 xs0 y)
  unfold kernelRun0_B
  dsimp only
  sl_unfold_words
  simp only [List.forall_mem_cons, View.readAt_eq_ld, Memref.IsWhole.read_unread, View.ld_unit_zero (S := S256x1024) hz2,
    View.ld_unit_zero (S := S1x1024) hz2, View.ld_unit_zero (S := S8x128x1024) hz3]
  refine ⟨fun x => ?_, fun x => ?_, fun x => ?_, fun x => ?_, fun x hx => absurd hx List.not_mem_nil⟩ <;>
  · obtain ⟨r, e, rfl⟩ := stackIdx x
    first
    | rw [pay50_apply] | rw [pay55_apply] | rw [pay60_apply] | rw [pay2_apply]
    first
      | rw [emb_stack (o := 3) 3 rfl]; refine Finset.sum_congr rfl fun j _ => ?_; rw [ld_stack (o := 3) 3 rfl, ld_stack (o := 3) 3 rfl]; rfl
      | rw [emb_stack (o := 2) 2 rfl]; refine Finset.sum_congr rfl fun j _ => ?_; rw [ld_stack (o := 2) 2 rfl, ld_stack (o := 2) 2 rfl]; rfl
      | rw [emb_stack (o := 1) 1 rfl]; refine Finset.sum_congr rfl fun j _ => ?_; rw [ld_stack (o := 1) 1 rfl, ld_stack (o := 1) 1 rfl]; rfl
      | rw [emb_stack (o := 0) 0 rfl]; refine Finset.sum_congr rfl fun j _ => ?_; rw [ld_stack (o := 0) 0 rfl, ld_stack (o := 0) 0 rfl]; rfl

end Cert.KernelIdeal.Merge

end
-- ==== Proof.MergeBlock2.lean ====
/-
  What the merge gradient's kernel leaves in each output's block at one grid point, over the extended reals: the
  stored pieces of a stacked output agree with one function of the block's index.
-/
module

public import proofs.«01_k».proof.Proof.MergeBlock
public import proofs.«01_k».proof.Proof.MergePay
public import Idealize.ShloMosaic.Lib.Pipeline.Value
public import Idealize.ShloMosaic.Lib.WritesUnit

@[expose] public section

set_option maxRecDepth 16384

noncomputable section

namespace Cert.KernelIdeal.Merge

open Idealize.ShloMosaic Idealize.ShloMosaic.TcCoe Idealize.SL.Sem Idealize.ShloMosaic.Tactic
open Cert.KernelIdeal Cert.KernelIdeal.Gen

variable (c : Dev nD) (i : grid0.Coords) (a1 : Memref sig .tc .vmem S256x1024 .f32) (h1 : a1.IsWhole)
  (a2 : Memref sig .tc .vmem S256x1024 .bf16) (h2 : a2.IsWhole)
  (a3 : Memref sig .tc .vmem S4x256x1024 .bf16) (h3 : a3.IsWhole)
  (a4 : Memref sig .tc .vmem S4x256x1024 .bf16) (h4 : a4.IsWhole)
  (a5 : Memref sig .tc .vmem S8x4x512x128 .bf16) (h5 : a5.IsWhole)
  (a6 : Memref sig .tc .vmem S8x128x1024 .bf16) (h6 : a6.IsWhole)
  (a7 : Memref sig .tc .vmem S1x1024 .f32) (h7 : a7.IsWhole)
  (a9 : Memref sig .tc .vmem S256x1024 .bf16) (h9 : a9.IsWhole)
  (a10 : Memref sig .tc .vmem S4x256x512 .bf16) (h10 : a10.IsWhole)
  (a11 : Memref sig .tc .vmem S4x256x1024 .bf16) (h11 : a11.IsWhole)
  (a12 : Memref sig .tc .vmem S4x256x1024 .bf16) (h12 : a12.IsWhole)
  (a13 : Memref sig .tc .vmem S8x1024 .f32) (h13 : a13.IsWhole)
  (a14 : Memref sig .tc .vmem S4x512x1024 .bf16) (h14 : a14.IsWhole)
variable (x0 : Vec Ideal S256x1024 .f32) (x1 : Vec Ideal S256x1024 .bf16) (x2 x3 : Vec Ideal S4x256x1024 .bf16) (x4 : Vec Ideal S8x4x512x128 .bf16)
  (x5 : Vec Ideal S8x128x1024 .bf16) (x6 : Vec Ideal S1x1024 .f32) (xo11 : Vec Ideal S8x1024 .f32) (xs0 : Vec Ideal S4x512x1024 .bf16)

/-- The branch weights unpacked: matrix `k`'s columns `128 j … 128 j + 127` are part `j`'s matrix `k`. -/
abbrev wbfT : Vec Ideal S4x512x1024 .bf16 := fun y =>
  x4 (ix4 (⟨(y 2).val / 128, by have : (y 2).val < 1024 := (y 2).isLt; omega⟩ : Fin 8) (y 0) (y 1) (⟨(y 2).val % 128, by omega⟩ : Fin 128))

theorem cast_part (v : S1x1x512x128.Idx → EReal) (c1 c2) (e : Fin 512) (d : Fin 128) :
    shapeCast S1x512x128 (shapeCast S512x128 v c1) c2 (ix3 0 e d) = v (ix4 0 0 e d) := by
  pointwise

/-- One part of the weights, put where the unpacked array has it. -/
theorem part_piece {ok oj ob : Nat} (hk : ok < 4) (hj : oj < 8) (ho : ob = 128 * oj)
    (inb : ∀ a, (![oj, ok, 0, 0] : Fin 4 → Nat) a + S1x1x512x128.size a ≤ S8x4x512x128.size a)
    (inb' : ∀ a, (![ok, 0, ob] : Fin 3 → Nat) a + S1x512x128.size a ≤ S4x512x1024.size a) (c1 c2) (e : Fin 512) (d : Fin 128) :
    shapeCast S1x512x128 (shapeCast S512x128 (View.ld x4 (Rect.unit (s := S8x4x512x128) ![oj, ok, 0, 0] S1x1x512x128.size inb)) c1) c2 (ix3 0 e d)
      = wbfT x4 ((Rect.unit (s := S4x512x1024) ![ok, 0, ob] S1x512x128.size inb').emb (ix3 0 e d)) := by
  subst ho
  trans View.ld x4 (Rect.unit (s := S8x4x512x128) ![oj, ok, 0, 0] S1x1x512x128.size inb) (ix4 0 0 e d)
  · exact cast_part _ c1 c2 e d
  · clear c1 c2
    refine congrArg x4 (funext fun a => Fin.ext ?_)
    fin_cases a
    · show oj + 1 * 0 = (128 * oj + 1 * d.val) / 128
      omega
    · show ok + 1 * 0 = ok + 1 * 0
      rfl
    · show 0 + 1 * e.val = 0 + 1 * e.val
      rfl
    · show 0 + 1 * d.val = (128 * oj + 1 * d.val) % 128
      omega

theorem scanon_A (hc : cond0_0 i) :
    View.canon (kernelRun0_A (F := Ideal) c i a1 h1 a2 h2 a3 h3 a4 h4 a5 h5 a6 h6 a7 h7 a9 h9 a10 h10 a11 h11 a12 h12 a13 h13 a14 h14 hc x0 x1 x2 x3 x4 x5 x6).2.2.2.2.2.1 = wbfT x4 := by
  funext y
  refine View.canon_apply_of_pieces (fun y => wbfT x4 y) _ ?_ y (scover0_A_0 (F := Ideal) c i a1 h1 a2 h2 a3 h3 a4 h4 a5 h5 a6 h6 a7 h7 a9 h9 a10 h10 a11 h11 a12 h12 a13 h13 a14 h14 hc x0 x1 x2 x3 x4 x5 x6 y)
  unfold kernelRun0_A
  dsimp only
  sl_unfold_words
  simp only [List.forall_mem_cons, View.readAt_eq_ld, Memref.IsWhole.read_unread]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun x hx => absurd hx List.not_mem_nil⟩ <;>
  · intro x
    obtain ⟨e, d, rfl⟩ := stackIdx x
    refine part_piece x4 ?_ ?_ ?_ _ _ _ _ e d <;> decide

theorem sout_A (hc : cond0_0 i) : sout0_A_0 (F := Ideal) c i a1 h1 a2 h2 a3 h3 a4 h4 a5 h5 a6 h6 a7 h7 a9 h9 a10 h10 a11 h11 a12 h12 a13 h13 a14 h14 hc x0 x1 x2 x3 x4 x5 x6 = wbfT x4 := by
  unfold sout0_A_0
  rw [View.read_writes_eq_canon _ _ _ (scover0_A_0 (F := Ideal) c i a1 h1 a2 h2 a3 h3 a4 h4 a5 h5 a6 h6 a7 h7 a9 h9 a10 h10 a11 h11 a12 h12 a13 h13 a14 h14 hc x0 x1 x2 x3 x4 x5 x6)]
  exact scanon_A c i a1 h1 a2 h2 a3 h3 a4 h4 a5 h5 a6 h6 a7 h7 a9 h9 a10 h10 a11 h11 a12 h12 a13 h13 a14 h14 x0 x1 x2 x3 x4 x5 x6 hc

/-- A load of matrix `k` of what the stores `L` left in a stack of four. -/
theorem readCov_stack {sig : RefSig} {κ : Kind} {sp : Space} {d1 d2 o : Nat} (k : Fin 4) (ho : k.val = o) (v : View sig κ sp (⟨3, ![4, d1, d2]⟩ : Shape) .bf16)
    (L : List (View.Piece (Elt Ideal) (⟨3, ![4, d1, d2]⟩ : Shape) .bf16)) (X : (⟨3, ![4, d1, d2]⟩ : Shape).Idx → EReal) (hL : View.canon L = X)
    (inb : ∀ a, (![o, 0, 0] : Fin 3 → Nat) a + (![1, d1, d2] : Fin 3 → Nat) a ≤ (⟨3, ![4, d1, d2]⟩ : Shape).size a) (r : Fin d1) (c : Fin d2) :
    v.readCov L (Rect.unit (s := ⟨3, ![4, d1, d2]⟩) ![o, 0, 0] ![1, d1, d2] inb).toLoadRect (ix3 0 r c) = X (ix3 k r c) := by
  rw [View.readCov_eq_canon', hL]
  exact congrArg X (emb_stack k ho inb r c)

theorem out10_A (hc : cond0_0 i) (y : S4x256x1024.Idx) :
    out0_A_10 (F := Ideal) c i a1 h1 a2 h2 a3 h3 a4 h4 a5 h5 a6 h6 a7 h7 a9 h9 a10 h10 a11 h11 a12 h12 a13 h13 a14 h14 hc x0 x1 x2 x3 x4 x5 x6 y = dykT x0 x1 x2 x5 x6 y := by
  unfold out0_A_10
  rw [View.read_writes_eq_canon _ _ _ (cover0_A_10 (F := Ideal) c i a1 h1 a2 h2 a3 h3 a4 h4 a5 h5 a6 h6 a7 h7 a9 h9 a10 h10 a11 h11 a12 h12 a13 h13 a14 h14 hc x0 x1 x2 x3 x4 x5 x6)]
  refine View.canon_apply_of_pieces (fun y => dykT x0 x1 x2 x5 x6 y) _ ?_ y (cover0_A_10 (F := Ideal) c i a1 h1 a2 h2 a3 h3 a4 h4 a5 h5 a6 h6 a7 h7 a9 h9 a10 h10 a11 h11 a12 h12 a13 h13 a14 h14 hc x0 x1 x2 x3 x4 x5 x6 y)
  unfold kernelRun0_A
  dsimp only
  sl_unfold_words
  simp only [List.forall_mem_cons, View.readAt_eq_ld, Memref.IsWhole.read_unread, View.ld_unit_zero (S := S256x1024) hz2,
    View.ld_unit_zero (S := S1x1024) hz2, View.ld_unit_zero (S := S8x128x1024) hz3]
  refine ⟨fun x => ?_, fun x => ?_, fun x => ?_, fun x => ?_, fun x hx => absurd hx List.not_mem_nil⟩ <;>
  · obtain ⟨r, e, rfl⟩ := stackIdx x
    first
    | rw [pay47_apply] | rw [pay53_apply] | rw [pay58_apply] | rw [pay63_apply]
    first
      | rw [emb_stack (o := 3) 3 rfl, ld_stack (o := 3) 3 rfl]; rfl
      | rw [emb_stack (o := 2) 2 rfl, ld_stack (o := 2) 2 rfl]; rfl
      | rw [emb_stack (o := 1) 1 rfl, ld_stack (o := 1) 1 rfl]; rfl
      | rw [emb_stack (o := 0) 0 rfl, ld_stack (o := 0) 0 rfl]; rfl

theorem out9_A (hc : cond0_0 i) (y : S4x256x1024.Idx) :
    out0_A_9 (F := Ideal) c i a1 h1 a2 h2 a3 h3 a4 h4 a5 h5 a6 h6 a7 h7 a9 h9 a10 h10 a11 h11 a12 h12 a13 h13 a14 h14 hc x0 x1 x2 x3 x4 x5 x6 y = dgpT x0 x1 x2 x3 x5 x6 y := by
  unfold out0_A_9
  rw [View.read_writes_eq_canon _ _ _ (cover0_A_9 (F := Ideal) c i a1 h1 a2 h2 a3 h3 a4 h4 a5 h5 a6 h6 a7 h7 a9 h9 a10 h10 a11 h11 a12 h12 a13 h13 a14 h14 hc x0 x1 x2 x3 x4 x5 x6)]
  refine View.canon_apply_of_pieces (fun y => dgpT x0 x1 x2 x3 x5 x6 y) _ ?_ y (cover0_A_9 (F := Ideal) c i a1 h1 a2 h2 a3 h3 a4 h4 a5 h5 a6 h6 a7 h7 a9 h9 a10 h10 a11 h11 a12 h12 a13 h13 a14 h14 hc x0 x1 x2 x3 x4 x5 x6 y)
  unfold kernelRun0_A
  dsimp only
  sl_unfold_words
  simp only [List.forall_mem_cons, View.readAt_eq_ld, Memref.IsWhole.read_unread, View.ld_unit_zero (S := S256x1024) hz2,
    View.ld_unit_zero (S := S1x1024) hz2, View.ld_unit_zero (S := S8x128x1024) hz3]
  refine ⟨fun x => ?_, fun x => ?_, fun x => ?_, fun x => ?_, fun x hx => absurd hx List.not_mem_nil⟩ <;>
  · obtain ⟨r, e, rfl⟩ := stackIdx x
    first
    | rw [pay48_apply] | rw [pay54_apply] | rw [pay59_apply] | rw [pay1_apply]
    first
      | rw [emb_stack (o := 3) 3 rfl, ld_stack (o := 3) 3 rfl, ld_stack (o := 3) 3 rfl]; rfl
      | rw [emb_stack (o := 2) 2 rfl, ld_stack (o := 2) 2 rfl, ld_stack (o := 2) 2 rfl]; rfl
      | rw [emb_stack (o := 1) 1 rfl, ld_stack (o := 1) 1 rfl, ld_stack (o := 1) 1 rfl]; rfl
      | rw [emb_stack (o := 0) 0 rfl, ld_stack (o := 0) 0 rfl, ld_stack (o := 0) 0 rfl]; rfl

theorem out8_A (hc : cond0_0 i) (y : S4x256x512.Idx) :
    out0_A_8 (F := Ideal) c i a1 h1 a2 h2 a3 h3 a4 h4 a5 h5 a6 h6 a7 h7 a9 h9 a10 h10 a11 h11 a12 h12 a13 h13 a14 h14 hc x0 x1 x2 x3 x4 x5 x6 y = dmT x0 x1 x2 x5 x6 (wbfT x4) y := by
  unfold out0_A_8
  rw [View.read_writes_eq_canon _ _ _ (cover0_A_8 (F := Ideal) c i a1 h1 a2 h2 a3 h3 a4 h4 a5 h5 a6 h6 a7 h7 a9 h9 a10 h10 a11 h11 a12 h12 a13 h13 a14 h14 hc x0 x1 x2 x3 x4 x5 x6)]
  refine View.canon_apply_of_pieces (fun y => dmT x0 x1 x2 x5 x6 (wbfT x4) y) _ ?_ y (cover0_A_8 (F := Ideal) c i a1 h1 a2 h2 a3 h3 a4 h4 a5 h5 a6 h6 a7 h7 a9 h9 a10 h10 a11 h11 a12 h12 a13 h13 a14 h14 hc x0 x1 x2 x3 x4 x5 x6 y)
  have h := scanon_A c i a1 h1 a2 h2 a3 h3 a4 h4 a5 h5 a6 h6 a7 h7 a9 h9 a10 h10 a11 h11 a12 h12 a13 h13 a14 h14 x0 x1 x2 x3 x4 x5 x6 hc
  revert h
  unfold kernelRun0_A
  dsimp only
  sl_unfold_words
  simp only [List.forall_mem_cons, View.readAt_eq_ld, Memref.IsWhole.read_unread, View.ld_unit_zero (S := S256x1024) hz2,
    View.ld_unit_zero (S := S1x1024) hz2, View.ld_unit_zero (S := S8x128x1024) hz3]
  intro h
  refine ⟨fun x => ?_, fun x => ?_, fun x => ?_, fun x => ?_, fun x hx => absurd hx List.not_mem_nil⟩ <;>
  · obtain ⟨r, e, rfl⟩ := stackIdx x
    first
    | rw [pay50_apply] | rw [pay55_apply] | rw [pay60_apply] | rw [pay2_apply]
    first
      | rw [emb_stack (o := 3) 3 rfl]; refine Finset.sum_congr rfl fun j _ => ?_; exact congrArg₂ (· * ·) (congrArg₂ (· * ·) rfl (ld_stack (o := 3) 3 rfl _ _ _ _)) (readCov_stack (o := 3) 3 rfl _ _ (wbfT x4) h _ _ _)
      | rw [emb_stack (o := 2) 2 rfl]; refine Finset.sum_congr rfl fun j _ => ?_; exact congrArg₂ (· * ·) (congrArg₂ (· * ·) rfl (ld_stack (o := 2) 2 rfl _ _ _ _)) (readCov_stack (o := 2) 2 rfl _ _ (wbfT x4) h _ _ _)
      | rw [emb_stack (o := 1) 1 rfl]; refine Finset.sum_congr rfl fun j _ => ?_; exact congrArg₂ (· * ·) (congrArg₂ (· * ·) rfl (ld_stack (o := 1) 1 rfl _ _ _ _)) (readCov_stack (o := 1) 1 rfl _ _ (wbfT x4) h _ _ _)
      | rw [emb_stack (o := 0) 0 rfl]; refine Finset.sum_congr rfl fun j _ => ?_; exact congrArg₂ (· * ·) (congrArg₂ (· * ·) rfl (ld_stack (o := 0) 0 rfl _ _ _ _)) (readCov_stack (o := 0) 0 rfl _ _ (wbfT x4) h _ _ _)

theorem out7_B (hc : ¬cond0_0 i) :
    out0_B_7 (F := Ideal) c i a1 h1 a2 h2 a3 h3 a4 h4 a5 h5 a6 h6 a7 h7 a9 h9 a10 h10 a11 h11 a12 h12 a13 h13 a14 h14 hc x0 x1 x2 x3 x4 x5 x6 xo11 xs0 = dmoT x0 x1 x6 := by
  unfold out0_B_7
  rw [View.read_writes_eq_canon _ _ _ (cover0_B_7 (F := Ideal) c i a1 h1 a2 h2 a3 h3 a4 h4 a5 h5 a6 h6 a7 h7 a9 h9 a10 h10 a11 h11 a12 h12 a13 h13 a14 h14 hc x0 x1 x2 x3 x4 x5 x6 xo11 xs0)]
  unfold kernelRun0_B
  dsimp only
  sl_unfold_words
  rw [View.canon_unit_zero hz2]
  simp only [View.readAt_eq_ld, Memref.IsWhole.read_unread, View.ld_unit_zero (S := S256x1024) hz2,
    View.ld_unit_zero (S := S1x1024) hz2, View.ld_unit_zero (S := S8x128x1024) hz3]

theorem out7_A (hc : cond0_0 i) :
    out0_A_7 (F := Ideal) c i a1 h1 a2 h2 a3 h3 a4 h4 a5 h5 a6 h6 a7 h7 a9 h9 a10 h10 a11 h11 a12 h12 a13 h13 a14 h14 hc x0 x1 x2 x3 x4 x5 x6 = dmoT x0 x1 x6 := by
  unfold out0_A_7
  rw [View.read_writes_eq_canon _ _ _ (cover0_A_7 (F := Ideal) c i a1 h1 a2 h2 a3 h3 a4 h4 a5 h5 a6 h6 a7 h7 a9 h9 a10 h10 a11 h11 a12 h12 a13 h13 a14 h14 hc x0 x1 x2 x3 x4 x5 x6)]
  unfold kernelRun0_A
  dsimp only
  sl_unfold_words
  rw [View.canon_unit_zero hz2]
  simp only [View.readAt_eq_ld, Memref.IsWhole.read_unread, View.ld_unit_zero (S := S256x1024) hz2,
    View.ld_unit_zero (S := S1x1024) hz2, View.ld_unit_zero (S := S8x128x1024) hz3]

/-- The tile's part of the gain's gradient. -/
abbrev gpT (e : Fin 1024) : EReal :=
  ∑ r, x0 (ix2 r e) * (x1 (ix2 r e) * Ideal.rsqrt (RmsBwd.q 1024 eps fun j : Fin 1024 => x1 (ix2 r j)))

theorem out11_B_row (hc : ¬cond0_0 i) (e : Fin 1024) :
    out0_B_11 (F := Ideal) c i a1 h1 a2 h2 a3 h3 a4 h4 a5 h5 a6 h6 a7 h7 a9 h9 a10 h10 a11 h11 a12 h12 a13 h13 a14 h14 hc x0 x1 x2 x3 x4 x5 x6 xo11 xs0 (ix2 0 e) = xo11 (ix2 0 e) + gpT x0 x1 e := by
  unfold out0_B_11
  unfold kernelRun0_B
  dsimp only
  sl_unfold_words
  simp only [View.readAt_eq_ld, Memref.IsWhole.read_unread, View.ld_unit_zero (S := S256x1024) hz2,
    View.ld_unit_zero (S := S1x1024) hz2, View.ld_unit_zero (S := S8x128x1024) hz3]
  refine Eq.trans (View.read_writes_cons_rows_of_mem (d := ![8, 1024]) (size := ![1, 1024]) (o := 0) a13.view _ _ _ _ (ix2 0 e) (ix2 0 e) rfl rfl rfl) ?_
  rw [pay42_apply]
  refine congrArg₂ (· + ·) (congrArg xo11 (funext fun a => Fin.ext ?_)) rfl
  fin_cases a
  · rfl
  · show 0 + 1 * e.val = e.val
    omega

theorem out11_B_rest (hc : ¬cond0_0 i) (k : Fin 8) (hk : k ≠ 0) (e : Fin 1024) :
    out0_B_11 (F := Ideal) c i a1 h1 a2 h2 a3 h3 a4 h4 a5 h5 a6 h6 a7 h7 a9 h9 a10 h10 a11 h11 a12 h12 a13 h13 a14 h14 hc x0 x1 x2 x3 x4 x5 x6 xo11 xs0 (ix2 k e) = xo11 (ix2 k e) := by
  unfold out0_B_11
  unfold kernelRun0_B
  dsimp only
  sl_unfold_words
  simp only [View.readAt_eq_ld, Memref.IsWhole.read_unread, View.ld_unit_zero (S := S256x1024) hz2,
    View.ld_unit_zero (S := S1x1024) hz2, View.ld_unit_zero (S := S8x128x1024) hz3]
  rw [View.read_writes_cons_rows_of_not_mem (o := 0) (W := 1) a13.view _ _ _ _ (ix2 k e) rfl rfl (Or.inr (by show 0 + 1 ≤ k.val; have := Fin.val_ne_of_ne hk; simp at this; omega))]
  show View.read _ a13.view (h13.unread xo11) (ix2 k e) = _
  rw [Memref.IsWhole.read_unread]

theorem out11_A_row (hc : cond0_0 i) (e : Fin 1024) :
    out0_A_11 (F := Ideal) c i a1 h1 a2 h2 a3 h3 a4 h4 a5 h5 a6 h6 a7 h7 a9 h9 a10 h10 a11 h11 a12 h12 a13 h13 a14 h14 hc x0 x1 x2 x3 x4 x5 x6 (ix2 0 e) = gpT x0 x1 e := by
  unfold out0_A_11
  unfold kernelRun0_A
  dsimp only
  sl_unfold_words
  simp only [View.readAt_eq_ld, Memref.IsWhole.read_unread, View.ld_unit_zero (S := S256x1024) hz2,
    View.ld_unit_zero (S := S1x1024) hz2, View.ld_unit_zero (S := S8x128x1024) hz3]
  refine Eq.trans (View.read_writes_cons_rows_of_mem (d := ![8, 1024]) (size := ![1, 1024]) (o := 0) VO0_11 _ _ _ _ (ix2 0 e) (ix2 0 e) rfl rfl rfl) ?_
  rw [pay42_apply, View.readCov_eq_canon', View.canon_unit_zero hz2]
  dsimp only
  rw [show ∀ y, k0_pay3 (F := Ideal) y = 0 from fun y => by pointwise [k0_pay3]]
  exact zero_add _

theorem out11_A_rest (hc : cond0_0 i) (k : Fin 8) (hk : k ≠ 0) (e : Fin 1024) :
    out0_A_11 (F := Ideal) c i a1 h1 a2 h2 a3 h3 a4 h4 a5 h5 a6 h6 a7 h7 a9 h9 a10 h10 a11 h11 a12 h12 a13 h13 a14 h14 hc x0 x1 x2 x3 x4 x5 x6 (ix2 k e) = 0 := by
  unfold out0_A_11
  unfold kernelRun0_A
  dsimp only
  sl_unfold_words
  simp only [View.readAt_eq_ld, Memref.IsWhole.read_unread, View.ld_unit_zero (S := S256x1024) hz2,
    View.ld_unit_zero (S := S1x1024) hz2, View.ld_unit_zero (S := S8x128x1024) hz3]
  rw [View.read_writes_cons_rows_of_not_mem (o := 0) (W := 1) _ _ _ _ _ (ix2 k e) rfl rfl (Or.inr (by show 0 + 1 ≤ k.val; have := Fin.val_ne_of_ne hk; simp at this; omega))]
  refine Eq.trans (View.read_writes_cons_rows_of_mem (d := ![8, 1024]) (size := ![8, 1024]) (o := 0) VO0_11 _ _ _ _ (ix2 k e) (ix2 k e) rfl (by show k.val = 0 + k.val; omega) rfl) ?_
  rw [show ∀ y, k0_pay3 (F := Ideal) y = 0 from fun y => by pointwise [k0_pay3]]

end Cert.KernelIdeal.Merge

end
-- ==== Proof.MergeArr.lean ====
/-
  The merge gradient's result arrays after the run, over the extended reals: each a function of the arrays that the
  call is given.
-/
module

public import proofs.«01_k».proof.Proof.Gen.KernelIdeal.Value
public import proofs.«01_k».proof.Proof.MergeBlock2
public import Idealize.ShloMosaic.Lib.Pipeline.ValueKit

@[expose] public section

set_option maxRecDepth 16384

noncomputable section

namespace Cert.KernelIdeal.Merge

open Idealize.ShloMosaic Idealize.ShloMosaic.TcCoe Idealize.SL.Sem Idealize.ShloMosaic.Tactic
open Cert.KernelIdeal Cert.KernelIdeal.Gen

variable (m : (ℓ : Loc nD τ sig) → Buf (Elt Ideal) ℓ) (c : Dev nD)

/-- The cotangent. -/
abbrev DXO : S4096x1024.Idx → EReal := V m c main_arg0
/-- The saved product. -/
abbrev MO : S4096x1024.Idx → EReal := V m c main_v0_0
/-- The saved gates. -/
abbrev GG : S4x4096x1024.Idx → EReal := V m c main_v0_1
/-- The saved branches. -/
abbrev YK : S4x4096x1024.Idx → EReal := V m c main_v0_2
/-- The branch weights in parts. -/
abbrev WB : S8x4x512x128.Idx → EReal := V m c main_v3
/-- The output weights in parts. -/
abbrev WO : S8x128x1024.Idx → EReal := V m c main_v5
/-- The row of gains. -/
abbrev SP : S1x16896.Idx → EReal := V m c main_v9

/-- Row `r` of tile `t`. -/
abbrev row (t : Fin cfg0.N) (r : Fin 256) : Fin 4096 :=
  ⟨t.val * 256 + r.val, by have := t.isLt; have : cfg0.N = 16 := N_0; omega⟩

theorem ix0 : ∀ t : Fin cfg0.N, win0_0.index t = ![t.val, 0] := by decide +kernel
theorem ix1 : ∀ t : Fin cfg0.N, win0_1.index t = ![t.val, 0] := by decide +kernel
theorem ix2' : ∀ t : Fin cfg0.N, win0_2.index t = ![0, t.val, 0] := by decide +kernel
theorem ix3' : ∀ t : Fin cfg0.N, win0_3.index t = ![0, t.val, 0] := by decide +kernel
theorem ix4' : ∀ t : Fin cfg0.N, win0_4.index t = ![0, 0, 0, 0] := by decide +kernel
theorem ix5 : ∀ t : Fin cfg0.N, win0_5.index t = ![0, 0, 0] := by decide +kernel
theorem ix6 : ∀ t : Fin cfg0.N, win0_6.index t = ![0, 3] := by decide +kernel
theorem ix7 : ∀ t : Fin cfg0.N, win0_7.index t = ![t.val, 0] := by decide +kernel
theorem ix8 : ∀ t : Fin cfg0.N, win0_8.index t = ![0, t.val, 0] := by decide +kernel
theorem ix9 : ∀ t : Fin cfg0.N, win0_9.index t = ![0, t.val, 0] := by decide +kernel
theorem ix10 : ∀ t : Fin cfg0.N, win0_10.index t = ![0, t.val, 0] := by decide +kernel
theorem ix11 : ∀ t : Fin cfg0.N, win0_11.index t = ![0, 0] := by decide +kernel

theorem blk0 (t : Fin cfg0.N) (r : Fin 256) (j : Fin 1024) : iblk m c 0 t (ix2 r j) = DXO m c (ix2 (row t r) j) := by
  blk_ext [iblk, ix0 t]
theorem blk1 (t : Fin cfg0.N) (r : Fin 256) (j : Fin 1024) : iblk m c 1 t (ix2 r j) = MO m c (ix2 (row t r) j) := by
  blk_ext [iblk, ix1 t]
theorem blk2 (t : Fin cfg0.N) (k : Fin 4) (r : Fin 256) (j : Fin 1024) : iblk m c 2 t (ix3 k r j) = GG m c (ix3 k (row t r) j) := by
  blk_ext [iblk, ix2' t]
theorem blk3 (t : Fin cfg0.N) (k : Fin 4) (r : Fin 256) (j : Fin 1024) : iblk m c 3 t (ix3 k r j) = YK m c (ix3 k (row t r) j) := by
  blk_ext [iblk, ix3' t]
theorem blk4 (t : Fin cfg0.N) (p : Fin 8) (k : Fin 4) (e : Fin 512) (d : Fin 128) : iblk m c 4 t (ix4 p k e d) = WB m c (ix4 p k e d) := by
  blk_ext [iblk, ix4' t]
theorem blk5 (t : Fin cfg0.N) (p : Fin 8) (e : Fin 128) (d : Fin 1024) : iblk m c 5 t (ix3 p e d) = WO m c (ix3 p e d) := by
  blk_ext [iblk, ix5 t]
theorem blk6 (t : Fin cfg0.N) (d : Fin 1024) : X0_6 m c t (ix2 0 d) = SP m c (ix2 0 ⟨3072 + d.val, by omega⟩) := by
  unfold X0_6 Pipeline.Window.fill
  rw [dif_pos (moved0_6 t _)]
  blk_ext [iblk, ix6 t]

/-- The gradient of the product before the norm. -/
def dmoG (y : S4096x1024.Idx) : EReal :=
  RmsBwd.short 1024 eps (fun j : Fin 1024 => MO m c (ix2 (y 0) j))
    (fun j => DXO m c (ix2 (y 0) j) * SP m c (ix2 0 ⟨3072 + j.val, by omega⟩)) (y 1)
/-- The gradient of the merged branches. -/
def dmgG (r : Fin 4096) (e : Fin 1024) : EReal :=
  ∑ j : Fin 1024, dmoG m c (ix2 r j) * WO m c (ix3 ⟨e.val / 128, by omega⟩ ⟨e.val % 128, by omega⟩ j)
/-- The gradients of the branches. -/
def dykG (y : S4x4096x1024.Idx) : EReal := dmgG m c (y 1) (y 2) * GG m c y
/-- The gradients of the gates before the logistic. -/
def dgpG (y : S4x4096x1024.Idx) : EReal := dmgG m c (y 1) (y 2) * YK m c y * GG m c y * (1 - GG m c y)
/-- The gradients of the branches' states. -/
def dmG (y : S4x4096x512.Idx) : EReal :=
  ∑ j : Fin 1024, dmgG m c (y 1) j * GG m c (ix3 (y 0) (y 1) j) * WB m c (ix4 ⟨j.val / 128, by omega⟩ (y 0) (y 2) ⟨j.val % 128, by omega⟩)
/-- One row's part of the gain's gradient. -/
def gpRow (r : Fin 4096) (e : Fin 1024) : EReal :=
  DXO m c (ix2 r e) * (MO m c (ix2 r e) * Ideal.rsqrt (RmsBwd.q 1024 eps fun j : Fin 1024 => MO m c (ix2 r j)))
/-- The gain's gradient: the sum over the rows, in the first of eight rows. -/
def gpG (y : S8x1024.Idx) : EReal := if (y 0).val = 0 then ∑ r : Fin 4096, gpRow m c r (y 1) else 0

theorem dmoT_eq (t : Fin cfg0.N) (r : Fin 256) (e : Fin 1024) :
    dmoT (iblk m c 0 t) (iblk m c 1 t) (X0_6 m c t) (ix2 r e) = dmoG m c (ix2 (row t r) e) := by
  unfold dmoT dmoG
  rw [pay43_apply]
  simp only [blk0, blk1, blk6]
  rfl

theorem dmgT_eq (t : Fin cfg0.N) (r : Fin 256) (e : Fin 1024) :
    dmgT (iblk m c 0 t) (iblk m c 1 t) (iblk m c 5 t) (X0_6 m c t) (ix2 r e) = dmgG m c (row t r) e := by
  unfold dmgT dmgG
  rw [pay44_apply]
  simp only [dmoT_eq, blk5]

theorem wbfT_eq (t : Fin cfg0.N) : wbfT (iblk m c 4 t) = wbfT (WB m c) := by
  funext y
  exact blk4 m c t _ _ _ _

/-- The unpacked weights stay as the first point left them. -/
theorem scr (n : Nat) (hn : n < cfg0.N) : (outsAt0 m c n hn).2.2.2.2.2 = wbfT (WB m c) := by
  induction n with
  | zero =>
    rw [outsAt0_A m c ⟨0, hn⟩ rfl]
    dsimp only
    rw [sout_A, wbfT_eq]
  | succ n ih =>
    have h0 : ¬(⟨n + 1, hn⟩ : Fin cfg0.N).val % 16 = 0 := by
      have : cfg0.N = 16 := N_0
      show ¬(n + 1) % 16 = 0
      omega
    rw [outsAt0_B m c ⟨n + 1, hn⟩ h0]
    dsimp only
    unfold sout0_B_0
    exact ih _

theorem o7 (t : Fin cfg0.N) : (outsAt0 m c t.val t.isLt).1 = dmoT (iblk m c 0 t) (iblk m c 1 t) (X0_6 m c t) := by
  by_cases h0 : t.val % 16 = 0
  · rw [outsAt0_A m c t h0]
    dsimp only
    rw [out7_A]
  · rw [outsAt0_B m c t h0]
    dsimp only
    rw [out7_B]

theorem o8 (t : Fin cfg0.N) (y : S4x256x512.Idx) : (outsAt0 m c t.val t.isLt).2.1 y
    = dmT (iblk m c 0 t) (iblk m c 1 t) (iblk m c 2 t) (iblk m c 5 t) (X0_6 m c t) (wbfT (WB m c)) y := by
  by_cases h0 : t.val % 16 = 0
  · rw [outsAt0_A m c t h0]
    dsimp only
    rw [out8_A, wbfT_eq]
  · rw [outsAt0_B m c t h0]
    dsimp only
    rw [out8_B, scr]

theorem o9 (t : Fin cfg0.N) (y : S4x256x1024.Idx) : (outsAt0 m c t.val t.isLt).2.2.1 y
    = dgpT (iblk m c 0 t) (iblk m c 1 t) (iblk m c 2 t) (iblk m c 3 t) (iblk m c 5 t) (X0_6 m c t) y := by
  by_cases h0 : t.val % 16 = 0
  · rw [outsAt0_A m c t h0]
    dsimp only
    rw [out9_A]
  · rw [outsAt0_B m c t h0]
    dsimp only
    rw [out9_B]

theorem o10 (t : Fin cfg0.N) (y : S4x256x1024.Idx) : (outsAt0 m c t.val t.isLt).2.2.2.1 y
    = dykT (iblk m c 0 t) (iblk m c 1 t) (iblk m c 2 t) (iblk m c 5 t) (X0_6 m c t) y := by
  by_cases h0 : t.val % 16 = 0
  · rw [outsAt0_A m c t h0]
    dsimp only
    rw [out10_A]
  · rw [outsAt0_B m c t h0]
    dsimp only
    rw [out10_B]

theorem gpT_eq (t : Fin cfg0.N) (e : Fin 1024) : gpT (iblk m c 0 t) (iblk m c 1 t) e = ∑ r, gpRow m c (row t r) e := by
  unfold gpT gpRow
  simp only [blk0, blk1]

/-- What the accumulator holds after a point: in its first row the sum over the tiles so far. -/
theorem o11_row (n : Nat) (hn : n < cfg0.N) (e : Fin 1024) : (outsAt0 m c n hn).2.2.2.2.1 (ix2 0 e)
    = ∑ t : Fin (n + 1), ∑ r, gpRow m c (row ⟨t.val, by omega⟩ r) e := by
  induction n with
  | zero =>
    rw [outsAt0_A m c ⟨0, hn⟩ rfl]
    dsimp only
    rw [out11_A_row, gpT_eq, Fin.sum_univ_one]
    rfl
  | succ n ih =>
    have h0 : ¬(⟨n + 1, hn⟩ : Fin cfg0.N).val % 16 = 0 := by
      have : cfg0.N = 16 := N_0
      show ¬(n + 1) % 16 = 0
      omega
    rw [outsAt0_B m c ⟨n + 1, hn⟩ h0]
    dsimp only
    rw [out11_B_row, gpT_eq, Fin.sum_univ_castSucc (n := n + 1)]
    exact congrArg₂ (· + ·) (ih _) rfl

theorem o11_rest (n : Nat) (hn : n < cfg0.N) (k : Fin 8) (hk : k ≠ 0) (e : Fin 1024) : (outsAt0 m c n hn).2.2.2.2.1 (ix2 k e) = 0 := by
  induction n with
  | zero =>
    rw [outsAt0_A m c ⟨0, hn⟩ rfl]
    dsimp only
    rw [out11_A_rest _ _ _ _ _ _ _ _ _ _ _ _ _ _ _ _ _ _ _ _ _ _ _ _ _ _ _ _ _ _ _ _ _ _ _ _ k hk e]
  | succ n ih =>
    have h0 : ¬(⟨n + 1, hn⟩ : Fin cfg0.N).val % 16 = 0 := by
      have : cfg0.N = 16 := N_0
      show ¬(n + 1) % 16 = 0
      omega
    rw [outsAt0_B m c ⟨n + 1, hn⟩ h0]
    dsimp only
    rw [out11_B_rest (hk := hk)]
    exact ih _

theorem dmT_eq (t : Fin cfg0.N) (k : Fin 4) (r : Fin 256) (e : Fin 512) :
    dmT (iblk m c 0 t) (iblk m c 1 t) (iblk m c 2 t) (iblk m c 5 t) (X0_6 m c t) (wbfT (WB m c)) (ix3 k r e)
      = dmG m c (ix3 k (row t r) e) :=
  Finset.sum_congr rfl fun j _ => congrArg₂ (· * ·) (congrArg₂ (· * ·) (dmgT_eq m c t r j) (blk2 m c t k r j)) rfl

theorem gpG_row (e : Fin 1024) : gpG m c (ix2 0 e) = ∑ r : Fin 4096, gpRow m c r e := if_pos rfl
theorem gpG_rest (k : Fin 8) (hk : k ≠ 0) (e : Fin 1024) : gpG m c (ix2 k e) = 0 := if_neg fun h => hk (Fin.ext h)

theorem emb7 (t : Fin cfg0.N) (r : Fin 256) (e : Fin 1024) : (win0_7.blk t).view.emb (ix2 r e) = ix2 (row t r) e := by
  blk_ext [ix7 t]
theorem emb8 (t : Fin cfg0.N) (k : Fin 4) (r : Fin 256) (e : Fin 512) : (win0_8.blk t).view.emb (ix3 k r e) = ix3 k (row t r) e := by
  blk_ext [ix8 t]
theorem emb9 (t : Fin cfg0.N) (k : Fin 4) (r : Fin 256) (e : Fin 1024) : (win0_9.blk t).view.emb (ix3 k r e) = ix3 k (row t r) e := by
  blk_ext [ix9 t]
theorem emb10 (t : Fin cfg0.N) (k : Fin 4) (r : Fin 256) (e : Fin 1024) : (win0_10.blk t).view.emb (ix3 k r e) = ix3 k (row t r) e := by
  blk_ext [ix10 t]
theorem emb11 (t : Fin cfg0.N) (k : Fin 8) (e : Fin 1024) : (win0_11.blk t).view.emb (ix2 k e) = ix2 k e := by
  blk_ext [ix11 t]

theorem final7 : (dats m 0 c).arrAt 7 cfg0.N = dmoG m c := by
  refine (dats m 0 c).arrAt_eq_of_covers 7 _ (by decide +kernel) fun t hf y => ?_
  blk_simp
  obtain ⟨r, e, rfl⟩ : ∃ (r : Fin 256) (e : Fin 1024), y = ix2 r e := ⟨y 0, y 1, eq_ix2 y⟩
  rw [after0_7, o7, dmoT_eq, emb7]

theorem final8 : (dats m 0 c).arrAt 8 cfg0.N = dmG m c := by
  refine (dats m 0 c).arrAt_eq_of_covers 8 _ (by decide +kernel) fun t hf y => ?_
  blk_simp
  obtain ⟨k, r, e, rfl⟩ : ∃ (k : Fin 4) (r : Fin 256) (e : Fin 512), y = ix3 k r e := ⟨y 0, y 1, y 2, eq_ix3 y⟩
  rw [after0_8, o8, emb8, dmT_eq]

theorem final9 : (dats m 0 c).arrAt 9 cfg0.N = dgpG m c := by
  refine (dats m 0 c).arrAt_eq_of_covers 9 _ (by decide +kernel) fun t hf y => ?_
  blk_simp
  obtain ⟨k, r, e, rfl⟩ : ∃ (k : Fin 4) (r : Fin 256) (e : Fin 1024), y = ix3 k r e := ⟨y 0, y 1, y 2, eq_ix3 y⟩
  rw [after0_9, o9, emb9]
  unfold dgpG
  rw [← blk2, ← blk3]
  erw [← dmgT_eq]
  rfl

theorem final10 : (dats m 0 c).arrAt 10 cfg0.N = dykG m c := by
  refine (dats m 0 c).arrAt_eq_of_covers 10 _ (by decide +kernel) fun t hf y => ?_
  blk_simp
  obtain ⟨k, r, e, rfl⟩ : ∃ (k : Fin 4) (r : Fin 256) (e : Fin 1024), y = ix3 k r e := ⟨y 0, y 1, y 2, eq_ix3 y⟩
  rw [after0_10, o10, emb10]
  unfold dykG
  rw [← blk2]
  erw [← dmgT_eq]
  rfl

/-- A sum over the rows, tile by tile. -/
theorem sum_rows (f : Fin 4096 → EReal) : ∑ t : Fin 16, ∑ r : Fin 256, f ⟨t.val * 256 + r.val, by omega⟩ = ∑ r, f r := by
  rw [← Fintype.sum_prod_type' (f := fun (t : Fin 16) (r : Fin 256) => f ⟨t.val * 256 + r.val, by omega⟩)]
  refine Fintype.sum_equiv (finProdFinEquiv (m := 16) (n := 256)) _ _ fun x => congrArg f (Fin.ext ?_)
  show x.1.val * 256 + x.2.val = x.2.val + 256 * x.1.val
  omega

theorem final11 : (dats m 0 c).arrAt 11 cfg0.N = gpG m c := by
  refine (dats m 0 c).arrAt_eq_of_covers 11 _ (by decide +kernel) fun t hf y => ?_
  blk_simp
  obtain ⟨k, e, rfl⟩ : ∃ (k : Fin 8) (e : Fin 1024), y = ix2 k e := ⟨y 0, y 1, eq_ix2 y⟩
  rw [after0_11, emb11]
  have ht : t.val = 15 := by
    have := (flush0_11 t).mp hf
    have : cfg0.N = 16 := N_0
    have := t.isLt
    omega
  obtain rfl : t = t0_15 := Fin.ext ht
  by_cases hk : k = 0
  · subst hk
    rw [o11_row, gpG_row]
    exact sum_rows fun r => gpRow m c r e
  · rw [o11_rest m c _ _ k hk, gpG_rest m c k hk]

end Cert.KernelIdeal.Merge

end
-- ==== Proof.MergeRef.lean ====
/-
  The reference's results of the merge's gradient, read at an index over the extended reals.
-/
module

public import proofs.«01_k».proof.Proof.Gen.ReferenceIdeal.Read
public import proofs.«01_k».proof.Proof.MergePay
public import Idealize.ShloMosaic.Lib.Pointwise
public import Idealize.ShloMosaic.Lib.IdealHost
public import Idealize.ShloMosaic.Lib.KernelVsHost

@[expose] public section

set_option maxRecDepth 16384

noncomputable section

namespace Cert.ReferenceIdeal.Merge

open Idealize.ShloMosaic Idealize.ShloMosaic.TcCoe Idealize.SL.Sem Idealize.ShloMosaic.Tactic
open Cert.ReferenceIdeal Cert.ReferenceIdeal.Read
open Cert.KernelIdeal.Merge (eps eps_word eps_pos width_word)

variable (x0 : Vec Ideal S4096x1024 .f32) (x1 x2 x3 x4 : Vec Ideal S4096x512 .f32) (x5 : Vec Ideal S4096x1024 .f32)
  (x6 : Vec Ideal S4x512x1024 .f32) (x7 : Vec Ideal S1024x4096 .f32) (x8 : Vec Ideal S4096 .f32) (x9 : Vec Ideal S1024x1024 .f32)
  (x10 : Vec Ideal S1024 .f32)

theorem half_word : Ideal.ofBits .f32 0xBF000000#32 = ((-(1 / 2) : ℝ) : EReal) := by
  simp only [Ideal.ofBits, Ideal.ieee]
  simp
  rw [← EReal.coe_mul]
  norm_num

/-- The saved product before the norm. -/
abbrev mo (r : Fin 4096) (e : Fin 1024) : EReal := val_main_v41 (F := Ideal) x1 x2 x3 x4 x5 x6 x7 x8 x9 (ix2 r e)

theorem dmo_apply (r : Fin 4096) (e : Fin 1024) :
    val_main_v77 (F := Ideal) x0 x1 x2 x3 x4 x5 x6 x7 x8 x9 x10 (ix2 r e)
      = RmsBwd.short 1024 eps (mo x1 x2 x3 x4 x5 x6 x7 x8 x9 r) (fun j : Fin 1024 => x0 (ix2 r j) * x10 (ix1 j)) e := by
  rw [RmsBwd.short_eq 1024 eps _ (by norm_num) eps_pos rfl]
  unfold RmsBwd.coef RmsBwd.q mo
  rw [← width_word, ← eps_word, ← half_word]
  pointwise [val_main_v77, val_main_v76, val_main_v75, val_main_v74, val_main_v73, val_main_v72, val_main_v71, val_main_v70, val_main_v69, val_main_v68, val_main_v67, val_main_v66, val_main_v65, val_main_v64, val_main_v62, val_main_v61, val_main_v55, val_main_v53, val_main_v52, val_main_v51, val_main_v50, val_main_v49, val_main_v48, val_main_v47, val_main_v46, val_main_v45, val_main_v44, val_main_v43, val_main_v42, val_main_cst_2, val_main_cst_3, val_main_cst_4, val_main_cst_5, val_main_cst_8, val_main_cst_9, val_main_cst_10]
  simp only [Fin.sum_univ_one, Fin.isValue, Finset.univ_unique, Finset.sum_const, Finset.card_singleton, one_smul]

/-- The reference's gradient of the merged row. -/
abbrev dmg (r : Fin 4096) (e : Fin 1024) : EReal := val_main_v78 (F := Ideal) x0 x1 x2 x3 x4 x5 x6 x7 x8 x9 x10 (ix2 r e)

theorem dmg_apply (r : Fin 4096) (e : Fin 1024) :
    dmg x0 x1 x2 x3 x4 x5 x6 x7 x8 x9 x10 r e
      = ∑ j : Fin 1024, val_main_v77 (F := Ideal) x0 x1 x2 x3 x4 x5 x6 x7 x8 x9 x10 (ix2 r j) * x9 (ix2 e j) := by
  unfold dmg
  pointwise [val_main_v78]

/-- The gates. -/
abbrev gate (r : Fin 4096) (c : Fin 4096) : EReal := val_main_v21 (F := Ideal) x5 x7 x8 (ix2 r c)

theorem dyk_apply (k : Fin 4) (r : Fin 4096) (e : Fin 1024) :
    val_main_v119 (F := Ideal) x0 x1 x2 x3 x4 x5 x6 x7 x8 x9 x10 (ix3 k r e)
      = gate x5 x7 x8 r ⟨k.val * 1024 + e.val, by omega⟩ * dmg x0 x1 x2 x3 x4 x5 x6 x7 x8 x9 x10 r e := by
  unfold gate dmg
  fin_cases k
  · pointwise [val_main_v119, val_main_v118, val_main_v117, val_main_v116, val_main_v115, val_main_v114, val_main_v93, val_main_v27, val_main_v26, val_main_v25]
  · pointwise [val_main_v119, val_main_v118, val_main_v117, val_main_v116, val_main_v115, val_main_v114, val_main_v88, val_main_v30, val_main_v29, val_main_v25]
  · pointwise [val_main_v119, val_main_v118, val_main_v117, val_main_v116, val_main_v115, val_main_v114, val_main_v83, val_main_v34, val_main_v33, val_main_v25]
  · pointwise [val_main_v119, val_main_v118, val_main_v117, val_main_v116, val_main_v115, val_main_v114, val_main_v79, val_main_v38, val_main_v37, val_main_v25]

/-- The four rows of a branch's factor of the merged row's gradient. -/
theorem dm_apply (k : Fin 4) (r : Fin 4096) (d : Fin 512) :
    val_main_v110 (F := Ideal) x0 x1 x2 x3 x4 x5 x6 x7 x8 x9 x10 (ix3 k r d)
      = ∑ j : Fin 1024, gate x5 x7 x8 r ⟨k.val * 1024 + j.val, by omega⟩ * dmg x0 x1 x2 x3 x4 x5 x6 x7 x8 x9 x10 r j
          * x6 (ix3 k d j) := by
  unfold gate dmg
  fin_cases k
  · pointwise [val_main_v110, val_main_v109, val_main_v108, val_main_v107, val_main_v106, val_main_v105, val_main_v103, val_main_v93, val_main_v27, val_main_v26, val_main_v25, val_main_v1, val_main_v0]
  · pointwise [val_main_v110, val_main_v109, val_main_v108, val_main_v107, val_main_v106, val_main_v105, val_main_v102, val_main_v88, val_main_v30, val_main_v29, val_main_v25, val_main_v4, val_main_v3]
  · pointwise [val_main_v110, val_main_v109, val_main_v108, val_main_v107, val_main_v106, val_main_v105, val_main_v101, val_main_v83, val_main_v34, val_main_v33, val_main_v25, val_main_v7, val_main_v6]
  · pointwise [val_main_v110, val_main_v109, val_main_v108, val_main_v107, val_main_v106, val_main_v105, val_main_v100, val_main_v79, val_main_v38, val_main_v37, val_main_v25, val_main_v10, val_main_v9]

/-- One branch's array among four, the others zero. -/
theorem pad_apply (lo hi : ℕ) (x : Vec Ideal S4096x1x1024 .f32) {u : Shape} (v : u.Idx → EReal)
    (h : S4096x1x1024.Pads ![0, lo, 0] ![0, hi, 0] ![0, 0, 0] S4096x4x1024) (hu : 0 < u.numel) (r : Fin 4096) (k : Fin 4) (e : Fin 1024) :
    pad S4096x4x1024 ![0, lo, 0] ![0, hi, 0] ![0, 0, 0] x v h hu (ix3 r k e)
      = if k.val = lo then x (ix3 r 0 e) else v (Shape.Idx.first hu) := by
  split_ifs with hk
  · refine pad_apply_of_inside _ _ _ _ _ _ _ _ _ fun a => ?_
    fin_cases a
    · show r.val = 0 + r.val * 1
      omega
    · show k.val = lo + 0 * 1
      omega
    · show e.val = 0 + e.val * 1
      omega
  · refine pad_apply_of_not_inside _ _ _ _ _ _ _ _ 1 fun hh => hk ?_
    obtain ⟨h1, -, h3⟩ := hh
    have h1' : lo ≤ k.val := h1
    have h3' : (k.val - lo) / 1 < 1 := h3
    omega

/-- The branches' values. -/
def yk : Fin 4 → Vec Ideal S4096x1024 .f32
  | 0 => val_main_v2 (F := Ideal) x1 x6
  | 1 => val_main_v5 (F := Ideal) x2 x6
  | 2 => val_main_v8 (F := Ideal) x3 x6
  | 3 => val_main_v11 (F := Ideal) x4 x6

theorem pads_apply (k : Fin 4) (r : Fin 4096) (e : Fin 1024) :
    val_main_v97 (F := Ideal) x0 x1 x2 x3 x4 x5 x6 x7 x8 x9 x10 (ix3 r k e)
      = dmg x0 x1 x2 x3 x4 x5 x6 x7 x8 x9 x10 r e * yk x1 x2 x3 x4 x6 k (ix2 r e) := by
  unfold dmg
  fin_cases k <;>
  · simp only [val_main_v97_apply, val_main_v92_apply, val_main_v87_apply]
    unfold val_main_v82 val_main_v86 val_main_v91 val_main_v96
    simp only [pad_apply]
    pointwise [val_main_v95, val_main_v90, val_main_v85, val_main_v81, val_main_v94, val_main_v89, val_main_v84, val_main_v80, yk, val_main_cst_11, val_main_cst_12, val_main_cst_13, val_main_cst_14]

/-- The four branches side by side in one row. -/
theorem joined_apply (k : Fin 4) (r : Fin 4096) (e : Fin 1024) :
    val_main_v98 (F := Ideal) x0 x1 x2 x3 x4 x5 x6 x7 x8 x9 x10 (ix2 r ⟨k.val * 1024 + e.val, by omega⟩)
      = val_main_v97 (F := Ideal) x0 x1 x2 x3 x4 x5 x6 x7 x8 x9 x10 (ix3 r k e) := by
  rw [val_main_v98_apply]
  refine congrArg _ (funext fun a => ?_)
  fin_cases a
  · refine Fin.ext ?_
    show (r.val * 4096 + (k.val * 1024 + e.val)) / 4096 = r.val
    omega
  · refine Fin.ext ?_
    show (r.val * 4096 + (k.val * 1024 + e.val)) / 1024 % 4 = k.val
    omega
  · refine Fin.ext ?_
    show (r.val * 4096 + (k.val * 1024 + e.val)) % 1024 = e.val
    omega

theorem dgp_apply (k : Fin 4) (r : Fin 4096) (e : Fin 1024) :
    val_main_v113 (F := Ideal) x0 x1 x2 x3 x4 x5 x6 x7 x8 x9 x10 (ix3 k r e)
      = dmg x0 x1 x2 x3 x4 x5 x6 x7 x8 x9 x10 r e * yk x1 x2 x3 x4 x6 k (ix2 r e)
          * (gate x5 x7 x8 r ⟨k.val * 1024 + e.val, by omega⟩ * (1 - gate x5 x7 x8 r ⟨k.val * 1024 + e.val, by omega⟩)) := by
  rw [← pads_apply]
  unfold gate
  rw [← joined_apply]
  fin_cases k <;>
  · pointwise [val_main_v113, val_main_v112, val_main_v111, val_main_v99, val_main_v24, val_main_v23, val_main_v22, val_main_cst_1]

theorem gp_row (e : Fin 1024) :
    val_main_v122 (F := Ideal) x0 x1 x2 x3 x4 x5 x6 x7 x8 x9 (ix2 0 e)
      = ∑ r : Fin 4096, val_main_v58 (F := Ideal) x0 x1 x2 x3 x4 x5 x6 x7 x8 x9 (ix2 r e) := by
  pointwise [val_main_v122, val_main_v120, val_main_v63, val_main_v60, val_main_v59, val_main_cst_6, val_main_cst_7]
  simp only [Fin.isValue, Finset.univ_unique, Finset.sum_const, Finset.card_singleton, one_smul]

theorem gp_rest (t : Fin 8) (ht : t.val ≠ 0) (e : Fin 1024) :
    val_main_v122 (F := Ideal) x0 x1 x2 x3 x4 x5 x6 x7 x8 x9 (ix2 t e) = 0 := by
  pointwise [val_main_v122, val_main_v121, val_main_cst_15]
  rw [dif_neg (by omega)]

theorem gp_term (r : Fin 4096) (e : Fin 1024) :
    val_main_v58 (F := Ideal) x0 x1 x2 x3 x4 x5 x6 x7 x8 x9 (ix2 r e)
      = mo x1 x2 x3 x4 x5 x6 x7 x8 x9 r e * Ideal.rsqrt (RmsBwd.q 1024 eps (mo x1 x2 x3 x4 x5 x6 x7 x8 x9 r)) * x0 (ix2 r e) := by
  unfold RmsBwd.q mo
  rw [← width_word, ← eps_word]
  pointwise [val_main_v58, val_main_v57, val_main_v56, val_main_v54, val_main_v53, val_main_v49, val_main_v48, val_main_v47, val_main_v46, val_main_v45, val_main_v44, val_main_v43, val_main_v42, val_main_cst_2, val_main_cst_3, val_main_cst_4, val_main_cst_5, val_main_cst_8, val_main_cst_9, val_main_cst_10]

end Cert.ReferenceIdeal.Merge

end
-- ==== Proof.MergeHost.lean ====
/-
  The merge kernel's windows' arrays when the region starts, from the arguments of the program.
-/
module

public import proofs.«01_k».proof.Proof.MergeArr
public import proofs.«01_k».proof.Proof.MergeRef
public import Idealize.ShloMosaic.Lib.Claim
public import Idealize.ShloMosaic.Lib.StableHlo.ReadAt

@[expose] public section

set_option maxRecDepth 16384

noncomputable section

namespace Cert.KernelIdeal.Merge

open Idealize.ShloMosaic Idealize.ShloMosaic.TcCoe Idealize.SL.Sem Idealize.ShloMosaic.Tactic
open Cert.KernelIdeal Cert.KernelIdeal.Gen

variable (m : (ℓ : Loc nD τ sig) → Buf (Elt Ideal) ℓ) (c : Dev nD)

/-- Argument 0. -/
abbrev A0 : S4096x1024.Idx → EReal := m ((c : Thread nD τ).loc main_arg0)
/-- Argument 1. -/
abbrev A1 : S4096x512.Idx → EReal := m ((c : Thread nD τ).loc main_arg1)
/-- Argument 2. -/
abbrev A2 : S4096x512.Idx → EReal := m ((c : Thread nD τ).loc main_arg2)
/-- Argument 3. -/
abbrev A3 : S4096x512.Idx → EReal := m ((c : Thread nD τ).loc main_arg3)
/-- Argument 4. -/
abbrev A4 : S4096x512.Idx → EReal := m ((c : Thread nD τ).loc main_arg4)
/-- Argument 5. -/
abbrev A5 : S4096x1024.Idx → EReal := m ((c : Thread nD τ).loc main_arg5)
/-- Argument 6. -/
abbrev A6 : S4x512x1024.Idx → EReal := m ((c : Thread nD τ).loc main_arg6)
/-- Argument 7. -/
abbrev A7 : S1024x4096.Idx → EReal := m ((c : Thread nD τ).loc main_arg7)
/-- Argument 8. -/
abbrev A8 : S4096.Idx → EReal := m ((c : Thread nD τ).loc main_arg8)
/-- Argument 9. -/
abbrev A9 : S1024x1024.Idx → EReal := m ((c : Thread nD τ).loc main_arg9)
/-- Argument 10. -/
abbrev A10 : S1024.Idx → EReal := m ((c : Thread nD τ).loc main_arg10)

/-- The arguments as the region reads them. -/
theorem DXO_eq : DXO m c = A0 m c := by
  exact V_main_arg0 m c

theorem WB_apply (p : Fin 8) (k : Fin 4) (e : Fin 512) (d : Fin 128) :
    WB m c (ix4 p k e d) = A6 m c (ix3 k e ⟨p.val * 128 + d.val, by omega⟩) := by
  unfold WB
  unfold V
  simp only [List.flatten_cons, List.flatten_nil, List.append_nil]
  after_reads_at

theorem WO_apply (p : Fin 8) (e : Fin 128) (j : Fin 1024) :
    WO m c (ix3 p e j) = A9 m c (ix2 ⟨p.val * 128 + e.val, by omega⟩ j) := by
  unfold WO
  unfold V
  simp only [List.flatten_cons, List.flatten_nil, List.append_nil]
  after_reads_at

theorem SP_apply (j : Fin 1024) :
    SP m c (ix2 0 ⟨3072 + j.val, by omega⟩) = A10 m c (Idealize.ShloMosaic.ix1 j) := by
  unfold SP
  unfold V
  simp only [List.flatten_cons, List.flatten_nil, List.append_nil]
  after_reads_at
  after_reads_simp

theorem MO_eq : MO m c = Cert.ReferenceIdeal.Read.val_main_v41 (F := Ideal) (A1 m c) (A2 m c) (A3 m c) (A4 m c) (A5 m c) (A6 m c) (A7 m c) (A8 m c) (A9 m c) := by
  unfold MO
  unfold V
  simp only [List.flatten_cons, List.flatten_nil, List.append_nil]
  after_reads_simp
  rfl

theorem GG_apply (k : Fin 4) (r : Fin 4096) (e : Fin 1024) :
    GG m c (ix3 k r e) = Cert.ReferenceIdeal.Merge.gate (A5 m c) (A7 m c) (A8 m c) r ⟨k.val * 1024 + e.val, by omega⟩ := by
  unfold GG
  unfold V
  simp only [List.flatten_cons, List.flatten_nil, List.append_nil]
  after_reads_at
  unfold Cert.ReferenceIdeal.Merge.gate
  pointwise [Cert.ReferenceIdeal.Read.val_main_v21, Cert.ReferenceIdeal.Read.val_main_v20, Cert.ReferenceIdeal.Read.val_main_v19, Cert.ReferenceIdeal.Read.val_main_v18, Cert.ReferenceIdeal.Read.val_main_v17, Cert.ReferenceIdeal.Read.val_main_v16, Cert.ReferenceIdeal.Read.val_main_v15, Cert.ReferenceIdeal.Read.val_main_v14, Cert.ReferenceIdeal.Read.val_main_v13, Cert.ReferenceIdeal.Read.val_main_v12, Cert.ReferenceIdeal.Read.val_main_cst, Cert.ReferenceIdeal.Read.val_main_cst_0]

theorem YK_apply (k : Fin 4) (r : Fin 4096) (e : Fin 1024) :
    YK m c (ix3 k r e) = Cert.ReferenceIdeal.Merge.yk (A1 m c) (A2 m c) (A3 m c) (A4 m c) (A6 m c) k (ix2 r e) := by
  unfold YK
  unfold V
  simp only [List.flatten_cons, List.flatten_nil, List.append_nil]
  fin_cases k
  · after_reads_at
    after_reads_at
    refine Eq.trans (congrFun (cast_eq _ _) _) ?_
    pointwise [Cert.ReferenceIdeal.Merge.yk, Cert.ReferenceIdeal.Read.val_main_v2, Cert.ReferenceIdeal.Read.val_main_v1, Cert.ReferenceIdeal.Read.val_main_v0]
  · after_reads_at
    after_reads_at
    refine Eq.trans (congrFun (cast_eq _ _) _) ?_
    pointwise [Cert.ReferenceIdeal.Merge.yk, Cert.ReferenceIdeal.Read.val_main_v5, Cert.ReferenceIdeal.Read.val_main_v4, Cert.ReferenceIdeal.Read.val_main_v3]
  · after_reads_at
    after_reads_at
    refine Eq.trans (congrFun (cast_eq _ _) _) ?_
    pointwise [Cert.ReferenceIdeal.Merge.yk, Cert.ReferenceIdeal.Read.val_main_v8, Cert.ReferenceIdeal.Read.val_main_v7, Cert.ReferenceIdeal.Read.val_main_v6]
  · after_reads_at
    after_reads_at
    refine Eq.trans (congrFun (cast_eq _ _) _) ?_
    pointwise [Cert.ReferenceIdeal.Merge.yk, Cert.ReferenceIdeal.Read.val_main_v11, Cert.ReferenceIdeal.Read.val_main_v10, Cert.ReferenceIdeal.Read.val_main_v9]

end Cert.KernelIdeal.Merge

end
-- ==== Proof.MergeClaim.lean ====
/-
  The merge's gradient: the kernel's results are the reference's, and the claims on this call.
-/
module

public import proofs.«01_k».proof.Defs
public import proofs.«01_k».proof.Proof.MergeHost
public import proofs.«01_k».proof.Proof.Gen.Kernel.Frame
public import proofs.«01_k».proof.Proof.Gen.KernelIdeal.Value
public import proofs.«01_k».proof.Proof.Gen.ReferenceIdeal.Run

@[expose] public section

set_option maxRecDepth 16384

noncomputable section

namespace Cert.KernelIdeal.Merge

open Idealize.ShloMosaic Idealize.ShloMosaic.TcCoe Idealize.SL.Sem Idealize.ShloMosaic.Tactic
open Cert.KernelIdeal Cert.KernelIdeal.Gen Cert.ReferenceIdeal.Read

variable (m : (ℓ : Loc nD τ sig) → Buf (Elt Ideal) ℓ) (c : Dev nD)

theorem dmo_eq (r : Fin 4096) (e : Fin 1024) : dmoG m c (ix2 r e)
    = val_main_v77 (F := Ideal) (A0 m c) (A1 m c) (A2 m c) (A3 m c) (A4 m c) (A5 m c) (A6 m c) (A7 m c) (A8 m c) (A9 m c) (A10 m c) (ix2 r e) := by
  rw [Cert.ReferenceIdeal.Merge.dmo_apply]
  show RmsBwd.short 1024 eps (fun j : Fin 1024 => MO m c (ix2 r j)) (fun j : Fin 1024 => DXO m c (ix2 r j) * SP m c (ix2 0 ⟨3072 + j.val, by omega⟩)) e = _
  exact congrArg₂ (fun a b => RmsBwd.short 1024 eps a b e) (funext fun j => congrFun (MO_eq m c) _)
    (funext fun j => congrArg₂ (· * ·) (congrFun (DXO_eq m c) _) (SP_apply m c j))

theorem dmg_eq (r : Fin 4096) (e : Fin 1024) : dmgG m c r e
    = Cert.ReferenceIdeal.Merge.dmg (A0 m c) (A1 m c) (A2 m c) (A3 m c) (A4 m c) (A5 m c) (A6 m c) (A7 m c) (A8 m c) (A9 m c) (A10 m c) r e := by
  rw [Cert.ReferenceIdeal.Merge.dmg_apply]
  unfold dmgG
  refine Finset.sum_congr rfl fun j _ => ?_
  rw [dmo_eq, WO_apply]
  refine congrArg₂ (· * ·) rfl (congrArg _ (congrArg (fun a => ix2 a j) (Fin.ext ?_)))
  show e.val / 128 * 128 + e.val % 128 = e.val
  omega

theorem res0 : dmoG m c
    = val_main_v104 (F := Ideal) (A0 m c) (A1 m c) (A2 m c) (A3 m c) (A4 m c) (A5 m c) (A6 m c) (A7 m c) (A8 m c) (A9 m c) (A10 m c) := by
  funext y
  obtain ⟨r, e, rfl⟩ : ∃ (r : Fin 4096) (e : Fin 1024), y = ix2 r e := ⟨y 0, y 1, eq_ix2 y⟩
  exact dmo_eq m c r e

theorem res1 : dmG m c
    = val_main_v110 (F := Ideal) (A0 m c) (A1 m c) (A2 m c) (A3 m c) (A4 m c) (A5 m c) (A6 m c) (A7 m c) (A8 m c) (A9 m c) (A10 m c) := by
  funext y
  obtain ⟨k, r, d, rfl⟩ : ∃ (k : Fin 4) (r : Fin 4096) (d : Fin 512), y = ix3 k r d := ⟨y 0, y 1, y 2, eq_ix3 y⟩
  refine Eq.trans ?_ (Cert.ReferenceIdeal.Merge.dm_apply _ _ _ _ _ _ _ _ _ _ _ k r d).symm
  refine Finset.sum_congr rfl fun j _ => congrArg₂ (· * ·) ?_ ?_
  · refine Eq.trans (congrArg₂ (· * ·) (dmg_eq m c r j) (GG_apply m c k r j)) (mul_comm _ _)
  · refine Eq.trans (WB_apply m c ⟨j.val / 128, by omega⟩ k d ⟨j.val % 128, by omega⟩) (congrArg _ (congrArg (ix3 k d) (Fin.ext ?_)))
    show j.val / 128 * 128 + j.val % 128 = j.val
    omega

theorem res2 : dgpG m c
    = val_main_v113 (F := Ideal) (A0 m c) (A1 m c) (A2 m c) (A3 m c) (A4 m c) (A5 m c) (A6 m c) (A7 m c) (A8 m c) (A9 m c) (A10 m c) := by
  funext y
  obtain ⟨k, r, e, rfl⟩ : ∃ (k : Fin 4) (r : Fin 4096) (e : Fin 1024), y = ix3 k r e := ⟨y 0, y 1, y 2, eq_ix3 y⟩
  refine Eq.trans ?_ (Cert.ReferenceIdeal.Merge.dgp_apply _ _ _ _ _ _ _ _ _ _ _ k r e).symm
  show dmgG m c r e * YK m c (ix3 k r e) * GG m c (ix3 k r e) * (1 - GG m c (ix3 k r e)) = _
  rw [dmg_eq, YK_apply, GG_apply, mul_assoc (_ * _)]

theorem res3 : dykG m c
    = val_main_v119 (F := Ideal) (A0 m c) (A1 m c) (A2 m c) (A3 m c) (A4 m c) (A5 m c) (A6 m c) (A7 m c) (A8 m c) (A9 m c) (A10 m c) := by
  funext y
  obtain ⟨k, r, e, rfl⟩ : ∃ (k : Fin 4) (r : Fin 4096) (e : Fin 1024), y = ix3 k r e := ⟨y 0, y 1, y 2, eq_ix3 y⟩
  refine Eq.trans ?_ (Cert.ReferenceIdeal.Merge.dyk_apply _ _ _ _ _ _ _ _ _ _ _ k r e).symm
  show dmgG m c r e * GG m c (ix3 k r e) = _
  rw [dmg_eq, GG_apply, mul_comm]

theorem res4 : gpG m c
    = val_main_v122 (F := Ideal) (A0 m c) (A1 m c) (A2 m c) (A3 m c) (A4 m c) (A5 m c) (A6 m c) (A7 m c) (A8 m c) (A9 m c) := by
  funext y
  obtain ⟨t, e, rfl⟩ : ∃ (t : Fin 8) (e : Fin 1024), y = ix2 t e := ⟨y 0, y 1, eq_ix2 y⟩
  by_cases ht : t.val = 0
  · obtain rfl : t = 0 := Fin.ext ht
    rw [gpG_row, Cert.ReferenceIdeal.Merge.gp_row]
    refine Finset.sum_congr rfl fun r _ => ?_
    rw [Cert.ReferenceIdeal.Merge.gp_term]
    unfold gpRow
    rw [mul_comm]
    exact congrArg₂ (· * ·) (congrArg₂ (· * ·) (congrFun (MO_eq m c) _)
      (congrArg Ideal.rsqrt (congrArg (RmsBwd.q 1024 eps) (funext fun j => congrFun (MO_eq m c) _)))) (congrFun (DXO_eq m c) _)
  · rw [Cert.ReferenceIdeal.Merge.gp_rest _ _ _ _ _ _ _ _ _ _ t ht]
    exact if_neg ht

end Cert.KernelIdeal.Merge

namespace Cert.MergeClaim

open Idealize.ShloMosaic Idealize.ShloMosaic.TcCoe Idealize.SL.Sem Idealize.ShloMosaic.Tactic
open Cert.ReferenceIdeal.Read

theorem frame_p : Cert.quiescent_Kernel := fun m ρ _ => Cert.Kernel.Gen.frame m ρ

theorem frame_pi : Cert.quiescent_KernelIdeal := fun m ρ _ => Cert.KernelIdeal.Gen.frame m ρ

theorem frame_ri : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

/-- Equal arguments give equal results. -/
theorem algebraic : Cert.algebraic_KernelIdeal_ReferenceIdeal := by
  intro m g m' g' _ hagree
  have hV : ∀ c : Dev Cert.KernelIdeal.nD,
      StableHlo.launchContents m' c (Proc.devRef .tc Cert.ReferenceIdeal.main_arg0) = Cert.KernelIdeal.Merge.A0 m c
      ∧ StableHlo.launchContents m' c (Proc.devRef .tc Cert.ReferenceIdeal.main_arg1) = Cert.KernelIdeal.Merge.A1 m c
      ∧ StableHlo.launchContents m' c (Proc.devRef .tc Cert.ReferenceIdeal.main_arg2) = Cert.KernelIdeal.Merge.A2 m c
      ∧ StableHlo.launchContents m' c (Proc.devRef .tc Cert.ReferenceIdeal.main_arg3) = Cert.KernelIdeal.Merge.A3 m c
      ∧ StableHlo.launchContents m' c (Proc.devRef .tc Cert.ReferenceIdeal.main_arg4) = Cert.KernelIdeal.Merge.A4 m c
      ∧ StableHlo.launchContents m' c (Proc.devRef .tc Cert.ReferenceIdeal.main_arg5) = Cert.KernelIdeal.Merge.A5 m c
      ∧ StableHlo.launchContents m' c (Proc.devRef .tc Cert.ReferenceIdeal.main_arg6) = Cert.KernelIdeal.Merge.A6 m c
      ∧ StableHlo.launchContents m' c (Proc.devRef .tc Cert.ReferenceIdeal.main_arg7) = Cert.KernelIdeal.Merge.A7 m c
      ∧ StableHlo.launchContents m' c (Proc.devRef .tc Cert.ReferenceIdeal.main_arg8) = Cert.KernelIdeal.Merge.A8 m c
      ∧ StableHlo.launchContents m' c (Proc.devRef .tc Cert.ReferenceIdeal.main_arg9) = Cert.KernelIdeal.Merge.A9 m c
      ∧ StableHlo.launchContents m' c (Proc.devRef .tc Cert.ReferenceIdeal.main_arg10) = Cert.KernelIdeal.Merge.A10 m c := hagree
  refine ⟨fun c => Cert.KernelIdeal.Merge.dmoG m c, fun c => Cert.KernelIdeal.Merge.dmG m c, fun c => Cert.KernelIdeal.Merge.dgpG m c,
    fun c => Cert.KernelIdeal.Merge.dykG m c, fun c => Cert.KernelIdeal.Merge.gpG m c, ?_, ?_⟩
  · refine (θ_run Cert.KernelIdeal.defs _ _).mono (fun r h c => ?_) (Cert.KernelIdeal.Value.run_blocks m g)
    obtain ⟨h0, h1, h2, h3, h4, h5⟩ := h c
    exact ⟨h0.trans (Cert.KernelIdeal.Merge.final7 m c), h1.trans (Cert.KernelIdeal.Merge.final8 m c),
      h2.trans (Cert.KernelIdeal.Merge.final9 m c), h3.trans (Cert.KernelIdeal.Merge.final10 m c),
      h4.trans (Cert.KernelIdeal.Merge.final11 m c), h5⟩
  · refine (θ_run Cert.ReferenceIdeal.defs _ _).mono (fun r h c => ?_) (Cert.ReferenceIdeal.Value.run (F := Ideal) m' g')
    obtain ⟨h0, h1, h2, h3, h4, h5⟩ := h c
    obtain ⟨e0, e1, e2, e3, e4, e5, e6, e7, e8, e9, e10⟩ := hV c
    refine ⟨h0.trans ((val_main_v104_eq _).trans ?_), h1.trans ((val_main_v110_eq _).trans ?_), h2.trans ((val_main_v113_eq _).trans ?_),
      h3.trans ((val_main_v119_eq _).trans ?_), h4.trans ((val_main_v122_eq _).trans ?_), h5⟩
    · rw [e0, e1, e2, e3, e4, e5, e6, e7, e8, e9, e10]; exact (Cert.KernelIdeal.Merge.res0 m c).symm
    · rw [e0, e1, e2, e3, e4, e5, e6, e7, e8, e9, e10]; exact (Cert.KernelIdeal.Merge.res1 m c).symm
    · rw [e0, e1, e2, e3, e4, e5, e6, e7, e8, e9, e10]; exact (Cert.KernelIdeal.Merge.res2 m c).symm
    · rw [e0, e1, e2, e3, e4, e5, e6, e7, e8, e9, e10]; exact (Cert.KernelIdeal.Merge.res3 m c).symm
    · rw [e0, e1, e2, e3, e4, e5, e6, e7, e8, e9]; exact (Cert.KernelIdeal.Merge.res4 m c).symm

end Cert.MergeClaim

end
-- ==== Proof.FfnWPay.lean ====
/-
  What the kernel of the feed-forward weights' gradients computes on one tile of 1024 rows and one group of 704 hidden
  columns, read at an index over the extended reals.
-/
module

public import proofs.«01_k».proof.Proof.Gen.Kernel2Ideal.Skeleton
public import Idealize.ShloMosaic.Lib.Pointwise
public import Idealize.ShloMosaic.Lib.IdealHost

@[expose] public section

set_option maxRecDepth 16384

noncomputable section

namespace Cert.Kernel2Ideal.FfnW

open Idealize.ShloMosaic Idealize.ShloMosaic.TcCoe
open Cert.Kernel2Ideal Cert.Kernel2Ideal.Gen

/-- The gated hidden activation. -/
abbrev gated (a b : EReal) : EReal := a * Ideal.logistic a * b

theorem pay10_apply (g : Fin 2112) (e : Fin 1024) : k0_pay10 (F := Ideal) (ix2 g e) = 0 := by
  pointwise [k0_pay10]

theorem pay13_apply (x0 : Vec Ideal S1024x1024 .bf16) (acc : Vec Ideal S704x1024 .f32) (x4 : Vec Ideal S1x1024x704 .bf16) (g : Fin 704) (e : Fin 1024) :
    k0_pay13 (F := Ideal) x0 acc x4 (ix2 g e) = acc (ix2 g e) + ∑ r, x4 (ix3 0 r g) * x0 (ix2 r e) := by
  pointwise [k0_pay13, k0_pay12]

theorem pay14_apply (x0 : Vec Ideal S1024x1024 .bf16) (acc : Vec Ideal S704x1024 .f32) (x5 : Vec Ideal S1x1024x704 .bf16) (g : Fin 704) (e : Fin 1024) :
    k0_pay1 (F := Ideal) (k0_pay14 (F := Ideal) x0 acc x5) (ix2 g e) = acc (ix2 g e) + ∑ r, x5 (ix3 0 r g) * x0 (ix2 r e) := by
  pointwise [k0_pay1, k0_pay14, k0_pay12]

theorem pay2_apply (x2 x3 : Vec Ideal S1x1024x704 .bf16) (acc : Vec Ideal S704x1024 .f32) (x1 : Vec Ideal S1024x1024 .bf16) (g : Fin 704) (e : Fin 1024) :
    k0_pay2 (F := Ideal) (k0_pay11 (F := Ideal) x2 x3) acc x1 (ix2 g e)
      = acc (ix2 g e) + ∑ r, gated (x2 (ix3 0 r g)) (x3 (ix3 0 r g)) * x1 (ix2 r e) := by
  pointwise [k0_pay2, k0_pay11]

/-- A store of half a group: the same entries. -/
theorem paySt_apply (v : Vec Ideal S352x1024 .f32) (f : Fin 352) (e : Fin 1024) :
    k0_pay4 (F := Ideal) v (ix3 0 f e) = v (ix2 f e) := by
  pointwise [k0_pay4]

theorem paySt_eq (v : Vec Ideal S352x1024 .f32) :
    k0_pay5 (F := Ideal) v = k0_pay4 (F := Ideal) v ∧ k0_pay6 (F := Ideal) v = k0_pay4 (F := Ideal) v ∧ k0_pay7 (F := Ideal) v = k0_pay4 (F := Ideal) v
      ∧ k0_pay8 (F := Ideal) v = k0_pay4 (F := Ideal) v ∧ k0_pay3 (F := Ideal) (k0_pay9 (F := Ideal) v) = k0_pay4 (F := Ideal) v :=
  ⟨rfl, rfl, rfl, rfl, rfl⟩

end Cert.Kernel2Ideal.FfnW

end
-- ==== Proof.FfnWBlock.lean ====
/-
  What the kernel of the feed-forward weights' gradients leaves in its accumulator, and in its output's block, at one
  grid point, over the extended reals.
-/
module

public import proofs.«01_k».proof.Proof.Gen.Kernel2Ideal.Frame
public import proofs.«01_k».proof.Proof.FfnWPay
public import Idealize.ShloMosaic.Lib.Pipeline.Value
public import Idealize.ShloMosaic.Lib.WritesUnit

@[expose] public section

set_option maxRecDepth 16384

noncomputable section

namespace Cert.Kernel2Ideal.FfnW

open Idealize.ShloMosaic Idealize.ShloMosaic.TcCoe Idealize.SL.Sem Idealize.ShloMosaic.Tactic
open Cert.Kernel2Ideal Cert.Kernel2Ideal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-- A band of whole rows stored last, read at one of its rows. -/
theorem band_mem {R C W o : Nat} (inb : ∀ a, (![o, 0] : Fin 2 → Nat) a + (![W, C] : Fin 2 → Nat) a ≤ (⟨2, ![R, C]⟩ : Shape).size a)
    (w : (⟨2, ![W, C]⟩ : Shape).Idx → EReal) (L : List (View.Piece (Elt Ideal) (⟨2, ![R, C]⟩ : Shape) .f32)) (g : Fin R) (e : Fin C) (q : Fin W)
    (hq : g.val = o + q.val) :
    View.canon (Val := Elt Ideal) (⟨Rect.unit (s := ⟨2, ![R, C]⟩) ![o, 0] ![W, C] inb, w⟩ :: L) (ix2 g e) = w (ix2 q e) := by
  have h : (ix2 g e : (⟨2, ![R, C]⟩ : Shape).Idx) = (Rect.unit (s := ⟨2, ![R, C]⟩) ![o, 0] ![W, C] inb).emb (ix2 q e) := by
    funext a
    apply Fin.ext
    rw [Rect.emb_apply]
    fin_cases a
    · show g.val = o + 1 * q.val
      omega
    · show e.val = 0 + 1 * e.val
      omega
  rw [h]
  exact View.canon_cons_emb (Val := Elt Ideal) _ _ _ _

/-- A band of whole rows stored last, read at another row. -/
theorem band_not_mem {R C W o : Nat} (inb : ∀ a, (![o, 0] : Fin 2 → Nat) a + (![W, C] : Fin 2 → Nat) a ≤ (⟨2, ![R, C]⟩ : Shape).size a)
    (w : (⟨2, ![W, C]⟩ : Shape).Idx → EReal) (L : List (View.Piece (Elt Ideal) (⟨2, ![R, C]⟩ : Shape) .f32)) (g : Fin R) (e : Fin C)
    (hq : g.val < o ∨ o + W ≤ g.val) :
    View.canon (Val := Elt Ideal) (⟨Rect.unit (s := ⟨2, ![R, C]⟩) ![o, 0] ![W, C] inb, w⟩ :: L) (ix2 g e) = View.canon (Val := Elt Ideal) L (ix2 g e) := by
  refine View.canon_cons_of_not_mem (Val := Elt Ideal) _ _ ?_
  exact Rect.not_mem_set_of_axis _ _ 0 o W rfl rfl rfl hq

variable (c : Dev nD) (i : grid0.Coords) (a2 : Memref sig .tc .vmem S1024x1024 .bf16) (h2 : a2.IsWhole)
  (a3 : Memref sig .tc .vmem S1024x1024 .bf16) (h3 : a3.IsWhole)
  (a4 : Memref sig .tc .vmem S1x1024x704 .bf16) (h4 : a4.IsWhole)
  (a5 : Memref sig .tc .vmem S1x1024x704 .bf16) (h5 : a5.IsWhole)
  (a6 : Memref sig .tc .vmem S1x1024x704 .bf16) (h6 : a6.IsWhole)
  (a7 : Memref sig .tc .vmem S1x1024x704 .bf16) (h7 : a7.IsWhole)
  (a9 : Memref sig .tc .vmem S2x1056x1024 .bf16) (h9 : a9.IsWhole)
  (a10 : Memref sig .tc .vmem S2112x1024 .f32) (h10 : a10.IsWhole)
variable (x0 x1 : Vec Ideal S1024x1024 .bf16) (x2 x3 x4 x5 : Vec Ideal S1x1024x704 .bf16) (xs : Vec Ideal S2112x1024 .f32)

/-- One tile's part of the sums: rows `0 … 703` for the first weight, `704 … 1407` for the third, the rest for the second. -/
def tile (g : Fin 2112) (e : Fin 1024) : EReal :=
  if h : g.val < 704 then ∑ r, x4 (ix3 0 r ⟨g.val, h⟩) * x0 (ix2 r e)
  else if h : g.val < 1408 then ∑ r, x5 (ix3 0 r ⟨g.val - 704, by omega⟩) * x0 (ix2 r e)
  else ∑ r, gated (x2 (ix3 0 r ⟨g.val - 1408, by omega⟩)) (x3 (ix3 0 r ⟨g.val - 1408, by omega⟩)) * x1 (ix2 r e)

/-- The three bands of sums stored over earlier stores, each band added to what a load gave. -/
theorem bands (X : Vec Ideal S2112x1024 .f32) (l0 l1 l2 : Vec Ideal S704x1024 .f32) (L : List (View.Piece (Elt Ideal) S2112x1024 .f32))
    (e0 : ∀ (q : Fin 704) (e : Fin 1024), l0 (ix2 q e) = X (ix2 ⟨q.val, by omega⟩ e))
    (e1 : ∀ (q : Fin 704) (e : Fin 1024), l1 (ix2 q e) = X (ix2 ⟨704 + q.val, by omega⟩ e))
    (e2 : ∀ (q : Fin 704) (e : Fin 1024), l2 (ix2 q e) = X (ix2 ⟨1408 + q.val, by omega⟩ e)) (g : Fin 2112) (e : Fin 1024) :
    View.canon (Val := Elt Ideal)
      (⟨Rect.unit (s := S2112x1024) ![1408, 0] ![704, 1024] inb_S2112x1024_S704x1024_1408_0, k0_pay2 (F := Ideal) (k0_pay11 (F := Ideal) x2 x3) l2 x1⟩
        :: ⟨Rect.unit (s := S2112x1024) ![704, 0] ![704, 1024] inb_S2112x1024_S704x1024_704_0, k0_pay1 (F := Ideal) (k0_pay14 (F := Ideal) x0 l1 x5)⟩
        :: ⟨Rect.unit (s := S2112x1024) ![0, 0] ![704, 1024] inb_S2112x1024_S704x1024_0_0, k0_pay13 (F := Ideal) x0 l0 x4⟩ :: L) (ix2 g e)
      = X (ix2 g e) + tile x0 x1 x2 x3 x4 x5 g e := by
  unfold tile
  by_cases h : g.val < 704
  · rw [dif_pos h]
    refine (band_not_mem _ _ _ g e (Or.inl (by omega))).trans ((band_not_mem _ _ _ g e (Or.inl (by omega))).trans
      ((band_mem _ _ _ g e ⟨g.val, h⟩ (by simp)).trans ?_))
    rw [pay13_apply, e0]
  · rw [dif_neg h]
    by_cases h' : g.val < 1408
    · rw [dif_pos h']
      refine (band_not_mem _ _ _ g e (Or.inl (by omega))).trans ((band_mem _ _ _ g e ⟨g.val - 704, by omega⟩ (by simp; omega)).trans ?_)
      rw [pay14_apply, e1]
      exact congrArg₂ (· + ·) (congrArg X (congrArg (fun q => ix2 q e) (Fin.ext (by simp; omega)))) rfl
    · rw [dif_neg h']
      refine (band_mem _ _ _ g e ⟨g.val - 1408, by omega⟩ (by simp; omega)).trans ?_
      rw [pay2_apply, e2]
      exact congrArg₂ (· + ·) (congrArg X (congrArg (fun q => ix2 q e) (Fin.ext (by simp; omega)))) rfl

/-- Where a load of a band of rows reads. -/
theorem band_idx {W o : Nat} (inb : ∀ a, (![o, 0] : Fin 2 → Nat) a + (![W, 1024] : Fin 2 → Nat) a ≤ S2112x1024.size a) (q : Fin W) (e : Fin 1024)
    (h : o + q.val < 2112) : (Rect.unit (s := S2112x1024) ![o, 0] ![W, 1024] inb).emb (ix2 q e) = ix2 ⟨o + q.val, h⟩ e := by
  funext a
  apply Fin.ext
  rw [Rect.emb_apply]
  fin_cases a
  · show o + 1 * q.val = o + q.val
    omega
  · show 0 + 1 * e.val = e.val
    omega

theorem band_ld (X : Vec Ideal S2112x1024 .f32) {W o : Nat} (inb : ∀ a, (![o, 0] : Fin 2 → Nat) a + (![W, 1024] : Fin 2 → Nat) a ≤ S2112x1024.size a)
    (q : Fin W) (e : Fin 1024) (h : o + q.val < 2112) :
    View.ld (Val := Elt Ideal) (e' := .f32) X (Rect.unit (s := S2112x1024) ![o, 0] ![W, 1024] inb) (ix2 q e) = X (ix2 ⟨o + q.val, h⟩ e) :=
  congrArg X (band_idx inb q e h)

theorem band_cov {sp : Space} (v : View sig .tc sp S2112x1024 .f32) (L : List (View.Piece (Elt Ideal) S2112x1024 .f32)) {W o : Nat}
    (inb : ∀ a, (![o, 0] : Fin 2 → Nat) a + (![W, 1024] : Fin 2 → Nat) a ≤ S2112x1024.size a) (q : Fin W) (e : Fin 1024) (h : o + q.val < 2112) :
    v.readCov L (Rect.unit (s := S2112x1024) ![o, 0] ![W, 1024] inb).toLoadRect (ix2 q e) = View.canon (Val := Elt Ideal) L (ix2 ⟨o + q.val, h⟩ e) := by
  rw [View.readCov_eq_canon']
  exact congrArg (View.canon (Val := Elt Ideal) L) (band_idx inb q e h)

theorem canon_zero (g : Fin 2112) (e : Fin 1024) :
    View.canon (Val := Elt Ideal) (e := .f32) [⟨Rect.unit (s := S2112x1024) ![0, 0] ![2112, 1024] inb_S2112x1024_S2112x1024_0_0, (k0_pay10 (F := Ideal) : S2112x1024.Idx → EReal)⟩] (ix2 g e) = 0 := by
  exact (band_mem _ _ _ g e g (by simp)).trans (pay10_apply g e)

theorem sout_A (hc0 : cond0_0 i) (hc1 : ¬cond0_1 i) (g : Fin 2112) (e : Fin 1024) :
    sout0_A_0 (F := Ideal) c i a2 h2 a3 h3 a4 h4 a5 h5 a6 h6 a7 h7 a9 h9 a10 h10 hc0 hc1 x0 x1 x2 x3 x4 x5 (ix2 g e) = tile x0 x1 x2 x3 x4 x5 g e := by
  unfold sout0_A_0
  rw [View.read_writes_eq_canon _ _ _ (scover0_A_0 (F := Ideal) c i a2 h2 a3 h3 a4 h4 a5 h5 a6 h6 a7 h7 a9 h9 a10 h10 hc0 hc1 x0 x1 x2 x3 x4 x5)]
  unfold kernelRun0_A
  dsimp only
  sl_unfold_words
  simp only [View.readAt_eq_ld, Memref.IsWhole.read_unread, View.ld_unit_zero (S := S1024x1024) hz2, View.ld_unit_zero (S := S1x1024x704) hz3]
  refine (bands x0 x1 x2 x3 x4 x5 (fun _ => 0) _ _ _ _ (fun q e => ?_) (fun q e => ?_) (fun q e => ?_) g e).trans (zero_add _)
  · exact (band_cov _ _ _ q e (by omega)).trans (canon_zero _ _)
  · exact (band_cov _ _ _ q e (by omega)).trans ((band_not_mem _ _ _ _ e (Or.inr (by simp))).trans (canon_zero _ _))
  · exact (band_cov _ _ _ q e (by omega)).trans ((band_not_mem _ _ _ _ e (Or.inr (by show 704 + 704 ≤ 1408 + q.val; omega))).trans
      ((band_not_mem _ _ _ _ e (Or.inr (by show 0 + 704 ≤ 1408 + q.val; omega))).trans (canon_zero _ _)))

theorem sout_B (hc0 : ¬cond0_0 i) (hc1 : ¬cond0_1 i) (g : Fin 2112) (e : Fin 1024) :
    sout0_B_0 (F := Ideal) c i a2 h2 a3 h3 a4 h4 a5 h5 a6 h6 a7 h7 a9 h9 a10 h10 hc0 hc1 x0 x1 x2 x3 x4 x5 xs (ix2 g e) = xs (ix2 g e) + tile x0 x1 x2 x3 x4 x5 g e := by
  unfold sout0_B_0
  rw [View.read_writes_eq_canon _ _ _ (scover0_B_0 (F := Ideal) c i a2 h2 a3 h3 a4 h4 a5 h5 a6 h6 a7 h7 a9 h9 a10 h10 hc0 hc1 x0 x1 x2 x3 x4 x5 xs)]
  unfold kernelRun0_B
  dsimp only
  sl_unfold_words
  simp only [View.readAt_eq_ld, Memref.IsWhole.read_unread, View.ld_unit_zero (S := S1024x1024) hz2, View.ld_unit_zero (S := S1x1024x704) hz3]
  refine bands x0 x1 x2 x3 x4 x5 xs _ _ _ _ (fun q e => ?_) (fun q e => ?_) (fun q e => ?_) g e
  · exact (band_ld xs _ q e (by omega)).trans (congrArg xs (congrArg (fun q => ix2 q e) (Fin.ext (by simp))))
  · exact band_ld xs _ q e (by omega)
  · exact band_ld xs _ q e (by omega)

theorem canon_C (hc0 : ¬cond0_0 i) (hc1 : cond0_1 i) (g : Fin 2112) (e : Fin 1024) :
    View.canon (Val := Elt Ideal) (kernelRun0_C (F := Ideal) c i a2 h2 a3 h3 a4 h4 a5 h5 a6 h6 a7 h7 a9 h9 a10 h10 hc0 hc1 x0 x1 x2 x3 x4 x5 xs).2.1 (ix2 g e) = xs (ix2 g e) + tile x0 x1 x2 x3 x4 x5 g e := by
  unfold kernelRun0_C
  dsimp only
  sl_unfold_words
  simp only [View.readAt_eq_ld, Memref.IsWhole.read_unread, View.ld_unit_zero (S := S1024x1024) hz2, View.ld_unit_zero (S := S1x1024x704) hz3]
  refine bands x0 x1 x2 x3 x4 x5 xs _ _ _ _ (fun q e => ?_) (fun q e => ?_) (fun q e => ?_) g e
  · exact (band_ld xs _ q e (by omega)).trans (congrArg xs (congrArg (fun q => ix2 q e) (Fin.ext (by simp))))
  · exact band_ld xs _ q e (by omega)
  · exact band_ld xs _ q e (by omega)

theorem sout_C (hc0 : ¬cond0_0 i) (hc1 : cond0_1 i) (g : Fin 2112) (e : Fin 1024) :
    sout0_C_0 (F := Ideal) c i a2 h2 a3 h3 a4 h4 a5 h5 a6 h6 a7 h7 a9 h9 a10 h10 hc0 hc1 x0 x1 x2 x3 x4 x5 xs (ix2 g e) = xs (ix2 g e) + tile x0 x1 x2 x3 x4 x5 g e := by
  unfold sout0_C_0
  rw [View.read_writes_eq_canon _ _ _ (scover0_C_0 (F := Ideal) c i a2 h2 a3 h3 a4 h4 a5 h5 a6 h6 a7 h7 a9 h9 a10 h10 hc0 hc1 x0 x1 x2 x3 x4 x5 xs)]
  exact canon_C c i a2 h2 a3 h3 a4 h4 a5 h5 a6 h6 a7 h7 a9 h9 a10 h10 x0 x1 x2 x3 x4 x5 xs hc0 hc1 g e

/-- The block's entry: half `s` of the group, band `q / 352`. -/
abbrev src (s : Fin 2) (q : Fin 1056) : Fin 2112 := ⟨q.val / 352 * 704 + s.val * 352 + q.val % 352, by omega⟩

/-- What the last point of a group stores. -/
def outT (y : S2x1056x1024.Idx) : EReal :=
  xs (ix2 (src (y 0) (y 1)) (y 2)) + tile x0 x1 x2 x3 x4 x5 (src (y 0) (y 1)) (y 2)

/-- Half of a band of the sums, put where the block has it. -/
theorem half_piece {sp : Space} (v : View sig .tc sp S2112x1024 .f32) (L : List (View.Piece (Elt Ideal) S2112x1024 .f32))
    (hL : ∀ (g : Fin 2112) (e : Fin 1024), View.canon (Val := Elt Ideal) L (ix2 g e) = xs (ix2 g e) + tile x0 x1 x2 x3 x4 x5 g e) {k p o : Nat}
    (hp : p % 352 = 0) (hk : k < 2) (ho : o = p / 352 * 704 + k * 352)
    (inb : ∀ a, (![o, 0] : Fin 2 → Nat) a + (![352, 1024] : Fin 2 → Nat) a ≤ S2112x1024.size a)
    (inb' : ∀ a, (![k, p, 0] : Fin 3 → Nat) a + (![1, 352, 1024] : Fin 3 → Nat) a ≤ S2x1056x1024.size a)
    (x : S1x352x1024.Idx) :
    k0_pay4 (F := Ideal) (v.readCov L (Rect.unit (s := S2112x1024) ![o, 0] ![352, 1024] inb).toLoadRect) x
      = outT x0 x1 x2 x3 x4 x5 xs ((Rect.unit (s := S2x1056x1024) ![k, p, 0] ![1, 352, 1024] inb').emb x) := by
  obtain ⟨f, e, rfl⟩ : ∃ (f : Fin 352) (e : Fin 1024), x = ix3 0 f e :=
    ⟨x 1, x 2, by rw [eq_ix3 x]; congr 1; exact Subsingleton.elim (α := Fin 1) _ _⟩
  have h0 : o + 352 ≤ 2112 := inb 0
  have h1 : p + 352 ≤ 1056 := inb' 1
  have hy : (Rect.unit (s := S2x1056x1024) ![k, p, 0] ![1, 352, 1024] inb').emb (ix3 0 f e) = ix3 ⟨k, hk⟩ ⟨p + f.val, by omega⟩ e := by
    funext a
    apply Fin.ext
    rw [Rect.emb_apply]
    fin_cases a
    · show k + 1 * 0 = k
      omega
    · show p + 1 * f.val = p + f.val
      omega
    · show 0 + 1 * e.val = e.val
      omega
  rw [hy, paySt_apply, band_cov v L inb f e (by omega), hL]
  have hs : src ⟨k, hk⟩ ⟨p + f.val, by omega⟩ = (⟨o + f.val, by omega⟩ : Fin 2112) := Fin.ext (by
    show (p + f.val) / 352 * 704 + k * 352 + (p + f.val) % 352 = o + f.val
    omega)
  show _ = xs (ix2 (src ⟨k, hk⟩ ⟨p + f.val, by omega⟩) e) + tile x0 x1 x2 x3 x4 x5 (src ⟨k, hk⟩ ⟨p + f.val, by omega⟩) e
  rw [hs]

theorem out_C (hc0 : ¬cond0_0 i) (hc1 : cond0_1 i) (y : S2x1056x1024.Idx) :
    out0_C_6 (F := Ideal) c i a2 h2 a3 h3 a4 h4 a5 h5 a6 h6 a7 h7 a9 h9 a10 h10 hc0 hc1 x0 x1 x2 x3 x4 x5 xs y = outT x0 x1 x2 x3 x4 x5 xs y := by
  unfold out0_C_6
  rw [View.read_writes_eq_canon _ _ _ (cover0_C_6 (F := Ideal) c i a2 h2 a3 h3 a4 h4 a5 h5 a6 h6 a7 h7 a9 h9 a10 h10 hc0 hc1 x0 x1 x2 x3 x4 x5 xs)]
  refine View.canon_apply_of_pieces (outT x0 x1 x2 x3 x4 x5 xs) _ ?_ y (cover0_C_6 (F := Ideal) c i a2 h2 a3 h3 a4 h4 a5 h5 a6 h6 a7 h7 a9 h9 a10 h10 hc0 hc1 x0 x1 x2 x3 x4 x5 xs y)
  unfold kernelRun0_C
  dsimp only
  sl_unfold_words
  simp only [List.forall_mem_cons, View.readAt_eq_ld, Memref.IsWhole.read_unread, View.ld_unit_zero (S := S1024x1024) hz2, View.ld_unit_zero (S := S1x1024x704) hz3]
  have hL := bands x0 x1 x2 x3 x4 x5 xs _ _ _ []
    (fun q e => (band_ld xs inb_S2112x1024_S704x1024_0_0 q e (by omega)).trans (congrArg xs (congrArg (fun q => ix2 q e) (Fin.ext (by simp)))))
    (fun q e => band_ld xs inb_S2112x1024_S704x1024_704_0 q e (by omega))
    (fun q e => band_ld xs inb_S2112x1024_S704x1024_1408_0 q e (by omega))
  exact ⟨half_piece x0 x1 x2 x3 x4 x5 xs _ _ hL (by decide) (by decide) (by decide) _ _,
    half_piece x0 x1 x2 x3 x4 x5 xs _ _ hL (by decide) (by decide) (by decide) _ _,
    half_piece x0 x1 x2 x3 x4 x5 xs _ _ hL (by decide) (by decide) (by decide) _ _,
    half_piece x0 x1 x2 x3 x4 x5 xs _ _ hL (by decide) (by decide) (by decide) _ _,
    half_piece x0 x1 x2 x3 x4 x5 xs _ _ hL (by decide) (by decide) (by decide) _ _,
    half_piece x0 x1 x2 x3 x4 x5 xs _ _ hL (by decide) (by decide) (by decide) _ _, fun x hx => absurd hx List.not_mem_nil⟩

end Cert.Kernel2Ideal.FfnW

end
-- ==== Proof.FfnWArr.lean ====
/-
  The feed-forward weights' gradients after the run, over the extended reals: a function of the arrays that the call is
  given.
-/
module

public import proofs.«01_k».proof.Proof.Gen.Kernel2Ideal.Value
public import proofs.«01_k».proof.Proof.FfnWBlock
public import Idealize.ShloMosaic.Lib.Pipeline.ValueKit

@[expose] public section

set_option maxRecDepth 16384

noncomputable section

namespace Cert.Kernel2Ideal.FfnW

open Idealize.ShloMosaic Idealize.ShloMosaic.TcCoe Idealize.SL.Sem Idealize.ShloMosaic.Tactic
open Cert.Kernel2Ideal Cert.Kernel2Ideal.Gen

variable (m : (ℓ : Loc nD τ sig) → Buf (Elt Ideal) ℓ) (c : Dev nD)

/-- The normed input. -/
abbrev HB : S4096x1024.Idx → EReal := V m c main_v0_0
/-- The gradient of the block's product. -/
abbrev DY : S4096x1024.Idx → EReal := V m c main_v0_1
/-- The first hidden product in groups. -/
abbrev AC : S4x4096x704.Idx → EReal := V m c main_v0_2
/-- The third weight's hidden product in groups. -/
abbrev BC : S4x4096x704.Idx → EReal := V m c main_v0_3
/-- The gradient of the first hidden product in groups. -/
abbrev DA : S4x4096x704.Idx → EReal := V m c main_v0_4
/-- The gradient of the third weight's hidden product in groups. -/
abbrev DB : S4x4096x704.Idx → EReal := V m c main_v0_5

/-- The group of a point. -/
abbrev grp (t : Fin cfg0.N) : Fin 4 := ⟨t.val / 4, by have := t.isLt; have : cfg0.N = 16 := N_0; omega⟩
/-- Row `r` of a point's tile. -/
abbrev row (t : Fin cfg0.N) (r : Fin 1024) : Fin 4096 := ⟨t.val % 4 * 1024 + r.val, by omega⟩

theorem pos0 : ∀ t : Fin cfg0.N, win0_0.index t = ![t.val % 4, 0] := by decide +kernel
theorem pos1 : ∀ t : Fin cfg0.N, win0_1.index t = ![t.val % 4, 0] := by decide +kernel
theorem pos2 : ∀ t : Fin cfg0.N, win0_2.index t = ![t.val / 4, t.val % 4, 0] := by decide +kernel
theorem pos3 : ∀ t : Fin cfg0.N, win0_3.index t = ![t.val / 4, t.val % 4, 0] := by decide +kernel
theorem pos4 : ∀ t : Fin cfg0.N, win0_4.index t = ![t.val / 4, t.val % 4, 0] := by decide +kernel
theorem pos5 : ∀ t : Fin cfg0.N, win0_5.index t = ![t.val / 4, t.val % 4, 0] := by decide +kernel
theorem pos6 : ∀ t : Fin cfg0.N, win0_6.index t = ![t.val / 4, 0, 0] := by decide +kernel

theorem blk0 (t : Fin cfg0.N) (r : Fin 1024) (e : Fin 1024) : iblk m c 0 t (ix2 r e) = HB m c (ix2 (row t r) e) := by
  blk_ext [iblk, pos0 t]
theorem blk1 (t : Fin cfg0.N) (r : Fin 1024) (e : Fin 1024) : iblk m c 1 t (ix2 r e) = DY m c (ix2 (row t r) e) := by
  blk_ext [iblk, pos1 t]
theorem blk2 (t : Fin cfg0.N) (r : Fin 1024) (g : Fin 704) : iblk m c 2 t (ix3 0 r g) = AC m c (ix3 (grp t) (row t r) g) := by
  blk_ext [iblk, pos2 t]
theorem blk3 (t : Fin cfg0.N) (r : Fin 1024) (g : Fin 704) : iblk m c 3 t (ix3 0 r g) = BC m c (ix3 (grp t) (row t r) g) := by
  blk_ext [iblk, pos3 t]
theorem blk4 (t : Fin cfg0.N) (r : Fin 1024) (g : Fin 704) : iblk m c 4 t (ix3 0 r g) = DA m c (ix3 (grp t) (row t r) g) := by
  blk_ext [iblk, pos4 t]
theorem blk5 (t : Fin cfg0.N) (r : Fin 1024) (g : Fin 704) : iblk m c 5 t (ix3 0 r g) = DB m c (ix3 (grp t) (row t r) g) := by
  blk_ext [iblk, pos5 t]

/-- One row's part of a sum. -/
def term (j : Fin 4) (g : Fin 2112) (e : Fin 1024) (r : Fin 4096) : EReal :=
  if h : g.val < 704 then DA m c (ix3 j r ⟨g.val, h⟩) * HB m c (ix2 r e)
  else if h : g.val < 1408 then DB m c (ix3 j r ⟨g.val - 704, by omega⟩) * HB m c (ix2 r e)
  else gated (AC m c (ix3 j r ⟨g.val - 1408, by omega⟩)) (BC m c (ix3 j r ⟨g.val - 1408, by omega⟩)) * DY m c (ix2 r e)

theorem tile_eq (t : Fin cfg0.N) (g : Fin 2112) (e : Fin 1024) :
    tile (iblk m c 0 t) (iblk m c 1 t) (iblk m c 2 t) (iblk m c 3 t) (iblk m c 4 t) (iblk m c 5 t) g e = ∑ r, term m c (grp t) g e (row t r) := by
  unfold tile term
  by_cases h : g.val < 704
  · simp only [dif_pos h, blk0, blk4]
  · by_cases h' : g.val < 1408
    · simp only [dif_neg h, dif_pos h', blk0, blk5]
    · simp only [dif_neg h, dif_neg h', blk1, blk2, blk3]

/-- The same term by the row's number. -/
def termN (j : Fin 4) (g : Fin 2112) (e : Fin 1024) (r : ℕ) : EReal := if h : r < 4096 then term m c j g e ⟨r, h⟩ else 0

theorem tile_range (t : Fin cfg0.N) (g : Fin 2112) (e : Fin 1024) :
    tile (iblk m c 0 t) (iblk m c 1 t) (iblk m c 2 t) (iblk m c 3 t) (iblk m c 4 t) (iblk m c 5 t) g e
      = ∑ r ∈ Finset.range 1024, termN m c (grp t) g e (t.val % 4 * 1024 + r) := by
  rw [tile_eq, Finset.sum_range]
  refine Finset.sum_congr rfl fun r _ => ?_
  unfold termN
  rw [dif_pos (by have := r.isLt; omega)]

/-- The accumulator after a point: the sum over the rows of the group's tiles so far. -/
theorem acc (n : Nat) (hn : n < cfg0.N) (g : Fin 2112) (e : Fin 1024) : (outsAt0 m c n hn).2 (ix2 g e)
    = ∑ r ∈ Finset.range ((n % 4 + 1) * 1024), termN m c (grp ⟨n, hn⟩) g e r := by
  have hN : cfg0.N = 16 := N_0
  have first : ∀ (t : Fin cfg0.N), t.val % 4 = 0 → (outsAt0 m c t.val t.isLt).2 (ix2 g e)
      = ∑ r ∈ Finset.range ((t.val % 4 + 1) * 1024), termN m c (grp t) g e r := by
    intro t h0
    rw [outsAt0_A m c t h0 (by omega)]
    dsimp only
    rw [sout_A, tile_range, h0]
    simp
  induction n with
  | zero => exact first ⟨0, hn⟩ rfl
  | succ n ih =>
    by_cases h0 : (n + 1) % 4 = 0
    · exact first ⟨n + 1, hn⟩ h0
    · have hg : grp ⟨n, by omega⟩ = grp ⟨n + 1, hn⟩ := Fin.ext (by show n / 4 = (n + 1) / 4; omega)
      have hs : ∑ r ∈ Finset.range (((n + 1) % 4 + 1) * 1024), termN m c (grp ⟨n + 1, hn⟩) g e r
          = (outsAt0 m c n (by omega)).2 (ix2 g e)
            + tile (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) g e := by
        rw [ih (by omega), tile_range, hg, show ((n + 1) % 4 + 1) * 1024 = (n % 4 + 1) * 1024 + 1024 by omega, Finset.sum_range_add]
        refine congrArg _ (Finset.sum_congr rfl fun r _ => congrArg _ ?_)
        show (n % 4 + 1) * 1024 + r = (n + 1) % 4 * 1024 + r
        omega
      by_cases h1 : (n + 1) % 4 = 3
      · rw [outsAt0_C m c ⟨n + 1, hn⟩ h0 h1]
        dsimp only
        rw [sout_C]
        exact hs.symm
      · rw [outsAt0_B m c ⟨n + 1, hn⟩ h0 h1]
        dsimp only
        rw [sout_B]
        exact hs.symm

/-- The gradients in the kernel's layout: shard `p` has its 352 hidden columns of each of the three weights. -/
def gwG (y : S8x1056x1024.Idx) : EReal :=
  ∑ r : Fin 4096, term m c ⟨(y 0).val / 2, by have : (y 0).val < 8 := (y 0).isLt; omega⟩
    (src ⟨(y 0).val % 2, by omega⟩ (y 1)) (y 2) r

theorem emb6 (t : Fin cfg0.N) (s : Fin 2) (q : Fin 1056) (e : Fin 1024) :
    (win0_6.blk t).view.emb (ix3 s q e) = ix3 ⟨t.val / 4 * 2 + s.val, by have := t.isLt; have : cfg0.N = 16 := N_0; omega⟩ q e := by
  blk_ext [pos6 t]

theorem last6 : ∀ t : Fin cfg0.N, (cfg0.win 6).flush t = true → t.val % 4 = 3 := by decide +kernel

theorem outC_eq (t : Fin cfg0.N) (h1 : t.val % 4 = 3) (s : Fin 2) (q : Fin 1056) (e : Fin 1024) :
    (outsAt0 m c t.val t.isLt).1 (ix3 s q e)
      = gwG m c (ix3 ⟨t.val / 4 * 2 + s.val, by have := t.isLt; have : cfg0.N = 16 := N_0; omega⟩ q e) := by
  have hN : cfg0.N = 16 := N_0
  have ht := t.isLt
  have ha := acc m c t.val t.isLt (src s q) e
  rw [outsAt0_C m c t (by omega) h1] at ha ⊢
  dsimp only at ha ⊢
  rw [sout_C] at ha
  rw [out_C]
  refine ha.trans ?_
  rw [h1]
  unfold gwG
  refine (Finset.sum_range _).trans (Finset.sum_congr rfl fun r _ => ?_)
  unfold termN
  rw [dif_pos r.isLt]
  have e1 : grp t = (⟨(t.val / 4 * 2 + s.val) / 2, by omega⟩ : Fin 4) := Fin.ext (by show t.val / 4 = (t.val / 4 * 2 + s.val) / 2; omega)
  have e2 : s = (⟨(t.val / 4 * 2 + s.val) % 2, by omega⟩ : Fin 2) := Fin.ext (by show s.val = (t.val / 4 * 2 + s.val) % 2; omega)
  exact congrArg₂ (fun a b => term m c a (src b q) e r) e1 e2

theorem final6 : (dats m 0 c).arrAt 6 cfg0.N = gwG m c := by
  refine (dats m 0 c).arrAt_eq_of_covers 6 _ (by decide +kernel) fun t hf y => ?_
  blk_simp
  obtain ⟨s, q, e, rfl⟩ : ∃ (s : Fin 2) (q : Fin 1056) (e : Fin 1024), y = ix3 s q e := ⟨y 0, y 1, y 2, eq_ix3 y⟩
  rw [after0_6, outC_eq m c t (last6 t hf), emb6]

end Cert.Kernel2Ideal.FfnW

end
-- ==== Proof.FfnWRef.lean ====
/-
  The reference of the feed-forward weights' gradients, read at an index over the extended reals.
-/
module

public import proofs.«01_k».proof.Proof.Gen.Reference2Ideal.Read
public import Idealize.ShloMosaic.Lib.Pointwise
public import Idealize.ShloMosaic.Lib.IdealHost

@[expose] public section

set_option maxRecDepth 16384

noncomputable section

namespace Cert.Reference2Ideal.FfnW

open Idealize.ShloMosaic Idealize.ShloMosaic.TcCoe
open Cert.Reference2Ideal Cert.Reference2Ideal.Read

variable (x0 x1 : S4096x1024.Idx → EReal) (x2 x3 : S1024.Idx → EReal) (x4 x5 : S1024x2816.Idx → EReal) (x6 : S2816x1024.Idx → EReal)

theorem first_apply (p : Fin 8) (f : Fin 352) (e : Fin 1024) :
    val_main_v70 (F := Ideal) x0 x1 x2 x3 x4 x5 x6 (ix3 p ⟨f.val, by omega⟩ e)
      = ∑ r, val_main_v61 (F := Ideal) x0 x1 x2 x3 x4 x5 x6 (ix2 r ⟨p.val * 352 + f.val, by omega⟩) * val_main_v12 (F := Ideal) x1 x2 (ix2 r e) := by
  pointwise [val_main_v70, val_main_v69, val_main_v66, val_main_v64, val_main_v63, val_main_v62]

theorem third_apply (p : Fin 8) (f : Fin 352) (e : Fin 1024) :
    val_main_v70 (F := Ideal) x0 x1 x2 x3 x4 x5 x6 (ix3 p ⟨352 + f.val, by omega⟩ e)
      = ∑ r, val_main_v57 (F := Ideal) x0 x1 x2 x3 x4 x5 x6 (ix2 r ⟨p.val * 352 + f.val, by omega⟩) * val_main_v12 (F := Ideal) x1 x2 (ix2 r e) := by
  pointwise [val_main_v70, val_main_v69, val_main_v67, val_main_v65, val_main_v60, val_main_v59]

theorem second_apply (p : Fin 8) (f : Fin 352) (e : Fin 1024) :
    val_main_v70 (F := Ideal) x0 x1 x2 x3 x4 x5 x6 (ix3 p ⟨704 + f.val, by omega⟩ e)
      = ∑ r, val_main_v53 (F := Ideal) x0 x1 x2 x3 x4 x5 x6 (ix2 r e) * val_main_v16 (F := Ideal) x1 x2 x4 x5 (ix2 r ⟨p.val * 352 + f.val, by omega⟩) := by
  pointwise [val_main_v70, val_main_v69, val_main_v68, val_main_v55, val_main_v54]
  rw [dif_neg (by omega), dif_neg (by omega)]
  refine Finset.sum_congr rfl fun r _ => congrArg _ (congrArg _ (congrArg (fun g => ix2 r g) (Fin.ext ?_)))
  show p.val * 352 + (704 + f.val - 352 - 352) = p.val * 352 + f.val
  omega

theorem gated_apply (r : Fin 4096) (g : Fin 2816) :
    val_main_v16 (F := Ideal) x1 x2 x4 x5 (ix2 r g)
      = val_main_v13 (F := Ideal) x1 x2 x4 (ix2 r g) * Ideal.logistic (val_main_v13 (F := Ideal) x1 x2 x4 (ix2 r g)) * val_main_v15 (F := Ideal) x1 x2 x5 (ix2 r g) := by
  unfold Ideal.logistic
  pointwise [val_main_v16, val_main_v14_0, val_main_v14_2, val_main_call0_v4, val_main_call0_cst_0, val_main_call0_v3, val_main_call0_v2, val_main_call0_cst, val_main_call0_v1, val_main_call0_v0]

end Cert.Reference2Ideal.FfnW

end
-- ==== Proof.FfnWHost.lean ====
/-
  The arrays that the feed-forward weights' kernel is given are the reference's own stages.
-/
module

public import proofs.«01_k».proof.Proof.FfnWArr
public import proofs.«01_k».proof.Proof.FfnWRef
public import Idealize.ShloMosaic.Lib.Claim
public import Idealize.ShloMosaic.Lib.StableHlo.ReadAt

@[expose] public section

set_option maxRecDepth 16384

noncomputable section

namespace Cert.Kernel2Ideal.FfnW

open Idealize.ShloMosaic Idealize.ShloMosaic.TcCoe Idealize.SL.Sem Idealize.ShloMosaic.Tactic
open Cert.Kernel2Ideal Cert.Kernel2Ideal.Gen Cert.Reference2Ideal.Read

variable (m : (ℓ : Loc nD τ sig) → Buf (Elt Ideal) ℓ) (c : Dev nD)

/-- The cotangent. -/
abbrev A0 : S4096x1024.Idx → EReal := m ((c : Thread nD τ).loc main_arg0)
/-- The block's input. -/
abbrev A1 : S4096x1024.Idx → EReal := m ((c : Thread nD τ).loc main_arg1)
/-- The gain before the block. -/
abbrev A2 : S1024.Idx → EReal := m ((c : Thread nD τ).loc main_arg2)
/-- The gain after the block. -/
abbrev A3 : S1024.Idx → EReal := m ((c : Thread nD τ).loc main_arg3)
/-- The first weight. -/
abbrev A4 : S1024x2816.Idx → EReal := m ((c : Thread nD τ).loc main_arg4)
/-- The third weight. -/
abbrev A5 : S1024x2816.Idx → EReal := m ((c : Thread nD τ).loc main_arg5)
/-- The second weight. -/
abbrev A6 : S2816x1024.Idx → EReal := m ((c : Thread nD τ).loc main_arg6)

theorem HB_eq : HB m c = val_main_v12 (F := Ideal) (A1 m c) (A2 m c) := by
  unfold HB
  unfold V
  simp only [List.flatten_cons, List.flatten_nil, List.append_nil]
  after_reads_simp
  rfl

theorem DY_eq : DY m c = val_main_v53 (F := Ideal) (A0 m c) (A1 m c) (A2 m c) (A3 m c) (A4 m c) (A5 m c) (A6 m c) := by
  unfold DY
  unfold V
  simp only [List.flatten_cons, List.flatten_nil, List.append_nil]
  after_reads_simp
  rfl

/-- Columns in groups of 704. -/
abbrev cut (X : S4096x2816.Idx → EReal) : S4x4096x704.Idx → EReal :=
  fun y => X (ix2 (y 1) ⟨(y 0).val * 704 + (y 2).val, by
    have h0 : (y 0).val < 4 := (y 0).isLt
    have h2 : (y 2).val < 704 := (y 2).isLt
    omega⟩)

/-- The groups as the program makes them. -/
theorem cut_host (X : Vec Ideal S4096x2816 .f32) :
    truncf (F := Ideal) (φ := .f32) .bf16 (transpose S4x4096x704 [1, 0, 2] (shapeCast S4096x4x704 X shapeCasts_S4096x2816_S4096x4x704 : Vec Ideal S4096x4x704 .f32) transposes_S4096x4x704_S4x4096x704_1_0_2) bitsLt_bf16_f32 = (cut X : Vec Ideal S4x4096x704 .bf16) := by
  funext y
  obtain ⟨j, r, g, rfl⟩ : ∃ (j : Fin 4) (r : Fin 4096) (g : Fin 704), y = ix3 j r g := ⟨y 0, y 1, y 2, eq_ix3 y⟩
  pointwise
  rfl

theorem AC_eq : AC m c = cut (val_main_v13 (F := Ideal) (A1 m c) (A2 m c) (A4 m c)) := by
  refine Eq.trans ?_ (cut_host _)
  unfold AC
  unfold V
  simp only [List.flatten_cons, List.flatten_nil, List.append_nil]
  after_reads_simp
  rfl

theorem BC_eq : BC m c = cut (val_main_v15 (F := Ideal) (A1 m c) (A2 m c) (A5 m c)) := by
  refine Eq.trans ?_ (cut_host _)
  unfold BC
  unfold V
  simp only [List.flatten_cons, List.flatten_nil, List.append_nil]
  after_reads_simp
  rfl

theorem DA_eq : DA m c = cut (val_main_v61 (F := Ideal) (A0 m c) (A1 m c) (A2 m c) (A3 m c) (A4 m c) (A5 m c) (A6 m c)) := by
  refine Eq.trans ?_ (cut_host _)
  unfold DA
  unfold V
  simp only [List.flatten_cons, List.flatten_nil, List.append_nil]
  after_reads_simp
  rfl

theorem DB_eq : DB m c = cut (val_main_v57 (F := Ideal) (A0 m c) (A1 m c) (A2 m c) (A3 m c) (A4 m c) (A5 m c) (A6 m c)) := by
  refine Eq.trans ?_ (cut_host _)
  unfold DB
  unfold V
  simp only [List.flatten_cons, List.flatten_nil, List.append_nil]
  after_reads_simp
  rfl

end Cert.Kernel2Ideal.FfnW

end
-- ==== Proof.FfnWClaim.lean ====
/-
  The feed-forward weights' gradients: the kernel's result is the reference's, and the claims on this call.
-/
module

public import proofs.«01_k».proof.Defs
public import proofs.«01_k».proof.Proof.FfnWHost
public import proofs.«01_k».proof.Proof.Gen.Kernel2.Frame
public import proofs.«01_k».proof.Proof.Gen.Kernel2Ideal.Value
public import proofs.«01_k».proof.Proof.Gen.Reference2Ideal.Run

@[expose] public section

set_option maxRecDepth 16384

noncomputable section

namespace Cert.Kernel2Ideal.FfnW

open Idealize.ShloMosaic Idealize.ShloMosaic.TcCoe Idealize.SL.Sem Idealize.ShloMosaic.Tactic
open Cert.Kernel2Ideal Cert.Kernel2Ideal.Gen Cert.Reference2Ideal.Read

variable (m : (ℓ : Loc nD τ sig) → Buf (Elt Ideal) ℓ) (c : Dev nD)

/-- A group's column is the shard's column. -/
theorem cut_col (X : S4096x2816.Idx → EReal) (p : Fin 8) (f : Fin 352) (r : Fin 4096) (g : Fin 704) (hg : g.val = p.val % 2 * 352 + f.val) :
    cut X (ix3 ⟨p.val / 2, by omega⟩ r g) = X (ix2 r ⟨p.val * 352 + f.val, by omega⟩) :=
  congrArg X (congrArg (fun a => ix2 r a) (Fin.ext (by
    show p.val / 2 * 704 + g.val = p.val * 352 + f.val
    omega)))

theorem first (p : Fin 8) (f : Fin 352) (e : Fin 1024) : gwG m c (ix3 p ⟨f.val, by omega⟩ e)
    = val_main_v70 (F := Ideal) (A0 m c) (A1 m c) (A2 m c) (A3 m c) (A4 m c) (A5 m c) (A6 m c) (ix3 p ⟨f.val, by omega⟩ e) := by
  rw [Cert.Reference2Ideal.FfnW.first_apply]
  refine Finset.sum_congr rfl fun r _ => ?_
  unfold term
  have hs : f.val / 352 * 704 + p.val % 2 * 352 + f.val % 352 = p.val % 2 * 352 + f.val := by omega
  refine (dif_pos (show f.val / 352 * 704 + p.val % 2 * 352 + f.val % 352 < 704 by omega)).trans ?_
  exact congrArg₂ (· * ·) ((congrFun (DA_eq m c) _).trans (cut_col _ p f r _ hs)) (congrFun (HB_eq m c) _)

theorem third (p : Fin 8) (f : Fin 352) (e : Fin 1024) : gwG m c (ix3 p ⟨352 + f.val, by omega⟩ e)
    = val_main_v70 (F := Ideal) (A0 m c) (A1 m c) (A2 m c) (A3 m c) (A4 m c) (A5 m c) (A6 m c) (ix3 p ⟨352 + f.val, by omega⟩ e) := by
  rw [Cert.Reference2Ideal.FfnW.third_apply]
  refine Finset.sum_congr rfl fun r _ => ?_
  unfold term
  have hs : (352 + f.val) / 352 * 704 + p.val % 2 * 352 + (352 + f.val) % 352 = 704 + (p.val % 2 * 352 + f.val) := by omega
  refine (dif_neg (show ¬(352 + f.val) / 352 * 704 + p.val % 2 * 352 + (352 + f.val) % 352 < 704 by omega)).trans ?_
  refine (dif_pos (show (352 + f.val) / 352 * 704 + p.val % 2 * 352 + (352 + f.val) % 352 < 1408 by omega)).trans ?_
  exact congrArg₂ (· * ·) ((congrFun (DB_eq m c) _).trans (cut_col _ p f r _ (by
    show (352 + f.val) / 352 * 704 + p.val % 2 * 352 + (352 + f.val) % 352 - 704 = _
    omega))) (congrFun (HB_eq m c) _)

theorem second (p : Fin 8) (f : Fin 352) (e : Fin 1024) : gwG m c (ix3 p ⟨704 + f.val, by omega⟩ e)
    = val_main_v70 (F := Ideal) (A0 m c) (A1 m c) (A2 m c) (A3 m c) (A4 m c) (A5 m c) (A6 m c) (ix3 p ⟨704 + f.val, by omega⟩ e) := by
  rw [Cert.Reference2Ideal.FfnW.second_apply]
  refine Finset.sum_congr rfl fun r _ => ?_
  unfold term
  have hs : (704 + f.val) / 352 * 704 + p.val % 2 * 352 + (704 + f.val) % 352 = 1408 + (p.val % 2 * 352 + f.val) := by omega
  refine (dif_neg (show ¬(704 + f.val) / 352 * 704 + p.val % 2 * 352 + (704 + f.val) % 352 < 704 by omega)).trans ?_
  refine (dif_neg (show ¬(704 + f.val) / 352 * 704 + p.val % 2 * 352 + (704 + f.val) % 352 < 1408 by omega)).trans ?_
  have hg : (704 + f.val) / 352 * 704 + p.val % 2 * 352 + (704 + f.val) % 352 - 1408 = p.val % 2 * 352 + f.val := by omega
  rw [Cert.Reference2Ideal.FfnW.gated_apply]
  refine Eq.trans (congrArg₂ (· * ·) ?_ (congrFun (DY_eq m c) _)) (mul_comm _ _)
  exact congrArg₂ gated ((congrFun (AC_eq m c) _).trans (cut_col _ p f r _ hg)) ((congrFun (BC_eq m c) _).trans (cut_col _ p f r _ hg))

theorem res : gwG m c
    = val_main_v70 (F := Ideal) (A0 m c) (A1 m c) (A2 m c) (A3 m c) (A4 m c) (A5 m c) (A6 m c) := by
  funext y
  obtain ⟨p, q, e, rfl⟩ : ∃ (p : Fin 8) (q : Fin 1056) (e : Fin 1024), y = ix3 p q e := ⟨y 0, y 1, y 2, eq_ix3 y⟩
  by_cases h : q.val < 352
  · exact first m c p ⟨q.val, h⟩ e
  · by_cases h' : q.val < 704
    · obtain ⟨f, hf⟩ : ∃ f : Fin 352, q = ⟨352 + f.val, by omega⟩ := ⟨⟨q.val - 352, by omega⟩, Fin.ext (by simp; omega)⟩
      rw [hf]
      exact third m c p f e
    · obtain ⟨f, hf⟩ : ∃ f : Fin 352, q = ⟨704 + f.val, by omega⟩ := ⟨⟨q.val - 704, by omega⟩, Fin.ext (by simp; omega)⟩
      rw [hf]
      exact second m c p f e

end Cert.Kernel2Ideal.FfnW

namespace Cert.FfnWClaim

open Idealize.ShloMosaic Idealize.ShloMosaic.TcCoe Idealize.SL.Sem Idealize.ShloMosaic.Tactic
open Cert.Reference2Ideal.Read

theorem frame_p : Cert.quiescent_Kernel2 := fun m ρ _ => Cert.Kernel2.Gen.frame m ρ

theorem frame_pi : Cert.quiescent_Kernel2Ideal := fun m ρ _ => Cert.Kernel2Ideal.Gen.frame m ρ

theorem frame_ri : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Equal arguments give equal results. -/
theorem algebraic : Cert.algebraic_Kernel2Ideal_Reference2Ideal := by
  intro m g m' g' _ hagree
  have hV : ∀ c : Dev Cert.Kernel2Ideal.nD,
      StableHlo.launchContents m' c (Proc.devRef .tc Cert.Reference2Ideal.main_arg0) = Cert.Kernel2Ideal.FfnW.A0 m c
      ∧ StableHlo.launchContents m' c (Proc.devRef .tc Cert.Reference2Ideal.main_arg1) = Cert.Kernel2Ideal.FfnW.A1 m c
      ∧ StableHlo.launchContents m' c (Proc.devRef .tc Cert.Reference2Ideal.main_arg2) = Cert.Kernel2Ideal.FfnW.A2 m c
      ∧ StableHlo.launchContents m' c (Proc.devRef .tc Cert.Reference2Ideal.main_arg3) = Cert.Kernel2Ideal.FfnW.A3 m c
      ∧ StableHlo.launchContents m' c (Proc.devRef .tc Cert.Reference2Ideal.main_arg4) = Cert.Kernel2Ideal.FfnW.A4 m c
      ∧ StableHlo.launchContents m' c (Proc.devRef .tc Cert.Reference2Ideal.main_arg5) = Cert.Kernel2Ideal.FfnW.A5 m c
      ∧ StableHlo.launchContents m' c (Proc.devRef .tc Cert.Reference2Ideal.main_arg6) = Cert.Kernel2Ideal.FfnW.A6 m c := hagree
  refine ⟨fun c => Cert.Kernel2Ideal.FfnW.gwG m c, ?_, ?_⟩
  · refine (θ_run Cert.Kernel2Ideal.defs _ _).mono (fun r h c => ?_) (Cert.Kernel2Ideal.Value.run_blocks m g)
    obtain ⟨h0, h1⟩ := h c
    exact ⟨h0.trans (Cert.Kernel2Ideal.FfnW.final6 m c), h1⟩
  · refine (θ_run Cert.Reference2Ideal.defs _ _).mono (fun r h c => ?_) (Cert.Reference2Ideal.Value.run (F := Ideal) m' g')
    obtain ⟨h0, h1⟩ := h c
    obtain ⟨e0, e1, e2, e3, e4, e5, e6⟩ := hV c
    refine ⟨h0.trans ((val_main_v70_eq _).trans ?_), h1⟩
    rw [e0, e1, e2, e3, e4, e5, e6]
    exact (Cert.Kernel2Ideal.FfnW.res m c).symm

end Cert.FfnWClaim

end
-- ==== Proof.MixWPay.lean ====
/-
  What the kernel of the mixers' input weights' gradients computes on one tile of 2048 rows and one shard of 512 columns
  of each product, read at an index over the extended reals.
-/
module

public import proofs.«01_k».proof.Proof.Gen.Kernel3Ideal.Skeleton
public import Idealize.ShloMosaic.Lib.Pointwise
public import Idealize.ShloMosaic.Lib.IdealHost

@[expose] public section

set_option maxRecDepth 16384

noncomputable section

namespace Cert.Kernel3Ideal.MixW

open Idealize.ShloMosaic Idealize.ShloMosaic.TcCoe
open Cert.Kernel3Ideal Cert.Kernel3Ideal.Gen

theorem pay3_apply (g e : Fin 1024) : k0_pay3 (F := Ideal) (ix2 g e) = 0 := by
  pointwise [k0_pay3]

theorem pay4_apply (k : Fin 8) (q : Fin 512) : k0_pay4 (F := Ideal) (ix3 0 k q) = 0 := by
  pointwise [k0_pay4]

theorem pay7_apply (x2 : Vec Ideal S2048x1024 .bf16) (acc : Vec Ideal S512x1024 .f32) (x0 : Vec Ideal S1x2048x512 .bf16) (g : Fin 512) (e : Fin 1024) :
    k0_pay7 (F := Ideal) x2 acc x0 (ix2 g e) = acc (ix2 g e) + ∑ r, x0 (ix3 0 r g) * x2 (ix2 r e) := by
  pointwise [k0_pay7, k0_pay5]

theorem pay8_apply (x2 : Vec Ideal S2048x1024 .bf16) (x1 : Vec Ideal S1x2048x512 .bf16) (acc : Vec Ideal S512x1024 .f32) (g : Fin 512) (e : Fin 1024) :
    k0_pay8 (F := Ideal) x2 x1 acc (ix2 g e) = acc (ix2 g e) + ∑ r, x1 (ix3 0 r g) * x2 (ix2 r e) := by
  pointwise [k0_pay8, k0_pay5, k0_pay6]

theorem pay9_apply (x1 : Vec Ideal S1x2048x512 .bf16) (v : Vec Ideal S1x1x512 .f32) (q : Fin 512) :
    k0_pay1 (F := Ideal) (k0_pay9 (F := Ideal) x1 v) (ix3 0 0 q) = v (ix3 0 0 q) + ∑ r, x1 (ix3 0 r q) := by
  pointwise [k0_pay1, k0_pay9, k0_pay6]

theorem pay2_apply (v : Vec Ideal S1024x1024 .f32) (g e : Fin 1024) : k0_pay2 (F := Ideal) v (ix3 0 g e) = v (ix2 g e) := by
  pointwise [k0_pay2]

end Cert.Kernel3Ideal.MixW

end
-- ==== Proof.Bands.lean ====
/-
  Bands of whole rows of a matrix, or of a stack of one matrix: where a load of a band reads, and what a load sees of
  earlier stores.
-/
module

public import proofs.«01_k».proof.Proof.FfnWBlock

@[expose] public section

noncomputable section

namespace Cert.Bands

open Idealize.ShloMosaic Idealize.ShloMosaic.TcCoe Idealize.SL.Sem Idealize.ShloMosaic.Tactic

/-- Where a load of a band of rows reads. -/
theorem idx {R C W o : Nat} (inb : ∀ a, (![o, 0] : Fin 2 → Nat) a + (![W, C] : Fin 2 → Nat) a ≤ (⟨2, ![R, C]⟩ : Shape).size a) (q : Fin W) (e : Fin C)
    (h : o + q.val < R) : (Rect.unit (s := ⟨2, ![R, C]⟩) ![o, 0] ![W, C] inb).emb (ix2 q e) = ix2 ⟨o + q.val, h⟩ e := by
  funext a
  apply Fin.ext
  rw [Rect.emb_apply]
  fin_cases a
  · show o + 1 * q.val = o + q.val
    omega
  · show 0 + 1 * e.val = e.val
    omega

theorem ld {R C W o : Nat} {φ : EltTy} (X : (⟨2, ![R, C]⟩ : Shape).Idx → Elt Ideal φ)
    (inb : ∀ a, (![o, 0] : Fin 2 → Nat) a + (![W, C] : Fin 2 → Nat) a ≤ (⟨2, ![R, C]⟩ : Shape).size a) (q : Fin W) (e : Fin C) (h : o + q.val < R) :
    View.ld (Val := Elt Ideal) X (Rect.unit (s := ⟨2, ![R, C]⟩) ![o, 0] ![W, C] inb) (ix2 q e) = X (ix2 ⟨o + q.val, h⟩ e) :=
  congrArg X (idx inb q e h)

theorem cov {sig : RefSig} {κ : Kind} {sp : Space} {R C W o : Nat} (v : View sig κ sp (⟨2, ![R, C]⟩ : Shape) .f32)
    (L : List (View.Piece (Elt Ideal) (⟨2, ![R, C]⟩ : Shape) .f32))
    (inb : ∀ a, (![o, 0] : Fin 2 → Nat) a + (![W, C] : Fin 2 → Nat) a ≤ (⟨2, ![R, C]⟩ : Shape).size a) (q : Fin W) (e : Fin C) (h : o + q.val < R) :
    v.readCov L (Rect.unit (s := ⟨2, ![R, C]⟩) ![o, 0] ![W, C] inb).toLoadRect (ix2 q e) = View.canon (Val := Elt Ideal) L (ix2 ⟨o + q.val, h⟩ e) := by
  rw [View.readCov_eq_canon']
  exact congrArg (View.canon (Val := Elt Ideal) L) (idx inb q e h)

end Cert.Bands

end
-- ==== Proof.MixWBlock.lean ====
/-
  What the kernel of the mixers' input weights' gradients leaves in its accumulator and in its outputs' blocks at one grid
  point, over the extended reals.
-/
module

public import proofs.«01_k».proof.Proof.Gen.Kernel3Ideal.Frame
public import proofs.«01_k».proof.Proof.MixWPay
public import proofs.«01_k».proof.Proof.Bands

@[expose] public section

set_option maxRecDepth 16384

noncomputable section

namespace Cert.Kernel3Ideal.MixW

open Idealize.ShloMosaic Idealize.ShloMosaic.TcCoe Idealize.SL.Sem Idealize.ShloMosaic.Tactic
open Cert.Kernel3Ideal Cert.Kernel3Ideal.Gen
open Cert.Kernel2Ideal.FfnW (hz2 hz3 band_mem band_not_mem)

variable (c : Dev nD) (i : grid0.Coords) (a2 : Memref sig .tc .vmem S1x2048x512 .bf16) (h2 : a2.IsWhole)
  (a3 : Memref sig .tc .vmem S1x2048x512 .bf16) (h3 : a3.IsWhole)
  (a4 : Memref sig .tc .vmem S2048x1024 .bf16) (h4 : a4.IsWhole)
  (a5 : Memref sig .tc .vmem S1x1024x1024 .bf16) (h5 : a5.IsWhole)
  (a6 : Memref sig .tc .vmem S1x8x512 .f32) (h6 : a6.IsWhole)
  (a7 : Memref sig .tc .vmem S1024x1024 .f32) (h7 : a7.IsWhole)
variable (x0 x1 : Vec Ideal S1x2048x512 .bf16) (x2 : Vec Ideal S2048x1024 .bf16) (xo : Vec Ideal S1x8x512 .f32) (xs : Vec Ideal S1024x1024 .f32)

/-- One tile's part of the sums: rows `0 … 511` for the input weight, the rest for the gates' weight. -/
def tile (g : Fin 1024) (e : Fin 1024) : EReal :=
  if h : g.val < 512 then ∑ r, x0 (ix3 0 r ⟨g.val, h⟩) * x2 (ix2 r e)
  else ∑ r, x1 (ix3 0 r ⟨g.val - 512, by omega⟩) * x2 (ix2 r e)

/-- The two bands of sums stored over earlier stores, each band added to what a load gave. -/
theorem bands (X : Vec Ideal S1024x1024 .f32) (l0 l1 : Vec Ideal S512x1024 .f32) (L : List (View.Piece (Elt Ideal) S1024x1024 .f32))
    (e0 : ∀ (q : Fin 512) (e : Fin 1024), l0 (ix2 q e) = X (ix2 ⟨0 + q.val, by omega⟩ e))
    (e1 : ∀ (q : Fin 512) (e : Fin 1024), l1 (ix2 q e) = X (ix2 ⟨512 + q.val, by omega⟩ e)) (g : Fin 1024) (e : Fin 1024) :
    View.canon (Val := Elt Ideal)
      (⟨Rect.unit (s := S1024x1024) ![512, 0] ![512, 1024] inb_S1024x1024_S512x1024_512_0, k0_pay8 (F := Ideal) x2 x1 l1⟩
        :: ⟨Rect.unit (s := S1024x1024) ![0, 0] ![512, 1024] inb_S1024x1024_S512x1024_0_0, k0_pay7 (F := Ideal) x2 l0 x0⟩ :: L) (ix2 g e)
      = X (ix2 g e) + tile x0 x1 x2 g e := by
  unfold tile
  by_cases h : g.val < 512
  · rw [dif_pos h]
    refine (band_not_mem _ _ _ g e (Or.inl (by omega))).trans ((band_mem _ _ _ g e ⟨g.val, h⟩ (by simp)).trans ?_)
    rw [pay7_apply, e0]
    exact congrArg₂ (· + ·) (congrArg X (congrArg (fun q => ix2 q e) (Fin.ext (by simp)))) rfl
  · rw [dif_neg h]
    refine (band_mem _ _ _ g e ⟨g.val - 512, by omega⟩ (by simp; omega)).trans ?_
    rw [pay8_apply, e1]
    exact congrArg₂ (· + ·) (congrArg X (congrArg (fun q => ix2 q e) (Fin.ext (by simp; omega)))) rfl

theorem canon_zero (g : Fin 1024) (e : Fin 1024) :
    View.canon (Val := Elt Ideal) (e := .f32) [⟨Rect.unit (s := S1024x1024) ![0, 0] ![1024, 1024] inb_S1024x1024_S1024x1024_0_0, (k0_pay3 (F := Ideal) : S1024x1024.Idx → EReal)⟩] (ix2 g e) = 0 :=
  (band_mem _ _ _ g e g (by simp)).trans (pay3_apply g e)

theorem sout_A (hc0 : cond0_0 i) (hc1 : ¬cond0_1 i) (g : Fin 1024) (e : Fin 1024) :
    sout0_A_0 (F := Ideal) c i a2 h2 a3 h3 a4 h4 a5 h5 a6 h6 a7 h7 hc0 hc1 x0 x1 x2 (ix2 g e) = tile x0 x1 x2 g e := by
  unfold sout0_A_0
  rw [View.read_writes_eq_canon _ _ _ (scover0_A_0 (F := Ideal) c i a2 h2 a3 h3 a4 h4 a5 h5 a6 h6 a7 h7 hc0 hc1 x0 x1 x2)]
  unfold kernelRun0_A
  dsimp only
  sl_unfold_words
  simp only [View.readAt_eq_ld, Memref.IsWhole.read_unread, View.ld_unit_zero (S := S2048x1024) hz2, View.ld_unit_zero (S := S1x2048x512) hz3]
  refine (bands x0 x1 x2 (fun _ => 0) _ _ _ (fun q e => ?_) (fun q e => ?_) g e).trans (zero_add _)
  · exact (Bands.cov _ _ _ q e (by omega)).trans (canon_zero _ _)
  · exact (Bands.cov _ _ _ q e (by omega)).trans ((band_not_mem _ _ _ _ e (Or.inr (by simp))).trans (canon_zero _ _))

theorem canon_B (hc0 : ¬cond0_0 i) (hc1 : cond0_1 i) (g : Fin 1024) (e : Fin 1024) :
    View.canon (Val := Elt Ideal) (kernelRun0_B (F := Ideal) c i a2 h2 a3 h3 a4 h4 a5 h5 a6 h6 a7 h7 hc0 hc1 x0 x1 x2 xo xs).2.2.1 (ix2 g e) = xs (ix2 g e) + tile x0 x1 x2 g e := by
  unfold kernelRun0_B
  dsimp only
  sl_unfold_words
  simp only [View.readAt_eq_ld, Memref.IsWhole.read_unread, View.ld_unit_zero (S := S2048x1024) hz2, View.ld_unit_zero (S := S1x2048x512) hz3]
  exact bands x0 x1 x2 xs _ _ _ (fun q e => Bands.ld xs _ q e (by omega)) (fun q e => Bands.ld xs _ q e (by omega)) g e

theorem out3_B (hc0 : ¬cond0_0 i) (hc1 : cond0_1 i) (g : Fin 1024) (e : Fin 1024) :
    out0_B_3 (F := Ideal) c i a2 h2 a3 h3 a4 h4 a5 h5 a6 h6 a7 h7 hc0 hc1 x0 x1 x2 xo xs (ix3 0 g e) = xs (ix2 g e) + tile x0 x1 x2 g e := by
  unfold out0_B_3
  rw [View.read_writes_eq_canon _ _ _ (cover0_B_3 (F := Ideal) c i a2 h2 a3 h3 a4 h4 a5 h5 a6 h6 a7 h7 hc0 hc1 x0 x1 x2 xo xs)]
  unfold kernelRun0_B
  dsimp only
  sl_unfold_words
  simp only [View.readAt_eq_ld, Memref.IsWhole.read_unread, View.ld_unit_zero (S := S2048x1024) hz2, View.ld_unit_zero (S := S1x2048x512) hz3]
  rw [View.canon_unit_zero hz3]
  rw [pay2_apply]
  refine (Bands.cov _ _ _ g e (by omega)).trans ?_
  refine (bands x0 x1 x2 xs _ _ _ (fun q e => Bands.ld xs _ q e (by omega)) (fun q e => Bands.ld xs _ q e (by omega)) _ e).trans ?_
  have hg : (⟨0 + g.val, by omega⟩ : Fin 1024) = g := Fin.ext (by simp)
  rw [hg]

/-- The rows' sum that one tile adds to the bias's gradient. -/
abbrev biasT (q : Fin 512) : EReal := ∑ r, x1 (ix3 0 r q)

theorem zeros (y : S1x8x512.Idx) : k0_pay4 (F := Ideal) y = 0 := by
  obtain ⟨k, q, rfl⟩ : ∃ (k : Fin 8) (q : Fin 512), y = ix3 0 k q :=
    ⟨y 1, y 2, by rw [eq_ix3 y]; congr 1; exact Subsingleton.elim (α := Fin 1) _ _⟩
  exact pay4_apply k q

theorem at_row (q : Fin 512) (a : Fin 3) : ((ix3 0 0 q : S1x8x512.Idx) a).val = (![0, 0, 0] : Fin 3 → Nat) a + ((ix3 0 0 q : S1x1x512.Idx) a).val := by
  fin_cases a
  · rfl
  · rfl
  · show q.val = 0 + q.val
    omega

theorem off_row (k : Fin 8) (hk : k ≠ 0) (q : Fin 512) : (![0, 0, 0] : Fin 3 → Nat) 1 + (![1, 1, 512] : Fin 3 → Nat) 1 ≤ ((ix3 0 k q : S1x8x512.Idx) 1).val := by
  show 0 + 1 ≤ k.val
  have := Fin.val_ne_of_ne hk
  simp at this
  omega

theorem out4_A_row (hc0 : cond0_0 i) (hc1 : ¬cond0_1 i) (q : Fin 512) :
    out0_A_4 (F := Ideal) c i a2 h2 a3 h3 a4 h4 a5 h5 a6 h6 a7 h7 hc0 hc1 x0 x1 x2 (ix3 0 0 q) = biasT x1 q := by
  unfold out0_A_4
  unfold kernelRun0_A
  dsimp only
  sl_unfold_words
  simp only [View.readAt_eq_ld, Memref.IsWhole.read_unread, View.ld_unit_zero (S := S2048x1024) hz2, View.ld_unit_zero (S := S1x2048x512) hz3]
  refine Eq.trans (View.read_writes_cons_unit_of_mem VO0_4 _ _ _ _ (ix3 0 0 q) (ix3 0 0 q) rfl (at_row q)) ?_
  rw [pay9_apply, View.readCov_eq_canon', View.canon_unit_zero hz3]
  dsimp only
  rw [zeros, zero_add]

theorem out4_A_rest (hc0 : cond0_0 i) (hc1 : ¬cond0_1 i) (k : Fin 8) (hk : k ≠ 0) (q : Fin 512) :
    out0_A_4 (F := Ideal) c i a2 h2 a3 h3 a4 h4 a5 h5 a6 h6 a7 h7 hc0 hc1 x0 x1 x2 (ix3 0 k q) = 0 := by
  unfold out0_A_4
  unfold kernelRun0_A
  dsimp only
  sl_unfold_words
  simp only [View.readAt_eq_ld, Memref.IsWhole.read_unread, View.ld_unit_zero (S := S2048x1024) hz2, View.ld_unit_zero (S := S1x2048x512) hz3]
  refine Eq.trans (View.read_writes_cons_unit_of_not_mem VO0_4 _ _ _ _ (ix3 0 k q) rfl 1 (Or.inr (off_row k hk q))) ?_
  refine Eq.trans (View.read_writes_cons_unit_of_mem VO0_4 _ _ _ _ (ix3 0 k q) (ix3 0 k q) rfl (fun a => ?_)) (zeros _)
  fin_cases a
  · rfl
  · show k.val = 0 + k.val
    omega
  · show q.val = 0 + q.val
    omega

theorem out4_B_row (hc0 : ¬cond0_0 i) (hc1 : cond0_1 i) (q : Fin 512) :
    out0_B_4 (F := Ideal) c i a2 h2 a3 h3 a4 h4 a5 h5 a6 h6 a7 h7 hc0 hc1 x0 x1 x2 xo xs (ix3 0 0 q) = xo (ix3 0 0 q) + biasT x1 q := by
  unfold out0_B_4
  unfold kernelRun0_B
  dsimp only
  sl_unfold_words
  simp only [View.readAt_eq_ld, Memref.IsWhole.read_unread, View.ld_unit_zero (S := S2048x1024) hz2, View.ld_unit_zero (S := S1x2048x512) hz3]
  refine Eq.trans (View.read_writes_cons_unit_of_mem a6.view _ _ _ _ (ix3 0 0 q) (ix3 0 0 q) rfl (at_row q)) ?_
  rw [pay9_apply]
  refine congrArg₂ (· + ·) (congrArg xo (funext fun a => Fin.ext ?_)) rfl
  fin_cases a
  · rfl
  · rfl
  · show 0 + 1 * q.val = q.val
    omega

theorem out4_B_rest (hc0 : ¬cond0_0 i) (hc1 : cond0_1 i) (k : Fin 8) (hk : k ≠ 0) (q : Fin 512) :
    out0_B_4 (F := Ideal) c i a2 h2 a3 h3 a4 h4 a5 h5 a6 h6 a7 h7 hc0 hc1 x0 x1 x2 xo xs (ix3 0 k q) = xo (ix3 0 k q) := by
  unfold out0_B_4
  unfold kernelRun0_B
  dsimp only
  sl_unfold_words
  simp only [View.readAt_eq_ld, Memref.IsWhole.read_unread, View.ld_unit_zero (S := S2048x1024) hz2, View.ld_unit_zero (S := S1x2048x512) hz3]
  refine Eq.trans (View.read_writes_cons_unit_of_not_mem a6.view _ _ _ _ (ix3 0 k q) rfl 1 (Or.inr (off_row k hk q))) ?_
  show View.read _ a6.view (h6.unread xo) (ix3 0 k q) = _
  rw [Memref.IsWhole.read_unread]

end Cert.Kernel3Ideal.MixW

end
-- ==== Proof.MixWArr.lean ====
/-
  The mixers' input weights' gradients after the run, over the extended reals: functions of the arrays that the call is
  given.
-/
module

public import proofs.«01_k».proof.Proof.Gen.Kernel3Ideal.Value
public import proofs.«01_k».proof.Proof.MixWBlock
public import Idealize.ShloMosaic.Lib.Pipeline.ValueKit

@[expose] public section

set_option maxRecDepth 16384

noncomputable section

namespace Cert.Kernel3Ideal.MixW

open Idealize.ShloMosaic Idealize.ShloMosaic.TcCoe Idealize.SL.Sem Idealize.ShloMosaic.Tactic
open Cert.Kernel3Ideal Cert.Kernel3Ideal.Gen

variable (m : (ℓ : Loc nD τ sig) → Buf (Elt Ideal) ℓ) (c : Dev nD)

/-- The normed input. -/
abbrev HB : S4096x1024.Idx → EReal := V m c main_v0_0
/-- The gradient of the mixers' inputs, by shards of columns. -/
abbrev DZ : S8x4096x512.Idx → EReal := V m c main_v0_1
/-- The gradient of the gates before the sigmoid, by branches. -/
abbrev DG : S4x4096x1024.Idx → EReal := V m c main_v0_2

/-- The shard of a point. -/
abbrev shard (t : Fin cfg0.N) : Fin 8 := ⟨t.val / 2, by have := t.isLt; have : cfg0.N = 16 := N_0; omega⟩
/-- Row `r` of a point's tile. -/
abbrev row (t : Fin cfg0.N) (r : Fin 2048) : Fin 4096 := ⟨t.val % 2 * 2048 + r.val, by omega⟩
/-- Column `q` of a shard, as a column of one of the four branches. -/
abbrev br (p : Fin 8) : Fin 4 := ⟨p.val / 2, by omega⟩
abbrev bcol (p : Fin 8) (q : Fin 512) : Fin 1024 := ⟨p.val % 2 * 512 + q.val, by omega⟩

theorem pos0 : ∀ t : Fin cfg0.N, win0_0.index t = ![t.val / 2, t.val % 2, 0] := by decide +kernel
theorem pos1 : ∀ t : Fin cfg0.N, win0_1.index t = ![t.val / 2 / 2, t.val % 2, t.val / 2 % 2] := by decide +kernel
theorem pos2 : ∀ t : Fin cfg0.N, win0_2.index t = ![t.val % 2, 0] := by decide +kernel
theorem pos3 : ∀ t : Fin cfg0.N, win0_3.index t = ![t.val / 2, 0, 0] := by decide +kernel
theorem pos4 : ∀ t : Fin cfg0.N, win0_4.index t = ![t.val / 2, 0, 0] := by decide +kernel

theorem blk0 (t : Fin cfg0.N) (r : Fin 2048) (q : Fin 512) : iblk m c 0 t (ix3 0 r q) = DZ m c (ix3 (shard t) (row t r) q) := by
  blk_ext [iblk, pos0 t]
theorem blk1 (t : Fin cfg0.N) (r : Fin 2048) (q : Fin 512) : iblk m c 1 t (ix3 0 r q) = DG m c (ix3 (br (shard t)) (row t r) (bcol (shard t) q)) := by
  blk_ext [iblk, pos1 t]
theorem blk2 (t : Fin cfg0.N) (r : Fin 2048) (e : Fin 1024) : iblk m c 2 t (ix2 r e) = HB m c (ix2 (row t r) e) := by
  blk_ext [iblk, pos2 t]

/-- One row's part of a sum. -/
def term (p : Fin 8) (g : Fin 1024) (e : Fin 1024) (r : Fin 4096) : EReal :=
  if h : g.val < 512 then DZ m c (ix3 p r ⟨g.val, h⟩) * HB m c (ix2 r e)
  else DG m c (ix3 (br p) r (bcol p ⟨g.val - 512, by omega⟩)) * HB m c (ix2 r e)

theorem tile_eq (t : Fin cfg0.N) (g : Fin 1024) (e : Fin 1024) :
    tile (iblk m c 0 t) (iblk m c 1 t) (iblk m c 2 t) g e = ∑ r, term m c (shard t) g e (row t r) := by
  unfold tile term
  by_cases h : g.val < 512
  · simp only [dif_pos h, blk0, blk2]
  · simp only [dif_neg h, blk1, blk2]

theorem bias_eq (t : Fin cfg0.N) (q : Fin 512) :
    biasT (iblk m c 1 t) q = ∑ r, DG m c (ix3 (br (shard t)) (row t r) (bcol (shard t) q)) := by
  exact Finset.sum_congr rfl fun r _ => blk1 m c t r q

/-- A sum over the rows in two tiles. -/
theorem two_tiles (f : Fin 4096 → EReal) (t s : Fin cfg0.N) (hs : s.val % 2 = 0) (ht : t.val % 2 = 1) :
    ∑ r, f (row s r) + ∑ r, f (row t r) = ∑ r, f r := by
  refine Eq.trans ?_ (Fin.sum_univ_add (a := 2048) (b := 2048) f).symm
  refine congrArg₂ (· + ·) (Finset.sum_congr rfl fun r _ => congrArg f (Fin.ext ?_)) (Finset.sum_congr rfl fun r _ => congrArg f (Fin.ext ?_))
  · show s.val % 2 * 2048 + r.val = r.val
    omega
  · show t.val % 2 * 2048 + r.val = 2048 + r.val
    omega

/-- The gradients of the two weights in the kernel's layout: shard `p` has its 512 columns of each. -/
def gwG (y : S8x1024x1024.Idx) : EReal := ∑ r : Fin 4096, term m c (y 0) (y 1) (y 2) r

/-- The gradient of the gates' bias: in the first row of a shard's eight. -/
def bgG (y : S8x8x512.Idx) : EReal := if (y 1).val = 0 then ∑ r : Fin 4096, DG m c (ix3 (br (y 0)) r (bcol (y 0) (y 2))) else 0

theorem last3 : ∀ t : Fin cfg0.N, (cfg0.win 3).flush t = true → t.val % 2 = 1 := by decide +kernel
theorem last4 : ∀ t : Fin cfg0.N, (cfg0.win 4).flush t = true → t.val % 2 = 1 := by decide +kernel

theorem emb3 (t : Fin cfg0.N) (g e : Fin 1024) : (win0_3.blk t).view.emb (ix3 0 g e) = ix3 (shard t) g e := by
  blk_ext [pos3 t]
theorem emb4 (t : Fin cfg0.N) (k : Fin 8) (q : Fin 512) : (win0_4.blk t).view.emb (ix3 0 k q) = ix3 (shard t) k q := by
  blk_ext [pos4 t]

/-- The point before. -/
abbrev prev (t : Fin cfg0.N) : Fin cfg0.N := ⟨t.val - 1, Nat.lt_of_le_of_lt (Nat.sub_le _ _) t.isLt⟩

theorem shard_prev (t : Fin cfg0.N) (h1 : t.val % 2 = 1) : shard (prev t) = shard t := Fin.ext (by
  show (t.val - 1) / 2 = t.val / 2
  omega)

theorem o3 (t : Fin cfg0.N) (h1 : t.val % 2 = 1) (g e : Fin 1024) :
    (outsAt0 m c t.val t.isLt).1 (ix3 0 g e) = gwG m c (ix3 (shard t) g e) := by
  have h0 : (prev t).val % 2 = 0 := by show (t.val - 1) % 2 = 0; omega
  rw [outsAt0_B m c t (by omega) h1]
  dsimp only
  rw [out3_B]
  have ha := congrArg (fun o => o.2.2 (ix2 g e)) (outsAt0_A m c (prev t) h0 (by omega))
  dsimp only at ha
  rw [sout_A, tile_eq, shard_prev t h1] at ha
  rw [tile_eq]
  exact (congrArg₂ (· + ·) ha rfl).trans (two_tiles (term m c (shard t) g e) t (prev t) h0 h1)

theorem o4_row (t : Fin cfg0.N) (h1 : t.val % 2 = 1) (q : Fin 512) :
    (outsAt0 m c t.val t.isLt).2.1 (ix3 0 0 q) = ∑ r : Fin 4096, DG m c (ix3 (br (shard t)) r (bcol (shard t) q)) := by
  have h0 : (prev t).val % 2 = 0 := by show (t.val - 1) % 2 = 0; omega
  rw [outsAt0_B m c t (by omega) h1]
  dsimp only
  rw [out4_B_row]
  have ha := congrArg (fun o => o.2.1 (ix3 0 0 q)) (outsAt0_A m c (prev t) h0 (by omega))
  dsimp only at ha
  rw [out4_A_row, bias_eq, shard_prev t h1] at ha
  rw [bias_eq]
  exact (congrArg₂ (· + ·) ha rfl).trans (two_tiles (fun r => DG m c (ix3 (br (shard t)) r (bcol (shard t) q))) t (prev t) h0 h1)

theorem o4_rest (t : Fin cfg0.N) (h1 : t.val % 2 = 1) (k : Fin 8) (hk : k ≠ 0) (q : Fin 512) :
    (outsAt0 m c t.val t.isLt).2.1 (ix3 0 k q) = 0 := by
  have h0 : (prev t).val % 2 = 0 := by show (t.val - 1) % 2 = 0; omega
  rw [outsAt0_B m c t (by omega) h1]
  dsimp only
  rw [out4_B_rest (hk := hk)]
  have ha := congrArg (fun o => o.2.1 (ix3 0 k q)) (outsAt0_A m c (prev t) h0 (by omega))
  dsimp only at ha
  rw [out4_A_rest (hk := hk)] at ha
  exact ha

theorem final3 : (dats m 0 c).arrAt 3 cfg0.N = gwG m c := by
  refine (dats m 0 c).arrAt_eq_of_covers 3 _ (by decide +kernel) fun t hf y => ?_
  blk_simp
  obtain ⟨g, e, rfl⟩ : ∃ (g e : Fin 1024), y = ix3 0 g e :=
    ⟨y 1, y 2, by rw [eq_ix3 y]; congr 1; exact Subsingleton.elim (α := Fin 1) _ _⟩
  rw [after0_3, o3 m c t (last3 t hf), emb3]

theorem final4 : (dats m 0 c).arrAt 4 cfg0.N = bgG m c := by
  refine (dats m 0 c).arrAt_eq_of_covers 4 _ (by decide +kernel) fun t hf y => ?_
  blk_simp
  obtain ⟨k, q, rfl⟩ : ∃ (k : Fin 8) (q : Fin 512), y = ix3 0 k q :=
    ⟨y 1, y 2, by rw [eq_ix3 y]; congr 1; exact Subsingleton.elim (α := Fin 1) _ _⟩
  rw [after0_4, emb4]
  by_cases hk : k = 0
  · subst hk
    exact (o4_row m c t (last4 t hf) q).trans (if_pos rfl).symm
  · exact (o4_rest m c t (last4 t hf) k hk q).trans (if_neg fun h => hk (Fin.ext h)).symm

end Cert.Kernel3Ideal.MixW

end
-- ==== Proof.MixWRef.lean ====
/-
  The reference of the mixers' input weights' gradients, read at an index over the extended reals.
-/
module

public import proofs.«01_k».proof.Proof.Gen.Reference3Ideal.Read
public import Idealize.ShloMosaic.Lib.Pointwise
public import Idealize.ShloMosaic.Lib.IdealHost

@[expose] public section

set_option maxRecDepth 16384

noncomputable section

namespace Cert.Reference3Ideal.MixW

open Idealize.ShloMosaic Idealize.ShloMosaic.TcCoe
open Cert.Reference3Ideal Cert.Reference3Ideal.Read

variable (x0 : S4096x1024.Idx → EReal) (x1 : S4096x4096.Idx → EReal) (x2 : S4096x1024.Idx → EReal) (x3 : S1024.Idx → EReal)
  (x4 x5 x6 x7 : S4096x512.Idx → EReal) (x9 : S4x512x1024.Idx → EReal) (x10 : S1024x4096.Idx → EReal) (x11 : S4096.Idx → EReal)
  (x12 : S1024x1024.Idx → EReal) (x13 : S1024.Idx → EReal)

theorem input_apply (p : Fin 8) (g : Fin 512) (e : Fin 1024) :
    val_main_v119 (F := Ideal) x0 x1 x2 x3 x4 x5 x6 x7 x9 x10 x11 x12 x13 (ix3 p ⟨g.val, by omega⟩ e)
      = ∑ r, x1 (ix2 r ⟨p.val * 512 + g.val, by omega⟩) * val_main_v24 (F := Ideal) x2 x3 (ix2 r e) := by
  pointwise [val_main_v119, val_main_v118, val_main_v115, val_main_v114, val_main_v113, val_main_v112]

theorem gate_apply (p : Fin 8) (g : Fin 512) (e : Fin 1024) :
    val_main_v119 (F := Ideal) x0 x1 x2 x3 x4 x5 x6 x7 x9 x10 x11 x12 x13 (ix3 p ⟨512 + g.val, by omega⟩ e)
      = ∑ r, val_main_v106 (F := Ideal) x0 x2 x3 x4 x5 x6 x7 x9 x10 x11 x12 x13 (ix2 r ⟨p.val * 512 + g.val, by omega⟩) * val_main_v24 (F := Ideal) x2 x3 (ix2 r e) := by
  pointwise [val_main_v119, val_main_v118, val_main_v117, val_main_v116, val_main_v111, val_main_v110]

theorem bias_row (p : Fin 8) (q : Fin 512) :
    val_main_v122 (F := Ideal) x0 x2 x3 x4 x5 x6 x7 x9 x10 x11 x12 x13 (ix3 p 0 q)
      = ∑ r, val_main_v106 (F := Ideal) x0 x2 x3 x4 x5 x6 x7 x9 x10 x11 x12 x13 (ix2 r ⟨p.val * 512 + q.val, by omega⟩) := by
  pointwise [val_main_v122, val_main_v120, val_main_v109, val_main_v108, val_main_v107, val_main_cst_16, val_main_cst_17]
  exact Fin.sum_univ_one _

theorem bias_rest (p : Fin 8) (k : Fin 8) (hk : k ≠ 0) (q : Fin 512) :
    val_main_v122 (F := Ideal) x0 x2 x3 x4 x5 x6 x7 x9 x10 x11 x12 x13 (ix3 p k q) = 0 := by
  have hk : ¬k.val < 1 := fun h => hk (Fin.ext (by simpa using h))
  pointwise [val_main_v122, val_main_v121, val_main_cst_18]
  rw [dif_neg hk]

end Cert.Reference3Ideal.MixW

end
-- ==== Proof.MixWHost.lean ====
/-
  The arrays that the mixers' input weights' kernel is given are the reference's own stages.
-/
module

public import proofs.«01_k».proof.Proof.MixWArr
public import proofs.«01_k».proof.Proof.MixWRef
public import Idealize.ShloMosaic.Lib.Claim
public import Idealize.ShloMosaic.Lib.StableHlo.ReadAt

@[expose] public section

set_option maxRecDepth 16384

noncomputable section

namespace Cert.Kernel3Ideal.MixW

open Idealize.ShloMosaic Idealize.ShloMosaic.TcCoe Idealize.SL.Sem Idealize.ShloMosaic.Tactic
open Cert.Kernel3Ideal Cert.Kernel3Ideal.Gen Cert.Reference3Ideal.Read

variable (m : (ℓ : Loc nD τ sig) → Buf (Elt Ideal) ℓ) (c : Dev nD)

/-- The block's cotangent. -/
abbrev A0 : S4096x1024.Idx → EReal := m ((c : Thread nD τ).loc main_arg0)
/-- The cotangent of the mixers' inputs. -/
abbrev A1 : S4096x4096.Idx → EReal := m ((c : Thread nD τ).loc main_arg1)
/-- The block's input. -/
abbrev A2 : S4096x1024.Idx → EReal := m ((c : Thread nD τ).loc main_arg2)
/-- The gain before the block. -/
abbrev A3 : S1024.Idx → EReal := m ((c : Thread nD τ).loc main_arg3)
/-- The four branches. -/
abbrev A4 : S4096x512.Idx → EReal := m ((c : Thread nD τ).loc main_arg4)
abbrev A5 : S4096x512.Idx → EReal := m ((c : Thread nD τ).loc main_arg5)
abbrev A6 : S4096x512.Idx → EReal := m ((c : Thread nD τ).loc main_arg6)
abbrev A7 : S4096x512.Idx → EReal := m ((c : Thread nD τ).loc main_arg7)
/-- The branches' weights. -/
abbrev A9 : S4x512x1024.Idx → EReal := m ((c : Thread nD τ).loc main_arg9)
/-- The gates' weight. -/
abbrev A10 : S1024x4096.Idx → EReal := m ((c : Thread nD τ).loc main_arg10)
/-- The gates' bias. -/
abbrev A11 : S4096.Idx → EReal := m ((c : Thread nD τ).loc main_arg11)
/-- The weight of the merged branches. -/
abbrev A12 : S1024x1024.Idx → EReal := m ((c : Thread nD τ).loc main_arg12)
/-- The gain after the block. -/
abbrev A13 : S1024.Idx → EReal := m ((c : Thread nD τ).loc main_arg13)

theorem HB_eq : HB m c = val_main_v24 (F := Ideal) (A2 m c) (A3 m c) := by
  unfold HB
  unfold V
  after_reads_simp
  rfl

/-- Columns in shards of 512. -/
abbrev cut8 (X : S4096x4096.Idx → EReal) : S8x4096x512.Idx → EReal :=
  fun y => X (ix2 (y 1) ⟨(y 0).val * 512 + (y 2).val, by
    have h0 : (y 0).val < 8 := (y 0).isLt
    have h2 : (y 2).val < 512 := (y 2).isLt
    omega⟩)

/-- Columns in branches of 1024. -/
abbrev cut4 (X : S4096x4096.Idx → EReal) : S4x4096x1024.Idx → EReal :=
  fun y => X (ix2 (y 1) ⟨(y 0).val * 1024 + (y 2).val, by
    have h0 : (y 0).val < 4 := (y 0).isLt
    have h2 : (y 2).val < 1024 := (y 2).isLt
    omega⟩)

/-- The shards as the program makes them. -/
theorem cut8_host (X : Vec Ideal S4096x4096 .f32) :
    truncf (F := Ideal) (φ := .f32) .bf16 (transpose S8x4096x512 [1, 0, 2] (shapeCast S4096x8x512 X shapeCasts_S4096x4096_S4096x8x512 : Vec Ideal S4096x8x512 .f32) transposes_S4096x8x512_S8x4096x512_1_0_2) bitsLt_bf16_f32 = (cut8 X : Vec Ideal S8x4096x512 .bf16) := by
  funext y
  obtain ⟨j, r, g, rfl⟩ : ∃ (j : Fin 8) (r : Fin 4096) (g : Fin 512), y = ix3 j r g := ⟨y 0, y 1, y 2, eq_ix3 y⟩
  pointwise
  rfl

/-- The branches as the program makes them. -/
theorem cut4_host (X : Vec Ideal S4096x4096 .f32) :
    truncf (F := Ideal) (φ := .f32) .bf16 (transpose S4x4096x1024 [1, 0, 2] (shapeCast S4096x4x1024 X shapeCasts_S4096x4096_S4096x4x1024 : Vec Ideal S4096x4x1024 .f32) transposes_S4096x4x1024_S4x4096x1024_1_0_2) bitsLt_bf16_f32 = (cut4 X : Vec Ideal S4x4096x1024 .bf16) := by
  funext y
  obtain ⟨j, r, g, rfl⟩ : ∃ (j : Fin 4) (r : Fin 4096) (g : Fin 1024), y = ix3 j r g := ⟨y 0, y 1, y 2, eq_ix3 y⟩
  pointwise
  rfl

theorem DZ_eq : DZ m c = cut8 (A1 m c) := by
  refine Eq.trans ?_ (cut8_host _)
  unfold DZ
  unfold V
  after_reads_simp
  rfl

theorem DG_eq : DG m c = cut4 (val_main_v106 (F := Ideal) (A0 m c) (A2 m c) (A3 m c) (A4 m c) (A5 m c) (A6 m c) (A7 m c) (A9 m c) (A10 m c) (A11 m c) (A12 m c) (A13 m c)) := by
  refine Eq.trans ?_ (cut4_host _)
  unfold DG
  unfold V
  after_reads_simp
  rfl

end Cert.Kernel3Ideal.MixW

end
-- ==== Proof.MixWClaim.lean ====
/-
  The mixers' input weights' gradients: the kernel's results are the reference's, and the claims on this call.
-/
module

public import proofs.«01_k».proof.Defs
public import proofs.«01_k».proof.Proof.MixWHost
public import proofs.«01_k».proof.Proof.Gen.Kernel3.Frame
public import proofs.«01_k».proof.Proof.Gen.Kernel3Ideal.Value
public import proofs.«01_k».proof.Proof.Gen.Reference3Ideal.Run

@[expose] public section

set_option maxRecDepth 16384

noncomputable section

namespace Cert.Kernel3Ideal.MixW

open Idealize.ShloMosaic Idealize.ShloMosaic.TcCoe Idealize.SL.Sem Idealize.ShloMosaic.Tactic
open Cert.Kernel3Ideal Cert.Kernel3Ideal.Gen Cert.Reference3Ideal.Read

variable (m : (ℓ : Loc nD τ sig) → Buf (Elt Ideal) ℓ) (c : Dev nD)

/-- A branch's column is the shard's column. -/
theorem cut4_col (X : S4096x4096.Idx → EReal) (p : Fin 8) (g : Fin 512) (r : Fin 4096) :
    cut4 X (ix3 (br p) r (bcol p g)) = X (ix2 r ⟨p.val * 512 + g.val, by omega⟩) :=
  congrArg X (congrArg (fun a => ix2 r a) (Fin.ext (by
    show p.val / 2 * 1024 + (p.val % 2 * 512 + g.val) = p.val * 512 + g.val
    omega)))

theorem gates_col (p : Fin 8) (g : Fin 512) (r : Fin 4096) : DG m c (ix3 (br p) r (bcol p g))
    = val_main_v106 (F := Ideal) (A0 m c) (A2 m c) (A3 m c) (A4 m c) (A5 m c) (A6 m c) (A7 m c) (A9 m c) (A10 m c) (A11 m c) (A12 m c) (A13 m c) (ix2 r ⟨p.val * 512 + g.val, by omega⟩) :=
  (congrFun (DG_eq m c) _).trans (cut4_col _ p g r)

theorem res3 : gwG m c
    = val_main_v119 (F := Ideal) (A0 m c) (A1 m c) (A2 m c) (A3 m c) (A4 m c) (A5 m c) (A6 m c) (A7 m c) (A9 m c) (A10 m c) (A11 m c) (A12 m c) (A13 m c) := by
  funext y
  obtain ⟨p, q, e, rfl⟩ : ∃ (p : Fin 8) (q : Fin 1024) (e : Fin 1024), y = ix3 p q e := ⟨y 0, y 1, y 2, eq_ix3 y⟩
  by_cases h : q.val < 512
  · refine Eq.trans ?_ (Cert.Reference3Ideal.MixW.input_apply _ _ _ _ _ _ _ _ _ _ _ _ _ p ⟨q.val, h⟩ e).symm
    refine Finset.sum_congr rfl fun r _ => (dif_pos h).trans ?_
    exact congrArg₂ (· * ·) (congrFun (DZ_eq m c) _) (congrFun (HB_eq m c) _)
  · obtain ⟨f, hf⟩ : ∃ f : Fin 512, q = ⟨512 + f.val, by omega⟩ := ⟨⟨q.val - 512, by omega⟩, Fin.ext (by simp; omega)⟩
    rw [hf]
    refine Eq.trans ?_ (Cert.Reference3Ideal.MixW.gate_apply _ _ _ _ _ _ _ _ _ _ _ _ _ p f e).symm
    refine Finset.sum_congr rfl fun r _ => (dif_neg (show ¬(512 + f.val) < 512 by omega)).trans ?_
    refine congrArg₂ (· * ·) (Eq.trans ?_ (gates_col m c p f r)) (congrFun (HB_eq m c) _)
    refine congrArg (fun a => DG m c (ix3 (br p) r (bcol p a))) (Fin.ext ?_)
    show 512 + f.val - 512 = f.val
    omega

theorem res4 : bgG m c
    = val_main_v122 (F := Ideal) (A0 m c) (A2 m c) (A3 m c) (A4 m c) (A5 m c) (A6 m c) (A7 m c) (A9 m c) (A10 m c) (A11 m c) (A12 m c) (A13 m c) := by
  funext y
  obtain ⟨p, k, q, rfl⟩ : ∃ (p : Fin 8) (k : Fin 8) (q : Fin 512), y = ix3 p k q := ⟨y 0, y 1, y 2, eq_ix3 y⟩
  by_cases hk : k = 0
  · subst hk
    rw [Cert.Reference3Ideal.MixW.bias_row]
    exact (if_pos rfl).trans (Finset.sum_congr rfl fun r _ => gates_col m c p q r)
  · rw [Cert.Reference3Ideal.MixW.bias_rest (hk := hk)]
    exact if_neg fun h => hk (Fin.ext h)

end Cert.Kernel3Ideal.MixW

namespace Cert.MixWClaim

open Idealize.ShloMosaic Idealize.ShloMosaic.TcCoe Idealize.SL.Sem Idealize.ShloMosaic.Tactic
open Cert.Reference3Ideal.Read Cert.Kernel3Ideal.MixW

theorem frame_p : Cert.quiescent_Kernel3 := fun m ρ _ => Cert.Kernel3.Gen.frame m ρ

theorem frame_pi : Cert.quiescent_Kernel3Ideal := fun m ρ _ => Cert.Kernel3Ideal.Gen.frame m ρ

theorem frame_ri : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- Equal arguments give equal results. -/
theorem algebraic : Cert.algebraic_Kernel3Ideal_Reference3Ideal := by
  intro m g m' g' _ hagree
  have hV : ∀ c : Dev Cert.Kernel3Ideal.nD,
      StableHlo.launchContents m' c (Proc.devRef .tc Cert.Reference3Ideal.main_arg0) = A0 m c
      ∧ StableHlo.launchContents m' c (Proc.devRef .tc Cert.Reference3Ideal.main_arg1) = A1 m c
      ∧ StableHlo.launchContents m' c (Proc.devRef .tc Cert.Reference3Ideal.main_arg2) = A2 m c
      ∧ StableHlo.launchContents m' c (Proc.devRef .tc Cert.Reference3Ideal.main_arg3) = A3 m c
      ∧ StableHlo.launchContents m' c (Proc.devRef .tc Cert.Reference3Ideal.main_arg4) = A4 m c
      ∧ StableHlo.launchContents m' c (Proc.devRef .tc Cert.Reference3Ideal.main_arg5) = A5 m c
      ∧ StableHlo.launchContents m' c (Proc.devRef .tc Cert.Reference3Ideal.main_arg6) = A6 m c
      ∧ StableHlo.launchContents m' c (Proc.devRef .tc Cert.Reference3Ideal.main_arg7) = A7 m c
      ∧ StableHlo.launchContents m' c (Proc.devRef .tc Cert.Reference3Ideal.main_arg8) = m ((c : Thread Cert.Kernel3Ideal.nD Cert.Kernel3Ideal.τ).loc Cert.Kernel3Ideal.main_arg8)
      ∧ StableHlo.launchContents m' c (Proc.devRef .tc Cert.Reference3Ideal.main_arg9) = A9 m c
      ∧ StableHlo.launchContents m' c (Proc.devRef .tc Cert.Reference3Ideal.main_arg10) = A10 m c
      ∧ StableHlo.launchContents m' c (Proc.devRef .tc Cert.Reference3Ideal.main_arg11) = A11 m c
      ∧ StableHlo.launchContents m' c (Proc.devRef .tc Cert.Reference3Ideal.main_arg12) = A12 m c
      ∧ StableHlo.launchContents m' c (Proc.devRef .tc Cert.Reference3Ideal.main_arg13) = A13 m c := hagree
  refine ⟨fun c => gwG m c, fun c => bgG m c, ?_, ?_⟩
  · refine (θ_run Cert.Kernel3Ideal.defs _ _).mono (fun r h c => ?_) (Cert.Kernel3Ideal.Value.run_blocks m g)
    obtain ⟨h0, h1, h2⟩ := h c
    exact ⟨h0.trans (final3 m c), h1.trans (final4 m c), h2⟩
  · refine (θ_run Cert.Reference3Ideal.defs _ _).mono (fun r h c => ?_) (Cert.Reference3Ideal.Value.run (F := Ideal) m' g')
    obtain ⟨h0, h1, h2⟩ := h c
    obtain ⟨e0, e1, e2, e3, e4, e5, e6, e7, -, e9, e10, e11, e12, e13⟩ := hV c
    refine ⟨h0.trans ((val_main_v119_eq _).trans ?_), h1.trans ((val_main_v122_eq _).trans ?_), h2⟩
    · rw [e0, e1, e2, e3, e4, e5, e6, e7, e9, e10, e11, e12, e13]
      exact (res3 m c).symm
    · rw [e0, e2, e3, e4, e5, e6, e7, e9, e10, e11, e12, e13]
      exact (res4 m c).symm

end Cert.MixWClaim

end
-- ==== Proof.MixAPay.lean ====
/-
  What the mixers' input gradient's kernel computes on one tile of 1024 rows, read at an index over the extended reals.
-/
module

public import proofs.«01_k».proof.Proof.Gen.Kernel4Ideal.Skeleton
public import proofs.«01_k».proof.Proof.MergePay

@[expose] public section

set_option maxRecDepth 16384

noncomputable section

namespace Cert.Kernel4Ideal.MixA

open Idealize.ShloMosaic Idealize.ShloMosaic.TcCoe
open Cert.Kernel4Ideal Cert.Kernel4Ideal.Gen
open Cert.KernelIdeal.Merge (eps width_word eps_word)

theorem pay1_apply (k : Fin 8) (e : Fin 1024) : k0_pay1 (F := Ideal) (ix2 k e) = 0 := by
  pointwise [k0_pay1]

theorem pay2_apply (r e : Fin 1024) : k0_pay2 (F := Ideal) (ix2 r e) = 0 := by
  pointwise [k0_pay2]

/-- One shard's part of the gradient of the normed input. -/
abbrev tile (x0 x1 : Vec Ideal S1x1024x512 .bf16) (x5 : Vec Ideal S1x1024x1024 .bf16) (r e : Fin 1024) : EReal :=
  ∑ q : Fin 512, x0 (ix3 0 r q) * x5 (ix3 0 ⟨q.val, by omega⟩ e) + ∑ q : Fin 512, x1 (ix3 0 r q) * x5 (ix3 0 ⟨512 + q.val, by omega⟩ e)

theorem pay3_apply (xs : Vec Ideal S1024x1024 .f32) (x0 x1 : Vec Ideal S1x1024x512 .bf16) (x5 : Vec Ideal S1x1024x1024 .bf16) (r e : Fin 1024) :
    k0_pay3 (F := Ideal) xs x0 x1 x5 (ix2 r e) = xs (ix2 r e) + tile x0 x1 x5 r e := by
  pointwise [k0_pay3]

theorem pay6_apply (x : Vec Ideal S1024x1024 .f32) (g : Vec Ideal S1x1024 .f32) (a d : Vec Ideal S1024x1024 .f32) (r e : Fin 1024) :
    k0_pay6 (F := Ideal) x g a d (ix2 r e)
      = d (ix2 r e) + RmsBwd.short 1024 eps (fun j : Fin 1024 => x (ix2 r j)) (fun j => a (ix2 r j) * g (ix2 0 j)) e := by
  unfold RmsBwd.short RmsBwd.q
  rw [← width_word, ← eps_word]
  pointwise [k0_pay6, k0_pay5, k0_pay4]

theorem pay7_apply (x a : Vec Ideal S1024x1024 .f32) (o : Vec Ideal S1x1024 .f32) (e : Fin 1024) :
    k0_pay7 (F := Ideal) x a o (ix2 0 e)
      = o (ix2 0 e) + ∑ r, a (ix2 r e) * (x (ix2 r e) * Ideal.rsqrt (RmsBwd.q 1024 eps fun j : Fin 1024 => x (ix2 r j))) := by
  unfold RmsBwd.q
  rw [← width_word, ← eps_word]
  pointwise [k0_pay7, k0_pay5, k0_pay4]

end Cert.Kernel4Ideal.MixA

end
-- ==== Proof.MixABlock.lean ====
/-
  What the mixers' input gradient's kernel leaves in its accumulator and in its outputs' blocks at one grid point, over the
  extended reals.
-/
module

public import proofs.«01_k».proof.Proof.Gen.Kernel4Ideal.Frame
public import proofs.«01_k».proof.Proof.MixAPay
public import proofs.«01_k».proof.Proof.Bands
public import Idealize.ShloMosaic.Lib.WritesUnit

@[expose] public section

set_option maxRecDepth 16384

noncomputable section

namespace Cert.Kernel4Ideal.MixA

open Idealize.ShloMosaic Idealize.ShloMosaic.TcCoe Idealize.SL.Sem Idealize.ShloMosaic.Tactic
open Cert.Kernel4Ideal Cert.Kernel4Ideal.Gen
open Cert.KernelIdeal.Merge (eps)
open Cert.Kernel2Ideal.FfnW (hz2 hz3 band_mem)

variable (c : Dev nD) (i : grid0.Coords) (a2 : Memref sig .tc .vmem S1x1024x512 .bf16) (h2 : a2.IsWhole)
  (a3 : Memref sig .tc .vmem S1x1024x512 .bf16) (h3 : a3.IsWhole)
  (a4 : Memref sig .tc .vmem S1024x1024 .f32) (h4 : a4.IsWhole)
  (a5 : Memref sig .tc .vmem S1024x1024 .f32) (h5 : a5.IsWhole)
  (a6 : Memref sig .tc .vmem S1x1024 .f32) (h6 : a6.IsWhole)
  (a7 : Memref sig .tc .vmem S1x1024x1024 .bf16) (h7 : a7.IsWhole)
  (a8 : Memref sig .tc .vmem S1024x1024 .f32) (h8 : a8.IsWhole)
  (a9 : Memref sig .tc .vmem S8x1024 .f32) (h9 : a9.IsWhole)
  (a10 : Memref sig .tc .vmem S1024x1024 .f32) (h10 : a10.IsWhole)
variable (x0 x1 : Vec Ideal S1x1024x512 .bf16) (x2 x3 : Vec Ideal S1024x1024 .f32) (x4 : Vec Ideal S1x1024 .f32)
  (x5 : Vec Ideal S1x1024x1024 .bf16) (xo : Vec Ideal S8x1024 .f32) (xs : Vec Ideal S1024x1024 .f32)

/-- The accumulator with one more shard's part. -/
abbrev accT : Vec Ideal S1024x1024 .f32 := fun y => xs y + tile x0 x1 x5 (y 0) (y 1)

theorem pay3_eq : k0_pay3 (F := Ideal) xs x0 x1 x5 = accT x0 x1 x5 xs := by
  funext y
  obtain ⟨r, e, rfl⟩ : ∃ (r e : Fin 1024), y = ix2 r e := ⟨y 0, y 1, eq_ix2 y⟩
  exact pay3_apply xs x0 x1 x5 r e

/-- The accumulator with the first shard's part. -/
theorem pay3_first (r e : Fin 1024) : k0_pay3 (F := Ideal) (k0_pay2 (F := Ideal)) x0 x1 x5 (ix2 r e) = tile x0 x1 x5 r e := by
  rw [pay3_apply, pay2_apply, zero_add]

/-- The last whole store gives the contents. -/
theorem whole (w : S1024x1024.Idx → EReal) (L : List (View.Piece (Elt Ideal) S1024x1024 .f32)) (r e : Fin 1024) :
    View.canon (Val := Elt Ideal) (e := .f32) (⟨Rect.unit (s := S1024x1024) ![0, 0] ![1024, 1024] inb_S1024x1024_S1024x1024_0_0, w⟩ :: L) (ix2 r e) = w (ix2 r e) :=
  band_mem _ _ _ r e r (by simp)

/-- A whole load of what one whole store left. -/
theorem cov_whole (v : View sig .tc .vmem S1024x1024 .f32) (w : S1024x1024.Idx → EReal) :
    v.readCov (Val := Elt Ideal) [⟨Rect.unit (s := S1024x1024) ![0, 0] ![1024, 1024] inb_S1024x1024_S1024x1024_0_0, w⟩]
      (Rect.unit (s := S1024x1024) ![0, 0] ![1024, 1024] inb_S1024x1024_S1024x1024_0_0).toLoadRect = w := by
  rw [View.readCov_eq_canon', View.canon_unit_zero hz2]
  funext y
  refine congrArg w (funext fun a => Fin.ext ?_)
  fin_cases a
  · show 0 + 1 * (y 0).val = (y 0).val
    omega
  · show 0 + 1 * (y 1).val = (y 1).val
    omega

theorem sout_A (hc0 : cond0_0 i) (hc1 : cond0_1 i) (hc2 : ¬cond0_2 i) (r e : Fin 1024) :
    sout0_A_0 (F := Ideal) c i a2 h2 a3 h3 a4 h4 a5 h5 a6 h6 a7 h7 a8 h8 a9 h9 a10 h10 hc0 hc1 hc2 x0 x1 x2 x3 x4 x5 (ix2 r e) = tile x0 x1 x5 r e := by
  unfold sout0_A_0
  rw [View.read_writes_eq_canon _ _ _ (scover0_A_0 (F := Ideal) c i a2 h2 a3 h3 a4 h4 a5 h5 a6 h6 a7 h7 a8 h8 a9 h9 a10 h10 hc0 hc1 hc2 x0 x1 x2 x3 x4 x5)]
  unfold kernelRun0_A
  dsimp only
  sl_unfold_words
  simp only [View.readAt_eq_ld, Memref.IsWhole.read_unread, View.ld_unit_zero (S := S1024x1024) hz2, View.ld_unit_zero (S := S1x1024) hz2,
    View.ld_unit_zero (S := S1x1024x512) hz3, View.ld_unit_zero (S := S1x1024x1024) hz3]
  rw [whole, View.readCov_eq_canon', View.canon_unit_zero hz2]
  exact pay3_first x0 x1 x5 r e

theorem sout_D (hc0 : ¬cond0_0 i) (hc1 : cond0_1 i) (hc2 : ¬cond0_2 i) (r e : Fin 1024) :
    sout0_D_0 (F := Ideal) c i a2 h2 a3 h3 a4 h4 a5 h5 a6 h6 a7 h7 a8 h8 a9 h9 a10 h10 hc0 hc1 hc2 x0 x1 x2 x3 x4 x5 (ix2 r e) = tile x0 x1 x5 r e := by
  unfold sout0_D_0
  rw [View.read_writes_eq_canon _ _ _ (scover0_D_0 (F := Ideal) c i a2 h2 a3 h3 a4 h4 a5 h5 a6 h6 a7 h7 a8 h8 a9 h9 a10 h10 hc0 hc1 hc2 x0 x1 x2 x3 x4 x5)]
  unfold kernelRun0_D
  dsimp only
  sl_unfold_words
  simp only [View.readAt_eq_ld, Memref.IsWhole.read_unread, View.ld_unit_zero (S := S1024x1024) hz2, View.ld_unit_zero (S := S1x1024) hz2,
    View.ld_unit_zero (S := S1x1024x512) hz3, View.ld_unit_zero (S := S1x1024x1024) hz3]
  rw [whole, View.readCov_eq_canon', View.canon_unit_zero hz2]
  exact pay3_first x0 x1 x5 r e

theorem out7_A (hc0 : cond0_0 i) (hc1 : cond0_1 i) (hc2 : ¬cond0_2 i) (k : Fin 8) (e : Fin 1024) :
    out0_A_7 (F := Ideal) c i a2 h2 a3 h3 a4 h4 a5 h5 a6 h6 a7 h7 a8 h8 a9 h9 a10 h10 hc0 hc1 hc2 x0 x1 x2 x3 x4 x5 (ix2 k e) = 0 := by
  unfold out0_A_7
  rw [View.read_writes_eq_canon _ _ _ (cover0_A_7 (F := Ideal) c i a2 h2 a3 h3 a4 h4 a5 h5 a6 h6 a7 h7 a8 h8 a9 h9 a10 h10 hc0 hc1 hc2 x0 x1 x2 x3 x4 x5)]
  unfold kernelRun0_A
  dsimp only
  sl_unfold_words
  rw [View.canon_unit_zero hz2]
  exact pay1_apply k e

theorem sout_B (hc0 : ¬cond0_0 i) (hc1 : ¬cond0_1 i) (hc2 : ¬cond0_2 i) :
    sout0_B_0 (F := Ideal) c i a2 h2 a3 h3 a4 h4 a5 h5 a6 h6 a7 h7 a8 h8 a9 h9 a10 h10 hc0 hc1 hc2 x0 x1 x2 x3 x4 x5 xs = accT x0 x1 x5 xs := by
  unfold sout0_B_0
  rw [View.read_writes_eq_canon _ _ _ (scover0_B_0 (F := Ideal) c i a2 h2 a3 h3 a4 h4 a5 h5 a6 h6 a7 h7 a8 h8 a9 h9 a10 h10 hc0 hc1 hc2 x0 x1 x2 x3 x4 x5 xs)]
  unfold kernelRun0_B
  dsimp only
  sl_unfold_words
  simp only [View.readAt_eq_ld, Memref.IsWhole.read_unread, View.ld_unit_zero (S := S1024x1024) hz2, View.ld_unit_zero (S := S1x1024) hz2,
    View.ld_unit_zero (S := S1x1024x512) hz3, View.ld_unit_zero (S := S1x1024x1024) hz3]
  rw [View.canon_unit_zero hz2]
  exact pay3_eq x0 x1 x5 xs

theorem sout_C (hc0 : ¬cond0_0 i) (hc1 : ¬cond0_1 i) (hc2 : cond0_2 i) :
    sout0_C_0 (F := Ideal) c i a2 h2 a3 h3 a4 h4 a5 h5 a6 h6 a7 h7 a8 h8 a9 h9 a10 h10 hc0 hc1 hc2 x0 x1 x2 x3 x4 x5 xo xs = accT x0 x1 x5 xs := by
  unfold sout0_C_0
  rw [View.read_writes_eq_canon _ _ _ (scover0_C_0 (F := Ideal) c i a2 h2 a3 h3 a4 h4 a5 h5 a6 h6 a7 h7 a8 h8 a9 h9 a10 h10 hc0 hc1 hc2 x0 x1 x2 x3 x4 x5 xo xs)]
  unfold kernelRun0_C
  dsimp only
  sl_unfold_words
  simp only [View.readAt_eq_ld, Memref.IsWhole.read_unread, View.ld_unit_zero (S := S1024x1024) hz2, View.ld_unit_zero (S := S1x1024) hz2,
    View.ld_unit_zero (S := S1x1024x512) hz3, View.ld_unit_zero (S := S1x1024x1024) hz3]
  rw [View.canon_unit_zero hz2]
  exact pay3_eq x0 x1 x5 xs

theorem out6_C (hc0 : ¬cond0_0 i) (hc1 : ¬cond0_1 i) (hc2 : cond0_2 i) (r e : Fin 1024) :
    out0_C_6 (F := Ideal) c i a2 h2 a3 h3 a4 h4 a5 h5 a6 h6 a7 h7 a8 h8 a9 h9 a10 h10 hc0 hc1 hc2 x0 x1 x2 x3 x4 x5 xo xs (ix2 r e)
      = x2 (ix2 r e) + RmsBwd.short 1024 eps (fun j : Fin 1024 => x3 (ix2 r j)) (fun j => accT x0 x1 x5 xs (ix2 r j) * x4 (ix2 0 j)) e := by
  unfold out0_C_6
  rw [View.read_writes_eq_canon _ _ _ (cover0_C_6 (F := Ideal) c i a2 h2 a3 h3 a4 h4 a5 h5 a6 h6 a7 h7 a8 h8 a9 h9 a10 h10 hc0 hc1 hc2 x0 x1 x2 x3 x4 x5 xo xs)]
  unfold kernelRun0_C
  dsimp only
  sl_unfold_words
  simp only [View.readAt_eq_ld, Memref.IsWhole.read_unread, View.ld_unit_zero (S := S1024x1024) hz2, View.ld_unit_zero (S := S1x1024) hz2,
    View.ld_unit_zero (S := S1x1024x512) hz3, View.ld_unit_zero (S := S1x1024x1024) hz3]
  rw [View.canon_unit_zero hz2, cov_whole, pay6_apply, pay3_eq]

/-- The tile's part of the gain's gradient, of the gradient `a` of the normed input. -/
abbrev gpT (a : S1024x1024.Idx → EReal) (e : Fin 1024) : EReal :=
  ∑ r, a (ix2 r e) * (x3 (ix2 r e) * Ideal.rsqrt (RmsBwd.q 1024 eps fun j : Fin 1024 => x3 (ix2 r j)))

theorem out7_C_row (hc0 : ¬cond0_0 i) (hc1 : ¬cond0_1 i) (hc2 : cond0_2 i) (e : Fin 1024) :
    out0_C_7 (F := Ideal) c i a2 h2 a3 h3 a4 h4 a5 h5 a6 h6 a7 h7 a8 h8 a9 h9 a10 h10 hc0 hc1 hc2 x0 x1 x2 x3 x4 x5 xo xs (ix2 0 e) = xo (ix2 0 e) + gpT x3 (accT x0 x1 x5 xs) e := by
  unfold out0_C_7
  unfold kernelRun0_C
  dsimp only
  sl_unfold_words
  simp only [View.readAt_eq_ld, Memref.IsWhole.read_unread, View.ld_unit_zero (S := S1024x1024) hz2, View.ld_unit_zero (S := S1x1024) hz2,
    View.ld_unit_zero (S := S1x1024x512) hz3, View.ld_unit_zero (S := S1x1024x1024) hz3]
  refine Eq.trans (View.read_writes_cons_rows_of_mem (d := ![8, 1024]) (size := ![1, 1024]) (o := 0) a9.view _ _ _ _ (ix2 0 e) (ix2 0 e) rfl rfl rfl) ?_
  rw [cov_whole, pay7_apply, pay3_eq]
  refine congrArg₂ (· + ·) (congrArg xo (funext fun a => Fin.ext ?_)) rfl
  fin_cases a
  · rfl
  · show 0 + 1 * e.val = e.val
    omega

theorem out7_C_rest (hc0 : ¬cond0_0 i) (hc1 : ¬cond0_1 i) (hc2 : cond0_2 i) (k : Fin 8) (hk : k ≠ 0) (e : Fin 1024) :
    out0_C_7 (F := Ideal) c i a2 h2 a3 h3 a4 h4 a5 h5 a6 h6 a7 h7 a8 h8 a9 h9 a10 h10 hc0 hc1 hc2 x0 x1 x2 x3 x4 x5 xo xs (ix2 k e) = xo (ix2 k e) := by
  unfold out0_C_7
  unfold kernelRun0_C
  dsimp only
  sl_unfold_words
  simp only [View.readAt_eq_ld, Memref.IsWhole.read_unread, View.ld_unit_zero (S := S1024x1024) hz2, View.ld_unit_zero (S := S1x1024) hz2,
    View.ld_unit_zero (S := S1x1024x512) hz3, View.ld_unit_zero (S := S1x1024x1024) hz3]
  rw [View.read_writes_cons_rows_of_not_mem (o := 0) (W := 1) a9.view _ _ _ _ (ix2 k e) rfl rfl (Or.inr (by show 0 + 1 ≤ k.val; have := Fin.val_ne_of_ne hk; simp at this; omega))]
  show View.read _ a9.view (h9.unread xo) (ix2 k e) = _
  rw [Memref.IsWhole.read_unread]

end Cert.Kernel4Ideal.MixA

end
-- ==== Proof.MixAArr.lean ====
/-
  The mixers' input gradient after the run, over the extended reals: functions of the arrays that the call is given.
-/
module

public import proofs.«01_k».proof.Proof.Gen.Kernel4Ideal.Value
public import proofs.«01_k».proof.Proof.MixABlock
public import Idealize.ShloMosaic.Lib.Pipeline.ValueKit

@[expose] public section

set_option maxRecDepth 16384

noncomputable section

namespace Cert.Kernel4Ideal.MixA

open Idealize.ShloMosaic Idealize.ShloMosaic.TcCoe Idealize.SL.Sem Idealize.ShloMosaic.Tactic
open Cert.Kernel4Ideal Cert.Kernel4Ideal.Gen
open Cert.KernelIdeal.Merge (eps)

variable (m : (ℓ : Loc nD τ sig) → Buf (Elt Ideal) ℓ) (c : Dev nD)

/-- The gradient of the mixers' inputs, by shards of columns. -/
abbrev DZ : S8x4096x512.Idx → EReal := V m c main_v0_1
/-- The gradient of the gates before the sigmoid, by branches. -/
abbrev DG : S4x4096x1024.Idx → EReal := V m c main_v0_2
/-- The block's cotangent. -/
abbrev DX : S4096x1024.Idx → EReal := V m c main_arg0
/-- The block's input. -/
abbrev XX : S4096x1024.Idx → EReal := V m c main_arg2
/-- The row of small parameters. -/
abbrev SP : S1x16896.Idx → EReal := V m c main_v10
/-- The two weights transposed, by shards. -/
abbrev WP : S8x1024x1024.Idx → EReal := V m c main_v6

/-- The shard of a point. -/
abbrev shard (t : Fin cfg0.N) : Fin 8 := ⟨t.val % 8, by omega⟩
/-- Row `r` of a point's tile. -/
abbrev row (t : Fin cfg0.N) (r : Fin 1024) : Fin 4096 := ⟨t.val / 8 * 1024 + r.val, by
  have := t.isLt; have : cfg0.N = 32 := N_0; omega⟩
/-- Column `q` of a shard, as a column of one of the four branches. -/
abbrev br (p : Fin 8) : Fin 4 := ⟨p.val / 2, by omega⟩
abbrev bcol (p : Fin 8) (q : Fin 512) : Fin 1024 := ⟨p.val % 2 * 512 + q.val, by omega⟩

theorem pos0 : ∀ t : Fin cfg0.N, win0_0.index t = ![t.val % 8, t.val / 8, 0] := by decide +kernel
theorem pos1 : ∀ t : Fin cfg0.N, win0_1.index t = ![t.val % 8 / 2, t.val / 8, t.val % 8 % 2] := by decide +kernel
theorem pos2 : ∀ t : Fin cfg0.N, win0_2.index t = ![t.val / 8, 0] := by decide +kernel
theorem pos3 : ∀ t : Fin cfg0.N, win0_3.index t = ![t.val / 8, 0] := by decide +kernel
theorem pos4 : ∀ t : Fin cfg0.N, win0_4.index t = ![0, 2] := by decide +kernel
theorem pos5 : ∀ t : Fin cfg0.N, win0_5.index t = ![t.val % 8, 0, 0] := by decide +kernel
theorem pos6 : ∀ t : Fin cfg0.N, win0_6.index t = ![t.val / 8, 0] := by decide +kernel
theorem pos7 : ∀ t : Fin cfg0.N, win0_7.index t = ![0, 0] := by decide +kernel

theorem blk0 (t : Fin cfg0.N) (r : Fin 1024) (q : Fin 512) : iblk m c 0 t (ix3 0 r q) = DZ m c (ix3 (shard t) (row t r) q) := by
  blk_ext [iblk, pos0 t]
theorem blk1 (t : Fin cfg0.N) (r : Fin 1024) (q : Fin 512) : iblk m c 1 t (ix3 0 r q) = DG m c (ix3 (br (shard t)) (row t r) (bcol (shard t) q)) := by
  blk_ext [iblk, pos1 t]
theorem blk2 (t : Fin cfg0.N) (r e : Fin 1024) : iblk m c 2 t (ix2 r e) = DX m c (ix2 (row t r) e) := by
  blk_ext [iblk, pos2 t]
theorem blk3 (t : Fin cfg0.N) (r e : Fin 1024) : iblk m c 3 t (ix2 r e) = XX m c (ix2 (row t r) e) := by
  blk_ext [iblk, pos3 t]
theorem blk4 (t : Fin cfg0.N) (d : Fin 1024) : X0_4 m c t (ix2 0 d) = SP m c (ix2 0 ⟨2048 + d.val, by omega⟩) := by
  unfold X0_4 Pipeline.Window.fill
  rw [dif_pos (moved0_4 t _)]
  blk_ext [iblk, pos4 t]
theorem blk5 (t : Fin cfg0.N) (k e : Fin 1024) : iblk m c 5 t (ix3 0 k e) = WP m c (ix3 (shard t) k e) := by
  blk_ext [iblk, pos5 t]

theorem emb6 (t : Fin cfg0.N) (r e : Fin 1024) : (win0_6.blk t).view.emb (ix2 r e) = ix2 (row t r) e := by
  blk_ext [pos6 t]
theorem emb7 (t : Fin cfg0.N) (k : Fin 8) (e : Fin 1024) : (win0_7.blk t).view.emb (ix2 k e) = ix2 k e := by
  blk_ext [pos7 t]

/-- One shard's part of the gradient of the normed input. -/
def part (p : Fin 8) (r : Fin 4096) (e : Fin 1024) : EReal :=
  ∑ q : Fin 512, DZ m c (ix3 p r q) * WP m c (ix3 p ⟨q.val, by omega⟩ e)
    + ∑ q : Fin 512, DG m c (ix3 (br p) r (bcol p q)) * WP m c (ix3 p ⟨512 + q.val, by omega⟩ e)

theorem tile_eq (t : Fin cfg0.N) (r e : Fin 1024) :
    tile (iblk m c 0 t) (iblk m c 1 t) (iblk m c 5 t) r e = part m c (shard t) (row t r) e := by
  refine congrArg₂ (· + ·) (Finset.sum_congr rfl fun q _ => ?_) (Finset.sum_congr rfl fun q _ => ?_)
  · exact congrArg₂ (· * ·) (blk0 m c t r q) (blk5 m c t _ e)
  · exact congrArg₂ (· * ·) (blk1 m c t r q) (blk5 m c t _ e)

/-- The same part by the shard's number. -/
def partN (p : ℕ) (r : Fin 4096) (e : Fin 1024) : EReal := if h : p < 8 then part m c ⟨p, h⟩ r e else 0

theorem partN_shard (t : Fin cfg0.N) (r e : Fin 1024) : partN m c (t.val % 8) (row t r) e = part m c (shard t) (row t r) e :=
  dif_pos (by omega)

/-- The point before. -/
abbrev prev (t : Fin cfg0.N) : Fin cfg0.N := ⟨t.val - 1, Nat.lt_of_le_of_lt (Nat.sub_le _ _) t.isLt⟩

theorem row_prev (t : Fin cfg0.N) (h : ¬t.val % 8 = 0) (r : Fin 1024) : row (prev t) r = row t r := Fin.ext (by
  show (t.val - 1) / 8 * 1024 + r.val = t.val / 8 * 1024 + r.val
  omega)

/-- The accumulator after a point: the sum over the shards so far. -/
theorem acc (n : Nat) (hn : n < cfg0.N) (r e : Fin 1024) :
    (outsAt0 m c n hn).2.2 (ix2 r e) = ∑ p ∈ Finset.range (n % 8 + 1), partN m c p (row ⟨n, hn⟩ r) e := by
  induction n with
  | zero =>
    rw [outsAt0_A m c ⟨0, hn⟩ rfl rfl (show ¬0 % 8 = 7 by omega)]
    dsimp only
    rw [sout_A, tile_eq, ← partN_shard]
    simp
  | succ n ih =>
    by_cases h1 : (n + 1) % 8 = 0
    · have hN : cfg0.N = 32 := N_0
      rw [outsAt0_D m c ⟨n + 1, hn⟩ (show ¬(n + 1) % 32 = 0 by omega) h1 (show ¬(n + 1) % 8 = 7 by omega)]
      dsimp only
      rw [sout_D, tile_eq, ← partN_shard]
      simp [h1]
    · have hs : ∑ p ∈ Finset.range ((n + 1) % 8 + 1), partN m c p (row ⟨n + 1, hn⟩ r) e
          = (outsAt0 m c n (by omega)).2.2 (ix2 r e) + tile (iblk m c 0 ⟨n + 1, hn⟩) (iblk m c 1 ⟨n + 1, hn⟩) (iblk m c 5 ⟨n + 1, hn⟩) r e := by
        rw [ih (by omega), tile_eq, ← partN_shard, Finset.sum_range_succ, show n % 8 + 1 = (n + 1) % 8 by omega]
        have hr : row ⟨n, by omega⟩ r = row ⟨n + 1, hn⟩ r := row_prev ⟨n + 1, hn⟩ h1 r
        rw [hr]
      by_cases h2 : (n + 1) % 8 = 7
      · rw [outsAt0_C m c ⟨n + 1, hn⟩ (show ¬(n + 1) % 32 = 0 by omega) h1 h2]
        dsimp only
        rw [sout_C]
        exact hs.symm
      · rw [outsAt0_B m c ⟨n + 1, hn⟩ (show ¬(n + 1) % 32 = 0 by omega) h1 h2]
        dsimp only
        rw [sout_B]
        exact hs.symm

/-- The gradient of the normed input with its gain. -/
def dhG (r : Fin 4096) (e : Fin 1024) : EReal := ∑ p : Fin 8, part m c p r e

/-- The accumulator at a tile's last point, as that point makes it. -/
theorem acc_last (t : Fin cfg0.N) (h2 : t.val % 8 = 7) (r e : Fin 1024) :
    accT (iblk m c 0 t) (iblk m c 1 t) (iblk m c 5 t) (outsAt0 m c (t.val - 1) (Nat.lt_of_le_of_lt (Nat.sub_le _ _) t.isLt)).2.2 (ix2 r e)
      = dhG m c (row t r) e := by
  have ha := acc m c t.val t.isLt r e
  rw [outsAt0_C m c t (by omega) (by omega) h2] at ha
  dsimp only at ha
  rw [sout_C] at ha
  refine ha.trans ?_
  rw [h2]
  refine (Finset.sum_range _).trans (Finset.sum_congr rfl fun p _ => ?_)
  exact dif_pos p.isLt

/-- The gradient of the block's input. -/
def dxG (y : S4096x1024.Idx) : EReal :=
  DX m c y + RmsBwd.short 1024 eps (fun j : Fin 1024 => XX m c (ix2 (y 0) j))
    (fun j => dhG m c (y 0) j * SP m c (ix2 0 ⟨2048 + j.val, by omega⟩)) (y 1)

theorem o6 (t : Fin cfg0.N) (h2 : t.val % 8 = 7) (r e : Fin 1024) :
    (outsAt0 m c t.val t.isLt).1 (ix2 r e) = dxG m c (ix2 (row t r) e) := by
  rw [outsAt0_C m c t (by omega) (by omega) h2]
  dsimp only
  rw [out6_C]
  refine congrArg₂ (· + ·) (blk2 m c t r e) ?_
  exact congrArg₂ (fun a b => RmsBwd.short 1024 eps a b e) (funext fun j => blk3 m c t r j)
    (funext fun j => congrArg₂ (· * ·) (acc_last m c t h2 r j) (blk4 m c t j))

theorem last6 : ∀ t : Fin cfg0.N, (cfg0.win 6).flush t = true → t.val % 8 = 7 := by decide +kernel

theorem final6 : (dats m 0 c).arrAt 6 cfg0.N = dxG m c := by
  refine (dats m 0 c).arrAt_eq_of_covers 6 _ (by decide +kernel) fun t hf y => ?_
  blk_simp
  obtain ⟨r, e, rfl⟩ : ∃ (r e : Fin 1024), y = ix2 r e := ⟨y 0, y 1, eq_ix2 y⟩
  rw [after0_6, o6 m c t (last6 t hf), emb6]

/-- One row's part of the gain's gradient. -/
def gpRow (e : Fin 1024) (r : Fin 4096) : EReal :=
  dhG m c r e * (XX m c (ix2 r e) * Ideal.rsqrt (RmsBwd.q 1024 eps fun j : Fin 1024 => XX m c (ix2 r j)))

/-- The same part by the row's number. -/
def gpRowN (e : Fin 1024) (r : ℕ) : EReal := if h : r < 4096 then gpRow m c e ⟨r, h⟩ else 0

theorem gp_tile (t : Fin cfg0.N) (h2 : t.val % 8 = 7) (e : Fin 1024) :
    gpT (iblk m c 3 t) (accT (iblk m c 0 t) (iblk m c 1 t) (iblk m c 5 t) (outsAt0 m c (t.val - 1) (Nat.lt_of_le_of_lt (Nat.sub_le _ _) t.isLt)).2.2) e
      = ∑ r ∈ Finset.range 1024, gpRowN m c e (t.val / 8 * 1024 + r) := by
  rw [Finset.sum_range]
  refine Finset.sum_congr rfl fun r _ => ?_
  unfold gpRowN
  rw [dif_pos (row t r).isLt]
  exact congrArg₂ (· * ·) (acc_last m c t h2 r e) (congrArg₂ (· * ·) (blk3 m c t r e)
    (congrArg Ideal.rsqrt (congrArg (RmsBwd.q 1024 eps) (funext fun j => blk3 m c t r j))))

/-- The first row of the gain's block after a point: the sum over the rows of the finished tiles. -/
theorem o7_row (n : Nat) (hn : n < cfg0.N) (e : Fin 1024) :
    (outsAt0 m c n hn).2.1 (ix2 0 e) = ∑ r ∈ Finset.range ((n + 1) / 8 * 1024), gpRowN m c e r := by
  have hN : cfg0.N = 32 := N_0
  induction n with
  | zero =>
    rw [outsAt0_A m c ⟨0, hn⟩ rfl rfl (show ¬0 % 8 = 7 by omega)]
    dsimp only
    rw [out7_A]
    rfl
  | succ n ih =>
    have hi := ih (by omega)
    by_cases h1 : (n + 1) % 8 = 0
    · rw [outsAt0_D m c ⟨n + 1, hn⟩ (show ¬(n + 1) % 32 = 0 by omega) h1 (show ¬(n + 1) % 8 = 7 by omega)]
      dsimp only
      rw [show (n + 1 + 1) / 8 = (n + 1) / 8 by omega]
      exact hi
    · by_cases h2 : (n + 1) % 8 = 7
      · rw [outsAt0_C m c ⟨n + 1, hn⟩ (show ¬(n + 1) % 32 = 0 by omega) h1 h2]
        dsimp only
        rw [out7_C_row, show (n + 1 + 1) / 8 * 1024 = (n + 1) / 8 * 1024 + 1024 by omega, Finset.sum_range_add]
        exact congrArg₂ (· + ·) hi (gp_tile m c ⟨n + 1, hn⟩ h2 e)
      · rw [outsAt0_B m c ⟨n + 1, hn⟩ (show ¬(n + 1) % 32 = 0 by omega) h1 h2]
        dsimp only
        rw [show (n + 1 + 1) / 8 = (n + 1) / 8 by omega]
        exact hi

theorem o7_rest (n : Nat) (hn : n < cfg0.N) (k : Fin 8) (hk : k ≠ 0) (e : Fin 1024) : (outsAt0 m c n hn).2.1 (ix2 k e) = 0 := by
  have hN : cfg0.N = 32 := N_0
  induction n with
  | zero =>
    rw [outsAt0_A m c ⟨0, hn⟩ rfl rfl (show ¬0 % 8 = 7 by omega)]
    dsimp only
    rw [out7_A]
  | succ n ih =>
    have hi := ih (by omega)
    by_cases h1 : (n + 1) % 8 = 0
    · rw [outsAt0_D m c ⟨n + 1, hn⟩ (show ¬(n + 1) % 32 = 0 by omega) h1 (show ¬(n + 1) % 8 = 7 by omega)]
      exact hi
    · by_cases h2 : (n + 1) % 8 = 7
      · rw [outsAt0_C m c ⟨n + 1, hn⟩ (show ¬(n + 1) % 32 = 0 by omega) h1 h2]
        dsimp only
        rw [out7_C_rest (hk := hk)]
        exact hi
      · rw [outsAt0_B m c ⟨n + 1, hn⟩ (show ¬(n + 1) % 32 = 0 by omega) h1 h2]
        exact hi

/-- The gain's gradient: in the first of eight rows. -/
def gpG (y : S8x1024.Idx) : EReal := if (y 0).val = 0 then ∑ r : Fin 4096, gpRow m c (y 1) r else 0

theorem last7 : ∀ t : Fin cfg0.N, (cfg0.win 7).flush t = true → t.val = 31 := by decide +kernel

theorem final7 : (dats m 0 c).arrAt 7 cfg0.N = gpG m c := by
  refine (dats m 0 c).arrAt_eq_of_covers 7 _ (by decide +kernel) fun t hf y => ?_
  blk_simp
  obtain ⟨k, e, rfl⟩ : ∃ (k : Fin 8) (e : Fin 1024), y = ix2 k e := ⟨y 0, y 1, eq_ix2 y⟩
  rw [after0_7, emb7]
  by_cases hk : k = 0
  · subst hk
    refine (o7_row m c t.val t.isLt e).trans (Eq.trans ?_ (if_pos rfl).symm)
    rw [last7 t hf]
    exact (Finset.sum_range _).trans (Finset.sum_congr rfl fun r _ => dif_pos r.isLt)
  · exact (o7_rest m c t.val t.isLt k hk e).trans (if_neg fun h => hk (Fin.ext h)).symm

end Cert.Kernel4Ideal.MixA

end
-- ==== Proof.MixARef.lean ====
/-
  The reference of the mixers' input gradient, read at an index over the extended reals.
-/
module

public import proofs.«01_k».proof.Proof.Gen.Reference4Ideal.Read
public import proofs.«01_k».proof.Proof.MergeRef

@[expose] public section

set_option maxRecDepth 16384

noncomputable section

namespace Cert.Reference4Ideal.MixA

open Idealize.ShloMosaic Idealize.ShloMosaic.TcCoe
open Cert.Reference4Ideal Cert.Reference4Ideal.Read
open Cert.KernelIdeal.Merge (eps eps_word eps_pos width_word)
open Cert.ReferenceIdeal.Merge (half_word)

variable (x0 : S4096x1024.Idx → EReal) (x1 : S4096x4096.Idx → EReal) (x2 : S4096x1024.Idx → EReal) (x3 : S1024.Idx → EReal)
  (x4 x5 x6 x7 : S4096x512.Idx → EReal) (x8 : S1024x4096.Idx → EReal) (x9 : S4x512x1024.Idx → EReal) (x10 : S1024x4096.Idx → EReal)
  (x11 : S4096.Idx → EReal) (x12 : S1024x1024.Idx → EReal) (x13 : S1024.Idx → EReal)

/-- The gradient of the normed input with its gain: the gates' part and the mixers' part. -/
theorem dh_apply (r : Fin 4096) (e : Fin 1024) :
    val_main_v113 (F := Ideal) x0 x1 x2 x3 x4 x5 x6 x7 x8 x9 x10 x11 x12 x13 (ix2 r e)
      = ∑ k : Fin 4096, val_main_v110 (F := Ideal) x0 x2 x3 x4 x5 x6 x7 x9 x10 x11 x12 x13 (ix2 r k) * x10 (ix2 e k)
        + ∑ k : Fin 4096, x1 (ix2 r k) * x8 (ix2 e k) := by
  pointwise [val_main_v113, val_main_v112, val_main_v111]

theorem dx_apply (r : Fin 4096) (e : Fin 1024) :
    val_main_v134 (F := Ideal) x0 x1 x2 x3 x4 x5 x6 x7 x8 x9 x10 x11 x12 x13 (ix2 r e)
      = x0 (ix2 r e) + RmsBwd.short 1024 eps (fun j : Fin 1024 => x2 (ix2 r j))
          (fun j => val_main_v113 (F := Ideal) x0 x1 x2 x3 x4 x5 x6 x7 x8 x9 x10 x11 x12 x13 (ix2 r j) * x3 (ix1 j)) e := by
  rw [RmsBwd.short_eq 1024 eps _ (by norm_num) eps_pos rfl]
  unfold RmsBwd.coef RmsBwd.q
  rw [← width_word, ← eps_word, ← half_word]
  pointwise [val_main_v134, val_main_v133, val_main_v132, val_main_v131, val_main_v130, val_main_v129, val_main_v128, val_main_v127,
    val_main_v126, val_main_v125, val_main_v124, val_main_v123, val_main_v122, val_main_v121, val_main_v120, val_main_v118, val_main_v117,
    val_main_v25, val_main_v22, val_main_v21, val_main_v20, val_main_v19, val_main_v18, val_main_v17, val_main_v16, val_main_v15,
    val_main_v14, val_main_v13, val_main_v12, val_main_cst, val_main_cst_0, val_main_cst_1, val_main_cst_2, val_main_cst_19,
    val_main_cst_20, val_main_cst_21]
  simp only [Fin.sum_univ_one, Fin.isValue, Finset.univ_unique, Finset.sum_const, Finset.card_singleton, one_smul, add_assoc]

theorem gp_row (e : Fin 1024) :
    val_main_v137 (F := Ideal) x0 x1 x2 x3 x4 x5 x6 x7 x8 x9 x10 x11 x12 x13 (ix2 0 e)
      = ∑ r : Fin 4096, x2 (ix2 r e) * Ideal.rsqrt (RmsBwd.q 1024 eps fun j : Fin 1024 => x2 (ix2 r j))
          * val_main_v113 (F := Ideal) x0 x1 x2 x3 x4 x5 x6 x7 x8 x9 x10 x11 x12 x13 (ix2 r e) := by
  unfold RmsBwd.q
  rw [← width_word, ← eps_word]
  pointwise [val_main_v137, val_main_v135, val_main_v119, val_main_v116, val_main_v115, val_main_v114, val_main_v24, val_main_v23,
    val_main_v19, val_main_v18, val_main_v17, val_main_v16, val_main_v15, val_main_v14, val_main_v13, val_main_v12, val_main_cst,
    val_main_cst_0, val_main_cst_1, val_main_cst_17, val_main_cst_18]
  exact Fin.sum_univ_one _

theorem gp_rest (k : Fin 8) (hk : k ≠ 0) (e : Fin 1024) :
    val_main_v137 (F := Ideal) x0 x1 x2 x3 x4 x5 x6 x7 x8 x9 x10 x11 x12 x13 (ix2 k e) = 0 := by
  have hk : ¬k.val < 1 := fun h => hk (Fin.ext (by simpa using h))
  pointwise [val_main_v137, val_main_v136, val_main_cst_22]
  rw [dif_neg hk]

end Cert.Reference4Ideal.MixA

end
-- ==== Proof.MixAHost.lean ====
/-
  The arrays that the mixers' input gradient's kernel is given are the reference's own stages.
-/
module

public import proofs.«01_k».proof.Proof.MixAArr
public import proofs.«01_k».proof.Proof.MixARef
public import Idealize.ShloMosaic.Lib.Claim
public import Idealize.ShloMosaic.Lib.StableHlo.ReadAt

@[expose] public section

set_option maxRecDepth 16384

noncomputable section

namespace Cert.Kernel4Ideal.MixA

open Idealize.ShloMosaic Idealize.ShloMosaic.TcCoe Idealize.SL.Sem Idealize.ShloMosaic.Tactic
open Cert.Kernel4Ideal Cert.Kernel4Ideal.Gen Cert.Reference4Ideal.Read

variable (m : (ℓ : Loc nD τ sig) → Buf (Elt Ideal) ℓ) (c : Dev nD)

/-- The block's cotangent. -/
abbrev A0 : S4096x1024.Idx → EReal := m ((c : Thread nD τ).loc main_arg0)
/-- The cotangent of the mixers' inputs. -/
abbrev A1 : S4096x4096.Idx → EReal := m ((c : Thread nD τ).loc main_arg1)
/-- The block's input. -/
abbrev A2 : S4096x1024.Idx → EReal := m ((c : Thread nD τ).loc main_arg2)
/-- The gain before the block. -/
abbrev A3 : S1024.Idx → EReal := m ((c : Thread nD τ).loc main_arg3)
/-- The four branches. -/
abbrev A4 : S4096x512.Idx → EReal := m ((c : Thread nD τ).loc main_arg4)
abbrev A5 : S4096x512.Idx → EReal := m ((c : Thread nD τ).loc main_arg5)
abbrev A6 : S4096x512.Idx → EReal := m ((c : Thread nD τ).loc main_arg6)
abbrev A7 : S4096x512.Idx → EReal := m ((c : Thread nD τ).loc main_arg7)
/-- The mixers' input weight. -/
abbrev A8 : S1024x4096.Idx → EReal := m ((c : Thread nD τ).loc main_arg8)
/-- The branches' weights. -/
abbrev A9 : S4x512x1024.Idx → EReal := m ((c : Thread nD τ).loc main_arg9)
/-- The gates' weight. -/
abbrev A10 : S1024x4096.Idx → EReal := m ((c : Thread nD τ).loc main_arg10)
/-- The gates' bias. -/
abbrev A11 : S4096.Idx → EReal := m ((c : Thread nD τ).loc main_arg11)
/-- The weight of the merged branches. -/
abbrev A12 : S1024x1024.Idx → EReal := m ((c : Thread nD τ).loc main_arg12)
/-- The gain after the block. -/
abbrev A13 : S1024.Idx → EReal := m ((c : Thread nD τ).loc main_arg13)

theorem DX_eq : DX m c = A0 m c := V_main_arg0 m c
theorem XX_eq : XX m c = A2 m c := V_main_arg2 m c

theorem SP_apply (d : Fin 1024) : SP m c (ix2 0 ⟨2048 + d.val, by omega⟩) = A3 m c (ix1 d) := by
  unfold SP
  unfold V
  simp only [List.flatten_cons, List.flatten_nil, List.append_nil]
  after_reads_at
  after_reads_simp

theorem WP_input (p : Fin 8) (q : Fin 512) (e : Fin 1024) :
    WP m c (ix3 p ⟨q.val, by omega⟩ e) = A8 m c (ix2 e ⟨p.val * 512 + q.val, by omega⟩) := by
  unfold WP
  unfold V
  simp only [List.flatten_cons, List.flatten_nil, List.append_nil]
  after_reads_at
  after_reads_simp
  show shapeCast S8x512x1024 (transpose S4096x1024 [1, 0] (A8 m c : Vec Ideal S1024x4096 .f32) transposes_S1024x4096_S4096x1024_1_0 : Vec Ideal S4096x1024 .f32)
    shapeCasts_S4096x1024_S8x512x1024 (ix3 p q e) = _
  pointwise

theorem WP_gate (p : Fin 8) (q : Fin 512) (e : Fin 1024) :
    WP m c (ix3 p ⟨512 + q.val, by omega⟩ e) = A10 m c (ix2 e ⟨p.val * 512 + q.val, by omega⟩) := by
  unfold WP
  unfold V
  simp only [List.flatten_cons, List.flatten_nil, List.append_nil]
  after_reads_at
  after_reads_simp
  show shapeCast S8x512x1024 (transpose S4096x1024 [1, 0] (A10 m c : Vec Ideal S1024x4096 .f32) transposes_S1024x4096_S4096x1024_1_0 : Vec Ideal S4096x1024 .f32)
    shapeCasts_S4096x1024_S8x512x1024 (ix3 p q e) = _
  pointwise

/-- Columns in shards of 512. -/
abbrev cut8 (X : S4096x4096.Idx → EReal) : S8x4096x512.Idx → EReal :=
  fun y => X (ix2 (y 1) ⟨(y 0).val * 512 + (y 2).val, by
    have h0 : (y 0).val < 8 := (y 0).isLt
    have h2 : (y 2).val < 512 := (y 2).isLt
    omega⟩)

/-- Columns in branches of 1024. -/
abbrev cut4 (X : S4096x4096.Idx → EReal) : S4x4096x1024.Idx → EReal :=
  fun y => X (ix2 (y 1) ⟨(y 0).val * 1024 + (y 2).val, by
    have h0 : (y 0).val < 4 := (y 0).isLt
    have h2 : (y 2).val < 1024 := (y 2).isLt
    omega⟩)

/-- The shards as the program makes them. -/
theorem cut8_host (X : Vec Ideal S4096x4096 .f32) :
    truncf (F := Ideal) (φ := .f32) .bf16 (transpose S8x4096x512 [1, 0, 2] (shapeCast S4096x8x512 X shapeCasts_S4096x4096_S4096x8x512 : Vec Ideal S4096x8x512 .f32) transposes_S4096x8x512_S8x4096x512_1_0_2) bitsLt_bf16_f32 = (cut8 X : Vec Ideal S8x4096x512 .bf16) := by
  funext y
  obtain ⟨j, r, g, rfl⟩ : ∃ (j : Fin 8) (r : Fin 4096) (g : Fin 512), y = ix3 j r g := ⟨y 0, y 1, y 2, eq_ix3 y⟩
  pointwise
  rfl

/-- The branches as the program makes them. -/
theorem cut4_host (X : Vec Ideal S4096x4096 .f32) :
    truncf (F := Ideal) (φ := .f32) .bf16 (transpose S4x4096x1024 [1, 0, 2] (shapeCast S4096x4x1024 X shapeCasts_S4096x4096_S4096x4x1024 : Vec Ideal S4096x4x1024 .f32) transposes_S4096x4x1024_S4x4096x1024_1_0_2) bitsLt_bf16_f32 = (cut4 X : Vec Ideal S4x4096x1024 .bf16) := by
  funext y
  obtain ⟨j, r, g, rfl⟩ : ∃ (j : Fin 4) (r : Fin 4096) (g : Fin 1024), y = ix3 j r g := ⟨y 0, y 1, y 2, eq_ix3 y⟩
  pointwise
  rfl

theorem DZ_eq : DZ m c = cut8 (A1 m c) := by
  refine Eq.trans ?_ (cut8_host _)
  unfold DZ
  unfold V
  simp only [List.flatten_cons, List.flatten_nil, List.append_nil]
  after_reads_simp
  rfl

/-- The cotangent through a reshape to its own shape. -/
theorem dn_eq (x0 : Vec Ideal Cert.Reference4Ideal.S4096x1024 .f32) (x13 : Vec Ideal Cert.Reference4Ideal.S1024 .f32) :
    val_main_v78 (F := Ideal) x0 x13 = (mulf (F := Ideal) (φ := .f32) x0 (val_main_v77 (F := Ideal) x13) : Vec Ideal Cert.Reference4Ideal.S4096x1024 .f32) := by
  funext y
  obtain ⟨r, e, rfl⟩ : ∃ (r : Fin 4096) (e : Fin 1024), y = ix2 r e := ⟨y 0, y 1, eq_ix2 y⟩
  pointwise [val_main_v78, val_main_v76, val_main_v77]

theorem DG_eq : DG m c = cut4 (val_main_v110 (F := Ideal) (A0 m c) (A2 m c) (A3 m c) (A4 m c) (A5 m c) (A6 m c) (A7 m c) (A9 m c) (A10 m c) (A11 m c) (A12 m c) (A13 m c)) := by
  refine Eq.trans ?_ (cut4_host _)
  unfold DG
  unfold V
  simp only [List.flatten_cons, List.flatten_nil, List.append_nil]
  after_reads_simp
  simp only [val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, dn_eq]
  rfl

end Cert.Kernel4Ideal.MixA

end
-- ==== Proof.MixAClaim.lean ====
/-
  The mixers' input gradient: the kernel's results are the reference's, and the claims on this call.
-/
module

public import proofs.«01_k».proof.Defs
public import proofs.«01_k».proof.Proof.MixAHost
public import proofs.«01_k».proof.Proof.Gen.Kernel4.Frame
public import proofs.«01_k».proof.Proof.Gen.Kernel4Ideal.Value
public import proofs.«01_k».proof.Proof.Gen.Reference4Ideal.Run

@[expose] public section

set_option maxRecDepth 16384

noncomputable section

namespace Cert.Kernel4Ideal.MixA

open Idealize.ShloMosaic Idealize.ShloMosaic.TcCoe Idealize.SL.Sem Idealize.ShloMosaic.Tactic
open Cert.Kernel4Ideal Cert.Kernel4Ideal.Gen Cert.Reference4Ideal.Read
open Cert.KernelIdeal.Merge (eps)

variable (m : (ℓ : Loc nD τ sig) → Buf (Elt Ideal) ℓ) (c : Dev nD)

/-- A branch's column is the shard's column. -/
theorem cut4_col (X : S4096x4096.Idx → EReal) (p : Fin 8) (g : Fin 512) (r : Fin 4096) :
    cut4 X (ix3 (br p) r (bcol p g)) = X (ix2 r ⟨p.val * 512 + g.val, by omega⟩) :=
  congrArg X (congrArg (fun a => ix2 r a) (Fin.ext (by
    show p.val / 2 * 1024 + (p.val % 2 * 512 + g.val) = p.val * 512 + g.val
    omega)))

/-- A sum over the columns, shard by shard. -/
theorem sum_cols (f : Fin 4096 → EReal) : ∑ p : Fin 8, ∑ q : Fin 512, f ⟨p.val * 512 + q.val, by omega⟩ = ∑ k, f k := by
  rw [← Fintype.sum_prod_type' (f := fun (p : Fin 8) (q : Fin 512) => f ⟨p.val * 512 + q.val, by omega⟩)]
  refine Fintype.sum_equiv (finProdFinEquiv (m := 8) (n := 512)) _ _ fun x => congrArg f (Fin.ext ?_)
  show x.1.val * 512 + x.2.val = x.2.val + 512 * x.1.val
  omega

/-- The gradient of the normed input: the shards' parts are the two products. -/
theorem dh_eq (r : Fin 4096) (e : Fin 1024) : dhG m c r e
    = val_main_v113 (F := Ideal) (A0 m c) (A1 m c) (A2 m c) (A3 m c) (A4 m c) (A5 m c) (A6 m c) (A7 m c) (A8 m c) (A9 m c) (A10 m c) (A11 m c) (A12 m c) (A13 m c) (ix2 r e) := by
  rw [Cert.Reference4Ideal.MixA.dh_apply, add_comm]
  unfold dhG part
  rw [Finset.sum_add_distrib]
  refine congrArg₂ (· + ·) (Eq.trans ?_ (sum_cols _)) (Eq.trans ?_ (sum_cols _))
  · refine Finset.sum_congr rfl fun p _ => Finset.sum_congr rfl fun q _ => ?_
    exact congrArg₂ (· * ·) (congrFun (DZ_eq m c) _) (WP_input m c p q e)
  · refine Finset.sum_congr rfl fun p _ => Finset.sum_congr rfl fun q _ => ?_
    exact congrArg₂ (· * ·) ((congrFun (DG_eq m c) _).trans (cut4_col _ p q r)) (WP_gate m c p q e)

theorem res6 : dxG m c = val_main_v134 (F := Ideal) (A0 m c) (A1 m c) (A2 m c) (A3 m c) (A4 m c) (A5 m c) (A6 m c) (A7 m c) (A8 m c) (A9 m c) (A10 m c) (A11 m c) (A12 m c) (A13 m c) := by
  funext y
  obtain ⟨r, e, rfl⟩ : ∃ (r : Fin 4096) (e : Fin 1024), y = ix2 r e := ⟨y 0, y 1, eq_ix2 y⟩
  rw [Cert.Reference4Ideal.MixA.dx_apply]
  refine congrArg₂ (· + ·) (congrFun (DX_eq m c) _) ?_
  exact congrArg₂ (fun a b => RmsBwd.short 1024 eps a b e) (funext fun j => congrFun (XX_eq m c) _)
    (funext fun j => congrArg₂ (· * ·) (dh_eq m c r j) (SP_apply m c j))

theorem res7 : gpG m c = val_main_v137 (F := Ideal) (A0 m c) (A1 m c) (A2 m c) (A3 m c) (A4 m c) (A5 m c) (A6 m c) (A7 m c) (A8 m c) (A9 m c) (A10 m c) (A11 m c) (A12 m c) (A13 m c) := by
  funext y
  obtain ⟨k, e, rfl⟩ : ∃ (k : Fin 8) (e : Fin 1024), y = ix2 k e := ⟨y 0, y 1, eq_ix2 y⟩
  by_cases hk : k = 0
  · subst hk
    rw [Cert.Reference4Ideal.MixA.gp_row]
    refine (if_pos rfl).trans (Finset.sum_congr rfl fun r _ => Eq.trans ?_ (mul_comm _ _))
    exact congrArg₂ (· * ·) (dh_eq m c r e) (congrArg₂ (· * ·) (congrFun (XX_eq m c) _)
      (congrArg Ideal.rsqrt (congrArg (RmsBwd.q 1024 eps) (funext fun j => congrFun (XX_eq m c) _))))
  · rw [Cert.Reference4Ideal.MixA.gp_rest (hk := hk)]
    exact if_neg fun h => hk (Fin.ext h)

end Cert.Kernel4Ideal.MixA

namespace Cert.MixAClaim

open Idealize.ShloMosaic Idealize.ShloMosaic.TcCoe Idealize.SL.Sem Idealize.ShloMosaic.Tactic
open Cert.Reference4Ideal.Read Cert.Kernel4Ideal.MixA

theorem frame_p : Cert.quiescent_Kernel4 := fun m ρ _ => Cert.Kernel4.Gen.frame m ρ

theorem frame_pi : Cert.quiescent_Kernel4Ideal := fun m ρ _ => Cert.Kernel4Ideal.Gen.frame m ρ

theorem frame_ri : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- Equal arguments give equal results. -/
theorem algebraic : Cert.algebraic_Kernel4Ideal_Reference4Ideal := by
  intro m g m' g' _ hagree
  have hV : ∀ c : Dev Cert.Kernel4Ideal.nD,
      StableHlo.launchContents m' c (Proc.devRef .tc Cert.Reference4Ideal.main_arg0) = A0 m c
      ∧ StableHlo.launchContents m' c (Proc.devRef .tc Cert.Reference4Ideal.main_arg1) = A1 m c
      ∧ StableHlo.launchContents m' c (Proc.devRef .tc Cert.Reference4Ideal.main_arg2) = A2 m c
      ∧ StableHlo.launchContents m' c (Proc.devRef .tc Cert.Reference4Ideal.main_arg3) = A3 m c
      ∧ StableHlo.launchContents m' c (Proc.devRef .tc Cert.Reference4Ideal.main_arg4) = A4 m c
      ∧ StableHlo.launchContents m' c (Proc.devRef .tc Cert.Reference4Ideal.main_arg5) = A5 m c
      ∧ StableHlo.launchContents m' c (Proc.devRef .tc Cert.Reference4Ideal.main_arg6) = A6 m c
      ∧ StableHlo.launchContents m' c (Proc.devRef .tc Cert.Reference4Ideal.main_arg7) = A7 m c
      ∧ StableHlo.launchContents m' c (Proc.devRef .tc Cert.Reference4Ideal.main_arg8) = A8 m c
      ∧ StableHlo.launchContents m' c (Proc.devRef .tc Cert.Reference4Ideal.main_arg9) = A9 m c
      ∧ StableHlo.launchContents m' c (Proc.devRef .tc Cert.Reference4Ideal.main_arg10) = A10 m c
      ∧ StableHlo.launchContents m' c (Proc.devRef .tc Cert.Reference4Ideal.main_arg11) = A11 m c
      ∧ StableHlo.launchContents m' c (Proc.devRef .tc Cert.Reference4Ideal.main_arg12) = A12 m c
      ∧ StableHlo.launchContents m' c (Proc.devRef .tc Cert.Reference4Ideal.main_arg13) = A13 m c := hagree
  refine ⟨fun c => dxG m c, fun c => gpG m c, ?_, ?_⟩
  · refine (θ_run Cert.Kernel4Ideal.defs _ _).mono (fun r h c => ?_) (Cert.Kernel4Ideal.Value.run_blocks m g)
    obtain ⟨h0, h1, h2⟩ := h c
    exact ⟨h0.trans (final6 m c), h1.trans (final7 m c), h2⟩
  · refine (θ_run Cert.Reference4Ideal.defs _ _).mono (fun r h c => ?_) (Cert.Reference4Ideal.Value.run (F := Ideal) m' g')
    obtain ⟨h0, h1, h2⟩ := h c
    obtain ⟨e0, e1, e2, e3, e4, e5, e6, e7, e8, e9, e10, e11, e12, e13⟩ := hV c
    refine ⟨h0.trans ((val_main_v134_eq _).trans ?_), h1.trans ((val_main_v137_eq _).trans ?_), h2⟩
    · rw [e0, e1, e2, e3, e4, e5, e6, e7, e8, e9, e10, e11, e12, e13]
      exact (res6 m c).symm
    · rw [e0, e1, e2, e3, e4, e5, e6, e7, e8, e9, e10, e11, e12, e13]
      exact (res7 m c).symm

end Cert.MixAClaim

end
-- ==== Proof.FfnAPay.lean ====
/-
  What the feed-forward gradient's kernel computes on one tile of 512 rows and one group of 704 hidden columns, read at an index
  over the extended reals.
-/
module

public import proofs.«01_k».proof.Proof.Gen.Kernel5Ideal.Skeleton
public import proofs.«01_k».proof.Proof.MergePay

@[expose] public section

set_option maxRecDepth 16384

noncomputable section

namespace Cert.Kernel5Ideal.FfnA

open Idealize.ShloMosaic Idealize.ShloMosaic.TcCoe
open Cert.Kernel5Ideal Cert.Kernel5Ideal.Gen
open Cert.KernelIdeal.Merge (eps width_word eps_word)

/-- The factor of the half step. -/
abbrev half : EReal := Ideal.ofBits .f32 0x3F000000#32

/-- The gate and its derivative. -/
abbrev silu (a : EReal) : EReal := a * Ideal.logistic a
abbrev dsilu (a : EReal) : EReal := Ideal.logistic a + silu a * (1 - Ideal.logistic a)

theorem pay14_apply (k : Fin 8) (e : Fin 1024) : k0_pay14 (F := Ideal) (ix2 k e) = 0 := by
  pointwise [k0_pay14]

theorem pay15_apply (r : Fin 512) (e : Fin 1024) : k0_pay15 (F := Ideal) (ix2 r e) = 0 := by
  pointwise [k0_pay15]

/-- The gradient at the block's second product. -/
abbrev dyT (x0 : Vec Ideal S512x1024 .f32) (x2 : Vec Ideal S512x1024 .bf16) (x6 : Vec Ideal S1x1024 .f32) (r : Fin 512) (e : Fin 1024) : EReal :=
  RmsBwd.short 1024 eps (fun j : Fin 1024 => x2 (ix2 r j)) (fun j => half * x0 (ix2 r j) * x6 (ix2 0 j)) e

theorem pay12_apply (x2 : Vec Ideal S512x1024 .bf16) (x6 : Vec Ideal S1x1024 .f32) (x0 : Vec Ideal S512x1024 .f32) (r : Fin 512) (e : Fin 1024) :
    k0_pay12 (F := Ideal) x2 x6 x0 (ix2 r e) = dyT x0 x2 x6 r e := by
  unfold dyT RmsBwd.short RmsBwd.q
  rw [← width_word, ← eps_word]
  pointwise [k0_pay12, k0_pay11, k0_pay10, k0_pay9, k0_pay8]

theorem pay13_apply (x2 : Vec Ideal S512x1024 .bf16) (x0 : Vec Ideal S512x1024 .f32) (o : Vec Ideal S1x1024 .f32) (e : Fin 1024) :
    k0_pay13 (F := Ideal) x2 x0 o (ix2 0 e)
      = o (ix2 0 e) + ∑ r, half * x0 (ix2 r e) * (x2 (ix2 r e) * Ideal.rsqrt (RmsBwd.q 1024 eps fun j : Fin 1024 => x2 (ix2 r j))) := by
  unfold RmsBwd.q
  rw [← width_word, ← eps_word]
  pointwise [k0_pay13, k0_pay11, k0_pay10, k0_pay9, k0_pay8]

/-- The gradient at the gated activation. -/
abbrev duT (d : Vec Ideal S512x1024 .bf16) (x9 : Vec Ideal S2x352x1024 .bf16) (r : Fin 512) (g : Fin 704) : EReal :=
  ∑ j : Fin 1024, d (ix2 r j) * x9 (ix3 ⟨g.val / 352, by omega⟩ ⟨g.val % 352, by omega⟩ j)

theorem pay19_apply (d : Vec Ideal S512x1024 .bf16) (x9 : Vec Ideal S2x352x1024 .bf16) (r : Fin 512) (g : Fin 704) :
    k0_pay19 (F := Ideal) d x9 (ix2 r g) = duT d x9 r g := by
  pointwise [k0_pay19]

theorem pay20_apply (x3 : Vec Ideal S1x512x704 .bf16) (d : Vec Ideal S512x1024 .bf16) (x9 : Vec Ideal S2x352x1024 .bf16) (r : Fin 512) (g : Fin 704) :
    k0_pay20 (F := Ideal) x3 d x9 (ix2 r g) = duT d x9 r g * silu (x3 (ix3 0 r g)) := by
  rw [← pay19_apply]
  pointwise [k0_pay20, k0_pay18, k0_pay17, k0_pay16]

theorem pay21_apply (x3 : Vec Ideal S1x512x704 .bf16) (d : Vec Ideal S512x1024 .bf16) (x9 : Vec Ideal S2x352x1024 .bf16) (x4 : Vec Ideal S1x512x704 .bf16)
    (r : Fin 512) (g : Fin 704) :
    k0_pay21 (F := Ideal) x3 d x9 x4 (ix2 r g) = duT d x9 r g * x4 (ix3 0 r g) * dsilu (x3 (ix3 0 r g)) := by
  rw [← pay19_apply]
  pointwise [k0_pay21, k0_pay18, k0_pay17, k0_pay16]

theorem pay1_apply (v : FVec Ideal S512x704 .bf16) (r : Fin 512) (g : Fin 704) : k0_pay1 (F := Ideal) v (ix3 0 r g) = v (ix2 r g) := by
  pointwise [k0_pay1]

theorem pay2_apply (v : FVec Ideal S512x704 .bf16) (r : Fin 512) (g : Fin 704) : k0_pay2 (F := Ideal) v (ix3 0 r g) = v (ix2 r g) := by
  pointwise [k0_pay2]

theorem pay3_apply (vb va : FVec Ideal S512x704 .bf16) (acc : Vec Ideal S512x1024 .f32) (x7 x8 : Vec Ideal S2x352x1024 .bf16) (r : Fin 512) (e : Fin 1024) :
    k0_pay3 (F := Ideal) vb va acc x7 x8 (ix2 r e)
      = acc (ix2 r e) + (∑ g : Fin 704, va (ix2 r g) * x7 (ix3 ⟨g.val / 352, by omega⟩ ⟨g.val % 352, by omega⟩ e)
        + ∑ g : Fin 704, vb (ix2 r g) * x8 (ix3 ⟨g.val / 352, by omega⟩ ⟨g.val % 352, by omega⟩ e)) := by
  pointwise [k0_pay3]

theorem pay6_apply (x : Vec Ideal S512x1024 .f32) (g : Vec Ideal S1x1024 .f32) (a d : Vec Ideal S512x1024 .f32) (r : Fin 512) (e : Fin 1024) :
    k0_pay6 (F := Ideal) x g a d (ix2 r e)
      = d (ix2 r e) + RmsBwd.short 1024 eps (fun j : Fin 1024 => x (ix2 r j)) (fun j => a (ix2 r j) * g (ix2 0 j)) e := by
  unfold RmsBwd.short RmsBwd.q
  rw [← width_word, ← eps_word]
  pointwise [k0_pay6, k0_pay5, k0_pay4]

theorem pay7_apply (x a : Vec Ideal S512x1024 .f32) (o : Vec Ideal S1x1024 .f32) (e : Fin 1024) :
    k0_pay7 (F := Ideal) x a o (ix2 0 e)
      = o (ix2 0 e) + ∑ r, a (ix2 r e) * (x (ix2 r e) * Ideal.rsqrt (RmsBwd.q 1024 eps fun j : Fin 1024 => x (ix2 r j))) := by
  unfold RmsBwd.q
  rw [← width_word, ← eps_word]
  pointwise [k0_pay7, k0_pay5, k0_pay4]

end Cert.Kernel5Ideal.FfnA

end
-- ==== Proof.FfnABlock.lean ====
/-
  What the feed-forward gradient's kernel leaves in its scratch and in its outputs' blocks at one grid point, over the extended
  reals.
-/
module

public import proofs.«01_k».proof.Proof.Gen.Kernel5Ideal.Frame
public import proofs.«01_k».proof.Proof.FfnAPay
public import proofs.«01_k».proof.Proof.Bands
public import proofs.«01_k».proof.Proof.FfnWBlock
public import Idealize.ShloMosaic.Lib.WritesUnit

@[expose] public section

set_option maxRecDepth 16384

noncomputable section

namespace Cert.Kernel5Ideal.FfnA

open Idealize.ShloMosaic Idealize.ShloMosaic.TcCoe Idealize.SL.Sem Idealize.ShloMosaic.Tactic
open Cert.Kernel5Ideal Cert.Kernel5Ideal.Gen
open Cert.KernelIdeal.Merge (eps)
open Cert.Kernel2Ideal.FfnW (hz2 hz3 band_mem)

variable (c : Dev nD) (i : grid0.Coords)
  (a2 : Memref sig .tc .vmem S512x1024 .f32) (h2 : a2.IsWhole) (a3 : Memref sig .tc .vmem S512x1024 .f32) (h3 : a3.IsWhole)
  (a4 : Memref sig .tc .vmem S512x1024 .bf16) (h4 : a4.IsWhole) (a5 : Memref sig .tc .vmem S1x512x704 .bf16) (h5 : a5.IsWhole)
  (a6 : Memref sig .tc .vmem S1x512x704 .bf16) (h6 : a6.IsWhole) (a7 : Memref sig .tc .vmem S1x1024 .f32) (h7 : a7.IsWhole)
  (a8 : Memref sig .tc .vmem S1x1024 .f32) (h8 : a8.IsWhole) (a9 : Memref sig .tc .vmem S2x352x1024 .bf16) (h9 : a9.IsWhole)
  (a10 : Memref sig .tc .vmem S2x352x1024 .bf16) (h10 : a10.IsWhole) (a11 : Memref sig .tc .vmem S2x352x1024 .bf16) (h11 : a11.IsWhole)
  (a13 : Memref sig .tc .vmem S512x1024 .f32) (h13 : a13.IsWhole) (a14 : Memref sig .tc .vmem S512x1024 .bf16) (h14 : a14.IsWhole)
  (a15 : Memref sig .tc .vmem S1x512x704 .bf16) (h15 : a15.IsWhole) (a16 : Memref sig .tc .vmem S1x512x704 .bf16) (h16 : a16.IsWhole)
  (a17 : Memref sig .tc .vmem S8x1024 .f32) (h17 : a17.IsWhole) (a18 : Memref sig .tc .vmem S512x1024 .bf16) (h18 : a18.IsWhole)
  (a19 : Memref sig .tc .vmem S512x1024 .f32) (h19 : a19.IsWhole)
variable (x0 x1 : Vec Ideal S512x1024 .f32) (x2 : Vec Ideal S512x1024 .bf16) (x3 x4 : Vec Ideal S1x512x704 .bf16) (x5 x6 : Vec Ideal S1x1024 .f32)
  (x7 x8 x9 : Vec Ideal S2x352x1024 .bf16) (xo : Vec Ideal S8x1024 .f32) (d : Vec Ideal S512x1024 .bf16) (xs : Vec Ideal S512x1024 .f32)

/-- The gradient at the block's second product, as a tile. -/
abbrev dyV : Vec Ideal S512x1024 .bf16 := fun y => dyT x0 x2 x6 (y 0) (y 1)

theorem pay12_eq : k0_pay12 (F := Ideal) x2 x6 x0 = dyV x0 x2 x6 := by
  funext y
  obtain ⟨r, e, rfl⟩ : ∃ (r : Fin 512) (e : Fin 1024), y = ix2 r e := ⟨y 0, y 1, eq_ix2 y⟩
  exact pay12_apply x2 x6 x0 r e

/-- The gradients at the two hidden products. -/
abbrev daT (r : Fin 512) (g : Fin 704) : EReal := duT d x9 r g * x4 (ix3 0 r g) * dsilu (x3 (ix3 0 r g))
abbrev dbT (r : Fin 512) (g : Fin 704) : EReal := duT d x9 r g * silu (x3 (ix3 0 r g))

/-- One group's part of the gradient of the normed input. -/
abbrev tile (r : Fin 512) (e : Fin 1024) : EReal :=
  ∑ g : Fin 704, daT x3 x4 x9 d r g * x7 (ix3 ⟨g.val / 352, by omega⟩ ⟨g.val % 352, by omega⟩ e)
    + ∑ g : Fin 704, dbT x3 x9 d r g * x8 (ix3 ⟨g.val / 352, by omega⟩ ⟨g.val % 352, by omega⟩ e)

/-- The accumulator with one more group's part. -/
abbrev accT : Vec Ideal S512x1024 .f32 := fun y => xs y + tile x3 x4 x7 x8 x9 d (y 0) (y 1)

theorem pay3_eq : k0_pay3 (F := Ideal) (k0_pay20 x3 d x9) (k0_pay21 x3 d x9 x4) xs x7 x8 = accT x3 x4 x7 x8 x9 d xs := by
  funext y
  obtain ⟨r, e, rfl⟩ : ∃ (r : Fin 512) (e : Fin 1024), y = ix2 r e := ⟨y 0, y 1, eq_ix2 y⟩
  rw [pay3_apply]
  simp only [pay20_apply, pay21_apply]
  rfl

/-- The accumulator with the first group's part. -/
theorem pay3_first (r : Fin 512) (e : Fin 1024) :
    k0_pay3 (F := Ideal) (k0_pay20 x3 d x9) (k0_pay21 x3 d x9 x4) (k0_pay15 (F := Ideal)) x7 x8 (ix2 r e) = tile x3 x4 x7 x8 x9 d r e := by
  rw [pay3_eq]
  show k0_pay15 (F := Ideal) (ix2 r e) + _ = _
  rw [pay15_apply, zero_add]
  rfl

theorem st_a (r : Fin 512) (g : Fin 704) : k0_pay1 (F := Ideal) (k0_pay21 x3 d x9 x4) (ix3 0 r g) = daT x3 x4 x9 d r g := by
  rw [pay1_apply, pay21_apply]
theorem st_b (r : Fin 512) (g : Fin 704) : k0_pay2 (F := Ideal) (k0_pay20 x3 d x9) (ix3 0 r g) = dbT x3 x9 d r g := by
  rw [pay2_apply, pay20_apply]

/-- The last whole store gives the contents. -/
theorem whole (w : S512x1024.Idx → EReal) (L : List (View.Piece (Elt Ideal) S512x1024 .f32)) (r : Fin 512) (e : Fin 1024) :
    View.canon (Val := Elt Ideal) (e := .f32) (⟨Rect.unit (s := S512x1024) ![0, 0] ![512, 1024] inb_S512x1024_S512x1024_0_0, w⟩ :: L) (ix2 r e) = w (ix2 r e) :=
  band_mem _ _ _ r e r (by simp)

theorem emb_whole (y : S512x1024.Idx) : (Rect.unit (s := S512x1024) ![0, 0] ![512, 1024] inb_S512x1024_S512x1024_0_0).toLoadRect.idx y = y := by
  funext a
  apply Fin.ext
  fin_cases a
  · show 0 + 1 * (y 0).val = (y 0).val
    omega
  · show 0 + 1 * (y 1).val = (y 1).val
    omega

/-- A whole load of what one whole store left. -/
theorem cov_whole {sig : RefSig} {φ : EltTy} (v : View sig .tc .vmem S512x1024 φ) (w : S512x1024.Idx → Elt Ideal φ) :
    v.readCov (Val := Elt Ideal) [⟨Rect.unit (s := S512x1024) ![0, 0] ![512, 1024] inb_S512x1024_S512x1024_0_0, w⟩]
      (Rect.unit (s := S512x1024) ![0, 0] ![512, 1024] inb_S512x1024_S512x1024_0_0).toLoadRect = w := by
  rw [View.readCov_eq_canon', View.canon_unit_zero hz2]
  funext y
  exact congrArg w (emb_whole y)

/-- One whole store gives the contents. -/
theorem canon2 {φ : EltTy} (w : S512x1024.Idx → Elt Ideal φ) :
    View.canon (Val := Elt Ideal) [⟨Rect.unit (s := S512x1024) ![0, 0] ![512, 1024] inb_S512x1024_S512x1024_0_0, w⟩] = w :=
  View.canon_unit_zero (S := S512x1024) hz2 _ w
theorem canon3 {φ : EltTy} (w : S1x512x704.Idx → Elt Ideal φ) :
    View.canon (Val := Elt Ideal) [⟨Rect.unit (s := S1x512x704) ![0, 0, 0] ![1, 512, 704] inb_S1x512x704_S1x512x704_0_0_0, w⟩] = w :=
  View.canon_unit_zero (S := S1x512x704) hz3 _ w

/-- What the first point leaves: the gradient at the second product, its tile of both hidden products', and the first group's part. -/
theorem outs_A (hc0 : cond0_0 i) (hc1 : cond0_1 i) (hc2 : ¬cond0_2 i) :
    sout0_A_0 (F := Ideal) c i a2 h2 a3 h3 a4 h4 a5 h5 a6 h6 a7 h7 a8 h8 a9 h9 a10 h10 a11 h11 a13 h13 a14 h14 a15 h15 a16 h16 a17 h17 a18 h18 a19 h19 hc0 hc1 hc2 x0 x1 x2 x3 x4 x5 x6 x7 x8 x9 = dyV x0 x2 x6
    ∧ out0_A_11 (F := Ideal) c i a2 h2 a3 h3 a4 h4 a5 h5 a6 h6 a7 h7 a8 h8 a9 h9 a10 h10 a11 h11 a13 h13 a14 h14 a15 h15 a16 h16 a17 h17 a18 h18 a19 h19 hc0 hc1 hc2 x0 x1 x2 x3 x4 x5 x6 x7 x8 x9 = dyV x0 x2 x6
    ∧ (∀ r e, sout0_A_1 (F := Ideal) c i a2 h2 a3 h3 a4 h4 a5 h5 a6 h6 a7 h7 a8 h8 a9 h9 a10 h10 a11 h11 a13 h13 a14 h14 a15 h15 a16 h16 a17 h17 a18 h18 a19 h19 hc0 hc1 hc2 x0 x1 x2 x3 x4 x5 x6 x7 x8 x9 (ix2 r e) = tile x3 x4 x7 x8 x9 (dyV x0 x2 x6) r e)
    ∧ (∀ r g, out0_A_12 (F := Ideal) c i a2 h2 a3 h3 a4 h4 a5 h5 a6 h6 a7 h7 a8 h8 a9 h9 a10 h10 a11 h11 a13 h13 a14 h14 a15 h15 a16 h16 a17 h17 a18 h18 a19 h19 hc0 hc1 hc2 x0 x1 x2 x3 x4 x5 x6 x7 x8 x9 (ix3 0 r g) = daT x3 x4 x9 (dyV x0 x2 x6) r g)
    ∧ (∀ r g, out0_A_13 (F := Ideal) c i a2 h2 a3 h3 a4 h4 a5 h5 a6 h6 a7 h7 a8 h8 a9 h9 a10 h10 a11 h11 a13 h13 a14 h14 a15 h15 a16 h16 a17 h17 a18 h18 a19 h19 hc0 hc1 hc2 x0 x1 x2 x3 x4 x5 x6 x7 x8 x9 (ix3 0 r g) = dbT x3 x9 (dyV x0 x2 x6) r g) := by
  refine ⟨?_, ?_, fun r e => ?_, fun r g => ?_, fun r g => ?_⟩
  · unfold sout0_A_0
    rw [View.read_writes_eq_canon _ _ _ (scover0_A_0 (F := Ideal) c i a2 h2 a3 h3 a4 h4 a5 h5 a6 h6 a7 h7 a8 h8 a9 h9 a10 h10 a11 h11 a13 h13 a14 h14 a15 h15 a16 h16 a17 h17 a18 h18 a19 h19 hc0 hc1 hc2 x0 x1 x2 x3 x4 x5 x6 x7 x8 x9)]
    unfold kernelRun0_A
    dsimp only
    sl_unfold_words
    simp only [View.readAt_eq_ld, Memref.IsWhole.read_unread, View.ld_unit_zero (S := S512x1024) hz2, View.ld_unit_zero (S := S1x1024) hz2,
      View.ld_unit_zero (S := S1x512x704) hz3, View.ld_unit_zero (S := S2x352x1024) hz3, canon2, canon3, cov_whole, pay12_eq]
  · unfold out0_A_11
    rw [View.read_writes_eq_canon _ _ _ (cover0_A_11 (F := Ideal) c i a2 h2 a3 h3 a4 h4 a5 h5 a6 h6 a7 h7 a8 h8 a9 h9 a10 h10 a11 h11 a13 h13 a14 h14 a15 h15 a16 h16 a17 h17 a18 h18 a19 h19 hc0 hc1 hc2 x0 x1 x2 x3 x4 x5 x6 x7 x8 x9)]
    unfold kernelRun0_A
    dsimp only
    sl_unfold_words
    simp only [View.readAt_eq_ld, Memref.IsWhole.read_unread, View.ld_unit_zero (S := S512x1024) hz2, View.ld_unit_zero (S := S1x1024) hz2,
      View.ld_unit_zero (S := S1x512x704) hz3, View.ld_unit_zero (S := S2x352x1024) hz3, canon2, canon3, cov_whole, pay12_eq]
  · unfold sout0_A_1
    rw [View.read_writes_eq_canon _ _ _ (scover0_A_1 (F := Ideal) c i a2 h2 a3 h3 a4 h4 a5 h5 a6 h6 a7 h7 a8 h8 a9 h9 a10 h10 a11 h11 a13 h13 a14 h14 a15 h15 a16 h16 a17 h17 a18 h18 a19 h19 hc0 hc1 hc2 x0 x1 x2 x3 x4 x5 x6 x7 x8 x9)]
    unfold kernelRun0_A
    dsimp only
    sl_unfold_words
    simp only [View.readAt_eq_ld, Memref.IsWhole.read_unread, View.ld_unit_zero (S := S512x1024) hz2, View.ld_unit_zero (S := S1x1024) hz2,
      View.ld_unit_zero (S := S1x512x704) hz3, View.ld_unit_zero (S := S2x352x1024) hz3, canon2, canon3, cov_whole, pay12_eq]
    exact (whole _ _ r e).trans (pay3_first x3 x4 x7 x8 x9 _ r e)
  · unfold out0_A_12
    rw [View.read_writes_eq_canon _ _ _ (cover0_A_12 (F := Ideal) c i a2 h2 a3 h3 a4 h4 a5 h5 a6 h6 a7 h7 a8 h8 a9 h9 a10 h10 a11 h11 a13 h13 a14 h14 a15 h15 a16 h16 a17 h17 a18 h18 a19 h19 hc0 hc1 hc2 x0 x1 x2 x3 x4 x5 x6 x7 x8 x9)]
    unfold kernelRun0_A
    dsimp only
    sl_unfold_words
    simp only [View.readAt_eq_ld, Memref.IsWhole.read_unread, View.ld_unit_zero (S := S512x1024) hz2, View.ld_unit_zero (S := S1x1024) hz2,
      View.ld_unit_zero (S := S1x512x704) hz3, View.ld_unit_zero (S := S2x352x1024) hz3, canon2, canon3, cov_whole, pay12_eq]
    exact st_a _ _ _ _ r g
  · unfold out0_A_13
    rw [View.read_writes_eq_canon _ _ _ (cover0_A_13 (F := Ideal) c i a2 h2 a3 h3 a4 h4 a5 h5 a6 h6 a7 h7 a8 h8 a9 h9 a10 h10 a11 h11 a13 h13 a14 h14 a15 h15 a16 h16 a17 h17 a18 h18 a19 h19 hc0 hc1 hc2 x0 x1 x2 x3 x4 x5 x6 x7 x8 x9)]
    unfold kernelRun0_A
    dsimp only
    sl_unfold_words
    simp only [View.readAt_eq_ld, Memref.IsWhole.read_unread, View.ld_unit_zero (S := S512x1024) hz2, View.ld_unit_zero (S := S1x1024) hz2,
      View.ld_unit_zero (S := S1x512x704) hz3, View.ld_unit_zero (S := S2x352x1024) hz3, canon2, canon3, cov_whole, pay12_eq]
    exact st_b _ _ _ r g

/-- The same at a later tile's first point. -/
theorem outs_D (hc0 : ¬cond0_0 i) (hc1 : cond0_1 i) (hc2 : ¬cond0_2 i) :
    sout0_D_0 (F := Ideal) c i a2 h2 a3 h3 a4 h4 a5 h5 a6 h6 a7 h7 a8 h8 a9 h9 a10 h10 a11 h11 a13 h13 a14 h14 a15 h15 a16 h16 a17 h17 a18 h18 a19 h19 hc0 hc1 hc2 x0 x1 x2 x3 x4 x5 x6 x7 x8 x9 xo = dyV x0 x2 x6
    ∧ out0_D_11 (F := Ideal) c i a2 h2 a3 h3 a4 h4 a5 h5 a6 h6 a7 h7 a8 h8 a9 h9 a10 h10 a11 h11 a13 h13 a14 h14 a15 h15 a16 h16 a17 h17 a18 h18 a19 h19 hc0 hc1 hc2 x0 x1 x2 x3 x4 x5 x6 x7 x8 x9 xo = dyV x0 x2 x6
    ∧ (∀ r e, sout0_D_1 (F := Ideal) c i a2 h2 a3 h3 a4 h4 a5 h5 a6 h6 a7 h7 a8 h8 a9 h9 a10 h10 a11 h11 a13 h13 a14 h14 a15 h15 a16 h16 a17 h17 a18 h18 a19 h19 hc0 hc1 hc2 x0 x1 x2 x3 x4 x5 x6 x7 x8 x9 xo (ix2 r e) = tile x3 x4 x7 x8 x9 (dyV x0 x2 x6) r e)
    ∧ (∀ r g, out0_D_12 (F := Ideal) c i a2 h2 a3 h3 a4 h4 a5 h5 a6 h6 a7 h7 a8 h8 a9 h9 a10 h10 a11 h11 a13 h13 a14 h14 a15 h15 a16 h16 a17 h17 a18 h18 a19 h19 hc0 hc1 hc2 x0 x1 x2 x3 x4 x5 x6 x7 x8 x9 xo (ix3 0 r g) = daT x3 x4 x9 (dyV x0 x2 x6) r g)
    ∧ (∀ r g, out0_D_13 (F := Ideal) c i a2 h2 a3 h3 a4 h4 a5 h5 a6 h6 a7 h7 a8 h8 a9 h9 a10 h10 a11 h11 a13 h13 a14 h14 a15 h15 a16 h16 a17 h17 a18 h18 a19 h19 hc0 hc1 hc2 x0 x1 x2 x3 x4 x5 x6 x7 x8 x9 xo (ix3 0 r g) = dbT x3 x9 (dyV x0 x2 x6) r g) := by
  refine ⟨?_, ?_, fun r e => ?_, fun r g => ?_, fun r g => ?_⟩
  · unfold sout0_D_0
    rw [View.read_writes_eq_canon _ _ _ (scover0_D_0 (F := Ideal) c i a2 h2 a3 h3 a4 h4 a5 h5 a6 h6 a7 h7 a8 h8 a9 h9 a10 h10 a11 h11 a13 h13 a14 h14 a15 h15 a16 h16 a17 h17 a18 h18 a19 h19 hc0 hc1 hc2 x0 x1 x2 x3 x4 x5 x6 x7 x8 x9 xo)]
    unfold kernelRun0_D
    dsimp only
    sl_unfold_words
    simp only [View.readAt_eq_ld, Memref.IsWhole.read_unread, View.ld_unit_zero (S := S512x1024) hz2, View.ld_unit_zero (S := S1x1024) hz2,
      View.ld_unit_zero (S := S1x512x704) hz3, View.ld_unit_zero (S := S2x352x1024) hz3, canon2, canon3, cov_whole, pay12_eq]
  · unfold out0_D_11
    rw [View.read_writes_eq_canon _ _ _ (cover0_D_11 (F := Ideal) c i a2 h2 a3 h3 a4 h4 a5 h5 a6 h6 a7 h7 a8 h8 a9 h9 a10 h10 a11 h11 a13 h13 a14 h14 a15 h15 a16 h16 a17 h17 a18 h18 a19 h19 hc0 hc1 hc2 x0 x1 x2 x3 x4 x5 x6 x7 x8 x9 xo)]
    unfold kernelRun0_D
    dsimp only
    sl_unfold_words
    simp only [View.readAt_eq_ld, Memref.IsWhole.read_unread, View.ld_unit_zero (S := S512x1024) hz2, View.ld_unit_zero (S := S1x1024) hz2,
      View.ld_unit_zero (S := S1x512x704) hz3, View.ld_unit_zero (S := S2x352x1024) hz3, canon2, canon3, cov_whole, pay12_eq]
  · unfold sout0_D_1
    rw [View.read_writes_eq_canon _ _ _ (scover0_D_1 (F := Ideal) c i a2 h2 a3 h3 a4 h4 a5 h5 a6 h6 a7 h7 a8 h8 a9 h9 a10 h10 a11 h11 a13 h13 a14 h14 a15 h15 a16 h16 a17 h17 a18 h18 a19 h19 hc0 hc1 hc2 x0 x1 x2 x3 x4 x5 x6 x7 x8 x9 xo)]
    unfold kernelRun0_D
    dsimp only
    sl_unfold_words
    simp only [View.readAt_eq_ld, Memref.IsWhole.read_unread, View.ld_unit_zero (S := S512x1024) hz2, View.ld_unit_zero (S := S1x1024) hz2,
      View.ld_unit_zero (S := S1x512x704) hz3, View.ld_unit_zero (S := S2x352x1024) hz3, canon2, canon3, cov_whole, pay12_eq]
    exact (whole _ _ r e).trans (pay3_first x3 x4 x7 x8 x9 _ r e)
  · unfold out0_D_12
    rw [View.read_writes_eq_canon _ _ _ (cover0_D_12 (F := Ideal) c i a2 h2 a3 h3 a4 h4 a5 h5 a6 h6 a7 h7 a8 h8 a9 h9 a10 h10 a11 h11 a13 h13 a14 h14 a15 h15 a16 h16 a17 h17 a18 h18 a19 h19 hc0 hc1 hc2 x0 x1 x2 x3 x4 x5 x6 x7 x8 x9 xo)]
    unfold kernelRun0_D
    dsimp only
    sl_unfold_words
    simp only [View.readAt_eq_ld, Memref.IsWhole.read_unread, View.ld_unit_zero (S := S512x1024) hz2, View.ld_unit_zero (S := S1x1024) hz2,
      View.ld_unit_zero (S := S1x512x704) hz3, View.ld_unit_zero (S := S2x352x1024) hz3, canon2, canon3, cov_whole, pay12_eq]
    exact st_a _ _ _ _ r g
  · unfold out0_D_13
    rw [View.read_writes_eq_canon _ _ _ (cover0_D_13 (F := Ideal) c i a2 h2 a3 h3 a4 h4 a5 h5 a6 h6 a7 h7 a8 h8 a9 h9 a10 h10 a11 h11 a13 h13 a14 h14 a15 h15 a16 h16 a17 h17 a18 h18 a19 h19 hc0 hc1 hc2 x0 x1 x2 x3 x4 x5 x6 x7 x8 x9 xo)]
    unfold kernelRun0_D
    dsimp only
    sl_unfold_words
    simp only [View.readAt_eq_ld, Memref.IsWhole.read_unread, View.ld_unit_zero (S := S512x1024) hz2, View.ld_unit_zero (S := S1x1024) hz2,
      View.ld_unit_zero (S := S1x512x704) hz3, View.ld_unit_zero (S := S2x352x1024) hz3, canon2, canon3, cov_whole, pay12_eq]
    exact st_b _ _ _ r g

/-- What a middle point leaves: the gradient at the second product kept, the group's tiles, one more part in the accumulator. -/
theorem outs_B (hc0 : ¬cond0_0 i) (hc1 : ¬cond0_1 i) (hc2 : ¬cond0_2 i) :
    sout0_B_0 (F := Ideal) c i a2 h2 a3 h3 a4 h4 a5 h5 a6 h6 a7 h7 a8 h8 a9 h9 a10 h10 a11 h11 a13 h13 a14 h14 a15 h15 a16 h16 a17 h17 a18 h18 a19 h19 hc0 hc1 hc2 x0 x1 x2 x3 x4 x5 x6 x7 x8 x9 d xs = d
    ∧ out0_B_11 (F := Ideal) c i a2 h2 a3 h3 a4 h4 a5 h5 a6 h6 a7 h7 a8 h8 a9 h9 a10 h10 a11 h11 a13 h13 a14 h14 a15 h15 a16 h16 a17 h17 a18 h18 a19 h19 hc0 hc1 hc2 x0 x1 x2 x3 x4 x5 x6 x7 x8 x9 d xs = d
    ∧ sout0_B_1 (F := Ideal) c i a2 h2 a3 h3 a4 h4 a5 h5 a6 h6 a7 h7 a8 h8 a9 h9 a10 h10 a11 h11 a13 h13 a14 h14 a15 h15 a16 h16 a17 h17 a18 h18 a19 h19 hc0 hc1 hc2 x0 x1 x2 x3 x4 x5 x6 x7 x8 x9 d xs = accT x3 x4 x7 x8 x9 d xs
    ∧ (∀ r g, out0_B_12 (F := Ideal) c i a2 h2 a3 h3 a4 h4 a5 h5 a6 h6 a7 h7 a8 h8 a9 h9 a10 h10 a11 h11 a13 h13 a14 h14 a15 h15 a16 h16 a17 h17 a18 h18 a19 h19 hc0 hc1 hc2 x0 x1 x2 x3 x4 x5 x6 x7 x8 x9 d xs (ix3 0 r g) = daT x3 x4 x9 d r g)
    ∧ (∀ r g, out0_B_13 (F := Ideal) c i a2 h2 a3 h3 a4 h4 a5 h5 a6 h6 a7 h7 a8 h8 a9 h9 a10 h10 a11 h11 a13 h13 a14 h14 a15 h15 a16 h16 a17 h17 a18 h18 a19 h19 hc0 hc1 hc2 x0 x1 x2 x3 x4 x5 x6 x7 x8 x9 d xs (ix3 0 r g) = dbT x3 x9 d r g) := by
  refine ⟨rfl, ?_, ?_, fun r g => ?_, fun r g => ?_⟩
  · unfold out0_B_11
    rw [View.read_writes_eq_canon _ _ _ (cover0_B_11 (F := Ideal) c i a2 h2 a3 h3 a4 h4 a5 h5 a6 h6 a7 h7 a8 h8 a9 h9 a10 h10 a11 h11 a13 h13 a14 h14 a15 h15 a16 h16 a17 h17 a18 h18 a19 h19 hc0 hc1 hc2 x0 x1 x2 x3 x4 x5 x6 x7 x8 x9 d xs)]
    unfold kernelRun0_B
    dsimp only
    sl_unfold_words
    simp only [View.readAt_eq_ld, Memref.IsWhole.read_unread, View.ld_unit_zero (S := S512x1024) hz2, View.ld_unit_zero (S := S1x1024) hz2,
      View.ld_unit_zero (S := S1x512x704) hz3, View.ld_unit_zero (S := S2x352x1024) hz3, canon2, canon3, cov_whole, pay12_eq]
  · unfold sout0_B_1
    rw [View.read_writes_eq_canon _ _ _ (scover0_B_1 (F := Ideal) c i a2 h2 a3 h3 a4 h4 a5 h5 a6 h6 a7 h7 a8 h8 a9 h9 a10 h10 a11 h11 a13 h13 a14 h14 a15 h15 a16 h16 a17 h17 a18 h18 a19 h19 hc0 hc1 hc2 x0 x1 x2 x3 x4 x5 x6 x7 x8 x9 d xs)]
    unfold kernelRun0_B
    dsimp only
    sl_unfold_words
    simp only [View.readAt_eq_ld, Memref.IsWhole.read_unread, View.ld_unit_zero (S := S512x1024) hz2, View.ld_unit_zero (S := S1x1024) hz2,
      View.ld_unit_zero (S := S1x512x704) hz3, View.ld_unit_zero (S := S2x352x1024) hz3, canon2, canon3, cov_whole, pay12_eq]
    exact pay3_eq x3 x4 x7 x8 x9 d xs
  · unfold out0_B_12
    rw [View.read_writes_eq_canon _ _ _ (cover0_B_12 (F := Ideal) c i a2 h2 a3 h3 a4 h4 a5 h5 a6 h6 a7 h7 a8 h8 a9 h9 a10 h10 a11 h11 a13 h13 a14 h14 a15 h15 a16 h16 a17 h17 a18 h18 a19 h19 hc0 hc1 hc2 x0 x1 x2 x3 x4 x5 x6 x7 x8 x9 d xs)]
    unfold kernelRun0_B
    dsimp only
    sl_unfold_words
    simp only [View.readAt_eq_ld, Memref.IsWhole.read_unread, View.ld_unit_zero (S := S512x1024) hz2, View.ld_unit_zero (S := S1x1024) hz2,
      View.ld_unit_zero (S := S1x512x704) hz3, View.ld_unit_zero (S := S2x352x1024) hz3, canon2, canon3, cov_whole, pay12_eq]
    exact st_a _ _ _ _ r g
  · unfold out0_B_13
    rw [View.read_writes_eq_canon _ _ _ (cover0_B_13 (F := Ideal) c i a2 h2 a3 h3 a4 h4 a5 h5 a6 h6 a7 h7 a8 h8 a9 h9 a10 h10 a11 h11 a13 h13 a14 h14 a15 h15 a16 h16 a17 h17 a18 h18 a19 h19 hc0 hc1 hc2 x0 x1 x2 x3 x4 x5 x6 x7 x8 x9 d xs)]
    unfold kernelRun0_B
    dsimp only
    sl_unfold_words
    simp only [View.readAt_eq_ld, Memref.IsWhole.read_unread, View.ld_unit_zero (S := S512x1024) hz2, View.ld_unit_zero (S := S1x1024) hz2,
      View.ld_unit_zero (S := S1x512x704) hz3, View.ld_unit_zero (S := S2x352x1024) hz3, canon2, canon3, cov_whole, pay12_eq]
    exact st_b _ _ _ r g

/-- The same at a tile's last point. -/
theorem outs_C (hc0 : ¬cond0_0 i) (hc1 : ¬cond0_1 i) (hc2 : cond0_2 i) :
    sout0_C_0 (F := Ideal) c i a2 h2 a3 h3 a4 h4 a5 h5 a6 h6 a7 h7 a8 h8 a9 h9 a10 h10 a11 h11 a13 h13 a14 h14 a15 h15 a16 h16 a17 h17 a18 h18 a19 h19 hc0 hc1 hc2 x0 x1 x2 x3 x4 x5 x6 x7 x8 x9 xo d xs = d
    ∧ out0_C_11 (F := Ideal) c i a2 h2 a3 h3 a4 h4 a5 h5 a6 h6 a7 h7 a8 h8 a9 h9 a10 h10 a11 h11 a13 h13 a14 h14 a15 h15 a16 h16 a17 h17 a18 h18 a19 h19 hc0 hc1 hc2 x0 x1 x2 x3 x4 x5 x6 x7 x8 x9 xo d xs = d
    ∧ sout0_C_1 (F := Ideal) c i a2 h2 a3 h3 a4 h4 a5 h5 a6 h6 a7 h7 a8 h8 a9 h9 a10 h10 a11 h11 a13 h13 a14 h14 a15 h15 a16 h16 a17 h17 a18 h18 a19 h19 hc0 hc1 hc2 x0 x1 x2 x3 x4 x5 x6 x7 x8 x9 xo d xs = accT x3 x4 x7 x8 x9 d xs
    ∧ (∀ r g, out0_C_12 (F := Ideal) c i a2 h2 a3 h3 a4 h4 a5 h5 a6 h6 a7 h7 a8 h8 a9 h9 a10 h10 a11 h11 a13 h13 a14 h14 a15 h15 a16 h16 a17 h17 a18 h18 a19 h19 hc0 hc1 hc2 x0 x1 x2 x3 x4 x5 x6 x7 x8 x9 xo d xs (ix3 0 r g) = daT x3 x4 x9 d r g)
    ∧ (∀ r g, out0_C_13 (F := Ideal) c i a2 h2 a3 h3 a4 h4 a5 h5 a6 h6 a7 h7 a8 h8 a9 h9 a10 h10 a11 h11 a13 h13 a14 h14 a15 h15 a16 h16 a17 h17 a18 h18 a19 h19 hc0 hc1 hc2 x0 x1 x2 x3 x4 x5 x6 x7 x8 x9 xo d xs (ix3 0 r g) = dbT x3 x9 d r g) := by
  refine ⟨rfl, ?_, ?_, fun r g => ?_, fun r g => ?_⟩
  · unfold out0_C_11
    rw [View.read_writes_eq_canon _ _ _ (cover0_C_11 (F := Ideal) c i a2 h2 a3 h3 a4 h4 a5 h5 a6 h6 a7 h7 a8 h8 a9 h9 a10 h10 a11 h11 a13 h13 a14 h14 a15 h15 a16 h16 a17 h17 a18 h18 a19 h19 hc0 hc1 hc2 x0 x1 x2 x3 x4 x5 x6 x7 x8 x9 xo d xs)]
    unfold kernelRun0_C
    dsimp only
    sl_unfold_words
    simp only [View.readAt_eq_ld, Memref.IsWhole.read_unread, View.ld_unit_zero (S := S512x1024) hz2, View.ld_unit_zero (S := S1x1024) hz2,
      View.ld_unit_zero (S := S1x512x704) hz3, View.ld_unit_zero (S := S2x352x1024) hz3, canon2, canon3, cov_whole, pay12_eq]
  · unfold sout0_C_1
    rw [View.read_writes_eq_canon _ _ _ (scover0_C_1 (F := Ideal) c i a2 h2 a3 h3 a4 h4 a5 h5 a6 h6 a7 h7 a8 h8 a9 h9 a10 h10 a11 h11 a13 h13 a14 h14 a15 h15 a16 h16 a17 h17 a18 h18 a19 h19 hc0 hc1 hc2 x0 x1 x2 x3 x4 x5 x6 x7 x8 x9 xo d xs)]
    unfold kernelRun0_C
    dsimp only
    sl_unfold_words
    simp only [View.readAt_eq_ld, Memref.IsWhole.read_unread, View.ld_unit_zero (S := S512x1024) hz2, View.ld_unit_zero (S := S1x1024) hz2,
      View.ld_unit_zero (S := S1x512x704) hz3, View.ld_unit_zero (S := S2x352x1024) hz3, canon2, canon3, cov_whole, pay12_eq]
    exact pay3_eq x3 x4 x7 x8 x9 d xs
  · unfold out0_C_12
    rw [View.read_writes_eq_canon _ _ _ (cover0_C_12 (F := Ideal) c i a2 h2 a3 h3 a4 h4 a5 h5 a6 h6 a7 h7 a8 h8 a9 h9 a10 h10 a11 h11 a13 h13 a14 h14 a15 h15 a16 h16 a17 h17 a18 h18 a19 h19 hc0 hc1 hc2 x0 x1 x2 x3 x4 x5 x6 x7 x8 x9 xo d xs)]
    unfold kernelRun0_C
    dsimp only
    sl_unfold_words
    simp only [View.readAt_eq_ld, Memref.IsWhole.read_unread, View.ld_unit_zero (S := S512x1024) hz2, View.ld_unit_zero (S := S1x1024) hz2,
      View.ld_unit_zero (S := S1x512x704) hz3, View.ld_unit_zero (S := S2x352x1024) hz3, canon2, canon3, cov_whole, pay12_eq]
    exact st_a _ _ _ _ r g
  · unfold out0_C_13
    rw [View.read_writes_eq_canon _ _ _ (cover0_C_13 (F := Ideal) c i a2 h2 a3 h3 a4 h4 a5 h5 a6 h6 a7 h7 a8 h8 a9 h9 a10 h10 a11 h11 a13 h13 a14 h14 a15 h15 a16 h16 a17 h17 a18 h18 a19 h19 hc0 hc1 hc2 x0 x1 x2 x3 x4 x5 x6 x7 x8 x9 xo d xs)]
    unfold kernelRun0_C
    dsimp only
    sl_unfold_words
    simp only [View.readAt_eq_ld, Memref.IsWhole.read_unread, View.ld_unit_zero (S := S512x1024) hz2, View.ld_unit_zero (S := S1x1024) hz2,
      View.ld_unit_zero (S := S1x512x704) hz3, View.ld_unit_zero (S := S2x352x1024) hz3, canon2, canon3, cov_whole, pay12_eq]
    exact st_b _ _ _ r g

/-- The part of the outer gain's gradient from one tile, and of the inner gain's. -/
abbrev gpost (x0 : Vec Ideal S512x1024 .f32) (x2 : Vec Ideal S512x1024 .bf16) (e : Fin 1024) : EReal :=
  ∑ r, half * x0 (ix2 r e) * (x2 (ix2 r e) * Ideal.rsqrt (RmsBwd.q 1024 eps fun j : Fin 1024 => x2 (ix2 r j)))
abbrev gpre (x1 acc : Vec Ideal S512x1024 .f32) (e : Fin 1024) : EReal :=
  ∑ r, acc (ix2 r e) * (x1 (ix2 r e) * Ideal.rsqrt (RmsBwd.q 1024 eps fun j : Fin 1024 => x1 (ix2 r j)))

theorem pay14_all (y : S8x1024.Idx) : k0_pay14 (F := Ideal) y = 0 := by
  rw [eq_ix2 y]
  exact pay14_apply _ _

theorem canon8 {φ : EltTy} (w : S8x1024.Idx → Elt Ideal φ) :
    View.canon (Val := Elt Ideal) [⟨Rect.unit (s := S8x1024) ![0, 0] ![8, 1024] inb_S8x1024_S8x1024_0_0, w⟩] = w :=
  View.canon_unit_zero (S := S8x1024) hz2 _ w

theorem out10_C (hc0 : ¬cond0_0 i) (hc1 : ¬cond0_1 i) (hc2 : cond0_2 i) (r : Fin 512) (e : Fin 1024) :
    out0_C_10 (F := Ideal) c i a2 h2 a3 h3 a4 h4 a5 h5 a6 h6 a7 h7 a8 h8 a9 h9 a10 h10 a11 h11 a13 h13 a14 h14 a15 h15 a16 h16 a17 h17 a18 h18 a19 h19 hc0 hc1 hc2 x0 x1 x2 x3 x4 x5 x6 x7 x8 x9 xo d xs (ix2 r e)
      = x0 (ix2 r e) + RmsBwd.short 1024 eps (fun j : Fin 1024 => x1 (ix2 r j)) (fun j => accT x3 x4 x7 x8 x9 d xs (ix2 r j) * x5 (ix2 0 j)) e := by
  unfold out0_C_10
  rw [View.read_writes_eq_canon _ _ _ (cover0_C_10 (F := Ideal) c i a2 h2 a3 h3 a4 h4 a5 h5 a6 h6 a7 h7 a8 h8 a9 h9 a10 h10 a11 h11 a13 h13 a14 h14 a15 h15 a16 h16 a17 h17 a18 h18 a19 h19 hc0 hc1 hc2 x0 x1 x2 x3 x4 x5 x6 x7 x8 x9 xo d xs)]
  unfold kernelRun0_C
  dsimp only
  sl_unfold_words
  simp only [View.readAt_eq_ld, Memref.IsWhole.read_unread, View.ld_unit_zero (S := S512x1024) hz2, View.ld_unit_zero (S := S1x1024) hz2,
    View.ld_unit_zero (S := S1x512x704) hz3, View.ld_unit_zero (S := S2x352x1024) hz3, canon2, canon3, cov_whole, pay12_eq]
  rw [pay6_apply, pay3_eq]

theorem out14_C_row (hc0 : ¬cond0_0 i) (hc1 : ¬cond0_1 i) (hc2 : cond0_2 i) (e : Fin 1024) :
    out0_C_14 (F := Ideal) c i a2 h2 a3 h3 a4 h4 a5 h5 a6 h6 a7 h7 a8 h8 a9 h9 a10 h10 a11 h11 a13 h13 a14 h14 a15 h15 a16 h16 a17 h17 a18 h18 a19 h19 hc0 hc1 hc2 x0 x1 x2 x3 x4 x5 x6 x7 x8 x9 xo d xs (ix2 0 e) = xo (ix2 0 e) + gpre x1 (accT x3 x4 x7 x8 x9 d xs) e := by
  unfold out0_C_14
  unfold kernelRun0_C
  dsimp only
  sl_unfold_words
  simp only [View.readAt_eq_ld, Memref.IsWhole.read_unread, View.ld_unit_zero (S := S512x1024) hz2, View.ld_unit_zero (S := S1x1024) hz2,
    View.ld_unit_zero (S := S1x512x704) hz3, View.ld_unit_zero (S := S2x352x1024) hz3, canon2, canon3, cov_whole, pay12_eq]
  refine Eq.trans (View.read_writes_cons_rows_of_mem (d := ![8, 1024]) (size := ![1, 1024]) (o := 0) a17.view _ _ _ _ (ix2 0 e) (ix2 0 e) rfl rfl rfl) ?_
  rw [pay7_apply, pay3_eq]
  refine congrArg₂ (· + ·) (congrArg xo (funext fun a => Fin.ext ?_)) rfl
  fin_cases a
  · rfl
  · show 0 + 1 * e.val = e.val
    omega

theorem out14_C_rest (hc0 : ¬cond0_0 i) (hc1 : ¬cond0_1 i) (hc2 : cond0_2 i) (k : Fin 8) (hk : k ≠ 0) (e : Fin 1024) :
    out0_C_14 (F := Ideal) c i a2 h2 a3 h3 a4 h4 a5 h5 a6 h6 a7 h7 a8 h8 a9 h9 a10 h10 a11 h11 a13 h13 a14 h14 a15 h15 a16 h16 a17 h17 a18 h18 a19 h19 hc0 hc1 hc2 x0 x1 x2 x3 x4 x5 x6 x7 x8 x9 xo d xs (ix2 k e) = xo (ix2 k e) := by
  unfold out0_C_14
  unfold kernelRun0_C
  dsimp only
  sl_unfold_words
  simp only [View.readAt_eq_ld, Memref.IsWhole.read_unread, View.ld_unit_zero (S := S512x1024) hz2, View.ld_unit_zero (S := S1x1024) hz2,
    View.ld_unit_zero (S := S1x512x704) hz3, View.ld_unit_zero (S := S2x352x1024) hz3, canon2, canon3, cov_whole, pay12_eq]
  rw [View.read_writes_cons_rows_of_not_mem (o := 0) (W := 1) a17.view _ _ _ _ (ix2 k e) rfl rfl (Or.inr (by show 0 + 1 ≤ k.val; have := Fin.val_ne_of_ne hk; simp at this; omega))]
  show View.read _ a17.view (h17.unread xo) (ix2 k e) = _
  rw [Memref.IsWhole.read_unread]

theorem out14_D_row (hc0 : ¬cond0_0 i) (hc1 : cond0_1 i) (hc2 : ¬cond0_2 i) (e : Fin 1024) :
    out0_D_14 (F := Ideal) c i a2 h2 a3 h3 a4 h4 a5 h5 a6 h6 a7 h7 a8 h8 a9 h9 a10 h10 a11 h11 a13 h13 a14 h14 a15 h15 a16 h16 a17 h17 a18 h18 a19 h19 hc0 hc1 hc2 x0 x1 x2 x3 x4 x5 x6 x7 x8 x9 xo (ix2 1 e) = xo (ix2 1 e) + gpost x0 x2 e := by
  unfold out0_D_14
  unfold kernelRun0_D
  dsimp only
  sl_unfold_words
  simp only [View.readAt_eq_ld, Memref.IsWhole.read_unread, View.ld_unit_zero (S := S512x1024) hz2, View.ld_unit_zero (S := S1x1024) hz2,
    View.ld_unit_zero (S := S1x512x704) hz3, View.ld_unit_zero (S := S2x352x1024) hz3, canon2, canon3, cov_whole, pay12_eq]
  refine Eq.trans (View.read_writes_cons_rows_of_mem (d := ![8, 1024]) (size := ![1, 1024]) (o := 1) a17.view _ _ _ _ (ix2 1 e) (ix2 0 e) rfl rfl rfl) ?_
  rw [pay13_apply]
  refine congrArg₂ (· + ·) (congrArg xo (funext fun a => Fin.ext ?_)) rfl
  fin_cases a
  · rfl
  · show 0 + 1 * e.val = e.val
    omega

theorem out14_D_rest (hc0 : ¬cond0_0 i) (hc1 : cond0_1 i) (hc2 : ¬cond0_2 i) (k : Fin 8) (hk : k ≠ 1) (e : Fin 1024) :
    out0_D_14 (F := Ideal) c i a2 h2 a3 h3 a4 h4 a5 h5 a6 h6 a7 h7 a8 h8 a9 h9 a10 h10 a11 h11 a13 h13 a14 h14 a15 h15 a16 h16 a17 h17 a18 h18 a19 h19 hc0 hc1 hc2 x0 x1 x2 x3 x4 x5 x6 x7 x8 x9 xo (ix2 k e) = xo (ix2 k e) := by
  unfold out0_D_14
  unfold kernelRun0_D
  dsimp only
  sl_unfold_words
  simp only [View.readAt_eq_ld, Memref.IsWhole.read_unread, View.ld_unit_zero (S := S512x1024) hz2, View.ld_unit_zero (S := S1x1024) hz2,
    View.ld_unit_zero (S := S1x512x704) hz3, View.ld_unit_zero (S := S2x352x1024) hz3, canon2, canon3, cov_whole, pay12_eq]
  rw [View.read_writes_cons_rows_of_not_mem (o := 1) (W := 1) a17.view _ _ _ _ (ix2 k e) rfl rfl (by show k.val < 1 ∨ 1 + 1 ≤ k.val; have := Fin.val_ne_of_ne hk; simp at this; omega)]
  show View.read _ a17.view (h17.unread xo) (ix2 k e) = _
  rw [Memref.IsWhole.read_unread]

theorem out14_A_row (hc0 : cond0_0 i) (hc1 : cond0_1 i) (hc2 : ¬cond0_2 i) (e : Fin 1024) :
    out0_A_14 (F := Ideal) c i a2 h2 a3 h3 a4 h4 a5 h5 a6 h6 a7 h7 a8 h8 a9 h9 a10 h10 a11 h11 a13 h13 a14 h14 a15 h15 a16 h16 a17 h17 a18 h18 a19 h19 hc0 hc1 hc2 x0 x1 x2 x3 x4 x5 x6 x7 x8 x9 (ix2 1 e) = gpost x0 x2 e := by
  unfold out0_A_14
  unfold kernelRun0_A
  dsimp only
  sl_unfold_words
  simp only [View.readAt_eq_ld, Memref.IsWhole.read_unread, View.ld_unit_zero (S := S512x1024) hz2, View.ld_unit_zero (S := S1x1024) hz2,
    View.ld_unit_zero (S := S1x512x704) hz3, View.ld_unit_zero (S := S2x352x1024) hz3, canon2, canon3, cov_whole, pay12_eq]
  refine Eq.trans (View.read_writes_cons_rows_of_mem (d := ![8, 1024]) (size := ![1, 1024]) (o := 1) VO0_14 _ _ _ _ (ix2 1 e) (ix2 0 e) rfl rfl rfl) ?_
  rw [pay13_apply, View.readCov_eq_canon', canon8]
  refine Eq.trans (congrArg₂ (· + ·) (pay14_all _) rfl) (zero_add _)

theorem out14_A_rest (hc0 : cond0_0 i) (hc1 : cond0_1 i) (hc2 : ¬cond0_2 i) (k : Fin 8) (hk : k ≠ 1) (e : Fin 1024) :
    out0_A_14 (F := Ideal) c i a2 h2 a3 h3 a4 h4 a5 h5 a6 h6 a7 h7 a8 h8 a9 h9 a10 h10 a11 h11 a13 h13 a14 h14 a15 h15 a16 h16 a17 h17 a18 h18 a19 h19 hc0 hc1 hc2 x0 x1 x2 x3 x4 x5 x6 x7 x8 x9 (ix2 k e) = 0 := by
  unfold out0_A_14
  unfold kernelRun0_A
  dsimp only
  sl_unfold_words
  simp only [View.readAt_eq_ld, Memref.IsWhole.read_unread, View.ld_unit_zero (S := S512x1024) hz2, View.ld_unit_zero (S := S1x1024) hz2,
    View.ld_unit_zero (S := S1x512x704) hz3, View.ld_unit_zero (S := S2x352x1024) hz3, canon2, canon3, cov_whole, pay12_eq]
  rw [View.read_writes_cons_rows_of_not_mem (o := 1) (W := 1) VO0_14 _ _ _ _ (ix2 k e) rfl rfl (by show k.val < 1 ∨ 1 + 1 ≤ k.val; have := Fin.val_ne_of_ne hk; simp at this; omega)]
  refine Eq.trans (View.read_writes_cons_rows_of_mem (d := ![8, 1024]) (size := ![8, 1024]) (o := 0) VO0_14 _ _ _ _ (ix2 k e) (ix2 k e) rfl (Nat.zero_add _).symm rfl) (pay14_all _)

end Cert.Kernel5Ideal.FfnA

end
-- ==== Proof.FfnAArr.lean ====
/-
  The half step's input gradient after the run, over the extended reals: functions of the arrays that the call is given.
-/
module

public import proofs.«01_k».proof.Proof.Gen.Kernel5Ideal.Value
public import proofs.«01_k».proof.Proof.FfnABlock
public import Idealize.ShloMosaic.Lib.Pipeline.ValueKit

@[expose] public section

set_option maxRecDepth 16384

noncomputable section

namespace Cert.Kernel5Ideal.FfnA

open Idealize.ShloMosaic Idealize.ShloMosaic.TcCoe Idealize.SL.Sem Idealize.ShloMosaic.Tactic
open Cert.Kernel5Ideal Cert.Kernel5Ideal.Gen
open Cert.KernelIdeal.Merge (eps)

variable (m : (ℓ : Loc nD τ sig) → Buf (Elt Ideal) ℓ) (c : Dev nD)

/-- The half step's cotangent and its input. -/
abbrev DX : S4096x1024.Idx → EReal := V m c main_arg0
abbrev XX : S4096x1024.Idx → EReal := V m c main_arg1
/-- What the forward half step saved: the second product, and the two hidden products by groups of columns. -/
abbrev YY : S4096x1024.Idx → EReal := V m c main_v0_0
abbrev AA : S4x4096x704.Idx → EReal := V m c main_v0_1
abbrev BB : S4x4096x704.Idx → EReal := V m c main_v0_2
/-- The three weights, by shards of hidden columns. -/
abbrev PF : S8x1056x1024.Idx → EReal := V m c main_v7
/-- The row of small parameters. -/
abbrev SP : S1x16896.Idx → EReal := V m c main_v11

/-- The group of a point. -/
abbrev grp (t : Fin cfg0.N) : Fin 4 := ⟨t.val % 4, by omega⟩
/-- Row `r` of a point's tile. -/
abbrev row (t : Fin cfg0.N) (r : Fin 512) : Fin 4096 := ⟨t.val / 4 * 512 + r.val, by
  have := t.isLt; have : cfg0.N = 32 := N_0; omega⟩
/-- The shard of column `g` of a group, and the row in that shard's part for the `k`th weight. -/
abbrev sh (p : Fin 4) (g : Fin 704) : Fin 8 := ⟨p.val * 2 + g.val / 352, by omega⟩
abbrev col (k : Fin 3) (g : Fin 704) : Fin 1056 := ⟨k.val * 352 + g.val % 352, by omega⟩

theorem pos0 : ∀ t : Fin cfg0.N, win0_0.index t = ![t.val / 4, 0] := by decide +kernel
theorem pos1 : ∀ t : Fin cfg0.N, win0_1.index t = ![t.val / 4, 0] := by decide +kernel
theorem pos2 : ∀ t : Fin cfg0.N, win0_2.index t = ![t.val / 4, 0] := by decide +kernel
theorem pos3 : ∀ t : Fin cfg0.N, win0_3.index t = ![t.val % 4, t.val / 4, 0] := by decide +kernel
theorem pos4 : ∀ t : Fin cfg0.N, win0_4.index t = ![t.val % 4, t.val / 4, 0] := by decide +kernel
theorem pos5 : ∀ t : Fin cfg0.N, win0_5.index t = ![0, 0] := by decide +kernel
theorem pos6 : ∀ t : Fin cfg0.N, win0_6.index t = ![0, 1] := by decide +kernel
theorem pos7 : ∀ t : Fin cfg0.N, win0_7.index t = ![t.val % 4, 0, 0] := by decide +kernel
theorem pos8 : ∀ t : Fin cfg0.N, win0_8.index t = ![t.val % 4, 1, 0] := by decide +kernel
theorem pos9 : ∀ t : Fin cfg0.N, win0_9.index t = ![t.val % 4, 2, 0] := by decide +kernel
theorem pos10 : ∀ t : Fin cfg0.N, win0_10.index t = ![t.val / 4, 0] := by decide +kernel
theorem pos11 : ∀ t : Fin cfg0.N, win0_11.index t = ![t.val / 4, 0] := by decide +kernel
theorem pos12 : ∀ t : Fin cfg0.N, win0_12.index t = ![t.val % 4, t.val / 4, 0] := by decide +kernel
theorem pos13 : ∀ t : Fin cfg0.N, win0_13.index t = ![t.val % 4, t.val / 4, 0] := by decide +kernel
theorem pos14 : ∀ t : Fin cfg0.N, win0_14.index t = ![0, 0] := by decide +kernel

theorem blk0 (t : Fin cfg0.N) (r : Fin 512) (e : Fin 1024) : iblk m c 0 t (ix2 r e) = DX m c (ix2 (row t r) e) := by
  blk_ext [iblk, pos0 t]
theorem blk1 (t : Fin cfg0.N) (r : Fin 512) (e : Fin 1024) : iblk m c 1 t (ix2 r e) = XX m c (ix2 (row t r) e) := by
  blk_ext [iblk, pos1 t]
theorem blk2 (t : Fin cfg0.N) (r : Fin 512) (e : Fin 1024) : iblk m c 2 t (ix2 r e) = YY m c (ix2 (row t r) e) := by
  blk_ext [iblk, pos2 t]
theorem blk3 (t : Fin cfg0.N) (r : Fin 512) (g : Fin 704) : iblk m c 3 t (ix3 0 r g) = AA m c (ix3 (grp t) (row t r) g) := by
  blk_ext [iblk, pos3 t]
theorem blk4 (t : Fin cfg0.N) (r : Fin 512) (g : Fin 704) : iblk m c 4 t (ix3 0 r g) = BB m c (ix3 (grp t) (row t r) g) := by
  blk_ext [iblk, pos4 t]
theorem blk5 (t : Fin cfg0.N) (e : Fin 1024) : X0_5 m c t (ix2 0 e) = SP m c (ix2 0 ⟨e.val, by omega⟩) := by
  unfold X0_5 Pipeline.Window.fill
  rw [dif_pos (moved0_5 t _)]
  blk_ext [iblk, pos5 t]
theorem blk6 (t : Fin cfg0.N) (e : Fin 1024) : X0_6 m c t (ix2 0 e) = SP m c (ix2 0 ⟨1024 + e.val, by omega⟩) := by
  unfold X0_6 Pipeline.Window.fill
  rw [dif_pos (moved0_6 t _)]
  blk_ext [iblk, pos6 t]
theorem blk7 (t : Fin cfg0.N) (g : Fin 704) (e : Fin 1024) :
    iblk m c 7 t (ix3 ⟨g.val / 352, by omega⟩ ⟨g.val % 352, by omega⟩ e) = PF m c (ix3 (sh (grp t) g) (col 0 g) e) := by
  blk_ext [iblk, pos7 t]
theorem blk8 (t : Fin cfg0.N) (g : Fin 704) (e : Fin 1024) :
    iblk m c 8 t (ix3 ⟨g.val / 352, by omega⟩ ⟨g.val % 352, by omega⟩ e) = PF m c (ix3 (sh (grp t) g) (col 1 g) e) := by
  blk_ext [iblk, pos8 t]
theorem blk9 (t : Fin cfg0.N) (g : Fin 704) (e : Fin 1024) :
    iblk m c 9 t (ix3 ⟨g.val / 352, by omega⟩ ⟨g.val % 352, by omega⟩ e) = PF m c (ix3 (sh (grp t) g) (col 2 g) e) := by
  blk_ext [iblk, pos9 t]

theorem emb10 (t : Fin cfg0.N) (r : Fin 512) (e : Fin 1024) : (win0_10.blk t).view.emb (ix2 r e) = ix2 (row t r) e := by
  blk_ext [pos10 t]
theorem emb11 (t : Fin cfg0.N) (r : Fin 512) (e : Fin 1024) : (win0_11.blk t).view.emb (ix2 r e) = ix2 (row t r) e := by
  blk_ext [pos11 t]
theorem emb12 (t : Fin cfg0.N) (r : Fin 512) (g : Fin 704) : (win0_12.blk t).view.emb (ix3 0 r g) = ix3 (grp t) (row t r) g := by
  blk_ext [pos12 t]
theorem emb13 (t : Fin cfg0.N) (r : Fin 512) (g : Fin 704) : (win0_13.blk t).view.emb (ix3 0 r g) = ix3 (grp t) (row t r) g := by
  blk_ext [pos13 t]
theorem emb14 (t : Fin cfg0.N) (k : Fin 8) (e : Fin 1024) : (win0_14.blk t).view.emb (ix2 k e) = ix2 k e := by
  blk_ext [pos14 t]

/-- The gradient at the second product. -/
def dyG (r : Fin 4096) (e : Fin 1024) : EReal :=
  RmsBwd.short 1024 eps (fun j : Fin 1024 => YY m c (ix2 r j)) (fun j => half * DX m c (ix2 r j) * SP m c (ix2 0 ⟨1024 + j.val, by omega⟩)) e

/-- One tile of it. -/
abbrev dyB (t : Fin cfg0.N) : Vec Ideal S512x1024 .bf16 := fun y => dyG m c (row t (y 0)) (y 1)

theorem dyV_eq (t : Fin cfg0.N) : dyV (iblk m c 0 t) (iblk m c 2 t) (X0_6 m c t) = dyB m c t := by
  funext y
  obtain ⟨r, e, rfl⟩ : ∃ (r : Fin 512) (e : Fin 1024), y = ix2 r e := ⟨y 0, y 1, eq_ix2 y⟩
  exact congrArg₂ (fun a b => RmsBwd.short 1024 eps a b e) (funext fun j => blk2 m c t r j)
    (funext fun j => congrArg₂ (· * ·) (congrArg (half * ·) (blk0 m c t r j)) (blk6 m c t j))

/-- The gradients at the gated activation and at the two hidden products, by groups. -/
def duG (p : Fin 4) (r : Fin 4096) (g : Fin 704) : EReal := ∑ j : Fin 1024, dyG m c r j * PF m c (ix3 (sh p g) (col 2 g) j)
def daG (p : Fin 4) (r : Fin 4096) (g : Fin 704) : EReal := duG m c p r g * BB m c (ix3 p r g) * dsilu (AA m c (ix3 p r g))
def dbG (p : Fin 4) (r : Fin 4096) (g : Fin 704) : EReal := duG m c p r g * silu (AA m c (ix3 p r g))

theorem du_eq (t : Fin cfg0.N) (r : Fin 512) (g : Fin 704) : duT (dyB m c t) (iblk m c 9 t) r g = duG m c (grp t) (row t r) g :=
  Finset.sum_congr rfl fun j _ => congrArg (dyG m c (row t r) j * ·) (blk9 m c t g j)
theorem da_eq (t : Fin cfg0.N) (r : Fin 512) (g : Fin 704) :
    daT (iblk m c 3 t) (iblk m c 4 t) (iblk m c 9 t) (dyB m c t) r g = daG m c (grp t) (row t r) g :=
  congrArg₂ (· * ·) (congrArg₂ (· * ·) (du_eq m c t r g) (blk4 m c t r g)) (congrArg dsilu (blk3 m c t r g))
theorem db_eq (t : Fin cfg0.N) (r : Fin 512) (g : Fin 704) :
    dbT (iblk m c 3 t) (iblk m c 9 t) (dyB m c t) r g = dbG m c (grp t) (row t r) g :=
  congrArg₂ (· * ·) (du_eq m c t r g) (congrArg silu (blk3 m c t r g))

/-- One group's part of the gradient of the normed input. -/
def part (p : Fin 4) (r : Fin 4096) (e : Fin 1024) : EReal :=
  ∑ g : Fin 704, daG m c p r g * PF m c (ix3 (sh p g) (col 0 g) e) + ∑ g : Fin 704, dbG m c p r g * PF m c (ix3 (sh p g) (col 1 g) e)

theorem tile_eq (t : Fin cfg0.N) (r : Fin 512) (e : Fin 1024) :
    tile (iblk m c 3 t) (iblk m c 4 t) (iblk m c 7 t) (iblk m c 8 t) (iblk m c 9 t) (dyB m c t) r e = part m c (grp t) (row t r) e :=
  congrArg₂ (· + ·) (Finset.sum_congr rfl fun g _ => congrArg₂ (· * ·) (da_eq m c t r g) (blk7 m c t g e))
    (Finset.sum_congr rfl fun g _ => congrArg₂ (· * ·) (db_eq m c t r g) (blk8 m c t g e))

/-- The same part by the group's number. -/
def partN (p : ℕ) (r : Fin 4096) (e : Fin 1024) : EReal := if h : p < 4 then part m c ⟨p, h⟩ r e else 0

theorem partN_grp (t : Fin cfg0.N) (r : Fin 512) (e : Fin 1024) : partN m c (t.val % 4) (row t r) e = part m c (grp t) (row t r) e :=
  dif_pos (by omega)

/-- The point before. -/
abbrev prev (t : Fin cfg0.N) : Fin cfg0.N := ⟨t.val - 1, Nat.lt_of_le_of_lt (Nat.sub_le _ _) t.isLt⟩

theorem row_prev (t : Fin cfg0.N) (h : ¬t.val % 4 = 0) (r : Fin 512) : row (prev t) r = row t r := Fin.ext (by
  show (t.val - 1) / 4 * 512 + r.val = t.val / 4 * 512 + r.val
  omega)

/-- The kept tile after a point. -/
theorem kept (n : Nat) (hn : n < cfg0.N) : (outsAt0 m c n hn).2.2.2.2.2.1 = dyB m c ⟨n, hn⟩ := by
  have hN : cfg0.N = 32 := N_0
  induction n with
  | zero =>
    rw [outsAt0_A m c ⟨0, hn⟩ rfl rfl (show ¬0 % 4 = 3 by omega)]
    dsimp only
    exact (outs_A ..).1.trans (dyV_eq m c _)
  | succ n ih =>
    have hi := ih (by omega)
    by_cases h1 : (n + 1) % 4 = 0
    · rw [outsAt0_D m c ⟨n + 1, hn⟩ (show ¬(n + 1) % 32 = 0 by omega) h1 (show ¬(n + 1) % 4 = 3 by omega)]
      dsimp only
      exact (outs_D ..).1.trans (dyV_eq m c _)
    · have hr : dyB m c ⟨n, by omega⟩ = dyB m c ⟨n + 1, hn⟩ :=
        funext fun y => congrArg (dyG m c · (y 1)) (row_prev ⟨n + 1, hn⟩ h1 (y 0))
      by_cases h2 : (n + 1) % 4 = 3
      · rw [outsAt0_C m c ⟨n + 1, hn⟩ (show ¬(n + 1) % 32 = 0 by omega) h1 h2]
        dsimp only
        exact (outs_C ..).1.trans (hi.trans hr)
      · rw [outsAt0_B m c ⟨n + 1, hn⟩ (show ¬(n + 1) % 32 = 0 by omega) h1 h2]
        dsimp only
        exact (outs_B ..).1.trans (hi.trans hr)

/-- The kept tile as a point past a tile's first finds it. -/
theorem kept_prev (t : Fin cfg0.N) (h1 : ¬t.val % 4 = 0) :
    (outsAt0 m c (t.val - 1) (Nat.lt_of_le_of_lt (Nat.sub_le _ _) t.isLt)).2.2.2.2.2.1 = dyB m c t :=
  (kept m c _ _).trans (funext fun y => congrArg (dyG m c · (y 1)) (row_prev t h1 (y 0)))

/-- The accumulator after a point: the sum over the groups so far. -/
theorem acc (n : Nat) (hn : n < cfg0.N) (r : Fin 512) (e : Fin 1024) :
    (outsAt0 m c n hn).2.2.2.2.2.2 (ix2 r e) = ∑ p ∈ Finset.range (n % 4 + 1), partN m c p (row ⟨n, hn⟩ r) e := by
  have hN : cfg0.N = 32 := N_0
  induction n with
  | zero =>
    rw [outsAt0_A m c ⟨0, hn⟩ rfl rfl (show ¬0 % 4 = 3 by omega)]
    dsimp only
    refine ((outs_A ..).2.2.1 r e).trans ?_
    rw [dyV_eq, tile_eq, ← partN_grp]
    simp
  | succ n ih =>
    by_cases h1 : (n + 1) % 4 = 0
    · rw [outsAt0_D m c ⟨n + 1, hn⟩ (show ¬(n + 1) % 32 = 0 by omega) h1 (show ¬(n + 1) % 4 = 3 by omega)]
      dsimp only
      refine ((outs_D ..).2.2.1 r e).trans ?_
      rw [dyV_eq, tile_eq, ← partN_grp]
      simp [h1]
    · have hs : ∑ p ∈ Finset.range ((n + 1) % 4 + 1), partN m c p (row ⟨n + 1, hn⟩ r) e
          = (outsAt0 m c n (by omega)).2.2.2.2.2.2 (ix2 r e) + tile (iblk m c 3 ⟨n + 1, hn⟩) (iblk m c 4 ⟨n + 1, hn⟩) (iblk m c 7 ⟨n + 1, hn⟩)
            (iblk m c 8 ⟨n + 1, hn⟩) (iblk m c 9 ⟨n + 1, hn⟩) (outsAt0 m c n (by omega)).2.2.2.2.2.1 r e := by
        have hk : (outsAt0 m c n (by omega)).2.2.2.2.2.1 = dyB m c ⟨n + 1, hn⟩ := kept_prev m c ⟨n + 1, hn⟩ h1
        rw [ih (by omega), hk, tile_eq, ← partN_grp, Finset.sum_range_succ, show n % 4 + 1 = (n + 1) % 4 by omega]
        have hr : row ⟨n, by omega⟩ r = row ⟨n + 1, hn⟩ r := row_prev ⟨n + 1, hn⟩ h1 r
        rw [hr]
      by_cases h2 : (n + 1) % 4 = 3
      · rw [outsAt0_C m c ⟨n + 1, hn⟩ (show ¬(n + 1) % 32 = 0 by omega) h1 h2]
        dsimp only
        exact (congrFun (outs_C ..).2.2.1 (ix2 r e)).trans hs.symm
      · rw [outsAt0_B m c ⟨n + 1, hn⟩ (show ¬(n + 1) % 32 = 0 by omega) h1 h2]
        dsimp only
        exact (congrFun (outs_B ..).2.2.1 (ix2 r e)).trans hs.symm

/-- The gradient of the normed input with its gain. -/
def dhG (r : Fin 4096) (e : Fin 1024) : EReal := ∑ p : Fin 4, part m c p r e

/-- The accumulator at a tile's last point, as that point makes it. -/
abbrev accL (t : Fin cfg0.N) : Vec Ideal S512x1024 .f32 :=
  accT (iblk m c 3 t) (iblk m c 4 t) (iblk m c 7 t) (iblk m c 8 t) (iblk m c 9 t)
    (outsAt0 m c (t.val - 1) (Nat.lt_of_le_of_lt (Nat.sub_le _ _) t.isLt)).2.2.2.2.2.1
    (outsAt0 m c (t.val - 1) (Nat.lt_of_le_of_lt (Nat.sub_le _ _) t.isLt)).2.2.2.2.2.2

theorem acc_last (t : Fin cfg0.N) (h2 : t.val % 4 = 3) (r : Fin 512) (e : Fin 1024) : accL m c t (ix2 r e) = dhG m c (row t r) e := by
  have ha := acc m c t.val t.isLt r e
  rw [outsAt0_C m c t (by omega) (by omega) h2] at ha
  dsimp only at ha
  refine ((congrFun (outs_C ..).2.2.1 (ix2 r e)).symm.trans ha).trans ?_
  rw [h2]
  refine (Finset.sum_range _).trans (Finset.sum_congr rfl fun p _ => ?_)
  exact dif_pos p.isLt

/-- The gradient of the half step's input. -/
def dxG (y : S4096x1024.Idx) : EReal :=
  DX m c y + RmsBwd.short 1024 eps (fun j : Fin 1024 => XX m c (ix2 (y 0) j))
    (fun j => dhG m c (y 0) j * SP m c (ix2 0 ⟨j.val, by omega⟩)) (y 1)

theorem o10 (t : Fin cfg0.N) (h2 : t.val % 4 = 3) (r : Fin 512) (e : Fin 1024) :
    (outsAt0 m c t.val t.isLt).1 (ix2 r e) = dxG m c (ix2 (row t r) e) := by
  rw [outsAt0_C m c t (by omega) (by omega) h2]
  dsimp only
  rw [out10_C]
  refine congrArg₂ (· + ·) (blk0 m c t r e) ?_
  exact congrArg₂ (fun a b => RmsBwd.short 1024 eps a b e) (funext fun j => blk1 m c t r j)
    (funext fun j => congrArg₂ (· * ·) (acc_last m c t h2 r j) (blk5 m c t j))

theorem last10 : ∀ t : Fin cfg0.N, (cfg0.win 10).flush t = true → t.val % 4 = 3 := by decide +kernel

theorem final10 : (dats m 0 c).arrAt 10 cfg0.N = dxG m c := by
  refine (dats m 0 c).arrAt_eq_of_covers 10 _ (by decide +kernel) fun t hf y => ?_
  blk_simp
  obtain ⟨r, e, rfl⟩ : ∃ (r : Fin 512) (e : Fin 1024), y = ix2 r e := ⟨y 0, y 1, eq_ix2 y⟩
  rw [after0_10, o10 m c t (last10 t hf), emb10]

/-- The three other outputs at every point. -/
theorem o_all (t : Fin cfg0.N) :
    (outsAt0 m c t.val t.isLt).2.1 = dyB m c t
    ∧ (∀ r g, (outsAt0 m c t.val t.isLt).2.2.1 (ix3 0 r g) = daG m c (grp t) (row t r) g)
    ∧ (∀ r g, (outsAt0 m c t.val t.isLt).2.2.2.1 (ix3 0 r g) = dbG m c (grp t) (row t r) g) := by
  have hN : cfg0.N = 32 := N_0
  by_cases h1 : t.val % 4 = 0
  · by_cases h0 : t.val % 32 = 0
    · rw [outsAt0_A m c t h0 h1 (by omega)]
      dsimp only
      refine ⟨(outs_A ..).2.1.trans (dyV_eq m c t), fun r g => ((outs_A ..).2.2.2.1 r g).trans ?_, fun r g => ((outs_A ..).2.2.2.2 r g).trans ?_⟩
      · rw [dyV_eq, da_eq]
      · rw [dyV_eq, db_eq]
    · rw [outsAt0_D m c t h0 h1 (by omega)]
      dsimp only
      refine ⟨(outs_D ..).2.1.trans (dyV_eq m c t), fun r g => ((outs_D ..).2.2.2.1 r g).trans ?_, fun r g => ((outs_D ..).2.2.2.2 r g).trans ?_⟩
      · rw [dyV_eq, da_eq]
      · rw [dyV_eq, db_eq]
  · by_cases h2 : t.val % 4 = 3
    · rw [outsAt0_C m c t (by omega) h1 h2]
      dsimp only
      refine ⟨(outs_C ..).2.1.trans (kept_prev m c t h1), fun r g => ((outs_C ..).2.2.2.1 r g).trans ?_, fun r g => ((outs_C ..).2.2.2.2 r g).trans ?_⟩
      · rw [kept_prev m c t h1, da_eq]
      · rw [kept_prev m c t h1, db_eq]
    · rw [outsAt0_B m c t (by omega) h1 h2]
      dsimp only
      refine ⟨(outs_B ..).2.1.trans (kept_prev m c t h1), fun r g => ((outs_B ..).2.2.2.1 r g).trans ?_, fun r g => ((outs_B ..).2.2.2.2 r g).trans ?_⟩
      · rw [kept_prev m c t h1, da_eq]
      · rw [kept_prev m c t h1, db_eq]

theorem final11 : (dats m 0 c).arrAt 11 cfg0.N = fun y => dyG m c (y 0) (y 1) := by
  refine (dats m 0 c).arrAt_eq_of_covers 11 _ (by decide +kernel) fun t hf y => ?_
  blk_simp
  obtain ⟨r, e, rfl⟩ : ∃ (r : Fin 512) (e : Fin 1024), y = ix2 r e := ⟨y 0, y 1, eq_ix2 y⟩
  rw [after0_11, (o_all m c t).1, emb11]
  rfl
theorem final12 : (dats m 0 c).arrAt 12 cfg0.N = fun y => daG m c (y 0) (y 1) (y 2) := by
  refine (dats m 0 c).arrAt_eq_of_covers 12 _ (by decide +kernel) fun t hf y => ?_
  blk_simp
  obtain ⟨k, r, g, rfl⟩ : ∃ (k : Fin 1) (r : Fin 512) (g : Fin 704), y = ix3 k r g := ⟨y 0, y 1, y 2, eq_ix3 y⟩
  obtain rfl : k = 0 := Subsingleton.elim _ _
  rw [after0_12, (o_all m c t).2.1, emb12]
  rfl
theorem final13 : (dats m 0 c).arrAt 13 cfg0.N = fun y => dbG m c (y 0) (y 1) (y 2) := by
  refine (dats m 0 c).arrAt_eq_of_covers 13 _ (by decide +kernel) fun t hf y => ?_
  blk_simp
  obtain ⟨k, r, g, rfl⟩ : ∃ (k : Fin 1) (r : Fin 512) (g : Fin 704), y = ix3 k r g := ⟨y 0, y 1, y 2, eq_ix3 y⟩
  obtain rfl : k = 0 := Subsingleton.elim _ _
  rw [after0_13, (o_all m c t).2.2, emb13]
  rfl

/-- One row's part of the gradients of the two gains. -/
def gpRow (e : Fin 1024) (r : Fin 4096) : EReal :=
  dhG m c r e * (XX m c (ix2 r e) * Ideal.rsqrt (RmsBwd.q 1024 eps fun j : Fin 1024 => XX m c (ix2 r j)))
def gqRow (e : Fin 1024) (r : Fin 4096) : EReal :=
  half * DX m c (ix2 r e) * (YY m c (ix2 r e) * Ideal.rsqrt (RmsBwd.q 1024 eps fun j : Fin 1024 => YY m c (ix2 r j)))

/-- The same parts by the row's number. -/
def rowN (f : Fin 4096 → EReal) (r : ℕ) : EReal := if h : r < 4096 then f ⟨r, h⟩ else 0

theorem gp_tile (t : Fin cfg0.N) (h2 : t.val % 4 = 3) (e : Fin 1024) :
    gpre (iblk m c 1 t) (accL m c t) e = ∑ r ∈ Finset.range 512, rowN (gpRow m c e) (t.val / 4 * 512 + r) := by
  rw [Finset.sum_range]
  refine Finset.sum_congr rfl fun r _ => ?_
  unfold rowN
  rw [dif_pos (row t r).isLt]
  exact congrArg₂ (· * ·) (acc_last m c t h2 r e) (congrArg₂ (· * ·) (blk1 m c t r e)
    (congrArg Ideal.rsqrt (congrArg (RmsBwd.q 1024 eps) (funext fun j => blk1 m c t r j))))

theorem gq_tile (t : Fin cfg0.N) (e : Fin 1024) :
    gpost (iblk m c 0 t) (iblk m c 2 t) e = ∑ r ∈ Finset.range 512, rowN (gqRow m c e) (t.val / 4 * 512 + r) := by
  rw [Finset.sum_range]
  refine Finset.sum_congr rfl fun r _ => ?_
  unfold rowN
  rw [dif_pos (row t r).isLt]
  exact congrArg₂ (· * ·) (congrArg (half * ·) (blk0 m c t r e)) (congrArg₂ (· * ·) (blk2 m c t r e)
    (congrArg Ideal.rsqrt (congrArg (RmsBwd.q 1024 eps) (funext fun j => blk2 m c t r j))))

/-- The gains' block after a point: its first row holds the sum over the rows of the finished tiles, its second row the sum over
    the rows of the tiles begun, and the others zero. -/
theorem o14 (n : Nat) (hn : n < cfg0.N) (e : Fin 1024) :
    (outsAt0 m c n hn).2.2.2.2.1 (ix2 0 e) = ∑ r ∈ Finset.range ((n + 1) / 4 * 512), rowN (gpRow m c e) r
    ∧ (outsAt0 m c n hn).2.2.2.2.1 (ix2 1 e) = ∑ r ∈ Finset.range ((n / 4 + 1) * 512), rowN (gqRow m c e) r
    ∧ ∀ k : Fin 8, k ≠ 0 → k ≠ 1 → (outsAt0 m c n hn).2.2.2.2.1 (ix2 k e) = 0 := by
  have hN : cfg0.N = 32 := N_0
  induction n with
  | zero =>
    rw [outsAt0_A m c ⟨0, hn⟩ rfl rfl (show ¬0 % 4 = 3 by omega)]
    dsimp only
    refine ⟨out14_A_rest (hk := by decide) .., (out14_A_row ..).trans ((gq_tile m c ⟨0, hn⟩ e).trans ?_), fun k _ hk => out14_A_rest (hk := hk) ..⟩
    refine Finset.sum_congr rfl fun r _ => congrArg (rowN (gqRow m c e)) ?_
    show 0 / 4 * 512 + r = r
    omega
  | succ n ih =>
    have hi := ih (by omega)
    by_cases h1 : (n + 1) % 4 = 0
    · rw [outsAt0_D m c ⟨n + 1, hn⟩ (show ¬(n + 1) % 32 = 0 by omega) h1 (show ¬(n + 1) % 4 = 3 by omega)]
      dsimp only
      rw [show (n + 1 + 1) / 4 = (n + 1) / 4 by omega, show ((n + 1) / 4 + 1) * 512 = (n / 4 + 1) * 512 + 512 by omega, Finset.sum_range_add]
      refine ⟨(out14_D_rest (hk := by decide) ..).trans hi.1, (out14_D_row ..).trans (congrArg₂ (· + ·) hi.2.1 ((gq_tile m c ⟨n + 1, hn⟩ e).trans ?_)),
        fun k hk hk' => (out14_D_rest (hk := hk') ..).trans (hi.2.2 k hk hk')⟩
      refine Finset.sum_congr rfl fun r _ => congrArg (rowN (gqRow m c e)) ?_
      show (n + 1) / 4 * 512 + r = (n / 4 + 1) * 512 + r
      omega
    · rw [show (n + 1) / 4 = n / 4 by omega]
      by_cases h2 : (n + 1) % 4 = 3
      · rw [outsAt0_C m c ⟨n + 1, hn⟩ (show ¬(n + 1) % 32 = 0 by omega) h1 h2]
        dsimp only
        rw [show (n + 1 + 1) / 4 * 512 = (n + 1) / 4 * 512 + 512 by omega, Finset.sum_range_add]
        exact ⟨(out14_C_row ..).trans (congrArg₂ (· + ·) hi.1 (gp_tile m c ⟨n + 1, hn⟩ h2 e)), (out14_C_rest (hk := by decide) ..).trans hi.2.1,
          fun k hk hk' => (out14_C_rest (hk := hk) ..).trans (hi.2.2 k hk hk')⟩
      · rw [outsAt0_B m c ⟨n + 1, hn⟩ (show ¬(n + 1) % 32 = 0 by omega) h1 h2]
        dsimp only
        rw [show (n + 1 + 1) / 4 = (n + 1) / 4 by omega]
        exact hi

/-- The gains' gradients: in the first two of eight rows. -/
def gpG (y : S8x1024.Idx) : EReal :=
  if (y 0).val = 0 then ∑ r : Fin 4096, gpRow m c (y 1) r else if (y 0).val = 1 then ∑ r : Fin 4096, gqRow m c (y 1) r else 0

theorem last14 : ∀ t : Fin cfg0.N, (cfg0.win 14).flush t = true → t.val = 31 := by decide +kernel

theorem final14 : (dats m 0 c).arrAt 14 cfg0.N = gpG m c := by
  refine (dats m 0 c).arrAt_eq_of_covers 14 _ (by decide +kernel) fun t hf y => ?_
  blk_simp
  obtain ⟨k, e, rfl⟩ : ∃ (k : Fin 8) (e : Fin 1024), y = ix2 k e := ⟨y 0, y 1, eq_ix2 y⟩
  rw [after0_14, emb14]
  have ho := o14 m c t.val t.isLt e
  have hl := last14 t hf
  have hs : ∀ f : Fin 4096 → EReal, ∑ r ∈ Finset.range 4096, rowN f r = ∑ r, f r := fun f =>
    (Finset.sum_range _).trans (Finset.sum_congr rfl fun r _ => dif_pos r.isLt)
  by_cases hk : k = 0
  · subst hk
    refine Eq.trans ?_ (if_pos rfl).symm
    exact ho.1.trans (by rw [show (t.val + 1) / 4 * 512 = 4096 by omega]; exact hs _)
  · refine Eq.trans ?_ (if_neg fun h => hk (Fin.ext h)).symm
    by_cases hk' : k = 1
    · subst hk'
      refine Eq.trans ?_ (if_pos rfl).symm
      exact ho.2.1.trans (by rw [show (t.val / 4 + 1) * 512 = 4096 by omega]; exact hs _)
    · refine Eq.trans ?_ (if_neg fun h => hk' (Fin.ext h)).symm
      exact ho.2.2 k hk hk'

end Cert.Kernel5Ideal.FfnA

end
-- ==== Proof.FfnARef.lean ====
/-
  The reference of the half step's input gradient, read at an index over the extended reals.
-/
module

public import proofs.«01_k».proof.Proof.Gen.Reference5Ideal.Read
public import proofs.«01_k».proof.Proof.FfnAPay
public import proofs.«01_k».proof.Proof.MergeRef
public import proofs.«01_k».proof.Proof.RmsBwd
public import Idealize.ShloMosaic.Lib.Pointwise
public import Idealize.ShloMosaic.Lib.IdealHost

@[expose] public section

set_option maxRecDepth 16384

noncomputable section

namespace Cert.Reference5Ideal.FfnA

open Idealize.ShloMosaic Idealize.ShloMosaic.TcCoe
open Cert.Reference5Ideal Cert.Reference5Ideal.Read
open Cert.KernelIdeal.Merge (eps eps_word eps_pos width_word)
open Cert.ReferenceIdeal.Merge (half_word)
open Cert.Kernel5Ideal.FfnA (half silu dsilu)

variable (x0 x1 : S4096x1024.Idx → EReal) (x2 x3 : S1024.Idx → EReal) (x4 x5 : S1024x2816.Idx → EReal) (x6 : S2816x1024.Idx → EReal)

theorem dy_apply (r : Fin 4096) (e : Fin 1024) :
    val_main_v62 (F := Ideal) x0 x1 x2 x3 x4 x5 x6 (ix2 r e)
      = RmsBwd.short 1024 eps (fun j : Fin 1024 => val_main_v20 (F := Ideal) x1 x2 x4 x5 x6 (ix2 r j)) (fun j => half * x0 (ix2 r j) * x3 (ix1 j)) e := by
  rw [RmsBwd.short_eq 1024 eps _ (by norm_num) eps_pos rfl]
  unfold RmsBwd.coef RmsBwd.q
  rw [← width_word, ← eps_word, ← half_word]
  pointwise [val_main_v62, val_main_v61, val_main_v60, val_main_v59, val_main_v58, val_main_v57, val_main_v56, val_main_v55, val_main_v54,
    val_main_v53, val_main_v52, val_main_v51, val_main_v50, val_main_v49, val_main_v47, val_main_v46, val_main_v42, val_main_v41,
    val_main_v40, val_main_v34, val_main_v31, val_main_v30, val_main_v29, val_main_v28, val_main_v27, val_main_v26, val_main_v25,
    val_main_v24, val_main_v23, val_main_v22, val_main_v21, val_main_cst_3, val_main_cst_4, val_main_cst_5, val_main_cst_6, val_main_cst_8,
    val_main_cst_11, val_main_cst_12, val_main_cst_13]
  simp only [Fin.sum_univ_one, Fin.isValue, Finset.univ_unique, Finset.sum_const, Finset.card_singleton, one_smul]

theorem du_apply (r : Fin 4096) (k : Fin 2816) :
    val_main_v63 (F := Ideal) x0 x1 x2 x3 x4 x5 x6 (ix2 r k)
      = ∑ j : Fin 1024, val_main_v62 (F := Ideal) x0 x1 x2 x3 x4 x5 x6 (ix2 r j) * x6 (ix2 k j) := by
  pointwise [val_main_v63]

theorem silu_apply (r : Fin 4096) (k : Fin 2816) :
    val_main_v18_0 (F := Ideal) x1 x2 x4 (ix2 r k) = silu (val_main_v16 (F := Ideal) x1 x2 x4 (ix2 r k)) := by
  pointwise [val_main_v18_0, val_main_v18_2, val_main_call0_v4, val_main_call0_v3, val_main_call0_v2, val_main_call0_v1, val_main_call0_v0,
    val_main_call0_cst, val_main_call0_cst_0]
  rfl

theorem dsilu_apply (r : Fin 4096) (k : Fin 2816) :
    val_main_v67 (F := Ideal) x1 x2 x4 (ix2 r k) = dsilu (val_main_v16 (F := Ideal) x1 x2 x4 (ix2 r k)) := by
  pointwise [val_main_v67, val_main_call1_v2, val_main_call1_v1, val_main_call1_v0, val_main_v66, val_main_cst_14, val_main_v18_1,
    val_main_v18_2, val_main_call0_v7, val_main_call0_v6, val_main_call0_v4, val_main_call0_v3, val_main_call0_v2, val_main_call0_v1,
    val_main_call0_v0, val_main_call0_cst, val_main_call0_cst_0, val_main_call0_cst_1]
  unfold dsilu silu Ideal.logistic
  rw [mul_assoc]

theorem db_apply (r : Fin 4096) (k : Fin 2816) :
    val_main_v64 (F := Ideal) x0 x1 x2 x3 x4 x5 x6 (ix2 r k)
      = val_main_v63 (F := Ideal) x0 x1 x2 x3 x4 x5 x6 (ix2 r k) * silu (val_main_v16 (F := Ideal) x1 x2 x4 (ix2 r k)) := by
  rw [← silu_apply, mul_comm]
  pointwise [val_main_v64]

theorem da_apply (r : Fin 4096) (k : Fin 2816) :
    val_main_v68 (F := Ideal) x0 x1 x2 x3 x4 x5 x6 (ix2 r k)
      = val_main_v63 (F := Ideal) x0 x1 x2 x3 x4 x5 x6 (ix2 r k) * val_main_v17 (F := Ideal) x1 x2 x5 (ix2 r k)
        * dsilu (val_main_v16 (F := Ideal) x1 x2 x4 (ix2 r k)) := by
  rw [← dsilu_apply]
  pointwise [val_main_v68, val_main_v65]

/-- The gradient of the normed input with its gain: the two products' parts. -/
theorem dh_apply (r : Fin 4096) (e : Fin 1024) :
    val_main_v71 (F := Ideal) x0 x1 x2 x3 x4 x5 x6 (ix2 r e)
      = ∑ k : Fin 2816, val_main_v68 (F := Ideal) x0 x1 x2 x3 x4 x5 x6 (ix2 r k) * x4 (ix2 e k)
        + ∑ k : Fin 2816, val_main_v64 (F := Ideal) x0 x1 x2 x3 x4 x5 x6 (ix2 r k) * x5 (ix2 e k) := by
  rw [add_comm]
  pointwise [val_main_v71, val_main_v70, val_main_v69]

theorem dx_apply (r : Fin 4096) (e : Fin 1024) :
    val_main_v92 (F := Ideal) x0 x1 x2 x3 x4 x5 x6 (ix2 r e)
      = x0 (ix2 r e) + RmsBwd.short 1024 eps (fun j : Fin 1024 => x1 (ix2 r j))
          (fun j => val_main_v71 (F := Ideal) x0 x1 x2 x3 x4 x5 x6 (ix2 r j) * x2 (ix1 j)) e := by
  rw [RmsBwd.short_eq 1024 eps _ (by norm_num) eps_pos rfl]
  unfold RmsBwd.coef RmsBwd.q
  rw [← width_word, ← eps_word, ← half_word]
  pointwise [val_main_v92, val_main_v91, val_main_v90, val_main_v89, val_main_v88, val_main_v87, val_main_v86, val_main_v85, val_main_v84,
    val_main_v83, val_main_v82, val_main_v81, val_main_v80, val_main_v79, val_main_v78, val_main_v76, val_main_v75, val_main_v13,
    val_main_v10, val_main_v9, val_main_v8, val_main_v7, val_main_v6, val_main_v5, val_main_v4, val_main_v3, val_main_v2, val_main_v1,
    val_main_v0, val_main_cst, val_main_cst_0, val_main_cst_1, val_main_cst_2, val_main_cst_17, val_main_cst_18, val_main_cst_19]
  simp only [Fin.sum_univ_one, Fin.isValue, Finset.univ_unique, Finset.sum_const, Finset.card_singleton, one_smul]

theorem gp_row (e : Fin 1024) :
    val_main_v103 (F := Ideal) x0 x1 x2 x3 x4 x5 x6 (ix2 0 e)
      = ∑ r : Fin 4096, x1 (ix2 r e) * Ideal.rsqrt (RmsBwd.q 1024 eps fun j : Fin 1024 => x1 (ix2 r j))
          * val_main_v71 (F := Ideal) x0 x1 x2 x3 x4 x5 x6 (ix2 r e) := by
  unfold RmsBwd.q
  rw [← width_word, ← eps_word]
  pointwise [val_main_v103, val_main_v100, val_main_v77, val_main_v74, val_main_v73, val_main_v72, val_main_v12, val_main_v11,
    val_main_v7, val_main_v6, val_main_v5, val_main_v4, val_main_v3, val_main_v2, val_main_v1, val_main_v0, val_main_cst,
    val_main_cst_0, val_main_cst_1, val_main_cst_15, val_main_cst_16]
  exact Fin.sum_univ_one _

theorem gq_row (e : Fin 1024) :
    val_main_v103 (F := Ideal) x0 x1 x2 x3 x4 x5 x6 (ix2 1 e)
      = ∑ r : Fin 4096, val_main_v20 (F := Ideal) x1 x2 x4 x5 x6 (ix2 r e)
          * Ideal.rsqrt (RmsBwd.q 1024 eps fun j : Fin 1024 => val_main_v20 (F := Ideal) x1 x2 x4 x5 x6 (ix2 r j))
          * (half * x0 (ix2 r e)) := by
  unfold RmsBwd.q
  rw [← width_word, ← eps_word]
  pointwise [val_main_v103, val_main_v101, val_main_v48, val_main_v45, val_main_v44, val_main_v43, val_main_v42, val_main_v41, val_main_v40,
    val_main_v33, val_main_v32, val_main_v28, val_main_v27, val_main_v26, val_main_v25, val_main_v24, val_main_v23, val_main_v22,
    val_main_v21, val_main_cst_3, val_main_cst_4, val_main_cst_5, val_main_cst_8, val_main_cst_9, val_main_cst_10]
  exact Fin.sum_univ_one _

theorem gp_rest (k : Fin 8) (hk : k ≠ 0) (hk' : k ≠ 1) (e : Fin 1024) : val_main_v103 (F := Ideal) x0 x1 x2 x3 x4 x5 x6 (ix2 k e) = 0 := by
  have hk : ¬k.val < 1 := fun h => hk (Fin.ext (by simpa using h))
  have hk' : ¬k.val < 2 := fun h => hk' (Fin.ext (by show k.val = 1; omega))
  pointwise [val_main_v103, val_main_v102, val_main_cst_20]
  rw [dif_neg hk, dif_neg (by omega)]

theorem dya_apply (y : S4096x1024.Idx) :
    val_main_v93 (F := Ideal) x0 x1 x2 x3 x4 x5 x6 y = val_main_v62 (F := Ideal) x0 x1 x2 x3 x4 x5 x6 y := rfl

theorem daa_apply (p : Fin 4) (r : Fin 4096) (g : Fin 704) :
    val_main_v96 (F := Ideal) x0 x1 x2 x3 x4 x5 x6 (ix3 p r g)
      = val_main_v68 (F := Ideal) x0 x1 x2 x3 x4 x5 x6 (ix2 r ⟨p.val * 704 + g.val, by omega⟩) := by
  pointwise [val_main_v96, val_main_v95, val_main_v94]

theorem dba_apply (p : Fin 4) (r : Fin 4096) (g : Fin 704) :
    val_main_v99 (F := Ideal) x0 x1 x2 x3 x4 x5 x6 (ix3 p r g)
      = val_main_v64 (F := Ideal) x0 x1 x2 x3 x4 x5 x6 (ix2 r ⟨p.val * 704 + g.val, by omega⟩) := by
  pointwise [val_main_v99, val_main_v98, val_main_v97]

end Cert.Reference5Ideal.FfnA

end
-- ==== Proof.FfnAHost.lean ====
/-
  The arrays that the half step's input gradient's kernel is given are the reference's own stages.
-/
module

public import proofs.«01_k».proof.Proof.FfnAArr
public import proofs.«01_k».proof.Proof.FfnARef
public import Idealize.ShloMosaic.Lib.Claim
public import Idealize.ShloMosaic.Lib.StableHlo.ReadAt

@[expose] public section

set_option maxRecDepth 16384

noncomputable section

namespace Cert.Kernel5Ideal.FfnA

open Idealize.ShloMosaic Idealize.ShloMosaic.TcCoe Idealize.SL.Sem Idealize.ShloMosaic.Tactic
open Cert.Kernel5Ideal Cert.Kernel5Ideal.Gen Cert.Reference5Ideal.Read

variable (m : (ℓ : Loc nD τ sig) → Buf (Elt Ideal) ℓ) (c : Dev nD)

/-- The half step's cotangent and its input. -/
abbrev A0 : S4096x1024.Idx → EReal := m ((c : Thread nD τ).loc main_arg0)
abbrev A1 : S4096x1024.Idx → EReal := m ((c : Thread nD τ).loc main_arg1)
/-- The gains before and after. -/
abbrev A2 : S1024.Idx → EReal := m ((c : Thread nD τ).loc main_arg2)
abbrev A3 : S1024.Idx → EReal := m ((c : Thread nD τ).loc main_arg3)
/-- The three weights. -/
abbrev A4 : S1024x2816.Idx → EReal := m ((c : Thread nD τ).loc main_arg4)
abbrev A5 : S1024x2816.Idx → EReal := m ((c : Thread nD τ).loc main_arg5)
abbrev A6 : S2816x1024.Idx → EReal := m ((c : Thread nD τ).loc main_arg6)

theorem DX_eq : DX m c = A0 m c := V_main_arg0 m c
theorem XX_eq : XX m c = A1 m c := V_main_arg1 m c

theorem SP_pre (e : Fin 1024) : SP m c (ix2 0 ⟨e.val, by omega⟩) = A2 m c (ix1 e) := by
  unfold SP
  unfold V
  simp only [List.flatten_cons, List.flatten_nil, List.append_nil]
  after_reads_at
  after_reads_simp

theorem SP_post (e : Fin 1024) : SP m c (ix2 0 ⟨1024 + e.val, by omega⟩) = A3 m c (ix1 e) := by
  unfold SP
  unfold V
  simp only [List.flatten_cons, List.flatten_nil, List.append_nil]
  after_reads_at
  after_reads_simp

/-- A row of a shard's part, as a hidden column. -/
abbrev hid (p : Fin 8) (g : Fin 352) : Fin 2816 := ⟨p.val * 352 + g.val, by omega⟩

theorem PF_first (p : Fin 8) (g : Fin 352) (e : Fin 1024) : PF m c (ix3 p ⟨g.val, by omega⟩ e) = A4 m c (ix2 e (hid p g)) := by
  unfold PF
  unfold V
  simp only [List.flatten_cons, List.flatten_nil, List.append_nil]
  after_reads_at
  after_reads_simp
  show shapeCast S8x352x1024 (transpose S2816x1024 [1, 0] (A4 m c : Vec Ideal S1024x2816 .f32) transposes_S1024x2816_S2816x1024_1_0 : Vec Ideal S2816x1024 .f32)
    shapeCasts_S2816x1024_S8x352x1024 (ix3 p g e) = _
  pointwise

theorem PF_gate (p : Fin 8) (g : Fin 352) (e : Fin 1024) : PF m c (ix3 p ⟨352 + g.val, by omega⟩ e) = A5 m c (ix2 e (hid p g)) := by
  unfold PF
  unfold V
  simp only [List.flatten_cons, List.flatten_nil, List.append_nil]
  after_reads_at
  after_reads_simp
  show shapeCast S8x352x1024 (transpose S2816x1024 [1, 0] (A5 m c : Vec Ideal S1024x2816 .f32) transposes_S1024x2816_S2816x1024_1_0 : Vec Ideal S2816x1024 .f32)
    shapeCasts_S2816x1024_S8x352x1024 (ix3 p g e) = _
  pointwise

theorem PF_second (p : Fin 8) (g : Fin 352) (e : Fin 1024) : PF m c (ix3 p ⟨704 + g.val, by omega⟩ e) = A6 m c (ix2 (hid p g) e) := by
  unfold PF
  unfold V
  simp only [List.flatten_cons, List.flatten_nil, List.append_nil]
  after_reads_at
  after_reads_simp
  rw [dif_neg (by omega), dif_neg (by omega)]
  refine Eq.trans (congrArg (fun k : Fin 352 => shapeCast S8x352x1024 (A6 m c : Vec Ideal S2816x1024 .f32) shapeCasts_S2816x1024_S8x352x1024 (ix3 p k e))
    (Fin.ext (by show 704 + g.val - 352 - 352 = g.val; omega) : _ = g)) ?_
  pointwise

/-- Hidden columns in groups of 704. -/
abbrev cut4 (X : S4096x2816.Idx → EReal) : S4x4096x704.Idx → EReal :=
  fun y => X (ix2 (y 1) ⟨(y 0).val * 704 + (y 2).val, by
    have h0 : (y 0).val < 4 := (y 0).isLt
    have h2 : (y 2).val < 704 := (y 2).isLt
    omega⟩)

/-- The groups as the program makes them. -/
theorem cut4_host (X : Vec Ideal S4096x2816 .f32) :
    truncf (F := Ideal) (φ := .f32) .bf16 (transpose S4x4096x704 [1, 0, 2] (shapeCast S4096x4x704 X shapeCasts_S4096x2816_S4096x4x704 : Vec Ideal S4096x4x704 .f32) transposes_S4096x4x704_S4x4096x704_1_0_2) bitsLt_bf16_f32 = (cut4 X : Vec Ideal S4x4096x704 .bf16) := by
  funext y
  obtain ⟨j, r, g, rfl⟩ : ∃ (j : Fin 4) (r : Fin 4096) (g : Fin 704), y = ix3 j r g := ⟨y 0, y 1, y 2, eq_ix3 y⟩
  pointwise
  rfl

theorem YY_eq : YY m c = val_main_v20 (F := Ideal) (A1 m c) (A2 m c) (A4 m c) (A5 m c) (A6 m c) := by
  unfold YY
  unfold V
  simp only [List.flatten_cons, List.flatten_nil, List.append_nil]
  after_reads_simp
  rfl

theorem AA_eq : AA m c = cut4 (val_main_v16 (F := Ideal) (A1 m c) (A2 m c) (A4 m c)) := by
  refine Eq.trans ?_ (cut4_host _)
  unfold AA
  unfold V
  simp only [List.flatten_cons, List.flatten_nil, List.append_nil]
  after_reads_simp
  rfl

theorem BB_eq : BB m c = cut4 (val_main_v17 (F := Ideal) (A1 m c) (A2 m c) (A5 m c)) := by
  refine Eq.trans ?_ (cut4_host _)
  unfold BB
  unfold V
  simp only [List.flatten_cons, List.flatten_nil, List.append_nil]
  after_reads_simp
  rfl

end Cert.Kernel5Ideal.FfnA

end
-- ==== Proof.FfnAClaim.lean ====
/-
  The half step's input gradient: the kernel's results are the reference's, and the claims on this call.
-/
module

public import proofs.«01_k».proof.Defs
public import proofs.«01_k».proof.Proof.FfnAHost
public import proofs.«01_k».proof.Proof.Gen.Kernel5.Frame
public import proofs.«01_k».proof.Proof.Gen.Kernel5Ideal.Value
public import proofs.«01_k».proof.Proof.Gen.Reference5Ideal.Run

@[expose] public section

set_option maxRecDepth 16384

noncomputable section

namespace Cert.Kernel5Ideal.FfnA

open Idealize.ShloMosaic Idealize.ShloMosaic.TcCoe Idealize.SL.Sem Idealize.ShloMosaic.Tactic
open Cert.Kernel5Ideal Cert.Kernel5Ideal.Gen Cert.Reference5Ideal.Read
open Cert.KernelIdeal.Merge (eps)

variable (m : (ℓ : Loc nD τ sig) → Buf (Elt Ideal) ℓ) (c : Dev nD)

/-- Column `g` of group `p`. -/
abbrev hcol (p : Fin 4) (g : Fin 704) : Fin 2816 := ⟨p.val * 704 + g.val, by omega⟩

theorem hid_sh (p : Fin 4) (g : Fin 704) : hid (sh p g) ⟨g.val % 352, by omega⟩ = hcol p g := Fin.ext (by
  show (p.val * 2 + g.val / 352) * 352 + g.val % 352 = p.val * 704 + g.val
  omega)

theorem PF0 (p : Fin 4) (g : Fin 704) (e : Fin 1024) : PF m c (ix3 (sh p g) (col 0 g) e) = A4 m c (ix2 e (hcol p g)) := by
  rw [← hid_sh p g, ← PF_first]
  exact congrArg (fun k => PF m c (ix3 (sh p g) k e)) (Fin.ext (Nat.zero_add _))
theorem PF1 (p : Fin 4) (g : Fin 704) (e : Fin 1024) : PF m c (ix3 (sh p g) (col 1 g) e) = A5 m c (ix2 e (hcol p g)) := by
  rw [← hid_sh p g, ← PF_gate]
  rfl
theorem PF2 (p : Fin 4) (g : Fin 704) (e : Fin 1024) : PF m c (ix3 (sh p g) (col 2 g) e) = A6 m c (ix2 (hcol p g) e) := by
  rw [← hid_sh p g, ← PF_second]
  rfl

/-- A sum over the hidden columns, group by group. -/
theorem sum_cols (f : Fin 2816 → EReal) : ∑ p : Fin 4, ∑ g : Fin 704, f (hcol p g) = ∑ k, f k := by
  rw [← Fintype.sum_prod_type' (f := fun (p : Fin 4) (g : Fin 704) => f (hcol p g))]
  refine Fintype.sum_equiv (finProdFinEquiv (m := 4) (n := 704)) _ _ fun x => congrArg f (Fin.ext ?_)
  show x.1.val * 704 + x.2.val = x.2.val + 704 * x.1.val
  omega

theorem dy_at (r : Fin 4096) (e : Fin 1024) : dyG m c r e
    = val_main_v62 (F := Ideal) (A0 m c) (A1 m c) (A2 m c) (A3 m c) (A4 m c) (A5 m c) (A6 m c) (ix2 r e) := by
  rw [Cert.Reference5Ideal.FfnA.dy_apply]
  exact congrArg₂ (fun a b => RmsBwd.short 1024 eps a b e) (funext fun j => congrFun (YY_eq m c) _)
    (funext fun j => congrArg₂ (· * ·) (congrArg (half * ·) (congrFun (DX_eq m c) _)) (SP_post m c j))

theorem du_at (p : Fin 4) (r : Fin 4096) (g : Fin 704) : duG m c p r g
    = val_main_v63 (F := Ideal) (A0 m c) (A1 m c) (A2 m c) (A3 m c) (A4 m c) (A5 m c) (A6 m c) (ix2 r (hcol p g)) := by
  rw [Cert.Reference5Ideal.FfnA.du_apply]
  exact Finset.sum_congr rfl fun j _ => congrArg₂ (· * ·) (dy_at m c r j) (PF2 m c p g j)

theorem da_at (p : Fin 4) (r : Fin 4096) (g : Fin 704) : daG m c p r g
    = val_main_v68 (F := Ideal) (A0 m c) (A1 m c) (A2 m c) (A3 m c) (A4 m c) (A5 m c) (A6 m c) (ix2 r (hcol p g)) := by
  rw [Cert.Reference5Ideal.FfnA.da_apply]
  exact congrArg₂ (· * ·) (congrArg₂ (· * ·) (du_at m c p r g) (congrFun (BB_eq m c) _)) (congrArg dsilu (congrFun (AA_eq m c) _))

theorem db_at (p : Fin 4) (r : Fin 4096) (g : Fin 704) : dbG m c p r g
    = val_main_v64 (F := Ideal) (A0 m c) (A1 m c) (A2 m c) (A3 m c) (A4 m c) (A5 m c) (A6 m c) (ix2 r (hcol p g)) := by
  rw [Cert.Reference5Ideal.FfnA.db_apply]
  exact congrArg₂ (· * ·) (du_at m c p r g) (congrArg silu (congrFun (AA_eq m c) _))

/-- The gradient of the normed input: the groups' parts are the two products. -/
theorem dh_at (r : Fin 4096) (e : Fin 1024) : dhG m c r e
    = val_main_v71 (F := Ideal) (A0 m c) (A1 m c) (A2 m c) (A3 m c) (A4 m c) (A5 m c) (A6 m c) (ix2 r e) := by
  rw [Cert.Reference5Ideal.FfnA.dh_apply]
  unfold dhG part
  rw [Finset.sum_add_distrib]
  refine congrArg₂ (· + ·) (Eq.trans ?_ (sum_cols _)) (Eq.trans ?_ (sum_cols _))
  · refine Finset.sum_congr rfl fun p _ => Finset.sum_congr rfl fun g _ => ?_
    exact congrArg₂ (· * ·) (da_at m c p r g) (PF0 m c p g e)
  · refine Finset.sum_congr rfl fun p _ => Finset.sum_congr rfl fun g _ => ?_
    exact congrArg₂ (· * ·) (db_at m c p r g) (PF1 m c p g e)

theorem res10 : dxG m c = val_main_v92 (F := Ideal) (A0 m c) (A1 m c) (A2 m c) (A3 m c) (A4 m c) (A5 m c) (A6 m c) := by
  funext y
  obtain ⟨r, e, rfl⟩ : ∃ (r : Fin 4096) (e : Fin 1024), y = ix2 r e := ⟨y 0, y 1, eq_ix2 y⟩
  rw [Cert.Reference5Ideal.FfnA.dx_apply]
  refine congrArg₂ (· + ·) (congrFun (DX_eq m c) _) ?_
  exact congrArg₂ (fun a b => RmsBwd.short 1024 eps a b e) (funext fun j => congrFun (XX_eq m c) _)
    (funext fun j => congrArg₂ (· * ·) (dh_at m c r j) (SP_pre m c j))

theorem res11 : (fun y : S4096x1024.Idx => dyG m c (y 0) (y 1))
    = val_main_v93 (F := Ideal) (A0 m c) (A1 m c) (A2 m c) (A3 m c) (A4 m c) (A5 m c) (A6 m c) := by
  funext y
  obtain ⟨r, e, rfl⟩ : ∃ (r : Fin 4096) (e : Fin 1024), y = ix2 r e := ⟨y 0, y 1, eq_ix2 y⟩
  exact (dy_at m c r e).trans (Cert.Reference5Ideal.FfnA.dya_apply ..).symm

theorem res12 : (fun y : S4x4096x704.Idx => daG m c (y 0) (y 1) (y 2))
    = val_main_v96 (F := Ideal) (A0 m c) (A1 m c) (A2 m c) (A3 m c) (A4 m c) (A5 m c) (A6 m c) := by
  funext y
  obtain ⟨p, r, g, rfl⟩ : ∃ (p : Fin 4) (r : Fin 4096) (g : Fin 704), y = ix3 p r g := ⟨y 0, y 1, y 2, eq_ix3 y⟩
  exact (da_at m c p r g).trans (Cert.Reference5Ideal.FfnA.daa_apply ..).symm

theorem res13 : (fun y : S4x4096x704.Idx => dbG m c (y 0) (y 1) (y 2))
    = val_main_v99 (F := Ideal) (A0 m c) (A1 m c) (A2 m c) (A3 m c) (A4 m c) (A5 m c) (A6 m c) := by
  funext y
  obtain ⟨p, r, g, rfl⟩ : ∃ (p : Fin 4) (r : Fin 4096) (g : Fin 704), y = ix3 p r g := ⟨y 0, y 1, y 2, eq_ix3 y⟩
  exact (db_at m c p r g).trans (Cert.Reference5Ideal.FfnA.dba_apply ..).symm

theorem res14 : gpG m c = val_main_v103 (F := Ideal) (A0 m c) (A1 m c) (A2 m c) (A3 m c) (A4 m c) (A5 m c) (A6 m c) := by
  funext y
  obtain ⟨k, e, rfl⟩ : ∃ (k : Fin 8) (e : Fin 1024), y = ix2 k e := ⟨y 0, y 1, eq_ix2 y⟩
  by_cases hk : k = 0
  · subst hk
    rw [Cert.Reference5Ideal.FfnA.gp_row]
    refine (if_pos rfl).trans (Finset.sum_congr rfl fun r _ => Eq.trans ?_ (mul_comm _ _))
    exact congrArg₂ (· * ·) (dh_at m c r e) (congrArg₂ (· * ·) (congrFun (XX_eq m c) _)
      (congrArg Ideal.rsqrt (congrArg (RmsBwd.q 1024 eps) (funext fun j => congrFun (XX_eq m c) _))))
  · refine (if_neg fun h => hk (Fin.ext h)).trans ?_
    by_cases hk' : k = 1
    · subst hk'
      rw [Cert.Reference5Ideal.FfnA.gq_row]
      refine (if_pos rfl).trans (Finset.sum_congr rfl fun r _ => Eq.trans ?_ (mul_comm _ _))
      exact congrArg₂ (· * ·) (congrArg (half * ·) (congrFun (DX_eq m c) _)) (congrArg₂ (· * ·) (congrFun (YY_eq m c) _)
        (congrArg Ideal.rsqrt (congrArg (RmsBwd.q 1024 eps) (funext fun j => congrFun (YY_eq m c) _))))
    · rw [Cert.Reference5Ideal.FfnA.gp_rest (hk := hk) (hk' := hk')]
      exact if_neg fun h => hk' (Fin.ext h)

end Cert.Kernel5Ideal.FfnA

namespace Cert.FfnAClaim

open Idealize.ShloMosaic Idealize.ShloMosaic.TcCoe Idealize.SL.Sem Idealize.ShloMosaic.Tactic
open Cert.Reference5Ideal.Read Cert.Kernel5Ideal.FfnA

theorem frame_p : Cert.quiescent_Kernel5 := fun m ρ _ => Cert.Kernel5.Gen.frame m ρ

theorem frame_pi : Cert.quiescent_Kernel5Ideal := fun m ρ _ => Cert.Kernel5Ideal.Gen.frame m ρ

theorem frame_ri : Cert.quiescent_Reference5Ideal := fun m ρ _ =>
  (θ_run Cert.Reference5Ideal.defs _ _).mono (fun r h => ⟨fun c => (h c).2.2.2.2.2, sem_eq_zero_of_no_sems (by decide) r.2⟩)
    (Cert.Reference5Ideal.Value.run (F := Ideal) m ρ)

/-- Equal arguments give equal results. -/
theorem algebraic : Cert.algebraic_Kernel5Ideal_Reference5Ideal := by
  intro m g m' g' _ hagree
  have hV : ∀ c : Dev Cert.Kernel5Ideal.nD,
      StableHlo.launchContents m' c (Proc.devRef .tc Cert.Reference5Ideal.main_arg0) = A0 m c
      ∧ StableHlo.launchContents m' c (Proc.devRef .tc Cert.Reference5Ideal.main_arg1) = A1 m c
      ∧ StableHlo.launchContents m' c (Proc.devRef .tc Cert.Reference5Ideal.main_arg2) = A2 m c
      ∧ StableHlo.launchContents m' c (Proc.devRef .tc Cert.Reference5Ideal.main_arg3) = A3 m c
      ∧ StableHlo.launchContents m' c (Proc.devRef .tc Cert.Reference5Ideal.main_arg4) = A4 m c
      ∧ StableHlo.launchContents m' c (Proc.devRef .tc Cert.Reference5Ideal.main_arg5) = A5 m c
      ∧ StableHlo.launchContents m' c (Proc.devRef .tc Cert.Reference5Ideal.main_arg6) = A6 m c := hagree
  refine ⟨fun c => dxG m c, fun c y => dyG m c (y 0) (y 1), fun c y => daG m c (y 0) (y 1) (y 2), fun c y => dbG m c (y 0) (y 1) (y 2), fun c => gpG m c, ?_, ?_⟩
  · refine (θ_run Cert.Kernel5Ideal.defs _ _).mono (fun r h c => ?_) (Cert.Kernel5Ideal.Value.run_blocks m g)
    obtain ⟨h0, h1, h2, h3, h4, h5⟩ := h c
    exact ⟨h0.trans (final10 m c), h1.trans (final11 m c), h2.trans (final12 m c), h3.trans (final13 m c), h4.trans (final14 m c), h5⟩
  · refine (θ_run Cert.Reference5Ideal.defs _ _).mono (fun r h c => ?_) (Cert.Reference5Ideal.Value.run (F := Ideal) m' g')
    obtain ⟨h0, h1, h2, h3, h4, h5⟩ := h c
    obtain ⟨e0, e1, e2, e3, e4, e5, e6⟩ := hV c
    refine ⟨h0.trans ((val_main_v92_eq _).trans ?_), h1.trans ((val_main_v93_eq _).trans ?_), h2.trans ((val_main_v96_eq _).trans ?_),
      h3.trans ((val_main_v99_eq _).trans ?_), h4.trans ((val_main_v103_eq _).trans ?_), h5⟩
    · rw [e0, e1, e2, e3, e4, e5, e6]
      exact (res10 m c).symm
    · rw [e0, e1, e2, e3, e4, e5, e6]
      exact (res11 m c).symm
    · rw [e0, e1, e2, e3, e4, e5, e6]
      exact (res12 m c).symm
    · rw [e0, e1, e2, e3, e4, e5, e6]
      exact (res13 m c).symm
    · rw [e0, e1, e2, e3, e4, e5, e6]
      exact (res14 m c).symm

end Cert.FfnAClaim

end
-- ==== Proof.MergeWPay.lean ====
/-
  What the kernel of the merge weights' gradients computes on one tile of 512 rows, read at an index over the extended
  reals.
-/
module

public import proofs.«01_k».proof.Proof.Gen.Kernel6Ideal.Skeleton
public import Idealize.ShloMosaic.Lib.Pointwise
public import Idealize.ShloMosaic.Lib.IdealHost

@[expose] public section

set_option maxRecDepth 16384

noncomputable section

namespace Cert.Kernel6Ideal.MergeW

open Idealize.ShloMosaic Idealize.ShloMosaic.TcCoe
open Cert.Kernel6Ideal Cert.Kernel6Ideal.Gen

theorem pay48_apply (b : Fin 4) (g : Fin 512) (e : Fin 1024) : k0_pay48 (F := Ideal) (ix3 b g e) = 0 := by
  pointwise [k0_pay48]

theorem pay49_apply (g e : Fin 1024) : k0_pay49 (F := Ideal) (ix2 g e) = 0 := by
  pointwise [k0_pay49]

/-- A branch's sums: the tile's product is added. -/
theorem pay50_apply (acc : Vec Ideal S1x512x1024 .f32) (x : Vec Ideal S512x512 .bf16) (y : Vec Ideal S1x512x1024 .bf16) (g : Fin 512) (e : Fin 1024) :
    k0_pay50 (F := Ideal) acc x y (ix3 0 g e) = acc (ix3 0 g e) + ∑ r, x (ix2 r g) * y (ix3 0 r e) := by
  pointwise [k0_pay50]

theorem pay51_apply (acc : Vec Ideal S1x512x1024 .f32) (x : Vec Ideal S512x512 .bf16) (y : Vec Ideal S1x512x1024 .bf16) (g : Fin 512) (e : Fin 1024) :
    k0_pay51 (F := Ideal) acc x y (ix3 0 g e) = acc (ix3 0 g e) + ∑ r, x (ix2 r g) * y (ix3 0 r e) := pay50_apply acc x y g e

theorem pay53_apply (acc : Vec Ideal S1x512x1024 .f32) (x : Vec Ideal S512x512 .bf16) (y : Vec Ideal S1x512x1024 .bf16) (g : Fin 512) (e : Fin 1024) :
    k0_pay53 (F := Ideal) (k0_pay52 (F := Ideal) acc) x y (ix3 0 g e) = acc (ix3 0 g e) + ∑ r, x (ix2 r g) * y (ix3 0 r e) := pay50_apply acc x y g e

theorem pay54_apply (acc : Vec Ideal S1x512x1024 .f32) (x : Vec Ideal S512x512 .bf16) (y : Vec Ideal S1x512x1024 .bf16) (g : Fin 512) (e : Fin 1024) :
    k0_pay54 (F := Ideal) acc x y (ix3 0 g e) = acc (ix3 0 g e) + ∑ r, x (ix2 r g) * y (ix3 0 r e) := pay50_apply acc x y g e

/-- The output weight's sums: the tile's product is added. -/
theorem pay55_apply (acc : Vec Ideal S1024x1024 .f32) (x5 x6 : Vec Ideal S512x1024 .bf16) (g e : Fin 1024) :
    k0_pay1 (F := Ideal) (k0_pay55 (F := Ideal) acc x5 x6) (ix2 g e) = acc (ix2 g e) + ∑ r, x5 (ix2 r g) * x6 (ix2 r e) := by
  pointwise [k0_pay1, k0_pay55]

/-- A store of a shard's columns of one branch: the same entries. -/
theorem paySt_apply (v : Vec Ideal S1x512x128 .f32) (g : Fin 512) (f : Fin 128) :
    k0_pay3 (F := Ideal) v (ix4 0 0 g f) = v (ix3 0 g f) := by
  pointwise [k0_pay3]

/-- A store of a shard's rows of the output weight: the same entries. -/
theorem payStO_apply (v : Vec Ideal S128x1024 .f32) (f : Fin 128) (e : Fin 1024) :
    k0_pay14 (F := Ideal) v (ix3 0 f e) = v (ix2 f e) := by
  pointwise [k0_pay14]

end Cert.Kernel6Ideal.MergeW

end
-- ==== Proof.MergeWBlock.lean ====
/-
  What the kernel of the merge weights' gradients leaves in its two accumulators, and in its outputs' blocks, at one grid
  point, over the extended reals.
-/
module

public import proofs.«01_k».proof.Proof.Gen.Kernel6Ideal.Frame
public import proofs.«01_k».proof.Proof.MergeWPay
public import proofs.«01_k».proof.Proof.Bands
public import proofs.«01_k».proof.Proof.FfnWBlock

@[expose] public section

set_option maxRecDepth 16384

noncomputable section

namespace Cert.Kernel6Ideal.MergeW

open Idealize.ShloMosaic Idealize.ShloMosaic.TcCoe Idealize.SL.Sem Idealize.ShloMosaic.Tactic
open Cert.Kernel6Ideal Cert.Kernel6Ideal.Gen
open Cert.Kernel2Ideal.FfnW (hz2 hz3)

/-- One branch's slab stored last, read in that branch. -/
theorem slab_mem {o : Nat} (inb : ∀ a, (![o, 0, 0] : Fin 3 → Nat) a + (![1, 512, 1024] : Fin 3 → Nat) a ≤ S4x512x1024.size a)
    (w : S1x512x1024.Idx → EReal) (L : List (View.Piece (Elt Ideal) S4x512x1024 .f32)) (b : Fin 4) (g : Fin 512) (e : Fin 1024) (hb : b.val = o) :
    View.canon (Val := Elt Ideal) (⟨Rect.unit (s := S4x512x1024) ![o, 0, 0] ![1, 512, 1024] inb, w⟩ :: L) (ix3 b g e) = w (ix3 0 g e) := by
  have h : (ix3 b g e : S4x512x1024.Idx) = (Rect.unit (s := S4x512x1024) ![o, 0, 0] ![1, 512, 1024] inb).emb (ix3 0 g e) := by
    funext a
    apply Fin.ext
    rw [Rect.emb_apply]
    fin_cases a
    · show b.val = o + 1 * 0
      omega
    · show g.val = 0 + 1 * g.val
      omega
    · show e.val = 0 + 1 * e.val
      omega
  rw [h]
  exact View.canon_cons_emb (Val := Elt Ideal) _ _ _ _

/-- One branch's slab stored last, read in another branch. -/
theorem slab_not_mem {o : Nat} (inb : ∀ a, (![o, 0, 0] : Fin 3 → Nat) a + (![1, 512, 1024] : Fin 3 → Nat) a ≤ S4x512x1024.size a)
    (w : S1x512x1024.Idx → EReal) (L : List (View.Piece (Elt Ideal) S4x512x1024 .f32)) (b : Fin 4) (g : Fin 512) (e : Fin 1024)
    (hb : b.val < o ∨ o + 1 ≤ b.val) :
    View.canon (Val := Elt Ideal) (⟨Rect.unit (s := S4x512x1024) ![o, 0, 0] ![1, 512, 1024] inb, w⟩ :: L) (ix3 b g e) = View.canon (Val := Elt Ideal) L (ix3 b g e) := by
  refine View.canon_cons_of_not_mem (Val := Elt Ideal) _ _ ?_
  exact Rect.not_mem_set_of_axis _ _ 0 o 1 rfl rfl rfl hb

/-- Where a load inside a branch's slab reads. -/
theorem slab_idx {o j W : Nat} (inb : ∀ a, (![o, 0, j] : Fin 3 → Nat) a + (![1, 512, W] : Fin 3 → Nat) a ≤ S4x512x1024.size a)
    (g : Fin 512) (e : Fin W) (b : Fin 4) (hb : b.val = o) (h : j + e.val < 1024) :
    (Rect.unit (s := S4x512x1024) ![o, 0, j] ![1, 512, W] inb).emb (ix3 0 g e) = ix3 b g ⟨j + e.val, h⟩ := by
  funext a
  apply Fin.ext
  rw [Rect.emb_apply]
  fin_cases a
  · show o + 1 * 0 = b.val
    omega
  · show 0 + 1 * g.val = g.val
    omega
  · show j + 1 * e.val = j + e.val
    omega

theorem slab_idx0 {o : Nat} (inb : ∀ a, (![o, 0, 0] : Fin 3 → Nat) a + (![1, 512, 1024] : Fin 3 → Nat) a ≤ S4x512x1024.size a)
    (g : Fin 512) (e : Fin 1024) (b : Fin 4) (hb : b.val = o) :
    (Rect.unit (s := S4x512x1024) ![o, 0, 0] ![1, 512, 1024] inb).emb (ix3 0 g e) = ix3 b g e :=
  (slab_idx inb g e b hb (by omega)).trans (congrArg (ix3 b g) (Fin.ext (Nat.zero_add _)))

theorem slab_ld {φ : EltTy} (X : S4x512x1024.Idx → Elt Ideal φ) {o : Nat}
    (inb : ∀ a, (![o, 0, 0] : Fin 3 → Nat) a + (![1, 512, 1024] : Fin 3 → Nat) a ≤ S4x512x1024.size a)
    (g : Fin 512) (e : Fin 1024) (b : Fin 4) (hb : b.val = o) :
    View.ld (Val := Elt Ideal) X (Rect.unit (s := S4x512x1024) ![o, 0, 0] ![1, 512, 1024] inb) (ix3 0 g e) = X (ix3 b g e) :=
  congrArg X (slab_idx0 inb g e b hb)

theorem slab_cov {sp : Space} (v : View sig .tc sp S4x512x1024 .f32) (L : List (View.Piece (Elt Ideal) S4x512x1024 .f32)) {o : Nat}
    (inb : ∀ a, (![o, 0, 0] : Fin 3 → Nat) a + (![1, 512, 1024] : Fin 3 → Nat) a ≤ S4x512x1024.size a)
    (g : Fin 512) (e : Fin 1024) (b : Fin 4) (hb : b.val = o) :
    v.readCov L (Rect.unit (s := S4x512x1024) ![o, 0, 0] ![1, 512, 1024] inb).toLoadRect (ix3 0 g e) = View.canon (Val := Elt Ideal) L (ix3 b g e) := by
  rw [View.readCov_eq_canon']
  exact congrArg (View.canon (Val := Elt Ideal) L) (slab_idx0 inb g e b hb)

/-- A whole store leaves what it stores. -/
theorem canonC {φ : EltTy} (w : S1024x1024.Idx → Elt Ideal φ) (L : List (View.Piece (Elt Ideal) S1024x1024 φ)) :
    View.canon (Val := Elt Ideal) (⟨Rect.unit (s := S1024x1024) ![0, 0] ![1024, 1024] inb_S1024x1024_S1024x1024_0_0, w⟩ :: L) = w :=
  View.canon_cons_unit_zero (S := S1024x1024) hz2 _ w L

/-- A whole load after one whole store reads what was stored. -/
theorem covC {sp : Space} {φ : EltTy} (v : View sig .tc sp S1024x1024 φ) (w : S1024x1024.Idx → Elt Ideal φ) :
    v.readCov (Val := Elt Ideal) [⟨Rect.unit (s := S1024x1024) ![0, 0] ![1024, 1024] inb_S1024x1024_S1024x1024_0_0, w⟩]
      (Rect.unit (s := S1024x1024) ![0, 0] ![1024, 1024] inb_S1024x1024_S1024x1024_0_0).toLoadRect = w :=
  View.readCov_unit_zero (S := S1024x1024) v hz2 _ w

theorem canon_zero (b : Fin 4) (g : Fin 512) (e : Fin 1024) :
    View.canon (Val := Elt Ideal) (e := .f32) [⟨Rect.unit (s := S4x512x1024) ![0, 0, 0] ![4, 512, 1024] inb_S4x512x1024_S4x512x1024_0_0_0, (k0_pay48 (F := Ideal) : S4x512x1024.Idx → EReal)⟩] (ix3 b g e) = 0 :=
  (congrFun (View.canon_cons_unit_zero (Val := Elt Ideal) (S := S4x512x1024) (e := .f32) hz3 _ (k0_pay48 (F := Ideal)) []) _).trans (pay48_apply b g e)

variable (c : Dev nD) (i : grid0.Coords) (a1 : Memref sig .tc .vmem S512x512 .bf16) (h1 : a1.IsWhole)
  (a2 : Memref sig .tc .vmem S512x512 .bf16) (h2 : a2.IsWhole) (a3 : Memref sig .tc .vmem S512x512 .bf16) (h3 : a3.IsWhole)
  (a4 : Memref sig .tc .vmem S512x512 .bf16) (h4 : a4.IsWhole) (a5 : Memref sig .tc .vmem S4x512x1024 .bf16) (h5 : a5.IsWhole)
  (a6 : Memref sig .tc .vmem S512x1024 .bf16) (h6 : a6.IsWhole) (a7 : Memref sig .tc .vmem S512x1024 .bf16) (h7 : a7.IsWhole)
  (a8 : Memref sig .tc .vmem S8x4x512x128 .bf16) (h8 : a8.IsWhole) (a9 : Memref sig .tc .vmem S8x128x1024 .bf16) (h9 : a9.IsWhole)
  (a10 : Memref sig .tc .vmem S4x512x1024 .f32) (h10 : a10.IsWhole) (a11 : Memref sig .tc .vmem S1024x1024 .f32) (h11 : a11.IsWhole)
variable (x0 x1 x2 x3 : Vec Ideal S512x512 .bf16) (x4 : Vec Ideal S4x512x1024 .bf16) (x5 x6 : Vec Ideal S512x1024 .bf16)
  (xs0 : Vec Ideal S4x512x1024 .f32) (xs1 : Vec Ideal S1024x1024 .f32)

/-- The four branches' tiles by their place. -/
def pick (p q s t : S512x512.Idx → EReal) : Fin 4 → S512x512.Idx → EReal := ![p, q, s, t]

/-- One tile's part of a branch's sums. -/
def tile (b : Fin 4) (g : Fin 512) (e : Fin 1024) : EReal := ∑ r, pick x0 x1 x2 x3 b (ix2 r g) * x4 (ix3 b r e)

/-- The four branches' sums stored over earlier stores, each added to what a load gave. -/
theorem bands (X : S4x512x1024.Idx → EReal) (l0 l1 l2 l3 : Vec Ideal S1x512x1024 .f32) (L : List (View.Piece (Elt Ideal) S4x512x1024 .f32))
    (e0 : ∀ (g : Fin 512) (e : Fin 1024), l0 (ix3 0 g e) = X (ix3 0 g e)) (e1 : ∀ (g : Fin 512) (e : Fin 1024), l1 (ix3 0 g e) = X (ix3 1 g e))
    (e2 : ∀ (g : Fin 512) (e : Fin 1024), l2 (ix3 0 g e) = X (ix3 2 g e)) (e3 : ∀ (g : Fin 512) (e : Fin 1024), l3 (ix3 0 g e) = X (ix3 3 g e))
    (b : Fin 4) (g : Fin 512) (e : Fin 1024) :
    View.canon (Val := Elt Ideal)
      (⟨Rect.unit (s := S4x512x1024) ![3, 0, 0] ![1, 512, 1024] inb_S4x512x1024_S1x512x1024_3_0_0,
          k0_pay54 (F := Ideal) l3 x3 (View.ld (Val := Elt Ideal) x4 (Rect.unit (s := S4x512x1024) ![3, 0, 0] ![1, 512, 1024] inb_S4x512x1024_S1x512x1024_3_0_0))⟩
        :: ⟨Rect.unit (s := S4x512x1024) ![2, 0, 0] ![1, 512, 1024] inb_S4x512x1024_S1x512x1024_2_0_0,
          k0_pay53 (F := Ideal) (k0_pay52 (F := Ideal) l2) x2 (View.ld (Val := Elt Ideal) x4 (Rect.unit (s := S4x512x1024) ![2, 0, 0] ![1, 512, 1024] inb_S4x512x1024_S1x512x1024_2_0_0))⟩
        :: ⟨Rect.unit (s := S4x512x1024) ![1, 0, 0] ![1, 512, 1024] inb_S4x512x1024_S1x512x1024_1_0_0,
          k0_pay51 (F := Ideal) l1 x1 (View.ld (Val := Elt Ideal) x4 (Rect.unit (s := S4x512x1024) ![1, 0, 0] ![1, 512, 1024] inb_S4x512x1024_S1x512x1024_1_0_0))⟩
        :: ⟨Rect.unit (s := S4x512x1024) ![0, 0, 0] ![1, 512, 1024] inb_S4x512x1024_S1x512x1024_0_0_0,
          k0_pay50 (F := Ideal) l0 x0 (View.ld (Val := Elt Ideal) x4 (Rect.unit (s := S4x512x1024) ![0, 0, 0] ![1, 512, 1024] inb_S4x512x1024_S1x512x1024_0_0_0))⟩ :: L) (ix3 b g e)
      = X (ix3 b g e) + tile x0 x1 x2 x3 x4 b g e := by
  obtain rfl | rfl | rfl | rfl : b = 0 ∨ b = 1 ∨ b = 2 ∨ b = 3 := by omega
  · refine (slab_not_mem _ _ _ _ g e (Or.inl (by decide))).trans ?_
    refine (slab_not_mem _ _ _ _ g e (Or.inl (by decide))).trans ?_
    refine (slab_not_mem _ _ _ _ g e (Or.inl (by decide))).trans ?_
    refine (slab_mem _ _ _ _ g e (by decide)).trans ?_
    refine (pay50_apply _ _ _ g e).trans ?_
    exact congrArg₂ (· + ·) (e0 g e) (Finset.sum_congr rfl fun r _ => congrArg (x0 (ix2 r g) * ·) (slab_ld x4 _ r e 0 rfl))
  · refine (slab_not_mem _ _ _ _ g e (Or.inl (by decide))).trans ?_
    refine (slab_not_mem _ _ _ _ g e (Or.inl (by decide))).trans ?_
    refine (slab_mem _ _ _ _ g e (by decide)).trans ?_
    refine (pay51_apply _ _ _ g e).trans ?_
    exact congrArg₂ (· + ·) (e1 g e) (Finset.sum_congr rfl fun r _ => congrArg (x1 (ix2 r g) * ·) (slab_ld x4 _ r e 1 rfl))
  · refine (slab_not_mem _ _ _ _ g e (Or.inl (by decide))).trans ?_
    refine (slab_mem _ _ _ _ g e (by decide)).trans ?_
    refine (pay53_apply _ _ _ g e).trans ?_
    exact congrArg₂ (· + ·) (e2 g e) (Finset.sum_congr rfl fun r _ => congrArg (x2 (ix2 r g) * ·) (slab_ld x4 _ r e 2 rfl))
  · refine (slab_mem _ _ _ _ g e (by decide)).trans ?_
    refine (pay54_apply _ _ _ g e).trans ?_
    exact congrArg₂ (· + ·) (e3 g e) (Finset.sum_congr rfl fun r _ => congrArg (x3 (ix2 r g) * ·) (slab_ld x4 _ r e 3 rfl))

theorem sout0_A (hc0 : cond0_0 i) (hc1 : ¬cond0_1 i) (b : Fin 4) (g : Fin 512) (e : Fin 1024) :
    sout0_A_0 (F := Ideal) c i a1 h1 a2 h2 a3 h3 a4 h4 a5 h5 a6 h6 a7 h7 a8 h8 a9 h9 a10 h10 a11 h11 hc0 hc1 x0 x1 x2 x3 x4 x5 x6 (ix3 b g e) = tile x0 x1 x2 x3 x4 b g e := by
  unfold sout0_A_0
  rw [View.read_writes_eq_canon _ _ _ (scover0_A_0 (F := Ideal) c i a1 h1 a2 h2 a3 h3 a4 h4 a5 h5 a6 h6 a7 h7 a8 h8 a9 h9 a10 h10 a11 h11 hc0 hc1 x0 x1 x2 x3 x4 x5 x6)]
  unfold kernelRun0_A
  dsimp only
  sl_unfold_words
  simp only [View.readAt_eq_ld, Memref.IsWhole.read_unread, View.ld_unit_zero (S := S512x512) hz2]
  refine (bands x0 x1 x2 x3 x4 (fun _ => 0) _ _ _ _ _ (fun g e => ?_) (fun g e => ?_) (fun g e => ?_) (fun g e => ?_) b g e).trans (zero_add _)
  · exact (slab_cov _ _ _ g e 0 rfl).trans (canon_zero _ _ _)
  · exact (slab_cov _ _ _ g e 1 rfl).trans ((slab_not_mem _ _ _ _ g e (Or.inr (by decide))).trans (canon_zero _ _ _))
  · exact (slab_cov _ _ _ g e 2 rfl).trans ((slab_not_mem _ _ _ _ g e (Or.inr (by decide))).trans ((slab_not_mem _ _ _ _ g e (Or.inr (by decide))).trans (canon_zero _ _ _)))
  · exact (slab_cov _ _ _ g e 3 rfl).trans ((slab_not_mem _ _ _ _ g e (Or.inr (by decide))).trans ((slab_not_mem _ _ _ _ g e (Or.inr (by decide))).trans
      ((slab_not_mem _ _ _ _ g e (Or.inr (by decide))).trans (canon_zero _ _ _))))

theorem sout0_B (hc0 : ¬cond0_0 i) (hc1 : ¬cond0_1 i) (b : Fin 4) (g : Fin 512) (e : Fin 1024) :
    sout0_B_0 (F := Ideal) c i a1 h1 a2 h2 a3 h3 a4 h4 a5 h5 a6 h6 a7 h7 a8 h8 a9 h9 a10 h10 a11 h11 hc0 hc1 x0 x1 x2 x3 x4 x5 x6 xs0 xs1 (ix3 b g e) = xs0 (ix3 b g e) + tile x0 x1 x2 x3 x4 b g e := by
  unfold sout0_B_0
  rw [View.read_writes_eq_canon _ _ _ (scover0_B_0 (F := Ideal) c i a1 h1 a2 h2 a3 h3 a4 h4 a5 h5 a6 h6 a7 h7 a8 h8 a9 h9 a10 h10 a11 h11 hc0 hc1 x0 x1 x2 x3 x4 x5 x6 xs0 xs1)]
  unfold kernelRun0_B
  dsimp only
  sl_unfold_words
  simp only [View.readAt_eq_ld, Memref.IsWhole.read_unread, View.ld_unit_zero (S := S512x512) hz2]
  exact bands x0 x1 x2 x3 x4 xs0 _ _ _ _ _ (fun g e => slab_ld xs0 _ g e 0 rfl) (fun g e => slab_ld xs0 _ g e 1 rfl)
    (fun g e => slab_ld xs0 _ g e 2 rfl) (fun g e => slab_ld xs0 _ g e 3 rfl) b g e

theorem sout0_C (hc0 : ¬cond0_0 i) (hc1 : cond0_1 i) (b : Fin 4) (g : Fin 512) (e : Fin 1024) :
    sout0_C_0 (F := Ideal) c i a1 h1 a2 h2 a3 h3 a4 h4 a5 h5 a6 h6 a7 h7 a8 h8 a9 h9 a10 h10 a11 h11 hc0 hc1 x0 x1 x2 x3 x4 x5 x6 xs0 xs1 (ix3 b g e) = xs0 (ix3 b g e) + tile x0 x1 x2 x3 x4 b g e := by
  unfold sout0_C_0
  rw [View.read_writes_eq_canon _ _ _ (scover0_C_0 (F := Ideal) c i a1 h1 a2 h2 a3 h3 a4 h4 a5 h5 a6 h6 a7 h7 a8 h8 a9 h9 a10 h10 a11 h11 hc0 hc1 x0 x1 x2 x3 x4 x5 x6 xs0 xs1)]
  unfold kernelRun0_C
  dsimp only
  sl_unfold_words
  simp only [View.readAt_eq_ld, Memref.IsWhole.read_unread, View.ld_unit_zero (S := S512x512) hz2]
  exact bands x0 x1 x2 x3 x4 xs0 _ _ _ _ _ (fun g e => slab_ld xs0 _ g e 0 rfl) (fun g e => slab_ld xs0 _ g e 1 rfl)
    (fun g e => slab_ld xs0 _ g e 2 rfl) (fun g e => slab_ld xs0 _ g e 3 rfl) b g e

theorem sout1_A (hc0 : cond0_0 i) (hc1 : ¬cond0_1 i) :
    sout0_A_1 (F := Ideal) c i a1 h1 a2 h2 a3 h3 a4 h4 a5 h5 a6 h6 a7 h7 a8 h8 a9 h9 a10 h10 a11 h11 hc0 hc1 x0 x1 x2 x3 x4 x5 x6 = k0_pay1 (F := Ideal) (k0_pay55 (F := Ideal) (k0_pay49 (F := Ideal)) x5 x6) := by
  unfold sout0_A_1
  rw [View.read_writes_eq_canon _ _ _ (scover0_A_1 (F := Ideal) c i a1 h1 a2 h2 a3 h3 a4 h4 a5 h5 a6 h6 a7 h7 a8 h8 a9 h9 a10 h10 a11 h11 hc0 hc1 x0 x1 x2 x3 x4 x5 x6)]
  unfold kernelRun0_A
  dsimp only
  sl_unfold_words
  simp only [View.readAt_eq_ld, Memref.IsWhole.read_unread, View.ld_unit_zero (S := S512x1024) hz2, View.ld_unit_zero (S := S1024x1024) hz2, canonC, covC]

theorem sout1_B (hc0 : ¬cond0_0 i) (hc1 : ¬cond0_1 i) :
    sout0_B_1 (F := Ideal) c i a1 h1 a2 h2 a3 h3 a4 h4 a5 h5 a6 h6 a7 h7 a8 h8 a9 h9 a10 h10 a11 h11 hc0 hc1 x0 x1 x2 x3 x4 x5 x6 xs0 xs1 = k0_pay1 (F := Ideal) (k0_pay55 (F := Ideal) xs1 x5 x6) := by
  unfold sout0_B_1
  rw [View.read_writes_eq_canon _ _ _ (scover0_B_1 (F := Ideal) c i a1 h1 a2 h2 a3 h3 a4 h4 a5 h5 a6 h6 a7 h7 a8 h8 a9 h9 a10 h10 a11 h11 hc0 hc1 x0 x1 x2 x3 x4 x5 x6 xs0 xs1)]
  unfold kernelRun0_B
  dsimp only
  sl_unfold_words
  simp only [View.readAt_eq_ld, Memref.IsWhole.read_unread, View.ld_unit_zero (S := S512x1024) hz2, View.ld_unit_zero (S := S1024x1024) hz2, canonC, covC]

theorem sout1_C (hc0 : ¬cond0_0 i) (hc1 : cond0_1 i) :
    sout0_C_1 (F := Ideal) c i a1 h1 a2 h2 a3 h3 a4 h4 a5 h5 a6 h6 a7 h7 a8 h8 a9 h9 a10 h10 a11 h11 hc0 hc1 x0 x1 x2 x3 x4 x5 x6 xs0 xs1 = k0_pay1 (F := Ideal) (k0_pay55 (F := Ideal) xs1 x5 x6) := by
  unfold sout0_C_1
  rw [View.read_writes_eq_canon _ _ _ (scover0_C_1 (F := Ideal) c i a1 h1 a2 h2 a3 h3 a4 h4 a5 h5 a6 h6 a7 h7 a8 h8 a9 h9 a10 h10 a11 h11 hc0 hc1 x0 x1 x2 x3 x4 x5 x6 xs0 xs1)]
  unfold kernelRun0_C
  dsimp only
  sl_unfold_words
  simp only [View.readAt_eq_ld, Memref.IsWhole.read_unread, View.ld_unit_zero (S := S512x1024) hz2, View.ld_unit_zero (S := S1024x1024) hz2, canonC, covC]

/-- What the branches' output holds: of each branch, a shard's 128 columns. -/
def outB (T : Fin 4 → Fin 512 → Fin 1024 → EReal) (y : S8x4x512x128.Idx) : EReal :=
  T (y 1) (y 2) ⟨(y 0).val * 128 + (y 3).val, by
    have h0 : (y 0).val < 8 := (y 0).isLt
    have h3 : (y 3).val < 128 := (y 3).isLt
    omega⟩

/-- What the output weight's block holds: a shard's 128 rows. -/
def outO (W : S1024x1024.Idx → EReal) (y : S8x128x1024.Idx) : EReal :=
  W (ix2 ⟨(y 0).val * 128 + (y 1).val, by
    have h0 : (y 0).val < 8 := (y 0).isLt
    have h1 : (y 1).val < 128 := (y 1).isLt
    omega⟩ (y 2))

/-- A shard's columns of one branch, put where the output has them. -/
theorem piece (T : Fin 4 → Fin 512 → Fin 1024 → EReal) {sp : Space} (v : View sig .tc sp S4x512x1024 .f32) (L : List (View.Piece (Elt Ideal) S4x512x1024 .f32))
    (hL : ∀ (b : Fin 4) (g : Fin 512) (e : Fin 1024), View.canon (Val := Elt Ideal) L (ix3 b g e) = T b g e) {s b j : Nat} (hs : s < 8) (hb : b < 4) (hj : j = s * 128)
    (inb : ∀ a, (![b, 0, j] : Fin 3 → Nat) a + (![1, 512, 128] : Fin 3 → Nat) a ≤ S4x512x1024.size a)
    (inb' : ∀ a, (![s, b, 0, 0] : Fin 4 → Nat) a + (![1, 1, 512, 128] : Fin 4 → Nat) a ≤ S8x4x512x128.size a)
    (x : S1x1x512x128.Idx) :
    k0_pay3 (F := Ideal) (v.readCov L (Rect.unit (s := S4x512x1024) ![b, 0, j] ![1, 512, 128] inb).toLoadRect) x
      = outB T ((Rect.unit (s := S8x4x512x128) ![s, b, 0, 0] ![1, 1, 512, 128] inb').emb x) := by
  obtain ⟨g, f, rfl⟩ : ∃ (g : Fin 512) (f : Fin 128), x = ix4 0 0 g f :=
    ⟨x 2, x 3, by rw [eq_ix4 x]; congr 1 <;> exact Subsingleton.elim (α := Fin 1) _ _⟩
  have hy : (Rect.unit (s := S8x4x512x128) ![s, b, 0, 0] ![1, 1, 512, 128] inb').emb (ix4 0 0 g f) = ix4 ⟨s, hs⟩ ⟨b, hb⟩ g f := by
    funext a
    apply Fin.ext
    rw [Rect.emb_apply]
    fin_cases a
    · show s + 1 * 0 = s
      omega
    · show b + 1 * 0 = b
      omega
    · show 0 + 1 * g.val = g.val
      omega
    · show 0 + 1 * f.val = f.val
      omega
  rw [hy, paySt_apply, View.readCov_eq_canon']
  refine (congrArg (View.canon (Val := Elt Ideal) L) (slab_idx inb g f ⟨b, hb⟩ rfl (by omega))).trans ((hL _ _ _).trans ?_)
  exact congrArg (T ⟨b, hb⟩ g) (Fin.ext (by show j + f.val = s * 128 + f.val; omega))

/-- A shard's rows of the output weight, put where the output has them. -/
theorem pieceO (W : S1024x1024.Idx → EReal) {s j : Nat} (hs : s < 8) (hj : j = s * 128)
    (inb : ∀ a, (![j, 0] : Fin 2 → Nat) a + (![128, 1024] : Fin 2 → Nat) a ≤ S1024x1024.size a)
    (inb' : ∀ a, (![s, 0, 0] : Fin 3 → Nat) a + (![1, 128, 1024] : Fin 3 → Nat) a ≤ S8x128x1024.size a)
    (x : S1x128x1024.Idx) :
    k0_pay14 (F := Ideal) (fun y => W ((Rect.unit (s := S1024x1024) ![j, 0] ![128, 1024] inb).idx y)) x
      = outO W ((Rect.unit (s := S8x128x1024) ![s, 0, 0] ![1, 128, 1024] inb').emb x) := by
  obtain ⟨f, e, rfl⟩ : ∃ (f : Fin 128) (e : Fin 1024), x = ix3 0 f e :=
    ⟨x 1, x 2, by rw [eq_ix3 x]; congr 1; exact Subsingleton.elim (α := Fin 1) _ _⟩
  have hy : (Rect.unit (s := S8x128x1024) ![s, 0, 0] ![1, 128, 1024] inb').emb (ix3 0 f e) = ix3 ⟨s, hs⟩ f e := by
    funext a
    apply Fin.ext
    rw [Rect.emb_apply]
    fin_cases a
    · show s + 1 * 0 = s
      omega
    · show 0 + 1 * f.val = f.val
      omega
    · show 0 + 1 * e.val = e.val
      omega
  rw [hy, payStO_apply]
  refine (congrArg W (Bands.idx inb f e (by omega))).trans (congrArg W (congrArg (fun r => ix2 r e) (Fin.ext ?_)))
  show j + f.val = s * 128 + f.val
  omega

theorem out_B (hc0 : ¬cond0_0 i) (hc1 : cond0_1 i) (y : S8x4x512x128.Idx) :
    out0_C_7 (F := Ideal) c i a1 h1 a2 h2 a3 h3 a4 h4 a5 h5 a6 h6 a7 h7 a8 h8 a9 h9 a10 h10 a11 h11 hc0 hc1 x0 x1 x2 x3 x4 x5 x6 xs0 xs1 y
      = outB (fun b g e => xs0 (ix3 b g e) + tile x0 x1 x2 x3 x4 b g e) y := by
  unfold out0_C_7
  rw [View.read_writes_eq_canon _ _ _ (cover0_C_7 (F := Ideal) c i a1 h1 a2 h2 a3 h3 a4 h4 a5 h5 a6 h6 a7 h7 a8 h8 a9 h9 a10 h10 a11 h11 hc0 hc1 x0 x1 x2 x3 x4 x5 x6 xs0 xs1)]
  refine View.canon_apply_of_pieces (outB (fun b g e => xs0 (ix3 b g e) + tile x0 x1 x2 x3 x4 b g e)) _ ?_ y
    (cover0_C_7 (F := Ideal) c i a1 h1 a2 h2 a3 h3 a4 h4 a5 h5 a6 h6 a7 h7 a8 h8 a9 h9 a10 h10 a11 h11 hc0 hc1 x0 x1 x2 x3 x4 x5 x6 xs0 xs1 y)
  unfold kernelRun0_C
  dsimp only
  sl_unfold_words
  simp only [List.forall_mem_cons, View.readAt_eq_ld, Memref.IsWhole.read_unread, View.ld_unit_zero (S := S512x512) hz2]
  have hL := bands x0 x1 x2 x3 x4 xs0 _ _ _ _ [] (fun g e => slab_ld xs0 inb_S4x512x1024_S1x512x1024_0_0_0 g e 0 rfl)
    (fun g e => slab_ld xs0 inb_S4x512x1024_S1x512x1024_1_0_0 g e 1 rfl) (fun g e => slab_ld xs0 inb_S4x512x1024_S1x512x1024_2_0_0 g e 2 rfl)
    (fun g e => slab_ld xs0 inb_S4x512x1024_S1x512x1024_3_0_0 g e 3 rfl)
  iterate 32 refine ⟨piece _ _ _ hL (by decide) (by decide) (by decide) _ _, ?_⟩
  exact fun x hx => absurd hx List.not_mem_nil

theorem out_O (hc0 : ¬cond0_0 i) (hc1 : cond0_1 i) (y : S8x128x1024.Idx) :
    out0_C_8 (F := Ideal) c i a1 h1 a2 h2 a3 h3 a4 h4 a5 h5 a6 h6 a7 h7 a8 h8 a9 h9 a10 h10 a11 h11 hc0 hc1 x0 x1 x2 x3 x4 x5 x6 xs0 xs1 y
      = outO (k0_pay1 (F := Ideal) (k0_pay55 (F := Ideal) xs1 x5 x6)) y := by
  unfold out0_C_8
  rw [View.read_writes_eq_canon _ _ _ (cover0_C_8 (F := Ideal) c i a1 h1 a2 h2 a3 h3 a4 h4 a5 h5 a6 h6 a7 h7 a8 h8 a9 h9 a10 h10 a11 h11 hc0 hc1 x0 x1 x2 x3 x4 x5 x6 xs0 xs1)]
  refine View.canon_apply_of_pieces (outO (k0_pay1 (F := Ideal) (k0_pay55 (F := Ideal) xs1 x5 x6))) _ ?_ y
    (cover0_C_8 (F := Ideal) c i a1 h1 a2 h2 a3 h3 a4 h4 a5 h5 a6 h6 a7 h7 a8 h8 a9 h9 a10 h10 a11 h11 hc0 hc1 x0 x1 x2 x3 x4 x5 x6 xs0 xs1 y)
  unfold kernelRun0_C
  dsimp only
  sl_unfold_words
  simp only [List.forall_mem_cons, View.readAt_eq_ld, Memref.IsWhole.read_unread, View.ld_unit_zero (S := S512x1024) hz2, View.ld_unit_zero (S := S1024x1024) hz2,
    View.readCov_eq_canon', canonC]
  iterate 8 refine ⟨pieceO (k0_pay1 (F := Ideal) (k0_pay55 (F := Ideal) xs1 x5 x6)) (by decide) (by decide) _ _, ?_⟩
  exact fun x hx => absurd hx List.not_mem_nil

end Cert.Kernel6Ideal.MergeW

end
-- ==== Proof.MergeWArr.lean ====
/-
  The merge weights' gradients after the run, over the extended reals: functions of the arrays that the call is given.
-/
module

public import proofs.«01_k».proof.Proof.Gen.Kernel6Ideal.Value
public import proofs.«01_k».proof.Proof.MergeWBlock
public import Idealize.ShloMosaic.Lib.Pipeline.ValueKit

@[expose] public section

set_option maxRecDepth 16384

noncomputable section

namespace Cert.Kernel6Ideal.MergeW

open Idealize.ShloMosaic Idealize.ShloMosaic.TcCoe Idealize.SL.Sem Idealize.ShloMosaic.Tactic
open Cert.Kernel6Ideal Cert.Kernel6Ideal.Gen

variable (m : (ℓ : Loc nD τ sig) → Buf (Elt Ideal) ℓ) (c : Dev nD)

/-- The four mixers' outputs. -/
abbrev M0 : S4096x512.Idx → EReal := V m c main_v0_0
abbrev M1 : S4096x512.Idx → EReal := V m c main_v0_1
abbrev M2 : S4096x512.Idx → EReal := V m c main_v0_2
abbrev M3 : S4096x512.Idx → EReal := V m c main_v0_3
/-- The gradients of the four branches. -/
abbrev DY : S4x4096x1024.Idx → EReal := V m c main_v0_4
/-- The gated merge. -/
abbrev MG : S4096x1024.Idx → EReal := V m c main_v0_5
/-- The gradient of the output product. -/
abbrev DM : S4096x1024.Idx → EReal := V m c main_v0_6

/-- Row `r` of a point's tile. -/
abbrev row (t : Fin cfg0.N) (r : Fin 512) : Fin 4096 := ⟨t.val * 512 + r.val, by have := t.isLt; have : cfg0.N = 8 := N_0; omega⟩

theorem pos0 : ∀ t : Fin cfg0.N, win0_0.index t = ![t.val, 0] := by decide +kernel
theorem pos1 : ∀ t : Fin cfg0.N, win0_1.index t = ![t.val, 0] := by decide +kernel
theorem pos2 : ∀ t : Fin cfg0.N, win0_2.index t = ![t.val, 0] := by decide +kernel
theorem pos3 : ∀ t : Fin cfg0.N, win0_3.index t = ![t.val, 0] := by decide +kernel
theorem pos4 : ∀ t : Fin cfg0.N, win0_4.index t = ![0, t.val, 0] := by decide +kernel
theorem pos5 : ∀ t : Fin cfg0.N, win0_5.index t = ![t.val, 0] := by decide +kernel
theorem pos6 : ∀ t : Fin cfg0.N, win0_6.index t = ![t.val, 0] := by decide +kernel
theorem pos7 : ∀ t : Fin cfg0.N, win0_7.index t = ![0, 0, 0, 0] := by decide +kernel
theorem pos8 : ∀ t : Fin cfg0.N, win0_8.index t = ![0, 0, 0] := by decide +kernel

theorem blk0 (t : Fin cfg0.N) (r g : Fin 512) : iblk m c 0 t (ix2 r g) = M0 m c (ix2 (row t r) g) := by
  blk_ext [iblk, pos0 t]
theorem blk1 (t : Fin cfg0.N) (r g : Fin 512) : iblk m c 1 t (ix2 r g) = M1 m c (ix2 (row t r) g) := by
  blk_ext [iblk, pos1 t]
theorem blk2 (t : Fin cfg0.N) (r g : Fin 512) : iblk m c 2 t (ix2 r g) = M2 m c (ix2 (row t r) g) := by
  blk_ext [iblk, pos2 t]
theorem blk3 (t : Fin cfg0.N) (r g : Fin 512) : iblk m c 3 t (ix2 r g) = M3 m c (ix2 (row t r) g) := by
  blk_ext [iblk, pos3 t]
theorem blk4 (t : Fin cfg0.N) (b : Fin 4) (r : Fin 512) (e : Fin 1024) : iblk m c 4 t (ix3 b r e) = DY m c (ix3 b (row t r) e) := by
  blk_ext [iblk, pos4 t]
theorem blk5 (t : Fin cfg0.N) (r : Fin 512) (e : Fin 1024) : iblk m c 5 t (ix2 r e) = MG m c (ix2 (row t r) e) := by
  blk_ext [iblk, pos5 t]
theorem blk6 (t : Fin cfg0.N) (r : Fin 512) (e : Fin 1024) : iblk m c 6 t (ix2 r e) = DM m c (ix2 (row t r) e) := by
  blk_ext [iblk, pos6 t]

/-- One branch's mixer output by its place. -/
def mix (b : Fin 4) : S4096x512.Idx → EReal := ![M0 m c, M1 m c, M2 m c, M3 m c] b

/-- One row's part of a branch's sum. -/
def term (b : Fin 4) (g : Fin 512) (e : Fin 1024) (r : Fin 4096) : EReal := mix m c b (ix2 r g) * DY m c (ix3 b r e)
/-- One row's part of the output weight's sum. -/
def termO (g e : Fin 1024) (r : Fin 4096) : EReal := MG m c (ix2 r g) * DM m c (ix2 r e)

/-- A row's part by the row's number. -/
def byN (T : Fin 4096 → EReal) (r : ℕ) : EReal := if h : r < 4096 then T ⟨r, h⟩ else 0

theorem range_eq (T : Fin 4096 → EReal) (t : Fin cfg0.N) : ∑ r, T (row t r) = ∑ r ∈ Finset.range 512, byN T (t.val * 512 + r) := by
  rw [Finset.sum_range]
  refine Finset.sum_congr rfl fun r _ => ?_
  refine Eq.symm ?_
  exact dif_pos (row t r).isLt

theorem grow (T : Fin 4096 → EReal) (n : Nat) : ∑ r ∈ Finset.range ((n + 1 + 1) * 512), byN T r
    = ∑ r ∈ Finset.range ((n + 1) * 512), byN T r + ∑ r ∈ Finset.range 512, byN T ((n + 1) * 512 + r) := by
  rw [show (n + 1 + 1) * 512 = (n + 1) * 512 + 512 by omega, Finset.sum_range_add]

theorem all_rows (T : Fin 4096 → EReal) : ∑ r ∈ Finset.range 4096, byN T r = ∑ r, T r := by
  rw [Finset.sum_range]
  exact Finset.sum_congr rfl fun r _ => dif_pos r.isLt

/-- Four entries that agree in turn agree at every place. -/
theorem pick_row {p q s t : Vec Ideal S512x512 .bf16} {P Q S T : S4096x512.Idx → EReal} {z : S512x512.Idx} {y : S4096x512.Idx}
    (h0 : p z = P y) (h1 : q z = Q y) (h2 : s z = S y) (h3 : t z = T y) (b : Fin 4) : pick p q s t b z = (![P, Q, S, T] : Fin 4 → S4096x512.Idx → EReal) b y := by
  obtain rfl | rfl | rfl | rfl : b = 0 ∨ b = 1 ∨ b = 2 ∨ b = 3 := by omega
  · exact h0
  · exact h1
  · exact h2
  · exact h3

theorem pick_blk (t : Fin cfg0.N) (b : Fin 4) (r g : Fin 512) :
    pick (iblk m c 0 t) (iblk m c 1 t) (iblk m c 2 t) (iblk m c 3 t) b (ix2 r g) = mix m c b (ix2 (row t r) g) :=
  pick_row (blk0 m c t r g) (blk1 m c t r g) (blk2 m c t r g) (blk3 m c t r g) b

theorem tile_range (t : Fin cfg0.N) (b : Fin 4) (g : Fin 512) (e : Fin 1024) :
    tile (iblk m c 0 t) (iblk m c 1 t) (iblk m c 2 t) (iblk m c 3 t) (iblk m c 4 t) b g e
      = ∑ r ∈ Finset.range 512, byN (term m c b g e) (t.val * 512 + r) := by
  rw [← range_eq]
  exact Finset.sum_congr rfl fun r _ => congrArg₂ (· * ·) (pick_blk m c t b r g) (blk4 m c t b r e)

theorem tileO_range (t : Fin cfg0.N) (acc : Vec Ideal S1024x1024 .f32) (g e : Fin 1024) :
    k0_pay1 (F := Ideal) (k0_pay55 (F := Ideal) acc (iblk m c 5 t) (iblk m c 6 t)) (ix2 g e)
      = acc (ix2 g e) + ∑ r ∈ Finset.range 512, byN (termO m c g e) (t.val * 512 + r) := by
  rw [← range_eq]
  exact (pay55_apply _ _ _ g e).trans (congrArg (acc (ix2 g e) + ·) (Finset.sum_congr rfl fun r _ => congrArg₂ (· * ·) (blk5 m c t r g) (blk6 m c t r e)))

/-- The branches' accumulator after a point: the sums over the rows of the tiles so far. -/
theorem acc (n : Nat) (hn : n < cfg0.N) (b : Fin 4) (g : Fin 512) (e : Fin 1024) :
    (outsAt0 m c n hn).2.2.1 (ix3 b g e) = ∑ r ∈ Finset.range ((n + 1) * 512), byN (term m c b g e) r := by
  have hN : cfg0.N = 8 := N_0
  induction n with
  | zero =>
    rw [outsAt0_A m c ⟨0, hn⟩ rfl (by show ¬0 % 8 = 7; decide)]
    dsimp only
    rw [sout0_A, tile_range]
    simp
  | succ n ih =>
    by_cases h1 : (n + 1) % 8 = 7
    · rw [outsAt0_C m c ⟨n + 1, hn⟩ (by show ¬(n + 1) % 8 = 0; omega) h1]
      dsimp only
      rw [sout0_C, tile_range, grow]
      exact congrArg (· + _) (ih (by omega))
    · rw [outsAt0_B m c ⟨n + 1, hn⟩ (by show ¬(n + 1) % 8 = 0; omega) h1]
      dsimp only
      rw [sout0_B, tile_range, grow]
      exact congrArg (· + _) (ih (by omega))

/-- The output weight's accumulator after a point. -/
theorem accO (n : Nat) (hn : n < cfg0.N) (g e : Fin 1024) :
    (outsAt0 m c n hn).2.2.2 (ix2 g e) = ∑ r ∈ Finset.range ((n + 1) * 512), byN (termO m c g e) r := by
  have hN : cfg0.N = 8 := N_0
  induction n with
  | zero =>
    rw [outsAt0_A m c ⟨0, hn⟩ rfl (by show ¬0 % 8 = 7; decide)]
    dsimp only
    rw [sout1_A, tileO_range, pay49_apply, zero_add]
    simp
  | succ n ih =>
    by_cases h1 : (n + 1) % 8 = 7
    · rw [outsAt0_C m c ⟨n + 1, hn⟩ (by show ¬(n + 1) % 8 = 0; omega) h1]
      dsimp only
      rw [sout1_C, tileO_range, grow]
      exact congrArg (· + _) (ih (by omega))
    · rw [outsAt0_B m c ⟨n + 1, hn⟩ (by show ¬(n + 1) % 8 = 0; omega) h1]
      dsimp only
      rw [sout1_B, tileO_range, grow]
      exact congrArg (· + _) (ih (by omega))

/-- The branches' gradients in the kernel's layout: shard, branch, input, output column. -/
def gwbG : S8x4x512x128.Idx → EReal := outB fun b g e => ∑ r, term m c b g e r
/-- The output weight's gradient in the kernel's layout: shard, row, column. -/
def gwoG : S8x128x1024.Idx → EReal := outO fun z => ∑ r, termO m c (z 0) (z 1) r

theorem emb7 (t : Fin cfg0.N) (s : Fin 8) (b : Fin 4) (g : Fin 512) (f : Fin 128) : (win0_7.blk t).view.emb (ix4 s b g f) = ix4 s b g f := by
  blk_ext [pos7 t]
theorem emb8 (t : Fin cfg0.N) (s : Fin 8) (f : Fin 128) (e : Fin 1024) : (win0_8.blk t).view.emb (ix3 s f e) = ix3 s f e := by
  blk_ext [pos8 t]

theorem last7 : ∀ t : Fin cfg0.N, (cfg0.win 7).flush t = true → t.val % 8 = 7 := by decide +kernel
theorem last8 : ∀ t : Fin cfg0.N, (cfg0.win 8).flush t = true → t.val % 8 = 7 := by decide +kernel

theorem outB_eq (t : Fin cfg0.N) (h1 : t.val % 8 = 7) (y : S8x4x512x128.Idx) : (outsAt0 m c t.val t.isLt).1 y = gwbG m c y := by
  have hN : cfg0.N = 8 := N_0
  have ht := t.isLt
  have ha := acc m c t.val t.isLt
  rw [outsAt0_C m c t (by omega) h1] at ha ⊢
  dsimp only at ha ⊢
  rw [out_B]
  have e3 : (t.val + 1) * 512 = 4096 := by omega
  refine congrArg (outB · y) (funext fun b => funext fun g => funext fun e => ?_)
  refine (sout0_C ..).symm.trans ((ha b g e).trans ?_)
  rw [e3, all_rows]

theorem outO_eq (t : Fin cfg0.N) (h1 : t.val % 8 = 7) (y : S8x128x1024.Idx) : (outsAt0 m c t.val t.isLt).2.1 y = gwoG m c y := by
  have hN : cfg0.N = 8 := N_0
  have ht := t.isLt
  have ha := accO m c t.val t.isLt
  rw [outsAt0_C m c t (by omega) h1] at ha ⊢
  dsimp only at ha ⊢
  rw [sout1_C] at ha
  rw [out_O]
  have e3 : (t.val + 1) * 512 = 4096 := by omega
  refine congrArg (outO · y) (funext fun z => ?_)
  obtain ⟨g, e, rfl⟩ : ∃ g e : Fin 1024, z = ix2 g e := ⟨z 0, z 1, eq_ix2 z⟩
  refine (ha g e).trans ?_
  rw [e3, all_rows]
  rfl

theorem final7 : (dats m 0 c).arrAt 7 cfg0.N = gwbG m c := by
  refine (dats m 0 c).arrAt_eq_of_covers 7 _ (by decide +kernel) fun t hf y => ?_
  blk_simp
  obtain ⟨s, b, g, f, rfl⟩ : ∃ (s : Fin 8) (b : Fin 4) (g : Fin 512) (f : Fin 128), y = ix4 s b g f := ⟨y 0, y 1, y 2, y 3, eq_ix4 y⟩
  rw [after0_7, outB_eq m c t (last7 t hf), emb7]

theorem final8 : (dats m 0 c).arrAt 8 cfg0.N = gwoG m c := by
  refine (dats m 0 c).arrAt_eq_of_covers 8 _ (by decide +kernel) fun t hf y => ?_
  blk_simp
  obtain ⟨s, f, e, rfl⟩ : ∃ (s : Fin 8) (f : Fin 128) (e : Fin 1024), y = ix3 s f e := ⟨y 0, y 1, y 2, eq_ix3 y⟩
  rw [after0_8, outO_eq m c t (last8 t hf), emb8]

end Cert.Kernel6Ideal.MergeW

end
-- ==== Proof.MergeWRef.lean ====
/-
  The reference of the merge weights' gradients, read at an index over the extended reals.
-/
module

public import proofs.«01_k».proof.Proof.Gen.Reference6Ideal.Read
public import Idealize.ShloMosaic.Lib.Pointwise
public import Idealize.ShloMosaic.Lib.IdealHost

@[expose] public section

set_option maxRecDepth 16384

noncomputable section

namespace Cert.Reference6Ideal.MergeW

open Idealize.ShloMosaic Idealize.ShloMosaic.TcCoe
open Cert.Reference6Ideal Cert.Reference6Ideal.Read

variable (x0 : S4096x1024.Idx → EReal) (x1 x2 x3 x4 : S4096x512.Idx → EReal) (x5 : S4096x1024.Idx → EReal) (x6 : S4x512x1024.Idx → EReal)
  (x7 : S1024x4096.Idx → EReal) (x8 : S4096.Idx → EReal) (x9 : S1024x1024.Idx → EReal) (x10 : S1024.Idx → EReal)

theorem first_apply (p : Fin 8) (g : Fin 512) (f : Fin 128) :
    val_main_v93 (F := Ideal) x0 x1 x2 x3 x4 x5 x6 x7 x8 x9 x10 (ix4 p 0 g f)
      = ∑ r, val_main_v77 (F := Ideal) x0 x1 x2 x3 x4 x5 x6 x7 x8 x9 x10 (ix2 r ⟨p.val * 128 + f.val, by omega⟩) * x1 (ix2 r g) := by
  pointwise [val_main_v93, val_main_v92, val_main_v91, val_main_v90, val_main_v86, val_main_v85, val_main_v84]

theorem second_apply (p : Fin 8) (g : Fin 512) (f : Fin 128) :
    val_main_v93 (F := Ideal) x0 x1 x2 x3 x4 x5 x6 x7 x8 x9 x10 (ix4 p 1 g f)
      = ∑ r, val_main_v76 (F := Ideal) x0 x1 x2 x3 x4 x5 x6 x7 x8 x9 x10 (ix2 r ⟨p.val * 128 + f.val, by omega⟩) * x2 (ix2 r g) := by
  pointwise [val_main_v93, val_main_v92, val_main_v91, val_main_v90, val_main_v87, val_main_v83, val_main_v82]

theorem third_apply (p : Fin 8) (g : Fin 512) (f : Fin 128) :
    val_main_v93 (F := Ideal) x0 x1 x2 x3 x4 x5 x6 x7 x8 x9 x10 (ix4 p 2 g f)
      = ∑ r, val_main_v75 (F := Ideal) x0 x1 x2 x3 x4 x5 x6 x7 x8 x9 x10 (ix2 r ⟨p.val * 128 + f.val, by omega⟩) * x3 (ix2 r g) := by
  pointwise [val_main_v93, val_main_v92, val_main_v91, val_main_v90, val_main_v88, val_main_v81, val_main_v80]

theorem fourth_apply (p : Fin 8) (g : Fin 512) (f : Fin 128) :
    val_main_v93 (F := Ideal) x0 x1 x2 x3 x4 x5 x6 x7 x8 x9 x10 (ix4 p 3 g f)
      = ∑ r, val_main_v74 (F := Ideal) x0 x1 x2 x3 x4 x5 x6 x7 x8 x9 x10 (ix2 r ⟨p.val * 128 + f.val, by omega⟩) * x4 (ix2 r g) := by
  pointwise [val_main_v93, val_main_v92, val_main_v91, val_main_v90, val_main_v89, val_main_v79, val_main_v78]

theorem out_apply (p : Fin 8) (f : Fin 128) (e : Fin 1024) :
    val_main_v95 (F := Ideal) x0 x1 x2 x3 x4 x5 x6 x7 x8 x9 x10 (ix3 p f e)
      = ∑ r, val_main_v70 (F := Ideal) x0 x1 x2 x3 x4 x5 x6 x7 x8 x9 x10 (ix2 r e) * val_main_v37 (F := Ideal) x1 x2 x3 x4 x5 x6 x7 x8 (ix2 r ⟨p.val * 128 + f.val, by omega⟩) := by
  pointwise [val_main_v95, val_main_v94, val_main_v72, val_main_v71]

end Cert.Reference6Ideal.MergeW

end
-- ==== Proof.MergeWHost.lean ====
/-
  The arrays that the merge weights' kernel is given are the reference's own stages.
-/
module

public import proofs.«01_k».proof.Proof.MergeWArr
public import proofs.«01_k».proof.Proof.MergeWRef
public import Idealize.ShloMosaic.Lib.Claim
public import Idealize.ShloMosaic.Lib.StableHlo.ReadAt

@[expose] public section

set_option maxRecDepth 16384

noncomputable section

namespace Cert.Kernel6Ideal.MergeW

open Idealize.ShloMosaic Idealize.ShloMosaic.TcCoe Idealize.SL.Sem Idealize.ShloMosaic.Tactic
open Cert.Kernel6Ideal Cert.Kernel6Ideal.Gen Cert.Reference6Ideal.Read

variable (m : (ℓ : Loc nD τ sig) → Buf (Elt Ideal) ℓ) (c : Dev nD)

/-- The cotangent. -/
abbrev A0 : S4096x1024.Idx → EReal := m ((c : Thread nD τ).loc main_arg0)
/-- The first mixer's output. -/
abbrev A1 : S4096x512.Idx → EReal := m ((c : Thread nD τ).loc main_arg1)
/-- The second mixer's output. -/
abbrev A2 : S4096x512.Idx → EReal := m ((c : Thread nD τ).loc main_arg2)
/-- The third mixer's output. -/
abbrev A3 : S4096x512.Idx → EReal := m ((c : Thread nD τ).loc main_arg3)
/-- The fourth mixer's output. -/
abbrev A4 : S4096x512.Idx → EReal := m ((c : Thread nD τ).loc main_arg4)
/-- The block's normalised input. -/
abbrev A5 : S4096x1024.Idx → EReal := m ((c : Thread nD τ).loc main_arg5)
/-- The branches' weights. -/
abbrev A6 : S4x512x1024.Idx → EReal := m ((c : Thread nD τ).loc main_arg6)
/-- The gates' weight. -/
abbrev A7 : S1024x4096.Idx → EReal := m ((c : Thread nD τ).loc main_arg7)
/-- The gates' bias. -/
abbrev A8 : S4096.Idx → EReal := m ((c : Thread nD τ).loc main_arg8)
/-- The output weight. -/
abbrev A9 : S1024x1024.Idx → EReal := m ((c : Thread nD τ).loc main_arg9)
/-- The gain after the block. -/
abbrev A10 : S1024.Idx → EReal := m ((c : Thread nD τ).loc main_arg10)

theorem M0_eq : M0 m c = A1 m c := by
  unfold M0
  unfold V
  after_reads_simp
  simp only [StableHlo.TRef.toBuf, StableHlo.TRef.ofBuf, cast_eq]
  rfl

theorem M1_eq : M1 m c = A2 m c := by
  unfold M1
  unfold V
  after_reads_simp
  simp only [StableHlo.TRef.toBuf, StableHlo.TRef.ofBuf, cast_eq]
  rfl

theorem M2_eq : M2 m c = A3 m c := by
  unfold M2
  unfold V
  after_reads_simp
  simp only [StableHlo.TRef.toBuf, StableHlo.TRef.ofBuf, cast_eq]
  rfl

theorem M3_eq : M3 m c = A4 m c := by
  unfold M3
  unfold V
  after_reads_simp
  simp only [StableHlo.TRef.toBuf, StableHlo.TRef.ofBuf, cast_eq]
  rfl

theorem MG_eq : MG m c = val_main_v37 (F := Ideal) (A1 m c) (A2 m c) (A3 m c) (A4 m c) (A5 m c) (A6 m c) (A7 m c) (A8 m c) := by
  unfold MG
  unfold V
  after_reads_simp
  simp only [StableHlo.TRef.ofBuf_toBuf]
  simp only [StableHlo.TRef.toBuf, StableHlo.TRef.ofBuf, cast_eq]
  rfl

set_option maxHeartbeats 8000000 in
theorem DM_eq : DM m c = val_main_v70 (F := Ideal) (A0 m c) (A1 m c) (A2 m c) (A3 m c) (A4 m c) (A5 m c) (A6 m c) (A7 m c) (A8 m c) (A9 m c) (A10 m c) := by
  unfold DM
  unfold V
  after_reads_simp
  simp only [StableHlo.TRef.ofBuf_toBuf]
  simp only [StableHlo.TRef.toBuf, StableHlo.TRef.ofBuf, cast_eq]
  rfl

/-- Four matrices stacked, at a place, a row and a column. -/
theorem stack_host (a b d e : FVec Ideal S4096x1024 .f32) (k : Fin 4) (r : Fin 4096) (q : Fin 1024) :
    truncf (F := Ideal) (φ := .f32) .bf16 (concatenate S4x4096x1024 0
      [⟨S1x4096x1024, broadcastInDim S1x4096x1024 ![1, 2] Facts₀.bcast_S4096x1024_S1x4096x1024_1_2 a⟩,
       ⟨S1x4096x1024, broadcastInDim S1x4096x1024 ![1, 2] Facts₀.bcast_S4096x1024_S1x4096x1024_1_2 b⟩,
       ⟨S1x4096x1024, broadcastInDim S1x4096x1024 ![1, 2] Facts₀.bcast_S4096x1024_S1x4096x1024_1_2 d⟩,
       ⟨S1x4096x1024, broadcastInDim S1x4096x1024 ![1, 2] Facts₀.bcast_S4096x1024_S1x4096x1024_1_2 e⟩]
      Facts₀.concatenates_S1x4096x1024_S1x4096x1024_S1x4096x1024_S1x4096x1024_S4x4096x1024_d0) Facts₀.bitsLt_bf16_f32 (ix3 k r q)
      = (![a, b, d, e] : Fin 4 → FVec Ideal S4096x1024 .f32) k (ix2 r q) := by
  obtain rfl | rfl | rfl | rfl : k = 0 ∨ k = 1 ∨ k = 2 ∨ k = 3 := by omega
  · pointwise []
  · pointwise []
  · pointwise []
  · pointwise []

set_option maxHeartbeats 8000000 in
theorem DY_eq (k : Fin 4) (r : Fin 4096) (q : Fin 1024) : DY m c (ix3 k r q)
    = (![val_main_v77 (F := Ideal) (A0 m c) (A1 m c) (A2 m c) (A3 m c) (A4 m c) (A5 m c) (A6 m c) (A7 m c) (A8 m c) (A9 m c) (A10 m c),
         val_main_v76 (F := Ideal) (A0 m c) (A1 m c) (A2 m c) (A3 m c) (A4 m c) (A5 m c) (A6 m c) (A7 m c) (A8 m c) (A9 m c) (A10 m c),
         val_main_v75 (F := Ideal) (A0 m c) (A1 m c) (A2 m c) (A3 m c) (A4 m c) (A5 m c) (A6 m c) (A7 m c) (A8 m c) (A9 m c) (A10 m c),
         val_main_v74 (F := Ideal) (A0 m c) (A1 m c) (A2 m c) (A3 m c) (A4 m c) (A5 m c) (A6 m c) (A7 m c) (A8 m c) (A9 m c) (A10 m c)] : Fin 4 → S4096x1024.Idx → EReal) k (ix2 r q) := by
  refine Eq.trans (congrFun ?_ (ix3 k r q)) (stack_host _ _ _ _ k r q)
  unfold DY
  unfold V
  after_reads_simp
  simp only [StableHlo.TRef.ofBuf_toBuf]
  simp only [StableHlo.TRef.toBuf, StableHlo.TRef.ofBuf, cast_eq]
  rfl

end Cert.Kernel6Ideal.MergeW

end
-- ==== Proof.MergeWClaim.lean ====
/-
  The merge weights' gradients: the kernel's results are the reference's, and the claims on this call.
-/
module

public import proofs.«01_k».proof.Defs
public import proofs.«01_k».proof.Proof.MergeWHost
public import proofs.«01_k».proof.Proof.Gen.Kernel6.Frame
public import proofs.«01_k».proof.Proof.Gen.Kernel6Ideal.Value
public import proofs.«01_k».proof.Proof.Gen.Reference6Ideal.Run

@[expose] public section

set_option maxRecDepth 16384

noncomputable section

namespace Cert.Kernel6Ideal.MergeW

open Idealize.ShloMosaic Idealize.ShloMosaic.TcCoe Idealize.SL.Sem Idealize.ShloMosaic.Tactic
open Cert.Kernel6Ideal Cert.Kernel6Ideal.Gen Cert.Reference6Ideal.Read

variable (m : (ℓ : Loc nD τ sig) → Buf (Elt Ideal) ℓ) (c : Dev nD)

theorem gwbG_apply (p : Fin 8) (b : Fin 4) (g : Fin 512) (f : Fin 128) :
    gwbG m c (ix4 p b g f) = ∑ r, mix m c b (ix2 r g) * DY m c (ix3 b r ⟨p.val * 128 + f.val, by omega⟩) := rfl

theorem gwoG_apply (p : Fin 8) (f : Fin 128) (e : Fin 1024) :
    gwoG m c (ix3 p f e) = ∑ r, MG m c (ix2 r ⟨p.val * 128 + f.val, by omega⟩) * DM m c (ix2 r e) := rfl

/-- A sum of products with the factors exchanged and replaced by equal ones. -/
theorem sum_swap {X Y U W : Fin 4096 → EReal} (hX : ∀ r, X r = W r) (hY : ∀ r, Y r = U r) : ∑ r, X r * Y r = ∑ r, U r * W r :=
  Finset.sum_congr rfl fun r _ => by rw [hX, hY, mul_comm]

theorem mix0 (z : S4096x512.Idx) : mix m c 0 z = A1 m c z := congrFun (M0_eq m c) z

theorem DY0_eq (r : Fin 4096) (q : Fin 1024) : DY m c (ix3 0 r q) = val_main_v77 (F := Ideal) (A0 m c) (A1 m c) (A2 m c) (A3 m c) (A4 m c) (A5 m c) (A6 m c) (A7 m c) (A8 m c) (A9 m c) (A10 m c) (ix2 r q) := DY_eq m c 0 r q

theorem first (p : Fin 8) (g : Fin 512) (f : Fin 128) : gwbG m c (ix4 p 0 g f)
    = val_main_v93 (F := Ideal) (A0 m c) (A1 m c) (A2 m c) (A3 m c) (A4 m c) (A5 m c) (A6 m c) (A7 m c) (A8 m c) (A9 m c) (A10 m c) (ix4 p 0 g f) := by
  rw [Cert.Reference6Ideal.MergeW.first_apply, gwbG_apply]
  exact sum_swap (fun r => mix0 m c _) (fun r => DY0_eq m c r _)

theorem mix1 (z : S4096x512.Idx) : mix m c 1 z = A2 m c z := congrFun (M1_eq m c) z

theorem DY1_eq (r : Fin 4096) (q : Fin 1024) : DY m c (ix3 1 r q) = val_main_v76 (F := Ideal) (A0 m c) (A1 m c) (A2 m c) (A3 m c) (A4 m c) (A5 m c) (A6 m c) (A7 m c) (A8 m c) (A9 m c) (A10 m c) (ix2 r q) := DY_eq m c 1 r q

theorem second (p : Fin 8) (g : Fin 512) (f : Fin 128) : gwbG m c (ix4 p 1 g f)
    = val_main_v93 (F := Ideal) (A0 m c) (A1 m c) (A2 m c) (A3 m c) (A4 m c) (A5 m c) (A6 m c) (A7 m c) (A8 m c) (A9 m c) (A10 m c) (ix4 p 1 g f) := by
  rw [Cert.Reference6Ideal.MergeW.second_apply, gwbG_apply]
  exact sum_swap (fun r => mix1 m c _) (fun r => DY1_eq m c r _)

theorem mix2 (z : S4096x512.Idx) : mix m c 2 z = A3 m c z := congrFun (M2_eq m c) z

theorem DY2_eq (r : Fin 4096) (q : Fin 1024) : DY m c (ix3 2 r q) = val_main_v75 (F := Ideal) (A0 m c) (A1 m c) (A2 m c) (A3 m c) (A4 m c) (A5 m c) (A6 m c) (A7 m c) (A8 m c) (A9 m c) (A10 m c) (ix2 r q) := DY_eq m c 2 r q

theorem third (p : Fin 8) (g : Fin 512) (f : Fin 128) : gwbG m c (ix4 p 2 g f)
    = val_main_v93 (F := Ideal) (A0 m c) (A1 m c) (A2 m c) (A3 m c) (A4 m c) (A5 m c) (A6 m c) (A7 m c) (A8 m c) (A9 m c) (A10 m c) (ix4 p 2 g f) := by
  rw [Cert.Reference6Ideal.MergeW.third_apply, gwbG_apply]
  exact sum_swap (fun r => mix2 m c _) (fun r => DY2_eq m c r _)

theorem mix3 (z : S4096x512.Idx) : mix m c 3 z = A4 m c z := congrFun (M3_eq m c) z

theorem DY3_eq (r : Fin 4096) (q : Fin 1024) : DY m c (ix3 3 r q) = val_main_v74 (F := Ideal) (A0 m c) (A1 m c) (A2 m c) (A3 m c) (A4 m c) (A5 m c) (A6 m c) (A7 m c) (A8 m c) (A9 m c) (A10 m c) (ix2 r q) := DY_eq m c 3 r q

theorem fourth (p : Fin 8) (g : Fin 512) (f : Fin 128) : gwbG m c (ix4 p 3 g f)
    = val_main_v93 (F := Ideal) (A0 m c) (A1 m c) (A2 m c) (A3 m c) (A4 m c) (A5 m c) (A6 m c) (A7 m c) (A8 m c) (A9 m c) (A10 m c) (ix4 p 3 g f) := by
  rw [Cert.Reference6Ideal.MergeW.fourth_apply, gwbG_apply]
  exact sum_swap (fun r => mix3 m c _) (fun r => DY3_eq m c r _)

theorem res7 : gwbG m c = val_main_v93 (F := Ideal) (A0 m c) (A1 m c) (A2 m c) (A3 m c) (A4 m c) (A5 m c) (A6 m c) (A7 m c) (A8 m c) (A9 m c) (A10 m c) := by
  funext y
  obtain ⟨p, b, g, f, rfl⟩ : ∃ (p : Fin 8) (b : Fin 4) (g : Fin 512) (f : Fin 128), y = ix4 p b g f := ⟨y 0, y 1, y 2, y 3, eq_ix4 y⟩
  obtain rfl | rfl | rfl | rfl : b = 0 ∨ b = 1 ∨ b = 2 ∨ b = 3 := by omega
  · exact first m c p g f
  · exact second m c p g f
  · exact third m c p g f
  · exact fourth m c p g f

theorem res8 : gwoG m c = val_main_v95 (F := Ideal) (A0 m c) (A1 m c) (A2 m c) (A3 m c) (A4 m c) (A5 m c) (A6 m c) (A7 m c) (A8 m c) (A9 m c) (A10 m c) := by
  funext y
  obtain ⟨p, f, e, rfl⟩ : ∃ (p : Fin 8) (f : Fin 128) (e : Fin 1024), y = ix3 p f e := ⟨y 0, y 1, y 2, eq_ix3 y⟩
  rw [Cert.Reference6Ideal.MergeW.out_apply, gwoG_apply]
  exact sum_swap (fun r => congrFun (MG_eq m c) _) (fun r => congrFun (DM_eq m c) _)

end Cert.Kernel6Ideal.MergeW

namespace Cert.MergeWClaim

open Idealize.ShloMosaic Idealize.ShloMosaic.TcCoe Idealize.SL.Sem Idealize.ShloMosaic.Tactic
open Cert.Reference6Ideal.Read Cert.Kernel6Ideal.MergeW

theorem frame_p : Cert.quiescent_Kernel6 := fun m ρ _ => Cert.Kernel6.Gen.frame m ρ

theorem frame_pi : Cert.quiescent_Kernel6Ideal := fun m ρ _ => Cert.Kernel6Ideal.Gen.frame m ρ

theorem frame_ri : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

/-- Equal arguments give equal results. -/
theorem algebraic : Cert.algebraic_Kernel6Ideal_Reference6Ideal := by
  intro m g m' g' _ hagree
  have hV : ∀ c : Dev Cert.Kernel6Ideal.nD,
      StableHlo.launchContents m' c (Proc.devRef .tc Cert.Reference6Ideal.main_arg0) = A0 m c
      ∧ StableHlo.launchContents m' c (Proc.devRef .tc Cert.Reference6Ideal.main_arg1) = A1 m c
      ∧ StableHlo.launchContents m' c (Proc.devRef .tc Cert.Reference6Ideal.main_arg2) = A2 m c
      ∧ StableHlo.launchContents m' c (Proc.devRef .tc Cert.Reference6Ideal.main_arg3) = A3 m c
      ∧ StableHlo.launchContents m' c (Proc.devRef .tc Cert.Reference6Ideal.main_arg4) = A4 m c
      ∧ StableHlo.launchContents m' c (Proc.devRef .tc Cert.Reference6Ideal.main_arg5) = A5 m c
      ∧ StableHlo.launchContents m' c (Proc.devRef .tc Cert.Reference6Ideal.main_arg6) = A6 m c
      ∧ StableHlo.launchContents m' c (Proc.devRef .tc Cert.Reference6Ideal.main_arg7) = A7 m c
      ∧ StableHlo.launchContents m' c (Proc.devRef .tc Cert.Reference6Ideal.main_arg8) = A8 m c
      ∧ StableHlo.launchContents m' c (Proc.devRef .tc Cert.Reference6Ideal.main_arg9) = A9 m c
      ∧ StableHlo.launchContents m' c (Proc.devRef .tc Cert.Reference6Ideal.main_arg10) = A10 m c := hagree
  refine ⟨fun c => gwbG m c, fun c => gwoG m c, ?_, ?_⟩
  · refine (θ_run Cert.Kernel6Ideal.defs _ _).mono (fun r h c => ?_) (Cert.Kernel6Ideal.Value.run_blocks m g)
    obtain ⟨h0, h1, h2⟩ := h c
    exact ⟨h0.trans (final7 m c), h1.trans (final8 m c), h2⟩
  · refine (θ_run Cert.Reference6Ideal.defs _ _).mono (fun r h c => ?_) (Cert.Reference6Ideal.Value.run (F := Ideal) m' g')
    obtain ⟨h0, h1, h2⟩ := h c
    obtain ⟨e0, e1, e2, e3, e4, e5, e6, e7, e8, e9, e10⟩ := hV c
    refine ⟨h0.trans ((val_main_v93_eq _).trans ?_), h1.trans ((val_main_v95_eq _).trans ?_), h2⟩
    · rw [e0, e1, e2, e3, e4, e5, e6, e7, e8, e9, e10]
      exact (res7 m c).symm
    · rw [e0, e1, e2, e3, e4, e5, e6, e7, e8, e9, e10]
      exact (res8 m c).symm

end Cert.MergeWClaim

end
-- ==== Proof.XaWPay.lean ====
/-
  What the kernel of the cross-attention weights' gradients computes on one tile of 1024 rows, read at an index over the
  extended reals.
-/
module

public import proofs.«01_k».proof.Proof.Gen.Kernel7Ideal.Skeleton
public import Idealize.ShloMosaic.Lib.Pointwise
public import Idealize.ShloMosaic.Lib.IdealHost

@[expose] public section

set_option maxRecDepth 16384

noncomputable section

namespace Cert.Kernel7Ideal.XaW

open Idealize.ShloMosaic Idealize.ShloMosaic.TcCoe
open Cert.Kernel7Ideal Cert.Kernel7Ideal.Gen

theorem pay1_apply (g e : Fin 1024) : k0_pay1 (F := Ideal) (ix2 g e) = 0 := by
  pointwise [k0_pay1]

theorem pay2_apply (g e : Fin 1024) : k0_pay2 (F := Ideal) (ix2 g e) = 0 := by
  pointwise [k0_pay2]

theorem pay3_apply (acc : Vec Ideal S1024x1024 .f32) (x0 x1 : Vec Ideal S1024x1024 .bf16) (g e : Fin 1024) :
    k0_pay3 (F := Ideal) acc x0 x1 (ix2 g e) = acc (ix2 g e) + ∑ r, x0 (ix2 r g) * x1 (ix2 r e) := by
  pointwise [k0_pay3]

theorem pay4_apply (acc : Vec Ideal S1024x1024 .f32) (x2 x3 : Vec Ideal S1024x1024 .bf16) (g e : Fin 1024) :
    k0_pay4 (F := Ideal) acc x2 x3 (ix2 g e) = acc (ix2 g e) + ∑ r, x2 (ix2 r g) * x3 (ix2 r e) := by
  pointwise [k0_pay4]

theorem pay10_apply (x4 : Vec Ideal S256x1024 .bf16) (x5 : Vec Ideal S256x1024 .f32) (g e : Fin 1024) :
    k0_pay10 (F := Ideal) x4 x5 (ix2 g e) = ∑ r, x4 (ix2 r g) * x5 (ix2 r e) := by
  pointwise [k0_pay10]

theorem pay11_eq (x4 : Vec Ideal S256x1024 .bf16) (x6 : Vec Ideal S256x1024 .f32) :
    k0_pay11 (F := Ideal) x4 x6 = k0_pay10 (F := Ideal) x4 x6 := rfl

/-- A store of a shard's rows: the same entries. -/
theorem paySt_apply (v : Vec Ideal S128x1024 .f32) (f : Fin 128) (e : Fin 1024) :
    k0_pay6 (F := Ideal) v (ix3 0 f e) = v (ix2 f e) := by
  pointwise [k0_pay6]

/-- A shard's rows cut out of a product and stored. -/
theorem payCut_apply (v : Vec Ideal S1024x1024 .f32) {o : Nat} (h : S1024x1024.Slices ![o, 0] S128x1024) (f : Fin 128) (e : Fin 1024)
    (ho : o + f.val < 1024) : k0_pay6 (F := Ideal) (extractStridedSlice S128x1024 ![o, 0] v h) (ix3 0 f e) = v (ix2 ⟨o + f.val, ho⟩ e) := by
  rw [paySt_apply]
  refine extractStridedSlice_apply ![o, 0] v h _ _ (fun a => ?_)
  fin_cases a
  · rfl
  · show e.val = 0 + e.val
    omega

end Cert.Kernel7Ideal.XaW

end
-- ==== Proof.XaWBlock.lean ====
/-
  What the kernel of the cross-attention weights' gradients leaves in its two accumulators, and in its output's block, at
  one grid point, over the extended reals.
-/
module

public import proofs.«01_k».proof.Proof.Gen.Kernel7Ideal.Frame
public import proofs.«01_k».proof.Proof.XaWPay
public import proofs.«01_k».proof.Proof.Bands
public import proofs.«01_k».proof.Proof.FfnWBlock

@[expose] public section

set_option maxRecDepth 16384

noncomputable section

namespace Cert.Kernel7Ideal.XaW

open Idealize.ShloMosaic Idealize.ShloMosaic.TcCoe Idealize.SL.Sem Idealize.ShloMosaic.Tactic
open Cert.Kernel7Ideal Cert.Kernel7Ideal.Gen
open Cert.Kernel2Ideal.FfnW (hz2 hz3)

variable (c : Dev nD) (i : grid0.Coords) (a1 : Memref sig .tc .vmem S1024x1024 .bf16) (h1 : a1.IsWhole)
  (a2 : Memref sig .tc .vmem S1024x1024 .bf16) (h2 : a2.IsWhole) (a3 : Memref sig .tc .vmem S1024x1024 .bf16) (h3 : a3.IsWhole)
  (a4 : Memref sig .tc .vmem S1024x1024 .bf16) (h4 : a4.IsWhole) (a5 : Memref sig .tc .vmem S256x1024 .bf16) (h5 : a5.IsWhole)
  (a6 : Memref sig .tc .vmem S256x1024 .f32) (h6 : a6.IsWhole) (a7 : Memref sig .tc .vmem S256x1024 .f32) (h7 : a7.IsWhole)
  (a8 : Memref sig .tc .vmem S8x512x1024 .bf16) (h8 : a8.IsWhole) (a9 : Memref sig .tc .vmem S1024x1024 .f32) (h9 : a9.IsWhole)
  (a10 : Memref sig .tc .vmem S1024x1024 .f32) (h10 : a10.IsWhole)
variable (x0 x1 x2 x3 : Vec Ideal S1024x1024 .bf16) (x4 : Vec Ideal S256x1024 .bf16) (x5 x6 : Vec Ideal S256x1024 .f32)
  (xs0 xs1 : Vec Ideal S1024x1024 .f32)

/-- A whole store leaves what it stores. -/
theorem canonC {φ : EltTy} (w : S1024x1024.Idx → Elt Ideal φ) (L : List (View.Piece (Elt Ideal) S1024x1024 φ)) :
    View.canon (Val := Elt Ideal) (⟨Rect.unit (s := S1024x1024) ![0, 0] ![1024, 1024] inb_S1024x1024_S1024x1024_0_0, w⟩ :: L) = w :=
  View.canon_cons_unit_zero (S := S1024x1024) hz2 _ w L

/-- A whole load after one whole store reads what was stored. -/
theorem covC {sp : Space} {φ : EltTy} (v : View sig .tc sp S1024x1024 φ) (w : S1024x1024.Idx → Elt Ideal φ) :
    v.readCov (Val := Elt Ideal) [⟨Rect.unit (s := S1024x1024) ![0, 0] ![1024, 1024] inb_S1024x1024_S1024x1024_0_0, w⟩]
      (Rect.unit (s := S1024x1024) ![0, 0] ![1024, 1024] inb_S1024x1024_S1024x1024_0_0).toLoadRect = w :=
  View.readCov_unit_zero (S := S1024x1024) v hz2 _ w

theorem sout0_A (hc0 : cond0_0 i) (hc1 : ¬cond0_1 i) :
    sout0_A_0 (F := Ideal) c i a1 h1 a2 h2 a3 h3 a4 h4 a5 h5 a6 h6 a7 h7 a8 h8 a9 h9 a10 h10 hc0 hc1 x0 x1 x2 x3 x4 x5 x6 = k0_pay3 (F := Ideal) (k0_pay1 (F := Ideal)) x0 x1 := by
  unfold sout0_A_0
  rw [View.read_writes_eq_canon _ _ _ (scover0_A_0 (F := Ideal) c i a1 h1 a2 h2 a3 h3 a4 h4 a5 h5 a6 h6 a7 h7 a8 h8 a9 h9 a10 h10 hc0 hc1 x0 x1 x2 x3 x4 x5 x6)]
  unfold kernelRun0_A
  dsimp only
  sl_unfold_words
  simp only [View.readAt_eq_ld, Memref.IsWhole.read_unread, View.ld_unit_zero (S := S1024x1024) hz2, canonC, covC]

theorem sout1_A (hc0 : cond0_0 i) (hc1 : ¬cond0_1 i) :
    sout0_A_1 (F := Ideal) c i a1 h1 a2 h2 a3 h3 a4 h4 a5 h5 a6 h6 a7 h7 a8 h8 a9 h9 a10 h10 hc0 hc1 x0 x1 x2 x3 x4 x5 x6 = k0_pay4 (F := Ideal) (k0_pay2 (F := Ideal)) x2 x3 := by
  unfold sout0_A_1
  rw [View.read_writes_eq_canon _ _ _ (scover0_A_1 (F := Ideal) c i a1 h1 a2 h2 a3 h3 a4 h4 a5 h5 a6 h6 a7 h7 a8 h8 a9 h9 a10 h10 hc0 hc1 x0 x1 x2 x3 x4 x5 x6)]
  unfold kernelRun0_A
  dsimp only
  sl_unfold_words
  simp only [View.readAt_eq_ld, Memref.IsWhole.read_unread, View.ld_unit_zero (S := S1024x1024) hz2, canonC, covC]

theorem sout0_B (hc0 : ¬cond0_0 i) (hc1 : ¬cond0_1 i) :
    sout0_B_0 (F := Ideal) c i a1 h1 a2 h2 a3 h3 a4 h4 a5 h5 a6 h6 a7 h7 a8 h8 a9 h9 a10 h10 hc0 hc1 x0 x1 x2 x3 x4 x5 x6 xs0 xs1 = k0_pay3 (F := Ideal) xs0 x0 x1 := by
  unfold sout0_B_0
  rw [View.read_writes_eq_canon _ _ _ (scover0_B_0 (F := Ideal) c i a1 h1 a2 h2 a3 h3 a4 h4 a5 h5 a6 h6 a7 h7 a8 h8 a9 h9 a10 h10 hc0 hc1 x0 x1 x2 x3 x4 x5 x6 xs0 xs1)]
  unfold kernelRun0_B
  dsimp only
  sl_unfold_words
  simp only [View.readAt_eq_ld, Memref.IsWhole.read_unread, View.ld_unit_zero (S := S1024x1024) hz2, canonC, covC]

theorem sout1_B (hc0 : ¬cond0_0 i) (hc1 : ¬cond0_1 i) :
    sout0_B_1 (F := Ideal) c i a1 h1 a2 h2 a3 h3 a4 h4 a5 h5 a6 h6 a7 h7 a8 h8 a9 h9 a10 h10 hc0 hc1 x0 x1 x2 x3 x4 x5 x6 xs0 xs1 = k0_pay4 (F := Ideal) xs1 x2 x3 := by
  unfold sout0_B_1
  rw [View.read_writes_eq_canon _ _ _ (scover0_B_1 (F := Ideal) c i a1 h1 a2 h2 a3 h3 a4 h4 a5 h5 a6 h6 a7 h7 a8 h8 a9 h9 a10 h10 hc0 hc1 x0 x1 x2 x3 x4 x5 x6 xs0 xs1)]
  unfold kernelRun0_B
  dsimp only
  sl_unfold_words
  simp only [View.readAt_eq_ld, Memref.IsWhole.read_unread, View.ld_unit_zero (S := S1024x1024) hz2, canonC, covC]

theorem sout0_C (hc0 : ¬cond0_0 i) (hc1 : cond0_1 i) :
    sout0_C_0 (F := Ideal) c i a1 h1 a2 h2 a3 h3 a4 h4 a5 h5 a6 h6 a7 h7 a8 h8 a9 h9 a10 h10 hc0 hc1 x0 x1 x2 x3 x4 x5 x6 xs0 xs1 = k0_pay3 (F := Ideal) xs0 x0 x1 := by
  unfold sout0_C_0
  rw [View.read_writes_eq_canon _ _ _ (scover0_C_0 (F := Ideal) c i a1 h1 a2 h2 a3 h3 a4 h4 a5 h5 a6 h6 a7 h7 a8 h8 a9 h9 a10 h10 hc0 hc1 x0 x1 x2 x3 x4 x5 x6 xs0 xs1)]
  unfold kernelRun0_C
  dsimp only
  sl_unfold_words
  simp only [View.readAt_eq_ld, Memref.IsWhole.read_unread, View.ld_unit_zero (S := S1024x1024) hz2, canonC, covC]

theorem sout1_C (hc0 : ¬cond0_0 i) (hc1 : cond0_1 i) :
    sout0_C_1 (F := Ideal) c i a1 h1 a2 h2 a3 h3 a4 h4 a5 h5 a6 h6 a7 h7 a8 h8 a9 h9 a10 h10 hc0 hc1 x0 x1 x2 x3 x4 x5 x6 xs0 xs1 = k0_pay4 (F := Ideal) xs1 x2 x3 := by
  unfold sout0_C_1
  rw [View.read_writes_eq_canon _ _ _ (scover0_C_1 (F := Ideal) c i a1 h1 a2 h2 a3 h3 a4 h4 a5 h5 a6 h6 a7 h7 a8 h8 a9 h9 a10 h10 hc0 hc1 x0 x1 x2 x3 x4 x5 x6 xs0 xs1)]
  unfold kernelRun0_C
  dsimp only
  sl_unfold_words
  simp only [View.readAt_eq_ld, Memref.IsWhole.read_unread, View.ld_unit_zero (S := S1024x1024) hz2, canonC, covC]

/-- The four gradients by their place. -/
def pick (q k v o : S1024x1024.Idx → EReal) : Fin 4 → S1024x1024.Idx → EReal := ![q, k, v, o]

/-- What the output's block holds: of each gradient, a shard's 128 rows. -/
def outT (q k v o : S1024x1024.Idx → EReal) (y : S8x512x1024.Idx) : EReal :=
  pick q k v o ⟨(y 1).val / 128, by have : (y 1).val < 512 := (y 1).isLt; omega⟩
    (ix2 ⟨(y 0).val * 128 + (y 1).val % 128, by have : (y 0).val < 8 := (y 0).isLt; omega⟩ (y 2))

/-- A shard's rows of one gradient, put where the block has them. -/
theorem piece (q k v o : S1024x1024.Idx → EReal) (w : Vec Ideal S1x128x1024 .bf16) {s p j : Nat} {b : Fin 4} (hs : s < 8) (hp : p = b.val * 128) (hj : j = s * 128)
    (hw : ∀ (f : Fin 128) (e : Fin 1024), w (ix3 0 f e) = pick q k v o b (ix2 ⟨j + f.val, by omega⟩ e))
    (inb' : ∀ a, (![s, p, 0] : Fin 3 → Nat) a + (![1, 128, 1024] : Fin 3 → Nat) a ≤ S8x512x1024.size a)
    (x : S1x128x1024.Idx) :
    w x = outT q k v o ((Rect.unit (s := S8x512x1024) ![s, p, 0] ![1, 128, 1024] inb').emb x) := by
  obtain ⟨f, e, rfl⟩ : ∃ (f : Fin 128) (e : Fin 1024), x = ix3 0 f e :=
    ⟨x 1, x 2, by rw [eq_ix3 x]; congr 1; exact Subsingleton.elim (α := Fin 1) _ _⟩
  have h1 : p + 128 ≤ 512 := inb' 1
  have hy : (Rect.unit (s := S8x512x1024) ![s, p, 0] ![1, 128, 1024] inb').emb (ix3 0 f e) = ix3 ⟨s, hs⟩ ⟨p + f.val, by omega⟩ e := by
    funext a
    apply Fin.ext
    rw [Rect.emb_apply]
    fin_cases a
    · show s + 1 * 0 = s
      omega
    · show p + 1 * f.val = p + f.val
      omega
    · show 0 + 1 * e.val = e.val
      omega
  rw [hy, hw]
  refine congr (congrArg (pick q k v o) (Fin.ext ?_)) (congrArg (fun r => ix2 r e) (Fin.ext ?_))
  · show b.val = (p + f.val) / 128
    omega
  · show j + f.val = s * 128 + (p + f.val) % 128
    omega

/-- Rows loaded from an accumulator. -/
theorem piece_ld (q k v o W : S1024x1024.Idx → EReal) {s p j : Nat} (b : Fin 4) (hW : pick q k v o b = W) (hs : s < 8) (hp : p = b.val * 128) (hj : j = s * 128)
    (inb : ∀ a, (![j, 0] : Fin 2 → Nat) a + (![128, 1024] : Fin 2 → Nat) a ≤ S1024x1024.size a)
    (inb' : ∀ a, (![s, p, 0] : Fin 3 → Nat) a + (![1, 128, 1024] : Fin 3 → Nat) a ≤ S8x512x1024.size a)
    (x : S1x128x1024.Idx) :
    k0_pay6 (F := Ideal) (fun y => W ((Rect.unit (s := S1024x1024) ![j, 0] ![128, 1024] inb).idx y)) x
      = outT q k v o ((Rect.unit (s := S8x512x1024) ![s, p, 0] ![1, 128, 1024] inb').emb x) := by
  refine piece q k v o _ hs hp hj (fun f e => ?_) inb' x
  rw [paySt_apply, hW]
  exact congrArg W (Bands.idx inb f e (by omega))

/-- Rows cut out of a product. -/
theorem piece_cut (q k v o : S1024x1024.Idx → EReal) (W : Vec Ideal S1024x1024 .f32) {s p j : Nat} (b : Fin 4) (hW : pick q k v o b = W) (hs : s < 8) (hp : p = b.val * 128) (hj : j = s * 128)
    (h : S1024x1024.Slices ![j, 0] S128x1024)
    (inb' : ∀ a, (![s, p, 0] : Fin 3 → Nat) a + (![1, 128, 1024] : Fin 3 → Nat) a ≤ S8x512x1024.size a)
    (x : S1x128x1024.Idx) :
    k0_pay6 (F := Ideal) (extractStridedSlice S128x1024 ![j, 0] W h) x
      = outT q k v o ((Rect.unit (s := S8x512x1024) ![s, p, 0] ![1, 128, 1024] inb').emb x) := by
  refine piece q k v o _ hs hp hj (fun f e => ?_) inb' x
  rw [payCut_apply W h f e (by omega), hW]

theorem out_C (hc0 : ¬cond0_0 i) (hc1 : cond0_1 i) (y : S8x512x1024.Idx) :
    out0_C_7 (F := Ideal) c i a1 h1 a2 h2 a3 h3 a4 h4 a5 h5 a6 h6 a7 h7 a8 h8 a9 h9 a10 h10 hc0 hc1 x0 x1 x2 x3 x4 x5 x6 xs0 xs1 y
      = outT (k0_pay3 (F := Ideal) xs0 x0 x1) (k0_pay10 (F := Ideal) x4 x5) (k0_pay11 (F := Ideal) x4 x6) (k0_pay4 (F := Ideal) xs1 x2 x3) y := by
  unfold out0_C_7
  rw [View.read_writes_eq_canon _ _ _ (cover0_C_7 (F := Ideal) c i a1 h1 a2 h2 a3 h3 a4 h4 a5 h5 a6 h6 a7 h7 a8 h8 a9 h9 a10 h10 hc0 hc1 x0 x1 x2 x3 x4 x5 x6 xs0 xs1)]
  refine View.canon_apply_of_pieces (outT (k0_pay3 (F := Ideal) xs0 x0 x1) (k0_pay10 (F := Ideal) x4 x5) (k0_pay11 (F := Ideal) x4 x6) (k0_pay4 (F := Ideal) xs1 x2 x3)) _ ?_ y
    (cover0_C_7 (F := Ideal) c i a1 h1 a2 h2 a3 h3 a4 h4 a5 h5 a6 h6 a7 h7 a8 h8 a9 h9 a10 h10 hc0 hc1 x0 x1 x2 x3 x4 x5 x6 xs0 xs1 y)
  unfold kernelRun0_C
  dsimp only
  sl_unfold_words
  simp only [List.forall_mem_cons, View.readAt_eq_ld, Memref.IsWhole.read_unread, View.ld_unit_zero (S := S1024x1024) hz2, View.ld_unit_zero (S := S256x1024) hz2,
    View.readCov_eq_canon', canonC]
  iterate 8
    refine ⟨piece_ld _ _ _ _ (k0_pay4 (F := Ideal) xs1 x2 x3) 3 rfl (by decide) (by decide) (by decide) _ _, piece_cut _ _ _ _ (k0_pay11 (F := Ideal) x4 x6) 2 rfl (by decide) (by decide) (by decide) _ _,
      piece_cut _ _ _ _ (k0_pay10 (F := Ideal) x4 x5) 1 rfl (by decide) (by decide) (by decide) _ _, piece_ld _ _ _ _ (k0_pay3 (F := Ideal) xs0 x0 x1) 0 rfl (by decide) (by decide) (by decide) _ _, ?_⟩
  exact fun x hx => absurd hx List.not_mem_nil

end Cert.Kernel7Ideal.XaW

end
-- ==== Proof.XaWArr.lean ====
/-
  The cross-attention weights' gradients after the run, over the extended reals: a function of the arrays that the call is
  given.
-/
module

public import proofs.«01_k».proof.Proof.Gen.Kernel7Ideal.Value
public import proofs.«01_k».proof.Proof.XaWBlock
public import Idealize.ShloMosaic.Lib.Pipeline.ValueKit

@[expose] public section

set_option maxRecDepth 16384

noncomputable section

namespace Cert.Kernel7Ideal.XaW

open Idealize.ShloMosaic Idealize.ShloMosaic.TcCoe Idealize.SL.Sem Idealize.ShloMosaic.Tactic
open Cert.Kernel7Ideal Cert.Kernel7Ideal.Gen

variable (m : (ℓ : Loc nD τ sig) → Buf (Elt Ideal) ℓ) (c : Dev nD)

/-- The normed input. -/
abbrev HB : S4096x1024.Idx → EReal := V m c main_v0_0
/-- The gradient of the queries. -/
abbrev DQ : S4096x1024.Idx → EReal := V m c main_v0_1
/-- The attention's output before its projection. -/
abbrev OO : S4096x1024.Idx → EReal := V m c main_v0_2
/-- The gradient of the projection's output. -/
abbrev DP : S4096x1024.Idx → EReal := V m c main_v0_3
/-- The normed memory. -/
abbrev MN : S256x1024.Idx → EReal := V m c main_v0_4
/-- The gradient of the keys. -/
abbrev DK : S256x1024.Idx → EReal := V m c main_v0_5
/-- The gradient of the values. -/
abbrev DV : S256x1024.Idx → EReal := V m c main_v0_6

/-- Row `r` of a point's tile. -/
abbrev row (t : Fin cfg0.N) (r : Fin 1024) : Fin 4096 := ⟨t.val * 1024 + r.val, by have := t.isLt; have : cfg0.N = 4 := N_0; omega⟩

theorem pos0 : ∀ t : Fin cfg0.N, win0_0.index t = ![t.val, 0] := by decide +kernel
theorem pos1 : ∀ t : Fin cfg0.N, win0_1.index t = ![t.val, 0] := by decide +kernel
theorem pos2 : ∀ t : Fin cfg0.N, win0_2.index t = ![t.val, 0] := by decide +kernel
theorem pos3 : ∀ t : Fin cfg0.N, win0_3.index t = ![t.val, 0] := by decide +kernel
theorem pos4 : ∀ t : Fin cfg0.N, win0_4.index t = ![0, 0] := by decide +kernel
theorem pos5 : ∀ t : Fin cfg0.N, win0_5.index t = ![0, 0] := by decide +kernel
theorem pos6 : ∀ t : Fin cfg0.N, win0_6.index t = ![0, 0] := by decide +kernel
theorem pos7 : ∀ t : Fin cfg0.N, win0_7.index t = ![0, 0, 0] := by decide +kernel

theorem blk0 (t : Fin cfg0.N) (r e : Fin 1024) : iblk m c 0 t (ix2 r e) = HB m c (ix2 (row t r) e) := by
  blk_ext [iblk, pos0 t]
theorem blk1 (t : Fin cfg0.N) (r e : Fin 1024) : iblk m c 1 t (ix2 r e) = DQ m c (ix2 (row t r) e) := by
  blk_ext [iblk, pos1 t]
theorem blk2 (t : Fin cfg0.N) (r e : Fin 1024) : iblk m c 2 t (ix2 r e) = OO m c (ix2 (row t r) e) := by
  blk_ext [iblk, pos2 t]
theorem blk3 (t : Fin cfg0.N) (r e : Fin 1024) : iblk m c 3 t (ix2 r e) = DP m c (ix2 (row t r) e) := by
  blk_ext [iblk, pos3 t]
theorem blk4 (t : Fin cfg0.N) (r : Fin 256) (e : Fin 1024) : iblk m c 4 t (ix2 r e) = MN m c (ix2 r e) := by
  blk_ext [iblk, pos4 t]
theorem blk5 (t : Fin cfg0.N) (r : Fin 256) (e : Fin 1024) : iblk m c 5 t (ix2 r e) = DK m c (ix2 r e) := by
  blk_ext [iblk, pos5 t]
theorem blk6 (t : Fin cfg0.N) (r : Fin 256) (e : Fin 1024) : iblk m c 6 t (ix2 r e) = DV m c (ix2 r e) := by
  blk_ext [iblk, pos6 t]

/-- A product over the rows. -/
def gram {R : Nat} (X Y : (⟨2, ![R, 1024]⟩ : Shape).Idx → EReal) (z : S1024x1024.Idx) : EReal := ∑ r : Fin R, X (ix2 r (z 0)) * Y (ix2 r (z 1))

/-- One row's part of a product by the row's number. -/
def termN (X Y : S4096x1024.Idx → EReal) (g e : Fin 1024) (r : ℕ) : EReal := if h : r < 4096 then X (ix2 ⟨r, h⟩ g) * Y (ix2 ⟨r, h⟩ e) else 0

theorem tile_range (X Y : S4096x1024.Idx → EReal) (x y : S1024x1024.Idx → EReal) (t : Fin cfg0.N) (g e : Fin 1024)
    (hx : ∀ r e, x (ix2 r e) = X (ix2 (row t r) e)) (hy : ∀ r e, y (ix2 r e) = Y (ix2 (row t r) e)) :
    ∑ r : Fin 1024, x (ix2 r g) * y (ix2 r e) = ∑ r ∈ Finset.range 1024, termN X Y g e (t.val * 1024 + r) := by
  rw [Finset.sum_range]
  refine Finset.sum_congr rfl fun r _ => ?_
  unfold termN
  rw [dif_pos (row t r).isLt, hx, hy]

theorem grow (X Y : S4096x1024.Idx → EReal) (n : Nat) (g e : Fin 1024) :
    ∑ r ∈ Finset.range ((n + 1 + 1) * 1024), termN X Y g e r
      = ∑ r ∈ Finset.range ((n + 1) * 1024), termN X Y g e r + ∑ r ∈ Finset.range 1024, termN X Y g e ((n + 1) * 1024 + r) := by
  rw [show (n + 1 + 1) * 1024 = (n + 1) * 1024 + 1024 by omega, Finset.sum_range_add]

/-- The accumulators after a point: the sums over the rows of the tiles so far. -/
theorem acc (n : Nat) (hn : n < cfg0.N) (g e : Fin 1024) :
    (outsAt0 m c n hn).2.1 (ix2 g e) = ∑ r ∈ Finset.range ((n + 1) * 1024), termN (HB m c) (DQ m c) g e r
    ∧ (outsAt0 m c n hn).2.2 (ix2 g e) = ∑ r ∈ Finset.range ((n + 1) * 1024), termN (OO m c) (DP m c) g e r := by
  have hN : cfg0.N = 4 := N_0
  induction n with
  | zero =>
    rw [outsAt0_A m c ⟨0, hn⟩ rfl (by show ¬0 % 4 = 3; decide)]
    dsimp only
    rw [sout0_A, sout1_A, pay3_apply, pay4_apply, pay1_apply, pay2_apply, zero_add, zero_add,
      tile_range (HB m c) (DQ m c) _ _ ⟨0, hn⟩ g e (blk0 m c _) (blk1 m c _), tile_range (OO m c) (DP m c) _ _ ⟨0, hn⟩ g e (blk2 m c _) (blk3 m c _)]
    simp
  | succ n ih =>
    obtain ⟨ih0, ih1⟩ := ih (by omega)
    have s0 := tile_range (HB m c) (DQ m c) _ _ ⟨n + 1, hn⟩ g e (blk0 m c _) (blk1 m c _)
    have s1 := tile_range (OO m c) (DP m c) _ _ ⟨n + 1, hn⟩ g e (blk2 m c _) (blk3 m c _)
    by_cases h1 : (n + 1) % 4 = 3
    · rw [outsAt0_C m c ⟨n + 1, hn⟩ (by show ¬(n + 1) % 4 = 0; omega) h1]
      dsimp only
      rw [sout0_C, sout1_C, pay3_apply, pay4_apply, s0, s1, grow, grow]
      exact ⟨congrArg (· + _) ih0, congrArg (· + _) ih1⟩
    · rw [outsAt0_B m c ⟨n + 1, hn⟩ (by show ¬(n + 1) % 4 = 0; omega) h1]
      dsimp only
      rw [sout0_B, sout1_B, pay3_apply, pay4_apply, s0, s1, grow, grow]
      exact ⟨congrArg (· + _) ih0, congrArg (· + _) ih1⟩

theorem all_rows (X Y : S4096x1024.Idx → EReal) (g e : Fin 1024) : ∑ r ∈ Finset.range 4096, termN X Y g e r = gram X Y (ix2 g e) := by
  unfold gram
  rw [Finset.sum_range]
  refine Finset.sum_congr rfl fun r _ => ?_
  unfold termN
  exact dif_pos r.isLt

theorem ext2 {f : S1024x1024.Idx → EReal} (k : S1024x1024.Idx → EReal) (h : ∀ g e : Fin 1024, f (ix2 g e) = k (ix2 g e)) : f = k := by
  funext z
  obtain ⟨g, e, rfl⟩ : ∃ g e : Fin 1024, z = ix2 g e := ⟨z 0, z 1, eq_ix2 z⟩
  exact h g e

/-- The gradients in the kernel's layout. -/
def gwG : S8x512x1024.Idx → EReal :=
  outT (gram (HB m c) (DQ m c)) (gram (MN m c) (DK m c)) (gram (MN m c) (DV m c)) (gram (OO m c) (DP m c))

theorem emb7 (t : Fin cfg0.N) (s : Fin 8) (q : Fin 512) (e : Fin 1024) : (win0_7.blk t).view.emb (ix3 s q e) = ix3 s q e := by
  blk_ext [pos7 t]

theorem last7 : ∀ t : Fin cfg0.N, (cfg0.win 7).flush t = true → t.val % 4 = 3 := by decide +kernel

theorem outC_eq (t : Fin cfg0.N) (h1 : t.val % 4 = 3) (y : S8x512x1024.Idx) : (outsAt0 m c t.val t.isLt).1 y = gwG m c y := by
  have hN : cfg0.N = 4 := N_0
  have ht := t.isLt
  have ha := acc m c t.val t.isLt
  rw [outsAt0_C m c t (by omega) h1] at ha ⊢
  dsimp only at ha ⊢
  rw [sout0_C, sout1_C] at ha
  rw [out_C]
  have e3 : (t.val + 1) * 1024 = 4096 := by omega
  unfold gwG
  have q0 := ext2 (gram (HB m c) (DQ m c)) fun g e => (ha g e).1.trans (by rw [e3, all_rows])
  have q3 := ext2 (gram (OO m c) (DP m c)) fun g e => (ha g e).2.trans (by rw [e3, all_rows])
  rw [q0, q3]
  have q1 : k0_pay10 (F := Ideal) (iblk m c 4 t) (iblk m c 5 t) = gram (MN m c) (DK m c) := ext2 _ fun g e =>
    (pay10_apply _ _ g e).trans (Finset.sum_congr rfl fun r _ => congrArg₂ (· * ·) (blk4 m c t r _) (blk5 m c t r _))
  have q2 : k0_pay11 (F := Ideal) (iblk m c 4 t) (iblk m c 6 t) = gram (MN m c) (DV m c) := ext2 _ fun g e =>
    (congrFun (pay11_eq _ _) _).trans ((pay10_apply _ _ g e).trans (Finset.sum_congr rfl fun r _ => congrArg₂ (· * ·) (blk4 m c t r _) (blk6 m c t r _)))
  rw [q1, q2]

theorem final7 : (dats m 0 c).arrAt 7 cfg0.N = gwG m c := by
  refine (dats m 0 c).arrAt_eq_of_covers 7 _ (by decide +kernel) fun t hf y => ?_
  blk_simp
  obtain ⟨s, q, e, rfl⟩ : ∃ (s : Fin 8) (q : Fin 512) (e : Fin 1024), y = ix3 s q e := ⟨y 0, y 1, y 2, eq_ix3 y⟩
  rw [after0_7, outC_eq m c t (last7 t hf), emb7]

end Cert.Kernel7Ideal.XaW

end
-- ==== Proof.XaWRef.lean ====
/-
  The reference of the cross-attention weights' gradients, read at an index over the extended reals.
-/
module

public import proofs.«01_k».proof.Proof.Gen.Reference7Ideal.Read
public import Idealize.ShloMosaic.Lib.Pointwise
public import Idealize.ShloMosaic.Lib.IdealHost

@[expose] public section

set_option maxRecDepth 16384

noncomputable section

namespace Cert.Reference7Ideal.XaW

open Idealize.ShloMosaic Idealize.ShloMosaic.TcCoe
open Cert.Reference7Ideal Cert.Reference7Ideal.Read

variable (x0 x1 : S4096x1024.Idx → EReal) (x2 : S256x1024.Idx → EReal) (x3 x4 x5 : S1024.Idx → EReal) (x6 x7 x8 x9 : S1024x1024.Idx → EReal)

theorem query_apply (p : Fin 8) (f : Fin 128) (e : Fin 1024) :
    val_main_v139 (F := Ideal) x0 x1 x2 x3 x4 x5 x6 x7 x8 x9 (ix3 p ⟨f.val, by omega⟩ e)
      = ∑ r, val_main_v127 (F := Ideal) x0 x1 x2 x3 x4 x5 x6 x7 x8 x9 (ix2 r e) * val_main_v12 (F := Ideal) x1 x3 (ix2 r ⟨p.val * 128 + f.val, by omega⟩) := by
  pointwise [val_main_v139, val_main_v138, val_main_v134, val_main_v133, val_main_v132]

theorem key_apply (p : Fin 8) (f : Fin 128) (e : Fin 1024) :
    val_main_v139 (F := Ideal) x0 x1 x2 x3 x4 x5 x6 x7 x8 x9 (ix3 p ⟨128 + f.val, by omega⟩ e)
      = ∑ r, val_main_v126 (F := Ideal) x0 x1 x2 x3 x4 x5 x6 x7 x8 x9 (ix2 r e) * val_main_v25 (F := Ideal) x2 x5 (ix2 r ⟨p.val * 128 + f.val, by omega⟩) := by
  pointwise [val_main_v139, val_main_v138, val_main_v135, val_main_v131, val_main_v130]

theorem value_apply (p : Fin 8) (f : Fin 128) (e : Fin 1024) :
    val_main_v139 (F := Ideal) x0 x1 x2 x3 x4 x5 x6 x7 x8 x9 (ix3 p ⟨256 + f.val, by omega⟩ e)
      = ∑ r, val_main_v125 (F := Ideal) x0 x1 x2 x3 x4 x5 x6 x7 x8 x9 (ix2 r e) * val_main_v25 (F := Ideal) x2 x5 (ix2 r ⟨p.val * 128 + f.val, by omega⟩) := by
  pointwise [val_main_v139, val_main_v138, val_main_v136, val_main_v129, val_main_v128]
  have hf : 256 + f.val - 128 - 128 = f.val := by omega
  rw [dif_neg (by omega), dif_neg (by omega), dif_pos (by omega)]
  simp only [hf]

theorem out_apply (p : Fin 8) (f : Fin 128) (e : Fin 1024) :
    val_main_v139 (F := Ideal) x0 x1 x2 x3 x4 x5 x6 x7 x8 x9 (ix3 p ⟨384 + f.val, by omega⟩ e)
      = ∑ r, val_main_v98 (F := Ideal) x0 x1 x2 x3 x4 x5 x6 x7 x8 x9 (ix2 r e) * val_main_v65 (F := Ideal) x1 x2 x3 x5 x6 x7 x8 (ix2 r ⟨p.val * 128 + f.val, by omega⟩) := by
  pointwise [val_main_v139, val_main_v138, val_main_v137, val_main_v100, val_main_v99]
  have hf : 384 + f.val - 128 - 128 - 128 = f.val := by omega
  rw [dif_neg (by omega), dif_neg (by omega), dif_neg (by omega)]
  simp only [hf]

end Cert.Reference7Ideal.XaW

end
-- ==== Proof.XaWHost.lean ====
/-
  The arrays that the cross-attention weights' kernel is given are the reference's own stages.
-/
module

public import proofs.«01_k».proof.Proof.XaWArr
public import proofs.«01_k».proof.Proof.XaWRef
public import Idealize.ShloMosaic.Lib.Claim
public import Idealize.ShloMosaic.Lib.StableHlo.ReadAt

@[expose] public section

set_option maxRecDepth 16384

noncomputable section

namespace Cert.Kernel7Ideal.XaW

open Idealize.ShloMosaic Idealize.ShloMosaic.TcCoe Idealize.SL.Sem Idealize.ShloMosaic.Tactic
open Cert.Kernel7Ideal Cert.Kernel7Ideal.Gen Cert.Reference7Ideal.Read

variable (m : (ℓ : Loc nD τ sig) → Buf (Elt Ideal) ℓ) (c : Dev nD)

/-- The cotangent. -/
abbrev A0 : S4096x1024.Idx → EReal := m ((c : Thread nD τ).loc main_arg0)
/-- The block's input. -/
abbrev A1 : S4096x1024.Idx → EReal := m ((c : Thread nD τ).loc main_arg1)
/-- The memory. -/
abbrev A2 : S256x1024.Idx → EReal := m ((c : Thread nD τ).loc main_arg2)
/-- The gain before the block. -/
abbrev A3 : S1024.Idx → EReal := m ((c : Thread nD τ).loc main_arg3)
/-- The gain after the block. -/
abbrev A4 : S1024.Idx → EReal := m ((c : Thread nD τ).loc main_arg4)
/-- The memory's gain. -/
abbrev A5 : S1024.Idx → EReal := m ((c : Thread nD τ).loc main_arg5)
/-- The queries' weight. -/
abbrev A6 : S1024x1024.Idx → EReal := m ((c : Thread nD τ).loc main_arg6)
/-- The keys' weight. -/
abbrev A7 : S1024x1024.Idx → EReal := m ((c : Thread nD τ).loc main_arg7)
/-- The values' weight. -/
abbrev A8 : S1024x1024.Idx → EReal := m ((c : Thread nD τ).loc main_arg8)
/-- The projection's weight. -/
abbrev A9 : S1024x1024.Idx → EReal := m ((c : Thread nD τ).loc main_arg9)

theorem HB_eq : HB m c = val_main_v12 (F := Ideal) (A1 m c) (A3 m c) := by
  unfold HB
  unfold V
  after_reads_simp
  simp only [StableHlo.TRef.ofBuf_toBuf]
  simp only [StableHlo.TRef.toBuf, StableHlo.TRef.ofBuf, cast_eq]
  rfl

theorem DQ_eq : DQ m c = val_main_v127 (F := Ideal) (A0 m c) (A1 m c) (A2 m c) (A3 m c) (A4 m c) (A5 m c) (A6 m c) (A7 m c) (A8 m c) (A9 m c) := by
  unfold DQ
  unfold V
  after_reads_simp
  simp only [StableHlo.TRef.ofBuf_toBuf]
  simp only [StableHlo.TRef.toBuf, StableHlo.TRef.ofBuf, cast_eq]
  rfl

theorem OO_eq : OO m c = val_main_v65 (F := Ideal) (A1 m c) (A2 m c) (A3 m c) (A5 m c) (A6 m c) (A7 m c) (A8 m c) := by
  unfold OO
  unfold V
  after_reads_simp
  simp only [StableHlo.TRef.ofBuf_toBuf]
  simp only [StableHlo.TRef.toBuf, StableHlo.TRef.ofBuf, cast_eq]
  rfl

theorem DP_eq : DP m c = val_main_v98 (F := Ideal) (A0 m c) (A1 m c) (A2 m c) (A3 m c) (A4 m c) (A5 m c) (A6 m c) (A7 m c) (A8 m c) (A9 m c) := by
  unfold DP
  unfold V
  after_reads_simp
  simp only [StableHlo.TRef.ofBuf_toBuf]
  simp only [StableHlo.TRef.toBuf, StableHlo.TRef.ofBuf, cast_eq]
  rfl

theorem MN_eq : MN m c = val_main_v25 (F := Ideal) (A2 m c) (A5 m c) := by
  unfold MN
  unfold V
  after_reads_simp
  simp only [StableHlo.TRef.ofBuf_toBuf]
  simp only [StableHlo.TRef.toBuf, StableHlo.TRef.ofBuf, cast_eq]
  rfl

theorem DK_eq : DK m c = val_main_v126 (F := Ideal) (A0 m c) (A1 m c) (A2 m c) (A3 m c) (A4 m c) (A5 m c) (A6 m c) (A7 m c) (A8 m c) (A9 m c) := by
  unfold DK
  unfold V
  after_reads_simp
  simp only [StableHlo.TRef.ofBuf_toBuf]
  simp only [StableHlo.TRef.toBuf, StableHlo.TRef.ofBuf, cast_eq]
  rfl

theorem DV_eq : DV m c = val_main_v125 (F := Ideal) (A0 m c) (A1 m c) (A2 m c) (A3 m c) (A4 m c) (A5 m c) (A6 m c) (A7 m c) (A8 m c) (A9 m c) := by
  unfold DV
  unfold V
  after_reads_simp
  simp only [StableHlo.TRef.ofBuf_toBuf]
  simp only [StableHlo.TRef.toBuf, StableHlo.TRef.ofBuf, cast_eq]
  rfl

end Cert.Kernel7Ideal.XaW

end
-- ==== Proof.XaWClaim.lean ====
/-
  The cross-attention weights' gradients: the kernel's result is the reference's, and the claims on this call.
-/
module

public import proofs.«01_k».proof.Defs
public import proofs.«01_k».proof.Proof.XaWHost
public import proofs.«01_k».proof.Proof.Gen.Kernel7.Frame
public import proofs.«01_k».proof.Proof.Gen.Kernel7Ideal.Value
public import proofs.«01_k».proof.Proof.Gen.Reference7Ideal.Run

@[expose] public section

set_option maxRecDepth 16384

noncomputable section

namespace Cert.Kernel7Ideal.XaW

open Idealize.ShloMosaic Idealize.ShloMosaic.TcCoe Idealize.SL.Sem Idealize.ShloMosaic.Tactic
open Cert.Kernel7Ideal Cert.Kernel7Ideal.Gen Cert.Reference7Ideal.Read

variable (m : (ℓ : Loc nD τ sig) → Buf (Elt Ideal) ℓ) (c : Dev nD)

/-- An entry of the gradients: which of the four, and the shard's row. -/
theorem gwG_apply (p : Fin 8) (q : Fin 512) (e : Fin 1024) (b : Fin 4) (f : Fin 128) (hq : q.val = b.val * 128 + f.val) :
    gwG m c (ix3 p q e) = pick (gram (HB m c) (DQ m c)) (gram (MN m c) (DK m c)) (gram (MN m c) (DV m c)) (gram (OO m c) (DP m c)) b
      (ix2 ⟨p.val * 128 + f.val, by omega⟩ e) := by
  have e1 : (⟨q.val / 128, by omega⟩ : Fin 4) = b := Fin.ext (by show q.val / 128 = b.val; omega)
  have e2 : (⟨p.val * 128 + q.val % 128, by omega⟩ : Fin 1024) = ⟨p.val * 128 + f.val, by omega⟩ := Fin.ext (by show p.val * 128 + q.val % 128 = p.val * 128 + f.val; clear e1; omega)
  exact congr (congrArg _ e1) (congrArg (fun r => ix2 r e) e2)

theorem query (p : Fin 8) (f : Fin 128) (e : Fin 1024) : gwG m c (ix3 p ⟨f.val, by omega⟩ e)
    = val_main_v139 (F := Ideal) (A0 m c) (A1 m c) (A2 m c) (A3 m c) (A4 m c) (A5 m c) (A6 m c) (A7 m c) (A8 m c) (A9 m c) (ix3 p ⟨f.val, by omega⟩ e) := by
  rw [Cert.Reference7Ideal.XaW.query_apply, gwG_apply m c p _ e 0 f (by simp)]
  show gram (HB m c) (DQ m c) _ = _
  unfold gram
  exact Finset.sum_congr rfl fun r _ => (congrArg₂ (· * ·) (congrFun (HB_eq m c) _) (congrFun (DQ_eq m c) _)).trans (mul_comm _ _)

theorem key (p : Fin 8) (f : Fin 128) (e : Fin 1024) : gwG m c (ix3 p ⟨128 + f.val, by omega⟩ e)
    = val_main_v139 (F := Ideal) (A0 m c) (A1 m c) (A2 m c) (A3 m c) (A4 m c) (A5 m c) (A6 m c) (A7 m c) (A8 m c) (A9 m c) (ix3 p ⟨128 + f.val, by omega⟩ e) := by
  rw [Cert.Reference7Ideal.XaW.key_apply, gwG_apply m c p _ e 1 f (by simp)]
  show gram (MN m c) (DK m c) _ = _
  unfold gram
  exact Finset.sum_congr rfl fun r _ => (congrArg₂ (· * ·) (congrFun (MN_eq m c) _) (congrFun (DK_eq m c) _)).trans (mul_comm _ _)

theorem value (p : Fin 8) (f : Fin 128) (e : Fin 1024) : gwG m c (ix3 p ⟨256 + f.val, by omega⟩ e)
    = val_main_v139 (F := Ideal) (A0 m c) (A1 m c) (A2 m c) (A3 m c) (A4 m c) (A5 m c) (A6 m c) (A7 m c) (A8 m c) (A9 m c) (ix3 p ⟨256 + f.val, by omega⟩ e) := by
  rw [Cert.Reference7Ideal.XaW.value_apply, gwG_apply m c p _ e 2 f (by simp)]
  show gram (MN m c) (DV m c) _ = _
  unfold gram
  exact Finset.sum_congr rfl fun r _ => (congrArg₂ (· * ·) (congrFun (MN_eq m c) _) (congrFun (DV_eq m c) _)).trans (mul_comm _ _)

theorem out (p : Fin 8) (f : Fin 128) (e : Fin 1024) : gwG m c (ix3 p ⟨384 + f.val, by omega⟩ e)
    = val_main_v139 (F := Ideal) (A0 m c) (A1 m c) (A2 m c) (A3 m c) (A4 m c) (A5 m c) (A6 m c) (A7 m c) (A8 m c) (A9 m c) (ix3 p ⟨384 + f.val, by omega⟩ e) := by
  rw [Cert.Reference7Ideal.XaW.out_apply, gwG_apply m c p _ e 3 f (by simp)]
  show gram (OO m c) (DP m c) _ = _
  unfold gram
  exact Finset.sum_congr rfl fun r _ => (congrArg₂ (· * ·) (congrFun (OO_eq m c) _) (congrFun (DP_eq m c) _)).trans (mul_comm _ _)

theorem res : gwG m c = val_main_v139 (F := Ideal) (A0 m c) (A1 m c) (A2 m c) (A3 m c) (A4 m c) (A5 m c) (A6 m c) (A7 m c) (A8 m c) (A9 m c) := by
  funext y
  obtain ⟨p, q, e, rfl⟩ : ∃ (p : Fin 8) (q : Fin 512) (e : Fin 1024), y = ix3 p q e := ⟨y 0, y 1, y 2, eq_ix3 y⟩
  obtain ⟨b, f, hq⟩ : ∃ (b : Fin 4) (f : Fin 128), q.val = b.val * 128 + f.val :=
    ⟨⟨q.val / 128, by omega⟩, ⟨q.val % 128, by omega⟩, by show q.val = q.val / 128 * 128 + q.val % 128; omega⟩
  obtain ⟨q, hlt⟩ := q
  fin_cases b
  · obtain rfl : q = f.val := hq.trans (by simp)
    exact query m c p f e
  · obtain rfl : q = 128 + f.val := hq
    exact key m c p f e
  · obtain rfl : q = 256 + f.val := hq
    exact value m c p f e
  · obtain rfl : q = 384 + f.val := hq
    exact out m c p f e

end Cert.Kernel7Ideal.XaW

namespace Cert.XaWClaim

open Idealize.ShloMosaic Idealize.ShloMosaic.TcCoe Idealize.SL.Sem Idealize.ShloMosaic.Tactic
open Cert.Reference7Ideal.Read

theorem frame_p : Cert.quiescent_Kernel7 := fun m ρ _ => Cert.Kernel7.Gen.frame m ρ

theorem frame_pi : Cert.quiescent_Kernel7Ideal := fun m ρ _ => Cert.Kernel7Ideal.Gen.frame m ρ

theorem frame_ri : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- Equal arguments give equal results. -/
theorem algebraic : Cert.algebraic_Kernel7Ideal_Reference7Ideal := by
  intro m g m' g' _ hagree
  have hV : ∀ c : Dev Cert.Kernel7Ideal.nD,
      StableHlo.launchContents m' c (Proc.devRef .tc Cert.Reference7Ideal.main_arg0) = Cert.Kernel7Ideal.XaW.A0 m c
      ∧ StableHlo.launchContents m' c (Proc.devRef .tc Cert.Reference7Ideal.main_arg1) = Cert.Kernel7Ideal.XaW.A1 m c
      ∧ StableHlo.launchContents m' c (Proc.devRef .tc Cert.Reference7Ideal.main_arg2) = Cert.Kernel7Ideal.XaW.A2 m c
      ∧ StableHlo.launchContents m' c (Proc.devRef .tc Cert.Reference7Ideal.main_arg3) = Cert.Kernel7Ideal.XaW.A3 m c
      ∧ StableHlo.launchContents m' c (Proc.devRef .tc Cert.Reference7Ideal.main_arg4) = Cert.Kernel7Ideal.XaW.A4 m c
      ∧ StableHlo.launchContents m' c (Proc.devRef .tc Cert.Reference7Ideal.main_arg5) = Cert.Kernel7Ideal.XaW.A5 m c
      ∧ StableHlo.launchContents m' c (Proc.devRef .tc Cert.Reference7Ideal.main_arg6) = Cert.Kernel7Ideal.XaW.A6 m c
      ∧ StableHlo.launchContents m' c (Proc.devRef .tc Cert.Reference7Ideal.main_arg7) = Cert.Kernel7Ideal.XaW.A7 m c
      ∧ StableHlo.launchContents m' c (Proc.devRef .tc Cert.Reference7Ideal.main_arg8) = Cert.Kernel7Ideal.XaW.A8 m c
      ∧ StableHlo.launchContents m' c (Proc.devRef .tc Cert.Reference7Ideal.main_arg9) = Cert.Kernel7Ideal.XaW.A9 m c := hagree
  refine ⟨fun c => Cert.Kernel7Ideal.XaW.gwG m c, ?_, ?_⟩
  · refine (θ_run Cert.Kernel7Ideal.defs _ _).mono (fun r h c => ?_) (Cert.Kernel7Ideal.Value.run_blocks m g)
    obtain ⟨h0, h1⟩ := h c
    exact ⟨h0.trans (Cert.Kernel7Ideal.XaW.final7 m c), h1⟩
  · refine (θ_run Cert.Reference7Ideal.defs _ _).mono (fun r h c => ?_) (Cert.Reference7Ideal.Value.run (F := Ideal) m' g')
    obtain ⟨h0, h1⟩ := h c
    obtain ⟨e0, e1, e2, e3, e4, e5, e6, e7, e8, e9⟩ := hV c
    refine ⟨h0.trans ((val_main_v139_eq _).trans ?_), h1⟩
    rw [e0, e1, e2, e3, e4, e5, e6, e7, e8, e9]
    exact (Cert.Kernel7Ideal.XaW.res m c).symm

end Cert.XaWClaim

end
-- ==== Proof.StepClaim.lean ====
/-
  One step of the optimiser: the kernel's results are the reference's, entry by entry, and the claims on these calls.
-/
module

public import proofs.«01_k».proof.Defs
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Kernel17.Frame
public import proofs.«01_k».proof.Proof.Gen.Kernel17Ideal.Value
public import proofs.«01_k».proof.Proof.Gen.Reference17Ideal.Run
public import Idealize.ShloMosaic.Lib.Claim
public import Idealize.ShloMosaic.Lib.Pointwise

@[expose] public section

set_option maxRecDepth 16384

noncomputable section

open Idealize.ShloMosaic Idealize.ShloMosaic.TcCoe Idealize.SL.Sem Idealize.ShloMosaic.Tactic

/-! ## One entry's step -/

namespace Cert.Step

/-- The first moment after the step. -/
def mom1 (g p : EReal) : EReal := Ideal.ofBits .f32 0x3F666666#32 * p + Ideal.ofBits .f32 0x3DCCCCCD#32 * g
/-- The second moment after the step. -/
def mom2 (g q : EReal) : EReal := Ideal.ofBits .f32 0x3F7FBE77#32 * q + Ideal.ofBits .f32 0x3A83126F#32 * (g * g)
/-- The change of the weight. -/
def chg (w g p q : EReal) : EReal :=
  Ideal.ofBits .f32 0xBA83126F#32 * (Ideal.div (Ideal.div (mom1 g p) (Ideal.ofBits .f32 0x3F26BD02#32))
    (FloatOps.sqrt (F := Ideal) (φ := .f32) (Ideal.div (mom2 g q) (Ideal.ofBits .f32 0x3C231ACC#32)) + Ideal.ofBits .f32 0x322BCC77#32)
    + Ideal.ofBits .f32 0x3C23D70A#32 * w)

/-- Results that are the step of one tuple of arrays are the step of an equal tuple. -/
theorem agree {S : Shape} {w g p q w' g' p' q' r0 r1 r2 : S.Idx → EReal} {P : Prop} (e : w' = w ∧ g' = g ∧ p' = p ∧ q' = q)
    (h : (r0 = fun y => chg (w' y) (g' y) (p' y) (q' y)) ∧ (r1 = fun y => mom1 (g' y) (p' y)) ∧ (r2 = fun y => mom2 (g' y) (q' y)) ∧ P) :
    (r0 = fun y => chg (w y) (g y) (p y) (q y)) ∧ (r1 = fun y => mom1 (g y) (p y)) ∧ (r2 = fun y => mom2 (g y) (q y)) ∧ P := by
  obtain ⟨rfl, rfl, rfl, rfl⟩ := e
  exact h

end Cert.Step

open Cert.Step (agree)

/-! ## The gains of 1024 entries -/

namespace Cert.Step8Claim

theorem frame_ri : Cert.quiescent_Reference8Ideal := fun m ρ _ =>
  (θ_run Cert.Reference8Ideal.defs _ _).mono (fun r h => ⟨fun c => (h c).2.2.2, sem_eq_zero_of_no_sems (by decide) r.2⟩)
    (Cert.Reference8Ideal.Value.run (F := Ideal) m ρ)

/-- Equal arguments give equal results. -/
theorem algebraic : Cert.algebraic_Kernel8Ideal_Reference8Ideal := by
  intro m g m' g' _ hagree
  refine ⟨_, _, _, Cert.Kernel8Ideal.Value.run (F := Ideal) m g, ?_⟩
  refine (θ_run Cert.Reference8Ideal.defs _ _).mono (fun r h c => ?_) (Cert.Reference8Ideal.Value.run (F := Ideal) m' g')
  exact (agree (hagree c) (h c) :)

end Cert.Step8Claim

/-! ## The rows of 512 entries -/

namespace Cert.Step9Claim

theorem frame_ri : Cert.quiescent_Reference9Ideal := fun m ρ _ =>
  (θ_run Cert.Reference9Ideal.defs _ _).mono (fun r h => ⟨fun c => (h c).2.2.2, sem_eq_zero_of_no_sems (by decide) r.2⟩)
    (Cert.Reference9Ideal.Value.run (F := Ideal) m ρ)

/-- Equal arguments give equal results. -/
theorem algebraic : Cert.algebraic_Kernel9Ideal_Reference9Ideal := by
  intro m g m' g' _ hagree
  refine ⟨_, _, _, Cert.Kernel9Ideal.Value.run (F := Ideal) m g, ?_⟩
  refine (θ_run Cert.Reference9Ideal.defs _ _).mono (fun r h c => ?_) (Cert.Reference9Ideal.Value.run (F := Ideal) m' g')
  exact (agree (hagree c) (h c) :)

end Cert.Step9Claim

/-! ## The mixers' input weights and gate weights -/

namespace Cert.Step10Claim

theorem frame_ri : Cert.quiescent_Reference10Ideal := fun m ρ _ =>
  (θ_run Cert.Reference10Ideal.defs _ _).mono (fun r h => ⟨fun c => (h c).2.2.2, sem_eq_zero_of_no_sems (by decide) r.2⟩)
    (Cert.Reference10Ideal.Value.run (F := Ideal) m ρ)

/-- Equal arguments give equal results. -/
theorem algebraic : Cert.algebraic_Kernel10Ideal_Reference10Ideal := by
  intro m g m' g' _ hagree
  refine ⟨_, _, _, Cert.Kernel10Ideal.Value.run (F := Ideal) m g, ?_⟩
  refine (θ_run Cert.Reference10Ideal.defs _ _).mono (fun r h c => ?_) (Cert.Reference10Ideal.Value.run (F := Ideal) m' g')
  exact (agree (hagree c) (h c) :)

end Cert.Step10Claim

/-! ## The gates' biases -/

namespace Cert.Step12Claim

theorem frame_ri : Cert.quiescent_Reference12Ideal := fun m ρ _ =>
  (θ_run Cert.Reference12Ideal.defs _ _).mono (fun r h => ⟨fun c => (h c).2.2.2, sem_eq_zero_of_no_sems (by decide) r.2⟩)
    (Cert.Reference12Ideal.Value.run (F := Ideal) m ρ)

/-- Equal arguments give equal results. -/
theorem algebraic : Cert.algebraic_Kernel12Ideal_Reference12Ideal := by
  intro m g m' g' _ hagree
  refine ⟨_, _, _, Cert.Kernel12Ideal.Value.run (F := Ideal) m g, ?_⟩
  refine (θ_run Cert.Reference12Ideal.defs _ _).mono (fun r h c => ?_) (Cert.Reference12Ideal.Value.run (F := Ideal) m' g')
  exact (agree (hagree c) (h c) :)

end Cert.Step12Claim

/-! ## The pooling weights and the spatial weights -/

namespace Cert.Step13Claim

theorem frame_ri : Cert.quiescent_Reference13Ideal := fun m ρ _ =>
  (θ_run Cert.Reference13Ideal.defs _ _).mono (fun r h => ⟨fun c => (h c).2.2.2, sem_eq_zero_of_no_sems (by decide) r.2⟩)
    (Cert.Reference13Ideal.Value.run (F := Ideal) m ρ)

/-- Equal arguments give equal results. -/
theorem algebraic : Cert.algebraic_Kernel13Ideal_Reference13Ideal := by
  intro m g m' g' _ hagree
  refine ⟨_, _, _, Cert.Kernel13Ideal.Value.run (F := Ideal) m g, ?_⟩
  refine (θ_run Cert.Reference13Ideal.defs _ _).mono (fun r h c => ?_) (Cert.Reference13Ideal.Value.run (F := Ideal) m' g')
  exact (agree (hagree c) (h c) :)

end Cert.Step13Claim

/-! ## The branch weights -/

namespace Cert.Step14Claim

theorem frame_ri : Cert.quiescent_Reference14Ideal := fun m ρ _ =>
  (θ_run Cert.Reference14Ideal.defs _ _).mono (fun r h => ⟨fun c => (h c).2.2.2, sem_eq_zero_of_no_sems (by decide) r.2⟩)
    (Cert.Reference14Ideal.Value.run (F := Ideal) m ρ)

/-- Equal arguments give equal results. -/
theorem algebraic : Cert.algebraic_Kernel14Ideal_Reference14Ideal := by
  intro m g m' g' _ hagree
  refine ⟨_, _, _, Cert.Kernel14Ideal.Value.run (F := Ideal) m g, ?_⟩
  refine (θ_run Cert.Reference14Ideal.defs _ _).mono (fun r h c => ?_) (Cert.Reference14Ideal.Value.run (F := Ideal) m' g')
  exact (agree (hagree c) (h c) :)

end Cert.Step14Claim

/-! ## The spatial biases -/

namespace Cert.Step15Claim

theorem frame_ri : Cert.quiescent_Reference15Ideal := fun m ρ _ =>
  (θ_run Cert.Reference15Ideal.defs _ _).mono (fun r h => ⟨fun c => (h c).2.2.2, sem_eq_zero_of_no_sems (by decide) r.2⟩)
    (Cert.Reference15Ideal.Value.run (F := Ideal) m ρ)

/-- Equal arguments give equal results. -/
theorem algebraic : Cert.algebraic_Kernel15Ideal_Reference15Ideal := by
  intro m g m' g' _ hagree
  refine ⟨_, _, _, Cert.Kernel15Ideal.Value.run (F := Ideal) m g, ?_⟩
  refine (θ_run Cert.Reference15Ideal.defs _ _).mono (fun r h c => ?_) (Cert.Reference15Ideal.Value.run (F := Ideal) m' g')
  exact (agree (hagree c) (h c) :)

end Cert.Step15Claim

/-! ## The first convolution's weights -/

namespace Cert.Step16Claim

theorem frame_ri : Cert.quiescent_Reference16Ideal := fun m ρ _ =>
  (θ_run Cert.Reference16Ideal.defs _ _).mono (fun r h => ⟨fun c => (h c).2.2.2, sem_eq_zero_of_no_sems (by decide) r.2⟩)
    (Cert.Reference16Ideal.Value.run (F := Ideal) m ρ)

/-- Equal arguments give equal results. -/
theorem algebraic : Cert.algebraic_Kernel16Ideal_Reference16Ideal := by
  intro m g m' g' _ hagree
  refine ⟨_, _, _, Cert.Kernel16Ideal.Value.run (F := Ideal) m g, ?_⟩
  refine (θ_run Cert.Reference16Ideal.defs _ _).mono (fun r h c => ?_) (Cert.Reference16Ideal.Value.run (F := Ideal) m' g')
  exact (agree (hagree c) (h c) :)

end Cert.Step16Claim

/-! ## The second convolution's weights -/

namespace Cert.Step17Claim

theorem frame_ri : Cert.quiescent_Reference17Ideal := fun m ρ _ =>
  (θ_run Cert.Reference17Ideal.defs _ _).mono (fun r h => ⟨fun c => (h c).2.2.2, sem_eq_zero_of_no_sems (by decide) r.2⟩)
    (Cert.Reference17Ideal.Value.run (F := Ideal) m ρ)

/-- Equal arguments give equal results. -/
theorem algebraic : Cert.algebraic_Kernel17Ideal_Reference17Ideal := by
  intro m g m' g' _ hagree
  refine ⟨_, _, _, Cert.Kernel17Ideal.Value.run (F := Ideal) m g, ?_⟩
  refine (θ_run Cert.Reference17Ideal.defs _ _).mono (fun r h c => ?_) (Cert.Reference17Ideal.Value.run (F := Ideal) m' g')
  exact (agree (hagree c) (h c) :)

end Cert.Step17Claim

end
-- ==== Proof.FfnFBlock.lean ====
/-
  What the feed-forward half step's kernel computes on one tile of 512 rows and one group of 704 hidden columns, and what it leaves in
  its scratch and in its outputs' blocks at one grid point, over the extended reals.
-/
module

public import proofs.«01_k».proof.Proof.Gen.Kernel11Ideal.Frame
public import proofs.«01_k».proof.Proof.FfnABlock

@[expose] public section

set_option maxRecDepth 16384

noncomputable section

namespace Cert.Kernel11Ideal.FfnF

open Idealize.ShloMosaic Idealize.ShloMosaic.TcCoe Idealize.SL.Sem Idealize.ShloMosaic.Tactic
open Cert.Kernel11Ideal Cert.Kernel11Ideal.Gen
open Cert.KernelIdeal.Merge (eps width_word eps_word)
open Cert.Kernel2Ideal.FfnW (hz2 hz3)
open Cert.Kernel5Ideal.FfnA (half silu whole cov_whole canon2 canon3)

/-- A row over its root mean square. -/
abbrev unitRow (x : Fin 1024 → EReal) (e : Fin 1024) : EReal := x e * Ideal.rsqrt (RmsBwd.q 1024 eps x)

variable (x0 : Vec Ideal S512x1024 .f32) (x1 x2 : Vec Ideal S1x1024 .f32) (x3 x4 x5 : Vec Ideal S2x352x1024 .bf16)
  (d : Vec Ideal S512x1024 .bf16) (xs : Vec Ideal S512x1024 .f32)

/-- The normed input with its gain, as a tile. -/
abbrev hV : Vec Ideal S512x1024 .bf16 := fun y => unitRow (fun j => x0 (ix2 (y 0) j)) (y 1) * x1 (ix2 0 (y 1))

theorem pay4_eq : k0_pay4 (F := Ideal) x0 x1 = hV x0 x1 := by
  funext y
  obtain ⟨r, e, rfl⟩ : ∃ (r : Fin 512) (e : Fin 1024), y = ix2 r e := ⟨y 0, y 1, eq_ix2 y⟩
  show _ = unitRow (fun j => x0 (ix2 r j)) e * x1 (ix2 0 e)
  unfold unitRow RmsBwd.q
  rw [← width_word, ← eps_word]
  pointwise [k0_pay4]

/-- A hidden product. -/
abbrev hidT (w : Vec Ideal S2x352x1024 .bf16) (r : Fin 512) (g : Fin 704) : EReal :=
  ∑ j : Fin 1024, d (ix2 r j) * w (ix3 ⟨g.val / 352, by omega⟩ ⟨g.val % 352, by omega⟩ j)

theorem pay6_apply (r : Fin 512) (g : Fin 704) : k0_pay6 (F := Ideal) d x3 (ix2 r g) = hidT d x3 r g := by
  pointwise [k0_pay6]
theorem pay7_apply (r : Fin 512) (g : Fin 704) : k0_pay7 (F := Ideal) d x4 (ix2 r g) = hidT d x4 r g := by
  pointwise [k0_pay7]
theorem pay8_apply (r : Fin 512) (g : Fin 704) : k0_pay8 (F := Ideal) d x3 (ix3 0 r g) = hidT d x3 r g := by
  rw [← pay6_apply]
  pointwise [k0_pay8]
theorem pay9_apply (r : Fin 512) (g : Fin 704) : k0_pay9 (F := Ideal) d x4 (ix3 0 r g) = hidT d x4 r g := by
  rw [← pay7_apply]
  pointwise [k0_pay9]

/-- The gated activation. -/
abbrev actT (r : Fin 512) (g : Fin 704) : EReal := silu (hidT d x3 r g) * hidT d x4 r g

theorem pay10_apply (r : Fin 512) (g : Fin 704) : k0_pay10 (F := Ideal) d x3 x4 (ix2 r g) = actT x3 x4 d r g := by
  unfold actT
  rw [← pay6_apply, ← pay7_apply]
  pointwise [k0_pay10]

/-- One group's part of the second product. -/
abbrev tile (r : Fin 512) (e : Fin 1024) : EReal :=
  ∑ g : Fin 704, actT x3 x4 d r g * x5 (ix3 ⟨g.val / 352, by omega⟩ ⟨g.val % 352, by omega⟩ e)

/-- The accumulator with one more group's part. -/
abbrev accT : Vec Ideal S512x1024 .f32 := fun y => xs y + tile x3 x4 x5 d (y 0) (y 1)

theorem pay1_eq : k0_pay1 (F := Ideal) (k0_pay10 d x3 x4) xs (k0_pay11 x5) = accT x3 x4 x5 d xs := by
  funext y
  obtain ⟨r, e, rfl⟩ : ∃ (r : Fin 512) (e : Fin 1024), y = ix2 r e := ⟨y 0, y 1, eq_ix2 y⟩
  show _ = xs (ix2 r e) + tile x3 x4 x5 d r e
  unfold tile
  simp only [← pay10_apply]
  pointwise [k0_pay1, k0_pay11]

theorem pay5_apply (y : S512x1024.Idx) : k0_pay5 (F := Ideal) y = 0 := by
  rw [eq_ix2 y]
  pointwise [k0_pay5]

/-- The block's output from the second product. -/
abbrev xoT (acc : Vec Ideal S512x1024 .f32) (r : Fin 512) (e : Fin 1024) : EReal :=
  x0 (ix2 r e) + half * (unitRow (fun j => acc (ix2 r j)) e * x2 (ix2 0 e))

theorem pay3_apply (acc : Vec Ideal S512x1024 .f32) (r : Fin 512) (e : Fin 1024) :
    k0_pay3 (F := Ideal) acc x0 x2 (ix2 r e) = xoT x0 x2 acc r e := by
  unfold xoT unitRow RmsBwd.q
  rw [← width_word, ← eps_word]
  pointwise [k0_pay3]

theorem pay2_eq (acc : Vec Ideal S512x1024 .f32) : k0_pay2 (F := Ideal) acc = (acc : S512x1024.Idx → EReal) := rfl

variable (c : Dev nD) (i : grid0.Coords)
  (a2 : Memref sig .tc .vmem S512x1024 .f32) (h2 : a2.IsWhole) (a3 : Memref sig .tc .vmem S1x1024 .f32) (h3 : a3.IsWhole)
  (a4 : Memref sig .tc .vmem S1x1024 .f32) (h4 : a4.IsWhole) (a5 : Memref sig .tc .vmem S2x352x1024 .bf16) (h5 : a5.IsWhole)
  (a6 : Memref sig .tc .vmem S2x352x1024 .bf16) (h6 : a6.IsWhole) (a7 : Memref sig .tc .vmem S2x352x1024 .bf16) (h7 : a7.IsWhole)
  (a9 : Memref sig .tc .vmem S512x1024 .f32) (h9 : a9.IsWhole) (a10 : Memref sig .tc .vmem S512x1024 .bf16) (h10 : a10.IsWhole)
  (a11 : Memref sig .tc .vmem S1x512x704 .bf16) (h11 : a11.IsWhole) (a12 : Memref sig .tc .vmem S1x512x704 .bf16) (h12 : a12.IsWhole)
  (a13 : Memref sig .tc .vmem S512x1024 .bf16) (h13 : a13.IsWhole) (a14 : Memref sig .tc .vmem S512x1024 .bf16) (h14 : a14.IsWhole)
  (a15 : Memref sig .tc .vmem S512x1024 .f32) (h15 : a15.IsWhole)

/-- What a tile's first point leaves: the normed input, its two hidden products, and the first group's part. -/
theorem outs_A (hc0 : cond0_0 i) (hc1 : ¬cond0_1 i) :
    sout0_A_0 (F := Ideal) c i a2 h2 a3 h3 a4 h4 a5 h5 a6 h6 a7 h7 a9 h9 a10 h10 a11 h11 a12 h12 a13 h13 a14 h14 a15 h15 hc0 hc1 x0 x1 x2 x3 x4 x5 = hV x0 x1
    ∧ out0_A_7 (F := Ideal) c i a2 h2 a3 h3 a4 h4 a5 h5 a6 h6 a7 h7 a9 h9 a10 h10 a11 h11 a12 h12 a13 h13 a14 h14 a15 h15 hc0 hc1 x0 x1 x2 x3 x4 x5 = hV x0 x1
    ∧ (∀ r e, sout0_A_1 (F := Ideal) c i a2 h2 a3 h3 a4 h4 a5 h5 a6 h6 a7 h7 a9 h9 a10 h10 a11 h11 a12 h12 a13 h13 a14 h14 a15 h15 hc0 hc1 x0 x1 x2 x3 x4 x5 (ix2 r e) = tile x3 x4 x5 (hV x0 x1) r e)
    ∧ (∀ r g, out0_A_8 (F := Ideal) c i a2 h2 a3 h3 a4 h4 a5 h5 a6 h6 a7 h7 a9 h9 a10 h10 a11 h11 a12 h12 a13 h13 a14 h14 a15 h15 hc0 hc1 x0 x1 x2 x3 x4 x5 (ix3 0 r g) = hidT (hV x0 x1) x3 r g)
    ∧ (∀ r g, out0_A_9 (F := Ideal) c i a2 h2 a3 h3 a4 h4 a5 h5 a6 h6 a7 h7 a9 h9 a10 h10 a11 h11 a12 h12 a13 h13 a14 h14 a15 h15 hc0 hc1 x0 x1 x2 x3 x4 x5 (ix3 0 r g) = hidT (hV x0 x1) x4 r g) := by
  refine ⟨?_, ?_, fun r e => ?_, fun r g => ?_, fun r g => ?_⟩
  · unfold sout0_A_0
    rw [View.read_writes_eq_canon _ _ _ fun y => scover0_A_0 ..]
    unfold kernelRun0_A
    dsimp only
    sl_unfold_words
    simp only [View.readAt_eq_ld, Memref.IsWhole.read_unread, View.ld_unit_zero (S := S512x1024) hz2, View.ld_unit_zero (S := S1x1024) hz2,
      View.ld_unit_zero (S := S2x352x1024) hz3, canon2, canon3, cov_whole, pay4_eq, pay1_eq]
  · unfold out0_A_7
    rw [View.read_writes_eq_canon _ _ _ fun y => cover0_A_7 ..]
    unfold kernelRun0_A
    dsimp only
    sl_unfold_words
    simp only [View.readAt_eq_ld, Memref.IsWhole.read_unread, View.ld_unit_zero (S := S512x1024) hz2, View.ld_unit_zero (S := S1x1024) hz2,
      View.ld_unit_zero (S := S2x352x1024) hz3, canon2, canon3, cov_whole, pay4_eq, pay1_eq]
  · unfold sout0_A_1
    rw [View.read_writes_eq_canon _ _ _ fun y => scover0_A_1 ..]
    unfold kernelRun0_A
    dsimp only
    sl_unfold_words
    simp only [View.readAt_eq_ld, Memref.IsWhole.read_unread, View.ld_unit_zero (S := S512x1024) hz2, View.ld_unit_zero (S := S1x1024) hz2,
      View.ld_unit_zero (S := S2x352x1024) hz3, canon2, canon3, cov_whole, pay4_eq, pay1_eq]
    refine (whole _ _ r e).trans ?_
    exact (congrArg (· + _) (pay5_apply _)).trans (zero_add _)
  · unfold out0_A_8
    rw [View.read_writes_eq_canon _ _ _ fun y => cover0_A_8 ..]
    unfold kernelRun0_A
    dsimp only
    sl_unfold_words
    simp only [View.readAt_eq_ld, Memref.IsWhole.read_unread, View.ld_unit_zero (S := S512x1024) hz2, View.ld_unit_zero (S := S1x1024) hz2,
      View.ld_unit_zero (S := S2x352x1024) hz3, canon2, canon3, cov_whole, pay4_eq, pay1_eq]
    exact pay8_apply _ _ r g
  · unfold out0_A_9
    rw [View.read_writes_eq_canon _ _ _ fun y => cover0_A_9 ..]
    unfold kernelRun0_A
    dsimp only
    sl_unfold_words
    simp only [View.readAt_eq_ld, Memref.IsWhole.read_unread, View.ld_unit_zero (S := S512x1024) hz2, View.ld_unit_zero (S := S1x1024) hz2,
      View.ld_unit_zero (S := S2x352x1024) hz3, canon2, canon3, cov_whole, pay4_eq, pay1_eq]
    exact pay9_apply _ _ r g

/-- What a middle point leaves: the normed input kept, the group's hidden products, one more part in the accumulator. -/
theorem outs_B (hc0 : ¬cond0_0 i) (hc1 : ¬cond0_1 i) :
    sout0_B_0 (F := Ideal) c i a2 h2 a3 h3 a4 h4 a5 h5 a6 h6 a7 h7 a9 h9 a10 h10 a11 h11 a12 h12 a13 h13 a14 h14 a15 h15 hc0 hc1 x0 x1 x2 x3 x4 x5 d xs = d
    ∧ out0_B_7 (F := Ideal) c i a2 h2 a3 h3 a4 h4 a5 h5 a6 h6 a7 h7 a9 h9 a10 h10 a11 h11 a12 h12 a13 h13 a14 h14 a15 h15 hc0 hc1 x0 x1 x2 x3 x4 x5 d xs = d
    ∧ sout0_B_1 (F := Ideal) c i a2 h2 a3 h3 a4 h4 a5 h5 a6 h6 a7 h7 a9 h9 a10 h10 a11 h11 a12 h12 a13 h13 a14 h14 a15 h15 hc0 hc1 x0 x1 x2 x3 x4 x5 d xs = accT x3 x4 x5 d xs
    ∧ (∀ r g, out0_B_8 (F := Ideal) c i a2 h2 a3 h3 a4 h4 a5 h5 a6 h6 a7 h7 a9 h9 a10 h10 a11 h11 a12 h12 a13 h13 a14 h14 a15 h15 hc0 hc1 x0 x1 x2 x3 x4 x5 d xs (ix3 0 r g) = hidT d x3 r g)
    ∧ (∀ r g, out0_B_9 (F := Ideal) c i a2 h2 a3 h3 a4 h4 a5 h5 a6 h6 a7 h7 a9 h9 a10 h10 a11 h11 a12 h12 a13 h13 a14 h14 a15 h15 hc0 hc1 x0 x1 x2 x3 x4 x5 d xs (ix3 0 r g) = hidT d x4 r g) := by
  refine ⟨rfl, ?_, ?_, fun r g => ?_, fun r g => ?_⟩
  · unfold out0_B_7
    rw [View.read_writes_eq_canon _ _ _ fun y => cover0_B_7 ..]
    unfold kernelRun0_B
    dsimp only
    sl_unfold_words
    simp only [View.readAt_eq_ld, Memref.IsWhole.read_unread, View.ld_unit_zero (S := S512x1024) hz2, View.ld_unit_zero (S := S1x1024) hz2,
      View.ld_unit_zero (S := S2x352x1024) hz3, canon2, canon3, cov_whole, pay4_eq, pay1_eq]
  · unfold sout0_B_1
    rw [View.read_writes_eq_canon _ _ _ fun y => scover0_B_1 ..]
    unfold kernelRun0_B
    dsimp only
    sl_unfold_words
    simp only [View.readAt_eq_ld, Memref.IsWhole.read_unread, View.ld_unit_zero (S := S512x1024) hz2, View.ld_unit_zero (S := S1x1024) hz2,
      View.ld_unit_zero (S := S2x352x1024) hz3, canon2, canon3, cov_whole, pay4_eq, pay1_eq]
  · unfold out0_B_8
    rw [View.read_writes_eq_canon _ _ _ fun y => cover0_B_8 ..]
    unfold kernelRun0_B
    dsimp only
    sl_unfold_words
    simp only [View.readAt_eq_ld, Memref.IsWhole.read_unread, View.ld_unit_zero (S := S512x1024) hz2, View.ld_unit_zero (S := S1x1024) hz2,
      View.ld_unit_zero (S := S2x352x1024) hz3, canon2, canon3, cov_whole, pay4_eq, pay1_eq]
    exact pay8_apply _ _ r g
  · unfold out0_B_9
    rw [View.read_writes_eq_canon _ _ _ fun y => cover0_B_9 ..]
    unfold kernelRun0_B
    dsimp only
    sl_unfold_words
    simp only [View.readAt_eq_ld, Memref.IsWhole.read_unread, View.ld_unit_zero (S := S512x1024) hz2, View.ld_unit_zero (S := S1x1024) hz2,
      View.ld_unit_zero (S := S2x352x1024) hz3, canon2, canon3, cov_whole, pay4_eq, pay1_eq]
    exact pay9_apply _ _ r g

/-- The same at a tile's last point. -/
theorem outs_C (hc0 : ¬cond0_0 i) (hc1 : cond0_1 i) :
    sout0_C_0 (F := Ideal) c i a2 h2 a3 h3 a4 h4 a5 h5 a6 h6 a7 h7 a9 h9 a10 h10 a11 h11 a12 h12 a13 h13 a14 h14 a15 h15 hc0 hc1 x0 x1 x2 x3 x4 x5 d xs = d
    ∧ out0_C_7 (F := Ideal) c i a2 h2 a3 h3 a4 h4 a5 h5 a6 h6 a7 h7 a9 h9 a10 h10 a11 h11 a12 h12 a13 h13 a14 h14 a15 h15 hc0 hc1 x0 x1 x2 x3 x4 x5 d xs = d
    ∧ sout0_C_1 (F := Ideal) c i a2 h2 a3 h3 a4 h4 a5 h5 a6 h6 a7 h7 a9 h9 a10 h10 a11 h11 a12 h12 a13 h13 a14 h14 a15 h15 hc0 hc1 x0 x1 x2 x3 x4 x5 d xs = accT x3 x4 x5 d xs
    ∧ (∀ r g, out0_C_8 (F := Ideal) c i a2 h2 a3 h3 a4 h4 a5 h5 a6 h6 a7 h7 a9 h9 a10 h10 a11 h11 a12 h12 a13 h13 a14 h14 a15 h15 hc0 hc1 x0 x1 x2 x3 x4 x5 d xs (ix3 0 r g) = hidT d x3 r g)
    ∧ (∀ r g, out0_C_9 (F := Ideal) c i a2 h2 a3 h3 a4 h4 a5 h5 a6 h6 a7 h7 a9 h9 a10 h10 a11 h11 a12 h12 a13 h13 a14 h14 a15 h15 hc0 hc1 x0 x1 x2 x3 x4 x5 d xs (ix3 0 r g) = hidT d x4 r g) := by
  refine ⟨rfl, ?_, ?_, fun r g => ?_, fun r g => ?_⟩
  · unfold out0_C_7
    rw [View.read_writes_eq_canon _ _ _ fun y => cover0_C_7 ..]
    unfold kernelRun0_C
    dsimp only
    sl_unfold_words
    simp only [View.readAt_eq_ld, Memref.IsWhole.read_unread, View.ld_unit_zero (S := S512x1024) hz2, View.ld_unit_zero (S := S1x1024) hz2,
      View.ld_unit_zero (S := S2x352x1024) hz3, canon2, canon3, cov_whole, pay4_eq, pay1_eq]
  · unfold sout0_C_1
    rw [View.read_writes_eq_canon _ _ _ fun y => scover0_C_1 ..]
    unfold kernelRun0_C
    dsimp only
    sl_unfold_words
    simp only [View.readAt_eq_ld, Memref.IsWhole.read_unread, View.ld_unit_zero (S := S512x1024) hz2, View.ld_unit_zero (S := S1x1024) hz2,
      View.ld_unit_zero (S := S2x352x1024) hz3, canon2, canon3, cov_whole, pay4_eq, pay1_eq]
  · unfold out0_C_8
    rw [View.read_writes_eq_canon _ _ _ fun y => cover0_C_8 ..]
    unfold kernelRun0_C
    dsimp only
    sl_unfold_words
    simp only [View.readAt_eq_ld, Memref.IsWhole.read_unread, View.ld_unit_zero (S := S512x1024) hz2, View.ld_unit_zero (S := S1x1024) hz2,
      View.ld_unit_zero (S := S2x352x1024) hz3, canon2, canon3, cov_whole, pay4_eq, pay1_eq]
    exact pay8_apply _ _ r g
  · unfold out0_C_9
    rw [View.read_writes_eq_canon _ _ _ fun y => cover0_C_9 ..]
    unfold kernelRun0_C
    dsimp only
    sl_unfold_words
    simp only [View.readAt_eq_ld, Memref.IsWhole.read_unread, View.ld_unit_zero (S := S512x1024) hz2, View.ld_unit_zero (S := S1x1024) hz2,
      View.ld_unit_zero (S := S2x352x1024) hz3, canon2, canon3, cov_whole, pay4_eq, pay1_eq]
    exact pay9_apply _ _ r g

/-- What a tile's last point writes besides: the second product, and the block's output. -/
theorem last_C (hc0 : ¬cond0_0 i) (hc1 : cond0_1 i) :
    out0_C_10 (F := Ideal) c i a2 h2 a3 h3 a4 h4 a5 h5 a6 h6 a7 h7 a9 h9 a10 h10 a11 h11 a12 h12 a13 h13 a14 h14 a15 h15 hc0 hc1 x0 x1 x2 x3 x4 x5 d xs = (accT x3 x4 x5 d xs : S512x1024.Idx → EReal)
    ∧ ∀ r e, out0_C_6 (F := Ideal) c i a2 h2 a3 h3 a4 h4 a5 h5 a6 h6 a7 h7 a9 h9 a10 h10 a11 h11 a12 h12 a13 h13 a14 h14 a15 h15 hc0 hc1 x0 x1 x2 x3 x4 x5 d xs (ix2 r e) = xoT x0 x2 (accT x3 x4 x5 d xs) r e := by
  refine ⟨?_, fun r e => ?_⟩
  · unfold out0_C_10
    rw [View.read_writes_eq_canon _ _ _ fun y => cover0_C_10 ..]
    unfold kernelRun0_C
    dsimp only
    sl_unfold_words
    simp only [View.readAt_eq_ld, Memref.IsWhole.read_unread, View.ld_unit_zero (S := S512x1024) hz2, View.ld_unit_zero (S := S1x1024) hz2,
      View.ld_unit_zero (S := S2x352x1024) hz3, canon2, canon3, cov_whole, pay4_eq, pay1_eq]
    exact pay2_eq _
  · unfold out0_C_6
    rw [View.read_writes_eq_canon _ _ _ fun y => cover0_C_6 ..]
    unfold kernelRun0_C
    dsimp only
    sl_unfold_words
    simp only [View.readAt_eq_ld, Memref.IsWhole.read_unread, View.ld_unit_zero (S := S512x1024) hz2, View.ld_unit_zero (S := S1x1024) hz2,
      View.ld_unit_zero (S := S2x352x1024) hz3, canon2, canon3, cov_whole, pay4_eq, pay1_eq]
    exact pay3_apply x0 x2 _ r e

end Cert.Kernel11Ideal.FfnF

end
-- ==== Proof.FfnFArr.lean ====
/-
  The feed-forward half step's outputs after the run, over the extended reals: functions of the arrays that the call is given.
-/
module

public import proofs.«01_k».proof.Proof.Gen.Kernel11Ideal.Value
public import proofs.«01_k».proof.Proof.FfnFBlock
public import proofs.«01_k».proof.Proof.FfnAArr
public import Idealize.ShloMosaic.Lib.Pipeline.ValueKit

@[expose] public section

set_option maxRecDepth 16384

noncomputable section

namespace Cert.Kernel11Ideal.FfnF

open Idealize.ShloMosaic Idealize.ShloMosaic.TcCoe Idealize.SL.Sem Idealize.ShloMosaic.Tactic
open Cert.Kernel11Ideal Cert.Kernel11Ideal.Gen
open Cert.KernelIdeal.Merge (eps)
open Cert.Kernel5Ideal.FfnA (half silu sh col)

variable (m : (ℓ : Loc nD τ sig) → Buf (Elt Ideal) ℓ) (c : Dev nD)

/-- The half step's input. -/
abbrev XX : S4096x1024.Idx → EReal := V m c main_arg0
/-- The three weights, by shards of hidden columns. -/
abbrev PF : S8x1056x1024.Idx → EReal := V m c main_v6
/-- The row of small parameters. -/
abbrev SP : S1x16896.Idx → EReal := V m c main_v10

/-- The group of a point. -/
abbrev grp (t : Fin cfg0.N) : Fin 4 := ⟨t.val % 4, by omega⟩
/-- Row `r` of a point's tile. -/
abbrev row (t : Fin cfg0.N) (r : Fin 512) : Fin 4096 := ⟨t.val / 4 * 512 + r.val, by
  have := t.isLt; have : cfg0.N = 32 := N_0; omega⟩

theorem pos0 : ∀ t : Fin cfg0.N, win0_0.index t = ![t.val / 4, 0] := by decide +kernel
theorem pos1 : ∀ t : Fin cfg0.N, win0_1.index t = ![0, 0] := by decide +kernel
theorem pos2 : ∀ t : Fin cfg0.N, win0_2.index t = ![0, 1] := by decide +kernel
theorem pos3 : ∀ t : Fin cfg0.N, win0_3.index t = ![t.val % 4, 0, 0] := by decide +kernel
theorem pos4 : ∀ t : Fin cfg0.N, win0_4.index t = ![t.val % 4, 1, 0] := by decide +kernel
theorem pos5 : ∀ t : Fin cfg0.N, win0_5.index t = ![t.val % 4, 2, 0] := by decide +kernel
theorem pos6 : ∀ t : Fin cfg0.N, win0_6.index t = ![t.val / 4, 0] := by decide +kernel
theorem pos7 : ∀ t : Fin cfg0.N, win0_7.index t = ![t.val / 4, 0] := by decide +kernel
theorem pos8 : ∀ t : Fin cfg0.N, win0_8.index t = ![t.val % 4, t.val / 4, 0] := by decide +kernel
theorem pos9 : ∀ t : Fin cfg0.N, win0_9.index t = ![t.val % 4, t.val / 4, 0] := by decide +kernel
theorem pos10 : ∀ t : Fin cfg0.N, win0_10.index t = ![t.val / 4, 0] := by decide +kernel

theorem blk0 (t : Fin cfg0.N) (r : Fin 512) (e : Fin 1024) : iblk m c 0 t (ix2 r e) = XX m c (ix2 (row t r) e) := by
  blk_ext [iblk, pos0 t]
theorem blk1 (t : Fin cfg0.N) (e : Fin 1024) : X0_1 m c t (ix2 0 e) = SP m c (ix2 0 ⟨e.val, by omega⟩) := by
  unfold X0_1 Pipeline.Window.fill
  rw [dif_pos (moved0_1 t _)]
  blk_ext [iblk, pos1 t]
theorem blk2 (t : Fin cfg0.N) (e : Fin 1024) : X0_2 m c t (ix2 0 e) = SP m c (ix2 0 ⟨1024 + e.val, by omega⟩) := by
  unfold X0_2 Pipeline.Window.fill
  rw [dif_pos (moved0_2 t _)]
  blk_ext [iblk, pos2 t]
theorem blk3 (t : Fin cfg0.N) (g : Fin 704) (e : Fin 1024) :
    iblk m c 3 t (ix3 ⟨g.val / 352, by omega⟩ ⟨g.val % 352, by omega⟩ e) = PF m c (ix3 (sh (grp t) g) (col 0 g) e) := by
  blk_ext [iblk, pos3 t]
theorem blk4 (t : Fin cfg0.N) (g : Fin 704) (e : Fin 1024) :
    iblk m c 4 t (ix3 ⟨g.val / 352, by omega⟩ ⟨g.val % 352, by omega⟩ e) = PF m c (ix3 (sh (grp t) g) (col 1 g) e) := by
  blk_ext [iblk, pos4 t]
theorem blk5 (t : Fin cfg0.N) (g : Fin 704) (e : Fin 1024) :
    iblk m c 5 t (ix3 ⟨g.val / 352, by omega⟩ ⟨g.val % 352, by omega⟩ e) = PF m c (ix3 (sh (grp t) g) (col 2 g) e) := by
  blk_ext [iblk, pos5 t]

theorem emb6 (t : Fin cfg0.N) (r : Fin 512) (e : Fin 1024) : (win0_6.blk t).view.emb (ix2 r e) = ix2 (row t r) e := by
  blk_ext [pos6 t]
theorem emb7 (t : Fin cfg0.N) (r : Fin 512) (e : Fin 1024) : (win0_7.blk t).view.emb (ix2 r e) = ix2 (row t r) e := by
  blk_ext [pos7 t]
theorem emb8 (t : Fin cfg0.N) (r : Fin 512) (g : Fin 704) : (win0_8.blk t).view.emb (ix3 0 r g) = ix3 (grp t) (row t r) g := by
  blk_ext [pos8 t]
theorem emb9 (t : Fin cfg0.N) (r : Fin 512) (g : Fin 704) : (win0_9.blk t).view.emb (ix3 0 r g) = ix3 (grp t) (row t r) g := by
  blk_ext [pos9 t]
theorem emb10 (t : Fin cfg0.N) (r : Fin 512) (e : Fin 1024) : (win0_10.blk t).view.emb (ix2 r e) = ix2 (row t r) e := by
  blk_ext [pos10 t]

/-- The normed input with its gain. -/
def hG (r : Fin 4096) (e : Fin 1024) : EReal := unitRow (fun j => XX m c (ix2 r j)) e * SP m c (ix2 0 ⟨e.val, by omega⟩)

/-- One tile of it. -/
abbrev hB (t : Fin cfg0.N) : Vec Ideal S512x1024 .bf16 := fun y => hG m c (row t (y 0)) (y 1)

theorem hV_eq (t : Fin cfg0.N) : hV (iblk m c 0 t) (X0_1 m c t) = hB m c t := by
  funext y
  obtain ⟨r, e, rfl⟩ : ∃ (r : Fin 512) (e : Fin 1024), y = ix2 r e := ⟨y 0, y 1, eq_ix2 y⟩
  exact congrArg₂ (· * ·) (congrArg (unitRow · e) (funext fun j => blk0 m c t r j)) (blk1 m c t e)

/-- The hidden products, by groups. -/
def aG (p : Fin 4) (r : Fin 4096) (g : Fin 704) : EReal := ∑ j : Fin 1024, hG m c r j * PF m c (ix3 (sh p g) (col 0 g) j)
def bG (p : Fin 4) (r : Fin 4096) (g : Fin 704) : EReal := ∑ j : Fin 1024, hG m c r j * PF m c (ix3 (sh p g) (col 1 g) j)

theorem a_eq (t : Fin cfg0.N) (r : Fin 512) (g : Fin 704) : hidT (hB m c t) (iblk m c 3 t) r g = aG m c (grp t) (row t r) g :=
  Finset.sum_congr rfl fun j _ => congrArg (hG m c (row t r) j * ·) (blk3 m c t g j)
theorem b_eq (t : Fin cfg0.N) (r : Fin 512) (g : Fin 704) : hidT (hB m c t) (iblk m c 4 t) r g = bG m c (grp t) (row t r) g :=
  Finset.sum_congr rfl fun j _ => congrArg (hG m c (row t r) j * ·) (blk4 m c t g j)

/-- One group's part of the second product. -/
def part (p : Fin 4) (r : Fin 4096) (e : Fin 1024) : EReal :=
  ∑ g : Fin 704, silu (aG m c p r g) * bG m c p r g * PF m c (ix3 (sh p g) (col 2 g) e)

theorem tile_eq (t : Fin cfg0.N) (r : Fin 512) (e : Fin 1024) :
    tile (iblk m c 3 t) (iblk m c 4 t) (iblk m c 5 t) (hB m c t) r e = part m c (grp t) (row t r) e :=
  Finset.sum_congr rfl fun g _ => congrArg₂ (· * ·) (congrArg₂ (· * ·) (congrArg silu (a_eq m c t r g)) (b_eq m c t r g)) (blk5 m c t g e)

/-- The same part by the group's number. -/
def partN (p : ℕ) (r : Fin 4096) (e : Fin 1024) : EReal := if h : p < 4 then part m c ⟨p, h⟩ r e else 0

theorem partN_grp (t : Fin cfg0.N) (r : Fin 512) (e : Fin 1024) : partN m c (t.val % 4) (row t r) e = part m c (grp t) (row t r) e :=
  dif_pos (by omega)

/-- The point before. -/
abbrev prev (t : Fin cfg0.N) : Fin cfg0.N := ⟨t.val - 1, Nat.lt_of_le_of_lt (Nat.sub_le _ _) t.isLt⟩

theorem row_prev (t : Fin cfg0.N) (h : ¬t.val % 4 = 0) (r : Fin 512) : row (prev t) r = row t r := Fin.ext (by
  show (t.val - 1) / 4 * 512 + r.val = t.val / 4 * 512 + r.val
  omega)

/-- The kept tile after a point. -/
theorem kept (n : Nat) (hn : n < cfg0.N) : (outsAt0 m c n hn).2.2.2.2.2.1 = hB m c ⟨n, hn⟩ := by
  have hN : cfg0.N = 32 := N_0
  induction n with
  | zero =>
    rw [outsAt0_A m c ⟨0, hn⟩ rfl (show ¬0 % 4 = 3 by omega)]
    dsimp only
    exact (outs_A ..).1.trans (hV_eq m c _)
  | succ n ih =>
    have hi := ih (by omega)
    by_cases h1 : (n + 1) % 4 = 0
    · rw [outsAt0_A m c ⟨n + 1, hn⟩ h1 (show ¬(n + 1) % 4 = 3 by omega)]
      dsimp only
      exact (outs_A ..).1.trans (hV_eq m c _)
    · have hr : hB m c ⟨n, by omega⟩ = hB m c ⟨n + 1, hn⟩ :=
        funext fun y => congrArg (hG m c · (y 1)) (row_prev ⟨n + 1, hn⟩ h1 (y 0))
      by_cases h2 : (n + 1) % 4 = 3
      · rw [outsAt0_C m c ⟨n + 1, hn⟩ h1 h2]
        dsimp only
        exact (outs_C ..).1.trans (hi.trans hr)
      · rw [outsAt0_B m c ⟨n + 1, hn⟩ h1 h2]
        dsimp only
        exact (outs_B ..).1.trans (hi.trans hr)

/-- The kept tile as a point past a tile's first finds it. -/
theorem kept_prev (t : Fin cfg0.N) (h1 : ¬t.val % 4 = 0) :
    (outsAt0 m c (t.val - 1) (Nat.lt_of_le_of_lt (Nat.sub_le _ _) t.isLt)).2.2.2.2.2.1 = hB m c t :=
  (kept m c _ _).trans (funext fun y => congrArg (hG m c · (y 1)) (row_prev t h1 (y 0)))

/-- The accumulator after a point: the sum over the groups so far. -/
theorem acc (n : Nat) (hn : n < cfg0.N) (r : Fin 512) (e : Fin 1024) :
    (outsAt0 m c n hn).2.2.2.2.2.2 (ix2 r e) = ∑ p ∈ Finset.range (n % 4 + 1), partN m c p (row ⟨n, hn⟩ r) e := by
  have hN : cfg0.N = 32 := N_0
  induction n with
  | zero =>
    rw [outsAt0_A m c ⟨0, hn⟩ rfl (show ¬0 % 4 = 3 by omega)]
    dsimp only
    refine ((outs_A ..).2.2.1 r e).trans ?_
    rw [hV_eq, tile_eq, ← partN_grp]
    simp
  | succ n ih =>
    by_cases h1 : (n + 1) % 4 = 0
    · rw [outsAt0_A m c ⟨n + 1, hn⟩ h1 (show ¬(n + 1) % 4 = 3 by omega)]
      dsimp only
      refine ((outs_A ..).2.2.1 r e).trans ?_
      rw [hV_eq, tile_eq, ← partN_grp]
      simp [h1]
    · have hs : ∑ p ∈ Finset.range ((n + 1) % 4 + 1), partN m c p (row ⟨n + 1, hn⟩ r) e
          = (outsAt0 m c n (by omega)).2.2.2.2.2.2 (ix2 r e) + tile (iblk m c 3 ⟨n + 1, hn⟩) (iblk m c 4 ⟨n + 1, hn⟩) (iblk m c 5 ⟨n + 1, hn⟩)
            (outsAt0 m c n (by omega)).2.2.2.2.2.1 r e := by
        have hk : (outsAt0 m c n (by omega)).2.2.2.2.2.1 = hB m c ⟨n + 1, hn⟩ := kept_prev m c ⟨n + 1, hn⟩ h1
        rw [ih (by omega), hk, tile_eq, ← partN_grp, Finset.sum_range_succ, show n % 4 + 1 = (n + 1) % 4 by omega]
        have hr : row ⟨n, by omega⟩ r = row ⟨n + 1, hn⟩ r := row_prev ⟨n + 1, hn⟩ h1 r
        rw [hr]
      by_cases h2 : (n + 1) % 4 = 3
      · rw [outsAt0_C m c ⟨n + 1, hn⟩ h1 h2]
        dsimp only
        exact (congrFun (outs_C ..).2.2.1 (ix2 r e)).trans hs.symm
      · rw [outsAt0_B m c ⟨n + 1, hn⟩ h1 h2]
        dsimp only
        exact (congrFun (outs_B ..).2.2.1 (ix2 r e)).trans hs.symm

/-- The second product. -/
def yG (r : Fin 4096) (e : Fin 1024) : EReal := ∑ p : Fin 4, part m c p r e

/-- The accumulator at a tile's last point, as that point makes it. -/
abbrev accL (t : Fin cfg0.N) : Vec Ideal S512x1024 .f32 :=
  accT (iblk m c 3 t) (iblk m c 4 t) (iblk m c 5 t)
    (outsAt0 m c (t.val - 1) (Nat.lt_of_le_of_lt (Nat.sub_le _ _) t.isLt)).2.2.2.2.2.1
    (outsAt0 m c (t.val - 1) (Nat.lt_of_le_of_lt (Nat.sub_le _ _) t.isLt)).2.2.2.2.2.2

theorem acc_last (t : Fin cfg0.N) (h2 : t.val % 4 = 3) (r : Fin 512) (e : Fin 1024) : accL m c t (ix2 r e) = yG m c (row t r) e := by
  have ha := acc m c t.val t.isLt r e
  rw [outsAt0_C m c t (by omega) h2] at ha
  dsimp only at ha
  refine ((congrFun (outs_C ..).2.2.1 (ix2 r e)).symm.trans ha).trans ?_
  rw [h2]
  refine (Finset.sum_range _).trans (Finset.sum_congr rfl fun p _ => ?_)
  exact dif_pos p.isLt

/-- The half step's output. -/
def xoG (r : Fin 4096) (e : Fin 1024) : EReal :=
  XX m c (ix2 r e) + half * (unitRow (fun j => yG m c r j) e * SP m c (ix2 0 ⟨1024 + e.val, by omega⟩))

theorem o_last (t : Fin cfg0.N) (h2 : t.val % 4 = 3) (r : Fin 512) (e : Fin 1024) :
    (outsAt0 m c t.val t.isLt).1 (ix2 r e) = xoG m c (row t r) e
    ∧ (outsAt0 m c t.val t.isLt).2.2.2.2.1 (ix2 r e) = yG m c (row t r) e := by
  rw [outsAt0_C m c t (by omega) h2]
  dsimp only
  refine ⟨((last_C ..).2 r e).trans ?_, (congrFun (last_C ..).1 (ix2 r e)).trans (acc_last m c t h2 r e)⟩
  exact congrArg₂ (· + ·) (blk0 m c t r e) (congrArg (half * ·) (congrArg₂ (· * ·)
    (congrArg (unitRow · e) (funext fun j => acc_last m c t h2 r j)) (blk2 m c t e)))

/-- The three other outputs at every point. -/
theorem o_all (t : Fin cfg0.N) :
    (outsAt0 m c t.val t.isLt).2.1 = hB m c t
    ∧ (∀ r g, (outsAt0 m c t.val t.isLt).2.2.1 (ix3 0 r g) = aG m c (grp t) (row t r) g)
    ∧ (∀ r g, (outsAt0 m c t.val t.isLt).2.2.2.1 (ix3 0 r g) = bG m c (grp t) (row t r) g) := by
  have hN : cfg0.N = 32 := N_0
  by_cases h1 : t.val % 4 = 0
  · rw [outsAt0_A m c t h1 (by omega)]
    dsimp only
    refine ⟨(outs_A ..).2.1.trans (hV_eq m c t), fun r g => ((outs_A ..).2.2.2.1 r g).trans ?_, fun r g => ((outs_A ..).2.2.2.2 r g).trans ?_⟩
    · rw [hV_eq, a_eq]
    · rw [hV_eq, b_eq]
  · by_cases h2 : t.val % 4 = 3
    · rw [outsAt0_C m c t h1 h2]
      dsimp only
      refine ⟨(outs_C ..).2.1.trans (kept_prev m c t h1), fun r g => ((outs_C ..).2.2.2.1 r g).trans ?_, fun r g => ((outs_C ..).2.2.2.2 r g).trans ?_⟩
      · rw [kept_prev m c t h1, a_eq]
      · rw [kept_prev m c t h1, b_eq]
    · rw [outsAt0_B m c t h1 h2]
      dsimp only
      refine ⟨(outs_B ..).2.1.trans (kept_prev m c t h1), fun r g => ((outs_B ..).2.2.2.1 r g).trans ?_, fun r g => ((outs_B ..).2.2.2.2 r g).trans ?_⟩
      · rw [kept_prev m c t h1, a_eq]
      · rw [kept_prev m c t h1, b_eq]

theorem last6 : ∀ t : Fin cfg0.N, (cfg0.win 6).flush t = true → t.val % 4 = 3 := by decide +kernel
theorem last10 : ∀ t : Fin cfg0.N, (cfg0.win 10).flush t = true → t.val % 4 = 3 := by decide +kernel

theorem final6 : (dats m 0 c).arrAt 6 cfg0.N = fun y => xoG m c (y 0) (y 1) := by
  refine (dats m 0 c).arrAt_eq_of_covers 6 _ (by decide +kernel) fun t hf y => ?_
  blk_simp
  obtain ⟨r, e, rfl⟩ : ∃ (r : Fin 512) (e : Fin 1024), y = ix2 r e := ⟨y 0, y 1, eq_ix2 y⟩
  rw [after0_6, (o_last m c t (last6 t hf) r e).1, emb6]
  rfl
theorem final7 : (dats m 0 c).arrAt 7 cfg0.N = fun y => hG m c (y 0) (y 1) := by
  refine (dats m 0 c).arrAt_eq_of_covers 7 _ (by decide +kernel) fun t hf y => ?_
  blk_simp
  obtain ⟨r, e, rfl⟩ : ∃ (r : Fin 512) (e : Fin 1024), y = ix2 r e := ⟨y 0, y 1, eq_ix2 y⟩
  rw [after0_7, (o_all m c t).1, emb7]
  rfl
theorem final8 : (dats m 0 c).arrAt 8 cfg0.N = fun y => aG m c (y 0) (y 1) (y 2) := by
  refine (dats m 0 c).arrAt_eq_of_covers 8 _ (by decide +kernel) fun t hf y => ?_
  blk_simp
  obtain ⟨k, r, g, rfl⟩ : ∃ (k : Fin 1) (r : Fin 512) (g : Fin 704), y = ix3 k r g := ⟨y 0, y 1, y 2, eq_ix3 y⟩
  obtain rfl : k = 0 := Subsingleton.elim _ _
  rw [after0_8, (o_all m c t).2.1, emb8]
  rfl
theorem final9 : (dats m 0 c).arrAt 9 cfg0.N = fun y => bG m c (y 0) (y 1) (y 2) := by
  refine (dats m 0 c).arrAt_eq_of_covers 9 _ (by decide +kernel) fun t hf y => ?_
  blk_simp
  obtain ⟨k, r, g, rfl⟩ : ∃ (k : Fin 1) (r : Fin 512) (g : Fin 704), y = ix3 k r g := ⟨y 0, y 1, y 2, eq_ix3 y⟩
  obtain rfl : k = 0 := Subsingleton.elim _ _
  rw [after0_9, (o_all m c t).2.2, emb9]
  rfl
theorem final10 : (dats m 0 c).arrAt 10 cfg0.N = fun y => yG m c (y 0) (y 1) := by
  refine (dats m 0 c).arrAt_eq_of_covers 10 _ (by decide +kernel) fun t hf y => ?_
  blk_simp
  obtain ⟨r, e, rfl⟩ : ∃ (r : Fin 512) (e : Fin 1024), y = ix2 r e := ⟨y 0, y 1, eq_ix2 y⟩
  rw [after0_10, (o_last m c t (last10 t hf) r e).2, emb10]
  rfl

end Cert.Kernel11Ideal.FfnF

end
-- ==== Proof.FfnFClaim.lean ====
/-
  The feed-forward half step: the kernel's results are the reference's, and the claims on this call.
-/
module

public import proofs.«01_k».proof.Defs
public import proofs.«01_k».proof.Proof.FfnFArr
public import proofs.«01_k».proof.Proof.FfnAClaim
public import proofs.«01_k».proof.Proof.Gen.Kernel11.Frame
public import proofs.«01_k».proof.Proof.Gen.Reference11Ideal.Run
public import proofs.«01_k».proof.Proof.Gen.Reference11Ideal.Read

@[expose] public section

set_option maxRecDepth 16384

noncomputable section

namespace Cert.Reference11Ideal.FfnF

open Idealize.ShloMosaic Idealize.ShloMosaic.TcCoe
open Cert.Reference11Ideal Cert.Reference11Ideal.Read
open Cert.KernelIdeal.Merge (eps_word width_word)
open Cert.Kernel5Ideal.FfnA (half silu)
open Cert.Kernel11Ideal.FfnF (unitRow)

variable (x0 : S4096x1024.Idx → EReal) (x1 x2 : S1024.Idx → EReal) (x3 x4 : S1024x2816.Idx → EReal) (x5 : S2816x1024.Idx → EReal)

theorem h_apply (r : Fin 4096) (e : Fin 1024) :
    val_main_v12 (F := Ideal) x0 x1 (ix2 r e) = unitRow (fun j => x0 (ix2 r j)) e * x1 (ix1 e) := by
  unfold unitRow RmsBwd.q
  rw [← width_word, ← eps_word]
  pointwise [val_main_v12, val_main_v11, val_main_v10, val_main_v9, val_main_v8, val_main_v7, val_main_v6, val_main_v5, val_main_v4, val_main_v3, val_main_v2, val_main_v1,
    val_main_v0, val_main_cst, val_main_cst_0, val_main_cst_1]

theorem a_apply (r : Fin 4096) (k : Fin 2816) :
    val_main_v13 (F := Ideal) x0 x1 x3 (ix2 r k) = ∑ j : Fin 1024, val_main_v12 (F := Ideal) x0 x1 (ix2 r j) * x3 (ix2 j k) := by
  pointwise [val_main_v13]
theorem b_apply (r : Fin 4096) (k : Fin 2816) :
    val_main_v14 (F := Ideal) x0 x1 x4 (ix2 r k) = ∑ j : Fin 1024, val_main_v12 (F := Ideal) x0 x1 (ix2 r j) * x4 (ix2 j k) := by
  pointwise [val_main_v14]

theorem u_apply (r : Fin 4096) (k : Fin 2816) : val_main_v16 (F := Ideal) x0 x1 x3 x4 (ix2 r k)
    = silu (val_main_v13 (F := Ideal) x0 x1 x3 (ix2 r k)) * val_main_v14 (F := Ideal) x0 x1 x4 (ix2 r k) := by
  pointwise [val_main_v16, val_main_v15, val_main_call0_v5, val_main_call0_v4, val_main_call0_v3, val_main_call0_v2, val_main_call0_v1,
    val_main_call0_v0, val_main_call0_cst, val_main_call0_cst_0]
  rfl

theorem y_apply (r : Fin 4096) (e : Fin 1024) : val_main_v17 (F := Ideal) x0 x1 x3 x4 x5 (ix2 r e)
    = ∑ k : Fin 2816, val_main_v16 (F := Ideal) x0 x1 x3 x4 (ix2 r k) * x5 (ix2 k e) := by
  pointwise [val_main_v17]

theorem xo_apply (r : Fin 4096) (e : Fin 1024) : val_main_v33 (F := Ideal) x0 x1 x2 x3 x4 x5 (ix2 r e)
    = x0 (ix2 r e) + half * (unitRow (fun j => val_main_v17 (F := Ideal) x0 x1 x3 x4 x5 (ix2 r j)) e * x2 (ix1 e)) := by
  unfold unitRow RmsBwd.q
  rw [← width_word, ← eps_word]
  pointwise [val_main_v33, val_main_v32, val_main_v31, val_main_v30, val_main_v29, val_main_v28, val_main_v27, val_main_v26, val_main_v25, val_main_v24, val_main_v23, val_main_v22, val_main_v21,
    val_main_v20, val_main_v19, val_main_v18, val_main_cst_2, val_main_cst_3, val_main_cst_4, val_main_cst_5]

theorem aa_apply (p : Fin 4) (r : Fin 4096) (g : Fin 704) : val_main_v37 (F := Ideal) x0 x1 x3 (ix3 p r g)
    = val_main_v13 (F := Ideal) x0 x1 x3 (ix2 r ⟨p.val * 704 + g.val, by omega⟩) := by
  pointwise [val_main_v37, val_main_v36, val_main_v35]
theorem bb_apply (p : Fin 4) (r : Fin 4096) (g : Fin 704) : val_main_v40 (F := Ideal) x0 x1 x4 (ix3 p r g)
    = val_main_v14 (F := Ideal) x0 x1 x4 (ix2 r ⟨p.val * 704 + g.val, by omega⟩) := by
  pointwise [val_main_v40, val_main_v39, val_main_v38]

end Cert.Reference11Ideal.FfnF

namespace Cert.Kernel11Ideal.FfnF

open Idealize.ShloMosaic Idealize.ShloMosaic.TcCoe Idealize.SL.Sem Idealize.ShloMosaic.Tactic
open Cert.Kernel11Ideal Cert.Kernel11Ideal.Gen Cert.Reference11Ideal.Read
open Cert.Kernel5Ideal.FfnA (half silu sh col hid hcol hid_sh sum_cols)

variable (m : (ℓ : Loc nD τ sig) → Buf (Elt Ideal) ℓ) (c : Dev nD)

/-- The half step's input. -/
abbrev A0 : S4096x1024.Idx → EReal := m ((c : Thread nD τ).loc main_arg0)
/-- The gains before and after. -/
abbrev A1 : S1024.Idx → EReal := m ((c : Thread nD τ).loc main_arg1)
abbrev A2 : S1024.Idx → EReal := m ((c : Thread nD τ).loc main_arg2)
/-- The three weights. -/
abbrev A3 : S1024x2816.Idx → EReal := m ((c : Thread nD τ).loc main_arg3)
abbrev A4 : S1024x2816.Idx → EReal := m ((c : Thread nD τ).loc main_arg4)
abbrev A5 : S2816x1024.Idx → EReal := m ((c : Thread nD τ).loc main_arg5)

theorem XX_eq : XX m c = A0 m c := V_main_arg0 m c

theorem SP_pre (e : Fin 1024) : SP m c (ix2 0 ⟨e.val, by omega⟩) = A1 m c (ix1 e) := by
  unfold SP
  unfold V
  after_reads_at
  after_reads_simp

theorem SP_post (e : Fin 1024) : SP m c (ix2 0 ⟨1024 + e.val, by omega⟩) = A2 m c (ix1 e) := by
  unfold SP
  unfold V
  after_reads_at
  after_reads_simp

theorem PF_first (p : Fin 8) (g : Fin 352) (e : Fin 1024) : PF m c (ix3 p ⟨g.val, by omega⟩ e) = A3 m c (ix2 e (hid p g)) := by
  unfold PF
  unfold V
  after_reads_at
  after_reads_simp
  show shapeCast S8x352x1024 (transpose S2816x1024 [1, 0] (A3 m c : Vec Ideal S1024x2816 .f32) transposes_S1024x2816_S2816x1024_1_0 : Vec Ideal S2816x1024 .f32)
    shapeCasts_S2816x1024_S8x352x1024 (ix3 p g e) = _
  pointwise

theorem PF_gate (p : Fin 8) (g : Fin 352) (e : Fin 1024) : PF m c (ix3 p ⟨352 + g.val, by omega⟩ e) = A4 m c (ix2 e (hid p g)) := by
  unfold PF
  unfold V
  after_reads_at
  after_reads_simp
  show shapeCast S8x352x1024 (transpose S2816x1024 [1, 0] (A4 m c : Vec Ideal S1024x2816 .f32) transposes_S1024x2816_S2816x1024_1_0 : Vec Ideal S2816x1024 .f32)
    shapeCasts_S2816x1024_S8x352x1024 (ix3 p g e) = _
  pointwise

theorem PF_second (p : Fin 8) (g : Fin 352) (e : Fin 1024) : PF m c (ix3 p ⟨704 + g.val, by omega⟩ e) = A5 m c (ix2 (hid p g) e) := by
  unfold PF
  unfold V
  after_reads_at
  after_reads_simp
  rw [dif_neg (by omega), dif_neg (by omega)]
  refine Eq.trans (congrArg (fun k : Fin 352 => shapeCast S8x352x1024 (A5 m c : Vec Ideal S2816x1024 .f32) shapeCasts_S2816x1024_S8x352x1024 (ix3 p k e))
    (Fin.ext (by show 704 + g.val - 352 - 352 = g.val; omega) : _ = g)) ?_
  pointwise

theorem PF0 (p : Fin 4) (g : Fin 704) (e : Fin 1024) : PF m c (ix3 (sh p g) (col 0 g) e) = A3 m c (ix2 e (hcol p g)) := by
  rw [← hid_sh p g, ← PF_first]
  exact congrArg (fun k => PF m c (ix3 (sh p g) k e)) (Fin.ext (Nat.zero_add _))
theorem PF1 (p : Fin 4) (g : Fin 704) (e : Fin 1024) : PF m c (ix3 (sh p g) (col 1 g) e) = A4 m c (ix2 e (hcol p g)) := by
  rw [← hid_sh p g, ← PF_gate]
  rfl
theorem PF2 (p : Fin 4) (g : Fin 704) (e : Fin 1024) : PF m c (ix3 (sh p g) (col 2 g) e) = A5 m c (ix2 (hcol p g) e) := by
  rw [← hid_sh p g, ← PF_second]
  rfl

theorem h_at (r : Fin 4096) (e : Fin 1024) : hG m c r e = val_main_v12 (F := Ideal) (A0 m c) (A1 m c) (ix2 r e) := by
  rw [Cert.Reference11Ideal.FfnF.h_apply]
  exact congrArg₂ (· * ·) (congrArg (unitRow · e) (funext fun j => congrFun (XX_eq m c) _)) (SP_pre m c e)

theorem a_at (p : Fin 4) (r : Fin 4096) (g : Fin 704) : aG m c p r g
    = val_main_v13 (F := Ideal) (A0 m c) (A1 m c) (A3 m c) (ix2 r (hcol p g)) := by
  rw [Cert.Reference11Ideal.FfnF.a_apply]
  exact Finset.sum_congr rfl fun j _ => congrArg₂ (· * ·) (h_at m c r j) (PF0 m c p g j)

theorem b_at (p : Fin 4) (r : Fin 4096) (g : Fin 704) : bG m c p r g
    = val_main_v14 (F := Ideal) (A0 m c) (A1 m c) (A4 m c) (ix2 r (hcol p g)) := by
  rw [Cert.Reference11Ideal.FfnF.b_apply]
  exact Finset.sum_congr rfl fun j _ => congrArg₂ (· * ·) (h_at m c r j) (PF1 m c p g j)

/-- The second product: the groups' parts are the whole sum. -/
theorem y_at (r : Fin 4096) (e : Fin 1024) : yG m c r e
    = val_main_v17 (F := Ideal) (A0 m c) (A1 m c) (A3 m c) (A4 m c) (A5 m c) (ix2 r e) := by
  rw [Cert.Reference11Ideal.FfnF.y_apply, ← sum_cols]
  refine Finset.sum_congr rfl fun p _ => Finset.sum_congr rfl fun g _ => ?_
  rw [Cert.Reference11Ideal.FfnF.u_apply]
  exact congrArg₂ (· * ·) (congrArg₂ (· * ·) (congrArg silu (a_at m c p r g)) (b_at m c p r g)) (PF2 m c p g e)

theorem res6 : (fun y : S4096x1024.Idx => xoG m c (y 0) (y 1))
    = val_main_v33 (F := Ideal) (A0 m c) (A1 m c) (A2 m c) (A3 m c) (A4 m c) (A5 m c) := by
  funext y
  obtain ⟨r, e, rfl⟩ : ∃ (r : Fin 4096) (e : Fin 1024), y = ix2 r e := ⟨y 0, y 1, eq_ix2 y⟩
  rw [Cert.Reference11Ideal.FfnF.xo_apply]
  exact congrArg₂ (· + ·) (congrFun (XX_eq m c) _) (congrArg (half * ·) (congrArg₂ (· * ·)
    (congrArg (unitRow · e) (funext fun j => y_at m c r j)) (SP_post m c e)))

theorem res7 : (fun y : S4096x1024.Idx => hG m c (y 0) (y 1)) = val_main_v34 (F := Ideal) (A0 m c) (A1 m c) := by
  funext y
  obtain ⟨r, e, rfl⟩ : ∃ (r : Fin 4096) (e : Fin 1024), y = ix2 r e := ⟨y 0, y 1, eq_ix2 y⟩
  exact h_at m c r e

theorem res8 : (fun y : S4x4096x704.Idx => aG m c (y 0) (y 1) (y 2)) = val_main_v37 (F := Ideal) (A0 m c) (A1 m c) (A3 m c) := by
  funext y
  obtain ⟨p, r, g, rfl⟩ : ∃ (p : Fin 4) (r : Fin 4096) (g : Fin 704), y = ix3 p r g := ⟨y 0, y 1, y 2, eq_ix3 y⟩
  exact (a_at m c p r g).trans (Cert.Reference11Ideal.FfnF.aa_apply ..).symm

theorem res9 : (fun y : S4x4096x704.Idx => bG m c (y 0) (y 1) (y 2)) = val_main_v40 (F := Ideal) (A0 m c) (A1 m c) (A4 m c) := by
  funext y
  obtain ⟨p, r, g, rfl⟩ : ∃ (p : Fin 4) (r : Fin 4096) (g : Fin 704), y = ix3 p r g := ⟨y 0, y 1, y 2, eq_ix3 y⟩
  exact (b_at m c p r g).trans (Cert.Reference11Ideal.FfnF.bb_apply ..).symm

theorem res10 : (fun y : S4096x1024.Idx => yG m c (y 0) (y 1))
    = val_main_v41 (F := Ideal) (A0 m c) (A1 m c) (A3 m c) (A4 m c) (A5 m c) := by
  funext y
  obtain ⟨r, e, rfl⟩ : ∃ (r : Fin 4096) (e : Fin 1024), y = ix2 r e := ⟨y 0, y 1, eq_ix2 y⟩
  exact y_at m c r e

end Cert.Kernel11Ideal.FfnF

namespace Cert.FfnFClaim

open Idealize.ShloMosaic Idealize.ShloMosaic.TcCoe Idealize.SL.Sem Idealize.ShloMosaic.Tactic
open Cert.Reference11Ideal.Read Cert.Kernel11Ideal.FfnF

theorem frame_p : Cert.quiescent_Kernel11 := fun m ρ _ => Cert.Kernel11.Gen.frame m ρ

theorem frame_pi : Cert.quiescent_Kernel11Ideal := fun m ρ _ => Cert.Kernel11Ideal.Gen.frame m ρ

theorem frame_ri : Cert.quiescent_Reference11Ideal := fun m ρ _ =>
  (θ_run Cert.Reference11Ideal.defs _ _).mono (fun r h => ⟨fun c => (h c).2.2.2.2.2, sem_eq_zero_of_no_sems (by decide) r.2⟩)
    (Cert.Reference11Ideal.Value.run (F := Ideal) m ρ)

/-- Equal arguments give equal results. -/
theorem algebraic : Cert.algebraic_Kernel11Ideal_Reference11Ideal := by
  intro m g m' g' _ hagree
  have hV : ∀ c : Dev Cert.Kernel11Ideal.nD,
      m' ((c.tc : Thread Cert.Reference11Ideal.nD Cert.Reference11Ideal.τ).loc Cert.Reference11Ideal.main_arg0) = A0 m c
      ∧ m' ((c.tc : Thread Cert.Reference11Ideal.nD Cert.Reference11Ideal.τ).loc Cert.Reference11Ideal.main_arg1) = A1 m c
      ∧ m' ((c.tc : Thread Cert.Reference11Ideal.nD Cert.Reference11Ideal.τ).loc Cert.Reference11Ideal.main_arg2) = A2 m c
      ∧ m' ((c.tc : Thread Cert.Reference11Ideal.nD Cert.Reference11Ideal.τ).loc Cert.Reference11Ideal.main_arg3) = A3 m c
      ∧ m' ((c.tc : Thread Cert.Reference11Ideal.nD Cert.Reference11Ideal.τ).loc Cert.Reference11Ideal.main_arg4) = A4 m c
      ∧ m' ((c.tc : Thread Cert.Reference11Ideal.nD Cert.Reference11Ideal.τ).loc Cert.Reference11Ideal.main_arg5) = A5 m c := hagree
  refine ⟨fun c y => xoG m c (y 0) (y 1), fun c y => hG m c (y 0) (y 1), fun c y => aG m c (y 0) (y 1) (y 2),
    fun c y => bG m c (y 0) (y 1) (y 2), fun c y => yG m c (y 0) (y 1), ?_, ?_⟩
  · refine (θ_run Cert.Kernel11Ideal.defs _ _).mono (fun r h c => ?_) (Cert.Kernel11Ideal.Value.run_blocks m g)
    obtain ⟨h0, h1, h2, h3, h4, h5⟩ := h c
    exact ⟨h0.trans (final6 m c), h1.trans (final7 m c), h2.trans (final8 m c), h3.trans (final9 m c), h4.trans (final10 m c), h5⟩
  · refine (θ_run Cert.Reference11Ideal.defs _ _).mono (fun r h c => ?_) (Cert.Reference11Ideal.Value.run (F := Ideal) m' g')
    obtain ⟨h0, h1, h2, h3, h4, h5⟩ := h c
    obtain ⟨e0, e1, e2, e3, e4, e5⟩ := hV c
    refine ⟨h0.trans ((val_main_v33_eq ..).trans ?_), h1.trans ((val_main_v34_eq ..).trans ?_), h2.trans ((val_main_v37_eq ..).trans ?_),
      h3.trans ((val_main_v40_eq ..).trans ?_), h4.trans ((val_main_v41_eq ..).trans ?_), h5⟩
    · rw [e0, e1, e2, e3, e4, e5]
      exact (res6 m c).symm
    · rw [e0, e1]
      exact (res7 m c).symm
    · rw [e0, e1, e3]
      exact (res8 m c).symm
    · rw [e0, e1, e4]
      exact (res9 m c).symm
    · rw [e0, e1, e3, e4, e5]
      exact (res10 m c).symm

end Cert.FfnFClaim

end
-- ==== Proof.StepBlock.lean ====
/-
  One step of the optimiser on the feed-forward blocks' weights, whose gradients come stacked: the kernel's results are the reference's,
  and the claims on these calls.
-/
module

public import proofs.«01_k».proof.Defs
public import proofs.«01_k».proof.Proof.FfnWBlock
public import proofs.«01_k».proof.Proof.StepClaim
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Reference18Ideal.Read
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem Idealize.ShloMosaic.Tactic

/-! ## One entry's step, and what the kernel leaves in a block -/

namespace Cert.StepBlock

open Cert.Kernel18Ideal Cert.Kernel18Ideal.Gen
open Cert.Kernel2Ideal.FfnW (hz3)
open Cert.Step (mom1 mom2 chg)

/-- The layer of a grid point. -/
abbrev lay (t : Fin cfg0.N) : Fin 4 := ⟨t.val, by have := t.isLt; have : cfg0.N = 4 := N_0; omega⟩

/-- The part of the stack of gradients that starts at a row. -/
def part (k : Fin 3) (G : S4x1056x1024.Idx → EReal) (y : S4x352x1024.Idx) : EReal := G (ix3 (y 0) ⟨k.val * 352 + (y 1).val, by
  have h : (y 1).val < 352 := (y 1).isLt
  omega⟩ (y 2))

variable (x0 x1 x2 x3 : Vec Ideal S1x352x1024 .f32) (r : Fin 352) (e : Fin 1024)

theorem out4 : out0_4 (F := Ideal) x0 x1 x2 x3 (ix3 0 r e) = x1 (ix3 0 r e) := by
  unfold out0_4
  rw [View.canon_unit_zero (S := S1x352x1024) hz3, View.ld_unit_zero (S := S1x352x1024) hz3]
  pointwise [k0_pay3, k0_pay2]
theorem out6 : out0_6 (F := Ideal) x0 x1 x2 x3 (ix3 0 r e) = mom1 (x1 (ix3 0 r e)) (x2 (ix3 0 r e)) := by
  unfold out0_6 mom1
  rw [View.canon_unit_zero (S := S1x352x1024) hz3]
  simp only [View.ld_unit_zero (S := S1x352x1024) hz3]
  pointwise [k0_pay6, k0_pay4, k0_pay2]
theorem out7 : out0_7 (F := Ideal) x0 x1 x2 x3 (ix3 0 r e) = mom2 (x1 (ix3 0 r e)) (x3 (ix3 0 r e)) := by
  unfold out0_7 mom2
  rw [View.canon_unit_zero (S := S1x352x1024) hz3]
  simp only [View.ld_unit_zero (S := S1x352x1024) hz3]
  pointwise [k0_pay7, k0_pay5, k0_pay2]
theorem out5 : out0_5 (F := Ideal) x0 x1 x2 x3 (ix3 0 r e) = chg (x0 (ix3 0 r e)) (x1 (ix3 0 r e)) (x2 (ix3 0 r e)) (x3 (ix3 0 r e)) := by
  unfold out0_5 chg mom1 mom2
  rw [View.canon_unit_zero (S := S1x352x1024) hz3]
  simp only [View.ld_unit_zero (S := S1x352x1024) hz3]
  pointwise [k0_pay1, k0_pay8, k0_pay9, k0_pay5, k0_pay4, k0_pay2]

/-- The reference's cut of the stack is that part. -/
theorem sliced0 (G : S4x1056x1024.Idx → EReal) : Cert.Reference18Ideal.Read.val_main_v0 (F := Ideal) G = part 0 G := by
  funext y
  obtain ⟨l, r, e, rfl⟩ : ∃ (l : Fin 4) (r : Fin 352) (e : Fin 1024), y = ix3 l r e := ⟨y 0, y 1, y 2, eq_ix3 y⟩
  exact congrArg G (funext fun a => Fin.ext (by fin_cases a <;> simp))

/-- The reference's cut of the stack is that part. -/
theorem sliced1 (G : S4x1056x1024.Idx → EReal) : Cert.Reference19Ideal.Read.val_main_v0 (F := Ideal) G = part 1 G := by
  funext y
  obtain ⟨l, r, e, rfl⟩ : ∃ (l : Fin 4) (r : Fin 352) (e : Fin 1024), y = ix3 l r e := ⟨y 0, y 1, y 2, eq_ix3 y⟩
  exact congrArg G (funext fun a => Fin.ext (by fin_cases a <;> simp))

/-- The reference's cut of the stack is that part. -/
theorem sliced2 (G : S4x1056x1024.Idx → EReal) : Cert.Reference20Ideal.Read.val_main_v0 (F := Ideal) G = part 2 G := by
  funext y
  obtain ⟨l, r, e, rfl⟩ : ∃ (l : Fin 4) (r : Fin 352) (e : Fin 1024), y = ix3 l r e := ⟨y 0, y 1, y 2, eq_ix3 y⟩
  exact congrArg G (funext fun a => Fin.ext (by fin_cases a <;> simp))

end Cert.StepBlock

/-! ## The first hidden weight of a feed-forward block -/

namespace Cert.Kernel18Ideal.Step

open Cert.Kernel18Ideal Cert.Kernel18Ideal.Gen Cert.Reference18Ideal.Read
open Cert.Step (mom1 mom2 chg agree)
open Cert.StepBlock (part lay out4 out5 out6 out7 sliced0)

section
variable (m : (ℓ : Loc nD τ sig) → Buf (Elt Ideal) ℓ) (c : Dev nD)

/-- The weight, its own part of the stack of gradients, and the two moments. -/
abbrev W : S4x352x1024.Idx → EReal := m ((c : Thread nD τ).loc main_arg0)
abbrev G : S4x352x1024.Idx → EReal := part 0 (m ((c : Thread nD τ).loc main_arg1))
abbrev M1 : S4x352x1024.Idx → EReal := m ((c : Thread nD τ).loc main_arg2)
abbrev M2 : S4x352x1024.Idx → EReal := m ((c : Thread nD τ).loc main_arg3)

/-- Which blocks a point sees. -/
theorem pos : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0]
    ∧ win0_7.index t = ![t.val, 0, 0] := by decide +kernel

theorem blk (t : Fin cfg0.N) (r : Fin 352) (e : Fin 1024) :
    iblk m c 0 t (ix3 0 r e) = W m c (ix3 (lay t) r e) ∧ iblk m c 1 t (ix3 0 r e) = G m c (ix3 (lay t) r e)
    ∧ iblk m c 2 t (ix3 0 r e) = M1 m c (ix3 (lay t) r e) ∧ iblk m c 3 t (ix3 0 r e) = M2 m c (ix3 (lay t) r e) := by
  obtain ⟨p0, p1, p2, p3, -⟩ := pos t
  refine ⟨Eq.trans (b := (V m c main_arg0 : S4x352x1024.Idx → EReal) (ix3 (lay t) r e)) ?_ (congrFun (V_main_arg0 m c) _),
    Eq.trans (b := (V m c main_arg1 : S4x1056x1024.Idx → EReal) (ix3 (lay t) ⟨0 * 352 + r.val, by omega⟩ e)) ?_ (congrFun (V_main_arg1 m c) _),
    Eq.trans (b := (V m c main_arg2 : S4x352x1024.Idx → EReal) (ix3 (lay t) r e)) ?_ (congrFun (V_main_arg2 m c) _),
    Eq.trans (b := (V m c main_arg3 : S4x352x1024.Idx → EReal) (ix3 (lay t) r e)) ?_ (congrFun (V_main_arg3 m c) _)⟩
  · blk_ext [iblk, p0]
  · blk_ext [iblk, p1]
  · blk_ext [iblk, p2]
  · blk_ext [iblk, p3]

theorem emb (t : Fin cfg0.N) (r : Fin 352) (e : Fin 1024) :
    (win0_4.blk t).view.emb (ix3 0 r e) = ix3 (lay t) r e ∧ (win0_5.blk t).view.emb (ix3 0 r e) = ix3 (lay t) r e
    ∧ (win0_6.blk t).view.emb (ix3 0 r e) = ix3 (lay t) r e ∧ (win0_7.blk t).view.emb (ix3 0 r e) = ix3 (lay t) r e := by
  obtain ⟨-, -, -, -, p4, p5, p6, p7⟩ := pos t
  refine ⟨?_, ?_, ?_, ?_⟩
  · blk_ext [p4]
  · blk_ext [p5]
  · blk_ext [p6]
  · blk_ext [p7]

/-- The arrays after the run. -/
theorem final : (dats m 0 c).arrAt 4 cfg0.N = G m c
    ∧ ((dats m 0 c).arrAt 5 cfg0.N = fun y => chg (W m c y) (G m c y) (M1 m c y) (M2 m c y))
    ∧ ((dats m 0 c).arrAt 6 cfg0.N = fun y => mom1 (G m c y) (M1 m c y))
    ∧ ((dats m 0 c).arrAt 7 cfg0.N = fun y => mom2 (G m c y) (M2 m c y)) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_⟩
  all_goals
    blk_simp
    obtain ⟨l, r, e, rfl⟩ : ∃ (l : Fin 1) (r : Fin 352) (e : Fin 1024), y = ix3 l r e := ⟨y 0, y 1, y 2, eq_ix3 y⟩
    obtain rfl : l = 0 := Subsingleton.elim _ _
    obtain ⟨b0, b1, b2, b3⟩ := blk m c t r e
    obtain ⟨e4, e5, e6, e7⟩ := emb t r e
  · rw [after0_4, e4]
    exact (out4 (iblk m c 0 t) (iblk m c 1 t) (iblk m c 2 t) (iblk m c 3 t) r e).trans b1
  · rw [after0_5, e5, ← b0, ← b1, ← b2, ← b3]
    exact out5 (iblk m c 0 t) (iblk m c 1 t) (iblk m c 2 t) (iblk m c 3 t) r e
  · rw [after0_6, e6, ← b1, ← b2]
    exact out6 (iblk m c 0 t) (iblk m c 1 t) (iblk m c 2 t) (iblk m c 3 t) r e
  · rw [after0_7, e7, ← b1, ← b3]
    exact out7 (iblk m c 0 t) (iblk m c 1 t) (iblk m c 2 t) (iblk m c 3 t) r e

end

theorem frame_ri : Cert.quiescent_Reference18Ideal := fun m ρ _ =>
  (θ_run Cert.Reference18Ideal.defs _ _).mono (fun r h => ⟨fun c => (h c).2.2.2.2, sem_eq_zero_of_no_sems (by decide) r.2⟩)
    (Cert.Reference18Ideal.Value.run (F := Ideal) m ρ)

/-- Equal arguments give equal results. -/
theorem algebraic : Cert.algebraic_Kernel18Ideal_Reference18Ideal := by
  intro m g m' g' _ hagree
  refine ⟨fun c => G m c, fun c y => chg (W m c y) (G m c y) (M1 m c y) (M2 m c y), fun c y => mom1 (G m c y) (M1 m c y),
    fun c y => mom2 (G m c y) (M2 m c y), ?_, ?_⟩
  · refine (θ_run Cert.Kernel18Ideal.defs _ _).mono (fun r h c => ?_) (Cert.Kernel18Ideal.Value.run_blocks m g)
    obtain ⟨h0, h1, h2, h3, h4⟩ := h c
    obtain ⟨f0, f1, f2, f3⟩ := final m c
    exact ⟨h0.trans f0, h1.trans f1, h2.trans f2, h3.trans f3, h4⟩
  · refine (θ_run Cert.Reference18Ideal.defs _ _).mono (fun r h c => ?_) (Cert.Reference18Ideal.Value.run (F := Ideal) m' g')
    obtain ⟨h0, h⟩ := h c
    obtain ⟨e0, e1, e2, e3⟩ := hagree c
    have eg : val_main_v0 (F := Ideal) (m' ((c.tc : Thread Cert.Reference18Ideal.nD Cert.Reference18Ideal.τ).loc Cert.Reference18Ideal.main_arg1)) = G m c :=
      (congrArg (val_main_v0 (F := Ideal)) e1).trans (sliced0 _)
    exact ⟨h0.trans eg, (agree ⟨e0, eg, e2, e3⟩ h :)⟩

end Cert.Kernel18Ideal.Step

/-! ## The gate weight of a feed-forward block -/

namespace Cert.Kernel19Ideal.Step

open Cert.Kernel19Ideal Cert.Kernel19Ideal.Gen Cert.Reference19Ideal.Read
open Cert.Step (mom1 mom2 chg agree)
open Cert.StepBlock (part lay out4 out5 out6 out7 sliced1)

section
variable (m : (ℓ : Loc nD τ sig) → Buf (Elt Ideal) ℓ) (c : Dev nD)

/-- The weight, its own part of the stack of gradients, and the two moments. -/
abbrev W : S4x352x1024.Idx → EReal := m ((c : Thread nD τ).loc main_arg0)
abbrev G : S4x352x1024.Idx → EReal := part 1 (m ((c : Thread nD τ).loc main_arg1))
abbrev M1 : S4x352x1024.Idx → EReal := m ((c : Thread nD τ).loc main_arg2)
abbrev M2 : S4x352x1024.Idx → EReal := m ((c : Thread nD τ).loc main_arg3)

/-- Which blocks a point sees. -/
theorem pos : ∀ t : Fin cfg0.N, win0_0.index t = ![t.val, 0, 0] ∧ win0_1.index t = ![t.val, 1, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0]
    ∧ win0_7.index t = ![t.val, 0, 0] := by decide +kernel

theorem blk (t : Fin cfg0.N) (r : Fin 352) (e : Fin 1024) :
    iblk m c 0 t (ix3 0 r e) = W m c (ix3 (lay t) r e) ∧ iblk m c 1 t (ix3 0 r e) = G m c (ix3 (lay t) r e)
    ∧ iblk m c 2 t (ix3 0 r e) = M1 m c (ix3 (lay t) r e) ∧ iblk m c 3 t (ix3 0 r e) = M2 m c (ix3 (lay t) r e) := by
  obtain ⟨p0, p1, p2, p3, -⟩ := pos t
  refine ⟨Eq.trans (b := (V m c main_arg0 : S4x352x1024.Idx → EReal) (ix3 (lay t) r e)) ?_ (congrFun (V_main_arg0 m c) _),
    Eq.trans (b := (V m c main_arg1 : S4x1056x1024.Idx → EReal) (ix3 (lay t) ⟨1 * 352 + r.val, by omega⟩ e)) ?_ (congrFun (V_main_arg1 m c) _),
    Eq.trans (b := (V m c main_arg2 : S4x352x1024.Idx → EReal) (ix3 (lay t) r e)) ?_ (congrFun (V_main_arg2 m c) _),
    Eq.trans (b := (V m c main_arg3 : S4x352x1024.Idx → EReal) (ix3 (lay t) r e)) ?_ (congrFun (V_main_arg3 m c) _)⟩
  · blk_ext [iblk, p0]
  · blk_ext [iblk, p1]
  · blk_ext [iblk, p2]
  · blk_ext [iblk, p3]

theorem emb (t : Fin cfg0.N) (r : Fin 352) (e : Fin 1024) :
    (win0_4.blk t).view.emb (ix3 0 r e) = ix3 (lay t) r e ∧ (win0_5.blk t).view.emb (ix3 0 r e) = ix3 (lay t) r e
    ∧ (win0_6.blk t).view.emb (ix3 0 r e) = ix3 (lay t) r e ∧ (win0_7.blk t).view.emb (ix3 0 r e) = ix3 (lay t) r e := by
  obtain ⟨-, -, -, -, p4, p5, p6, p7⟩ := pos t
  refine ⟨?_, ?_, ?_, ?_⟩
  · blk_ext [p4]
  · blk_ext [p5]
  · blk_ext [p6]
  · blk_ext [p7]

/-- The arrays after the run. -/
theorem final : (dats m 0 c).arrAt 4 cfg0.N = G m c
    ∧ ((dats m 0 c).arrAt 5 cfg0.N = fun y => chg (W m c y) (G m c y) (M1 m c y) (M2 m c y))
    ∧ ((dats m 0 c).arrAt 6 cfg0.N = fun y => mom1 (G m c y) (M1 m c y))
    ∧ ((dats m 0 c).arrAt 7 cfg0.N = fun y => mom2 (G m c y) (M2 m c y)) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_⟩
  all_goals
    blk_simp
    obtain ⟨l, r, e, rfl⟩ : ∃ (l : Fin 1) (r : Fin 352) (e : Fin 1024), y = ix3 l r e := ⟨y 0, y 1, y 2, eq_ix3 y⟩
    obtain rfl : l = 0 := Subsingleton.elim _ _
    obtain ⟨b0, b1, b2, b3⟩ := blk m c t r e
    obtain ⟨e4, e5, e6, e7⟩ := emb t r e
  · rw [after0_4, e4]
    exact (out4 (iblk m c 0 t) (iblk m c 1 t) (iblk m c 2 t) (iblk m c 3 t) r e).trans b1
  · rw [after0_5, e5, ← b0, ← b1, ← b2, ← b3]
    exact out5 (iblk m c 0 t) (iblk m c 1 t) (iblk m c 2 t) (iblk m c 3 t) r e
  · rw [after0_6, e6, ← b1, ← b2]
    exact out6 (iblk m c 0 t) (iblk m c 1 t) (iblk m c 2 t) (iblk m c 3 t) r e
  · rw [after0_7, e7, ← b1, ← b3]
    exact out7 (iblk m c 0 t) (iblk m c 1 t) (iblk m c 2 t) (iblk m c 3 t) r e

end

theorem frame_ri : Cert.quiescent_Reference19Ideal := fun m ρ _ =>
  (θ_run Cert.Reference19Ideal.defs _ _).mono (fun r h => ⟨fun c => (h c).2.2.2.2, sem_eq_zero_of_no_sems (by decide) r.2⟩)
    (Cert.Reference19Ideal.Value.run (F := Ideal) m ρ)

/-- Equal arguments give equal results. -/
theorem algebraic : Cert.algebraic_Kernel19Ideal_Reference19Ideal := by
  intro m g m' g' _ hagree
  refine ⟨fun c => G m c, fun c y => chg (W m c y) (G m c y) (M1 m c y) (M2 m c y), fun c y => mom1 (G m c y) (M1 m c y),
    fun c y => mom2 (G m c y) (M2 m c y), ?_, ?_⟩
  · refine (θ_run Cert.Kernel19Ideal.defs _ _).mono (fun r h c => ?_) (Cert.Kernel19Ideal.Value.run_blocks m g)
    obtain ⟨h0, h1, h2, h3, h4⟩ := h c
    obtain ⟨f0, f1, f2, f3⟩ := final m c
    exact ⟨h0.trans f0, h1.trans f1, h2.trans f2, h3.trans f3, h4⟩
  · refine (θ_run Cert.Reference19Ideal.defs _ _).mono (fun r h c => ?_) (Cert.Reference19Ideal.Value.run (F := Ideal) m' g')
    obtain ⟨h0, h⟩ := h c
    obtain ⟨e0, e1, e2, e3⟩ := hagree c
    have eg : val_main_v0 (F := Ideal) (m' ((c.tc : Thread Cert.Reference19Ideal.nD Cert.Reference19Ideal.τ).loc Cert.Reference19Ideal.main_arg1)) = G m c :=
      (congrArg (val_main_v0 (F := Ideal)) e1).trans (sliced1 _)
    exact ⟨h0.trans eg, (agree ⟨e0, eg, e2, e3⟩ h :)⟩

end Cert.Kernel19Ideal.Step

/-! ## The second weight of a feed-forward block -/

namespace Cert.Kernel20Ideal.Step

open Cert.Kernel20Ideal Cert.Kernel20Ideal.Gen Cert.Reference20Ideal.Read
open Cert.Step (mom1 mom2 chg agree)
open Cert.StepBlock (part lay out4 out5 out6 out7 sliced2)

section
variable (m : (ℓ : Loc nD τ sig) → Buf (Elt Ideal) ℓ) (c : Dev nD)

/-- The weight, its own part of the stack of gradients, and the two moments. -/
abbrev W : S4x352x1024.Idx → EReal := m ((c : Thread nD τ).loc main_arg0)
abbrev G : S4x352x1024.Idx → EReal := part 2 (m ((c : Thread nD τ).loc main_arg1))
abbrev M1 : S4x352x1024.Idx → EReal := m ((c : Thread nD τ).loc main_arg2)
abbrev M2 : S4x352x1024.Idx → EReal := m ((c : Thread nD τ).loc main_arg3)

/-- Which blocks a point sees. -/
theorem pos : ∀ t : Fin cfg0.N, win0_0.index t = ![t.val, 0, 0] ∧ win0_1.index t = ![t.val, 2, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0]
    ∧ win0_7.index t = ![t.val, 0, 0] := by decide +kernel

theorem blk (t : Fin cfg0.N) (r : Fin 352) (e : Fin 1024) :
    iblk m c 0 t (ix3 0 r e) = W m c (ix3 (lay t) r e) ∧ iblk m c 1 t (ix3 0 r e) = G m c (ix3 (lay t) r e)
    ∧ iblk m c 2 t (ix3 0 r e) = M1 m c (ix3 (lay t) r e) ∧ iblk m c 3 t (ix3 0 r e) = M2 m c (ix3 (lay t) r e) := by
  obtain ⟨p0, p1, p2, p3, -⟩ := pos t
  refine ⟨Eq.trans (b := (V m c main_arg0 : S4x352x1024.Idx → EReal) (ix3 (lay t) r e)) ?_ (congrFun (V_main_arg0 m c) _),
    Eq.trans (b := (V m c main_arg1 : S4x1056x1024.Idx → EReal) (ix3 (lay t) ⟨2 * 352 + r.val, by omega⟩ e)) ?_ (congrFun (V_main_arg1 m c) _),
    Eq.trans (b := (V m c main_arg2 : S4x352x1024.Idx → EReal) (ix3 (lay t) r e)) ?_ (congrFun (V_main_arg2 m c) _),
    Eq.trans (b := (V m c main_arg3 : S4x352x1024.Idx → EReal) (ix3 (lay t) r e)) ?_ (congrFun (V_main_arg3 m c) _)⟩
  · blk_ext [iblk, p0]
  · blk_ext [iblk, p1]
  · blk_ext [iblk, p2]
  · blk_ext [iblk, p3]

theorem emb (t : Fin cfg0.N) (r : Fin 352) (e : Fin 1024) :
    (win0_4.blk t).view.emb (ix3 0 r e) = ix3 (lay t) r e ∧ (win0_5.blk t).view.emb (ix3 0 r e) = ix3 (lay t) r e
    ∧ (win0_6.blk t).view.emb (ix3 0 r e) = ix3 (lay t) r e ∧ (win0_7.blk t).view.emb (ix3 0 r e) = ix3 (lay t) r e := by
  obtain ⟨-, -, -, -, p4, p5, p6, p7⟩ := pos t
  refine ⟨?_, ?_, ?_, ?_⟩
  · blk_ext [p4]
  · blk_ext [p5]
  · blk_ext [p6]
  · blk_ext [p7]

/-- The arrays after the run. -/
theorem final : (dats m 0 c).arrAt 4 cfg0.N = G m c
    ∧ ((dats m 0 c).arrAt 5 cfg0.N = fun y => chg (W m c y) (G m c y) (M1 m c y) (M2 m c y))
    ∧ ((dats m 0 c).arrAt 6 cfg0.N = fun y => mom1 (G m c y) (M1 m c y))
    ∧ ((dats m 0 c).arrAt 7 cfg0.N = fun y => mom2 (G m c y) (M2 m c y)) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_⟩
  all_goals
    blk_simp
    obtain ⟨l, r, e, rfl⟩ : ∃ (l : Fin 1) (r : Fin 352) (e : Fin 1024), y = ix3 l r e := ⟨y 0, y 1, y 2, eq_ix3 y⟩
    obtain rfl : l = 0 := Subsingleton.elim _ _
    obtain ⟨b0, b1, b2, b3⟩ := blk m c t r e
    obtain ⟨e4, e5, e6, e7⟩ := emb t r e
  · rw [after0_4, e4]
    exact (out4 (iblk m c 0 t) (iblk m c 1 t) (iblk m c 2 t) (iblk m c 3 t) r e).trans b1
  · rw [after0_5, e5, ← b0, ← b1, ← b2, ← b3]
    exact out5 (iblk m c 0 t) (iblk m c 1 t) (iblk m c 2 t) (iblk m c 3 t) r e
  · rw [after0_6, e6, ← b1, ← b2]
    exact out6 (iblk m c 0 t) (iblk m c 1 t) (iblk m c 2 t) (iblk m c 3 t) r e
  · rw [after0_7, e7, ← b1, ← b3]
    exact out7 (iblk m c 0 t) (iblk m c 1 t) (iblk m c 2 t) (iblk m c 3 t) r e

end

theorem frame_ri : Cert.quiescent_Reference20Ideal := fun m ρ _ =>
  (θ_run Cert.Reference20Ideal.defs _ _).mono (fun r h => ⟨fun c => (h c).2.2.2.2, sem_eq_zero_of_no_sems (by decide) r.2⟩)
    (Cert.Reference20Ideal.Value.run (F := Ideal) m ρ)

/-- Equal arguments give equal results. -/
theorem algebraic : Cert.algebraic_Kernel20Ideal_Reference20Ideal := by
  intro m g m' g' _ hagree
  refine ⟨fun c => G m c, fun c y => chg (W m c y) (G m c y) (M1 m c y) (M2 m c y), fun c y => mom1 (G m c y) (M1 m c y),
    fun c y => mom2 (G m c y) (M2 m c y), ?_, ?_⟩
  · refine (θ_run Cert.Kernel20Ideal.defs _ _).mono (fun r h c => ?_) (Cert.Kernel20Ideal.Value.run_blocks m g)
    obtain ⟨h0, h1, h2, h3, h4⟩ := h c
    obtain ⟨f0, f1, f2, f3⟩ := final m c
    exact ⟨h0.trans f0, h1.trans f1, h2.trans f2, h3.trans f3, h4⟩
  · refine (θ_run Cert.Reference20Ideal.defs _ _).mono (fun r h c => ?_) (Cert.Reference20Ideal.Value.run (F := Ideal) m' g')
    obtain ⟨h0, h⟩ := h c
    obtain ⟨e0, e1, e2, e3⟩ := hagree c
    have eg : val_main_v0 (F := Ideal) (m' ((c.tc : Thread Cert.Reference20Ideal.nD Cert.Reference20Ideal.τ).loc Cert.Reference20Ideal.main_arg1)) = G m c :=
      (congrArg (val_main_v0 (F := Ideal)) e1).trans (sliced2 _)
    exact ⟨h0.trans eg, (agree ⟨e0, eg, e2, e3⟩ h :)⟩

end Cert.Kernel20Ideal.Step

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.MergeClaim
public import proofs.«01_k».proof.Proof.FfnWClaim
public import proofs.«01_k».proof.Proof.MixWClaim
public import proofs.«01_k».proof.Proof.MixAClaim
public import proofs.«01_k».proof.Proof.FfnAClaim
public import proofs.«01_k».proof.Proof.MergeWClaim
public import proofs.«01_k».proof.Proof.XaWClaim
public import proofs.«01_k».proof.Proof.StepClaim
public import proofs.«01_k».proof.Proof.Gen.Kernel6
public import proofs.«01_k».proof.Proof.Gen.Kernel7
public import proofs.«01_k».proof.Proof.Gen.Kernel6.Skeleton
public import proofs.«01_k».proof.Proof.Gen.Kernel7.Skeleton
public import proofs.«01_k».proof.Proof.Gen.Kernel6.Launch
public import proofs.«01_k».proof.Proof.Gen.Kernel7.Launch
public import proofs.«01_k».proof.Proof.Gen.Kernel6.Points
public import proofs.«01_k».proof.Proof.Gen.Kernel7.Points
public import proofs.«01_k».proof.Proof.Gen.Kernel6.Frame
public import proofs.«01_k».proof.Proof.Gen.Kernel7.Frame
public import proofs.«01_k».proof.Proof.Gen.Kernel6Ideal
public import proofs.«01_k».proof.Proof.Gen.Kernel7Ideal
public import proofs.«01_k».proof.Proof.Gen.Kernel6Ideal.Skeleton
public import proofs.«01_k».proof.Proof.Gen.Kernel7Ideal.Skeleton
public import proofs.«01_k».proof.Proof.Gen.Kernel6Ideal.Launch
public import proofs.«01_k».proof.Proof.Gen.Kernel7Ideal.Launch
public import proofs.«01_k».proof.Proof.Gen.Kernel6Ideal.Points
public import proofs.«01_k».proof.Proof.Gen.Kernel7Ideal.Points
public import proofs.«01_k».proof.Proof.Gen.Kernel6Ideal.Frame
public import proofs.«01_k».proof.Proof.Gen.Kernel7Ideal.Frame
public import proofs.«01_k».proof.Proof.Gen.Reference6Ideal
public import proofs.«01_k».proof.Proof.Gen.Reference7Ideal
public import proofs.«01_k».proof.Proof.Gen.Kernel6Ideal.Value
public import proofs.«01_k».proof.Proof.Gen.Kernel7Ideal.Value
public import proofs.«01_k».proof.Proof.Gen.Reference6Ideal.Run
public import proofs.«01_k».proof.Proof.Gen.Reference7Ideal.Run
public import proofs.«01_k».proof.Proof.Gen.Reference6Ideal.Read
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Kernel20Ideal.Value
public import proofs.«01_k».proof.Proof.Gen.Reference20Ideal.Run
public import proofs.«01_k».proof.Proof.Gen.Reference20Ideal.Read
public import proofs.«01_k».proof.Proof.FfnFClaim
public import proofs.«01_k».proof.Proof.StepBlock
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.MergeClaim.frame_p, Cert.MergeClaim.frame_pi, Cert.MergeClaim.frame_ri,
    Cert.FfnWClaim.frame_p, Cert.FfnWClaim.frame_pi, Cert.FfnWClaim.frame_ri,
    Cert.MixWClaim.frame_p, Cert.MixWClaim.frame_pi, Cert.MixWClaim.frame_ri,
    Cert.MixAClaim.frame_p, Cert.MixAClaim.frame_pi, Cert.MixAClaim.frame_ri,
    Cert.FfnAClaim.frame_p, Cert.FfnAClaim.frame_pi, Cert.FfnAClaim.frame_ri,
    Cert.MergeWClaim.frame_p, Cert.MergeWClaim.frame_pi, Cert.MergeWClaim.frame_ri,
    Cert.XaWClaim.frame_p, Cert.XaWClaim.frame_pi, Cert.XaWClaim.frame_ri,
    fun m ρ _ => Cert.Kernel8.Gen.frame m ρ, fun m ρ _ => Cert.Kernel8Ideal.Gen.frame m ρ, Cert.Step8Claim.frame_ri,
    fun m ρ _ => Cert.Kernel9.Gen.frame m ρ, fun m ρ _ => Cert.Kernel9Ideal.Gen.frame m ρ, Cert.Step9Claim.frame_ri,
    fun m ρ _ => Cert.Kernel10.Gen.frame m ρ, fun m ρ _ => Cert.Kernel10Ideal.Gen.frame m ρ, Cert.Step10Claim.frame_ri,
    Cert.FfnFClaim.frame_p, Cert.FfnFClaim.frame_pi, Cert.FfnFClaim.frame_ri,
    fun m ρ _ => Cert.Kernel12.Gen.frame m ρ, fun m ρ _ => Cert.Kernel12Ideal.Gen.frame m ρ, Cert.Step12Claim.frame_ri,
    fun m ρ _ => Cert.Kernel13.Gen.frame m ρ, fun m ρ _ => Cert.Kernel13Ideal.Gen.frame m ρ, Cert.Step13Claim.frame_ri,
    fun m ρ _ => Cert.Kernel14.Gen.frame m ρ, fun m ρ _ => Cert.Kernel14Ideal.Gen.frame m ρ, Cert.Step14Claim.frame_ri,
    fun m ρ _ => Cert.Kernel15.Gen.frame m ρ, fun m ρ _ => Cert.Kernel15Ideal.Gen.frame m ρ, Cert.Step15Claim.frame_ri,
    fun m ρ _ => Cert.Kernel16.Gen.frame m ρ, fun m ρ _ => Cert.Kernel16Ideal.Gen.frame m ρ, Cert.Step16Claim.frame_ri,
    fun m ρ _ => Cert.Kernel17.Gen.frame m ρ, fun m ρ _ => Cert.Kernel17Ideal.Gen.frame m ρ, Cert.Step17Claim.frame_ri,
    fun m ρ _ => Cert.Kernel18.Gen.frame m ρ, fun m ρ _ => Cert.Kernel18Ideal.Gen.frame m ρ, Cert.Kernel18Ideal.Step.frame_ri,
    fun m ρ _ => Cert.Kernel19.Gen.frame m ρ, fun m ρ _ => Cert.Kernel19Ideal.Gen.frame m ρ, Cert.Kernel19Ideal.Step.frame_ri,
    fun m ρ _ => Cert.Kernel20.Gen.frame m ρ, fun m ρ _ => Cert.Kernel20Ideal.Gen.frame m ρ, Cert.Kernel20Ideal.Step.frame_ri,
    trivial, Cert.MergeClaim.algebraic, trivial, Cert.FfnWClaim.algebraic,
    trivial, Cert.MixWClaim.algebraic, trivial, Cert.MixAClaim.algebraic,
    trivial, Cert.FfnAClaim.algebraic,
    trivial, Cert.MergeWClaim.algebraic, trivial, Cert.XaWClaim.algebraic,
    trivial, Cert.Step8Claim.algebraic, trivial, Cert.Step9Claim.algebraic, trivial, Cert.Step10Claim.algebraic,
    trivial, Cert.FfnFClaim.algebraic,
    trivial, Cert.Step12Claim.algebraic,
    trivial, Cert.Step13Claim.algebraic,
    trivial, Cert.Step14Claim.algebraic,
    trivial, Cert.Step15Claim.algebraic,
    trivial, Cert.Step16Claim.algebraic,
    trivial, Cert.Step17Claim.algebraic,
    trivial, Cert.Kernel18Ideal.Step.algebraic,
    trivial, Cert.Kernel19Ideal.Step.algebraic,
    trivial, Cert.Kernel20Ideal.Step.algebraic⟩

end Cert.Proof

end
